-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def preserves_Kernel_KernelIdeal : Prop :=
  IdealRules.named_const.Statement Cert.KernelIdeal.κ "scale" .f32 0x3DD105EC#32 (((Real.sqrt 96)⁻¹ : ℝ) : EReal)
  ∧ IdealRules.named_const.Statement Cert.KernelIdeal.κ "ln2" .f32 0x3F317218#32 ((Real.log 2 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v106_0)) (v1 : (c : Dev Cert.KernelIdeal.nD) → Buf (Elt Ideal) ((c.tc : Thread Cert.KernelIdeal.nD Cert.KernelIdeal.τ).loc Cert.KernelIdeal.main_v106_1)) (v2 : (c : Dev Cert.KernelIdeal.nD) → Buf (Elt Ideal) ((c.tc : Thread Cert.KernelIdeal.nD Cert.KernelIdeal.τ).loc Cert.KernelIdeal.main_v106_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v106_0) = v0 c
          ∧ r.2.mem ((c.tc : Thread Cert.KernelIdeal.nD Cert.KernelIdeal.τ).loc Cert.KernelIdeal.main_v106_1) = v1 c
          ∧ r.2.mem ((c.tc : Thread Cert.KernelIdeal.nD Cert.KernelIdeal.τ).loc Cert.KernelIdeal.main_v106_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v124) = v0 c
          ∧ r.2.mem ((c.tc : Thread Cert.ReferenceIdeal.nD Cert.ReferenceIdeal.τ).loc Cert.ReferenceIdeal.main_v125) = v1 c
          ∧ r.2.mem ((c.tc : Thread Cert.ReferenceIdeal.nD Cert.ReferenceIdeal.τ).loc Cert.ReferenceIdeal.main_v127) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)) →
    ∃ (v0 : (c : Dev Cert.Kernel2Ideal.nD) → Buf (Elt Ideal) ((c.tc : Thread Cert.Kernel2Ideal.nD Cert.Kernel2Ideal.τ).loc Cert.Kernel2Ideal.main_v84_0)) (v1 : (c : Dev Cert.Kernel2Ideal.nD) → Buf (Elt Ideal) ((c.tc : Thread Cert.Kernel2Ideal.nD Cert.Kernel2Ideal.τ).loc Cert.Kernel2Ideal.main_v88)) (v2 : (c : Dev Cert.Kernel2Ideal.nD) → Buf (Elt Ideal) ((c.tc : Thread Cert.Kernel2Ideal.nD Cert.Kernel2Ideal.τ).loc Cert.Kernel2Ideal.main_v99)) (v3 : (c : Dev Cert.Kernel2Ideal.nD) → Buf (Elt Ideal) ((c.tc : Thread Cert.Kernel2Ideal.nD Cert.Kernel2Ideal.τ).loc Cert.Kernel2Ideal.main_v91)) (v4 : (c : Dev Cert.Kernel2Ideal.nD) → Buf (Elt Ideal) ((c.tc : Thread Cert.Kernel2Ideal.nD Cert.Kernel2Ideal.τ).loc Cert.Kernel2Ideal.main_v101)) (v5 : (c : Dev Cert.Kernel2Ideal.nD) → Buf (Elt Ideal) ((c.tc : Thread Cert.Kernel2Ideal.nD Cert.Kernel2Ideal.τ).loc Cert.Kernel2Ideal.main_v102)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v84_0) = v0 c
          ∧ r.2.mem ((c.tc : Thread Cert.Kernel2Ideal.nD Cert.Kernel2Ideal.τ).loc Cert.Kernel2Ideal.main_v88) = v1 c
          ∧ r.2.mem ((c.tc : Thread Cert.Kernel2Ideal.nD Cert.Kernel2Ideal.τ).loc Cert.Kernel2Ideal.main_v99) = v2 c
          ∧ r.2.mem ((c.tc : Thread Cert.Kernel2Ideal.nD Cert.Kernel2Ideal.τ).loc Cert.Kernel2Ideal.main_v91) = v3 c
          ∧ r.2.mem ((c.tc : Thread Cert.Kernel2Ideal.nD Cert.Kernel2Ideal.τ).loc Cert.Kernel2Ideal.main_v101) = v4 c
          ∧ r.2.mem ((c.tc : Thread Cert.Kernel2Ideal.nD Cert.Kernel2Ideal.τ).loc Cert.Kernel2Ideal.main_v102) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v148) = v0 c
          ∧ r.2.mem ((c.tc : Thread Cert.Reference2Ideal.nD Cert.Reference2Ideal.τ).loc Cert.Reference2Ideal.main_v146) = v1 c
          ∧ r.2.mem ((c.tc : Thread Cert.Reference2Ideal.nD Cert.Reference2Ideal.τ).loc Cert.Reference2Ideal.main_v129) = v2 c
          ∧ r.2.mem ((c.tc : Thread Cert.Reference2Ideal.nD Cert.Reference2Ideal.τ).loc Cert.Reference2Ideal.main_v122) = v3 c
          ∧ r.2.mem ((c.tc : Thread Cert.Reference2Ideal.nD Cert.Reference2Ideal.τ).loc Cert.Reference2Ideal.main_v105) = v4 c
          ∧ r.2.mem ((c.tc : Thread Cert.Reference2Ideal.nD Cert.Reference2Ideal.τ).loc Cert.Reference2Ideal.main_v98) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v65_0)) (v1 : (c : Dev Cert.Kernel3Ideal.nD) → Buf (Elt Ideal) ((c.tc : Thread Cert.Kernel3Ideal.nD Cert.Kernel3Ideal.τ).loc Cert.Kernel3Ideal.main_v65_1)) (v2 : (c : Dev Cert.Kernel3Ideal.nD) → Buf (Elt Ideal) ((c.tc : Thread Cert.Kernel3Ideal.nD Cert.Kernel3Ideal.τ).loc Cert.Kernel3Ideal.main_v65_2)) (v3 : (c : Dev Cert.Kernel3Ideal.nD) → Buf (Elt Ideal) ((c.tc : Thread Cert.Kernel3Ideal.nD Cert.Kernel3Ideal.τ).loc Cert.Kernel3Ideal.main_v65_3)) (v4 : (c : Dev Cert.Kernel3Ideal.nD) → Buf (Elt Ideal) ((c.tc : Thread Cert.Kernel3Ideal.nD Cert.Kernel3Ideal.τ).loc Cert.Kernel3Ideal.main_v65_4)) (v5 : (c : Dev Cert.Kernel3Ideal.nD) → Buf (Elt Ideal) ((c.tc : Thread Cert.Kernel3Ideal.nD Cert.Kernel3Ideal.τ).loc Cert.Kernel3Ideal.main_v65_5)) (v6 : (c : Dev Cert.Kernel3Ideal.nD) → Buf (Elt Ideal) ((c.tc : Thread Cert.Kernel3Ideal.nD Cert.Kernel3Ideal.τ).loc Cert.Kernel3Ideal.main_v65_6)) (v7 : (c : Dev Cert.Kernel3Ideal.nD) → Buf (Elt Ideal) ((c.tc : Thread Cert.Kernel3Ideal.nD Cert.Kernel3Ideal.τ).loc Cert.Kernel3Ideal.main_v65_7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v65_0) = v0 c
          ∧ r.2.mem ((c.tc : Thread Cert.Kernel3Ideal.nD Cert.Kernel3Ideal.τ).loc Cert.Kernel3Ideal.main_v65_1) = v1 c
          ∧ r.2.mem ((c.tc : Thread Cert.Kernel3Ideal.nD Cert.Kernel3Ideal.τ).loc Cert.Kernel3Ideal.main_v65_2) = v2 c
          ∧ r.2.mem ((c.tc : Thread Cert.Kernel3Ideal.nD Cert.Kernel3Ideal.τ).loc Cert.Kernel3Ideal.main_v65_3) = v3 c
          ∧ r.2.mem ((c.tc : Thread Cert.Kernel3Ideal.nD Cert.Kernel3Ideal.τ).loc Cert.Kernel3Ideal.main_v65_4) = v4 c
          ∧ r.2.mem ((c.tc : Thread Cert.Kernel3Ideal.nD Cert.Kernel3Ideal.τ).loc Cert.Kernel3Ideal.main_v65_5) = v5 c
          ∧ r.2.mem ((c.tc : Thread Cert.Kernel3Ideal.nD Cert.Kernel3Ideal.τ).loc Cert.Kernel3Ideal.main_v65_6) = v6 c
          ∧ r.2.mem ((c.tc : Thread Cert.Kernel3Ideal.nD Cert.Kernel3Ideal.τ).loc Cert.Kernel3Ideal.main_v65_7) = v7 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v1) = v0 c
          ∧ r.2.mem ((c.tc : Thread Cert.Reference3Ideal.nD Cert.Reference3Ideal.τ).loc Cert.Reference3Ideal.main_v2) = v1 c
          ∧ r.2.mem ((c.tc : Thread Cert.Reference3Ideal.nD Cert.Reference3Ideal.τ).loc Cert.Reference3Ideal.main_v96) = v2 c
          ∧ r.2.mem ((c.tc : Thread Cert.Reference3Ideal.nD Cert.Reference3Ideal.τ).loc Cert.Reference3Ideal.main_v99) = v3 c
          ∧ r.2.mem ((c.tc : Thread Cert.Reference3Ideal.nD Cert.Reference3Ideal.τ).loc Cert.Reference3Ideal.main_v102) = v4 c
          ∧ r.2.mem ((c.tc : Thread Cert.Reference3Ideal.nD Cert.Reference3Ideal.τ).loc Cert.Reference3Ideal.main_v103) = v5 c
          ∧ r.2.mem ((c.tc : Thread Cert.Reference3Ideal.nD Cert.Reference3Ideal.τ).loc Cert.Reference3Ideal.main_v104) = v6 c
          ∧ r.2.mem ((c.tc : Thread Cert.Reference3Ideal.nD Cert.Reference3Ideal.τ).loc Cert.Reference3Ideal.main_v93) = v7 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite.lean ====
abbrev S8192x8x96 : Shape := ⟨3, ![8192, 8, 96]⟩
abbrev S8192x8x64 : Shape := ⟨3, ![8192, 8, 64]⟩
abbrev S8192 : Shape := ⟨1, ![8192]⟩
abbrev S_ : Shape := ⟨0, ![]⟩

class Facts : Prop where
  bcast_S_S8192x8x96 : S_.BroadcastsInDim S8192x8x96 (![] : Fin 0 → Fin S8192x8x96.rank)
  reducesTo_S8192x8x96_S_d0_1_2 : S8192x8x96.ReducesTo [0, 1, 2] S_
  h_S_ : 0 < S_.numel
  bcast_S_S8192x8x64 : S_.BroadcastsInDim S8192x8x64 (![] : Fin 0 → Fin S8192x8x64.rank)
  reducesTo_S8192x8x64_S_d0_1_2 : S8192x8x64.ReducesTo [0, 1, 2] S_

variable [Facts]

def fn_part1 {F : FTy → Type} [FloatOps F] (main_v13 : IVec S_ 1) (main_v16 : IVec S8192x8x64 1) : IVec S_ 1 :=
  let main_c_5 : IVec S_ 1 := constantI S_ 1 1#1
  let main_v17 : IVec S_ 1 := (fun x v => Host.reduce IntOp.andi x v reducesTo_S8192x8x64_S_d0_1_2 h_S_) main_v16 main_c_5
  let main_v18 : IVec S_ 1 := andi main_v13 main_v17
  main_v18

def fn {F : FTy → Type} [FloatOps F] (main_arg0 : FVec F S8192x8x96 .f32) (main_arg1 : FVec F S8192x8x96 .f32) (main_arg2 : FVec F S8192x8x64 .f32) (main_arg3 : FVec F S8192x8x64 .f32) (main_arg4 : IVec S8192 32) : IVec S_ 1 :=
  let main_v0 : FVec F S8192x8x96 .f32 := Host.absf main_arg0
  let main_cst : FVec F S_ .f32 := constant S_ .f32 0x7F800000#32
  let main_v1 : FVec F S8192x8x96 .f32 := broadcastInDim S8192x8x96 ![] bcast_S_S8192x8x96 main_cst
  let main_v2 : IVec S8192x8x96 1 := cmpf .olt main_v0 main_v1
  let main_c : IVec S_ 1 := constantI S_ 1 1#1
  let main_v3 : IVec S_ 1 := (fun x v => Host.reduce IntOp.andi x v reducesTo_S8192x8x96_S_d0_1_2 h_S_) main_v2 main_c
  let main_v4 : FVec F S8192x8x96 .f32 := Host.absf main_arg1
  let main_cst_0 : FVec F S_ .f32 := constant S_ .f32 0x7F800000#32
  let main_v5 : FVec F S8192x8x96 .f32 := broadcastInDim S8192x8x96 ![] bcast_S_S8192x8x96 main_cst_0
  let main_v6 : IVec S8192x8x96 1 := cmpf .olt main_v4 main_v5
  let main_c_1 : IVec S_ 1 := constantI S_ 1 1#1
  let main_v7 : IVec S_ 1 := (fun x v => Host.reduce IntOp.andi x v reducesTo_S8192x8x96_S_d0_1_2 h_S_) main_v6 main_c_1
  let main_v8 : IVec S_ 1 := andi main_v3 main_v7
  let main_v9 : FVec F S8192x8x64 .f32 := Host.absf main_arg2
  let main_cst_2 : FVec F S_ .f32 := constant S_ .f32 0x7F800000#32
  let main_v10 : FVec F S8192x8x64 .f32 := broadcastInDim S8192x8x64 ![] bcast_S_S8192x8x64 main_cst_2
  let main_v11 : IVec S8192x8x64 1 := cmpf .olt main_v9 main_v10
  let main_c_3 : IVec S_ 1 := constantI S_ 1 1#1
  let main_v12 : IVec S_ 1 := (fun x v => Host.reduce IntOp.andi x v reducesTo_S8192x8x64_S_d0_1_2 h_S_) main_v11 main_c_3
  let main_v13 : IVec S_ 1 := andi main_v8 main_v12
  let main_v14 : FVec F S8192x8x64 .f32 := Host.absf main_arg3
  let main_cst_4 : FVec F S_ .f32 := constant S_ .f32 0x7F800000#32
  let main_v15 : FVec F S8192x8x64 .f32 := broadcastInDim S8192x8x64 ![] bcast_S_S8192x8x64 main_cst_4
  let main_v16 : IVec S8192x8x64 1 := cmpf .olt main_v14 main_v15
  fn_part1 (F := F) main_v13 main_v16
-- ==== Kernel.lean ====
abbrev S8192x8x96 : Shape := ⟨3, ![8192, 8, 96]⟩
abbrev S8192x8x64 : Shape := ⟨3, ![8192, 8, 64]⟩
abbrev S8192 : Shape := ⟨1, ![8192]⟩
abbrev S_ : Shape := ⟨0, ![]⟩
abbrev S16 : Shape := ⟨1, ![16]⟩
abbrev S8192x1 : Shape := ⟨2, ![8192, 1]⟩
abbrev S1x16 : Shape := ⟨2, ![1, 16]⟩
abbrev S8192x16 : Shape := ⟨2, ![8192, 16]⟩
abbrev S8192x8x32 : Shape := ⟨3, ![8192, 8, 32]⟩
abbrev S8192x1x16 : Shape := ⟨3, ![8192, 1, 16]⟩
abbrev S8192x8x16 : Shape := ⟨3, ![8192, 8, 16]⟩
abbrev S8x8192x8192 : Shape := ⟨3, ![8, 8192, 8192]⟩
abbrev S1x8192 : Shape := ⟨2, ![1, 8192]⟩
abbrev S8192x8192 : Shape := ⟨2, ![8192, 8192]⟩
abbrev S1x8192x8192 : Shape := ⟨3, ![1, 8192, 8192]⟩
abbrev S8x8192 : Shape := ⟨2, ![8, 8192]⟩
abbrev S8x8192x1 : Shape := ⟨3, ![8, 8192, 1]⟩
abbrev S8x64x8192 : Shape := ⟨3, ![8, 64, 8192]⟩
abbrev S8192x512 : Shape := ⟨2, ![8192, 512]⟩
abbrev S4x2x16x512 : Shape := ⟨4, ![4, 2, 16, 512]⟩
abbrev S4x16x2x512 : Shape := ⟨4, ![4, 16, 2, 512]⟩
abbrev S8192x64 : Shape := ⟨2, ![8192, 64]⟩
abbrev S8192x32 : Shape := ⟨2, ![8192, 32]⟩
abbrev S8192x256 : Shape := ⟨2, ![8192, 256]⟩
abbrev S16x1024 : Shape := ⟨2, ![16, 1024]⟩
abbrev S8192x8x128 : Shape := ⟨3, ![8192, 8, 128]⟩
abbrev S8192x1024 : Shape := ⟨2, ![8192, 1024]⟩
abbrev S512x256 : Shape := ⟨2, ![512, 256]⟩
abbrev S8192x128 : Shape := ⟨2, ![8192, 128]⟩
abbrev S512x128 : Shape := ⟨2, ![512, 128]⟩
abbrev S1x1x2x512 : Shape := ⟨4, ![1, 1, 2, 512]⟩
abbrev S128x512 : Shape := ⟨2, ![128, 512]⟩
abbrev S64x512 : Shape := ⟨2, ![64, 512]⟩
abbrev S512 : Shape := ⟨1, ![512]⟩
abbrev S1x512 : Shape := ⟨2, ![1, 512]⟩
abbrev S1x1x1x512 : Shape := ⟨4, ![1, 1, 1, 512]⟩
abbrev S2048x128 : Shape := ⟨2, ![2048, 128]⟩
abbrev S2048x512 : Shape := ⟨2, ![2048, 512]⟩
abbrev S1536x128 : Shape := ⟨2, ![1536, 128]⟩
abbrev S1536x512 : Shape := ⟨2, ![1536, 512]⟩
abbrev S1024x128 : Shape := ⟨2, ![1024, 128]⟩
abbrev S1024x512 : Shape := ⟨2, ![1024, 512]⟩
abbrev S512x512 : Shape := ⟨2, ![512, 512]⟩
abbrev S1x128 : Shape := ⟨2, ![1, 128]⟩

abbrev nBuf : Space → Nat
  | .hbm => 147
  | .vmem => 23
  | .smem => 0
  | _ => 0

abbrev hbmTy0_0 (i : Nat) : BufTy := match i % 128 with
  | 0 => ⟨S8192x8x96, .f32⟩
  | 1 => ⟨S8192x8x96, .f32⟩
  | 2 => ⟨S8192x8x64, .f32⟩
  | 3 => ⟨S8192x8x64, .f32⟩
  | 4 => ⟨S8192, .i32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S16, .f32⟩
  | 13 => ⟨S_, .f32⟩
  | 14 => ⟨S16, .f32⟩
  | 15 => ⟨S16, .f32⟩
  | 16 => ⟨S_, .f32⟩
  | 17 => ⟨S16, .f32⟩
  | 18 => ⟨S16, .f32⟩
  | 19 => ⟨S_, .f32⟩
  | 20 => ⟨S16, .f32⟩
  | 21 => ⟨S16, .f32⟩
  | 22 => ⟨S8192, .f32⟩
  | 23 => ⟨S8192x1, .f32⟩
  | 24 => ⟨S1x16, .f32⟩
  | 25 => ⟨S8192x16, .f32⟩
  | 26 => ⟨S8192x16, .f32⟩
  | 27 => ⟨S8192x16, .f32⟩
  | 28 => ⟨S8192x16, .f32⟩
  | 29 => ⟨S8192x16, .f32⟩
  | 30 => ⟨S8192x8x64, .f32⟩
  | 31 => ⟨S8192x8x32, .f32⟩
  | 32 => ⟨S8192x1x16, .f32⟩
  | 33 => ⟨S8192x1x16, .f32⟩
  | 34 => ⟨S8192x8x16, .f32⟩
  | 35 => ⟨S8192x8x16, .f32⟩
  | 36 => ⟨S8192x8x16, .f32⟩
  | 37 => ⟨S8192x8x16, .f32⟩
  | 38 => ⟨S8192x8x16, .f32⟩
  | 39 => ⟨S8192x8x16, .f32⟩
  | 40 => ⟨S8192x8x16, .f32⟩
  | 41 => ⟨S8192x8x16, .f32⟩
  | 42 => ⟨S8192x8x16, .f32⟩
  | 43 => ⟨S8192x8x16, .f32⟩
  | 44 => ⟨S8192x8x16, .f32⟩
  | 45 => ⟨S8192x8x16, .f32⟩
  | 46 => ⟨S8192x8x32, .f32⟩
  | 47 => ⟨S8192x8x96, .f32⟩
  | 48 => ⟨S8x8192x8192, .f32⟩
  | 49 => ⟨S_, .f32⟩
  | 50 => ⟨S_, .f32⟩
  | 51 => ⟨S_, .f32⟩
  | 52 => ⟨S_, .f32⟩
  | 53 => ⟨S8x8192x8192, .f32⟩
  | 54 => ⟨S8x8192x8192, .f32⟩
  | 55 => ⟨S8192, .i32⟩
  | 56 => ⟨S1x8192, .i32⟩
  | 57 => ⟨S8192x1, .i32⟩
  | 58 => ⟨S8192x8192, .i32⟩
  | 59 => ⟨S8192x8192, .i32⟩
  | 60 => ⟨S8192x8192, .i1⟩
  | 61 => ⟨S1x8192x8192, .i1⟩
  | 62 => ⟨S_, .f32⟩
  | 63 => ⟨S_, .f32⟩
  | 64 => ⟨S8x8192x8192, .i1⟩
  | 65 => ⟨S8x8192x8192, .f32⟩
  | 66 => ⟨S8x8192x8192, .f32⟩
  | 67 => ⟨S_, .f32⟩
  | 68 => ⟨S8x8192, .f32⟩
  | 69 => ⟨S8x8192x1, .f32⟩
  | 70 => ⟨S8x8192x8192, .f32⟩
  | 71 => ⟨S8x8192x8192, .f32⟩
  | 72 => ⟨S8x8192x8192, .f32⟩
  | 73 => ⟨S_, .f32⟩
  | 74 => ⟨S8x8192, .f32⟩
  | 75 => ⟨S8x8192x1, .f32⟩
  | 76 => ⟨S8x8192x8192, .f32⟩
  | 77 => ⟨S8x8192x8192, .f32⟩
  | 78 => ⟨S8x64x8192, .f32⟩
  | 79 => ⟨S8192x8x64, .f32⟩
  | 80 => ⟨S8192x512, .f32⟩
  | 81 => ⟨S8x8192x1, .f32⟩
  | 82 => ⟨S8x8192x1, .f32⟩
  | 83 => ⟨S8x8192x1, .f32⟩
  | 84 => ⟨S8x8192x1, .f32⟩
  | 85 => ⟨S4x2x16x512, .f32⟩
  | 86 => ⟨S4x16x2x512, .f32⟩
  | 87 => ⟨S_, .f32⟩
  | 88 => ⟨S8192x64, .f32⟩
  | 89 => ⟨S_, .f32⟩
  | 90 => ⟨S8192x64, .f32⟩
  | 91 => ⟨S_, .f32⟩
  | 92 => ⟨S8192x32, .f32⟩
  | 93 => ⟨S8192x32, .f32⟩
  | 94 => ⟨S8192x256, .f32⟩
  | 95 => ⟨S16x1024, .i32⟩
  | 96 => ⟨S16x1024, .i32⟩
  | 97 => ⟨S_, .i32⟩
  | 98 => ⟨S16x1024, .i32⟩
  | 99 => ⟨S16x1024, .i1⟩
  | 100 => ⟨S_, .i32⟩
  | 101 => ⟨S16x1024, .i32⟩
  | 102 => ⟨S16x1024, .i1⟩
  | 103 => ⟨S16x1024, .i1⟩
  | 104 => ⟨S_, .i32⟩
  | 105 => ⟨S16x1024, .i32⟩
  | 106 => ⟨S16x1024, .i1⟩
  | 107 => ⟨S16x1024, .i1⟩
  | 108 => ⟨S_, .i32⟩
  | 109 => ⟨S16x1024, .i32⟩
  | 110 => ⟨S16x1024, .i1⟩
  | 111 => ⟨S_, .i32⟩
  | 112 => ⟨S16x1024, .i32⟩
  | 113 => ⟨S16x1024, .i1⟩
  | 114 => ⟨S16x1024, .i1⟩
  | 115 => ⟨S_, .i32⟩
  | 116 => ⟨S16x1024, .i32⟩
  | 117 => ⟨S16x1024, .i1⟩
  | 118 => ⟨S16x1024, .i1⟩
  | 119 => ⟨S_, .f32⟩
  | 120 => ⟨S_, .f32⟩
  | 121 => ⟨S16x1024, .f32⟩
  | 122 => ⟨S16x1024, .f32⟩
  | 123 => ⟨S16x1024, .f32⟩
  | 124 => ⟨S_, .f32⟩
  | 125 => ⟨S16x1024, .f32⟩
  | 126 => ⟨S16x1024, .f32⟩
  | 127 => ⟨S16x1024, .f32⟩
  | _ => ⟨S8192x8x96, .f32⟩

abbrev hbmTy0_1 (i : Nat) : BufTy := match i % 128 with
  | 0 => ⟨S_, .i32⟩
  | 1 => ⟨S_, .f32⟩
  | 2 => ⟨S8192x8x128, .f32⟩
  | 3 => ⟨S8192x1024, .f32⟩
  | 4 => ⟨S8192x1024, .f32⟩
  | 5 => ⟨S8192x1024, .f32⟩
  | 6 => ⟨S8192x1024, .bf16⟩
  | 7 => ⟨S_, .i32⟩
  | 8 => ⟨S_, .f32⟩
  | 9 => ⟨S8192x8x128, .f32⟩
  | 10 => ⟨S8192x1024, .f32⟩
  | 11 => ⟨S8192x1024, .bf16⟩
  | 12 => ⟨S8192x512, .f32⟩
  | 13 => ⟨S8192x512, .bf16⟩
  | 14 => ⟨S8192x512, .f32⟩
  | 15 => ⟨S8192x512, .bf16⟩
  | 16 => ⟨S8192x1024, .bf16⟩
  | 17 => ⟨S8192x1024, .bf16⟩
  | 18 => ⟨S8192x512, .bf16⟩
  | _ => ⟨S8192x8x96, .f32⟩

abbrev hbmTy (i : Nat) : BufTy := match i / 128 with
  | 0 => hbmTy0_0 i
  | 1 => hbmTy0_1 i
  | _ => ⟨S8192x8x96, .f32⟩

abbrev bufTy : (tb : Table) → Fin (tcTables nBuf tb) → BufTy
  | .hbm, ⟨i, _⟩ => hbmTy i
  | .local _ .vmem, ⟨0, _⟩ => ⟨S512x256, .bf16⟩
  | .local _ .vmem, ⟨1, _⟩ => ⟨S512x256, .bf16⟩
  | .local _ .vmem, ⟨2, _⟩ => ⟨S8192x256, .bf16⟩
  | .local _ .vmem, ⟨3, _⟩ => ⟨S8192x256, .bf16⟩
  | .local _ .vmem, ⟨4, _⟩ => ⟨S8192x128, .bf16⟩
  | .local _ .vmem, ⟨5, _⟩ => ⟨S8192x128, .bf16⟩
  | .local _ .vmem, ⟨6, _⟩ => ⟨S512x128, .bf16⟩
  | .local _ .vmem, ⟨7, _⟩ => ⟨S512x128, .bf16⟩
  | .local _ .vmem, ⟨8, _⟩ => ⟨S512x128, .f32⟩
  | .local _ .vmem, ⟨9, _⟩ => ⟨S512x128, .f32⟩
  | .local _ .vmem, ⟨10, _⟩ => ⟨S1x1x2x512, .f32⟩
  | .local _ .vmem, ⟨11, _⟩ => ⟨S1x1x2x512, .f32⟩
  | .local _ .vmem, ⟨12, _⟩ => ⟨S512x256, .f32⟩
  | .local _ .vmem, ⟨13, _⟩ => ⟨S512x256, .f32⟩
  | .local _ .vmem, ⟨14, _⟩ => ⟨S16x1024, .f32⟩
  | .local _ .vmem, ⟨15, _⟩ => ⟨S512x256, .bf16⟩
  | .local _ .vmem, ⟨16, _⟩ => ⟨S512x256, .bf16⟩
  | .local _ .vmem, ⟨17, _⟩ => ⟨S8192x256, .bf16⟩
  | .local _ .vmem, ⟨18, _⟩ => ⟨S8192x256, .bf16⟩
  | .local _ .vmem, ⟨19, _⟩ => ⟨S8192x128, .bf16⟩
  | .local _ .vmem, ⟨20, _⟩ => ⟨S8192x128, .bf16⟩
  | .local _ .vmem, ⟨21, _⟩ => ⟨S8192x256, .f32⟩
  | .local _ .vmem, ⟨22, _⟩ => ⟨S8192x128, .f32⟩
  | _, _ => ⟨S8192x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_cst_1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_2 : Ref sig .tc := ⟨.hbm, 13, rfl⟩
abbrev main_v5 : Ref sig .tc := ⟨.hbm, 14, rfl⟩
abbrev main_v6 : Ref sig .tc := ⟨.hbm, 15, rfl⟩
abbrev main_cst_3 : Ref sig .tc := ⟨.hbm, 16, rfl⟩
abbrev main_v7 : Ref sig .tc := ⟨.hbm, 17, rfl⟩
abbrev main_v8 : Ref sig .tc := ⟨.hbm, 18, rfl⟩
abbrev main_cst_4 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_5 : Ref sig .tc := ⟨.hbm, 49, rfl⟩
abbrev main_v38 : Ref sig .tc := ⟨.hbm, 50, rfl⟩
abbrev main_cst_6 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_cst_7 : Ref sig .tc := ⟨.hbm, 62, rfl⟩
abbrev main_call0_v0 : Ref sig .tc := ⟨.hbm, 63, rfl⟩
abbrev main_call0_v1 : Ref sig .tc := ⟨.hbm, 64, rfl⟩
abbrev main_call0_v2 : Ref sig .tc := ⟨.hbm, 65, rfl⟩
abbrev main_v49 : Ref sig .tc := ⟨.hbm, 66, rfl⟩
abbrev main_cst_8 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_9 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_cst_10 : Ref sig .tc := ⟨.hbm, 87, rfl⟩
abbrev main_v68 : Ref sig .tc := ⟨.hbm, 88, rfl⟩
abbrev main_cst_11 : Ref sig .tc := ⟨.hbm, 89, rfl⟩
abbrev main_v69 : Ref sig .tc := ⟨.hbm, 90, rfl⟩
abbrev main_cst_12 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_c : Ref sig .tc := ⟨.hbm, 97, rfl⟩
abbrev main_v75 : Ref sig .tc := ⟨.hbm, 98, rfl⟩
abbrev main_v76 : Ref sig .tc := ⟨.hbm, 99, rfl⟩
abbrev main_c_13 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_c_14 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_c_15 : Ref sig .tc := ⟨.hbm, 108, rfl⟩
abbrev main_v83 : Ref sig .tc := ⟨.hbm, 109, rfl⟩
abbrev main_v84 : Ref sig .tc := ⟨.hbm, 110, rfl⟩
abbrev main_c_16 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_c_17 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_cst_18 : Ref sig .tc := ⟨.hbm, 119, rfl⟩
abbrev main_cst_19 : Ref sig .tc := ⟨.hbm, 120, rfl⟩
abbrev main_call1_v0 : Ref sig .tc := ⟨.hbm, 121, rfl⟩
abbrev main_call1_v1 : Ref sig .tc := ⟨.hbm, 122, rfl⟩
abbrev main_v91 : Ref sig .tc := ⟨.hbm, 123, rfl⟩
abbrev main_cst_20 : Ref sig .tc := ⟨.hbm, 124, rfl⟩
abbrev main_call2_v0 : Ref sig .tc := ⟨.hbm, 125, rfl⟩
abbrev main_v92 : Ref sig .tc := ⟨.hbm, 126, rfl⟩
abbrev main_v93 : Ref sig .tc := ⟨.hbm, 127, rfl⟩
abbrev main_c_21 : Ref sig .tc := ⟨.hbm, 128, rfl⟩
abbrev main_call3_v0 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_c_22 : Ref sig .tc := ⟨.hbm, 135, rfl⟩
abbrev main_call4_v0 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106_0 : Ref sig .tc := ⟨.hbm, 144, rfl⟩
abbrev main_v106_1 : Ref sig .tc := ⟨.hbm, 145, rfl⟩
abbrev main_v106_2 : Ref sig .tc := ⟨.hbm, 146, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_scratch0 : Ref sig .tc := ⟨.vmem, 21, rfl⟩
abbrev cc0_scratch1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![4, 16], ![false, false]⟩

@[reducible] def k0_t1_loop (i : grid0.Coords) : Scf.Loop 32 :=
  let c0_i32_23 : BitVec 32 := 0#32
  let arg1 : BitVec 32 := BitVec.ofNat 32 (i 1).val
  let c0_i32_18 : BitVec 32 := 0#32
  let v33 : BitVec 1 := Scalar.cmpi .sgt arg1 c0_i32_18
  let v34 : BitVec 32 := Scalar.extui v33
  let c0_i32_19 : BitVec 32 := 0#32
  let v35 : BitVec 1 := Scalar.cmpi .slt arg1 c0_i32_19
  let v36 : BitVec 32 := Scalar.extui v35
  let v37 : BitVec 32 := Scalar.subi v34 v36
  let c4_i32 : BitVec 32 := 4#32
  let c0_i32_20 : BitVec 32 := 0#32
  let v38 : BitVec 1 := Scalar.cmpi .sgt c4_i32 c0_i32_20
  let v39 : BitVec 32 := Scalar.extui v38
  let c0_i32_21 : BitVec 32 := 0#32
  let v40 : BitVec 1 := Scalar.cmpi .slt c4_i32 c0_i32_21
  let v41 : BitVec 32 := Scalar.extui v40
  let v42 : BitVec 32 := Scalar.subi v39 v41
  let v43 : BitVec 1 := Scalar.cmpi .ne v37 v42
  let v44 : BitVec 32 := Scalar.remsi arg1 c4_i32
  let c0_i32_22 : BitVec 32 := 0#32
  let v45 : BitVec 1 := Scalar.cmpi .ne v44 c0_i32_22
  let v46 : BitVec 1 := Scalar.andi v43 v45
  let v32 : BitVec 32 := Scalar.divsi arg1 c4_i32
  let c1_i32 : BitVec 32 := 1#32
  let v47 : BitVec 32 := Scalar.subi v32 c1_i32
  let v48 : BitVec 32 := Scalar.select v46 v47 v32
  let v49 : BitVec 32 := Scalar.subi v48 c0_i32_23
  let c1_i32_24 : BitVec 32 := 1#32
  let v51 : BitVec 32 := Scalar.divsi v49 c1_i32_24
  let v52 : BitVec 32 := Scalar.muli v51 c1_i32_24
  let v53 : BitVec 32 := Scalar.addi c0_i32_23 v52
  let c1_i32_25 : BitVec 32 := 1#32
  ⟨c0_i32_23, v53, c1_i32_25⟩
def k0_mult1 (i : grid0.Coords) (k0_t1 : Fin (k0_t1_loop i).trips) : BitVec 32 :=
  let c4_i32_50 : BitVec 32 := 4#32
  let c0_i32_23 : BitVec 32 := 0#32
  let c1_i32_25 : BitVec 32 := 1#32
  let arg15 : BitVec 32 := Scf.iv c0_i32_23 c1_i32_25 k0_t1
  let v107 : BitVec 32 := Scalar.muli c4_i32_50 arg15
  let c512_i32 : BitVec 32 := 512#32
  let v108 : BitVec 32 := Scalar.muli v107 c512_i32
  v108
def k0_off1 (i : grid0.Coords) (k0_t1 : Fin (k0_t1_loop i).trips) : Fin 2 → Nat :=
  let c4_i32_50 : BitVec 32 := 4#32
  let c0_i32_23 : BitVec 32 := 0#32
  let c1_i32_25 : BitVec 32 := 1#32
  let arg15 : BitVec 32 := Scf.iv c0_i32_23 c1_i32_25 k0_t1
  let v107 : BitVec 32 := Scalar.muli c4_i32_50 arg15
  let c512_i32 : BitVec 32 := 512#32
  let v108 : BitVec 32 := Scalar.muli v107 c512_i32
  let v109 : BitVec 32 := v108
  let v110 : Index := Scalar.indexCast v109
  let c0_51 : Index := 0#32
  ![v110.toNat, 0]
def k0_off2 (i : grid0.Coords) (k0_t1 : Fin (k0_t1_loop i).trips) : Fin 2 → Nat :=
  let c4_i32_50 : BitVec 32 := 4#32
  let c0_i32_23 : BitVec 32 := 0#32
  let c1_i32_25 : BitVec 32 := 1#32
  let arg15 : BitVec 32 := Scf.iv c0_i32_23 c1_i32_25 k0_t1
  let v107 : BitVec 32 := Scalar.muli c4_i32_50 arg15
  let c512_i32 : BitVec 32 := 512#32
  let v108 : BitVec 32 := Scalar.muli v107 c512_i32
  let v109 : BitVec 32 := v108
  let v113 : Index := Scalar.indexCast v109
  let c0_52 : Index := 0#32
  ![v113.toNat, 0]
def k0_off3 (i : grid0.Coords) (k0_t1 : Fin (k0_t1_loop i).trips) : Fin 2 → Nat :=
  let c4_i32_50 : BitVec 32 := 4#32
  let c0_i32_23 : BitVec 32 := 0#32
  let c1_i32_25 : BitVec 32 := 1#32
  let arg15 : BitVec 32 := Scf.iv c0_i32_23 c1_i32_25 k0_t1
  let v107 : BitVec 32 := Scalar.muli c4_i32_50 arg15
  let c512_i32 : BitVec 32 := 512#32
  let v108 : BitVec 32 := Scalar.muli v107 c512_i32
  let v109 : BitVec 32 := v108
  let v137 : Index := Scalar.indexCast v109
  let c128_60 : Index := 128#32
  ![v137.toNat, 128]
@[reducible] def k0_t2_loop (i : grid0.Coords) : Scf.Loop 32 :=
  let c0_i32_23 : BitVec 32 := 0#32
  let arg1 : BitVec 32 := BitVec.ofNat 32 (i 1).val
  let c0_i32_18 : BitVec 32 := 0#32
  let v33 : BitVec 1 := Scalar.cmpi .sgt arg1 c0_i32_18
  let v34 : BitVec 32 := Scalar.extui v33
  let c0_i32_19 : BitVec 32 := 0#32
  let v35 : BitVec 1 := Scalar.cmpi .slt arg1 c0_i32_19
  let v36 : BitVec 32 := Scalar.extui v35
  let v37 : BitVec 32 := Scalar.subi v34 v36
  let c4_i32 : BitVec 32 := 4#32
  let c0_i32_20 : BitVec 32 := 0#32
  let v38 : BitVec 1 := Scalar.cmpi .sgt c4_i32 c0_i32_20
  let v39 : BitVec 32 := Scalar.extui v38
  let c0_i32_21 : BitVec 32 := 0#32
  let v40 : BitVec 1 := Scalar.cmpi .slt c4_i32 c0_i32_21
  let v41 : BitVec 32 := Scalar.extui v40
  let v42 : BitVec 32 := Scalar.subi v39 v41
  let v43 : BitVec 1 := Scalar.cmpi .ne v37 v42
  let v44 : BitVec 32 := Scalar.remsi arg1 c4_i32
  let c0_i32_22 : BitVec 32 := 0#32
  let v45 : BitVec 1 := Scalar.cmpi .ne v44 c0_i32_22
  let v46 : BitVec 1 := Scalar.andi v43 v45
  let v32 : BitVec 32 := Scalar.divsi arg1 c4_i32
  let c1_i32 : BitVec 32 := 1#32
  let v47 : BitVec 32 := Scalar.subi v32 c1_i32
  let v48 : BitVec 32 := Scalar.select v46 v47 v32
  let v49 : BitVec 32 := Scalar.subi v48 c0_i32_23
  let c1_i32_24 : BitVec 32 := 1#32
  let v51 : BitVec 32 := Scalar.divsi v49 c1_i32_24
  let v52 : BitVec 32 := Scalar.muli v51 c1_i32_24
  let v53 : BitVec 32 := Scalar.addi c0_i32_23 v52
  let v50 : BitVec 32 := Scalar.addi c0_i32_23 v49
  let c1_i32_26 : BitVec 32 := 1#32
  ⟨v53, v50, c1_i32_26⟩
def k0_mult2 (i : grid0.Coords) (k0_t2 : Fin (k0_t2_loop i).trips) : BitVec 32 :=
  let c4_i32_50 : BitVec 32 := 4#32
  let c0_i32_23 : BitVec 32 := 0#32
  let arg1 : BitVec 32 := BitVec.ofNat 32 (i 1).val
  let c0_i32_18 : BitVec 32 := 0#32
  let v33 : BitVec 1 := Scalar.cmpi .sgt arg1 c0_i32_18
  let v34 : BitVec 32 := Scalar.extui v33
  let c0_i32_19 : BitVec 32 := 0#32
  let v35 : BitVec 1 := Scalar.cmpi .slt arg1 c0_i32_19
  let v36 : BitVec 32 := Scalar.extui v35
  let v37 : BitVec 32 := Scalar.subi v34 v36
  let c4_i32 : BitVec 32 := 4#32
  let c0_i32_20 : BitVec 32 := 0#32
  let v38 : BitVec 1 := Scalar.cmpi .sgt c4_i32 c0_i32_20
  let v39 : BitVec 32 := Scalar.extui v38
  let c0_i32_21 : BitVec 32 := 0#32
  let v40 : BitVec 1 := Scalar.cmpi .slt c4_i32 c0_i32_21
  let v41 : BitVec 32 := Scalar.extui v40
  let v42 : BitVec 32 := Scalar.subi v39 v41
  let v43 : BitVec 1 := Scalar.cmpi .ne v37 v42
  let v44 : BitVec 32 := Scalar.remsi arg1 c4_i32
  let c0_i32_22 : BitVec 32 := 0#32
  let v45 : BitVec 1 := Scalar.cmpi .ne v44 c0_i32_22
  let v46 : BitVec 1 := Scalar.andi v43 v45
  let v32 : BitVec 32 := Scalar.divsi arg1 c4_i32
  let c1_i32 : BitVec 32 := 1#32
  let v47 : BitVec 32 := Scalar.subi v32 c1_i32
  let v48 : BitVec 32 := Scalar.select v46 v47 v32
  let v49 : BitVec 32 := Scalar.subi v48 c0_i32_23
  let c1_i32_24 : BitVec 32 := 1#32
  let v51 : BitVec 32 := Scalar.divsi v49 c1_i32_24
  let v52 : BitVec 32 := Scalar.muli v51 c1_i32_24
  let v53 : BitVec 32 := Scalar.addi c0_i32_23 v52
  let c1_i32_26 : BitVec 32 := 1#32
  let arg15 : BitVec 32 := Scf.iv v53 c1_i32_26 k0_t2
  let v107 : BitVec 32 := Scalar.muli c4_i32_50 arg15
  let c512_i32 : BitVec 32 := 512#32
  let v108 : BitVec 32 := Scalar.muli v107 c512_i32
  v108
def k0_off4 (i : grid0.Coords) (k0_t2 : Fin (k0_t2_loop i).trips) : Fin 2 → Nat :=
  let c4_i32_50 : BitVec 32 := 4#32
  let c0_i32_23 : BitVec 32 := 0#32
  let arg1 : BitVec 32 := BitVec.ofNat 32 (i 1).val
  let c0_i32_18 : BitVec 32 := 0#32
  let v33 : BitVec 1 := Scalar.cmpi .sgt arg1 c0_i32_18
  let v34 : BitVec 32 := Scalar.extui v33
  let c0_i32_19 : BitVec 32 := 0#32
  let v35 : BitVec 1 := Scalar.cmpi .slt arg1 c0_i32_19
  let v36 : BitVec 32 := Scalar.extui v35
  let v37 : BitVec 32 := Scalar.subi v34 v36
  let c4_i32 : BitVec 32 := 4#32
  let c0_i32_20 : BitVec 32 := 0#32
  let v38 : BitVec 1 := Scalar.cmpi .sgt c4_i32 c0_i32_20
  let v39 : BitVec 32 := Scalar.extui v38
  let c0_i32_21 : BitVec 32 := 0#32
  let v40 : BitVec 1 := Scalar.cmpi .slt c4_i32 c0_i32_21
  let v41 : BitVec 32 := Scalar.extui v40
  let v42 : BitVec 32 := Scalar.subi v39 v41
  let v43 : BitVec 1 := Scalar.cmpi .ne v37 v42
  let v44 : BitVec 32 := Scalar.remsi arg1 c4_i32
  let c0_i32_22 : BitVec 32 := 0#32
  let v45 : BitVec 1 := Scalar.cmpi .ne v44 c0_i32_22
  let v46 : BitVec 1 := Scalar.andi v43 v45
  let v32 : BitVec 32 := Scalar.divsi arg1 c4_i32
  let c1_i32 : BitVec 32 := 1#32
  let v47 : BitVec 32 := Scalar.subi v32 c1_i32
  let v48 : BitVec 32 := Scalar.select v46 v47 v32
  let v49 : BitVec 32 := Scalar.subi v48 c0_i32_23
  let c1_i32_24 : BitVec 32 := 1#32
  let v51 : BitVec 32 := Scalar.divsi v49 c1_i32_24
  let v52 : BitVec 32 := Scalar.muli v51 c1_i32_24
  let v53 : BitVec 32 := Scalar.addi c0_i32_23 v52
  let c1_i32_26 : BitVec 32 := 1#32
  let arg15 : BitVec 32 := Scf.iv v53 c1_i32_26 k0_t2
  let v107 : BitVec 32 := Scalar.muli c4_i32_50 arg15
  let c512_i32 : BitVec 32 := 512#32
  let v108 : BitVec 32 := Scalar.muli v107 c512_i32
  let v109 : BitVec 32 := v108
  let v110 : Index := Scalar.indexCast v109
  let c0_51 : Index := 0#32
  ![v110.toNat, 0]
def k0_off5 (i : grid0.Coords) (k0_t2 : Fin (k0_t2_loop i).trips) : Fin 2 → Nat :=
  let c4_i32_50 : BitVec 32 := 4#32
  let c0_i32_23 : BitVec 32 := 0#32
  let arg1 : BitVec 32 := BitVec.ofNat 32 (i 1).val
  let c0_i32_18 : BitVec 32 := 0#32
  let v33 : BitVec 1 := Scalar.cmpi .sgt arg1 c0_i32_18
  let v34 : BitVec 32 := Scalar.extui v33
  let c0_i32_19 : BitVec 32 := 0#32
  let v35 : BitVec 1 := Scalar.cmpi .slt arg1 c0_i32_19
  let v36 : BitVec 32 := Scalar.extui v35
  let v37 : BitVec 32 := Scalar.subi v34 v36
  let c4_i32 : BitVec 32 := 4#32
  let c0_i32_20 : BitVec 32 := 0#32
  let v38 : BitVec 1 := Scalar.cmpi .sgt c4_i32 c0_i32_20
  let v39 : BitVec 32 := Scalar.extui v38
  let c0_i32_21 : BitVec 32 := 0#32
  let v40 : BitVec 1 := Scalar.cmpi .slt c4_i32 c0_i32_21
  let v41 : BitVec 32 := Scalar.extui v40
  let v42 : BitVec 32 := Scalar.subi v39 v41
  let v43 : BitVec 1 := Scalar.cmpi .ne v37 v42
  let v44 : BitVec 32 := Scalar.remsi arg1 c4_i32
  let c0_i32_22 : BitVec 32 := 0#32
  let v45 : BitVec 1 := Scalar.cmpi .ne v44 c0_i32_22
  let v46 : BitVec 1 := Scalar.andi v43 v45
  let v32 : BitVec 32 := Scalar.divsi arg1 c4_i32
  let c1_i32 : BitVec 32 := 1#32
  let v47 : BitVec 32 := Scalar.subi v32 c1_i32
  let v48 : BitVec 32 := Scalar.select v46 v47 v32
  let v49 : BitVec 32 := Scalar.subi v48 c0_i32_23
  let c1_i32_24 : BitVec 32 := 1#32
  let v51 : BitVec 32 := Scalar.divsi v49 c1_i32_24
  let v52 : BitVec 32 := Scalar.muli v51 c1_i32_24
  let v53 : BitVec 32 := Scalar.addi c0_i32_23 v52
  let c1_i32_26 : BitVec 32 := 1#32
  let arg15 : BitVec 32 := Scf.iv v53 c1_i32_26 k0_t2
  let v107 : BitVec 32 := Scalar.muli c4_i32_50 arg15
  let c512_i32 : BitVec 32 := 512#32
  let v108 : BitVec 32 := Scalar.muli v107 c512_i32
  let v109 : BitVec 32 := v108
  let v113 : Index := Scalar.indexCast v109
  let c0_52 : Index := 0#32
  ![v113.toNat, 0]
def k0_off6 (i : grid0.Coords) (k0_t2 : Fin (k0_t2_loop i).trips) : Fin 2 → Nat :=
  let c4_i32_50 : BitVec 32 := 4#32
  let c0_i32_23 : BitVec 32 := 0#32
  let arg1 : BitVec 32 := BitVec.ofNat 32 (i 1).val
  let c0_i32_18 : BitVec 32 := 0#32
  let v33 : BitVec 1 := Scalar.cmpi .sgt arg1 c0_i32_18
  let v34 : BitVec 32 := Scalar.extui v33
  let c0_i32_19 : BitVec 32 := 0#32
  let v35 : BitVec 1 := Scalar.cmpi .slt arg1 c0_i32_19
  let v36 : BitVec 32 := Scalar.extui v35
  let v37 : BitVec 32 := Scalar.subi v34 v36
  let c4_i32 : BitVec 32 := 4#32
  let c0_i32_20 : BitVec 32 := 0#32
  let v38 : BitVec 1 := Scalar.cmpi .sgt c4_i32 c0_i32_20
  let v39 : BitVec 32 := Scalar.extui v38
  let c0_i32_21 : BitVec 32 := 0#32
  let v40 : BitVec 1 := Scalar.cmpi .slt c4_i32 c0_i32_21
  let v41 : BitVec 32 := Scalar.extui v40
  let v42 : BitVec 32 := Scalar.subi v39 v41
  let v43 : BitVec 1 := Scalar.cmpi .ne v37 v42
  let v44 : BitVec 32 := Scalar.remsi arg1 c4_i32
  let c0_i32_22 : BitVec 32 := 0#32
  let v45 : BitVec 1 := Scalar.cmpi .ne v44 c0_i32_22
  let v46 : BitVec 1 := Scalar.andi v43 v45
  let v32 : BitVec 32 := Scalar.divsi arg1 c4_i32
  let c1_i32 : BitVec 32 := 1#32
  let v47 : BitVec 32 := Scalar.subi v32 c1_i32
  let v48 : BitVec 32 := Scalar.select v46 v47 v32
  let v49 : BitVec 32 := Scalar.subi v48 c0_i32_23
  let c1_i32_24 : BitVec 32 := 1#32
  let v51 : BitVec 32 := Scalar.divsi v49 c1_i32_24
  let v52 : BitVec 32 := Scalar.muli v51 c1_i32_24
  let v53 : BitVec 32 := Scalar.addi c0_i32_23 v52
  let c1_i32_26 : BitVec 32 := 1#32
  let arg15 : BitVec 32 := Scf.iv v53 c1_i32_26 k0_t2
  let v107 : BitVec 32 := Scalar.muli c4_i32_50 arg15
  let c512_i32 : BitVec 32 := 512#32
  let v108 : BitVec 32 := Scalar.muli v107 c512_i32
  let v109 : BitVec 32 := v108
  let v137 : Index := Scalar.indexCast v109
  let c128_60 : Index := 128#32
  ![v137.toNat, 128]
def k0_cond2 (i : grid0.Coords) : BitVec 1 :=
  let arg1 : BitVec 32 := BitVec.ofNat 32 (i 1).val
  let c4_i32_27 : BitVec 32 := 4#32
  let c0_i32_28 : BitVec 32 := 0#32
  let v56 : BitVec 1 := Scalar.cmpi .eq c4_i32_27 c0_i32_28
  let c1_i32_29 : BitVec 32 := 1#32
  let v57 : BitVec 32 := Scalar.select v56 c1_i32_29 c4_i32_27
  let v58 : BitVec 32 := Scalar.remsi arg1 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c0_i32_33 : BitVec 32 := 0#32
  let v66 : BitVec 32 := Scalar.maxsi v65 c0_i32_33
  let c3_i32 : BitVec 32 := 3#32
  let v67 : BitVec 32 := Scalar.minsi v66 c3_i32
  let c0_i32_34 : BitVec 32 := 0#32
  let v68 : BitVec 1 := Scalar.cmpi .ne v67 c0_i32_34
  v68

def k0_cond3 (i : grid0.Coords) : BitVec 1 :=
  let arg1 : BitVec 32 := BitVec.ofNat 32 (i 1).val
  let c4_i32_27 : BitVec 32 := 4#32
  let c0_i32_28 : BitVec 32 := 0#32
  let v56 : BitVec 1 := Scalar.cmpi .eq c4_i32_27 c0_i32_28
  let c1_i32_29 : BitVec 32 := 1#32
  let v57 : BitVec 32 := Scalar.select v56 c1_i32_29 c4_i32_27
  let v58 : BitVec 32 := Scalar.remsi arg1 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c0_i32_33 : BitVec 32 := 0#32
  let v66 : BitVec 32 := Scalar.maxsi v65 c0_i32_33
  let c3_i32 : BitVec 32 := 3#32
  let v67 : BitVec 32 := Scalar.minsi v66 c3_i32
  let c1_i32_50 : BitVec 32 := 1#32
  let v107 : BitVec 32 := Scalar.subi v67 c1_i32_50
  let c0_i32_51 : BitVec 32 := 0#32
  let v108 : BitVec 1 := Scalar.cmpi .ne v107 c0_i32_51
  v108

def k0_cond4 (i : grid0.Coords) : BitVec 1 :=
  let arg1 : BitVec 32 := BitVec.ofNat 32 (i 1).val
  let c4_i32_27 : BitVec 32 := 4#32
  let c0_i32_28 : BitVec 32 := 0#32
  let v56 : BitVec 1 := Scalar.cmpi .eq c4_i32_27 c0_i32_28
  let c1_i32_29 : BitVec 32 := 1#32
  let v57 : BitVec 32 := Scalar.select v56 c1_i32_29 c4_i32_27
  let v58 : BitVec 32 := Scalar.remsi arg1 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c0_i32_33 : BitVec 32 := 0#32
  let v66 : BitVec 32 := Scalar.maxsi v65 c0_i32_33
  let c3_i32 : BitVec 32 := 3#32
  let v67 : BitVec 32 := Scalar.minsi v66 c3_i32
  let c1_i32_50 : BitVec 32 := 1#32
  let v107 : BitVec 32 := Scalar.subi v67 c1_i32_50
  let c1_i32_52 : BitVec 32 := 1#32
  let v110 : BitVec 32 := Scalar.subi v107 c1_i32_52
  let c0_i32_53 : BitVec 32 := 0#32
  let v111 : BitVec 1 := Scalar.cmpi .ne v110 c0_i32_53
  v111

def k0_mult3 (i : grid0.Coords) : BitVec 32 :=
  let c4_i32_61 : BitVec 32 := 4#32
  let arg1 : BitVec 32 := BitVec.ofNat 32 (i 1).val
  let c0_i32_55 : BitVec 32 := 0#32
  let v114 : BitVec 1 := Scalar.cmpi .sgt arg1 c0_i32_55
  let v115 : BitVec 32 := Scalar.extui v114
  let c0_i32_56 : BitVec 32 := 0#32
  let v116 : BitVec 1 := Scalar.cmpi .slt arg1 c0_i32_56
  let v117 : BitVec 32 := Scalar.extui v116
  let v118 : BitVec 32 := Scalar.subi v115 v117
  let c4_i32_54 : BitVec 32 := 4#32
  let c0_i32_57 : BitVec 32 := 0#32
  let v119 : BitVec 1 := Scalar.cmpi .sgt c4_i32_54 c0_i32_57
  let v120 : BitVec 32 := Scalar.extui v119
  let c0_i32_58 : BitVec 32 := 0#32
  let v121 : BitVec 1 := Scalar.cmpi .slt c4_i32_54 c0_i32_58
  let v122 : BitVec 32 := Scalar.extui v121
  let v123 : BitVec 32 := Scalar.subi v120 v122
  let v124 : BitVec 1 := Scalar.cmpi .ne v118 v123
  let v125 : BitVec 32 := Scalar.remsi arg1 c4_i32_54
  let c0_i32_59 : BitVec 32 := 0#32
  let v126 : BitVec 1 := Scalar.cmpi .ne v125 c0_i32_59
  let v127 : BitVec 1 := Scalar.andi v124 v126
  let v113 : BitVec 32 := Scalar.divsi arg1 c4_i32_54
  let c1_i32_60 : BitVec 32 := 1#32
  let v128 : BitVec 32 := Scalar.subi v113 c1_i32_60
  let v129 : BitVec 32 := Scalar.select v127 v128 v113
  let v130 : BitVec 32 := Scalar.muli c4_i32_61 v129
  let c512_i32 : BitVec 32 := 512#32
  let v131 : BitVec 32 := Scalar.muli v130 c512_i32
  v131
def k0_off7 (i : grid0.Coords) : Fin 2 → Nat :=
  let c4_i32_61 : BitVec 32 := 4#32
  let arg1 : BitVec 32 := BitVec.ofNat 32 (i 1).val
  let c0_i32_55 : BitVec 32 := 0#32
  let v114 : BitVec 1 := Scalar.cmpi .sgt arg1 c0_i32_55
  let v115 : BitVec 32 := Scalar.extui v114
  let c0_i32_56 : BitVec 32 := 0#32
  let v116 : BitVec 1 := Scalar.cmpi .slt arg1 c0_i32_56
  let v117 : BitVec 32 := Scalar.extui v116
  let v118 : BitVec 32 := Scalar.subi v115 v117
  let c4_i32_54 : BitVec 32 := 4#32
  let c0_i32_57 : BitVec 32 := 0#32
  let v119 : BitVec 1 := Scalar.cmpi .sgt c4_i32_54 c0_i32_57
  let v120 : BitVec 32 := Scalar.extui v119
  let c0_i32_58 : BitVec 32 := 0#32
  let v121 : BitVec 1 := Scalar.cmpi .slt c4_i32_54 c0_i32_58
  let v122 : BitVec 32 := Scalar.extui v121
  let v123 : BitVec 32 := Scalar.subi v120 v122
  let v124 : BitVec 1 := Scalar.cmpi .ne v118 v123
  let v125 : BitVec 32 := Scalar.remsi arg1 c4_i32_54
  let c0_i32_59 : BitVec 32 := 0#32
  let v126 : BitVec 1 := Scalar.cmpi .ne v125 c0_i32_59
  let v127 : BitVec 1 := Scalar.andi v124 v126
  let v113 : BitVec 32 := Scalar.divsi arg1 c4_i32_54
  let c1_i32_60 : BitVec 32 := 1#32
  let v128 : BitVec 32 := Scalar.subi v113 c1_i32_60
  let v129 : BitVec 32 := Scalar.select v127 v128 v113
  let v130 : BitVec 32 := Scalar.muli c4_i32_61 v129
  let c512_i32 : BitVec 32 := 512#32
  let v131 : BitVec 32 := Scalar.muli v130 c512_i32
  let v132 : BitVec 32 := v131
  let v133 : Index := Scalar.indexCast v132
  let c0_62 : Index := 0#32
  ![v133.toNat, 0]
def k0_off8 (i : grid0.Coords) : Fin 2 → Nat :=
  let c4_i32_61 : BitVec 32 := 4#32
  let arg1 : BitVec 32 := BitVec.ofNat 32 (i 1).val
  let c0_i32_55 : BitVec 32 := 0#32
  let v114 : BitVec 1 := Scalar.cmpi .sgt arg1 c0_i32_55
  let v115 : BitVec 32 := Scalar.extui v114
  let c0_i32_56 : BitVec 32 := 0#32
  let v116 : BitVec 1 := Scalar.cmpi .slt arg1 c0_i32_56
  let v117 : BitVec 32 := Scalar.extui v116
  let v118 : BitVec 32 := Scalar.subi v115 v117
  let c4_i32_54 : BitVec 32 := 4#32
  let c0_i32_57 : BitVec 32 := 0#32
  let v119 : BitVec 1 := Scalar.cmpi .sgt c4_i32_54 c0_i32_57
  let v120 : BitVec 32 := Scalar.extui v119
  let c0_i32_58 : BitVec 32 := 0#32
  let v121 : BitVec 1 := Scalar.cmpi .slt c4_i32_54 c0_i32_58
  let v122 : BitVec 32 := Scalar.extui v121
  let v123 : BitVec 32 := Scalar.subi v120 v122
  let v124 : BitVec 1 := Scalar.cmpi .ne v118 v123
  let v125 : BitVec 32 := Scalar.remsi arg1 c4_i32_54
  let c0_i32_59 : BitVec 32 := 0#32
  let v126 : BitVec 1 := Scalar.cmpi .ne v125 c0_i32_59
  let v127 : BitVec 1 := Scalar.andi v124 v126
  let v113 : BitVec 32 := Scalar.divsi arg1 c4_i32_54
  let c1_i32_60 : BitVec 32 := 1#32
  let v128 : BitVec 32 := Scalar.subi v113 c1_i32_60
  let v129 : BitVec 32 := Scalar.select v127 v128 v113
  let v130 : BitVec 32 := Scalar.muli c4_i32_61 v129
  let c512_i32 : BitVec 32 := 512#32
  let v131 : BitVec 32 := Scalar.muli v130 c512_i32
  let v132 : BitVec 32 := v131
  let v136 : Index := Scalar.indexCast v132
  let c0_63 : Index := 0#32
  ![v136.toNat, 0]
def k0_off9 (i : grid0.Coords) : Fin 2 → Nat :=
  let c4_i32_61 : BitVec 32 := 4#32
  let arg1 : BitVec 32 := BitVec.ofNat 32 (i 1).val
  let c0_i32_55 : BitVec 32 := 0#32
  let v114 : BitVec 1 := Scalar.cmpi .sgt arg1 c0_i32_55
  let v115 : BitVec 32 := Scalar.extui v114
  let c0_i32_56 : BitVec 32 := 0#32
  let v116 : BitVec 1 := Scalar.cmpi .slt arg1 c0_i32_56
  let v117 : BitVec 32 := Scalar.extui v116
  let v118 : BitVec 32 := Scalar.subi v115 v117
  let c4_i32_54 : BitVec 32 := 4#32
  let c0_i32_57 : BitVec 32 := 0#32
  let v119 : BitVec 1 := Scalar.cmpi .sgt c4_i32_54 c0_i32_57
  let v120 : BitVec 32 := Scalar.extui v119
  let c0_i32_58 : BitVec 32 := 0#32
  let v121 : BitVec 1 := Scalar.cmpi .slt c4_i32_54 c0_i32_58
  let v122 : BitVec 32 := Scalar.extui v121
  let v123 : BitVec 32 := Scalar.subi v120 v122
  let v124 : BitVec 1 := Scalar.cmpi .ne v118 v123
  let v125 : BitVec 32 := Scalar.remsi arg1 c4_i32_54
  let c0_i32_59 : BitVec 32 := 0#32
  let v126 : BitVec 1 := Scalar.cmpi .ne v125 c0_i32_59
  let v127 : BitVec 1 := Scalar.andi v124 v126
  let v113 : BitVec 32 := Scalar.divsi arg1 c4_i32_54
  let c1_i32_60 : BitVec 32 := 1#32
  let v128 : BitVec 32 := Scalar.subi v113 c1_i32_60
  let v129 : BitVec 32 := Scalar.select v127 v128 v113
  let v130 : BitVec 32 := Scalar.muli c4_i32_61 v129
  let c512_i32 : BitVec 32 := 512#32
  let v131 : BitVec 32 := Scalar.muli v130 c512_i32
  let v132 : BitVec 32 := v131
  let v167 : Index := Scalar.indexCast v132
  let c128_72 : Index := 128#32
  ![v167.toNat, 128]
def k0_mult4 (i : grid0.Coords) : BitVec 32 :=
  let c4_i32_61 : BitVec 32 := 4#32
  let arg1 : BitVec 32 := BitVec.ofNat 32 (i 1).val
  let c0_i32_55 : BitVec 32 := 0#32
  let v114 : BitVec 1 := Scalar.cmpi .sgt arg1 c0_i32_55
  let v115 : BitVec 32 := Scalar.extui v114
  let c0_i32_56 : BitVec 32 := 0#32
  let v116 : BitVec 1 := Scalar.cmpi .slt arg1 c0_i32_56
  let v117 : BitVec 32 := Scalar.extui v116
  let v118 : BitVec 32 := Scalar.subi v115 v117
  let c4_i32_54 : BitVec 32 := 4#32
  let c0_i32_57 : BitVec 32 := 0#32
  let v119 : BitVec 1 := Scalar.cmpi .sgt c4_i32_54 c0_i32_57
  let v120 : BitVec 32 := Scalar.extui v119
  let c0_i32_58 : BitVec 32 := 0#32
  let v121 : BitVec 1 := Scalar.cmpi .slt c4_i32_54 c0_i32_58
  let v122 : BitVec 32 := Scalar.extui v121
  let v123 : BitVec 32 := Scalar.subi v120 v122
  let v124 : BitVec 1 := Scalar.cmpi .ne v118 v123
  let v125 : BitVec 32 := Scalar.remsi arg1 c4_i32_54
  let c0_i32_59 : BitVec 32 := 0#32
  let v126 : BitVec 1 := Scalar.cmpi .ne v125 c0_i32_59
  let v127 : BitVec 1 := Scalar.andi v124 v126
  let v113 : BitVec 32 := Scalar.divsi arg1 c4_i32_54
  let c1_i32_60 : BitVec 32 := 1#32
  let v128 : BitVec 32 := Scalar.subi v113 c1_i32_60
  let v129 : BitVec 32 := Scalar.select v127 v128 v113
  let v130 : BitVec 32 := Scalar.muli c4_i32_61 v129
  let c512_i32 : BitVec 32 := 512#32
  let v131 : BitVec 32 := Scalar.muli v130 c512_i32
  v131
def k0_off10 (i : grid0.Coords) : Fin 2 → Nat :=
  let c4_i32_61 : BitVec 32 := 4#32
  let arg1 : BitVec 32 := BitVec.ofNat 32 (i 1).val
  let c0_i32_55 : BitVec 32 := 0#32
  let v114 : BitVec 1 := Scalar.cmpi .sgt arg1 c0_i32_55
  let v115 : BitVec 32 := Scalar.extui v114
  let c0_i32_56 : BitVec 32 := 0#32
  let v116 : BitVec 1 := Scalar.cmpi .slt arg1 c0_i32_56
  let v117 : BitVec 32 := Scalar.extui v116
  let v118 : BitVec 32 := Scalar.subi v115 v117
  let c4_i32_54 : BitVec 32 := 4#32
  let c0_i32_57 : BitVec 32 := 0#32
  let v119 : BitVec 1 := Scalar.cmpi .sgt c4_i32_54 c0_i32_57
  let v120 : BitVec 32 := Scalar.extui v119
  let c0_i32_58 : BitVec 32 := 0#32
  let v121 : BitVec 1 := Scalar.cmpi .slt c4_i32_54 c0_i32_58
  let v122 : BitVec 32 := Scalar.extui v121
  let v123 : BitVec 32 := Scalar.subi v120 v122
  let v124 : BitVec 1 := Scalar.cmpi .ne v118 v123
  let v125 : BitVec 32 := Scalar.remsi arg1 c4_i32_54
  let c0_i32_59 : BitVec 32 := 0#32
  let v126 : BitVec 1 := Scalar.cmpi .ne v125 c0_i32_59
  let v127 : BitVec 1 := Scalar.andi v124 v126
  let v113 : BitVec 32 := Scalar.divsi arg1 c4_i32_54
  let c1_i32_60 : BitVec 32 := 1#32
  let v128 : BitVec 32 := Scalar.subi v113 c1_i32_60
  let v129 : BitVec 32 := Scalar.select v127 v128 v113
  let v130 : BitVec 32 := Scalar.muli c4_i32_61 v129
  let c512_i32 : BitVec 32 := 512#32
  let v131 : BitVec 32 := Scalar.muli v130 c512_i32
  let v132 : BitVec 32 := v131
  let v133 : Index := Scalar.indexCast v132
  let c0_62 : Index := 0#32
  ![v133.toNat, 0]
def k0_off11 (i : grid0.Coords) : Fin 2 → Nat :=
  let c4_i32_61 : BitVec 32 := 4#32
  let arg1 : BitVec 32 := BitVec.ofNat 32 (i 1).val
  let c0_i32_55 : BitVec 32 := 0#32
  let v114 : BitVec 1 := Scalar.cmpi .sgt arg1 c0_i32_55
  let v115 : BitVec 32 := Scalar.extui v114
  let c0_i32_56 : BitVec 32 := 0#32
  let v116 : BitVec 1 := Scalar.cmpi .slt arg1 c0_i32_56
  let v117 : BitVec 32 := Scalar.extui v116
  let v118 : BitVec 32 := Scalar.subi v115 v117
  let c4_i32_54 : BitVec 32 := 4#32
  let c0_i32_57 : BitVec 32 := 0#32
  let v119 : BitVec 1 := Scalar.cmpi .sgt c4_i32_54 c0_i32_57
  let v120 : BitVec 32 := Scalar.extui v119
  let c0_i32_58 : BitVec 32 := 0#32
  let v121 : BitVec 1 := Scalar.cmpi .slt c4_i32_54 c0_i32_58
  let v122 : BitVec 32 := Scalar.extui v121
  let v123 : BitVec 32 := Scalar.subi v120 v122
  let v124 : BitVec 1 := Scalar.cmpi .ne v118 v123
  let v125 : BitVec 32 := Scalar.remsi arg1 c4_i32_54
  let c0_i32_59 : BitVec 32 := 0#32
  let v126 : BitVec 1 := Scalar.cmpi .ne v125 c0_i32_59
  let v127 : BitVec 1 := Scalar.andi v124 v126
  let v113 : BitVec 32 := Scalar.divsi arg1 c4_i32_54
  let c1_i32_60 : BitVec 32 := 1#32
  let v128 : BitVec 32 := Scalar.subi v113 c1_i32_60
  let v129 : BitVec 32 := Scalar.select v127 v128 v113
  let v130 : BitVec 32 := Scalar.muli c4_i32_61 v129
  let c512_i32 : BitVec 32 := 512#32
  let v131 : BitVec 32 := Scalar.muli v130 c512_i32
  let v132 : BitVec 32 := v131
  let v136 : Index := Scalar.indexCast v132
  let c0_63 : Index := 0#32
  ![v136.toNat, 0]
def k0_off12 (i : grid0.Coords) : Fin 2 → Nat :=
  let c4_i32_61 : BitVec 32 := 4#32
  let arg1 : BitVec 32 := BitVec.ofNat 32 (i 1).val
  let c0_i32_55 : BitVec 32 := 0#32
  let v114 : BitVec 1 := Scalar.cmpi .sgt arg1 c0_i32_55
  let v115 : BitVec 32 := Scalar.extui v114
  let c0_i32_56 : BitVec 32 := 0#32
  let v116 : BitVec 1 := Scalar.cmpi .slt arg1 c0_i32_56
  let v117 : BitVec 32 := Scalar.extui v116
  let v118 : BitVec 32 := Scalar.subi v115 v117
  let c4_i32_54 : BitVec 32 := 4#32
  let c0_i32_57 : BitVec 32 := 0#32
  let v119 : BitVec 1 := Scalar.cmpi .sgt c4_i32_54 c0_i32_57
  let v120 : BitVec 32 := Scalar.extui v119
  let c0_i32_58 : BitVec 32 := 0#32
  let v121 : BitVec 1 := Scalar.cmpi .slt c4_i32_54 c0_i32_58
  let v122 : BitVec 32 := Scalar.extui v121
  let v123 : BitVec 32 := Scalar.subi v120 v122
  let v124 : BitVec 1 := Scalar.cmpi .ne v118 v123
  let v125 : BitVec 32 := Scalar.remsi arg1 c4_i32_54
  let c0_i32_59 : BitVec 32 := 0#32
  let v126 : BitVec 1 := Scalar.cmpi .ne v125 c0_i32_59
  let v127 : BitVec 1 := Scalar.andi v124 v126
  let v113 : BitVec 32 := Scalar.divsi arg1 c4_i32_54
  let c1_i32_60 : BitVec 32 := 1#32
  let v128 : BitVec 32 := Scalar.subi v113 c1_i32_60
  let v129 : BitVec 32 := Scalar.select v127 v128 v113
  let v130 : BitVec 32 := Scalar.muli c4_i32_61 v129
  let c512_i32 : BitVec 32 := 512#32
  let v131 : BitVec 32 := Scalar.muli v130 c512_i32
  let v132 : BitVec 32 := v131
  let v167 : Index := Scalar.indexCast v132
  let c128_72 : Index := 128#32
  ![v167.toNat, 128]
def k0_mult5 (i : grid0.Coords) : BitVec 32 :=
  let c4_i32_59 : BitVec 32 := 4#32
  let arg1 : BitVec 32 := BitVec.ofNat 32 (i 1).val
  let c0_i32_53 : BitVec 32 := 0#32
  let v111 : BitVec 1 := Scalar.cmpi .sgt arg1 c0_i32_53
  let v112 : BitVec 32 := Scalar.extui v111
  let c0_i32_54 : BitVec 32 := 0#32
  let v113 : BitVec 1 := Scalar.cmpi .slt arg1 c0_i32_54
  let v114 : BitVec 32 := Scalar.extui v113
  let v115 : BitVec 32 := Scalar.subi v112 v114
  let c4_i32_52 : BitVec 32 := 4#32
  let c0_i32_55 : BitVec 32 := 0#32
  let v116 : BitVec 1 := Scalar.cmpi .sgt c4_i32_52 c0_i32_55
  let v117 : BitVec 32 := Scalar.extui v116
  let c0_i32_56 : BitVec 32 := 0#32
  let v118 : BitVec 1 := Scalar.cmpi .slt c4_i32_52 c0_i32_56
  let v119 : BitVec 32 := Scalar.extui v118
  let v120 : BitVec 32 := Scalar.subi v117 v119
  let v121 : BitVec 1 := Scalar.cmpi .ne v115 v120
  let v122 : BitVec 32 := Scalar.remsi arg1 c4_i32_52
  let c0_i32_57 : BitVec 32 := 0#32
  let v123 : BitVec 1 := Scalar.cmpi .ne v122 c0_i32_57
  let v124 : BitVec 1 := Scalar.andi v121 v123
  let v110 : BitVec 32 := Scalar.divsi arg1 c4_i32_52
  let c1_i32_58 : BitVec 32 := 1#32
  let v125 : BitVec 32 := Scalar.subi v110 c1_i32_58
  let v126 : BitVec 32 := Scalar.select v124 v125 v110
  let v127 : BitVec 32 := Scalar.muli c4_i32_59 v126
  let c512_i32 : BitVec 32 := 512#32
  let v128 : BitVec 32 := Scalar.muli v127 c512_i32
  v128
def k0_off13 (i : grid0.Coords) : Fin 2 → Nat :=
  let c4_i32_59 : BitVec 32 := 4#32
  let arg1 : BitVec 32 := BitVec.ofNat 32 (i 1).val
  let c0_i32_53 : BitVec 32 := 0#32
  let v111 : BitVec 1 := Scalar.cmpi .sgt arg1 c0_i32_53
  let v112 : BitVec 32 := Scalar.extui v111
  let c0_i32_54 : BitVec 32 := 0#32
  let v113 : BitVec 1 := Scalar.cmpi .slt arg1 c0_i32_54
  let v114 : BitVec 32 := Scalar.extui v113
  let v115 : BitVec 32 := Scalar.subi v112 v114
  let c4_i32_52 : BitVec 32 := 4#32
  let c0_i32_55 : BitVec 32 := 0#32
  let v116 : BitVec 1 := Scalar.cmpi .sgt c4_i32_52 c0_i32_55
  let v117 : BitVec 32 := Scalar.extui v116
  let c0_i32_56 : BitVec 32 := 0#32
  let v118 : BitVec 1 := Scalar.cmpi .slt c4_i32_52 c0_i32_56
  let v119 : BitVec 32 := Scalar.extui v118
  let v120 : BitVec 32 := Scalar.subi v117 v119
  let v121 : BitVec 1 := Scalar.cmpi .ne v115 v120
  let v122 : BitVec 32 := Scalar.remsi arg1 c4_i32_52
  let c0_i32_57 : BitVec 32 := 0#32
  let v123 : BitVec 1 := Scalar.cmpi .ne v122 c0_i32_57
  let v124 : BitVec 1 := Scalar.andi v121 v123
  let v110 : BitVec 32 := Scalar.divsi arg1 c4_i32_52
  let c1_i32_58 : BitVec 32 := 1#32
  let v125 : BitVec 32 := Scalar.subi v110 c1_i32_58
  let v126 : BitVec 32 := Scalar.select v124 v125 v110
  let v127 : BitVec 32 := Scalar.muli c4_i32_59 v126
  let c512_i32 : BitVec 32 := 512#32
  let v128 : BitVec 32 := Scalar.muli v127 c512_i32
  let v129 : BitVec 32 := v128
  let v130 : Index := Scalar.indexCast v129
  let c0_60 : Index := 0#32
  ![v130.toNat, 0]
def k0_off14 (i : grid0.Coords) : Fin 2 → Nat :=
  let c4_i32_59 : BitVec 32 := 4#32
  let arg1 : BitVec 32 := BitVec.ofNat 32 (i 1).val
  let c0_i32_53 : BitVec 32 := 0#32
  let v111 : BitVec 1 := Scalar.cmpi .sgt arg1 c0_i32_53
  let v112 : BitVec 32 := Scalar.extui v111
  let c0_i32_54 : BitVec 32 := 0#32
  let v113 : BitVec 1 := Scalar.cmpi .slt arg1 c0_i32_54
  let v114 : BitVec 32 := Scalar.extui v113
  let v115 : BitVec 32 := Scalar.subi v112 v114
  let c4_i32_52 : BitVec 32 := 4#32
  let c0_i32_55 : BitVec 32 := 0#32
  let v116 : BitVec 1 := Scalar.cmpi .sgt c4_i32_52 c0_i32_55
  let v117 : BitVec 32 := Scalar.extui v116
  let c0_i32_56 : BitVec 32 := 0#32
  let v118 : BitVec 1 := Scalar.cmpi .slt c4_i32_52 c0_i32_56
  let v119 : BitVec 32 := Scalar.extui v118
  let v120 : BitVec 32 := Scalar.subi v117 v119
  let v121 : BitVec 1 := Scalar.cmpi .ne v115 v120
  let v122 : BitVec 32 := Scalar.remsi arg1 c4_i32_52
  let c0_i32_57 : BitVec 32 := 0#32
  let v123 : BitVec 1 := Scalar.cmpi .ne v122 c0_i32_57
  let v124 : BitVec 1 := Scalar.andi v121 v123
  let v110 : BitVec 32 := Scalar.divsi arg1 c4_i32_52
  let c1_i32_58 : BitVec 32 := 1#32
  let v125 : BitVec 32 := Scalar.subi v110 c1_i32_58
  let v126 : BitVec 32 := Scalar.select v124 v125 v110
  let v127 : BitVec 32 := Scalar.muli c4_i32_59 v126
  let c512_i32 : BitVec 32 := 512#32
  let v128 : BitVec 32 := Scalar.muli v127 c512_i32
  let v129 : BitVec 32 := v128
  let v133 : Index := Scalar.indexCast v129
  let c0_61 : Index := 0#32
  ![v133.toNat, 0]
def k0_off15 (i : grid0.Coords) : Fin 2 → Nat :=
  let c4_i32_59 : BitVec 32 := 4#32
  let arg1 : BitVec 32 := BitVec.ofNat 32 (i 1).val
  let c0_i32_53 : BitVec 32 := 0#32
  let v111 : BitVec 1 := Scalar.cmpi .sgt arg1 c0_i32_53
  let v112 : BitVec 32 := Scalar.extui v111
  let c0_i32_54 : BitVec 32 := 0#32
  let v113 : BitVec 1 := Scalar.cmpi .slt arg1 c0_i32_54
  let v114 : BitVec 32 := Scalar.extui v113
  let v115 : BitVec 32 := Scalar.subi v112 v114
  let c4_i32_52 : BitVec 32 := 4#32
  let c0_i32_55 : BitVec 32 := 0#32
  let v116 : BitVec 1 := Scalar.cmpi .sgt c4_i32_52 c0_i32_55
  let v117 : BitVec 32 := Scalar.extui v116
  let c0_i32_56 : BitVec 32 := 0#32
  let v118 : BitVec 1 := Scalar.cmpi .slt c4_i32_52 c0_i32_56
  let v119 : BitVec 32 := Scalar.extui v118
  let v120 : BitVec 32 := Scalar.subi v117 v119
  let v121 : BitVec 1 := Scalar.cmpi .ne v115 v120
  let v122 : BitVec 32 := Scalar.remsi arg1 c4_i32_52
  let c0_i32_57 : BitVec 32 := 0#32
  let v123 : BitVec 1 := Scalar.cmpi .ne v122 c0_i32_57
  let v124 : BitVec 1 := Scalar.andi v121 v123
  let v110 : BitVec 32 := Scalar.divsi arg1 c4_i32_52
  let c1_i32_58 : BitVec 32 := 1#32
  let v125 : BitVec 32 := Scalar.subi v110 c1_i32_58
  let v126 : BitVec 32 := Scalar.select v124 v125 v110
  let v127 : BitVec 32 := Scalar.muli c4_i32_59 v126
  let c512_i32 : BitVec 32 := 512#32
  let v128 : BitVec 32 := Scalar.muli v127 c512_i32
  let v129 : BitVec 32 := v128
  let v164 : Index := Scalar.indexCast v129
  let c128_71 : Index := 128#32
  ![v164.toNat, 128]
def k0_mult6 (i : grid0.Coords) : BitVec 32 :=
  let c4_i32_57 : BitVec 32 := 4#32
  let arg1 : BitVec 32 := BitVec.ofNat 32 (i 1).val
  let c0_i32_51 : BitVec 32 := 0#32
  let v108 : BitVec 1 := Scalar.cmpi .sgt arg1 c0_i32_51
  let v109 : BitVec 32 := Scalar.extui v108
  let c0_i32_52 : BitVec 32 := 0#32
  let v110 : BitVec 1 := Scalar.cmpi .slt arg1 c0_i32_52
  let v111 : BitVec 32 := Scalar.extui v110
  let v112 : BitVec 32 := Scalar.subi v109 v111
  let c4_i32_50 : BitVec 32 := 4#32
  let c0_i32_53 : BitVec 32 := 0#32
  let v113 : BitVec 1 := Scalar.cmpi .sgt c4_i32_50 c0_i32_53
  let v114 : BitVec 32 := Scalar.extui v113
  let c0_i32_54 : BitVec 32 := 0#32
  let v115 : BitVec 1 := Scalar.cmpi .slt c4_i32_50 c0_i32_54
  let v116 : BitVec 32 := Scalar.extui v115
  let v117 : BitVec 32 := Scalar.subi v114 v116
  let v118 : BitVec 1 := Scalar.cmpi .ne v112 v117
  let v119 : BitVec 32 := Scalar.remsi arg1 c4_i32_50
  let c0_i32_55 : BitVec 32 := 0#32
  let v120 : BitVec 1 := Scalar.cmpi .ne v119 c0_i32_55
  let v121 : BitVec 1 := Scalar.andi v118 v120
  let v107 : BitVec 32 := Scalar.divsi arg1 c4_i32_50
  let c1_i32_56 : BitVec 32 := 1#32
  let v122 : BitVec 32 := Scalar.subi v107 c1_i32_56
  let v123 : BitVec 32 := Scalar.select v121 v122 v107
  let v124 : BitVec 32 := Scalar.muli c4_i32_57 v123
  let c512_i32 : BitVec 32 := 512#32
  let v125 : BitVec 32 := Scalar.muli v124 c512_i32
  v125
def k0_off16 (i : grid0.Coords) : Fin 2 → Nat :=
  let c4_i32_57 : BitVec 32 := 4#32
  let arg1 : BitVec 32 := BitVec.ofNat 32 (i 1).val
  let c0_i32_51 : BitVec 32 := 0#32
  let v108 : BitVec 1 := Scalar.cmpi .sgt arg1 c0_i32_51
  let v109 : BitVec 32 := Scalar.extui v108
  let c0_i32_52 : BitVec 32 := 0#32
  let v110 : BitVec 1 := Scalar.cmpi .slt arg1 c0_i32_52
  let v111 : BitVec 32 := Scalar.extui v110
  let v112 : BitVec 32 := Scalar.subi v109 v111
  let c4_i32_50 : BitVec 32 := 4#32
  let c0_i32_53 : BitVec 32 := 0#32
  let v113 : BitVec 1 := Scalar.cmpi .sgt c4_i32_50 c0_i32_53
  let v114 : BitVec 32 := Scalar.extui v113
  let c0_i32_54 : BitVec 32 := 0#32
  let v115 : BitVec 1 := Scalar.cmpi .slt c4_i32_50 c0_i32_54
  let v116 : BitVec 32 := Scalar.extui v115
  let v117 : BitVec 32 := Scalar.subi v114 v116
  let v118 : BitVec 1 := Scalar.cmpi .ne v112 v117
  let v119 : BitVec 32 := Scalar.remsi arg1 c4_i32_50
  let c0_i32_55 : BitVec 32 := 0#32
  let v120 : BitVec 1 := Scalar.cmpi .ne v119 c0_i32_55
  let v121 : BitVec 1 := Scalar.andi v118 v120
  let v107 : BitVec 32 := Scalar.divsi arg1 c4_i32_50
  let c1_i32_56 : BitVec 32 := 1#32
  let v122 : BitVec 32 := Scalar.subi v107 c1_i32_56
  let v123 : BitVec 32 := Scalar.select v121 v122 v107
  let v124 : BitVec 32 := Scalar.muli c4_i32_57 v123
  let c512_i32 : BitVec 32 := 512#32
  let v125 : BitVec 32 := Scalar.muli v124 c512_i32
  let v126 : BitVec 32 := v125
  let v127 : Index := Scalar.indexCast v126
  let c0_58 : Index := 0#32
  ![v127.toNat, 0]
def k0_off17 (i : grid0.Coords) : Fin 2 → Nat :=
  let c4_i32_57 : BitVec 32 := 4#32
  let arg1 : BitVec 32 := BitVec.ofNat 32 (i 1).val
  let c0_i32_51 : BitVec 32 := 0#32
  let v108 : BitVec 1 := Scalar.cmpi .sgt arg1 c0_i32_51
  let v109 : BitVec 32 := Scalar.extui v108
  let c0_i32_52 : BitVec 32 := 0#32
  let v110 : BitVec 1 := Scalar.cmpi .slt arg1 c0_i32_52
  let v111 : BitVec 32 := Scalar.extui v110
  let v112 : BitVec 32 := Scalar.subi v109 v111
  let c4_i32_50 : BitVec 32 := 4#32
  let c0_i32_53 : BitVec 32 := 0#32
  let v113 : BitVec 1 := Scalar.cmpi .sgt c4_i32_50 c0_i32_53
  let v114 : BitVec 32 := Scalar.extui v113
  let c0_i32_54 : BitVec 32 := 0#32
  let v115 : BitVec 1 := Scalar.cmpi .slt c4_i32_50 c0_i32_54
  let v116 : BitVec 32 := Scalar.extui v115
  let v117 : BitVec 32 := Scalar.subi v114 v116
  let v118 : BitVec 1 := Scalar.cmpi .ne v112 v117
  let v119 : BitVec 32 := Scalar.remsi arg1 c4_i32_50
  let c0_i32_55 : BitVec 32 := 0#32
  let v120 : BitVec 1 := Scalar.cmpi .ne v119 c0_i32_55
  let v121 : BitVec 1 := Scalar.andi v118 v120
  let v107 : BitVec 32 := Scalar.divsi arg1 c4_i32_50
  let c1_i32_56 : BitVec 32 := 1#32
  let v122 : BitVec 32 := Scalar.subi v107 c1_i32_56
  let v123 : BitVec 32 := Scalar.select v121 v122 v107
  let v124 : BitVec 32 := Scalar.muli c4_i32_57 v123
  let c512_i32 : BitVec 32 := 512#32
  let v125 : BitVec 32 := Scalar.muli v124 c512_i32
  let v126 : BitVec 32 := v125
  let v130 : Index := Scalar.indexCast v126
  let c0_59 : Index := 0#32
  ![v130.toNat, 0]
def k0_off18 (i : grid0.Coords) : Fin 2 → Nat :=
  let c4_i32_57 : BitVec 32 := 4#32
  let arg1 : BitVec 32 := BitVec.ofNat 32 (i 1).val
  let c0_i32_51 : BitVec 32 := 0#32
  let v108 : BitVec 1 := Scalar.cmpi .sgt arg1 c0_i32_51
  let v109 : BitVec 32 := Scalar.extui v108
  let c0_i32_52 : BitVec 32 := 0#32
  let v110 : BitVec 1 := Scalar.cmpi .slt arg1 c0_i32_52
  let v111 : BitVec 32 := Scalar.extui v110
  let v112 : BitVec 32 := Scalar.subi v109 v111
  let c4_i32_50 : BitVec 32 := 4#32
  let c0_i32_53 : BitVec 32 := 0#32
  let v113 : BitVec 1 := Scalar.cmpi .sgt c4_i32_50 c0_i32_53
  let v114 : BitVec 32 := Scalar.extui v113
  let c0_i32_54 : BitVec 32 := 0#32
  let v115 : BitVec 1 := Scalar.cmpi .slt c4_i32_50 c0_i32_54
  let v116 : BitVec 32 := Scalar.extui v115
  let v117 : BitVec 32 := Scalar.subi v114 v116
  let v118 : BitVec 1 := Scalar.cmpi .ne v112 v117
  let v119 : BitVec 32 := Scalar.remsi arg1 c4_i32_50
  let c0_i32_55 : BitVec 32 := 0#32
  let v120 : BitVec 1 := Scalar.cmpi .ne v119 c0_i32_55
  let v121 : BitVec 1 := Scalar.andi v118 v120
  let v107 : BitVec 32 := Scalar.divsi arg1 c4_i32_50
  let c1_i32_56 : BitVec 32 := 1#32
  let v122 : BitVec 32 := Scalar.subi v107 c1_i32_56
  let v123 : BitVec 32 := Scalar.select v121 v122 v107
  let v124 : BitVec 32 := Scalar.muli c4_i32_57 v123
  let c512_i32 : BitVec 32 := 512#32
  let v125 : BitVec 32 := Scalar.muli v124 c512_i32
  let v126 : BitVec 32 := v125
  let v161 : Index := Scalar.indexCast v126
  let c128_69 : Index := 128#32
  ![v161.toNat, 128]
def k0_cond5 (i : grid0.Coords) : BitVec 1 :=
  let arg1 : BitVec 32 := BitVec.ofNat 32 (i 1).val
  let c15_i32 : BitVec 32 := 15#32
  let v104 : BitVec 1 := Scalar.cmpi .eq arg1 c15_i32
  let v105 : BitVec 32 := Scalar.extui v104
  let c0_i32_49 : BitVec 32 := 0#32
  let v106 : BitVec 1 := Scalar.cmpi .ne v105 c0_i32_49
  v106

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x2x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S16x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S8192x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S8192x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== KernelIdeal.lean ====
variable {F : FTy → Type} [FloatOps F] [Named F]
def κ : String → Option EReal := fun
  | "ln2" => some ((Real.log 2 : ℝ) : EReal)
  | "scale" => some (((Real.sqrt 96)⁻¹ : ℝ) : EReal)
  | _ => none
-- ==== ReferenceIdeal.lean ====
abbrev S8192x8x96 : Shape := ⟨3, ![8192, 8, 96]⟩
abbrev S8192x8x64 : Shape := ⟨3, ![8192, 8, 64]⟩
abbrev S8192 : Shape := ⟨1, ![8192]⟩
abbrev S16 : Shape := ⟨1, ![16]⟩
abbrev S_ : Shape := ⟨0, ![]⟩
abbrev S8192x1 : Shape := ⟨2, ![8192, 1]⟩
abbrev S1x16 : Shape := ⟨2, ![1, 16]⟩
abbrev S8192x16 : Shape := ⟨2, ![8192, 16]⟩
abbrev S8192x1x16 : Shape := ⟨3, ![8192, 1, 16]⟩
abbrev S8192x8x32 : Shape := ⟨3, ![8192, 8, 32]⟩
abbrev S8192x8x16 : Shape := ⟨3, ![8192, 8, 16]⟩
abbrev S8x8192x8192 : Shape := ⟨3, ![8, 8192, 8192]⟩
abbrev S1x8192 : Shape := ⟨2, ![1, 8192]⟩
abbrev S8192x8192 : Shape := ⟨2, ![8192, 8192]⟩
abbrev S1x8192x8192 : Shape := ⟨3, ![1, 8192, 8192]⟩
abbrev S8x8192 : Shape := ⟨2, ![8, 8192]⟩
abbrev S8x8192x1 : Shape := ⟨3, ![8, 8192, 1]⟩
abbrev S8x64x8192 : Shape := ⟨3, ![8, 64, 8192]⟩
abbrev S8x8192x96 : Shape := ⟨3, ![8, 8192, 96]⟩
abbrev S8192x8x128 : Shape := ⟨3, ![8192, 8, 128]⟩
abbrev S8192x1024 : Shape := ⟨2, ![8192, 1024]⟩
abbrev S8192x512 : Shape := ⟨2, ![8192, 512]⟩

abbrev nBuf : Space → Nat
  | .hbm => 166
  | .vmem => 0
  | .smem => 0
  | _ => 0

abbrev hbmTy0_0 (i : Nat) : BufTy := match i % 128 with
  | 0 => ⟨S8192x8x96, .f32⟩
  | 1 => ⟨S8192x8x96, .f32⟩
  | 2 => ⟨S8192x8x64, .f32⟩
  | 3 => ⟨S8192x8x64, .f32⟩
  | 4 => ⟨S8192, .i32⟩
  | 5 => ⟨S16, .f32⟩
  | 6 => ⟨S_, .f32⟩
  | 7 => ⟨S16, .f32⟩
  | 8 => ⟨S16, .f32⟩
  | 9 => ⟨S_, .f32⟩
  | 10 => ⟨S16, .f32⟩
  | 11 => ⟨S16, .f32⟩
  | 12 => ⟨S_, .f32⟩
  | 13 => ⟨S16, .f32⟩
  | 14 => ⟨S16, .f32⟩
  | 15 => ⟨S8192, .f32⟩
  | 16 => ⟨S8192x1, .f32⟩
  | 17 => ⟨S1x16, .f32⟩
  | 18 => ⟨S8192x16, .f32⟩
  | 19 => ⟨S8192x16, .f32⟩
  | 20 => ⟨S8192x16, .f32⟩
  | 21 => ⟨S8192x16, .f32⟩
  | 22 => ⟨S8192x1x16, .f32⟩
  | 23 => ⟨S8192x16, .f32⟩
  | 24 => ⟨S8192x1x16, .f32⟩
  | 25 => ⟨S8192x8x64, .f32⟩
  | 26 => ⟨S8192x8x32, .f32⟩
  | 27 => ⟨S8192x8x16, .f32⟩
  | 28 => ⟨S8192x8x16, .f32⟩
  | 29 => ⟨S8192x8x16, .f32⟩
  | 30 => ⟨S8192x8x16, .f32⟩
  | 31 => ⟨S8192x8x16, .f32⟩
  | 32 => ⟨S8192x8x16, .f32⟩
  | 33 => ⟨S8192x8x16, .f32⟩
  | 34 => ⟨S8192x8x16, .f32⟩
  | 35 => ⟨S8192x8x16, .f32⟩
  | 36 => ⟨S8192x8x16, .f32⟩
  | 37 => ⟨S8192x8x16, .f32⟩
  | 38 => ⟨S8192x8x16, .f32⟩
  | 39 => ⟨S8192x8x32, .f32⟩
  | 40 => ⟨S8192x8x96, .f32⟩
  | 41 => ⟨S8x8192x8192, .f32⟩
  | 42 => ⟨S_, .f32⟩
  | 43 => ⟨S_, .f32⟩
  | 44 => ⟨S_, .f32⟩
  | 45 => ⟨S_, .f32⟩
  | 46 => ⟨S8x8192x8192, .f32⟩
  | 47 => ⟨S8x8192x8192, .f32⟩
  | 48 => ⟨S8192, .i32⟩
  | 49 => ⟨S1x8192, .i32⟩
  | 50 => ⟨S8192x1, .i32⟩
  | 51 => ⟨S8192x8192, .i32⟩
  | 52 => ⟨S8192x8192, .i32⟩
  | 53 => ⟨S8192x8192, .i1⟩
  | 54 => ⟨S1x8192x8192, .i1⟩
  | 55 => ⟨S_, .f32⟩
  | 56 => ⟨S_, .f32⟩
  | 57 => ⟨S8x8192x8192, .i1⟩
  | 58 => ⟨S8x8192x8192, .f32⟩
  | 59 => ⟨S8x8192x8192, .f32⟩
  | 60 => ⟨S_, .f32⟩
  | 61 => ⟨S8x8192x8192, .f32⟩
  | 62 => ⟨S_, .f32⟩
  | 63 => ⟨S8x8192, .f32⟩
  | 64 => ⟨S8x8192x1, .f32⟩
  | 65 => ⟨S8x8192x8192, .f32⟩
  | 66 => ⟨S8x8192x8192, .i1⟩
  | 67 => ⟨S8x8192x8192, .f32⟩
  | 68 => ⟨S_, .f32⟩
  | 69 => ⟨S8x8192, .f32⟩
  | 70 => ⟨S_, .f32⟩
  | 71 => ⟨S8x8192, .f32⟩
  | 72 => ⟨S8x8192, .f32⟩
  | 73 => ⟨S_, .f32⟩
  | 74 => ⟨S8x8192, .f32⟩
  | 75 => ⟨S8x8192, .i1⟩
  | 76 => ⟨S_, .f32⟩
  | 77 => ⟨S8x8192, .f32⟩
  | 78 => ⟨S8x8192, .i1⟩
  | 79 => ⟨S_, .f32⟩
  | 80 => ⟨S8x8192, .f32⟩
  | 81 => ⟨S_, .f32⟩
  | 82 => ⟨S8x8192, .f32⟩
  | 83 => ⟨S_, .f32⟩
  | 84 => ⟨S8x8192, .f32⟩
  | 85 => ⟨S8x8192, .f32⟩
  | 86 => ⟨S8x8192, .f32⟩
  | 87 => ⟨S8x8192x1, .f32⟩
  | 88 => ⟨S8x8192x8192, .f32⟩
  | 89 => ⟨S8x8192x8192, .f32⟩
  | 90 => ⟨S8x8192x8192, .f32⟩
  | 91 => ⟨S_, .f32⟩
  | 92 => ⟨S8x8192, .f32⟩
  | 93 => ⟨S8x8192x1, .f32⟩
  | 94 => ⟨S8x8192x8192, .f32⟩
  | 95 => ⟨S8x8192x8192, .f32⟩
  | 96 => ⟨S8x8192x1, .f32⟩
  | 97 => ⟨S_, .f32⟩
  | 98 => ⟨S8x8192x1, .f32⟩
  | 99 => ⟨S8x8192x1, .f32⟩
  | 100 => ⟨S8x64x8192, .f32⟩
  | 101 => ⟨S8192x8x64, .f32⟩
  | 102 => ⟨S8x64x8192, .f32⟩
  | 103 => ⟨S8x8192x8192, .f32⟩
  | 104 => ⟨S8x64x8192, .f32⟩
  | 105 => ⟨S8192x8x64, .f32⟩
  | 106 => ⟨S8x8192x8192, .f32⟩
  | 107 => ⟨S8x8192x8192, .f32⟩
  | 108 => ⟨S8x8192x8192, .f32⟩
  | 109 => ⟨S_, .f32⟩
  | 110 => ⟨S8x8192, .f32⟩
  | 111 => ⟨S8x8192x1, .f32⟩
  | 112 => ⟨S8x8192x1, .f32⟩
  | 113 => ⟨S8x8192x8192, .f32⟩
  | 114 => ⟨S8x8192x8192, .f32⟩
  | 115 => ⟨S_, .f32⟩
  | 116 => ⟨S8x8192, .f32⟩
  | 117 => ⟨S8x8192x8192, .f32⟩
  | 118 => ⟨S8x8192x8192, .f32⟩
  | 119 => ⟨S8x8192x8192, .f32⟩
  | 120 => ⟨S_, .f32⟩
  | 121 => ⟨S8x8192x8192, .f32⟩
  | 122 => ⟨S8x8192x8192, .f32⟩
  | 123 => ⟨S8x8192x8192, .f32⟩
  | 124 => ⟨S8x8192x8192, .f32⟩
  | 125 => ⟨S8x8192x96, .f32⟩
  | 126 => ⟨S8192x8x96, .f32⟩
  | 127 => ⟨S8x8192x96, .f32⟩
  | _ => ⟨S8192x8x96, .f32⟩

abbrev hbmTy0_1 (i : Nat) : BufTy := match i % 128 with
  | 0 => ⟨S8192x8x96, .f32⟩
  | 1 => ⟨S8192x8x64, .f32⟩
  | 2 => ⟨S8192x8x32, .f32⟩
  | 3 => ⟨S8192x8x16, .f32⟩
  | 4 => ⟨S8192x8x16, .f32⟩
  | 5 => ⟨S8192x8x16, .f32⟩
  | 6 => ⟨S8192x8x16, .f32⟩
  | 7 => ⟨S8192x8x16, .f32⟩
  | 8 => ⟨S8192x8x16, .f32⟩
  | 9 => ⟨S8192x8x16, .f32⟩
  | 10 => ⟨S8192x8x16, .f32⟩
  | 11 => ⟨S8192x8x16, .f32⟩
  | 12 => ⟨S8192x8x16, .f32⟩
  | 13 => ⟨S8192x8x16, .f32⟩
  | 14 => ⟨S8192x8x16, .f32⟩
  | 15 => ⟨S8192x8x16, .f32⟩
  | 16 => ⟨S_, .f32⟩
  | 17 => ⟨S8192x8x32, .f32⟩
  | 18 => ⟨S_, .f32⟩
  | 19 => ⟨S8192x8x32, .f32⟩
  | 20 => ⟨S8192x8x32, .f32⟩
  | 21 => ⟨S_, .f32⟩
  | 22 => ⟨S8192x8x96, .f32⟩
  | 23 => ⟨S_, .f32⟩
  | 24 => ⟨S8192x8x96, .f32⟩
  | 25 => ⟨S8192x8x96, .f32⟩
  | 26 => ⟨S_, .i32⟩
  | 27 => ⟨S_, .f32⟩
  | 28 => ⟨S8192x8x128, .f32⟩
  | 29 => ⟨S8192x1024, .f32⟩
  | 30 => ⟨S_, .i32⟩
  | 31 => ⟨S_, .f32⟩
  | 32 => ⟨S8192x8x128, .f32⟩
  | 33 => ⟨S8192x1024, .f32⟩
  | 34 => ⟨S8192x1024, .bf16⟩
  | 35 => ⟨S8192x1024, .bf16⟩
  | 36 => ⟨S8192x512, .f32⟩
  | 37 => ⟨S8192x512, .bf16⟩
  | _ => ⟨S8192x8x96, .f32⟩

abbrev hbmTy (i : Nat) : BufTy := match i / 128 with
  | 0 => hbmTy0_0 i
  | 1 => hbmTy0_1 i
  | _ => ⟨S8192x8x96, .f32⟩

abbrev bufTy : (tb : Table) → Fin (tcTables nBuf tb) → BufTy
  | .hbm, ⟨i, _⟩ => hbmTy i
  | _, _ => ⟨S8192x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst_2 : Ref sig .tc := ⟨.hbm, 42, rfl⟩
abbrev main_v34 : Ref sig .tc := ⟨.hbm, 43, rfl⟩
abbrev main_cst_3 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_cst_4 : Ref sig .tc := ⟨.hbm, 55, rfl⟩
abbrev main_call0_v0 : Ref sig .tc := ⟨.hbm, 56, rfl⟩
abbrev main_v45_1 : Ref sig .tc := ⟨.hbm, 57, rfl⟩
abbrev main_call0_v2 : Ref sig .tc := ⟨.hbm, 58, rfl⟩
abbrev main_v45_0 : Ref sig .tc := ⟨.hbm, 59, rfl⟩
abbrev main_call0_cst : Ref sig .tc := ⟨.hbm, 60, rfl⟩
abbrev main_v45_2 : Ref sig .tc := ⟨.hbm, 61, rfl⟩
abbrev main_cst_5 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_6 : Ref sig .tc := ⟨.hbm, 68, rfl⟩
abbrev main_v51 : Ref sig .tc := ⟨.hbm, 69, rfl⟩
abbrev main_cst_7 : Ref sig .tc := ⟨.hbm, 70, rfl⟩
abbrev main_v52 : Ref sig .tc := ⟨.hbm, 71, rfl⟩
abbrev main_v53 : Ref sig .tc := ⟨.hbm, 72, rfl⟩
abbrev main_cst_8 : Ref sig .tc := ⟨.hbm, 73, rfl⟩
abbrev main_v54 : Ref sig .tc := ⟨.hbm, 74, rfl⟩
abbrev main_v55 : Ref sig .tc := ⟨.hbm, 75, rfl⟩
abbrev main_cst_9 : Ref sig .tc := ⟨.hbm, 76, rfl⟩
abbrev main_v56 : Ref sig .tc := ⟨.hbm, 77, rfl⟩
abbrev main_v57 : Ref sig .tc := ⟨.hbm, 78, rfl⟩
abbrev main_cst_10 : Ref sig .tc := ⟨.hbm, 79, rfl⟩
abbrev main_v58 : Ref sig .tc := ⟨.hbm, 80, rfl⟩
abbrev main_cst_11 : Ref sig .tc := ⟨.hbm, 81, rfl⟩
abbrev main_v59 : Ref sig .tc := ⟨.hbm, 82, rfl⟩
abbrev main_cst_12 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_13 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_cst_14 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_cst_15 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_cst_16 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_call1_cst : Ref sig .tc := ⟨.hbm, 120, rfl⟩
abbrev main_call1_v0 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_cst_17 : Ref sig .tc := ⟨.hbm, 144, rfl⟩
abbrev main_v114 : Ref sig .tc := ⟨.hbm, 145, rfl⟩
abbrev main_cst_18 : Ref sig .tc := ⟨.hbm, 146, rfl⟩
abbrev main_v115 : Ref sig .tc := ⟨.hbm, 147, rfl⟩
abbrev main_v116 : Ref sig .tc := ⟨.hbm, 148, rfl⟩
abbrev main_cst_19 : Ref sig .tc := ⟨.hbm, 149, rfl⟩
abbrev main_v117 : Ref sig .tc := ⟨.hbm, 150, rfl⟩
abbrev main_cst_20 : Ref sig .tc := ⟨.hbm, 151, rfl⟩
abbrev main_v118 : Ref sig .tc := ⟨.hbm, 152, rfl⟩
abbrev main_v119 : Ref sig .tc := ⟨.hbm, 153, rfl⟩
abbrev main_c : Ref sig .tc := ⟨.hbm, 154, rfl⟩
abbrev main_call2_v0 : Ref sig .tc := ⟨.hbm, 155, rfl⟩
abbrev main_v120 : Ref sig .tc := ⟨.hbm, 156, rfl⟩
abbrev main_v121 : Ref sig .tc := ⟨.hbm, 157, rfl⟩
abbrev main_c_21 : Ref sig .tc := ⟨.hbm, 158, rfl⟩
abbrev main_call3_v0 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩

abbrev nD : Nat := 1
abbrev τ : Topo := Topo.v7x

variable {F : FTy → Type} [FloatOps F]
-- ==== Kernel2.lean ====
abbrev S8192x1024 : Shape := ⟨2, ![8192, 1024]⟩
abbrev S1024x2464 : Shape := ⟨2, ![1024, 2464]⟩
abbrev S256 : Shape := ⟨1, ![256]⟩
abbrev S256x768 : Shape := ⟨2, ![256, 768]⟩
abbrev S128 : Shape := ⟨1, ![128]⟩
abbrev S128x1024 : Shape := ⟨2, ![128, 1024]⟩
abbrev S8192x2048 : Shape := ⟨2, ![8192, 2048]⟩
abbrev S8192x8x96 : Shape := ⟨3, ![8192, 8, 96]⟩
abbrev S8192x8x64 : Shape := ⟨3, ![8192, 8, 64]⟩
abbrev S8192 : Shape := ⟨1, ![8192]⟩
abbrev S1024x256 : Shape := ⟨2, ![1024, 256]⟩
abbrev S8192x256 : Shape := ⟨2, ![8192, 256]⟩
abbrev S1024x128 : Shape := ⟨2, ![1024, 128]⟩
abbrev S8192x128 : Shape := ⟨2, ![8192, 128]⟩
abbrev S16 : Shape := ⟨1, ![16]⟩
abbrev S_ : Shape := ⟨0, ![]⟩
abbrev S8192x1 : Shape := ⟨2, ![8192, 1]⟩
abbrev S1x16 : Shape := ⟨2, ![1, 16]⟩
abbrev S8192x16 : Shape := ⟨2, ![8192, 16]⟩
abbrev S8192x64 : Shape := ⟨2, ![8192, 64]⟩
abbrev S8192x32 : Shape := ⟨2, ![8192, 32]⟩
abbrev S1024x384 : Shape := ⟨2, ![1024, 384]⟩
abbrev S1024x64 : Shape := ⟨2, ![1024, 64]⟩
abbrev S1024x32 : Shape := ⟨2, ![1024, 32]⟩
abbrev S1024x2048 : Shape := ⟨2, ![1024, 2048]⟩
abbrev S1024x2560 : Shape := ⟨2, ![1024, 2560]⟩
abbrev S256x8x96 : Shape := ⟨3, ![256, 8, 96]⟩
abbrev S256x8x128 : Shape := ⟨3, ![256, 8, 128]⟩
abbrev S128x8x128 : Shape := ⟨3, ![128, 8, 128]⟩
abbrev S128x8x64 : Shape := ⟨3, ![128, 8, 64]⟩
abbrev S128x512 : Shape := ⟨2, ![128, 512]⟩
abbrev S128x1536 : Shape := ⟨2, ![128, 1536]⟩
abbrev S16x1024 : Shape := ⟨2, ![16, 1024]⟩
abbrev S1024 : Shape := ⟨1, ![1024]⟩
abbrev S1x1024 : Shape := ⟨2, ![1, 1024]⟩
abbrev S8192x8x128 : Shape := ⟨3, ![8192, 8, 128]⟩
abbrev S8192x512 : Shape := ⟨2, ![8192, 512]⟩
abbrev S256x1024 : Shape := ⟨2, ![256, 1024]⟩
abbrev S512x1024 : Shape := ⟨2, ![512, 1024]⟩
abbrev S512x256 : Shape := ⟨2, ![512, 256]⟩
abbrev S512x128 : Shape := ⟨2, ![512, 128]⟩
abbrev S512x512 : Shape := ⟨2, ![512, 512]⟩
abbrev S512x2048 : Shape := ⟨2, ![512, 2048]⟩
abbrev S1x256 : Shape := ⟨2, ![1, 256]⟩
abbrev S1x128 : Shape := ⟨2, ![1, 128]⟩
abbrev S512 : Shape := ⟨1, ![512]⟩
abbrev S512x1 : Shape := ⟨2, ![512, 1]⟩
abbrev S512x1536 : Shape := ⟨2, ![512, 1536]⟩
abbrev S1024x512 : Shape := ⟨2, ![1024, 512]⟩

abbrev nBuf : Space → Nat
  | .hbm => 156
  | .vmem => 29
  | .smem => 0
  | _ => 0

abbrev hbmTy0_0 (i : Nat) : BufTy := match i % 128 with
  | 0 => ⟨S8192x1024, .f32⟩
  | 1 => ⟨S1024x2464, .f32⟩
  | 2 => ⟨S256, .f32⟩
  | 3 => ⟨S256x768, .f32⟩
  | 4 => ⟨S128, .f32⟩
  | 5 => ⟨S128x1024, .f32⟩
  | 6 => ⟨S8192x1024, .f32⟩
  | 7 => ⟨S8192x2048, .f32⟩
  | 8 => ⟨S8192x8x96, .f32⟩
  | 9 => ⟨S8192x8x96, .f32⟩
  | 10 => ⟨S8192x8x64, .f32⟩
  | 11 => ⟨S8192, .i32⟩
  | 12 => ⟨S1024x256, .f32⟩
  | 13 => ⟨S8192x256, .f32⟩
  | 14 => ⟨S1024x128, .f32⟩
  | 15 => ⟨S8192x128, .f32⟩
  | 16 => ⟨S16, .f32⟩
  | 17 => ⟨S_, .f32⟩
  | 18 => ⟨S16, .f32⟩
  | 19 => ⟨S16, .f32⟩
  | 20 => ⟨S_, .f32⟩
  | 21 => ⟨S16, .f32⟩
  | 22 => ⟨S16, .f32⟩
  | 23 => ⟨S_, .f32⟩
  | 24 => ⟨S16, .f32⟩
  | 25 => ⟨S16, .f32⟩
  | 26 => ⟨S8192, .f32⟩
  | 27 => ⟨S8192x1, .f32⟩
  | 28 => ⟨S1x16, .f32⟩
  | 29 => ⟨S8192x16, .f32⟩
  | 30 => ⟨S8192x16, .f32⟩
  | 31 => ⟨S8192x16, .f32⟩
  | 32 => ⟨S8192x16, .f32⟩
  | 33 => ⟨S8192x16, .f32⟩
  | 34 => ⟨S_, .f32⟩
  | 35 => ⟨S8192x64, .f32⟩
  | 36 => ⟨S_, .f32⟩
  | 37 => ⟨S8192x64, .f32⟩
  | 38 => ⟨S_, .f32⟩
  | 39 => ⟨S8192x32, .f32⟩
  | 40 => ⟨S8192x32, .f32⟩
  | 41 => ⟨S8192x256, .f32⟩
  | 42 => ⟨S1024x384, .f32⟩
  | 43 => ⟨S_, .f32⟩
  | 44 => ⟨S1024x64, .f32⟩
  | 45 => ⟨S1024x32, .f32⟩
  | 46 => ⟨S_, .f32⟩
  | 47 => ⟨S1024x32, .f32⟩
  | 48 => ⟨S1024x2048, .f32⟩
  | 49 => ⟨S1024x2560, .f32⟩
  | 50 => ⟨S256x8x96, .f32⟩
  | 51 => ⟨S_, .i32⟩
  | 52 => ⟨S_, .f32⟩
  | 53 => ⟨S256x8x128, .f32⟩
  | 54 => ⟨S128x8x128, .f32⟩
  | 55 => ⟨S128x8x64, .f32⟩
  | 56 => ⟨S_, .i32⟩
  | 57 => ⟨S_, .f32⟩
  | 58 => ⟨S128x8x128, .f32⟩
  | 59 => ⟨S128x1024, .f32⟩
  | 60 => ⟨S128x8x64, .f32⟩
  | 61 => ⟨S128x512, .f32⟩
  | 62 => ⟨S128x1536, .f32⟩
  | 63 => ⟨S16x1024, .i32⟩
  | 64 => ⟨S16x1024, .i32⟩
  | 65 => ⟨S_, .i32⟩
  | 66 => ⟨S16x1024, .i32⟩
  | 67 => ⟨S16x1024, .i1⟩
  | 68 => ⟨S_, .i32⟩
  | 69 => ⟨S16x1024, .i32⟩
  | 70 => ⟨S16x1024, .i1⟩
  | 71 => ⟨S16x1024, .i1⟩
  | 72 => ⟨S_, .i32⟩
  | 73 => ⟨S16x1024, .i32⟩
  | 74 => ⟨S16x1024, .i1⟩
  | 75 => ⟨S16x1024, .i1⟩
  | 76 => ⟨S_, .i32⟩
  | 77 => ⟨S16x1024, .i32⟩
  | 78 => ⟨S16x1024, .i1⟩
  | 79 => ⟨S_, .i32⟩
  | 80 => ⟨S16x1024, .i32⟩
  | 81 => ⟨S16x1024, .i1⟩
  | 82 => ⟨S16x1024, .i1⟩
  | 83 => ⟨S_, .i32⟩
  | 84 => ⟨S16x1024, .i32⟩
  | 85 => ⟨S16x1024, .i1⟩
  | 86 => ⟨S16x1024, .i1⟩
  | 87 => ⟨S_, .f32⟩
  | 88 => ⟨S_, .f32⟩
  | 89 => ⟨S16x1024, .f32⟩
  | 90 => ⟨S16x1024, .f32⟩
  | 91 => ⟨S16x1024, .f32⟩
  | 92 => ⟨S_, .f32⟩
  | 93 => ⟨S16x1024, .f32⟩
  | 94 => ⟨S16x1024, .f32⟩
  | 95 => ⟨S16x1024, .f32⟩
  | 96 => ⟨S_, .i32⟩
  | 97 => ⟨S16x1024, .i32⟩
  | 98 => ⟨S16x1024, .i1⟩
  | 99 => ⟨S_, .i32⟩
  | 100 => ⟨S_, .f32⟩
  | 101 => ⟨S1024, .f32⟩
  | 102 => ⟨S1x1024, .f32⟩
  | 103 => ⟨S16x1024, .f32⟩
  | 104 => ⟨S16x1024, .f32⟩
  | 105 => ⟨S_, .i32⟩
  | 106 => ⟨S16x1024, .i32⟩
  | 107 => ⟨S16x1024, .i1⟩
  | 108 => ⟨S_, .i32⟩
  | 109 => ⟨S_, .f32⟩
  | 110 => ⟨S1024, .f32⟩
  | 111 => ⟨S1x1024, .f32⟩
  | 112 => ⟨S16x1024, .f32⟩
  | 113 => ⟨S16x1024, .f32⟩
  | 114 => ⟨S_, .i32⟩
  | 115 => ⟨S_, .f32⟩
  | 116 => ⟨S8192x8x128, .f32⟩
  | 117 => ⟨S8192x1024, .f32⟩
  | 118 => ⟨S8192x1024, .bf16⟩
  | 119 => ⟨S_, .i32⟩
  | 120 => ⟨S_, .f32⟩
  | 121 => ⟨S8192x8x128, .f32⟩
  | 122 => ⟨S8192x1024, .f32⟩
  | 123 => ⟨S8192x1024, .bf16⟩
  | 124 => ⟨S8192x512, .f32⟩
  | 125 => ⟨S8192x512, .bf16⟩
  | 126 => ⟨S8192x2048, .bf16⟩
  | 127 => ⟨S1024x2560, .bf16⟩
  | _ => ⟨S8192x1024, .f32⟩

abbrev hbmTy0_1 (i : Nat) : BufTy := match i % 128 with
  | 0 => ⟨S256x1024, .f32⟩
  | 1 => ⟨S256x1024, .bf16⟩
  | 2 => ⟨S128x1536, .bf16⟩
  | 3 => ⟨S_, .f32⟩
  | 4 => ⟨S16x1024, .f32⟩
  | 5 => ⟨S8192x1024, .f32⟩
  | 6 => ⟨S1024x2560, .f32⟩
  | 7 => ⟨S256x1024, .f32⟩
  | 8 => ⟨S128x1536, .f32⟩
  | 9 => ⟨S16x1024, .f32⟩
  | 10 => ⟨S1024x384, .f32⟩
  | 11 => ⟨S1024x32, .f32⟩
  | 12 => ⟨S1024x2048, .f32⟩
  | 13 => ⟨S1024x2464, .f32⟩
  | 14 => ⟨S256x8x128, .f32⟩
  | 15 => ⟨S256x8x96, .f32⟩
  | 16 => ⟨S256x768, .f32⟩
  | 17 => ⟨S128x1024, .f32⟩
  | 18 => ⟨S128x8x128, .f32⟩
  | 19 => ⟨S128x8x64, .f32⟩
  | 20 => ⟨S128x512, .f32⟩
  | 21 => ⟨S128x8x64, .f32⟩
  | 22 => ⟨S128x8x128, .f32⟩
  | 23 => ⟨S1x256, .f32⟩
  | 24 => ⟨S256, .f32⟩
  | 25 => ⟨S1x128, .f32⟩
  | 26 => ⟨S128, .f32⟩
  | 27 => ⟨S128x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x256, .f32⟩
  | .local _ .vmem, ⟨5, _⟩ => ⟨S512x256, .f32⟩
  | .local _ .vmem, ⟨6, _⟩ => ⟨S512x128, .f32⟩
  | .local _ .vmem, ⟨7, _⟩ => ⟨S512x128, .f32⟩
  | .local _ .vmem, ⟨8, _⟩ => ⟨S512x256, .f32⟩
  | .local _ .vmem, ⟨9, _⟩ => ⟨S512x256, .f32⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x512, .bf16⟩
  | .local _ .vmem, ⟨15, _⟩ => ⟨S512x512, .bf16⟩
  | .local _ .vmem, ⟨16, _⟩ => ⟨S512x2048, .bf16⟩
  | .local _ .vmem, ⟨17, _⟩ => ⟨S512x2048, .bf16⟩
  | .local _ .vmem, ⟨18, _⟩ => ⟨S1024x2560, .bf16⟩
  | .local _ .vmem, ⟨19, _⟩ => ⟨S256x1024, .bf16⟩
  | .local _ .vmem, ⟨20, _⟩ => ⟨S128x1536, .bf16⟩
  | .local _ .vmem, ⟨21, _⟩ => ⟨S16x1024, .f32⟩
  | .local _ .vmem, ⟨22, _⟩ => ⟨S16x1024, .f32⟩
  | .local _ .vmem, ⟨23, _⟩ => ⟨S512x1024, .f32⟩
  | .local _ .vmem, ⟨24, _⟩ => ⟨S512x1024, .f32⟩
  | .local _ .vmem, ⟨25, _⟩ => ⟨S1024x2560, .f32⟩
  | .local _ .vmem, ⟨26, _⟩ => ⟨S256x1024, .f32⟩
  | .local _ .vmem, ⟨27, _⟩ => ⟨S128x1536, .f32⟩
  | .local _ .vmem, ⟨28, _⟩ => ⟨S16x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_v6 : Ref sig .tc := ⟨.hbm, 19, rfl⟩
abbrev main_cst_0 : Ref sig .tc := ⟨.hbm, 20, rfl⟩
abbrev main_v7 : Ref sig .tc := ⟨.hbm, 21, rfl⟩
abbrev main_v8 : Ref sig .tc := ⟨.hbm, 22, rfl⟩
abbrev main_cst_1 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_cst_3 : Ref sig .tc := ⟨.hbm, 36, rfl⟩
abbrev main_v20 : Ref sig .tc := ⟨.hbm, 37, rfl⟩
abbrev main_cst_4 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_5 : Ref sig .tc := ⟨.hbm, 43, rfl⟩
abbrev main_v25 : Ref sig .tc := ⟨.hbm, 44, rfl⟩
abbrev main_v26 : Ref sig .tc := ⟨.hbm, 45, rfl⟩
abbrev main_cst_6 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c : Ref sig .tc := ⟨.hbm, 51, rfl⟩
abbrev main_call0_v0 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_c_7 : Ref sig .tc := ⟨.hbm, 56, rfl⟩
abbrev main_call1_v0 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_c_8 : Ref sig .tc := ⟨.hbm, 65, rfl⟩
abbrev main_v41 : Ref sig .tc := ⟨.hbm, 66, rfl⟩
abbrev main_v42 : Ref sig .tc := ⟨.hbm, 67, rfl⟩
abbrev main_c_9 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_c_10 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_c_11 : Ref sig .tc := ⟨.hbm, 76, rfl⟩
abbrev main_v49 : Ref sig .tc := ⟨.hbm, 77, rfl⟩
abbrev main_v50 : Ref sig .tc := ⟨.hbm, 78, rfl⟩
abbrev main_c_12 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_c_13 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_cst_14 : Ref sig .tc := ⟨.hbm, 87, rfl⟩
abbrev main_cst_15 : Ref sig .tc := ⟨.hbm, 88, rfl⟩
abbrev main_call2_v0 : Ref sig .tc := ⟨.hbm, 89, rfl⟩
abbrev main_call2_v1 : Ref sig .tc := ⟨.hbm, 90, rfl⟩
abbrev main_v57 : Ref sig .tc := ⟨.hbm, 91, rfl⟩
abbrev main_cst_16 : Ref sig .tc := ⟨.hbm, 92, rfl⟩
abbrev main_call3_v0 : Ref sig .tc := ⟨.hbm, 93, rfl⟩
abbrev main_v58 : Ref sig .tc := ⟨.hbm, 94, rfl⟩
abbrev main_v59 : Ref sig .tc := ⟨.hbm, 95, rfl⟩
abbrev main_c_17 : Ref sig .tc := ⟨.hbm, 96, rfl⟩
abbrev main_v60 : Ref sig .tc := ⟨.hbm, 97, rfl⟩
abbrev main_v61 : Ref sig .tc := ⟨.hbm, 98, rfl⟩
abbrev main_c_18 : Ref sig .tc := ⟨.hbm, 99, rfl⟩
abbrev main_call4_v0 : Ref sig .tc := ⟨.hbm, 100, rfl⟩
abbrev main_v62 : Ref sig .tc := ⟨.hbm, 101, rfl⟩
abbrev main_v63 : Ref sig .tc := ⟨.hbm, 102, rfl⟩
abbrev main_call5_v0 : Ref sig .tc := ⟨.hbm, 103, rfl⟩
abbrev main_v64 : Ref sig .tc := ⟨.hbm, 104, rfl⟩
abbrev main_c_19 : Ref sig .tc := ⟨.hbm, 105, rfl⟩
abbrev main_v65 : Ref sig .tc := ⟨.hbm, 106, rfl⟩
abbrev main_v66 : Ref sig .tc := ⟨.hbm, 107, rfl⟩
abbrev main_c_20 : Ref sig .tc := ⟨.hbm, 108, rfl⟩
abbrev main_call6_v0 : Ref sig .tc := ⟨.hbm, 109, rfl⟩
abbrev main_v67 : Ref sig .tc := ⟨.hbm, 110, rfl⟩
abbrev main_v68 : Ref sig .tc := ⟨.hbm, 111, rfl⟩
abbrev main_call7_v0 : Ref sig .tc := ⟨.hbm, 112, rfl⟩
abbrev main_v69 : Ref sig .tc := ⟨.hbm, 113, rfl⟩
abbrev main_c_21 : Ref sig .tc := ⟨.hbm, 114, rfl⟩
abbrev main_call8_v0 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_c_22 : Ref sig .tc := ⟨.hbm, 119, rfl⟩
abbrev main_call9_v0 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_cst_23 : Ref sig .tc := ⟨.hbm, 131, rfl⟩
abbrev main_v83 : Ref sig .tc := ⟨.hbm, 132, rfl⟩
abbrev main_v84_0 : Ref sig .tc := ⟨.hbm, 133, rfl⟩
abbrev main_v84_1 : Ref sig .tc := ⟨.hbm, 134, rfl⟩
abbrev main_v84_2 : Ref sig .tc := ⟨.hbm, 135, rfl⟩
abbrev main_v84_3 : Ref sig .tc := ⟨.hbm, 136, rfl⟩
abbrev main_v84_4 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg17_0 : Ref sig .tc := ⟨.vmem, 27, rfl⟩
abbrev cc0_stg18_0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem14_1 : DmaSem sig := 24
abbrev cc0_sem15_0 : DmaSem sig := 25
abbrev cc0_sem16_0 : DmaSem sig := 26
abbrev cc0_sem17_0 : DmaSem sig := 27
abbrev cc0_sem18_0 : DmaSem sig := 28

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1024x2560 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x1536 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S16x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S16x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1024x2560 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S256x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S128x1536 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S16x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== Reference2Ideal.lean ====
abbrev S8192x1024 : Shape := ⟨2, ![8192, 1024]⟩
abbrev S1024x2464 : Shape := ⟨2, ![1024, 2464]⟩
abbrev S256 : Shape := ⟨1, ![256]⟩
abbrev S256x768 : Shape := ⟨2, ![256, 768]⟩
abbrev S128 : Shape := ⟨1, ![128]⟩
abbrev S128x1024 : Shape := ⟨2, ![128, 1024]⟩
abbrev S8192x2048 : Shape := ⟨2, ![8192, 2048]⟩
abbrev S8192x8x96 : Shape := ⟨3, ![8192, 8, 96]⟩
abbrev S8192x8x64 : Shape := ⟨3, ![8192, 8, 64]⟩
abbrev S8192 : Shape := ⟨1, ![8192]⟩
abbrev S8192x2464 : Shape := ⟨2, ![8192, 2464]⟩
abbrev S8192x256 : Shape := ⟨2, ![8192, 256]⟩
abbrev S8192x128 : Shape := ⟨2, ![8192, 128]⟩
abbrev S8192x32 : Shape := ⟨2, ![8192, 32]⟩
abbrev S16 : Shape := ⟨1, ![16]⟩
abbrev S_ : Shape := ⟨0, ![]⟩
abbrev S8192x1 : Shape := ⟨2, ![8192, 1]⟩
abbrev S1x16 : Shape := ⟨2, ![1, 16]⟩
abbrev S8192x16 : Shape := ⟨2, ![8192, 16]⟩
abbrev S8192x1x16 : Shape := ⟨3, ![8192, 1, 16]⟩
abbrev S1x256 : Shape := ⟨2, ![1, 256]⟩
abbrev S8192x768 : Shape := ⟨2, ![8192, 768]⟩
abbrev S1x128 : Shape := ⟨2, ![1, 128]⟩
abbrev S8192x8x128 : Shape := ⟨3, ![8192, 8, 128]⟩
abbrev S8192x1x32 : Shape := ⟨3, ![8192, 1, 32]⟩
abbrev S8192x8x32 : Shape := ⟨3, ![8192, 8, 32]⟩
abbrev S1024x128 : Shape := ⟨2, ![1024, 128]⟩
abbrev S768x256 : Shape := ⟨2, ![768, 256]⟩
abbrev S2464x1024 : Shape := ⟨2, ![2464, 1024]⟩

abbrev nBuf : Space → Nat
  | .hbm => 190
  | .vmem => 0
  | .smem => 0
  | _ => 0

abbrev hbmTy0_0 (i : Nat) : BufTy := match i % 128 with
  | 0 => ⟨S8192x1024, .f32⟩
  | 1 => ⟨S1024x2464, .f32⟩
  | 2 => ⟨S256, .f32⟩
  | 3 => ⟨S256x768, .f32⟩
  | 4 => ⟨S128, .f32⟩
  | 5 => ⟨S128x1024, .f32⟩
  | 6 => ⟨S8192x1024, .f32⟩
  | 7 => ⟨S8192x2048, .f32⟩
  | 8 => ⟨S8192x8x96, .f32⟩
  | 9 => ⟨S8192x8x96, .f32⟩
  | 10 => ⟨S8192x8x64, .f32⟩
  | 11 => ⟨S8192, .i32⟩
  | 12 => ⟨S8192x2464, .f32⟩
  | 13 => ⟨S8192x256, .f32⟩
  | 14 => ⟨S8192x128, .f32⟩
  | 15 => ⟨S8192x32, .f32⟩
  | 16 => ⟨S8192x2048, .f32⟩
  | 17 => ⟨S16, .f32⟩
  | 18 => ⟨S_, .f32⟩
  | 19 => ⟨S16, .f32⟩
  | 20 => ⟨S16, .f32⟩
  | 21 => ⟨S_, .f32⟩
  | 22 => ⟨S16, .f32⟩
  | 23 => ⟨S16, .f32⟩
  | 24 => ⟨S_, .f32⟩
  | 25 => ⟨S16, .f32⟩
  | 26 => ⟨S16, .f32⟩
  | 27 => ⟨S8192, .f32⟩
  | 28 => ⟨S8192x1, .f32⟩
  | 29 => ⟨S1x16, .f32⟩
  | 30 => ⟨S8192x16, .f32⟩
  | 31 => ⟨S8192x16, .f32⟩
  | 32 => ⟨S8192x16, .f32⟩
  | 33 => ⟨S8192x16, .f32⟩
  | 34 => ⟨S8192x1x16, .f32⟩
  | 35 => ⟨S8192x16, .f32⟩
  | 36 => ⟨S8192x1x16, .f32⟩
  | 37 => ⟨S8192x256, .f32⟩
  | 38 => ⟨S_, .f32⟩
  | 39 => ⟨S8192, .f32⟩
  | 40 => ⟨S8192x1, .f32⟩
  | 41 => ⟨S_, .f32⟩
  | 42 => ⟨S8192x1, .f32⟩
  | 43 => ⟨S8192x1, .f32⟩
  | 44 => ⟨S_, .f32⟩
  | 45 => ⟨S8192x1, .f32⟩
  | 46 => ⟨S8192x1, .f32⟩
  | 47 => ⟨S8192x1, .f32⟩
  | 48 => ⟨S8192x1, .f32⟩
  | 49 => ⟨S_, .f32⟩
  | 50 => ⟨S8192x1, .f32⟩
  | 51 => ⟨S8192x1, .f32⟩
  | 52 => ⟨S8192x256, .f32⟩
  | 53 => ⟨S8192x256, .f32⟩
  | 54 => ⟨S1x256, .f32⟩
  | 55 => ⟨S8192x256, .f32⟩
  | 56 => ⟨S8192x256, .f32⟩
  | 57 => ⟨S8192x768, .f32⟩
  | 58 => ⟨S8192x8x96, .f32⟩
  | 59 => ⟨S8192x128, .f32⟩
  | 60 => ⟨S_, .f32⟩
  | 61 => ⟨S8192, .f32⟩
  | 62 => ⟨S8192x1, .f32⟩
  | 63 => ⟨S_, .f32⟩
  | 64 => ⟨S8192x1, .f32⟩
  | 65 => ⟨S8192x1, .f32⟩
  | 66 => ⟨S_, .f32⟩
  | 67 => ⟨S8192x1, .f32⟩
  | 68 => ⟨S8192x1, .f32⟩
  | 69 => ⟨S8192x1, .f32⟩
  | 70 => ⟨S8192x1, .f32⟩
  | 71 => ⟨S_, .f32⟩
  | 72 => ⟨S8192x1, .f32⟩
  | 73 => ⟨S8192x1, .f32⟩
  | 74 => ⟨S8192x128, .f32⟩
  | 75 => ⟨S8192x128, .f32⟩
  | 76 => ⟨S1x128, .f32⟩
  | 77 => ⟨S8192x128, .f32⟩
  | 78 => ⟨S8192x128, .f32⟩
  | 79 => ⟨S8192x1024, .f32⟩
  | 80 => ⟨S8192x8x128, .f32⟩
  | 81 => ⟨S8192x1x32, .f32⟩
  | 82 => ⟨S8192x1x16, .f32⟩
  | 83 => ⟨S8192x1x16, .f32⟩
  | 84 => ⟨S8192x1x16, .f32⟩
  | 85 => ⟨S8192x1x16, .f32⟩
  | 86 => ⟨S8192x1x16, .f32⟩
  | 87 => ⟨S8192x1x16, .f32⟩
  | 88 => ⟨S8192x1x16, .f32⟩
  | 89 => ⟨S8192x1x16, .f32⟩
  | 90 => ⟨S8192x1x32, .f32⟩
  | 91 => ⟨S8192x8x32, .f32⟩
  | 92 => ⟨S_, .f32⟩
  | 93 => ⟨S8192x1024, .f32⟩
  | 94 => ⟨S8192x1024, .f32⟩
  | 95 => ⟨S8192x8x64, .f32⟩
  | 96 => ⟨S8192x8x96, .f32⟩
  | 97 => ⟨S8192x8x64, .f32⟩
  | 98 => ⟨S_, .f32⟩
  | 99 => ⟨S8192x8x128, .f32⟩
  | 100 => ⟨S8192x8x64, .f32⟩
  | 101 => ⟨S8192x8x32, .f32⟩
  | 102 => ⟨S_, .f32⟩
  | 103 => ⟨S8192x8x128, .f32⟩
  | 104 => ⟨S8192x8x128, .f32⟩
  | 105 => ⟨S_, .f32⟩
  | 106 => ⟨S8192x1024, .f32⟩
  | 107 => ⟨S8192x1024, .f32⟩
  | 108 => ⟨S_, .f32⟩
  | 109 => ⟨S8192x32, .f32⟩
  | 110 => ⟨S8192x1x32, .f32⟩
  | 111 => ⟨S8192x1x16, .f32⟩
  | 112 => ⟨S8192x1x16, .f32⟩
  | 113 => ⟨S8192x1x16, .f32⟩
  | 114 => ⟨S8192x1x16, .f32⟩
  | 115 => ⟨S8192x1x16, .f32⟩
  | 116 => ⟨S8192x1x16, .f32⟩
  | 117 => ⟨S8192x1x16, .f32⟩
  | 118 => ⟨S8192x1x16, .f32⟩
  | 119 => ⟨S8192x1x16, .f32⟩
  | 120 => ⟨S_, .f32⟩
  | 121 => ⟨S8192x1x32, .f32⟩
  | 122 => ⟨S_, .f32⟩
  | 123 => ⟨S8192x1x32, .f32⟩
  | 124 => ⟨S8192x1x32, .f32⟩
  | 125 => ⟨S_, .f32⟩
  | 126 => ⟨S8192x32, .f32⟩
  | 127 => ⟨S8192x1024, .f32⟩
  | _ => ⟨S8192x1024, .f32⟩

abbrev hbmTy0_1 (i : Nat) : BufTy := match i % 128 with
  | 0 => ⟨S1024x128, .f32⟩
  | 1 => ⟨S128x1024, .f32⟩
  | 2 => ⟨S8192x128, .f32⟩
  | 3 => ⟨S8192x128, .f32⟩
  | 4 => ⟨S_, .f32⟩
  | 5 => ⟨S128, .f32⟩
  | 6 => ⟨S1x128, .f32⟩
  | 7 => ⟨S8192x128, .f32⟩
  | 8 => ⟨S8192x128, .f32⟩
  | 9 => ⟨S_, .f32⟩
  | 10 => ⟨S128, .f32⟩
  | 11 => ⟨S8192x128, .f32⟩
  | 12 => ⟨S_, .f32⟩
  | 13 => ⟨S8192, .f32⟩
  | 14 => ⟨S8192x1, .f32⟩
  | 15 => ⟨S8192x128, .f32⟩
  | 16 => ⟨S8192x128, .f32⟩
  | 17 => ⟨S8192x1, .f32⟩
  | 18 => ⟨S_, .f32⟩
  | 19 => ⟨S8192x1, .f32⟩
  | 20 => ⟨S8192x1, .f32⟩
  | 21 => ⟨S_, .f32⟩
  | 22 => ⟨S8192, .f32⟩
  | 23 => ⟨S8192x128, .f32⟩
  | 24 => ⟨S8192x128, .f32⟩
  | 25 => ⟨S8192x128, .f32⟩
  | 26 => ⟨S8192x128, .f32⟩
  | 27 => ⟨S8192x128, .f32⟩
  | 28 => ⟨S8192x768, .f32⟩
  | 29 => ⟨S768x256, .f32⟩
  | 30 => ⟨S256x768, .f32⟩
  | 31 => ⟨S8192x256, .f32⟩
  | 32 => ⟨S8192x256, .f32⟩
  | 33 => ⟨S_, .f32⟩
  | 34 => ⟨S256, .f32⟩
  | 35 => ⟨S1x256, .f32⟩
  | 36 => ⟨S8192x256, .f32⟩
  | 37 => ⟨S8192x256, .f32⟩
  | 38 => ⟨S_, .f32⟩
  | 39 => ⟨S256, .f32⟩
  | 40 => ⟨S8192x256, .f32⟩
  | 41 => ⟨S_, .f32⟩
  | 42 => ⟨S8192, .f32⟩
  | 43 => ⟨S8192x1, .f32⟩
  | 44 => ⟨S8192x256, .f32⟩
  | 45 => ⟨S8192x256, .f32⟩
  | 46 => ⟨S8192x1, .f32⟩
  | 47 => ⟨S_, .f32⟩
  | 48 => ⟨S8192x1, .f32⟩
  | 49 => ⟨S8192x1, .f32⟩
  | 50 => ⟨S_, .f32⟩
  | 51 => ⟨S8192, .f32⟩
  | 52 => ⟨S8192x256, .f32⟩
  | 53 => ⟨S8192x256, .f32⟩
  | 54 => ⟨S8192x256, .f32⟩
  | 55 => ⟨S8192x256, .f32⟩
  | 56 => ⟨S8192x256, .f32⟩
  | 57 => ⟨S8192x2464, .f32⟩
  | 58 => ⟨S2464x1024, .f32⟩
  | 59 => ⟨S1024x2464, .f32⟩
  | 60 => ⟨S8192x1024, .f32⟩
  | 61 => ⟨S8192x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst : Ref sig .tc := ⟨.hbm, 18, rfl⟩
abbrev main_v6 : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_2 : Ref sig .tc := ⟨.hbm, 38, rfl⟩
abbrev main_v23 : Ref sig .tc := ⟨.hbm, 39, rfl⟩
abbrev main_v24 : Ref sig .tc := ⟨.hbm, 40, rfl⟩
abbrev main_cst_3 : Ref sig .tc := ⟨.hbm, 41, rfl⟩
abbrev main_v25 : Ref sig .tc := ⟨.hbm, 42, rfl⟩
abbrev main_v26 : Ref sig .tc := ⟨.hbm, 43, rfl⟩
abbrev main_cst_4 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_5 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_6 : Ref sig .tc := ⟨.hbm, 60, rfl⟩
abbrev main_v41 : Ref sig .tc := ⟨.hbm, 61, rfl⟩
abbrev main_v42 : Ref sig .tc := ⟨.hbm, 62, rfl⟩
abbrev main_cst_7 : Ref sig .tc := ⟨.hbm, 63, rfl⟩
abbrev main_v43 : Ref sig .tc := ⟨.hbm, 64, rfl⟩
abbrev main_v44 : Ref sig .tc := ⟨.hbm, 65, rfl⟩
abbrev main_cst_8 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_9 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_cst_10 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_cst_11 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_cst_12 : Ref sig .tc := ⟨.hbm, 102, rfl⟩
abbrev main_v77 : Ref sig .tc := ⟨.hbm, 103, rfl⟩
abbrev main_v78 : Ref sig .tc := ⟨.hbm, 104, rfl⟩
abbrev main_cst_13 : Ref sig .tc := ⟨.hbm, 105, rfl⟩
abbrev main_v79 : Ref sig .tc := ⟨.hbm, 106, rfl⟩
abbrev main_v80 : Ref sig .tc := ⟨.hbm, 107, rfl⟩
abbrev main_cst_14 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_cst_15 : Ref sig .tc := ⟨.hbm, 120, rfl⟩
abbrev main_v92 : Ref sig .tc := ⟨.hbm, 121, rfl⟩
abbrev main_cst_16 : Ref sig .tc := ⟨.hbm, 122, rfl⟩
abbrev main_v93 : Ref sig .tc := ⟨.hbm, 123, rfl⟩
abbrev main_v94 : Ref sig .tc := ⟨.hbm, 124, rfl⟩
abbrev main_cst_17 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_cst_18 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_cst_19 : Ref sig .tc := ⟨.hbm, 137, rfl⟩
abbrev main_v105 : Ref sig .tc := ⟨.hbm, 138, rfl⟩
abbrev main_v106 : Ref sig .tc := ⟨.hbm, 139, rfl⟩
abbrev main_cst_20 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_cst_21 : Ref sig .tc := ⟨.hbm, 146, rfl⟩
abbrev main_v112 : Ref sig .tc := ⟨.hbm, 147, rfl⟩
abbrev main_v113 : Ref sig .tc := ⟨.hbm, 148, rfl⟩
abbrev main_cst_22 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_cst_23 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_cst_24 : Ref sig .tc := ⟨.hbm, 166, rfl⟩
abbrev main_v129 : Ref sig .tc := ⟨.hbm, 167, rfl⟩
abbrev main_v130 : Ref sig .tc := ⟨.hbm, 168, rfl⟩
abbrev main_cst_25 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_cst_26 : Ref sig .tc := ⟨.hbm, 175, rfl⟩
abbrev main_v136 : Ref sig .tc := ⟨.hbm, 176, rfl⟩
abbrev main_v137 : Ref sig .tc := ⟨.hbm, 177, rfl⟩
abbrev main_cst_27 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_v147 : Ref sig .tc := ⟨.hbm, 188, rfl⟩
abbrev main_v148 : Ref sig .tc := ⟨.hbm, 189, rfl⟩

abbrev nD : Nat := 1
abbrev τ : Topo := Topo.v7x

variable {F : FTy → Type} [FloatOps F]
-- ==== Kernel3.lean ====
abbrev S8192x1024 : Shape := ⟨2, ![8192, 1024]⟩
abbrev S1024x2464 : Shape := ⟨2, ![1024, 2464]⟩
abbrev S256 : Shape := ⟨1, ![256]⟩
abbrev S256x768 : Shape := ⟨2, ![256, 768]⟩
abbrev S128 : Shape := ⟨1, ![128]⟩
abbrev S128x1024 : Shape := ⟨2, ![128, 1024]⟩
abbrev S8192 : Shape := ⟨1, ![8192]⟩
abbrev S1024x384 : Shape := ⟨2, ![1024, 384]⟩
abbrev S_ : Shape := ⟨0, ![]⟩
abbrev S1024x64 : Shape := ⟨2, ![1024, 64]⟩
abbrev S1024x32 : Shape := ⟨2, ![1024, 32]⟩
abbrev S1024x2048 : Shape := ⟨2, ![1024, 2048]⟩
abbrev S1024x2560 : Shape := ⟨2, ![1024, 2560]⟩
abbrev S256x8x96 : Shape := ⟨3, ![256, 8, 96]⟩
abbrev S256x8x128 : Shape := ⟨3, ![256, 8, 128]⟩
abbrev S128x8x128 : Shape := ⟨3, ![128, 8, 128]⟩
abbrev S128x8x64 : Shape := ⟨3, ![128, 8, 64]⟩
abbrev S128x512 : Shape := ⟨2, ![128, 512]⟩
abbrev S128x1536 : Shape := ⟨2, ![128, 1536]⟩
abbrev S16x1024 : Shape := ⟨2, ![16, 1024]⟩
abbrev S16 : Shape := ⟨1, ![16]⟩
abbrev S64 : Shape := ⟨1, ![64]⟩
abbrev S928 : Shape := ⟨1, ![928]⟩
abbrev S1024 : Shape := ⟨1, ![1024]⟩
abbrev S1x1024 : Shape := ⟨2, ![1, 1024]⟩
abbrev S8192x1 : Shape := ⟨2, ![8192, 1]⟩
abbrev S256x1024 : Shape := ⟨2, ![256, 1024]⟩
abbrev S8192x256 : Shape := ⟨2, ![8192, 256]⟩
abbrev S8192x128 : Shape := ⟨2, ![8192, 128]⟩
abbrev S8192x2048 : Shape := ⟨2, ![8192, 2048]⟩
abbrev S8192x512 : Shape := ⟨2, ![8192, 512]⟩
abbrev S16x512x512 : Shape := ⟨3, ![16, 512, 512]⟩
abbrev S1024x1024 : Shape := ⟨2, ![1024, 1024]⟩
abbrev S1024x1 : Shape := ⟨2, ![1024, 1]⟩
abbrev S1024x256 : Shape := ⟨2, ![1024, 256]⟩
abbrev S1024x128 : Shape := ⟨2, ![1024, 128]⟩
abbrev S1024x512 : Shape := ⟨2, ![1024, 512]⟩
abbrev S2x512x512 : Shape := ⟨3, ![2, 512, 512]⟩
abbrev S1x128 : Shape := ⟨2, ![1, 128]⟩
abbrev S1x256 : Shape := ⟨2, ![1, 256]⟩
abbrev S1024x1536 : Shape := ⟨2, ![1024, 1536]⟩
abbrev S512x512 : Shape := ⟨2, ![512, 512]⟩
abbrev S1x512x512 : Shape := ⟨3, ![1, 512, 512]⟩

abbrev nBuf : Space → Nat
  | .hbm => 113
  | .vmem => 24
  | .smem => 0
  | _ => 0

abbrev bufTy : (tb : Table) → Fin (tcTables nBuf tb) → BufTy
  | .hbm, ⟨0, _⟩ => ⟨S8192x1024, .f32⟩
  | .hbm, ⟨1, _⟩ => ⟨S1024x2464, .f32⟩
  | .hbm, ⟨2, _⟩ => ⟨S256, .f32⟩
  | .hbm, ⟨3, _⟩ => ⟨S256x768, .f32⟩
  | .hbm, ⟨4, _⟩ => ⟨S128, .f32⟩
  | .hbm, ⟨5, _⟩ => ⟨S128x1024, .f32⟩
  | .hbm, ⟨6, _⟩ => ⟨S8192, .i32⟩
  | .hbm, ⟨7, _⟩ => ⟨S1024x384, .f32⟩
  | .hbm, ⟨8, _⟩ => ⟨S_, .f32⟩
  | .hbm, ⟨9, _⟩ => ⟨S1024x64, .f32⟩
  | .hbm, ⟨10, _⟩ => ⟨S1024x32, .f32⟩
  | .hbm, ⟨11, _⟩ => ⟨S_, .f32⟩
  | .hbm, ⟨12, _⟩ => ⟨S1024x32, .f32⟩
  | .hbm, ⟨13, _⟩ => ⟨S1024x2048, .f32⟩
  | .hbm, ⟨14, _⟩ => ⟨S1024x2560, .f32⟩
  | .hbm, ⟨15, _⟩ => ⟨S256x8x96, .f32⟩
  | .hbm, ⟨16, _⟩ => ⟨S_, .i32⟩
  | .hbm, ⟨17, _⟩ => ⟨S_, .f32⟩
  | .hbm, ⟨18, _⟩ => ⟨S256x8x128, .f32⟩
  | .hbm, ⟨19, _⟩ => ⟨S128x8x128, .f32⟩
  | .hbm, ⟨20, _⟩ => ⟨S128x8x64, .f32⟩
  | .hbm, ⟨21, _⟩ => ⟨S_, .i32⟩
  | .hbm, ⟨22, _⟩ => ⟨S_, .f32⟩
  | .hbm, ⟨23, _⟩ => ⟨S128x8x128, .f32⟩
  | .hbm, ⟨24, _⟩ => ⟨S128x1024, .f32⟩
  | .hbm, ⟨25, _⟩ => ⟨S128x8x64, .f32⟩
  | .hbm, ⟨26, _⟩ => ⟨S128x512, .f32⟩
  | .hbm, ⟨27, _⟩ => ⟨S128x1536, .f32⟩
  | .hbm, ⟨28, _⟩ => ⟨S16x1024, .i32⟩
  | .hbm, ⟨29, _⟩ => ⟨S16x1024, .i32⟩
  | .hbm, ⟨30, _⟩ => ⟨S_, .i32⟩
  | .hbm, ⟨31, _⟩ => ⟨S16x1024, .i32⟩
  | .hbm, ⟨32, _⟩ => ⟨S16x1024, .i1⟩
  | .hbm, ⟨33, _⟩ => ⟨S_, .i32⟩
  | .hbm, ⟨34, _⟩ => ⟨S16x1024, .i32⟩
  | .hbm, ⟨35, _⟩ => ⟨S16x1024, .i1⟩
  | .hbm, ⟨36, _⟩ => ⟨S16x1024, .i1⟩
  | .hbm, ⟨37, _⟩ => ⟨S_, .i32⟩
  | .hbm, ⟨38, _⟩ => ⟨S16x1024, .i32⟩
  | .hbm, ⟨39, _⟩ => ⟨S16x1024, .i1⟩
  | .hbm, ⟨40, _⟩ => ⟨S16x1024, .i1⟩
  | .hbm, ⟨41, _⟩ => ⟨S_, .i32⟩
  | .hbm, ⟨42, _⟩ => ⟨S16x1024, .i32⟩
  | .hbm, ⟨43, _⟩ => ⟨S16x1024, .i1⟩
  | .hbm, ⟨44, _⟩ => ⟨S_, .i32⟩
  | .hbm, ⟨45, _⟩ => ⟨S16x1024, .i32⟩
  | .hbm, ⟨46, _⟩ => ⟨S16x1024, .i1⟩
  | .hbm, ⟨47, _⟩ => ⟨S16x1024, .i1⟩
  | .hbm, ⟨48, _⟩ => ⟨S_, .i32⟩
  | .hbm, ⟨49, _⟩ => ⟨S16x1024, .i32⟩
  | .hbm, ⟨50, _⟩ => ⟨S16x1024, .i1⟩
  | .hbm, ⟨51, _⟩ => ⟨S16x1024, .i1⟩
  | .hbm, ⟨52, _⟩ => ⟨S_, .f32⟩
  | .hbm, ⟨53, _⟩ => ⟨S_, .f32⟩
  | .hbm, ⟨54, _⟩ => ⟨S16x1024, .f32⟩
  | .hbm, ⟨55, _⟩ => ⟨S16x1024, .f32⟩
  | .hbm, ⟨56, _⟩ => ⟨S16x1024, .f32⟩
  | .hbm, ⟨57, _⟩ => ⟨S_, .f32⟩
  | .hbm, ⟨58, _⟩ => ⟨S16x1024, .f32⟩
  | .hbm, ⟨59, _⟩ => ⟨S16x1024, .f32⟩
  | .hbm, ⟨60, _⟩ => ⟨S16x1024, .f32⟩
  | .hbm, ⟨61, _⟩ => ⟨S16, .f32⟩
  | .hbm, ⟨62, _⟩ => ⟨S_, .f32⟩
  | .hbm, ⟨63, _⟩ => ⟨S16, .f32⟩
  | .hbm, ⟨64, _⟩ => ⟨S16, .f32⟩
  | .hbm, ⟨65, _⟩ => ⟨S_, .f32⟩
  | .hbm, ⟨66, _⟩ => ⟨S16, .f32⟩
  | .hbm, ⟨67, _⟩ => ⟨S16, .f32⟩
  | .hbm, ⟨68, _⟩ => ⟨S_, .f32⟩
  | .hbm, ⟨69, _⟩ => ⟨S16, .f32⟩
  | .hbm, ⟨70, _⟩ => ⟨S16, .f32⟩
  | .hbm, ⟨71, _⟩ => ⟨S_, .f32⟩
  | .hbm, ⟨72, _⟩ => ⟨S64, .f32⟩
  | .hbm, ⟨73, _⟩ => ⟨S_, .f32⟩
  | .hbm, ⟨74, _⟩ => ⟨S928, .f32⟩
  | .hbm, ⟨75, _⟩ => ⟨S1024, .f32⟩
  | .hbm, ⟨76, _⟩ => ⟨S_, .i32⟩
  | .hbm, ⟨77, _⟩ => ⟨S16x1024, .i32⟩
  | .hbm, ⟨78, _⟩ => ⟨S16x1024, .i1⟩
  | .hbm, ⟨79, _⟩ => ⟨S1x1024, .f32⟩
  | .hbm, ⟨80, _⟩ => ⟨S16x1024, .f32⟩
  | .hbm, ⟨81, _⟩ => ⟨S16x1024, .f32⟩
  | .hbm, ⟨82, _⟩ => ⟨S_, .i32⟩
  | .hbm, ⟨83, _⟩ => ⟨S16x1024, .i32⟩
  | .hbm, ⟨84, _⟩ => ⟨S16x1024, .i1⟩
  | .hbm, ⟨85, _⟩ => ⟨S_, .i32⟩
  | .hbm, ⟨86, _⟩ => ⟨S_, .f32⟩
  | .hbm, ⟨87, _⟩ => ⟨S1024, .f32⟩
  | .hbm, ⟨88, _⟩ => ⟨S1x1024, .f32⟩
  | .hbm, ⟨89, _⟩ => ⟨S16x1024, .f32⟩
  | .hbm, ⟨90, _⟩ => ⟨S16x1024, .f32⟩
  | .hbm, ⟨91, _⟩ => ⟨S_, .i32⟩
  | .hbm, ⟨92, _⟩ => ⟨S16x1024, .i32⟩
  | .hbm, ⟨93, _⟩ => ⟨S16x1024, .i1⟩
  | .hbm, ⟨94, _⟩ => ⟨S_, .i32⟩
  | .hbm, ⟨95, _⟩ => ⟨S_, .f32⟩
  | .hbm, ⟨96, _⟩ => ⟨S1024, .f32⟩
  | .hbm, ⟨97, _⟩ => ⟨S1x1024, .f32⟩
  | .hbm, ⟨98, _⟩ => ⟨S16x1024, .f32⟩
  | .hbm, ⟨99, _⟩ => ⟨S16x1024, .f32⟩
  | .hbm, ⟨100, _⟩ => ⟨S8192x1, .i32⟩
  | .hbm, ⟨101, _⟩ => ⟨S1024x2560, .bf16⟩
  | .hbm, ⟨102, _⟩ => ⟨S256x1024, .f32⟩
  | .hbm, ⟨103, _⟩ => ⟨S256x1024, .bf16⟩
  | .hbm, ⟨104, _⟩ => ⟨S128x1536, .bf16⟩
  | .hbm, ⟨105, _⟩ => ⟨S8192x256, .f32⟩
  | .hbm, ⟨106, _⟩ => ⟨S8192x128, .f32⟩
  | .hbm, ⟨107, _⟩ => ⟨S8192x2048, .bf16⟩
  | .hbm, ⟨108, _⟩ => ⟨S8192x1024, .bf16⟩
  | .hbm, ⟨109, _⟩ => ⟨S8192x1024, .bf16⟩
  | .hbm, ⟨110, _⟩ => ⟨S8192x512, .bf16⟩
  | .hbm, ⟨111, _⟩ => ⟨S16x512x512, .bf16⟩
  | .hbm, ⟨112, _⟩ => ⟨S8192x256, .f32⟩
  | .local _ .vmem, ⟨0, _⟩ => ⟨S1024x1024, .f32⟩
  | .local _ .vmem, ⟨1, _⟩ => ⟨S1024x1024, .f32⟩
  | .local _ .vmem, ⟨2, _⟩ => ⟨S1024x1, .i32⟩
  | .local _ .vmem, ⟨3, _⟩ => ⟨S1024x1, .i32⟩
  | .local _ .vmem, ⟨4, _⟩ => ⟨S1024x2560, .bf16⟩
  | .local _ .vmem, ⟨5, _⟩ => ⟨S256x1024, .bf16⟩
  | .local _ .vmem, ⟨6, _⟩ => ⟨S128x1536, .bf16⟩
  | .local _ .vmem, ⟨7, _⟩ => ⟨S16x1024, .f32⟩
  | .local _ .vmem, ⟨8, _⟩ => ⟨S1024x256, .f32⟩
  | .local _ .vmem, ⟨9, _⟩ => ⟨S1024x256, .f32⟩
  | .local _ .vmem, ⟨10, _⟩ => ⟨S1024x128, .f32⟩
  | .local _ .vmem, ⟨11, _⟩ => ⟨S1024x128, .f32⟩
  | .local _ .vmem, ⟨12, _⟩ => ⟨S1024x2048, .bf16⟩
  | .local _ .vmem, ⟨13, _⟩ => ⟨S1024x2048, .bf16⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | .local _ .vmem, ⟨18, _⟩ => ⟨S1024x512, .bf16⟩
  | .local _ .vmem, ⟨19, _⟩ => ⟨S1024x512, .bf16⟩
  | .local _ .vmem, ⟨20, _⟩ => ⟨S2x512x512, .bf16⟩
  | .local _ .vmem, ⟨21, _⟩ => ⟨S2x512x512, .bf16⟩
  | .local _ .vmem, ⟨22, _⟩ => ⟨S1024x256, .f32⟩
  | .local _ .vmem, ⟨23, _⟩ => ⟨S1024x256, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c : Ref sig .tc := ⟨.hbm, 16, rfl⟩
abbrev main_call0_v0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c_1 : Ref sig .tc := ⟨.hbm, 21, rfl⟩
abbrev main_call1_v0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c_2 : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_5 : Ref sig .tc := ⟨.hbm, 41, rfl⟩
abbrev main_v25 : Ref sig .tc := ⟨.hbm, 42, rfl⟩
abbrev main_v26 : Ref sig .tc := ⟨.hbm, 43, rfl⟩
abbrev main_c_6 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_7 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_8 : Ref sig .tc := ⟨.hbm, 52, rfl⟩
abbrev main_cst_9 : Ref sig .tc := ⟨.hbm, 53, rfl⟩
abbrev main_call2_v0 : Ref sig .tc := ⟨.hbm, 54, rfl⟩
abbrev main_call2_v1 : Ref sig .tc := ⟨.hbm, 55, rfl⟩
abbrev main_v33 : Ref sig .tc := ⟨.hbm, 56, rfl⟩
abbrev main_cst_10 : Ref sig .tc := ⟨.hbm, 57, rfl⟩
abbrev main_call3_v0 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_11 : Ref sig .tc := ⟨.hbm, 62, rfl⟩
abbrev main_v37 : Ref sig .tc := ⟨.hbm, 63, rfl⟩
abbrev main_v38 : Ref sig .tc := ⟨.hbm, 64, rfl⟩
abbrev main_cst_12 : Ref sig .tc := ⟨.hbm, 65, rfl⟩
abbrev main_v39 : Ref sig .tc := ⟨.hbm, 66, rfl⟩
abbrev main_v40 : Ref sig .tc := ⟨.hbm, 67, rfl⟩
abbrev main_cst_13 : Ref sig .tc := ⟨.hbm, 68, rfl⟩
abbrev main_v41 : Ref sig .tc := ⟨.hbm, 69, rfl⟩
abbrev main_v42 : Ref sig .tc := ⟨.hbm, 70, rfl⟩
abbrev main_cst_14 : Ref sig .tc := ⟨.hbm, 71, rfl⟩
abbrev main_v43 : Ref sig .tc := ⟨.hbm, 72, rfl⟩
abbrev main_cst_15 : Ref sig .tc := ⟨.hbm, 73, rfl⟩
abbrev main_v44 : Ref sig .tc := ⟨.hbm, 74, rfl⟩
abbrev main_v45 : Ref sig .tc := ⟨.hbm, 75, rfl⟩
abbrev main_c_16 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_call4_v0 : Ref sig .tc := ⟨.hbm, 80, rfl⟩
abbrev main_v49 : Ref sig .tc := ⟨.hbm, 81, rfl⟩
abbrev main_c_17 : Ref sig .tc := ⟨.hbm, 82, rfl⟩
abbrev main_v50 : Ref sig .tc := ⟨.hbm, 83, rfl⟩
abbrev main_v51 : Ref sig .tc := ⟨.hbm, 84, rfl⟩
abbrev main_c_18 : Ref sig .tc := ⟨.hbm, 85, rfl⟩
abbrev main_call5_v0 : Ref sig .tc := ⟨.hbm, 86, rfl⟩
abbrev main_v52 : Ref sig .tc := ⟨.hbm, 87, rfl⟩
abbrev main_v53 : Ref sig .tc := ⟨.hbm, 88, rfl⟩
abbrev main_call6_v0 : Ref sig .tc := ⟨.hbm, 89, rfl⟩
abbrev main_v54 : Ref sig .tc := ⟨.hbm, 90, rfl⟩
abbrev main_c_19 : Ref sig .tc := ⟨.hbm, 91, rfl⟩
abbrev main_v55 : Ref sig .tc := ⟨.hbm, 92, rfl⟩
abbrev main_v56 : Ref sig .tc := ⟨.hbm, 93, rfl⟩
abbrev main_c_20 : Ref sig .tc := ⟨.hbm, 94, rfl⟩
abbrev main_call7_v0 : Ref sig .tc := ⟨.hbm, 95, rfl⟩
abbrev main_v57 : Ref sig .tc := ⟨.hbm, 96, rfl⟩
abbrev main_v58 : Ref sig .tc := ⟨.hbm, 97, rfl⟩
abbrev main_call8_v0 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65_0 : Ref sig .tc := ⟨.hbm, 105, rfl⟩
abbrev main_v65_1 : Ref sig .tc := ⟨.hbm, 106, rfl⟩
abbrev main_v65_2 : Ref sig .tc := ⟨.hbm, 107, rfl⟩
abbrev main_v65_3 : Ref sig .tc := ⟨.hbm, 108, rfl⟩
abbrev main_v65_4 : Ref sig .tc := ⟨.hbm, 109, rfl⟩
abbrev main_v65_5 : Ref sig .tc := ⟨.hbm, 110, rfl⟩
abbrev main_v65_6 : Ref sig .tc := ⟨.hbm, 111, rfl⟩
abbrev main_v65_7 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2x512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference3Ideal.lean ====
abbrev S8192x1024 : Shape := ⟨2, ![8192, 1024]⟩
abbrev S1024x2464 : Shape := ⟨2, ![1024, 2464]⟩
abbrev S256 : Shape := ⟨1, ![256]⟩
abbrev S256x768 : Shape := ⟨2, ![256, 768]⟩
abbrev S128 : Shape := ⟨1, ![128]⟩
abbrev S128x1024 : Shape := ⟨2, ![128, 1024]⟩
abbrev S8192 : Shape := ⟨1, ![8192]⟩
abbrev S8192x2464 : Shape := ⟨2, ![8192, 2464]⟩
abbrev S8192x256 : Shape := ⟨2, ![8192, 256]⟩
abbrev S8192x128 : Shape := ⟨2, ![8192, 128]⟩
abbrev S8192x32 : Shape := ⟨2, ![8192, 32]⟩
abbrev S8192x2048 : Shape := ⟨2, ![8192, 2048]⟩
abbrev S16 : Shape := ⟨1, ![16]⟩
abbrev S_ : Shape := ⟨0, ![]⟩
abbrev S8192x1 : Shape := ⟨2, ![8192, 1]⟩
abbrev S1x16 : Shape := ⟨2, ![1, 16]⟩
abbrev S8192x16 : Shape := ⟨2, ![8192, 16]⟩
abbrev S8192x1x16 : Shape := ⟨3, ![8192, 1, 16]⟩
abbrev S1x256 : Shape := ⟨2, ![1, 256]⟩
abbrev S8192x768 : Shape := ⟨2, ![8192, 768]⟩
abbrev S8192x8x96 : Shape := ⟨3, ![8192, 8, 96]⟩
abbrev S8192x8x64 : Shape := ⟨3, ![8192, 8, 64]⟩
abbrev S8192x8x32 : Shape := ⟨3, ![8192, 8, 32]⟩
abbrev S8192x8x16 : Shape := ⟨3, ![8192, 8, 16]⟩
abbrev S1x128 : Shape := ⟨2, ![1, 128]⟩
abbrev S8192x8x128 : Shape := ⟨3, ![8192, 8, 128]⟩
abbrev S8192x1x32 : Shape := ⟨3, ![8192, 1, 32]⟩
abbrev S8192x512 : Shape := ⟨2, ![8192, 512]⟩
abbrev S8192x64 : Shape := ⟨2, ![8192, 64]⟩
abbrev S16x512x512 : Shape := ⟨3, ![16, 512, 512]⟩

abbrev nBuf : Space → Nat
  | .hbm => 128
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2464, .f32⟩
  | .hbm, ⟨2, _⟩ => ⟨S256, .f32⟩
  | .hbm, ⟨3, _⟩ => ⟨S256x768, .f32⟩
  | .hbm, ⟨4, _⟩ => ⟨S128, .f32⟩
  | .hbm, ⟨5, _⟩ => ⟨S128x1024, .f32⟩
  | .hbm, ⟨6, _⟩ => ⟨S8192, .i32⟩
  | .hbm, ⟨7, _⟩ => ⟨S8192x2464, .f32⟩
  | .hbm, ⟨8, _⟩ => ⟨S8192x256, .f32⟩
  | .hbm, ⟨9, _⟩ => ⟨S8192x128, .f32⟩
  | .hbm, ⟨10, _⟩ => ⟨S8192x32, .f32⟩
  | .hbm, ⟨11, _⟩ => ⟨S8192x2048, .f32⟩
  | .hbm, ⟨12, _⟩ => ⟨S16, .f32⟩
  | .hbm, ⟨13, _⟩ => ⟨S_, .f32⟩
  | .hbm, ⟨14, _⟩ => ⟨S16, .f32⟩
  | .hbm, ⟨15, _⟩ => ⟨S16, .f32⟩
  | .hbm, ⟨16, _⟩ => ⟨S_, .f32⟩
  | .hbm, ⟨17, _⟩ => ⟨S16, .f32⟩
  | .hbm, ⟨18, _⟩ => ⟨S16, .f32⟩
  | .hbm, ⟨19, _⟩ => ⟨S_, .f32⟩
  | .hbm, ⟨20, _⟩ => ⟨S16, .f32⟩
  | .hbm, ⟨21, _⟩ => ⟨S16, .f32⟩
  | .hbm, ⟨22, _⟩ => ⟨S8192, .f32⟩
  | .hbm, ⟨23, _⟩ => ⟨S8192x1, .f32⟩
  | .hbm, ⟨24, _⟩ => ⟨S1x16, .f32⟩
  | .hbm, ⟨25, _⟩ => ⟨S8192x16, .f32⟩
  | .hbm, ⟨26, _⟩ => ⟨S8192x16, .f32⟩
  | .hbm, ⟨27, _⟩ => ⟨S8192x16, .f32⟩
  | .hbm, ⟨28, _⟩ => ⟨S8192x16, .f32⟩
  | .hbm, ⟨29, _⟩ => ⟨S8192x1x16, .f32⟩
  | .hbm, ⟨30, _⟩ => ⟨S8192x16, .f32⟩
  | .hbm, ⟨31, _⟩ => ⟨S8192x1x16, .f32⟩
  | .hbm, ⟨32, _⟩ => ⟨S8192x256, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S8192x1, .f32⟩
  | .hbm, ⟨43, _⟩ => ⟨S8192x256, .f32⟩
  | .hbm, ⟨44, _⟩ => ⟨S8192x256, .f32⟩
  | .hbm, ⟨45, _⟩ => ⟨S1x256, .f32⟩
  | .hbm, ⟨46, _⟩ => ⟨S8192x256, .f32⟩
  | .hbm, ⟨47, _⟩ => ⟨S8192x256, .f32⟩
  | .hbm, ⟨48, _⟩ => ⟨S8192x768, .f32⟩
  | .hbm, ⟨49, _⟩ => ⟨S8192x8x96, .f32⟩
  | .hbm, ⟨50, _⟩ => ⟨S8192x8x64, .f32⟩
  | .hbm, ⟨51, _⟩ => ⟨S8192x8x32, .f32⟩
  | .hbm, ⟨52, _⟩ => ⟨S8192x8x16, .f32⟩
  | .hbm, ⟨53, _⟩ => ⟨S8192x8x16, .f32⟩
  | .hbm, ⟨54, _⟩ => ⟨S8192x8x16, .f32⟩
  | .hbm, ⟨55, _⟩ => ⟨S8192x8x16, .f32⟩
  | .hbm, ⟨56, _⟩ => ⟨S8192x8x16, .f32⟩
  | .hbm, ⟨57, _⟩ => ⟨S8192x8x16, .f32⟩
  | .hbm, ⟨58, _⟩ => ⟨S8192x8x16, .f32⟩
  | .hbm, ⟨59, _⟩ => ⟨S8192x8x16, .f32⟩
  | .hbm, ⟨60, _⟩ => ⟨S8192x8x16, .f32⟩
  | .hbm, ⟨61, _⟩ => ⟨S8192x8x16, .f32⟩
  | .hbm, ⟨62, _⟩ => ⟨S8192x8x16, .f32⟩
  | .hbm, ⟨63, _⟩ => ⟨S8192x8x16, .f32⟩
  | .hbm, ⟨64, _⟩ => ⟨S8192x8x32, .f32⟩
  | .hbm, ⟨65, _⟩ => ⟨S8192x8x96, .f32⟩
  | .hbm, ⟨66, _⟩ => ⟨S_, .f32⟩
  | .hbm, ⟨67, _⟩ => ⟨S8192x8x96, .f32⟩
  | .hbm, ⟨68, _⟩ => ⟨S8192x8x96, .f32⟩
  | .hbm, ⟨69, _⟩ => ⟨S8192x128, .f32⟩
  | .hbm, ⟨70, _⟩ => ⟨S_, .f32⟩
  | .hbm, ⟨71, _⟩ => ⟨S8192, .f32⟩
  | .hbm, ⟨72, _⟩ => ⟨S8192x1, .f32⟩
  | .hbm, ⟨73, _⟩ => ⟨S_, .f32⟩
  | .hbm, ⟨74, _⟩ => ⟨S8192x1, .f32⟩
  | .hbm, ⟨75, _⟩ => ⟨S8192x1, .f32⟩
  | .hbm, ⟨76, _⟩ => ⟨S_, .f32⟩
  | .hbm, ⟨77, _⟩ => ⟨S8192x1, .f32⟩
  | .hbm, ⟨78, _⟩ => ⟨S8192x1, .f32⟩
  | .hbm, ⟨79, _⟩ => ⟨S8192x1, .f32⟩
  | .hbm, ⟨80, _⟩ => ⟨S8192x128, .f32⟩
  | .hbm, ⟨81, _⟩ => ⟨S8192x128, .f32⟩
  | .hbm, ⟨82, _⟩ => ⟨S1x128, .f32⟩
  | .hbm, ⟨83, _⟩ => ⟨S8192x128, .f32⟩
  | .hbm, ⟨84, _⟩ => ⟨S8192x128, .f32⟩
  | .hbm, ⟨85, _⟩ => ⟨S8192x1024, .f32⟩
  | .hbm, ⟨86, _⟩ => ⟨S8192x8x128, .f32⟩
  | .hbm, ⟨87, _⟩ => ⟨S8192x1x32, .f32⟩
  | .hbm, ⟨88, _⟩ => ⟨S8192x1x16, .f32⟩
  | .hbm, ⟨89, _⟩ => ⟨S8192x1x16, .f32⟩
  | .hbm, ⟨90, _⟩ => ⟨S8192x1x16, .f32⟩
  | .hbm, ⟨91, _⟩ => ⟨S8192x1x16, .f32⟩
  | .hbm, ⟨92, _⟩ => ⟨S8192x1x16, .f32⟩
  | .hbm, ⟨93, _⟩ => ⟨S8192x1x16, .f32⟩
  | .hbm, ⟨94, _⟩ => ⟨S8192x1x16, .f32⟩
  | .hbm, ⟨95, _⟩ => ⟨S8192x1x16, .f32⟩
  | .hbm, ⟨96, _⟩ => ⟨S8192x1x32, .f32⟩
  | .hbm, ⟨97, _⟩ => ⟨S8192x8x32, .f32⟩
  | .hbm, ⟨98, _⟩ => ⟨S8192x8x64, .f32⟩
  | .hbm, ⟨99, _⟩ => ⟨S8192x8x96, .f32⟩
  | .hbm, ⟨100, _⟩ => ⟨S8192x8x64, .f32⟩
  | .hbm, ⟨101, _⟩ => ⟨S8192x512, .f32⟩
  | .hbm, ⟨102, _⟩ => ⟨S_, .f32⟩
  | .hbm, ⟨103, _⟩ => ⟨S8192x64, .f32⟩
  | .hbm, ⟨104, _⟩ => ⟨S_, .f32⟩
  | .hbm, ⟨105, _⟩ => ⟨S8192x64, .f32⟩
  | .hbm, ⟨106, _⟩ => ⟨S8192x16, .f32⟩
  | .hbm, ⟨107, _⟩ => ⟨S8192x16, .f32⟩
  | .hbm, ⟨108, _⟩ => ⟨S8192x32, .f32⟩
  | .hbm, ⟨109, _⟩ => ⟨S8192x16, .f32⟩
  | .hbm, ⟨110, _⟩ => ⟨S8192x16, .f32⟩
  | .hbm, ⟨111, _⟩ => ⟨S8192x32, .f32⟩
  | .hbm, ⟨112, _⟩ => ⟨S8192x256, .f32⟩
  | .hbm, ⟨113, _⟩ => ⟨S16x512x512, .f32⟩
  | .hbm, ⟨114, _⟩ => ⟨S16x512x512, .f32⟩
  | .hbm, ⟨115, _⟩ => ⟨S8192x2048, .bf16⟩
  | .hbm, ⟨116, _⟩ => ⟨S_, .i32⟩
  | .hbm, ⟨117, _⟩ => ⟨S_, .f32⟩
  | .hbm, ⟨118, _⟩ => ⟨S8192x8x128, .f32⟩
  | .hbm, ⟨119, _⟩ => ⟨S8192x1024, .f32⟩
  | .hbm, ⟨120, _⟩ => ⟨S8192x1024, .bf16⟩
  | .hbm, ⟨121, _⟩ => ⟨S_, .i32⟩
  | .hbm, ⟨122, _⟩ => ⟨S_, .f32⟩
  | .hbm, ⟨123, _⟩ => ⟨S8192x8x128, .f32⟩
  | .hbm, ⟨124, _⟩ => ⟨S8192x1024, .f32⟩
  | .hbm, ⟨125, _⟩ => ⟨S8192x1024, .bf16⟩
  | .hbm, ⟨126, _⟩ => ⟨S8192x512, .bf16⟩
  | .hbm, ⟨127, _⟩ => ⟨S16x512x512, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_5 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_cst_6 : Ref sig .tc := ⟨.hbm, 70, rfl⟩
abbrev main_v56 : Ref sig .tc := ⟨.hbm, 71, rfl⟩
abbrev main_v57 : Ref sig .tc := ⟨.hbm, 72, rfl⟩
abbrev main_cst_7 : Ref sig .tc := ⟨.hbm, 73, rfl⟩
abbrev main_v58 : Ref sig .tc := ⟨.hbm, 74, rfl⟩
abbrev main_v59 : Ref sig .tc := ⟨.hbm, 75, rfl⟩
abbrev main_cst_8 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_cst_9 : Ref sig .tc := ⟨.hbm, 102, rfl⟩
abbrev main_v85 : Ref sig .tc := ⟨.hbm, 103, rfl⟩
abbrev main_cst_10 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_c : Ref sig .tc := ⟨.hbm, 116, rfl⟩
abbrev main_call0_v0 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_c_11 : Ref sig .tc := ⟨.hbm, 121, rfl⟩
abbrev main_call1_v0 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩

abbrev nD : Nat := 1
abbrev τ : Topo := Topo.v7x

variable {F : FTy → Type} [FloatOps F]
-- ==== Proof.Offsets.lean ====
/-
  The row offsets of the kernel's loads and stores, the loop's trip count and the branches' conditions, in closed form
  over the whole grid: query block `i 1` of 512 rows meets key blocks of 2048 rows, `i 1 / 4` whole ones in the loop
  and one last, shorter one picked by `i 1 % 4`.
-/
module

public import proofs.«01_k».proof.Proof.Gen.KernelIdeal.Loops

@[expose] public section

set_option maxRecDepth 16384

noncomputable section

namespace Cert.KernelIdeal.Hand

open Idealize.ShloMosaic Idealize.ShloMosaic.TcCoe Idealize.ShloMosaic.Tactic
open Cert.KernelIdeal

theorem t1_trips : ∀ i : grid0.Coords, (k0_t1_loop i).trips = (i 1).val / 4 := by decide +kernel
theorem t2_trips : ∀ i : grid0.Coords, (k0_t2_loop i).trips = 0 := by decide +kernel

theorem k0_off1_eq : ∀ (i : grid0.Coords) (k : Fin (k0_t1_loop i).trips), k0_off1 i k = ![2048 * k.val, 0] := by decide +kernel
theorem k0_off2_eq : ∀ (i : grid0.Coords) (k : Fin (k0_t1_loop i).trips), k0_off2 i k = ![2048 * k.val, 0] := by decide +kernel
theorem k0_off3_eq : ∀ (i : grid0.Coords) (k : Fin (k0_t1_loop i).trips), k0_off3 i k = ![2048 * k.val, 128] := by decide +kernel

theorem k0_off7_eq : ∀ i : grid0.Coords, k0_off7 i = ![2048 * ((i 1).val / 4), 0] := by decide +kernel
theorem k0_off8_eq : ∀ i : grid0.Coords, k0_off8 i = ![2048 * ((i 1).val / 4), 0] := by decide +kernel
theorem k0_off9_eq : ∀ i : grid0.Coords, k0_off9 i = ![2048 * ((i 1).val / 4), 128] := by decide +kernel
theorem k0_off10_eq : ∀ i : grid0.Coords, k0_off10 i = ![2048 * ((i 1).val / 4), 0] := by decide +kernel
theorem k0_off11_eq : ∀ i : grid0.Coords, k0_off11 i = ![2048 * ((i 1).val / 4), 0] := by decide +kernel
theorem k0_off12_eq : ∀ i : grid0.Coords, k0_off12 i = ![2048 * ((i 1).val / 4), 128] := by decide +kernel
theorem k0_off13_eq : ∀ i : grid0.Coords, k0_off13 i = ![2048 * ((i 1).val / 4), 0] := by decide +kernel
theorem k0_off14_eq : ∀ i : grid0.Coords, k0_off14 i = ![2048 * ((i 1).val / 4), 0] := by decide +kernel
theorem k0_off15_eq : ∀ i : grid0.Coords, k0_off15 i = ![2048 * ((i 1).val / 4), 128] := by decide +kernel
theorem k0_off16_eq : ∀ i : grid0.Coords, k0_off16 i = ![2048 * ((i 1).val / 4), 0] := by decide +kernel
theorem k0_off17_eq : ∀ i : grid0.Coords, k0_off17 i = ![2048 * ((i 1).val / 4), 0] := by decide +kernel
theorem k0_off18_eq : ∀ i : grid0.Coords, k0_off18 i = ![2048 * ((i 1).val / 4), 128] := by decide +kernel

instance (i : grid0.Coords) (k : Fin (k0_t1_loop i).trips) : ClosedOff (k0_off1 i k) := ⟨_, k0_off1_eq i k⟩
instance (i : grid0.Coords) (k : Fin (k0_t1_loop i).trips) : ClosedOff (k0_off2 i k) := ⟨_, k0_off2_eq i k⟩
instance (i : grid0.Coords) (k : Fin (k0_t1_loop i).trips) : ClosedOff (k0_off3 i k) := ⟨_, k0_off3_eq i k⟩
instance (i : grid0.Coords) : ClosedOff (k0_off7 i) := ⟨_, k0_off7_eq i⟩
instance (i : grid0.Coords) : ClosedOff (k0_off8 i) := ⟨_, k0_off8_eq i⟩
instance (i : grid0.Coords) : ClosedOff (k0_off9 i) := ⟨_, k0_off9_eq i⟩
instance (i : grid0.Coords) : ClosedOff (k0_off10 i) := ⟨_, k0_off10_eq i⟩
instance (i : grid0.Coords) : ClosedOff (k0_off11 i) := ⟨_, k0_off11_eq i⟩
instance (i : grid0.Coords) : ClosedOff (k0_off12 i) := ⟨_, k0_off12_eq i⟩
instance (i : grid0.Coords) : ClosedOff (k0_off13 i) := ⟨_, k0_off13_eq i⟩
instance (i : grid0.Coords) : ClosedOff (k0_off14 i) := ⟨_, k0_off14_eq i⟩
instance (i : grid0.Coords) : ClosedOff (k0_off15 i) := ⟨_, k0_off15_eq i⟩
instance (i : grid0.Coords) : ClosedOff (k0_off16 i) := ⟨_, k0_off16_eq i⟩
instance (i : grid0.Coords) : ClosedOff (k0_off17 i) := ⟨_, k0_off17_eq i⟩
instance (i : grid0.Coords) : ClosedOff (k0_off18 i) := ⟨_, k0_off18_eq i⟩

theorem cond2_iff : ∀ i : grid0.Coords, k0_cond2 i = 1#1 ↔ (i 1).val % 4 ≠ 0 := by decide +kernel
theorem cond3_iff : ∀ i : grid0.Coords, k0_cond2 i = 1#1 → (k0_cond3 i = 1#1 ↔ (i 1).val % 4 ≠ 1) := by decide +kernel
theorem cond4_iff : ∀ i : grid0.Coords, k0_cond2 i = 1#1 → k0_cond3 i = 1#1 → (k0_cond4 i = 1#1 ↔ (i 1).val % 4 = 3) := by decide +kernel
theorem cond5_iff : ∀ i : grid0.Coords, k0_cond5 i = 1#1 ↔ (i 1).val = 15 := by decide +kernel

end Cert.KernelIdeal.Hand
-- ==== Proof.Loop.lean ====
/-
  The kernel's loop over whole blocks of 2048 keys: what one trip leaves in the two gradient accumulators and in the
  two halves of the query gradient it carries, as a function on arrays, and the run of the loop.
-/
module

public import proofs.«01_k».proof.Proof.Offsets
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open VecWindow

variable {F : FTy → Type} [FloatOps F] [Named F]

abbrev UU (nD : Nat) (τ : Topo) : Type := UR sig nD τ
abbrev 𝒱₀ : Variants := Variants.none

local notation "𝕄" => MT nD τ sig Unit (Elt F) ℕ (UR sig nD τ) ℕ

/-- Core `c` holds the whole buffer under `M`, which reads `X`. -/
def ow (c : Dev nD) {sp : Space} {S : Shape} {e : EltTy} (M : Memref sig .tc sp S e) (X : S.Idx → Elt F e) : sProp 𝕄 :=
  iprop(∃ f : Buf (Elt F) (M.view.loc (c : Thread nD τ)), ⌜M.view.read (Elt F) f = X⌝ ∗ (M.view.loc (c : Thread nD τ) ↦{fullShare} f))

/-- The two accumulators and the two halves of the query gradient. -/
structure St (F : FTy → Type) [FloatOps F] where
  dk : S8192x256.Idx → Elt F .f32
  dv : S8192x128.Idx → Elt F .f32
  q0 : FVec F S512x128 .f32
  q1 : FVec F S512x128 .f32

/-- What the loop reads and never writes: the query block's values and the two key arrays. -/
structure Row (F : FTy → Type) [FloatOps F] where
  v7 : FVec F S512x128 .bf16
  v9 : FVec F S512x128 .bf16
  v10 : FVec F S512x128 .bf16
  v18 : FVec F S1x512 .f32
  v21 : FVec F S1x512 .f32
  v23 : FVec F S1x512 .f32
  v25 : FVec F S1x512 .f32
  v27 : FVec F S512x128 .bf16
  v29 : FVec F S512x128 .bf16
  k : S8192x256.Idx → Elt F .bf16
  v : S8192x128.Idx → Elt F .bf16

/-- One trip on arrays. -/
def trip (i : grid0.Coords) (R : Row F) (k : Fin (k0_t1_loop i).trips) (S : St F) : St F :=
  let kv := window R.v (k0_off1 i k) S2048x128.size (k0_off1_inb i k)
  let ka := window R.k (k0_off2 i k) S2048x128.size (k0_off2_inb i k)
  let kb := window R.k (k0_off3 i k) S2048x128.size (k0_off3_inb i k)
  { dk := put (put S.dk (k0_off2 i k) S2048x128.size
              (k0_pay14 R.v9 R.v18 R.v23 R.v27 kv ka (window S.dk (k0_off2 i k) S2048x128.size (k0_off2_inb i k))))
            (k0_off3 i k) S2048x128.size
            (k0_pay100 R.v29 (k0_pay19 R.v10 R.v21 R.v25 R.v29 kv kb) (window S.dk (k0_off3 i k) S2048x128.size (k0_off3_inb i k)))
    dv := put S.dv (k0_off1 i k) S2048x128.size
            (k0_pay102 (k0_pay12 R.v7 R.v23 R.v27 ka) (k0_pay18 R.v7 R.v25 R.v29 kb) (window S.dv (k0_off1 i k) S2048x128.size (k0_off1_inb i k)))
    q0 := k0_pay15 R.v9 R.v18 R.v23 R.v27 S.q0 kv ka
    q1 := k0_pay101 S.q1 (k0_pay16 kb) (k0_pay19 R.v10 R.v21 R.v25 R.v29 kv kb) }

/-- Before trip `n`. -/
def stAt (i : grid0.Coords) (R : Row F) (S : St F) : ℕ → St F
  | 0 => S
  | n + 1 => if h : n < (k0_t1_loop i).trips then trip i R ⟨n, h⟩ (stAt i R S n) else stAt i R S n

theorem stAt_succ (i : grid0.Coords) (R : Row F) (S : St F) (k : Fin (k0_t1_loop i).trips) :
    stAt i R S (k.val + 1) = trip i R k (stAt i R S k.val) := by
  rw [stAt.eq_2]; exact dif_pos k.isLt

set_option maxHeartbeats 1000000 in
/-- One trip of the loop, run. -/
theorem trip_run (c : Dev nD) (i : grid0.Coords)
  {arg2 : Memref sig .tc .vmem S512x256 .bf16} {harg2 : arg2.IsWhole}
  {arg3 : Memref sig .tc .vmem S8192x256 .bf16} {harg3 : arg3.IsWhole}
  {arg4 : Memref sig .tc .vmem S8192x128 .bf16} {harg4 : arg4.IsWhole}
  {arg5 : Memref sig .tc .vmem S512x128 .bf16} {harg5 : arg5.IsWhole}
  {arg6 : Memref sig .tc .vmem S512x128 .f32} {harg6 : arg6.IsWhole}
  {arg7 : Memref sig .tc .vmem S1x1x2x512 .f32} {harg7 : arg7.IsWhole}
  {arg8 : Memref sig .tc .vmem S512x256 .f32} {harg8 : arg8.IsWhole}
  {arg9 : Memref sig .tc .vmem S16x1024 .f32} {harg9 : arg9.IsWhole}
  {arg10 : Memref sig .tc .vmem S512x256 .bf16} {harg10 : arg10.IsWhole}
  {arg11 : Memref sig .tc .vmem S8192x256 .bf16} {harg11 : arg11.IsWhole}
  {arg12 : Memref sig .tc .vmem S8192x128 .bf16} {harg12 : arg12.IsWhole}
  {arg13 : Memref sig .tc .vmem S8192x256 .f32} {harg13 : arg13.IsWhole}
  {arg14 : Memref sig .tc .vmem S8192x128 .f32} {harg14 : arg14.IsWhole}
  {arg1 : BitVec 32} {v7 v9 v10 : FVec F S512x128 .bf16} {v18 v21 v23 v25 : FVec F S1x512 .f32} {v27 v29 : FVec F S512x128 .bf16} {v30 v31 : FVec F S512x128 .f32} {c4_i32 : BitVec 32} (X3 : S8192x256.Idx → Elt F .bf16) (X4 : S8192x128.Idx → Elt F .bf16)
    (k : Fin (k0_t1_loop i).trips) (S : St F) :
    iprop(ow c arg3 X3 ∗ ow c arg4 X4 ∗ ow c arg13 S.dk ∗ ow c arg14 S.dv)
      ⊢ wp frame (wpE (defs₀ (F := F)) 𝒱₀ (c : Thread nD τ) none) Set.univ
        (k0_t1_body i arg2 harg2 arg3 harg3 arg4 harg4 arg5 harg5 arg6 harg6 arg7 harg7 arg8 harg8 arg9 harg9 arg10 harg10 arg11 harg11 arg12 harg12 arg13 harg13 arg14 harg14 arg1 v7 v9 v10 v18 v21 v23 v25 v27 v29 v30 v31 c4_i32 k (S.q0, S.q1))
        (fun r => iprop(⌜r = ((trip i ⟨v7, v9, v10, v18, v21, v23, v25, v27, v29, X3, X4⟩ k S).q0, (trip i ⟨v7, v9, v10, v18, v21, v23, v25, v27, v29, X3, X4⟩ k S).q1)⌝
          ∗ ow c arg3 X3 ∗ ow c arg4 X4 ∗ ow c arg13 (trip i ⟨v7, v9, v10, v18, v21, v23, v25, v27, v29, X3, X4⟩ k S).dk
          ∗ ow c arg14 (trip i ⟨v7, v9, v10, v18, v21, v23, v25, v27, v29, X3, X4⟩ k S).dv)) := by
  unfold k0_t1_body ow
  iintro ⟨⟨%f3, %h3, H3⟩, ⟨%f4, %h4, H4⟩, ⟨%f13, %h13, H13⟩, ⟨%f14, %h14, H14⟩⟩
  obtain ⟨dk, dv, q0, q1⟩ := S
  subst h3 h4
  dsimp only at h13 h14
  subst h13 h14
  sl_exec
  sl_step
  isplitr
  · ipureintro
    rfl
  isplitl [H3]; · iexists _; isplitr; swap; (· iexact H3); ipureintro; rfl
  isplitl [H4]; · iexists _; isplitr; swap; (· iexact H4); ipureintro; rfl
  isplitl [H13]
  · iexists _; isplitr; swap; (· iexact H13); ipureintro
    rw [View.read_writes_cons_put _ _ _ _ _ rfl, View.read_writes_cons_put _ _ _ _ _ rfl]; rfl
  · iexists _; isplitr; swap; (· iexact H14); ipureintro
    rw [View.read_writes_cons_put _ _ _ _ _ rfl]; rfl

/-- The loop's invariant: before trip `n` the accumulators and the carried halves are `stAt … n`. -/
abbrev loopI (c : Dev nD) (i : grid0.Coords) (R : Row F) (S : St F) (arg3 : Memref sig .tc .vmem S8192x256 .bf16) (arg4 : Memref sig .tc .vmem S8192x128 .bf16)
    (arg13 : Memref sig .tc .vmem S8192x256 .f32) (arg14 : Memref sig .tc .vmem S8192x128 .f32) (n : ℕ) (acc : FVec F S512x128 .f32 × FVec F S512x128 .f32) : sProp 𝕄 :=
  iprop(⌜acc = ((stAt i R S n).q0, (stAt i R S n).q1)⌝
    ∗ ow c arg3 R.k ∗ ow c arg4 R.v ∗ ow c arg13 (stAt i R S n).dk ∗ ow c arg14 (stAt i R S n).dv)

theorem loop_step (c : Dev nD) (S : St F) (X3 : S8192x256.Idx → Elt F .bf16) (X4 : S8192x128.Idx → Elt F .bf16) (i : grid0.Coords)
  {arg2 : Memref sig .tc .vmem S512x256 .bf16} {harg2 : arg2.IsWhole}
  {arg3 : Memref sig .tc .vmem S8192x256 .bf16} {harg3 : arg3.IsWhole}
  {arg4 : Memref sig .tc .vmem S8192x128 .bf16} {harg4 : arg4.IsWhole}
  {arg5 : Memref sig .tc .vmem S512x128 .bf16} {harg5 : arg5.IsWhole}
  {arg6 : Memref sig .tc .vmem S512x128 .f32} {harg6 : arg6.IsWhole}
  {arg7 : Memref sig .tc .vmem S1x1x2x512 .f32} {harg7 : arg7.IsWhole}
  {arg8 : Memref sig .tc .vmem S512x256 .f32} {harg8 : arg8.IsWhole}
  {arg9 : Memref sig .tc .vmem S16x1024 .f32} {harg9 : arg9.IsWhole}
  {arg10 : Memref sig .tc .vmem S512x256 .bf16} {harg10 : arg10.IsWhole}
  {arg11 : Memref sig .tc .vmem S8192x256 .bf16} {harg11 : arg11.IsWhole}
  {arg12 : Memref sig .tc .vmem S8192x128 .bf16} {harg12 : arg12.IsWhole}
  {arg13 : Memref sig .tc .vmem S8192x256 .f32} {harg13 : arg13.IsWhole}
  {arg14 : Memref sig .tc .vmem S8192x128 .f32} {harg14 : arg14.IsWhole}
  {arg1 : BitVec 32} {v7 v9 v10 : FVec F S512x128 .bf16} {v18 v21 v23 v25 : FVec F S1x512 .f32} {v27 v29 : FVec F S512x128 .bf16} {v30 v31 : FVec F S512x128 .f32} {c4_i32 : BitVec 32} (k : Fin (k0_t1_loop i).trips) (acc : FVec F S512x128 .f32 × FVec F S512x128 .f32) :
    loopI c i ⟨v7, v9, v10, v18, v21, v23, v25, v27, v29, X3, X4⟩ S arg3 arg4 arg13 arg14 k.val acc
      ⊢ wp frame (wpE (defs₀ (F := F)) 𝒱₀ (c : Thread nD τ) none) Set.univ
        (k0_t1_body i arg2 harg2 arg3 harg3 arg4 harg4 arg5 harg5 arg6 harg6 arg7 harg7 arg8 harg8 arg9 harg9 arg10 harg10 arg11 harg11 arg12 harg12 arg13 harg13 arg14 harg14 arg1 v7 v9 v10 v18 v21 v23 v25 v27 v29 v30 v31 c4_i32 k acc)
        (loopI c i ⟨v7, v9, v10, v18, v21, v23, v25, v27, v29, X3, X4⟩ S arg3 arg4 arg13 arg14 (k.val + 1)) := by
  unfold loopI
  iintro ⟨%hacc, H⟩
  subst hacc
  rw [stAt_succ]
  iapply trip_run
  iexact H

end Cert.KernelIdeal.Hand
-- ==== Proof.Branch.lean ====
/-
  The kernel's last step on the block of keys the query block itself lies in (512, 1024, 1536 or 2048 keys, the later
  keys masked out): what it leaves, as functions on arrays, and the run of the loop and of that step.
-/
module

public import proofs.«01_k».proof.Proof.Loop
public import Idealize.ShloMosaic.Lib.Pipeline.TableIdle

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open VecWindow

variable {F : FTy → Type} [FloatOps F] [Named F]

local notation "𝕄" => MT nD τ sig Unit (Elt F) ℕ (UR sig nD τ) ℕ

/-- The last step over 2048 keys. -/
def last2048 (i : grid0.Coords) (h2 : k0_cond2 i = 1#1) (h3 : k0_cond3 i = 1#1) (h4 : k0_cond4 i = 1#1) (R : Row F) (S : St F) : St F :=
  let kv := window R.v (k0_off7 i) S2048x128.size (k0_off7_inb i h2 h3 h4)
  let ka := window R.k (k0_off8 i) S2048x128.size (k0_off8_inb i h2 h3 h4)
  let kb := window R.k (k0_off9 i) S2048x128.size (k0_off9_inb i h2 h3 h4)
  let ds := k0_pay35 R.v9 R.v18 R.v23 R.v27 kv ka
  { dk := put (put S.dk (k0_off8 i) S2048x128.size (k0_pay36 R.v27 ds (window S.dk (k0_off8 i) S2048x128.size (k0_off8_inb i h2 h3 h4))))
            (k0_off9 i) S2048x128.size (k0_pay42 R.v10 R.v21 R.v25 R.v29 (k0_pay31 kv) kb (window S.dk (k0_off9 i) S2048x128.size (k0_off9_inb i h2 h3 h4)))
    dv := put S.dv (k0_off7 i) S2048x128.size (k0_pay107 (k0_pay34 R.v7 R.v23 R.v27 ka) (k0_pay40 R.v7 R.v25 R.v29 kb)
            (window S.dv (k0_off7 i) S2048x128.size (k0_off7_inb i h2 h3 h4)))
    q0 := k0_pay37 S.q0 (k0_pay32 ka) ds
    q1 := k0_pay43 R.v10 R.v21 R.v25 R.v29 S.q1 (k0_pay31 kv) kb }

/-- The last step over 1536 keys. -/
def last1536 (i : grid0.Coords) (h2 : k0_cond2 i = 1#1) (h3 : k0_cond3 i = 1#1) (h4 : ¬(k0_cond4 i = 1#1)) (R : Row F) (S : St F) : St F :=
  let kv := window R.v (k0_off10 i) S1536x128.size (k0_off10_inb i h2 h3 h4)
  let ka := window R.k (k0_off11 i) S1536x128.size (k0_off11_inb i h2 h3 h4)
  let kb := window R.k (k0_off12 i) S1536x128.size (k0_off12_inb i h2 h3 h4)
  let ds := k0_pay48 R.v9 R.v18 R.v23 R.v27 kv ka
  { dk := put (put S.dk (k0_off11 i) S1536x128.size (k0_pay49 R.v27 ds (window S.dk (k0_off11 i) S1536x128.size (k0_off11_inb i h2 h3 h4))))
            (k0_off12 i) S1536x128.size (k0_pay55 R.v10 R.v21 R.v25 R.v29 (k0_pay44 kv) kb (window S.dk (k0_off12 i) S1536x128.size (k0_off12_inb i h2 h3 h4)))
    dv := put S.dv (k0_off10 i) S1536x128.size (k0_pay108 (k0_pay47 R.v7 R.v23 R.v27 ka) (k0_pay53 R.v7 R.v25 R.v29 kb)
            (window S.dv (k0_off10 i) S1536x128.size (k0_off10_inb i h2 h3 h4)))
    q0 := k0_pay50 S.q0 (k0_pay45 ka) ds
    q1 := k0_pay56 R.v10 R.v21 R.v25 R.v29 S.q1 (k0_pay44 kv) kb }

/-- The last step over 1024 keys. -/
def last1024 (i : grid0.Coords) (h2 : k0_cond2 i = 1#1) (h3 : ¬(k0_cond3 i = 1#1)) (R : Row F) (S : St F) : St F :=
  let kv := window R.v (k0_off13 i) S1024x128.size (k0_off13_inb i h2 h3)
  let ka := window R.k (k0_off14 i) S1024x128.size (k0_off14_inb i h2 h3)
  let kb := window R.k (k0_off15 i) S1024x128.size (k0_off15_inb i h2 h3)
  let ds := k0_pay61 R.v9 R.v18 R.v23 R.v27 kv ka
  { dk := put (put S.dk (k0_off14 i) S1024x128.size (k0_pay62 R.v27 ds (window S.dk (k0_off14 i) S1024x128.size (k0_off14_inb i h2 h3))))
            (k0_off15 i) S1024x128.size (k0_pay68 R.v10 R.v21 R.v25 R.v29 (k0_pay57 kv) kb (window S.dk (k0_off15 i) S1024x128.size (k0_off15_inb i h2 h3)))
    dv := put S.dv (k0_off13 i) S1024x128.size (k0_pay109 (k0_pay60 R.v7 R.v23 R.v27 ka) (k0_pay66 R.v7 R.v25 R.v29 kb)
            (window S.dv (k0_off13 i) S1024x128.size (k0_off13_inb i h2 h3)))
    q0 := k0_pay63 S.q0 (k0_pay58 ka) ds
    q1 := k0_pay69 R.v10 R.v21 R.v25 R.v29 S.q1 (k0_pay57 kv) kb }

/-- The last step over 512 keys. -/
def last512 (i : grid0.Coords) (h2 : ¬(k0_cond2 i = 1#1)) (R : Row F) (S : St F) : St F :=
  let kv := window R.v (k0_off16 i) S512x128.size (k0_off16_inb i h2)
  let ka := window R.k (k0_off17 i) S512x128.size (k0_off17_inb i h2)
  let kb := window R.k (k0_off18 i) S512x128.size (k0_off18_inb i h2)
  let ds := k0_pay74 R.v9 R.v18 R.v23 R.v27 kv ka
  { dk := put (put S.dk (k0_off17 i) S512x128.size (k0_pay75 R.v27 ds (window S.dk (k0_off17 i) S512x128.size (k0_off17_inb i h2))))
            (k0_off18 i) S512x128.size (k0_pay81 R.v10 R.v21 R.v25 R.v29 (k0_pay70 kv) kb (window S.dk (k0_off18 i) S512x128.size (k0_off18_inb i h2)))
    dv := put S.dv (k0_off16 i) S512x128.size (k0_pay110 (k0_pay73 R.v7 R.v23 R.v27 ka) (k0_pay79 R.v7 R.v25 R.v29 kb)
            (window S.dv (k0_off16 i) S512x128.size (k0_off16_inb i h2)))
    q0 := k0_pay76 S.q0 (k0_pay71 ka) ds
    q1 := k0_pay82 R.v10 R.v21 R.v25 R.v29 S.q1 (k0_pay70 kv) kb }

/-- The last step, picked by the query block's place among the 2048 keys. -/
def last (i : grid0.Coords) (R : Row F) (S : St F) : St F :=
  if h2 : k0_cond2 i = 1#1 then
    if h3 : k0_cond3 i = 1#1 then
      if h4 : k0_cond4 i = 1#1 then last2048 i h2 h3 h4 R S else last1536 i h2 h3 h4 R S
    else last1024 i h2 h3 R S
  else last512 i h2 R S

/-- The whole key sweep of one query block. -/
def sweep (i : grid0.Coords) (R : Row F) (S : St F) : St F := last i R (stAt i R S (k0_t1_loop i).trips)

/-- The second loop makes no trip. -/
@[sl_loop, instance_reducible] noncomputable def loopInv_k0_t2 (c : Dev nD) (i : grid0.Coords)
  (arg2 : Memref sig .tc .vmem S512x256 .bf16) (harg2 : arg2.IsWhole)
  (arg3 : Memref sig .tc .vmem S8192x256 .bf16) (harg3 : arg3.IsWhole)
  (arg4 : Memref sig .tc .vmem S8192x128 .bf16) (harg4 : arg4.IsWhole)
  (arg5 : Memref sig .tc .vmem S512x128 .bf16) (harg5 : arg5.IsWhole)
  (arg6 : Memref sig .tc .vmem S512x128 .f32) (harg6 : arg6.IsWhole)
  (arg7 : Memref sig .tc .vmem S1x1x2x512 .f32) (harg7 : arg7.IsWhole)
  (arg8 : Memref sig .tc .vmem S512x256 .f32) (harg8 : arg8.IsWhole)
  (arg9 : Memref sig .tc .vmem S16x1024 .f32) (harg9 : arg9.IsWhole)
  (arg10 : Memref sig .tc .vmem S512x256 .bf16) (harg10 : arg10.IsWhole)
  (arg11 : Memref sig .tc .vmem S8192x256 .bf16) (harg11 : arg11.IsWhole)
  (arg12 : Memref sig .tc .vmem S8192x128 .bf16) (harg12 : arg12.IsWhole)
  (arg13 : Memref sig .tc .vmem S8192x256 .f32) (harg13 : arg13.IsWhole)
  (arg14 : Memref sig .tc .vmem S8192x128 .f32) (harg14 : arg14.IsWhole)
  (arg1 : BitVec 32) (v7 v9 v10 : FVec F S512x128 .bf16) (v18 v21 v23 v25 : FVec F S1x512 .f32) (v27 v29 : FVec F S512x128 .bf16) (v30 v31 : FVec F S512x128 .f32) (c4_i32 : BitVec 32) (v53 : BitVec 32) (init : FVec F S512x128 .f32 × FVec F S512x128 .f32) :
    Gen.LoopInvTy_k0_t2 (F := F) Unit ℕ (UU nD τ) ℕ 𝒱₀ c none Set.univ i arg2 harg2 arg3 harg3 arg4 harg4 arg5 harg5 arg6 harg6 arg7 harg7 arg8 harg8 arg9 harg9 arg10 harg10 arg11 harg11 arg12 harg12 arg13 harg13 arg14 harg14 arg1 v7 v9 v10 v18 v21 v23 v25 v27 v29 v30 v31 c4_i32 v53 init where
  inv := fun _ acc => iprop(⌜acc = init⌝)
  step := fun k _ => absurd k.isLt (by have := t2_trips i; show ¬ k.val < (k0_t2_loop i).trips; omega)

set_option maxHeartbeats 2000000 in
/-- The key sweep, run: the loop, the empty second loop, the last step, and the load of the first rope factor. -/
theorem part12_run (c : Dev nD) (i : grid0.Coords)
  {arg2 : Memref sig .tc .vmem S512x256 .bf16} {harg2 : arg2.IsWhole}
  {arg3 : Memref sig .tc .vmem S8192x256 .bf16} {harg3 : arg3.IsWhole}
  {arg4 : Memref sig .tc .vmem S8192x128 .bf16} {harg4 : arg4.IsWhole}
  {arg5 : Memref sig .tc .vmem S512x128 .bf16} {harg5 : arg5.IsWhole}
  {arg6 : Memref sig .tc .vmem S512x128 .f32} {harg6 : arg6.IsWhole}
  {arg7 : Memref sig .tc .vmem S1x1x2x512 .f32} {harg7 : arg7.IsWhole}
  {arg8 : Memref sig .tc .vmem S512x256 .f32} {harg8 : arg8.IsWhole}
  {arg9 : Memref sig .tc .vmem S16x1024 .f32} {harg9 : arg9.IsWhole}
  {arg10 : Memref sig .tc .vmem S512x256 .bf16} {harg10 : arg10.IsWhole}
  {arg11 : Memref sig .tc .vmem S8192x256 .bf16} {harg11 : arg11.IsWhole}
  {arg12 : Memref sig .tc .vmem S8192x128 .bf16} {harg12 : arg12.IsWhole}
  {arg13 : Memref sig .tc .vmem S8192x256 .f32} {harg13 : arg13.IsWhole}
  {arg14 : Memref sig .tc .vmem S8192x128 .f32} {harg14 : arg14.IsWhole}
  {arg1 : BitVec 32} {v7 v9 v10 : FVec F S512x128 .bf16} {v18 v21 v23 v25 : FVec F S1x512 .f32} {v27 v29 : FVec F S512x128 .bf16} {v30 v31 : FVec F S512x128 .f32} {c4_i32 : BitVec 32} (X3 : S8192x256.Idx → Elt F .bf16) (X4 : S8192x128.Idx → Elt F .bf16)
    (X8 : S512x256.Idx → Elt F .f32) (dk : S8192x256.Idx → Elt F .f32) (dv : S8192x128.Idx → Elt F .f32) (S' : St F)
    (hS : S' = sweep i ⟨v7, v9, v10, v18, v21, v23, v25, v27, v29, X3, X4⟩ ⟨dk, dv, v30, v31⟩) :
    iprop(ow c arg3 X3 ∗ ow c arg4 X4 ∗ ow c arg13 dk ∗ ow c arg14 dv ∗ ow c arg8 X8)
      ⊢ wp frame (wpE (defs₀ (F := F)) 𝒱₀ (c : Thread nD τ) none) Set.univ
        (k0_part12 i arg2 harg2 arg3 harg3 arg4 harg4 arg5 harg5 arg6 harg6 arg7 harg7 arg8 harg8 arg9 harg9 arg10 harg10 arg11 harg11 arg12 harg12 arg13 harg13 arg14 harg14 arg1 v7 v9 v10 v18 v21 v23 v25 v27 v29 v30 v31 c4_i32)
        (fun r => iprop(⌜r = ⟨S'.q0, S'.q1, window X8 ![0, 0] S512x128.size inb_S512x256_S512x128_0_0⟩⌝
          ∗ ow c arg3 X3 ∗ ow c arg4 X4 ∗ ow c arg13 S'.dk ∗ ow c arg14 S'.dv ∗ ow c arg8 X8)) := by
  rw [k0_part12_eq_skeleton]
  unfold k0_part12_skel
  iintro ⟨H3, H4, H13, H14, H8⟩
  iapply (Scf.wp_for_bind _ _ _ _ _ _ _ _ _
    (loopI c i ⟨v7, v9, v10, v18, v21, v23, v25, v27, v29, X3, X4⟩ ⟨dk, dv, v30, v31⟩ arg3 arg4 arg13 arg14) (loop_step c ⟨dk, dv, v30, v31⟩ X3 X4 i)) $$ [H3 H4 H13 H14]
  · isplitr
    · ipureintro; rfl
    isplitl [H3]; · iexact H3
    isplitl [H4]; · iexact H4
    isplitl [H13]; · iexact H13
    iexact H14
  iintro %acc ⟨%hacc, H3, H4, H13, H14⟩
  subst hacc
  unfold sweep at hS
  rw [show Scf.trips (k0_t1_loop i).lb (k0_t1_loop i).ub (k0_t1_loop i).st = (k0_t1_loop i).trips from rfl]
  generalize stAt i ⟨v7, v9, v10, v18, v21, v23, v25, v27, v29, X3, X4⟩ ⟨dk, dv, v30, v31⟩ (k0_t1_loop i).trips = T at hS
  obtain ⟨dk, dv, q0, q1⟩ := T
  unfold ow
  icases H3 with ⟨%f3, %h3', H3⟩
  icases H4 with ⟨%f4, %h4', H4⟩
  icases H13 with ⟨%f13, %h13, H13⟩
  icases H14 with ⟨%f14, %h14, H14⟩
  icases H8 with ⟨%f8, %h8, H8⟩
  dsimp only at h13 h14
  subst h3' h4' h13 h14 h8
  unfold last at hS
  by_cases h2 : k0_cond2 i = 1#1
  · rw [dif_pos h2] at hS
    by_cases h3 : k0_cond3 i = 1#1
    · rw [dif_pos h3] at hS
      by_cases h4 : k0_cond4 i = 1#1
      · rw [dif_pos h4] at hS
        sl_exec (disch := first | sl_exact h2 | sl_exact h3 | sl_exact h4)
        sl_step
        subst hS
        isplitr
        · ipureintro; rfl
        isplitl [H3]; · iexists _; isplitr; swap; (· iexact H3); ipureintro; rfl
        isplitl [H4]; · iexists _; isplitr; swap; (· iexact H4); ipureintro; rfl
        isplitl [H13]
        · iexists _; isplitr; swap; (· iexact H13); ipureintro
          rw [View.read_writes_cons_put _ _ _ _ _ rfl, View.read_writes_cons_put _ _ _ _ _ rfl]; rfl
        isplitl [H14]
        · iexists _; isplitr; swap; (· iexact H14); ipureintro
          rw [View.read_writes_cons_put _ _ _ _ _ rfl]; rfl
        iexists _; isplitr; swap; (· iexact H8); ipureintro; rfl
      · rw [dif_neg h4] at hS
        sl_exec (disch := first | sl_exact h2 | sl_exact h3 | sl_exact h4)
        sl_step
        subst hS
        isplitr
        · ipureintro; rfl
        isplitl [H3]; · iexists _; isplitr; swap; (· iexact H3); ipureintro; rfl
        isplitl [H4]; · iexists _; isplitr; swap; (· iexact H4); ipureintro; rfl
        isplitl [H13]
        · iexists _; isplitr; swap; (· iexact H13); ipureintro
          rw [View.read_writes_cons_put _ _ _ _ _ rfl, View.read_writes_cons_put _ _ _ _ _ rfl]; rfl
        isplitl [H14]
        · iexists _; isplitr; swap; (· iexact H14); ipureintro
          rw [View.read_writes_cons_put _ _ _ _ _ rfl]; rfl
        iexists _; isplitr; swap; (· iexact H8); ipureintro; rfl
    · rw [dif_neg h3] at hS
      sl_exec (disch := first | sl_exact h2 | sl_exact h3)
      sl_step
      subst hS
      isplitr
      · ipureintro; rfl
      isplitl [H3]; · iexists _; isplitr; swap; (· iexact H3); ipureintro; rfl
      isplitl [H4]; · iexists _; isplitr; swap; (· iexact H4); ipureintro; rfl
      isplitl [H13]
      · iexists _; isplitr; swap; (· iexact H13); ipureintro
        rw [View.read_writes_cons_put _ _ _ _ _ rfl, View.read_writes_cons_put _ _ _ _ _ rfl]; rfl
      isplitl [H14]
      · iexists _; isplitr; swap; (· iexact H14); ipureintro
        rw [View.read_writes_cons_put _ _ _ _ _ rfl]; rfl
      iexists _; isplitr; swap; (· iexact H8); ipureintro; rfl
  · rw [dif_neg h2] at hS
    sl_exec (disch := sl_exact h2)
    sl_step
    subst hS
    isplitr
    · ipureintro; rfl
    isplitl [H3]; · iexists _; isplitr; swap; (· iexact H3); ipureintro; rfl
    isplitl [H4]; · iexists _; isplitr; swap; (· iexact H4); ipureintro; rfl
    isplitl [H13]
    · iexists _; isplitr; swap; (· iexact H13); ipureintro
      rw [View.read_writes_cons_put _ _ _ _ _ rfl, View.read_writes_cons_put _ _ _ _ _ rfl]; rfl
    isplitl [H14]
    · iexists _; isplitr; swap; (· iexact H14); ipureintro
      rw [View.read_writes_cons_put _ _ _ _ _ rfl]; rfl
    iexists _; isplitr; swap; (· iexact H8); ipureintro; rfl

end Cert.KernelIdeal.Hand
-- ==== Proof.Body.lean ====
/-
  The whole kernel body at one grid point, as functions on arrays, and its run.
-/
module

public import proofs.«01_k».proof.Proof.Branch

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open VecWindow

variable {F : FTy → Type} [FloatOps F] [Named F]

local notation "𝕄" => MT nD τ sig Unit (Elt F) ℕ (UR sig nD τ) ℕ

/-- The arrays a grid point reads. -/
structure Ins (F : FTy → Type) [FloatOps F] where
  q : S512x256.Idx → Elt F .bf16
  k : S8192x256.Idx → Elt F .bf16
  v : S8192x128.Idx → Elt F .bf16
  g : S512x128.Idx → Elt F .bf16
  o : S512x128.Idx → Elt F .f32
  l : S1x1x2x512.Idx → Elt F .f32
  cs : S512x256.Idx → Elt F .f32
  pv : S16x1024.Idx → Elt F .f32

/-- The query block's values. -/
def rowOf (I : Ins F) : Row F :=
  let g := window I.g ![0, 0] S512x128.size inb_S512x128_S512x128_0_0
  let o := window I.o ![0, 0] S512x128.size inb_S512x128_S512x128_0_0
  { v7 := k0_pay86 g
    v9 := k0_pay88 g
    v10 := k0_pay89 g
    v18 := k0_pay91 g o
    v21 := k0_pay92 g o
    v23 := k0_pay93 (window I.l ![0, 0, 0, 0] S1x1x1x512.size inb_S1x1x2x512_S1x1x1x512_0_0_0_0)
    v25 := k0_pay94 (window I.l ![0, 0, 1, 0] S1x1x1x512.size inb_S1x1x2x512_S1x1x1x512_0_0_1_0)
    v27 := k0_pay95 (window I.q ![0, 0] S512x128.size inb_S512x256_S512x128_0_0)
    v29 := k0_pay96 (window I.q ![0, 128] S512x128.size inb_S512x256_S512x128_0_128)
    k := I.k
    v := I.v }

/-- The accumulators a point starts from: zero at a pair's first query block. -/
def start (i : grid0.Coords) (dk : S8192x256.Idx → Elt F .f32) (dv : S8192x128.Idx → Elt F .f32) : St F :=
  if (i 1).val = 0 then ⟨k0_pay83, k0_pay84, k0_pay97, k0_pay98⟩ else ⟨dk, dv, k0_pay97, k0_pay98⟩

/-- What a point leaves in the accumulators and in the query gradient's halves. -/
def point (i : grid0.Coords) (I : Ins F) (dk : S8192x256.Idx → Elt F .f32) (dv : S8192x128.Idx → Elt F .f32) : St F :=
  sweep i (rowOf I) (start i dk dv)

/-- The query gradient's block, over what the buffer held. -/
def dqOver (I : Ins F) (S : St F) (Y : S512x256.Idx → Elt F .bf16) : S512x256.Idx → Elt F .bf16 :=
  let c := window I.cs ![0, 0] S512x128.size inb_S512x256_S512x128_0_0
  let s := window I.cs ![0, 128] S512x128.size inb_S512x256_S512x128_0_128
  let a := window I.pv ![5, 0] S1x128.size inb_S16x1024_S1x128_5_0
  let b := window I.pv ![6, 0] S1x128.size inb_S16x1024_S1x128_6_0
  put (put Y ![0, 0] S512x128.size (k0_pay5 S.q0 c s a b)) ![0, 128] S512x128.size (k0_pay6 S.q1 c s a b)

/-- The key gradient written out. -/
def dkOut (S : St F) : S8192x256.Idx → Elt F .bf16 := k0_pay7 S.dk
/-- The value gradient written out. -/
def dvOut (S : St F) : S8192x128.Idx → Elt F .bf16 := k0_pay8 S.dv

theorem window_full {α : Type} {s : Shape} (x : s.Idx → α) (off : Fin s.rank → ℕ) (inb : ∀ a, off a + s.size a ≤ s.size a) :
    window x off s.size inb = x := by
  funext y
  exact congrArg x (funext fun a => Fin.ext (by
    show off a + 1 * (y a).val = (y a).val
    have := inb a; omega))

/-- The comparison `i 1 == 0` as the kernel computes it. -/
theorem first_iff : ∀ i : grid0.Coords,
    Scalar.cmpi .ne (Scalar.extui (Scalar.cmpi .eq (BitVec.ofNat 32 (i 1).val) 0#32) : BitVec 32) 0#32 = 1#1 ↔ (i 1).val = 0 := by
  decide +kernel

set_option maxHeartbeats 1000000 in
/-- The kernel's first lines, run: the accumulators zeroed at a first query block, the query block's values loaded. -/
theorem part11_run (c : Dev nD) (i : grid0.Coords)
  {arg2 : Memref sig .tc .vmem S512x256 .bf16} {harg2 : arg2.IsWhole}
  {arg3 : Memref sig .tc .vmem S8192x256 .bf16} {harg3 : arg3.IsWhole}
  {arg4 : Memref sig .tc .vmem S8192x128 .bf16} {harg4 : arg4.IsWhole}
  {arg5 : Memref sig .tc .vmem S512x128 .bf16} {harg5 : arg5.IsWhole}
  {arg6 : Memref sig .tc .vmem S512x128 .f32} {harg6 : arg6.IsWhole}
  {arg7 : Memref sig .tc .vmem S1x1x2x512 .f32} {harg7 : arg7.IsWhole}
  {arg8 : Memref sig .tc .vmem S512x256 .f32} {harg8 : arg8.IsWhole}
  {arg9 : Memref sig .tc .vmem S16x1024 .f32} {harg9 : arg9.IsWhole}
  {arg10 : Memref sig .tc .vmem S512x256 .bf16} {harg10 : arg10.IsWhole}
  {arg11 : Memref sig .tc .vmem S8192x256 .bf16} {harg11 : arg11.IsWhole}
  {arg12 : Memref sig .tc .vmem S8192x128 .bf16} {harg12 : arg12.IsWhole}
  {arg13 : Memref sig .tc .vmem S8192x256 .f32} {harg13 : arg13.IsWhole}
  {arg14 : Memref sig .tc .vmem S8192x128 .f32} {harg14 : arg14.IsWhole} (I : Ins F)
    (dk : S8192x256.Idx → Elt F .f32) (dv : S8192x128.Idx → Elt F .f32) :
    iprop(ow c arg2 I.q ∗ ow c arg5 I.g ∗ ow c arg6 I.o ∗ ow c arg7 I.l ∗ ow c arg13 dk ∗ ow c arg14 dv)
      ⊢ wp frame (wpE (defs₀ (F := F)) 𝒱₀ (c : Thread nD τ) none) Set.univ
        (k0_part11 i arg2 harg2 arg3 harg3 arg4 harg4 arg5 harg5 arg6 harg6 arg7 harg7 arg8 harg8 arg9 harg9 arg10 harg10 arg11 harg11 arg12 harg12 arg13 harg13 arg14 harg14)
        (fun r => iprop(⌜r = ⟨BitVec.ofNat 32 (i 1).val, (rowOf I).v7, (rowOf I).v9, (rowOf I).v10, (rowOf I).v18, (rowOf I).v21, (rowOf I).v23, (rowOf I).v25, (rowOf I).v27, (rowOf I).v29, k0_pay97, k0_pay98, 4#32⟩⌝
          ∗ ow c arg2 I.q ∗ ow c arg5 I.g ∗ ow c arg6 I.o ∗ ow c arg7 I.l ∗ ow c arg13 (start i dk dv).dk ∗ ow c arg14 (start i dk dv).dv)) := by
  rw [k0_part11_eq_skeleton]
  unfold k0_part11_skel ow
  obtain ⟨q, k, v, g, o, l, cs, pv⟩ := I
  dsimp only [rowOf]
  iintro ⟨⟨%f2, %h2', H2⟩, ⟨%f5, %h5', H5⟩, ⟨%f6, %h6', H6⟩, ⟨%f7, %h7', H7⟩, ⟨%f13, %h13, H13⟩, ⟨%f14, %h14, H14⟩⟩
  subst h2' h5' h6' h7' h13 h14
  by_cases h : (i 1).val = 0
  · have hc := (first_iff i).mpr h
    unfold start
    rw [if_pos h]
    sl_exec (disch := sl_exact hc)
    sl_step
    isplitr
    · ipureintro; rfl
    isplitl [H2]; · iexists _; isplitr; swap; (· iexact H2); ipureintro; rfl
    isplitl [H5]; · iexists _; isplitr; swap; (· iexact H5); ipureintro; rfl
    isplitl [H6]; · iexists _; isplitr; swap; (· iexact H6); ipureintro; rfl
    isplitl [H7]; · iexists _; isplitr; swap; (· iexact H7); ipureintro; rfl
    isplitl [H13]; · iexists _; isplitr; swap; (· iexact H13); ipureintro; exact View.read_writes_full _ _ _ _ _
    iexists _; isplitr; swap; (· iexact H14); ipureintro; exact View.read_writes_full _ _ _ _ _
  · have hc := mt (first_iff i).mp h
    unfold start
    rw [if_neg h]
    sl_exec (disch := sl_exact hc)
    sl_step
    isplitr
    · ipureintro; rfl
    isplitl [H2]; · iexists _; isplitr; swap; (· iexact H2); ipureintro; rfl
    isplitl [H5]; · iexists _; isplitr; swap; (· iexact H5); ipureintro; rfl
    isplitl [H6]; · iexists _; isplitr; swap; (· iexact H6); ipureintro; rfl
    isplitl [H7]; · iexists _; isplitr; swap; (· iexact H7); ipureintro; rfl
    isplitl [H13]; · iexists _; isplitr; swap; (· iexact H13); ipureintro; rfl
    iexists _; isplitr; swap; (· iexact H14); ipureintro; rfl

set_option maxHeartbeats 1000000 in
/-- The kernel's body at a grid point, run. -/
theorem body_run (c : Dev nD) (i : grid0.Coords)
  {arg2 : Memref sig .tc .vmem S512x256 .bf16} {harg2 : arg2.IsWhole}
  {arg3 : Memref sig .tc .vmem S8192x256 .bf16} {harg3 : arg3.IsWhole}
  {arg4 : Memref sig .tc .vmem S8192x128 .bf16} {harg4 : arg4.IsWhole}
  {arg5 : Memref sig .tc .vmem S512x128 .bf16} {harg5 : arg5.IsWhole}
  {arg6 : Memref sig .tc .vmem S512x128 .f32} {harg6 : arg6.IsWhole}
  {arg7 : Memref sig .tc .vmem S1x1x2x512 .f32} {harg7 : arg7.IsWhole}
  {arg8 : Memref sig .tc .vmem S512x256 .f32} {harg8 : arg8.IsWhole}
  {arg9 : Memref sig .tc .vmem S16x1024 .f32} {harg9 : arg9.IsWhole}
  {arg10 : Memref sig .tc .vmem S512x256 .bf16} {harg10 : arg10.IsWhole}
  {arg11 : Memref sig .tc .vmem S8192x256 .bf16} {harg11 : arg11.IsWhole}
  {arg12 : Memref sig .tc .vmem S8192x128 .bf16} {harg12 : arg12.IsWhole}
  {arg13 : Memref sig .tc .vmem S8192x256 .f32} {harg13 : arg13.IsWhole}
  {arg14 : Memref sig .tc .vmem S8192x128 .f32} {harg14 : arg14.IsWhole} (I : Ins F)
    (Y10 : S512x256.Idx → Elt F .bf16) (Y11 : S8192x256.Idx → Elt F .bf16) (Y12 : S8192x128.Idx → Elt F .bf16)
    (dk : S8192x256.Idx → Elt F .f32) (dv : S8192x128.Idx → Elt F .f32) (S : St F) (hS : S = point i I dk dv) :
    iprop(ow c arg2 I.q ∗ ow c arg3 I.k ∗ ow c arg4 I.v ∗ ow c arg5 I.g ∗ ow c arg6 I.o ∗ ow c arg7 I.l ∗ ow c arg8 I.cs ∗ ow c arg9 I.pv ∗ ow c arg10 Y10 ∗ ow c arg11 Y11 ∗ ow c arg12 Y12 ∗ ow c arg13 dk ∗ ow c arg14 dv)
      ⊢ wp frame (wpE (defs₀ (F := F)) 𝒱₀ (c : Thread nD τ) none) Set.univ
        (cc0_attn_bwd i arg2 harg2 arg3 harg3 arg4 harg4 arg5 harg5 arg6 harg6 arg7 harg7 arg8 harg8 arg9 harg9 arg10 harg10 arg11 harg11 arg12 harg12 arg13 harg13 arg14 harg14)
        (fun _ => iprop(ow c arg2 I.q ∗ ow c arg3 I.k ∗ ow c arg4 I.v ∗ ow c arg5 I.g ∗ ow c arg6 I.o ∗ ow c arg7 I.l ∗ ow c arg8 I.cs ∗ ow c arg9 I.pv ∗ ow c arg10 (dqOver I S Y10)
          ∗ ow c arg11 (if k0_cond5 i = 1#1 then dkOut S else Y11) ∗ ow c arg12 (if k0_cond5 i = 1#1 then dvOut S else Y12)
          ∗ ow c arg13 S.dk ∗ ow c arg14 S.dv)) := by
  rw [cc0_attn_bwd_eq_skeleton]
  unfold cc0_attn_bwd_skel
  iintro ⟨H2, H3, H4, H5, H6, H7, H8, H9, H10, H11, H12, H13, H14⟩
  rw [wp_bind]
  iapply wp_wand_r
  isplitl [H2 H5 H6 H7 H13 H14]
  · iapply (part11_run c i I dk dv)
    isplitl [H2]; · iexact H2
    isplitl [H5]; · iexact H5
    isplitl [H6]; · iexact H6
    isplitl [H7]; · iexact H7
    isplitl [H13]; · iexact H13
    iexact H14
  iintro %r ⟨%hr, H2, H5, H6, H7, H13, H14⟩
  subst hr
  dsimp only
  rw [wp_bind]
  iapply wp_wand_r
  isplitl [H3 H4 H8 H13 H14]
  · iapply (part12_run c i I.k I.v I.cs (start i dk dv).dk (start i dk dv).dv S (hS.trans (by unfold point start; split <;> rfl)))
    isplitl [H3]; · iexact H3
    isplitl [H4]; · iexact H4
    isplitl [H13]; · iexact H13
    isplitl [H14]; · iexact H14
    iexact H8
  iintro %r ⟨%hr, H3, H4, H13, H14, H8⟩
  subst hr
  clear hS
  obtain ⟨dk', dv', q0, q1⟩ := S
  obtain ⟨q, k, v, g, o, l, cs, pv⟩ := I
  dsimp only
  unfold ow
  icases H8 with ⟨%f8, %h8, H8⟩
  icases H9 with ⟨%f9, %h9, H9⟩
  icases H10 with ⟨%f10, %h10, H10⟩
  icases H11 with ⟨%f11, %h11, H11⟩
  icases H12 with ⟨%f12, %h12, H12⟩
  icases H13 with ⟨%f13, %h13, H13⟩
  icases H14 with ⟨%f14, %h14, H14⟩
  subst h8 h9 h10 h11 h12 h13 h14
  by_cases h : k0_cond5 i = 1#1
  · rw [if_pos h, if_pos h]
    sl_exec (disch := sl_exact h)
    sl_step
    isplitl [H2]; · iexact H2
    isplitl [H3]; · iexact H3
    isplitl [H4]; · iexact H4
    isplitl [H5]; · iexact H5
    isplitl [H6]; · iexact H6
    isplitl [H7]; · iexact H7
    isplitl [H8]; · iexists _; isplitr; swap; (· iexact H8); ipureintro; rfl
    isplitl [H9]; · iexists _; isplitr; swap; (· iexact H9); ipureintro; rfl
    isplitl [H10]
    · iexists _; isplitr; swap; (· iexact H10); ipureintro
      rw [View.read_writes_cons_put _ _ _ _ _ rfl, View.read_writes_cons_put _ _ _ _ _ rfl]; rfl
    isplitl [H11]; · iexists _; isplitr; swap; (· iexact H11); ipureintro; rw [View.read_writes_full]; rw [View.readAt_full]; rfl
    isplitl [H12]; · iexists _; isplitr; swap; (· iexact H12); ipureintro; rw [View.read_writes_full]; rw [View.readAt_full]; rfl
    isplitl [H13]; · iexists _; isplitr; swap; (· iexact H13); ipureintro; rfl
    iexists _; isplitr; swap; (· iexact H14); ipureintro; rfl
  · rw [if_neg h, if_neg h]
    sl_exec (disch := sl_exact h)
    sl_step
    isplitl [H2]; · iexact H2
    isplitl [H3]; · iexact H3
    isplitl [H4]; · iexact H4
    isplitl [H5]; · iexact H5
    isplitl [H6]; · iexact H6
    isplitl [H7]; · iexact H7
    isplitl [H8]; · iexists _; isplitr; swap; (· iexact H8); ipureintro; rfl
    isplitl [H9]; · iexists _; isplitr; swap; (· iexact H9); ipureintro; rfl
    isplitl [H10]
    · iexists _; isplitr; swap; (· iexact H10); ipureintro
      rw [View.read_writes_cons_put _ _ _ _ _ rfl, View.read_writes_cons_put _ _ _ _ _ rfl]; rfl
    isplitl [H11]; · iexists _; isplitr; swap; (· iexact H11); ipureintro; rfl
    isplitl [H12]; · iexists _; isplitr; swap; (· iexact H12); ipureintro; rfl
    isplitl [H13]; · iexists _; isplitr; swap; (· iexact H13); ipureintro; rfl
    iexists _; isplitr; swap; (· iexact H14); ipureintro; rfl

end Cert.KernelIdeal.Hand
-- ==== Proof.Run.lean ====
/-
  The pipeline's proof data, the body obligation and the launch: every run of the program ends, with each output
  array at what the grid points leave in it.
-/
module

public import proofs.«01_k».proof.Proof.Body
public import proofs.«01_k».proof.Proof.Gen.KernelIdeal.Frame

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)
open VecWindow

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- A whole memref owned at contents. -/
theorem owns_eq_ow {sp} {s : Shape} {e : EltTy} (c : Dev nD) (M : Memref sig .tc sp s e) (h : M.IsWhole) (X : s.Idx → Elt F e) :
    (owns (c : Thread nD τ) M fullShare X : sProp 𝕄) = ow c M X := by
  unfold owns ow; rw [h.set_eq_univ]

/-- The arrays point `t` reads: each input window's block. -/
def insAt (c : Dev nD) (t : Fin cfg0.N) : Ins F :=
  ⟨iblk m c 0 t, iblk m c 1 t, iblk m c 2 t, iblk m c 3 t, iblk m c 4 t, iblk m c 5 t, iblk m c 6 t, iblk m c 7 t⟩

/-- What the first `n` points leave in the accumulators (and in the last one's query gradient halves). -/
def accAt (c : Dev nD) : ℕ → St F
  | 0 => ⟨k0_pay83, k0_pay84, k0_pay97, k0_pay98⟩
  | n + 1 => if h : n < cfg0.N then point (grid0.coords ⟨n, h⟩) (insAt m c ⟨n, h⟩) (accAt c n).dk (accAt c n).dv else accAt c n

theorem accAt_succ (c : Dev nD) (t : Fin cfg0.N) :
    accAt m c (t.val + 1) = point (grid0.coords t) (insAt m c t) (accAt m c t.val).dk (accAt m c t.val).dv := by
  rw [accAt, dif_pos t.isLt]

attribute [irreducible] accAt

theorem coords_one : ∀ t : Fin cfg0.N, (grid0.coords t 1).val = t.val % 16 := by decide +kernel
theorem coords_zero : ∀ t : Fin cfg0.N, (grid0.coords t 0).val = t.val / 16 := by decide +kernel

/-- A pair's first point reads nothing of the accumulators. -/
theorem point_first (i : grid0.Coords) (h : (i 1).val = 0) (I : Ins F) (a a' : S8192x256.Idx → Elt F .f32) (b b' : S8192x128.Idx → Elt F .f32) :
    point i I a b = point i I a' b' := by
  unfold point start; rw [if_pos h, if_pos h]

/-- The query gradient's block: its two halves cover it. -/
def dqOut (I : Ins F) (S : St F) : S512x256.Idx → Elt F .bf16 := dqOver I S I.q

theorem put_halves (Y Y' : S512x256.Idx → Elt F .bf16) (A B : S512x128.Idx → Elt F .bf16) :
    put (put Y ![0, 0] S512x128.size A) ![0, 128] S512x128.size B = put (put Y' ![0, 0] S512x128.size A) ![0, 128] S512x128.size B := by
  funext y
  unfold put
  by_cases h : ∀ a, (![0, 128] : Fin 2 → ℕ) a ≤ (y a).val ∧ (y a).val < (![0, 128] : Fin 2 → ℕ) a + S512x128.size a
  · rw [dif_pos h, dif_pos h]
  · rw [dif_neg h, dif_neg h]
    have h' : ∀ a, (![0, 0] : Fin 2 → ℕ) a ≤ (y a).val ∧ (y a).val < (![0, 0] : Fin 2 → ℕ) a + S512x128.size a := by
      have h0 : (y 0).val < 512 := (y 0).isLt
      have h1 : (y 1).val < 256 := (y 1).isLt
      have hn : ¬ (128 ≤ (y 1).val) := fun h1' => h (Fin.forall_fin_two.mpr ⟨⟨Nat.zero_le _, by show _ < 0 + 512; omega⟩, ⟨h1', by show _ < 128 + 128; omega⟩⟩)
      exact Fin.forall_fin_two.mpr ⟨⟨Nat.zero_le _, by show _ < 0 + 512; omega⟩, ⟨Nat.zero_le _, by show _ < 0 + 128; omega⟩⟩
    rw [dif_pos h', dif_pos h']

theorem dqOver_eq (I : Ins F) (S : St F) (Y : S512x256.Idx → Elt F .bf16) : dqOver I S Y = dqOut I S := put_halves _ _ _ _

/-- The invariant before point `n`: the accumulators hold what the earlier points left (anything before the first), the
    generator register is held. -/
def PhiN (c : Dev nD) (n : ℕ) : sProp 𝕄 :=
  iprop((∃ X Y, ⌜n ≠ 0 → X = (accAt m c n).dk ∧ Y = (accAt m c n).dv⌝
      ∗ ow c (Memref.whole cc0_scratch0) X ∗ ow c (Memref.whole cc0_scratch1) Y) ∗ ∃ r, prngReg c r)

/-- The proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => dqOut (insAt m c t) (accAt m c (t.val + 1))
    | ⟨9, _⟩ => dkOut (accAt m c (t.val + 1))
    | ⟨10, _⟩ => dvOut (accAt m c (t.val + 1))
  Φ t := PhiN m c t.val
  q _ := fullShare
  owed _ := 0

theorem defs₀_row (t : Fin cfg0.N) : defs₀ (F := F) .tc cfg0.body (cfg0.bodyArgs t (cfg0.slots t)) = Gen.bodyAt0 t := by
  unfold defs₀; rw [Defs.onTc_tc]

theorem idle_9 (t : Fin cfg0.N) : cfg0.idle 9 (cfg0.grid.coords t) = !(k0_cond5 (grid0.coords t) == 1#1) := rfl
theorem idle_10 (t : Fin cfg0.N) : cfg0.idle 10 (cfg0.grid.coords t) = !(k0_cond5 (grid0.coords t) == 1#1) := rfl

theorem live_eq {P : Prop} [Decidable P] {b : BitVec 1} (h : b = 1#1) : (!(b == 1#1)) = false := by subst h; rfl
theorem dead_eq {b : BitVec 1} (h : ¬ b = 1#1) : (!(b == 1#1)) = true := by
  simp [h]

theorem before_0 (c : Dev nD) (t : Fin cfg0.N) (d) : (dats m 0 c).before 0 t d = iblk m c 0 t :=
  before0_0_of m (dats m 0 c) rfl (fun _ => rfl) t d
theorem before_1 (c : Dev nD) (t : Fin cfg0.N) (d) : (dats m 0 c).before 1 t d = iblk m c 1 t :=
  before0_1_of m (dats m 0 c) rfl (fun _ => rfl) t d
theorem before_2 (c : Dev nD) (t : Fin cfg0.N) (d) : (dats m 0 c).before 2 t d = iblk m c 2 t :=
  before0_2_of m (dats m 0 c) rfl (fun _ => rfl) t d
theorem before_3 (c : Dev nD) (t : Fin cfg0.N) (d) : (dats m 0 c).before 3 t d = iblk m c 3 t :=
  before0_3_of m (dats m 0 c) rfl (fun _ => rfl) t d
theorem before_4 (c : Dev nD) (t : Fin cfg0.N) (d) : (dats m 0 c).before 4 t d = iblk m c 4 t :=
  before0_4_of m (dats m 0 c) rfl (fun _ => rfl) t d
theorem before_5 (c : Dev nD) (t : Fin cfg0.N) (d) : (dats m 0 c).before 5 t d = iblk m c 5 t :=
  before0_5_of m (dats m 0 c) rfl (fun _ => rfl) t d
theorem before_6 (c : Dev nD) (t : Fin cfg0.N) (d) : (dats m 0 c).before 6 t d = iblk m c 6 t :=
  before0_6_of m (dats m 0 c) rfl (fun _ => rfl) t d
theorem before_7 (c : Dev nD) (t : Fin cfg0.N) (d) : (dats m 0 c).before 7 t d = iblk m c 7 t :=
  before0_7_of m (dats m 0 c) rfl (fun _ => rfl) t d
theorem Phi_castSucc (c : Dev nD) (t : Fin cfg0.N) : (dats m 0 c).Φ t.castSucc = PhiN m c t.val := rfl
theorem Phi_succ (c : Dev nD) (t : Fin cfg0.N) : (dats m 0 c).Φ t.succ = PhiN m c (t.val + 1) := by
  dsimp only [dats]; rw [Fin.val_succ]
theorem owes_succ (c : Dev nD) (t : Fin cfg0.N) : (dats m 0 c).owesAt () t.succ = (dats m 0 c).owesAt () t.castSucc := rfl

theorem enter_0 (c : Dev nD) (t : Fin cfg0.N) (d) :
    (owns (c : Thread nD τ) ((cfg0.win 0).stage (cfg0.slots t 0)) fullShare ((dats m 0 c).before 0 t d) : sProp 𝕄) = ow c ((cfg0.win 0).stage (cfg0.slots t 0)) (iblk m c 0 t) := by
  rw [owns_eq_ow c _ (show ((cfg0.win 0).stage (cfg0.slots t 0)).IsWhole from hstage0_0 ((cfg0.slots t 0).cast nbuf0_0))]; rw [before_0]
theorem enter_1 (c : Dev nD) (t : Fin cfg0.N) (d) :
    (owns (c : Thread nD τ) ((cfg0.win 1).stage (cfg0.slots t 1)) fullShare ((dats m 0 c).before 1 t d) : sProp 𝕄) = ow c ((cfg0.win 1).stage (cfg0.slots t 1)) (iblk m c 1 t) := by
  rw [owns_eq_ow c _ (show ((cfg0.win 1).stage (cfg0.slots t 1)).IsWhole from hstage0_1 ((cfg0.slots t 1).cast nbuf0_1))]; rw [before_1]
theorem enter_2 (c : Dev nD) (t : Fin cfg0.N) (d) :
    (owns (c : Thread nD τ) ((cfg0.win 2).stage (cfg0.slots t 2)) fullShare ((dats m 0 c).before 2 t d) : sProp 𝕄) = ow c ((cfg0.win 2).stage (cfg0.slots t 2)) (iblk m c 2 t) := by
  rw [owns_eq_ow c _ (show ((cfg0.win 2).stage (cfg0.slots t 2)).IsWhole from hstage0_2 ((cfg0.slots t 2).cast nbuf0_2))]; rw [before_2]
theorem enter_3 (c : Dev nD) (t : Fin cfg0.N) (d) :
    (owns (c : Thread nD τ) ((cfg0.win 3).stage (cfg0.slots t 3)) fullShare ((dats m 0 c).before 3 t d) : sProp 𝕄) = ow c ((cfg0.win 3).stage (cfg0.slots t 3)) (iblk m c 3 t) := by
  rw [owns_eq_ow c _ (show ((cfg0.win 3).stage (cfg0.slots t 3)).IsWhole from hstage0_3 ((cfg0.slots t 3).cast nbuf0_3))]; rw [before_3]
theorem enter_4 (c : Dev nD) (t : Fin cfg0.N) (d) :
    (owns (c : Thread nD τ) ((cfg0.win 4).stage (cfg0.slots t 4)) fullShare ((dats m 0 c).before 4 t d) : sProp 𝕄) = ow c ((cfg0.win 4).stage (cfg0.slots t 4)) (iblk m c 4 t) := by
  rw [owns_eq_ow c _ (show ((cfg0.win 4).stage (cfg0.slots t 4)).IsWhole from hstage0_4 ((cfg0.slots t 4).cast nbuf0_4))]; rw [before_4]
theorem enter_5 (c : Dev nD) (t : Fin cfg0.N) (d) :
    (owns (c : Thread nD τ) ((cfg0.win 5).stage (cfg0.slots t 5)) fullShare ((dats m 0 c).before 5 t d) : sProp 𝕄) = ow c ((cfg0.win 5).stage (cfg0.slots t 5)) (iblk m c 5 t) := by
  rw [owns_eq_ow c _ (show ((cfg0.win 5).stage (cfg0.slots t 5)).IsWhole from hstage0_5 ((cfg0.slots t 5).cast nbuf0_5))]; rw [before_5]
theorem enter_6 (c : Dev nD) (t : Fin cfg0.N) (d) :
    (owns (c : Thread nD τ) ((cfg0.win 6).stage (cfg0.slots t 6)) fullShare ((dats m 0 c).before 6 t d) : sProp 𝕄) = ow c ((cfg0.win 6).stage (cfg0.slots t 6)) (iblk m c 6 t) := by
  rw [owns_eq_ow c _ (show ((cfg0.win 6).stage (cfg0.slots t 6)).IsWhole from hstage0_6 ((cfg0.slots t 6).cast nbuf0_6))]; rw [before_6]
theorem enter_7 (c : Dev nD) (t : Fin cfg0.N) (d) :
    (owns (c : Thread nD τ) ((cfg0.win 7).stage (cfg0.slots t 7)) fullShare ((dats m 0 c).before 7 t d) : sProp 𝕄) = ow c ((cfg0.win 7).stage (cfg0.slots t 7)) (iblk m c 7 t) := by
  rw [owns_eq_ow c _ (show ((cfg0.win 7).stage (cfg0.slots t 7)).IsWhole from hstage0_7 ((cfg0.slots t 7).cast nbuf0_7))]; rw [before_7]
theorem enter_8 (c : Dev nD) (t : Fin cfg0.N) (d) :
    (owns (c : Thread nD τ) ((cfg0.win 8).stage (cfg0.slots t 8)) fullShare ((dats m 0 c).before 8 t d) : sProp 𝕄) = ow c ((cfg0.win 8).stage (cfg0.slots t 8)) ((dats m 0 c).before 8 t d) := by
  rw [owns_eq_ow c _ (show ((cfg0.win 8).stage (cfg0.slots t 8)).IsWhole from hstage0_8 ((cfg0.slots t 8).cast nbuf0_8))]
theorem enter_9 (c : Dev nD) (t : Fin cfg0.N) (d) :
    (owns (c : Thread nD τ) ((cfg0.win 9).stage (cfg0.slots t 9)) fullShare ((dats m 0 c).before 9 t d) : sProp 𝕄) = ow c ((cfg0.win 9).stage (cfg0.slots t 9)) ((dats m 0 c).before 9 t d) := by
  rw [owns_eq_ow c _ (show ((cfg0.win 9).stage (cfg0.slots t 9)).IsWhole from hstage0_9 ((cfg0.slots t 9).cast nbuf0_9))]
theorem enter_10 (c : Dev nD) (t : Fin cfg0.N) (d) :
    (owns (c : Thread nD τ) ((cfg0.win 10).stage (cfg0.slots t 10)) fullShare ((dats m 0 c).before 10 t d) : sProp 𝕄) = ow c ((cfg0.win 10).stage (cfg0.slots t 10)) ((dats m 0 c).before 10 t d) := by
  rw [owns_eq_ow c _ (show ((cfg0.win 10).stage (cfg0.slots t 10)).IsWhole from hstage0_10 ((cfg0.slots t 10).cast nbuf0_10))]
theorem leave_0 (c : Dev nD) (t : Fin cfg0.N) : ((dats m 0 c).leavesExact 0 t : sProp 𝕄) = ow c ((cfg0.win 0).stage (cfg0.slots t 0)) (iblk m c 0 t) := by
  rw [← owns_eq_ow c _ (show ((cfg0.win 0).stage (cfg0.slots t 0)).IsWhole from hstage0_0 ((cfg0.slots t 0).cast nbuf0_0))]; rfl
theorem leave_1 (c : Dev nD) (t : Fin cfg0.N) : ((dats m 0 c).leavesExact 1 t : sProp 𝕄) = ow c ((cfg0.win 1).stage (cfg0.slots t 1)) (iblk m c 1 t) := by
  rw [← owns_eq_ow c _ (show ((cfg0.win 1).stage (cfg0.slots t 1)).IsWhole from hstage0_1 ((cfg0.slots t 1).cast nbuf0_1))]; rfl
theorem leave_2 (c : Dev nD) (t : Fin cfg0.N) : ((dats m 0 c).leavesExact 2 t : sProp 𝕄) = ow c ((cfg0.win 2).stage (cfg0.slots t 2)) (iblk m c 2 t) := by
  rw [← owns_eq_ow c _ (show ((cfg0.win 2).stage (cfg0.slots t 2)).IsWhole from hstage0_2 ((cfg0.slots t 2).cast nbuf0_2))]; rfl
theorem leave_3 (c : Dev nD) (t : Fin cfg0.N) : ((dats m 0 c).leavesExact 3 t : sProp 𝕄) = ow c ((cfg0.win 3).stage (cfg0.slots t 3)) (iblk m c 3 t) := by
  rw [← owns_eq_ow c _ (show ((cfg0.win 3).stage (cfg0.slots t 3)).IsWhole from hstage0_3 ((cfg0.slots t 3).cast nbuf0_3))]; rfl
theorem leave_4 (c : Dev nD) (t : Fin cfg0.N) : ((dats m 0 c).leavesExact 4 t : sProp 𝕄) = ow c ((cfg0.win 4).stage (cfg0.slots t 4)) (iblk m c 4 t) := by
  rw [← owns_eq_ow c _ (show ((cfg0.win 4).stage (cfg0.slots t 4)).IsWhole from hstage0_4 ((cfg0.slots t 4).cast nbuf0_4))]; rfl
theorem leave_5 (c : Dev nD) (t : Fin cfg0.N) : ((dats m 0 c).leavesExact 5 t : sProp 𝕄) = ow c ((cfg0.win 5).stage (cfg0.slots t 5)) (iblk m c 5 t) := by
  rw [← owns_eq_ow c _ (show ((cfg0.win 5).stage (cfg0.slots t 5)).IsWhole from hstage0_5 ((cfg0.slots t 5).cast nbuf0_5))]; rfl
theorem leave_6 (c : Dev nD) (t : Fin cfg0.N) : ((dats m 0 c).leavesExact 6 t : sProp 𝕄) = ow c ((cfg0.win 6).stage (cfg0.slots t 6)) (iblk m c 6 t) := by
  rw [← owns_eq_ow c _ (show ((cfg0.win 6).stage (cfg0.slots t 6)).IsWhole from hstage0_6 ((cfg0.slots t 6).cast nbuf0_6))]; rfl
theorem leave_7 (c : Dev nD) (t : Fin cfg0.N) : ((dats m 0 c).leavesExact 7 t : sProp 𝕄) = ow c ((cfg0.win 7).stage (cfg0.slots t 7)) (iblk m c 7 t) := by
  rw [← owns_eq_ow c _ (show ((cfg0.win 7).stage (cfg0.slots t 7)).IsWhole from hstage0_7 ((cfg0.slots t 7).cast nbuf0_7))]; rfl
theorem leave_8 (c : Dev nD) (t : Fin cfg0.N) : ((dats m 0 c).leavesExact 8 t : sProp 𝕄) = ow c ((cfg0.win 8).stage (cfg0.slots t 8)) (dqOut (insAt m c t) (accAt m c (t.val + 1))) := by
  rw [← owns_eq_ow c _ (show ((cfg0.win 8).stage (cfg0.slots t 8)).IsWhole from hstage0_8 ((cfg0.slots t 8).cast nbuf0_8))]; rfl
theorem leave_9 (c : Dev nD) (t : Fin cfg0.N) (d) :
    ow c ((cfg0.win 9).stage (cfg0.slots t 9)) (if k0_cond5 (grid0.coords t) = 1#1 then dkOut (accAt m c (t.val + 1)) else (dats m 0 c).before 9 t d) ⊢ ((dats m 0 c).leavesExact 9 t : sProp 𝕄) := by
  rw [← owns_eq_ow c _ (show ((cfg0.win 9).stage (cfg0.slots t 9)).IsWhole from hstage0_9 ((cfg0.slots t 9).cast nbuf0_9))]
  by_cases h : k0_cond5 (grid0.coords t) = 1#1
  · rw [if_pos h]
    unfold Dat.leavesExact
    rw [idle_9, live_eq (P := True) h]
    exact .rfl
  · have hf : (cfg0.win 9).flush t = false := by
      rw [← Bool.not_eq_true, flush0_9]
      exact fun h' => h ((cond5_iff _).mpr (by rw [coords_one]; exact h'))
    rw [if_neg h, Dat.leavesExact_idle _ _ _ ((idle_9 t).trans (dead_eq h)) hf]
    iintro H; iexists d; iexact H
theorem leave_10 (c : Dev nD) (t : Fin cfg0.N) (d) :
    ow c ((cfg0.win 10).stage (cfg0.slots t 10)) (if k0_cond5 (grid0.coords t) = 1#1 then dvOut (accAt m c (t.val + 1)) else (dats m 0 c).before 10 t d) ⊢ ((dats m 0 c).leavesExact 10 t : sProp 𝕄) := by
  rw [← owns_eq_ow c _ (show ((cfg0.win 10).stage (cfg0.slots t 10)).IsWhole from hstage0_10 ((cfg0.slots t 10).cast nbuf0_10))]
  by_cases h : k0_cond5 (grid0.coords t) = 1#1
  · rw [if_pos h]
    unfold Dat.leavesExact
    rw [idle_10, live_eq (P := True) h]
    exact .rfl
  · have hf : (cfg0.win 10).flush t = false := by
      rw [← Bool.not_eq_true, flush0_10]
      exact fun h' => h ((cond5_iff _).mpr (by rw [coords_one]; exact h'))
    rw [if_neg h, Dat.leavesExact_idle _ _ _ ((idle_10 t).trans (dead_eq h)) hf]
    iintro H; iexists d; iexact H

set_option maxHeartbeats 1000000 in
/-- The body's run at a point, on the staging buffers. -/
theorem point_run (c : Dev nD) (t : Fin cfg0.N) :
    iprop((dats m 0 c).Φ t.castSucc ∗ (dats m 0 c).owesAt () t.castSucc ∗ (∃ d, owns (c : Thread nD τ) ((cfg0.win 0).stage (cfg0.slots t 0)) fullShare ((dats m 0 c).before 0 t d)) ∗ (∃ d, owns (c : Thread nD τ) ((cfg0.win 1).stage (cfg0.slots t 1)) fullShare ((dats m 0 c).before 1 t d)) ∗ (∃ d, owns (c : Thread nD τ) ((cfg0.win 2).stage (cfg0.slots t 2)) fullShare ((dats m 0 c).before 2 t d)) ∗ (∃ d, owns (c : Thread nD τ) ((cfg0.win 3).stage (cfg0.slots t 3)) fullShare ((dats m 0 c).before 3 t d)) ∗ (∃ d, owns (c : Thread nD τ) ((cfg0.win 4).stage (cfg0.slots t 4)) fullShare ((dats m 0 c).before 4 t d)) ∗ (∃ d, owns (c : Thread nD τ) ((cfg0.win 5).stage (cfg0.slots t 5)) fullShare ((dats m 0 c).before 5 t d)) ∗ (∃ d, owns (c : Thread nD τ) ((cfg0.win 6).stage (cfg0.slots t 6)) fullShare ((dats m 0 c).before 6 t d)) ∗ (∃ d, owns (c : Thread nD τ) ((cfg0.win 7).stage (cfg0.slots t 7)) fullShare ((dats m 0 c).before 7 t d)) ∗ (∃ d, owns (c : Thread nD τ) ((cfg0.win 8).stage (cfg0.slots t 8)) fullShare ((dats m 0 c).before 8 t d)) ∗ (∃ d, owns (c : Thread nD τ) ((cfg0.win 9).stage (cfg0.slots t 9)) fullShare ((dats m 0 c).before 9 t d)) ∗ (∃ d, owns (c : Thread nD τ) ((cfg0.win 10).stage (cfg0.slots t 10)) fullShare ((dats m 0 c).before 10 t d)))
      ⊢ wp frame (wpE (defs₀ (F := F)) 𝒱₀ (c : Thread nD τ) none) Set.univ (Gen.bodyAt0 t) (fun _ => iprop((dats m 0 c).Φ t.succ ∗ (dats m 0 c).owesAt () t.succ ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t ∗ (dats m 0 c).leavesExact 9 t ∗ (dats m 0 c).leavesExact 10 t)) := by
  rw [Phi_castSucc, Phi_succ, owes_succ]
  unfold PhiN
  iintro ⟨⟨⟨%X, %Y, %hXY, H13, H14⟩, Hg⟩, Howes, ⟨%d0, H2⟩, ⟨%d1, H3⟩, ⟨%d2, H4⟩, ⟨%d3, H5⟩, ⟨%d4, H6⟩, ⟨%d5, H7⟩, ⟨%d6, H8⟩, ⟨%d7, H9⟩, ⟨%d8, H10⟩, ⟨%d9, H11⟩, ⟨%d10, H12⟩⟩
  have hS : accAt m c (t.val + 1) = point (grid0.coords t) (insAt m c t) X Y := by
    rw [accAt_succ]
    by_cases h0 : t.val = 0
    · exact point_first _ (by rw [coords_one, h0]) _ _ _ _ _
    · rw [(hXY h0).1, (hXY h0).2]
  have hrun := body_run (F := F) c (grid0.coords t)
    (harg2 := show ((cfg0.win 0).stage (cfg0.slots t 0)).IsWhole from hstage0_0 ((cfg0.slots t 0).cast nbuf0_0))
    (harg3 := show ((cfg0.win 1).stage (cfg0.slots t 1)).IsWhole from hstage0_1 ((cfg0.slots t 1).cast nbuf0_1))
    (harg4 := show ((cfg0.win 2).stage (cfg0.slots t 2)).IsWhole from hstage0_2 ((cfg0.slots t 2).cast nbuf0_2))
    (harg5 := show ((cfg0.win 3).stage (cfg0.slots t 3)).IsWhole from hstage0_3 ((cfg0.slots t 3).cast nbuf0_3))
    (harg6 := show ((cfg0.win 4).stage (cfg0.slots t 4)).IsWhole from hstage0_4 ((cfg0.slots t 4).cast nbuf0_4))
    (harg7 := show ((cfg0.win 5).stage (cfg0.slots t 5)).IsWhole from hstage0_5 ((cfg0.slots t 5).cast nbuf0_5))
    (harg8 := show ((cfg0.win 6).stage (cfg0.slots t 6)).IsWhole from hstage0_6 ((cfg0.slots t 6).cast nbuf0_6))
    (harg9 := show ((cfg0.win 7).stage (cfg0.slots t 7)).IsWhole from hstage0_7 ((cfg0.slots t 7).cast nbuf0_7))
    (harg10 := show ((cfg0.win 8).stage (cfg0.slots t 8)).IsWhole from hstage0_8 ((cfg0.slots t 8).cast nbuf0_8))
    (harg11 := show ((cfg0.win 9).stage (cfg0.slots t 9)).IsWhole from hstage0_9 ((cfg0.slots t 9).cast nbuf0_9))
    (harg12 := show ((cfg0.win 10).stage (cfg0.slots t 10)).IsWhole from hstage0_10 ((cfg0.slots t 10).cast nbuf0_10))
    (harg13 := Memref.isWhole_whole cc0_scratch0) (harg14 := Memref.isWhole_whole cc0_scratch1)
    (insAt m c t) ((dats m 0 c).before 8 t d8) ((dats m 0 c).before 9 t d9) ((dats m 0 c).before 10 t d10) X Y _ hS
  iapply wp_wand_r
  isplitl [H2 H3 H4 H5 H6 H7 H8 H9 H10 H11 H12 H13 H14]
  · iapply hrun
    isplitl [H2]; · iapply (Entails.of_eq (enter_0 m c t d0)); iexact H2
    isplitl [H3]; · iapply (Entails.of_eq (enter_1 m c t d1)); iexact H3
    isplitl [H4]; · iapply (Entails.of_eq (enter_2 m c t d2)); iexact H4
    isplitl [H5]; · iapply (Entails.of_eq (enter_3 m c t d3)); iexact H5
    isplitl [H6]; · iapply (Entails.of_eq (enter_4 m c t d4)); iexact H6
    isplitl [H7]; · iapply (Entails.of_eq (enter_5 m c t d5)); iexact H7
    isplitl [H8]; · iapply (Entails.of_eq (enter_6 m c t d6)); iexact H8
    isplitl [H9]; · iapply (Entails.of_eq (enter_7 m c t d7)); iexact H9
    isplitl [H10]; · iapply (Entails.of_eq (enter_8 m c t d8)); iexact H10
    isplitl [H11]; · iapply (Entails.of_eq (enter_9 m c t d9)); iexact H11
    isplitl [H12]; · iapply (Entails.of_eq (enter_10 m c t d10)); iexact H12
    isplitl [H13]; · iexact H13
    iexact H14
  iintro %r ⟨H2, H3, H4, H5, H6, H7, H8, H9, H10, H11, H12, H13, H14⟩
  rw [dqOver_eq]
  isplitl [H13 H14 Hg]
  · isplitl [H13 H14]
    · iexists _, _
      isplitr
      · ipureintro; exact fun _ => ⟨rfl, rfl⟩
      isplitl [H13]; · iexact H13
      iexact H14
    · iexact Hg
  isplitl [Howes]; · iexact Howes
  isplitl [H2]; · iapply (Entails.of_eq (leave_0 m c t).symm); iexact H2
  isplitl [H3]; · iapply (Entails.of_eq (leave_1 m c t).symm); iexact H3
  isplitl [H4]; · iapply (Entails.of_eq (leave_2 m c t).symm); iexact H4
  isplitl [H5]; · iapply (Entails.of_eq (leave_3 m c t).symm); iexact H5
  isplitl [H6]; · iapply (Entails.of_eq (leave_4 m c t).symm); iexact H6
  isplitl [H7]; · iapply (Entails.of_eq (leave_5 m c t).symm); iexact H7
  isplitl [H8]; · iapply (Entails.of_eq (leave_6 m c t).symm); iexact H8
  isplitl [H9]; · iapply (Entails.of_eq (leave_7 m c t).symm); iexact H9
  isplitl [H10]; · iapply (Entails.of_eq (leave_8 m c t).symm); iexact H10
  isplitl [H11]; · iapply (leave_9 m c t d9); iexact H11
  iapply (leave_10 m c t d10); iexact H12

theorem body_obligation (c : Dev nD) : BodyObligation (dats m 0 c) (defs₀ (F := F)) 𝒱₀ () Set.univ := fun t => by
  rw [Gen.bigSep_W0, Gen.bigSep_W0, defs₀_row]
  exact point_run m c t

theorem hin (c : Dev nD) : (Pipeline.ΦA cfg0.spec c : sProp 𝕄) ⊢ (dats m 0 c).Φ 0 := by
  rw [show (dats m 0 c).Φ 0 = PhiN m c 0 from rfl]
  unfold Pipeline.ΦA PhiN ow
  rw [show (Pipeline.scopedRest (Ix := Unit) (Name := ℕ) (U := UR sig nD τ) (Lvl := ℕ) (Val := Elt F) cfg0.spec c : sProp 𝕄) = _ from scopedRest0_eq c]
  iintro ⟨⟨⟨%f, H⟩, ⟨%g, G⟩⟩, Hg⟩
  isplitr [Hg]; swap
  · iexact Hg
  iexists f, g
  isplitr
  · ipureintro; exact fun h => absurd rfl h
  isplitl [H]
  · iexists f; isplitr; swap; (· iexact H); ipureintro; rfl
  iexists g; isplitr; swap; (· iexact G); ipureintro; rfl

theorem hout (c : Dev nD) : (dats m 0 c).Φ (Fin.last cfg0.N) ⊢ (Pipeline.ΦA cfg0.spec c : sProp 𝕄) := by
  rw [show (dats m 0 c).Φ (Fin.last cfg0.N) = PhiN m c cfg0.N from rfl]
  unfold Pipeline.ΦA PhiN ow
  rw [show (Pipeline.scopedRest (Ix := Unit) (Name := ℕ) (U := UR sig nD τ) (Lvl := ℕ) (Val := Elt F) cfg0.spec c : sProp 𝕄) = _ from scopedRest0_eq c]
  iintro ⟨⟨%X, %Y, -, ⟨%f, -, H⟩, ⟨%g, -, G⟩⟩, Hg⟩
  isplitr [Hg]; swap
  · iexact Hg
  isplitl [H]
  · iexists f; iexact H
  iexists g; iexact G

/-- THE RUN: every weakly fair execution ends, nothing faulting, each output array at what the write-backs make of it,
    everything else as the region found it, every semaphore counter at zero. -/
theorem run_main : θ_run (defs (F := F)) (onTc (τ := τ) (main (F := F))) ⟨m, fun _ => 0, ρ⟩
    (fun r => Pipeline.FramePost cfgs (dats m) 0 (V m) r ∧ r.2.sem = fun _ => 0) :=
  Pipeline.θ_run_frame_track cfgs (dats m) 0 Gen.launch0 (defs₀ (F := F)) 𝒱₀ m ρ main (fun c => (body_obligation m c).loose) (fun _ _ => by unfold Dat.share; split <;> rfl)
    (fun _ _ => rfl) (V m) (Gen.hmain m 𝒱₀) (fun _ _ => rfl) (hin m) (hout m) _ (fun _ h => h)

end Cert.KernelIdeal.Hand
-- ==== Proof.Frames.lean ====
/-
  The frame claims of the kernel: its run at any float values, read at its arguments and its semaphores. The printed
  kernel is the ideal one's text with its named constants at the printed words, so one run serves both.
-/
module

public import proofs.«01_k».proof.Defs
public import proofs.«01_k».proof.Proof.Run
public import proofs.«01_k».proof.Proof.Gen.Kernel
public import proofs.«01_k».proof.Proof.Gen.ReferenceIdeal.Run

@[expose] public section

set_option maxRecDepth 100000

noncomputable section

namespace Cert.Proof

open Idealize.ShloMosaic Idealize.ShloMosaic.TcCoe Idealize.SL.Sem

section AnyValues

open Cert.KernelIdeal Cert.KernelIdeal.Gen Cert.KernelIdeal.Hand

variable {F : FTy → Type} [FloatOps F] [Named F]
variable (m : (ℓ : Loc nD τ sig) → Buf (Elt F) ℓ) (ρ : Dev nD → PrngReg)

/-- The ideal kernel's text, run: the arguments end unchanged and every semaphore counter at zero. -/
theorem frame_any : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run _ _ _).mono (fun r h => ⟨fun c => ⟨
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩, h.2⟩) (run_main m ρ)

end AnyValues

theorem frame_ideal : Cert.quiescent_KernelIdeal := fun m ρ _ => frame_any m ρ

/-- At the machine's floats a named constant is its printed word. -/
local instance namedBits : Named Bits := ⟨fun _ _ {φ} b => Scalar.ofBits φ b⟩

set_option maxHeartbeats 2000000 in
theorem main_same : Cert.KernelIdeal.main (F := Bits) = Cert.Kernel.main (F := Bits) := rfl

theorem body_same : Cert.KernelIdeal.cc0_attn_bwd (F := Bits) = Cert.Kernel.cc0_attn_bwd (F := Bits) := rfl

theorem defs₀_same : Cert.KernelIdeal.defs₀ (F := Bits) = Cert.Kernel.defs₀ (F := Bits) := by
  unfold Cert.KernelIdeal.defs₀ Cert.Kernel.defs₀
  refine congrArg Defs.onTc (funext fun l => ?_)
  obtain ⟨_ | n, h⟩ := l
  · rfl
  · exact absurd h (by omega)

theorem defs_same : Cert.KernelIdeal.defs (F := Bits) = Cert.Kernel.defs (F := Bits) :=
  congrArg (Pipeline.defs (Cert.Kernel.pcfgs (F := Bits))) defs₀_same

set_option maxHeartbeats 2000000 in
theorem frame_kernel : Cert.quiescent_Kernel := fun m ρ _ => by
  rw [← main_same, ← defs_same]
  exact frame_any (F := Bits) m ρ

end Cert.Proof

end
-- ==== Proof.Lift.lean ====
/-
  Arrays of extended reals whose elements are all real: functions of natural numbers, read on the arrays' indices; and
  how windows and sums act on them.
-/
module

public import proofs.«01_k».proof.Proof.Run
public import Idealize.ShloMosaic.Lib.Pointwise
public import Idealize.ShloMosaic.Lib.WordCmp

@[expose] public section

set_option maxRecDepth 16384

noncomputable section

namespace Cert.KernelIdeal.Hand

open Idealize.ShloMosaic
open VecWindow
open scoped BigOperators

/-- The matrix of the real numbers `A`. -/
def M2 {m n : ℕ} (A : ℕ → ℕ → ℝ) : (⟨2, ![m, n]⟩ : Shape).Idx → EReal :=
  fun j => ((A (j 0).val (j 1).val : ℝ) : EReal)

/-- One row of the real numbers `A`. -/
def R1 {n : ℕ} (A : ℕ → ℝ) : (⟨2, ![1, n]⟩ : Shape).Idx → EReal := fun j => ((A (j 1).val : ℝ) : EReal)

@[simp] theorem M2_ix {m n : ℕ} (A : ℕ → ℕ → ℝ) (a : Fin m) (b : Fin n) : M2 A (ix2 a b) = ((A a.val b.val : ℝ) : EReal) := rfl
@[simp] theorem R1_ix {n : ℕ} (A : ℕ → ℝ) (a : Fin 1) (b : Fin n) : R1 A (ix2 a b) = ((A b.val : ℝ) : EReal) := rfl

theorem M2_congr {m n : ℕ} {A B : ℕ → ℕ → ℝ} (h : ∀ x < m, ∀ l < n, A x l = B x l) : (M2 A : (⟨2, ![m, n]⟩ : Shape).Idx → EReal) = M2 B := by
  funext j
  exact congrArg _ (h _ (j 0).isLt _ (j 1).isLt)

/-- A sum of real numbers is real. -/
theorem coe_sum {ι : Type} (s : Finset ι) (f : ι → ℝ) : (∑ x ∈ s, ((f x : ℝ) : EReal)) = ((∑ x ∈ s, f x : ℝ) : EReal) := by
  classical
  induction s using Finset.induction_on with
  | empty => simp
  | insert a s h ih => rw [Finset.sum_insert h, Finset.sum_insert h, ih, EReal.coe_add]

/-- A sum of products of real numbers is real. -/
theorem coe_dot {n : ℕ} (f g : Fin n → ℝ) : (∑ x, ((f x : ℝ) : EReal) * ((g x : ℝ) : EReal)) = ((∑ x, f x * g x : ℝ) : EReal) := by
  simp only [← EReal.coe_mul, coe_sum]

/-- A choice between two real numbers. -/
theorem coe_ite (p : Prop) [Decidable p] (a b : ℝ) : (if p then ((a : ℝ) : EReal) else ((b : ℝ) : EReal)) = (((if p then a else b) : ℝ) : EReal) := by
  split <;> rfl

theorem exp2_real (x : ℝ) : FloatOps.exp2 (F := Ideal) (φ := .f32) ((x : ℝ) : EReal) = (((2 : ℝ) ^ x : ℝ) : EReal) := rfl

theorem toInt_ofNat (a : ℕ) (h : a < 2 ^ 31) : (BitVec.ofNat 32 a).toInt = a := by
  rw [BitVec.toInt_eq_toNat_of_lt] <;> simp <;> omega

/-- The comparison of a key's index with a query's, as words. -/
theorem sel_sle {α : Type} (a b c : ℕ) (ha : a < 65536) (hb : b < 65536) (hc : c < 65536) (x y : α) :
    Scalar.select (IntOp.cmpi .sle (BitVec.ofNat 32 a) (IntOp.addi (BitVec.ofNat 32 b) (BitVec.ofNat 32 c))) x y = if a ≤ b + c then x else y := by
  have e : IntOp.addi (BitVec.ofNat 32 b) (BitVec.ofNat 32 c) = BitVec.ofNat 32 (b + c) := by
    show BitVec.ofNat 32 b + BitVec.ofNat 32 c = _
    rw [← BitVec.ofNat_add]
  rw [e]
  show Scalar.select (BitVec.ofBool (decide ((BitVec.ofNat 32 a).toInt ≤ (BitVec.ofNat 32 (b + c)).toInt))) x y = _
  rw [toInt_ofNat _ (by omega), toInt_ofNat _ (by omega)]
  by_cases h : a ≤ b + c
  · rw [if_pos h, decide_eq_true (by exact_mod_cast h)]; rfl
  · rw [if_neg h, decide_eq_false (by exact_mod_cast h)]; rfl

theorem sel_slt {α : Type} (a c : ℕ) (ha : a < 65536) (hc : c < 65536) (x y : α) :
    Scalar.select (IntOp.cmpi .slt (BitVec.ofNat 32 a) (BitVec.ofNat 32 c)) x y = if a < c then x else y := by
  show Scalar.select (BitVec.ofBool (decide ((BitVec.ofNat 32 a).toInt < (BitVec.ofNat 32 c).toInt))) x y = _
  rw [toInt_ofNat _ (by omega), toInt_ofNat _ (by omega)]
  by_cases h : a < c
  · rw [if_pos h, decide_eq_true (by exact_mod_cast h)]; rfl
  · rw [if_neg h, decide_eq_false (by exact_mod_cast h)]; rfl

/-- A window of a real matrix. -/
theorem window_lift {m n p q : ℕ} (A : ℕ → ℕ → ℝ) (off : Fin 2 → ℕ) (o0 o1 : ℕ) (h : off = ![o0, o1])
    (inb : ∀ a, off a + (⟨2, ![p, q]⟩ : Shape).size a ≤ (⟨2, ![m, n]⟩ : Shape).size a) :
    window (s := ⟨2, ![m, n]⟩) (M2 A) off (⟨2, ![p, q]⟩ : Shape).size inb = (M2 (fun x l => A (o0 + x) (o1 + l)) : (⟨2, ![p, q]⟩ : Shape).Idx → EReal) := by
  subst h
  funext y
  show ((A (o0 + 1 * (y 0).val) (o1 + 1 * (y 1).val) : ℝ) : EReal) = ((A (o0 + (y 0).val) (o1 + (y 1).val) : ℝ) : EReal)
  rw [one_mul, one_mul]

/-- A real matrix put over a window of another. -/
theorem put_lift {m n p q : ℕ} (A W : ℕ → ℕ → ℝ) (off : Fin 2 → ℕ) (o0 o1 : ℕ) (h : off = ![o0, o1]) :
    put (s := ⟨2, ![m, n]⟩) (M2 A) off (⟨2, ![p, q]⟩ : Shape).size (M2 W : (⟨2, ![p, q]⟩ : Shape).Idx → EReal)
      = M2 (fun x l => if (o0 ≤ x ∧ x < o0 + p) ∧ (o1 ≤ l ∧ l < o1 + q) then W (x - o0) (l - o1) else A x l) := by
  subst h
  funext y
  unfold put
  by_cases hy : (o0 ≤ (y 0).val ∧ (y 0).val < o0 + p) ∧ (o1 ≤ (y 1).val ∧ (y 1).val < o1 + q)
  · rw [dif_pos (by intro a; match a with | ⟨0, _⟩ => exact hy.1 | ⟨1, _⟩ => exact hy.2)]
    show _ = (((if _ then _ else _ : ℝ)) : EReal)
    rw [if_pos hy]; rfl
  · rw [dif_neg (fun h => hy ⟨h 0, h 1⟩)]
    show _ = (((if _ then _ else _ : ℝ)) : EReal)
    rw [if_neg hy]; rfl

end Cert.KernelIdeal.Hand
-- ==== Proof.Loc.lean ====
/-
  The kernel's steps at one block of keys: every stored vector, on real arrays.
-/
module

public import proofs.«01_k».proof.Proof.Lift

@[expose] public section

set_option maxRecDepth 16384

noncomputable section

namespace Cert.KernelIdeal.Hand

open Cert.KernelIdeal Cert.KernelIdeal.Gen
open Idealize.ShloMosaic
open scoped BigOperators

/-- The probabilities: two to the scores less the rows' log-sums, keys by queries, zero outside the mask `m`. -/
def pr (m : ℕ → ℕ → Bool) (K Q : ℕ → ℕ → ℝ) (L : ℕ → ℝ) (x r : ℕ) : ℝ :=
  if m x r = true then (2 : ℝ) ^ (∑ l ∈ Finset.range 128, K x l * Q r l - L r) else 0

/-- The gradients of the scores: the probabilities times what the values' product exceeds the row's own sum by. -/
def ds (P V G : ℕ → ℕ → ℝ) (D : ℕ → ℝ) (x r : ℕ) : ℝ := P x r * (∑ l ∈ Finset.range 128, V x l * G r l - D r)

/-- Every key is inside. -/
def every (_ _ : ℕ) : Bool := true

/-- The keys at or before the query, the queries starting `c` keys into the block. -/
def upper (c x r : ℕ) : Bool := decide (x ≤ r + c)

theorem pay9_lift (K : ℕ → ℕ → ℝ) : k0_pay9 (F := Ideal) (M2 K : S2048x128.Idx → EReal) = M2 K := by
  funext j
  idx_vars j
  pointwise [k0_pay9]

theorem pay10_lift (K : ℕ → ℕ → ℝ) : k0_pay10 (F := Ideal) (M2 K : S2048x128.Idx → EReal) = M2 K := by
  funext j
  idx_vars j
  pointwise [k0_pay10]

theorem pay16_lift (K : ℕ → ℕ → ℝ) : k0_pay16 (F := Ideal) (M2 K : S2048x128.Idx → EReal) = M2 K := by
  funext j
  idx_vars j
  pointwise [k0_pay16]

theorem pay11_lift (K Q : ℕ → ℕ → ℝ) (L : ℕ → ℝ) :
    k0_pay11 (F := Ideal) (R1 L) (M2 Q) (M2 K : S2048x128.Idx → EReal)
      = M2 (pr every K Q L) := by
  unfold k0_pay11
  rw [pay10_lift]
  funext j
  idx_vars j
  pointwise []
  simp only [M2_ix, R1_ix, coe_dot, coe_sum, zero_add, exp2_real, ← EReal.coe_sub, ← EReal.coe_mul, ← EReal.coe_add, Finset.sum_range, pr, ds]
  rfl

theorem pay17_lift (K Q : ℕ → ℕ → ℝ) (L : ℕ → ℝ) :
    k0_pay17 (F := Ideal) (R1 L) (M2 Q) (M2 K : S2048x128.Idx → EReal)
      = M2 (pr every K Q L) := by
  unfold k0_pay17
  rw [pay16_lift]
  funext j
  idx_vars j
  pointwise []
  simp only [M2_ix, R1_ix, coe_dot, coe_sum, zero_add, exp2_real, ← EReal.coe_sub, ← EReal.coe_mul, ← EReal.coe_add, Finset.sum_range, pr, ds]
  rfl

theorem pay12_lift (G K Q : ℕ → ℕ → ℝ) (L : ℕ → ℝ) :
    k0_pay12 (F := Ideal) (M2 G) (R1 L) (M2 Q) (M2 K : S2048x128.Idx → EReal)
      = M2 (fun x l => ∑ r ∈ Finset.range 512, pr every K Q L x r * G r l) := by
  unfold k0_pay12
  rw [pay11_lift]
  funext j
  idx_vars j
  pointwise []
  simp only [M2_ix, R1_ix, coe_dot, coe_sum, zero_add, exp2_real, ← EReal.coe_sub, ← EReal.coe_mul, ← EReal.coe_add, Finset.sum_range]

theorem pay18_lift (G K Q : ℕ → ℕ → ℝ) (L : ℕ → ℝ) :
    k0_pay18 (F := Ideal) (M2 G) (R1 L) (M2 Q) (M2 K : S2048x128.Idx → EReal)
      = M2 (fun x l => ∑ r ∈ Finset.range 512, pr every K Q L x r * G r l) := by
  unfold k0_pay18
  rw [pay17_lift]
  funext j
  idx_vars j
  pointwise []
  simp only [M2_ix, R1_ix, coe_dot, coe_sum, zero_add, exp2_real, ← EReal.coe_sub, ← EReal.coe_mul, ← EReal.coe_add, Finset.sum_range]

theorem pay13_lift (G V K Q : ℕ → ℕ → ℝ) (D L : ℕ → ℝ) :
    k0_pay13 (F := Ideal) (M2 G) (R1 D) (R1 L) (M2 Q) (M2 V : S2048x128.Idx → EReal) (M2 K : S2048x128.Idx → EReal)
      = M2 (ds (pr every K Q L) V G D) := by
  unfold k0_pay13
  rw [pay9_lift, pay11_lift]
  funext j
  idx_vars j
  pointwise []
  simp only [M2_ix, R1_ix, coe_dot, coe_sum, zero_add, exp2_real, ← EReal.coe_sub, ← EReal.coe_mul, ← EReal.coe_add, Finset.sum_range, ds]

theorem pay19_lift (G V K Q : ℕ → ℕ → ℝ) (D L : ℕ → ℝ) :
    k0_pay19 (F := Ideal) (M2 G) (R1 D) (R1 L) (M2 Q) (M2 V : S2048x128.Idx → EReal) (M2 K : S2048x128.Idx → EReal)
      = M2 (ds (pr every K Q L) V G D) := by
  unfold k0_pay19
  rw [pay9_lift, pay17_lift]
  funext j
  idx_vars j
  pointwise []
  simp only [M2_ix, R1_ix, coe_dot, coe_sum, zero_add, exp2_real, ← EReal.coe_sub, ← EReal.coe_mul, ← EReal.coe_add, Finset.sum_range, ds]

theorem pay14_lift (G V K Q X : ℕ → ℕ → ℝ) (D L : ℕ → ℝ) :
    k0_pay14 (F := Ideal) (M2 G) (R1 D) (R1 L) (M2 Q) (M2 V : S2048x128.Idx → EReal) (M2 K : S2048x128.Idx → EReal) (M2 X : S2048x128.Idx → EReal)
      = M2 (fun x l => X x l + ∑ r ∈ Finset.range 512, ds (pr every K Q L) V G D x r * Q r l) := by
  unfold k0_pay14
  rw [pay13_lift]
  funext j
  idx_vars j
  pointwise []
  simp only [M2_ix, R1_ix, coe_dot, coe_sum, zero_add, exp2_real, ← EReal.coe_sub, ← EReal.coe_mul, ← EReal.coe_add, Finset.sum_range]

theorem pay15_lift (G V K Q X : ℕ → ℕ → ℝ) (D L : ℕ → ℝ) :
    k0_pay15 (F := Ideal) (M2 G) (R1 D) (R1 L) (M2 Q) (M2 X) (M2 V : S2048x128.Idx → EReal) (M2 K : S2048x128.Idx → EReal)
      = M2 (fun r l => X r l + ∑ x ∈ Finset.range 2048, ds (pr every K Q L) V G D x r * K x l) := by
  unfold k0_pay15
  rw [pay13_lift, pay10_lift]
  funext j
  idx_vars j
  pointwise []
  simp only [M2_ix, R1_ix, coe_dot, coe_sum, zero_add, exp2_real, ← EReal.coe_sub, ← EReal.coe_mul, ← EReal.coe_add, Finset.sum_range]

theorem pay100_lift (W Q X : ℕ → ℕ → ℝ) :
    k0_pay100 (F := Ideal) (M2 Q) (M2 W : S2048x512.Idx → EReal) (M2 X : S2048x128.Idx → EReal)
      = M2 (fun x l => X x l + ∑ r ∈ Finset.range 512, W x r * Q r l) := by
  unfold k0_pay100
  funext j
  idx_vars j
  pointwise [k0_pay99]
  simp only [M2_ix, R1_ix, coe_dot, coe_sum, zero_add, exp2_real, ← EReal.coe_sub, ← EReal.coe_mul, ← EReal.coe_add, Finset.sum_range]

theorem pay101_lift (W K X : ℕ → ℕ → ℝ) :
    k0_pay101 (F := Ideal) (M2 X) (M2 K : S2048x128.Idx → EReal) (M2 W : S2048x512.Idx → EReal)
      = M2 (fun r l => X r l + ∑ x ∈ Finset.range 2048, W x r * K x l) := by
  unfold k0_pay101
  funext j
  idx_vars j
  pointwise [k0_pay99]
  simp only [M2_ix, R1_ix, coe_dot, coe_sum, zero_add, exp2_real, ← EReal.coe_sub, ← EReal.coe_mul, ← EReal.coe_add, Finset.sum_range]

theorem pay102_lift (A B X : ℕ → ℕ → ℝ) :
    k0_pay102 (F := Ideal) (M2 A : S2048x128.Idx → EReal) (M2 B : S2048x128.Idx → EReal) (M2 X : S2048x128.Idx → EReal)
      = M2 (fun x l => X x l + if l < 64 then A x l else B x l) := by
  funext j
  idx_vars j
  pointwise [k0_pay102]
  rw [sel_slt _ 64 (by omega) (by omega)]
  simp only [M2_ix, coe_ite, ← EReal.coe_add]

end Cert.KernelIdeal.Hand
-- ==== Proof.LocLast.lean ====
/-
  The kernel's steps at the last block of keys: every stored vector, on real arrays.
-/
module

public import proofs.«01_k».proof.Proof.Loc

@[expose] public section

set_option maxRecDepth 16384

noncomputable section

namespace Cert.KernelIdeal.Hand

open Cert.KernelIdeal Cert.KernelIdeal.Gen
open Idealize.ShloMosaic
open scoped BigOperators

theorem pay31_lift (K : ℕ → ℕ → ℝ) : k0_pay31 (F := Ideal) (M2 K : S2048x128.Idx → EReal) = M2 K := by
  funext j
  idx_vars j
  pointwise [k0_pay31]

theorem pay32_lift (K : ℕ → ℕ → ℝ) : k0_pay32 (F := Ideal) (M2 K : S2048x128.Idx → EReal) = M2 K := by
  funext j
  idx_vars j
  pointwise [k0_pay32]

theorem pay38_lift (K : ℕ → ℕ → ℝ) : k0_pay38 (F := Ideal) (M2 K : S2048x128.Idx → EReal) = M2 K := by
  funext j
  idx_vars j
  pointwise [k0_pay38]

theorem pay33_lift (K Q : ℕ → ℕ → ℝ) (L : ℕ → ℝ) :
    k0_pay33 (F := Ideal) (R1 L) (M2 Q) (M2 K : S2048x128.Idx → EReal)
      = M2 (pr (upper 1536) K Q L) := by
  unfold k0_pay33
  rw [pay32_lift]
  funext j
  idx_vars j
  pointwise []
  simp only [M2_ix, R1_ix, coe_dot, coe_sum, zero_add, exp2_real, ← EReal.coe_sub, ← EReal.coe_mul, ← EReal.coe_add, Finset.sum_range, pr, ds, upper]
  refine (sel_sle _ _ 1536 (by omega) (by omega) (by omega) _ _).trans ?_
  simp only [← EReal.coe_zero, coe_ite, decide_eq_true_eq]

theorem pay39_lift (K Q : ℕ → ℕ → ℝ) (L : ℕ → ℝ) :
    k0_pay39 (F := Ideal) (R1 L) (M2 Q) (M2 K : S2048x128.Idx → EReal)
      = M2 (pr (upper 1536) K Q L) := by
  unfold k0_pay39
  rw [pay38_lift]
  funext j
  idx_vars j
  pointwise []
  simp only [M2_ix, R1_ix, coe_dot, coe_sum, zero_add, exp2_real, ← EReal.coe_sub, ← EReal.coe_mul, ← EReal.coe_add, Finset.sum_range, pr, ds, upper]
  refine (sel_sle _ _ 1536 (by omega) (by omega) (by omega) _ _).trans ?_
  simp only [← EReal.coe_zero, coe_ite, decide_eq_true_eq]

theorem pay34_lift (G K Q : ℕ → ℕ → ℝ) (L : ℕ → ℝ) :
    k0_pay34 (F := Ideal) (M2 G) (R1 L) (M2 Q) (M2 K : S2048x128.Idx → EReal)
      = M2 (fun x l => ∑ r ∈ Finset.range 512, pr (upper 1536) K Q L x r * G r l) := by
  unfold k0_pay34
  rw [pay33_lift]
  funext j
  idx_vars j
  pointwise []
  simp only [M2_ix, R1_ix, coe_dot, coe_sum, zero_add, exp2_real, ← EReal.coe_sub, ← EReal.coe_mul, ← EReal.coe_add, Finset.sum_range]

theorem pay40_lift (G K Q : ℕ → ℕ → ℝ) (L : ℕ → ℝ) :
    k0_pay40 (F := Ideal) (M2 G) (R1 L) (M2 Q) (M2 K : S2048x128.Idx → EReal)
      = M2 (fun x l => ∑ r ∈ Finset.range 512, pr (upper 1536) K Q L x r * G r l) := by
  unfold k0_pay40
  rw [pay39_lift]
  funext j
  idx_vars j
  pointwise []
  simp only [M2_ix, R1_ix, coe_dot, coe_sum, zero_add, exp2_real, ← EReal.coe_sub, ← EReal.coe_mul, ← EReal.coe_add, Finset.sum_range]

theorem pay35_lift (G V K Q : ℕ → ℕ → ℝ) (D L : ℕ → ℝ) :
    k0_pay35 (F := Ideal) (M2 G) (R1 D) (R1 L) (M2 Q) (M2 V : S2048x128.Idx → EReal) (M2 K : S2048x128.Idx → EReal)
      = M2 (ds (pr (upper 1536) K Q L) V G D) := by
  unfold k0_pay35
  rw [pay31_lift, pay33_lift]
  funext j
  idx_vars j
  pointwise []
  simp only [M2_ix, R1_ix, coe_dot, coe_sum, zero_add, exp2_real, ← EReal.coe_sub, ← EReal.coe_mul, ← EReal.coe_add, Finset.sum_range, ds]

theorem pay41_lift (G V K Q : ℕ → ℕ → ℝ) (D L : ℕ → ℝ) :
    k0_pay41 (F := Ideal) (M2 G) (R1 D) (R1 L) (M2 Q) (M2 V : S2048x128.Idx → EReal) (M2 K : S2048x128.Idx → EReal)
      = M2 (ds (pr (upper 1536) K Q L) V G D) := by
  unfold k0_pay41
  rw [pay39_lift]
  funext j
  idx_vars j
  pointwise []
  simp only [M2_ix, R1_ix, coe_dot, coe_sum, zero_add, exp2_real, ← EReal.coe_sub, ← EReal.coe_mul, ← EReal.coe_add, Finset.sum_range, ds]

theorem pay36_lift (W Q X : ℕ → ℕ → ℝ) :
    k0_pay36 (F := Ideal) (M2 Q) (M2 W : S2048x512.Idx → EReal) (M2 X : S2048x128.Idx → EReal)
      = M2 (fun x l => X x l + ∑ r ∈ Finset.range 512, W x r * Q r l) := by
  unfold k0_pay36
  funext j
  idx_vars j
  pointwise []
  simp only [M2_ix, R1_ix, coe_dot, coe_sum, zero_add, exp2_real, ← EReal.coe_sub, ← EReal.coe_mul, ← EReal.coe_add, Finset.sum_range]

theorem pay37_lift (W K X : ℕ → ℕ → ℝ) :
    k0_pay37 (F := Ideal) (M2 X) (M2 K : S2048x128.Idx → EReal) (M2 W : S2048x512.Idx → EReal)
      = M2 (fun r l => X r l + ∑ x ∈ Finset.range 2048, W x r * K x l) := by
  unfold k0_pay37
  funext j
  idx_vars j
  pointwise []
  simp only [M2_ix, R1_ix, coe_dot, coe_sum, zero_add, exp2_real, ← EReal.coe_sub, ← EReal.coe_mul, ← EReal.coe_add, Finset.sum_range]

theorem pay42_lift (G V K Q X : ℕ → ℕ → ℝ) (D L : ℕ → ℝ) :
    k0_pay42 (F := Ideal) (M2 G) (R1 D) (R1 L) (M2 Q) (M2 V : S2048x128.Idx → EReal) (M2 K : S2048x128.Idx → EReal) (M2 X : S2048x128.Idx → EReal)
      = M2 (fun x l => X x l + ∑ r ∈ Finset.range 512, ds (pr (upper 1536) K Q L) V G D x r * Q r l) := by
  unfold k0_pay42
  rw [pay41_lift]
  funext j
  idx_vars j
  pointwise []
  simp only [M2_ix, R1_ix, coe_dot, coe_sum, zero_add, exp2_real, ← EReal.coe_sub, ← EReal.coe_mul, ← EReal.coe_add, Finset.sum_range]

theorem pay43_lift (G V K Q X : ℕ → ℕ → ℝ) (D L : ℕ → ℝ) :
    k0_pay43 (F := Ideal) (M2 G) (R1 D) (R1 L) (M2 Q) (M2 X) (M2 V : S2048x128.Idx → EReal) (M2 K : S2048x128.Idx → EReal)
      = M2 (fun r l => X r l + ∑ x ∈ Finset.range 2048, ds (pr (upper 1536) K Q L) V G D x r * K x l) := by
  unfold k0_pay43
  rw [pay41_lift, pay38_lift]
  funext j
  idx_vars j
  pointwise []
  simp only [M2_ix, R1_ix, coe_dot, coe_sum, zero_add, exp2_real, ← EReal.coe_sub, ← EReal.coe_mul, ← EReal.coe_add, Finset.sum_range]

theorem pay107_lift (A B X : ℕ → ℕ → ℝ) :
    k0_pay107 (F := Ideal) (M2 A : S2048x128.Idx → EReal) (M2 B : S2048x128.Idx → EReal) (M2 X : S2048x128.Idx → EReal)
      = M2 (fun x l => X x l + if l < 64 then A x l else B x l) := by
  funext j
  idx_vars j
  pointwise [k0_pay107]
  rw [sel_slt _ 64 (by omega) (by omega)]
  simp only [M2_ix, coe_ite, ← EReal.coe_add]

theorem pay44_lift (K : ℕ → ℕ → ℝ) : k0_pay44 (F := Ideal) (M2 K : S1536x128.Idx → EReal) = M2 K := by
  funext j
  idx_vars j
  pointwise [k0_pay44]

theorem pay45_lift (K : ℕ → ℕ → ℝ) : k0_pay45 (F := Ideal) (M2 K : S1536x128.Idx → EReal) = M2 K := by
  funext j
  idx_vars j
  pointwise [k0_pay45]

theorem pay51_lift (K : ℕ → ℕ → ℝ) : k0_pay51 (F := Ideal) (M2 K : S1536x128.Idx → EReal) = M2 K := by
  funext j
  idx_vars j
  pointwise [k0_pay51]

theorem pay46_lift (K Q : ℕ → ℕ → ℝ) (L : ℕ → ℝ) :
    k0_pay46 (F := Ideal) (R1 L) (M2 Q) (M2 K : S1536x128.Idx → EReal)
      = M2 (pr (upper 1024) K Q L) := by
  unfold k0_pay46
  rw [pay45_lift]
  funext j
  idx_vars j
  pointwise []
  simp only [M2_ix, R1_ix, coe_dot, coe_sum, zero_add, exp2_real, ← EReal.coe_sub, ← EReal.coe_mul, ← EReal.coe_add, Finset.sum_range, pr, ds, upper]
  refine (sel_sle _ _ 1024 (by omega) (by omega) (by omega) _ _).trans ?_
  simp only [← EReal.coe_zero, coe_ite, decide_eq_true_eq]

theorem pay52_lift (K Q : ℕ → ℕ → ℝ) (L : ℕ → ℝ) :
    k0_pay52 (F := Ideal) (R1 L) (M2 Q) (M2 K : S1536x128.Idx → EReal)
      = M2 (pr (upper 1024) K Q L) := by
  unfold k0_pay52
  rw [pay51_lift]
  funext j
  idx_vars j
  pointwise []
  simp only [M2_ix, R1_ix, coe_dot, coe_sum, zero_add, exp2_real, ← EReal.coe_sub, ← EReal.coe_mul, ← EReal.coe_add, Finset.sum_range, pr, ds, upper]
  refine (sel_sle _ _ 1024 (by omega) (by omega) (by omega) _ _).trans ?_
  simp only [← EReal.coe_zero, coe_ite, decide_eq_true_eq]

theorem pay47_lift (G K Q : ℕ → ℕ → ℝ) (L : ℕ → ℝ) :
    k0_pay47 (F := Ideal) (M2 G) (R1 L) (M2 Q) (M2 K : S1536x128.Idx → EReal)
      = M2 (fun x l => ∑ r ∈ Finset.range 512, pr (upper 1024) K Q L x r * G r l) := by
  unfold k0_pay47
  rw [pay46_lift]
  funext j
  idx_vars j
  pointwise []
  simp only [M2_ix, R1_ix, coe_dot, coe_sum, zero_add, exp2_real, ← EReal.coe_sub, ← EReal.coe_mul, ← EReal.coe_add, Finset.sum_range]

theorem pay53_lift (G K Q : ℕ → ℕ → ℝ) (L : ℕ → ℝ) :
    k0_pay53 (F := Ideal) (M2 G) (R1 L) (M2 Q) (M2 K : S1536x128.Idx → EReal)
      = M2 (fun x l => ∑ r ∈ Finset.range 512, pr (upper 1024) K Q L x r * G r l) := by
  unfold k0_pay53
  rw [pay52_lift]
  funext j
  idx_vars j
  pointwise []
  simp only [M2_ix, R1_ix, coe_dot, coe_sum, zero_add, exp2_real, ← EReal.coe_sub, ← EReal.coe_mul, ← EReal.coe_add, Finset.sum_range]

theorem pay48_lift (G V K Q : ℕ → ℕ → ℝ) (D L : ℕ → ℝ) :
    k0_pay48 (F := Ideal) (M2 G) (R1 D) (R1 L) (M2 Q) (M2 V : S1536x128.Idx → EReal) (M2 K : S1536x128.Idx → EReal)
      = M2 (ds (pr (upper 1024) K Q L) V G D) := by
  unfold k0_pay48
  rw [pay44_lift, pay46_lift]
  funext j
  idx_vars j
  pointwise []
  simp only [M2_ix, R1_ix, coe_dot, coe_sum, zero_add, exp2_real, ← EReal.coe_sub, ← EReal.coe_mul, ← EReal.coe_add, Finset.sum_range, ds]

theorem pay54_lift (G V K Q : ℕ → ℕ → ℝ) (D L : ℕ → ℝ) :
    k0_pay54 (F := Ideal) (M2 G) (R1 D) (R1 L) (M2 Q) (M2 V : S1536x128.Idx → EReal) (M2 K : S1536x128.Idx → EReal)
      = M2 (ds (pr (upper 1024) K Q L) V G D) := by
  unfold k0_pay54
  rw [pay52_lift]
  funext j
  idx_vars j
  pointwise []
  simp only [M2_ix, R1_ix, coe_dot, coe_sum, zero_add, exp2_real, ← EReal.coe_sub, ← EReal.coe_mul, ← EReal.coe_add, Finset.sum_range, ds]

theorem pay49_lift (W Q X : ℕ → ℕ → ℝ) :
    k0_pay49 (F := Ideal) (M2 Q) (M2 W : S1536x512.Idx → EReal) (M2 X : S1536x128.Idx → EReal)
      = M2 (fun x l => X x l + ∑ r ∈ Finset.range 512, W x r * Q r l) := by
  unfold k0_pay49
  funext j
  idx_vars j
  pointwise []
  simp only [M2_ix, R1_ix, coe_dot, coe_sum, zero_add, exp2_real, ← EReal.coe_sub, ← EReal.coe_mul, ← EReal.coe_add, Finset.sum_range]

theorem pay50_lift (W K X : ℕ → ℕ → ℝ) :
    k0_pay50 (F := Ideal) (M2 X) (M2 K : S1536x128.Idx → EReal) (M2 W : S1536x512.Idx → EReal)
      = M2 (fun r l => X r l + ∑ x ∈ Finset.range 1536, W x r * K x l) := by
  unfold k0_pay50
  funext j
  idx_vars j
  pointwise []
  simp only [M2_ix, R1_ix, coe_dot, coe_sum, zero_add, exp2_real, ← EReal.coe_sub, ← EReal.coe_mul, ← EReal.coe_add, Finset.sum_range]

theorem pay55_lift (G V K Q X : ℕ → ℕ → ℝ) (D L : ℕ → ℝ) :
    k0_pay55 (F := Ideal) (M2 G) (R1 D) (R1 L) (M2 Q) (M2 V : S1536x128.Idx → EReal) (M2 K : S1536x128.Idx → EReal) (M2 X : S1536x128.Idx → EReal)
      = M2 (fun x l => X x l + ∑ r ∈ Finset.range 512, ds (pr (upper 1024) K Q L) V G D x r * Q r l) := by
  unfold k0_pay55
  rw [pay54_lift]
  funext j
  idx_vars j
  pointwise []
  simp only [M2_ix, R1_ix, coe_dot, coe_sum, zero_add, exp2_real, ← EReal.coe_sub, ← EReal.coe_mul, ← EReal.coe_add, Finset.sum_range]

theorem pay56_lift (G V K Q X : ℕ → ℕ → ℝ) (D L : ℕ → ℝ) :
    k0_pay56 (F := Ideal) (M2 G) (R1 D) (R1 L) (M2 Q) (M2 X) (M2 V : S1536x128.Idx → EReal) (M2 K : S1536x128.Idx → EReal)
      = M2 (fun r l => X r l + ∑ x ∈ Finset.range 1536, ds (pr (upper 1024) K Q L) V G D x r * K x l) := by
  unfold k0_pay56
  rw [pay54_lift, pay51_lift]
  funext j
  idx_vars j
  pointwise []
  simp only [M2_ix, R1_ix, coe_dot, coe_sum, zero_add, exp2_real, ← EReal.coe_sub, ← EReal.coe_mul, ← EReal.coe_add, Finset.sum_range]

theorem pay108_lift (A B X : ℕ → ℕ → ℝ) :
    k0_pay108 (F := Ideal) (M2 A : S1536x128.Idx → EReal) (M2 B : S1536x128.Idx → EReal) (M2 X : S1536x128.Idx → EReal)
      = M2 (fun x l => X x l + if l < 64 then A x l else B x l) := by
  funext j
  idx_vars j
  pointwise [k0_pay108]
  rw [sel_slt _ 64 (by omega) (by omega)]
  simp only [M2_ix, coe_ite, ← EReal.coe_add]

theorem pay57_lift (K : ℕ → ℕ → ℝ) : k0_pay57 (F := Ideal) (M2 K : S1024x128.Idx → EReal) = M2 K := by
  funext j
  idx_vars j
  pointwise [k0_pay57]

theorem pay58_lift (K : ℕ → ℕ → ℝ) : k0_pay58 (F := Ideal) (M2 K : S1024x128.Idx → EReal) = M2 K := by
  funext j
  idx_vars j
  pointwise [k0_pay58]

theorem pay64_lift (K : ℕ → ℕ → ℝ) : k0_pay64 (F := Ideal) (M2 K : S1024x128.Idx → EReal) = M2 K := by
  funext j
  idx_vars j
  pointwise [k0_pay64]

theorem pay59_lift (K Q : ℕ → ℕ → ℝ) (L : ℕ → ℝ) :
    k0_pay59 (F := Ideal) (R1 L) (M2 Q) (M2 K : S1024x128.Idx → EReal)
      = M2 (pr (upper 512) K Q L) := by
  unfold k0_pay59
  rw [pay58_lift]
  funext j
  idx_vars j
  pointwise []
  simp only [M2_ix, R1_ix, coe_dot, coe_sum, zero_add, exp2_real, ← EReal.coe_sub, ← EReal.coe_mul, ← EReal.coe_add, Finset.sum_range, pr, ds, upper]
  refine (sel_sle _ _ 512 (by omega) (by omega) (by omega) _ _).trans ?_
  simp only [← EReal.coe_zero, coe_ite, decide_eq_true_eq]

theorem pay65_lift (K Q : ℕ → ℕ → ℝ) (L : ℕ → ℝ) :
    k0_pay65 (F := Ideal) (R1 L) (M2 Q) (M2 K : S1024x128.Idx → EReal)
      = M2 (pr (upper 512) K Q L) := by
  unfold k0_pay65
  rw [pay64_lift]
  funext j
  idx_vars j
  pointwise []
  simp only [M2_ix, R1_ix, coe_dot, coe_sum, zero_add, exp2_real, ← EReal.coe_sub, ← EReal.coe_mul, ← EReal.coe_add, Finset.sum_range, pr, ds, upper]
  refine (sel_sle _ _ 512 (by omega) (by omega) (by omega) _ _).trans ?_
  simp only [← EReal.coe_zero, coe_ite, decide_eq_true_eq]

theorem pay60_lift (G K Q : ℕ → ℕ → ℝ) (L : ℕ → ℝ) :
    k0_pay60 (F := Ideal) (M2 G) (R1 L) (M2 Q) (M2 K : S1024x128.Idx → EReal)
      = M2 (fun x l => ∑ r ∈ Finset.range 512, pr (upper 512) K Q L x r * G r l) := by
  unfold k0_pay60
  rw [pay59_lift]
  funext j
  idx_vars j
  pointwise []
  simp only [M2_ix, R1_ix, coe_dot, coe_sum, zero_add, exp2_real, ← EReal.coe_sub, ← EReal.coe_mul, ← EReal.coe_add, Finset.sum_range]

theorem pay66_lift (G K Q : ℕ → ℕ → ℝ) (L : ℕ → ℝ) :
    k0_pay66 (F := Ideal) (M2 G) (R1 L) (M2 Q) (M2 K : S1024x128.Idx → EReal)
      = M2 (fun x l => ∑ r ∈ Finset.range 512, pr (upper 512) K Q L x r * G r l) := by
  unfold k0_pay66
  rw [pay65_lift]
  funext j
  idx_vars j
  pointwise []
  simp only [M2_ix, R1_ix, coe_dot, coe_sum, zero_add, exp2_real, ← EReal.coe_sub, ← EReal.coe_mul, ← EReal.coe_add, Finset.sum_range]

theorem pay61_lift (G V K Q : ℕ → ℕ → ℝ) (D L : ℕ → ℝ) :
    k0_pay61 (F := Ideal) (M2 G) (R1 D) (R1 L) (M2 Q) (M2 V : S1024x128.Idx → EReal) (M2 K : S1024x128.Idx → EReal)
      = M2 (ds (pr (upper 512) K Q L) V G D) := by
  unfold k0_pay61
  rw [pay57_lift, pay59_lift]
  funext j
  idx_vars j
  pointwise []
  simp only [M2_ix, R1_ix, coe_dot, coe_sum, zero_add, exp2_real, ← EReal.coe_sub, ← EReal.coe_mul, ← EReal.coe_add, Finset.sum_range, ds]

theorem pay67_lift (G V K Q : ℕ → ℕ → ℝ) (D L : ℕ → ℝ) :
    k0_pay67 (F := Ideal) (M2 G) (R1 D) (R1 L) (M2 Q) (M2 V : S1024x128.Idx → EReal) (M2 K : S1024x128.Idx → EReal)
      = M2 (ds (pr (upper 512) K Q L) V G D) := by
  unfold k0_pay67
  rw [pay65_lift]
  funext j
  idx_vars j
  pointwise []
  simp only [M2_ix, R1_ix, coe_dot, coe_sum, zero_add, exp2_real, ← EReal.coe_sub, ← EReal.coe_mul, ← EReal.coe_add, Finset.sum_range, ds]

theorem pay62_lift (W Q X : ℕ → ℕ → ℝ) :
    k0_pay62 (F := Ideal) (M2 Q) (M2 W : S1024x512.Idx → EReal) (M2 X : S1024x128.Idx → EReal)
      = M2 (fun x l => X x l + ∑ r ∈ Finset.range 512, W x r * Q r l) := by
  unfold k0_pay62
  funext j
  idx_vars j
  pointwise []
  simp only [M2_ix, R1_ix, coe_dot, coe_sum, zero_add, exp2_real, ← EReal.coe_sub, ← EReal.coe_mul, ← EReal.coe_add, Finset.sum_range]

theorem pay63_lift (W K X : ℕ → ℕ → ℝ) :
    k0_pay63 (F := Ideal) (M2 X) (M2 K : S1024x128.Idx → EReal) (M2 W : S1024x512.Idx → EReal)
      = M2 (fun r l => X r l + ∑ x ∈ Finset.range 1024, W x r * K x l) := by
  unfold k0_pay63
  funext j
  idx_vars j
  pointwise []
  simp only [M2_ix, R1_ix, coe_dot, coe_sum, zero_add, exp2_real, ← EReal.coe_sub, ← EReal.coe_mul, ← EReal.coe_add, Finset.sum_range]

theorem pay68_lift (G V K Q X : ℕ → ℕ → ℝ) (D L : ℕ → ℝ) :
    k0_pay68 (F := Ideal) (M2 G) (R1 D) (R1 L) (M2 Q) (M2 V : S1024x128.Idx → EReal) (M2 K : S1024x128.Idx → EReal) (M2 X : S1024x128.Idx → EReal)
      = M2 (fun x l => X x l + ∑ r ∈ Finset.range 512, ds (pr (upper 512) K Q L) V G D x r * Q r l) := by
  unfold k0_pay68
  rw [pay67_lift]
  funext j
  idx_vars j
  pointwise []
  simp only [M2_ix, R1_ix, coe_dot, coe_sum, zero_add, exp2_real, ← EReal.coe_sub, ← EReal.coe_mul, ← EReal.coe_add, Finset.sum_range]

theorem pay69_lift (G V K Q X : ℕ → ℕ → ℝ) (D L : ℕ → ℝ) :
    k0_pay69 (F := Ideal) (M2 G) (R1 D) (R1 L) (M2 Q) (M2 X) (M2 V : S1024x128.Idx → EReal) (M2 K : S1024x128.Idx → EReal)
      = M2 (fun r l => X r l + ∑ x ∈ Finset.range 1024, ds (pr (upper 512) K Q L) V G D x r * K x l) := by
  unfold k0_pay69
  rw [pay67_lift, pay64_lift]
  funext j
  idx_vars j
  pointwise []
  simp only [M2_ix, R1_ix, coe_dot, coe_sum, zero_add, exp2_real, ← EReal.coe_sub, ← EReal.coe_mul, ← EReal.coe_add, Finset.sum_range]

theorem pay109_lift (A B X : ℕ → ℕ → ℝ) :
    k0_pay109 (F := Ideal) (M2 A : S1024x128.Idx → EReal) (M2 B : S1024x128.Idx → EReal) (M2 X : S1024x128.Idx → EReal)
      = M2 (fun x l => X x l + if l < 64 then A x l else B x l) := by
  funext j
  idx_vars j
  pointwise [k0_pay109]
  rw [sel_slt _ 64 (by omega) (by omega)]
  simp only [M2_ix, coe_ite, ← EReal.coe_add]

theorem pay70_lift (K : ℕ → ℕ → ℝ) : k0_pay70 (F := Ideal) (M2 K : S512x128.Idx → EReal) = M2 K := by
  funext j
  idx_vars j
  pointwise [k0_pay70]

theorem pay71_lift (K : ℕ → ℕ → ℝ) : k0_pay71 (F := Ideal) (M2 K : S512x128.Idx → EReal) = M2 K := by
  funext j
  idx_vars j
  pointwise [k0_pay71]

theorem pay77_lift (K : ℕ → ℕ → ℝ) : k0_pay77 (F := Ideal) (M2 K : S512x128.Idx → EReal) = M2 K := by
  funext j
  idx_vars j
  pointwise [k0_pay77]

theorem pay72_lift (K Q : ℕ → ℕ → ℝ) (L : ℕ → ℝ) :
    k0_pay72 (F := Ideal) (R1 L) (M2 Q) (M2 K : S512x128.Idx → EReal)
      = M2 (pr (upper 0) K Q L) := by
  unfold k0_pay72
  rw [pay71_lift]
  funext j
  idx_vars j
  pointwise []
  simp only [M2_ix, R1_ix, coe_dot, coe_sum, zero_add, exp2_real, ← EReal.coe_sub, ← EReal.coe_mul, ← EReal.coe_add, Finset.sum_range, pr, ds, upper]
  refine (sel_sle _ _ 0 (by omega) (by omega) (by omega) _ _).trans ?_
  simp only [← EReal.coe_zero, coe_ite, decide_eq_true_eq]

theorem pay78_lift (K Q : ℕ → ℕ → ℝ) (L : ℕ → ℝ) :
    k0_pay78 (F := Ideal) (R1 L) (M2 Q) (M2 K : S512x128.Idx → EReal)
      = M2 (pr (upper 0) K Q L) := by
  unfold k0_pay78
  rw [pay77_lift]
  funext j
  idx_vars j
  pointwise []
  simp only [M2_ix, R1_ix, coe_dot, coe_sum, zero_add, exp2_real, ← EReal.coe_sub, ← EReal.coe_mul, ← EReal.coe_add, Finset.sum_range, pr, ds, upper]
  refine (sel_sle _ _ 0 (by omega) (by omega) (by omega) _ _).trans ?_
  simp only [← EReal.coe_zero, coe_ite, decide_eq_true_eq]

theorem pay73_lift (G K Q : ℕ → ℕ → ℝ) (L : ℕ → ℝ) :
    k0_pay73 (F := Ideal) (M2 G) (R1 L) (M2 Q) (M2 K : S512x128.Idx → EReal)
      = M2 (fun x l => ∑ r ∈ Finset.range 512, pr (upper 0) K Q L x r * G r l) := by
  unfold k0_pay73
  rw [pay72_lift]
  funext j
  idx_vars j
  pointwise []
  simp only [M2_ix, R1_ix, coe_dot, coe_sum, zero_add, exp2_real, ← EReal.coe_sub, ← EReal.coe_mul, ← EReal.coe_add, Finset.sum_range]

theorem pay79_lift (G K Q : ℕ → ℕ → ℝ) (L : ℕ → ℝ) :
    k0_pay79 (F := Ideal) (M2 G) (R1 L) (M2 Q) (M2 K : S512x128.Idx → EReal)
      = M2 (fun x l => ∑ r ∈ Finset.range 512, pr (upper 0) K Q L x r * G r l) := by
  unfold k0_pay79
  rw [pay78_lift]
  funext j
  idx_vars j
  pointwise []
  simp only [M2_ix, R1_ix, coe_dot, coe_sum, zero_add, exp2_real, ← EReal.coe_sub, ← EReal.coe_mul, ← EReal.coe_add, Finset.sum_range]

theorem pay74_lift (G V K Q : ℕ → ℕ → ℝ) (D L : ℕ → ℝ) :
    k0_pay74 (F := Ideal) (M2 G) (R1 D) (R1 L) (M2 Q) (M2 V : S512x128.Idx → EReal) (M2 K : S512x128.Idx → EReal)
      = M2 (ds (pr (upper 0) K Q L) V G D) := by
  unfold k0_pay74
  rw [pay70_lift, pay72_lift]
  funext j
  idx_vars j
  pointwise []
  simp only [M2_ix, R1_ix, coe_dot, coe_sum, zero_add, exp2_real, ← EReal.coe_sub, ← EReal.coe_mul, ← EReal.coe_add, Finset.sum_range, ds]

theorem pay80_lift (G V K Q : ℕ → ℕ → ℝ) (D L : ℕ → ℝ) :
    k0_pay80 (F := Ideal) (M2 G) (R1 D) (R1 L) (M2 Q) (M2 V : S512x128.Idx → EReal) (M2 K : S512x128.Idx → EReal)
      = M2 (ds (pr (upper 0) K Q L) V G D) := by
  unfold k0_pay80
  rw [pay78_lift]
  funext j
  idx_vars j
  pointwise []
  simp only [M2_ix, R1_ix, coe_dot, coe_sum, zero_add, exp2_real, ← EReal.coe_sub, ← EReal.coe_mul, ← EReal.coe_add, Finset.sum_range, ds]

theorem pay75_lift (W Q X : ℕ → ℕ → ℝ) :
    k0_pay75 (F := Ideal) (M2 Q) (M2 W : S512x512.Idx → EReal) (M2 X : S512x128.Idx → EReal)
      = M2 (fun x l => X x l + ∑ r ∈ Finset.range 512, W x r * Q r l) := by
  unfold k0_pay75
  funext j
  idx_vars j
  pointwise []
  simp only [M2_ix, R1_ix, coe_dot, coe_sum, zero_add, exp2_real, ← EReal.coe_sub, ← EReal.coe_mul, ← EReal.coe_add, Finset.sum_range]

theorem pay76_lift (W K X : ℕ → ℕ → ℝ) :
    k0_pay76 (F := Ideal) (M2 X) (M2 K : S512x128.Idx → EReal) (M2 W : S512x512.Idx → EReal)
      = M2 (fun r l => X r l + ∑ x ∈ Finset.range 512, W x r * K x l) := by
  unfold k0_pay76
  funext j
  idx_vars j
  pointwise []
  simp only [M2_ix, R1_ix, coe_dot, coe_sum, zero_add, exp2_real, ← EReal.coe_sub, ← EReal.coe_mul, ← EReal.coe_add, Finset.sum_range]

theorem pay81_lift (G V K Q X : ℕ → ℕ → ℝ) (D L : ℕ → ℝ) :
    k0_pay81 (F := Ideal) (M2 G) (R1 D) (R1 L) (M2 Q) (M2 V : S512x128.Idx → EReal) (M2 K : S512x128.Idx → EReal) (M2 X : S512x128.Idx → EReal)
      = M2 (fun x l => X x l + ∑ r ∈ Finset.range 512, ds (pr (upper 0) K Q L) V G D x r * Q r l) := by
  unfold k0_pay81
  rw [pay80_lift]
  funext j
  idx_vars j
  pointwise []
  simp only [M2_ix, R1_ix, coe_dot, coe_sum, zero_add, exp2_real, ← EReal.coe_sub, ← EReal.coe_mul, ← EReal.coe_add, Finset.sum_range]

theorem pay82_lift (G V K Q X : ℕ → ℕ → ℝ) (D L : ℕ → ℝ) :
    k0_pay82 (F := Ideal) (M2 G) (R1 D) (R1 L) (M2 Q) (M2 X) (M2 V : S512x128.Idx → EReal) (M2 K : S512x128.Idx → EReal)
      = M2 (fun r l => X r l + ∑ x ∈ Finset.range 512, ds (pr (upper 0) K Q L) V G D x r * K x l) := by
  unfold k0_pay82
  rw [pay80_lift, pay77_lift]
  funext j
  idx_vars j
  pointwise []
  simp only [M2_ix, R1_ix, coe_dot, coe_sum, zero_add, exp2_real, ← EReal.coe_sub, ← EReal.coe_mul, ← EReal.coe_add, Finset.sum_range]

theorem pay110_lift (A B X : ℕ → ℕ → ℝ) :
    k0_pay110 (F := Ideal) (M2 A : S512x128.Idx → EReal) (M2 B : S512x128.Idx → EReal) (M2 X : S512x128.Idx → EReal)
      = M2 (fun x l => X x l + if l < 64 then A x l else B x l) := by
  funext j
  idx_vars j
  pointwise [k0_pay110]
  rw [sel_slt _ 64 (by omega) (by omega)]
  simp only [M2_ix, coe_ite, ← EReal.coe_add]

end Cert.KernelIdeal.Hand
-- ==== Proof.Sweep.lean ====
/-
  One query block's sweep over the keys on real arrays: the accumulators and the query gradient's halves gain, key by
  key, the products of the masked probabilities and of the scores' gradients, up to and including the block itself.
-/
module

public import proofs.«01_k».proof.Proof.LocLast

@[expose] public section

set_option maxRecDepth 16384

noncomputable section

namespace Cert.KernelIdeal.Hand

open Cert.KernelIdeal Cert.KernelIdeal.Gen
open Idealize.ShloMosaic
open VecWindow
open scoped BigOperators

/-- What a query block's sweep reads, as real numbers: the queries, the masked and unmasked output gradients, the rows' own
    sums and log-sums, and a pair's keys and values. -/
structure RR where
  q0 : ℕ → ℕ → ℝ
  q1 : ℕ → ℕ → ℝ
  g : ℕ → ℕ → ℝ
  g0 : ℕ → ℕ → ℝ
  g1 : ℕ → ℕ → ℝ
  d0 : ℕ → ℝ
  d1 : ℕ → ℝ
  l0 : ℕ → ℝ
  l1 : ℕ → ℝ
  k : ℕ → ℕ → ℝ
  v : ℕ → ℕ → ℝ

/-- The accumulators and the query gradient's halves, as real numbers. -/
structure SR where
  dk : ℕ → ℕ → ℝ
  dv : ℕ → ℕ → ℝ
  q0 : ℕ → ℕ → ℝ
  q1 : ℕ → ℕ → ℝ

def RR.lift (R : RR) : Row Ideal :=
  ⟨M2 R.g, M2 R.g0, M2 R.g1, R1 R.d0, R1 R.d1, R1 R.l0, R1 R.l1, M2 R.q0, M2 R.q1, M2 R.k, M2 R.v⟩

def SR.lift (S : SR) : St Ideal := ⟨M2 S.dk, M2 S.dv, M2 S.q0, M2 S.q1⟩

/-- The probabilities of the keys at or before the query, the block's first query being query `T`. -/
def gp (T : ℕ) (K Q : ℕ → ℕ → ℝ) (L : ℕ → ℝ) (x r : ℕ) : ℝ :=
  if x ≤ T + r then (2 : ℝ) ^ (∑ l ∈ Finset.range 128, K x l * Q r l - L r) else 0

def P0 (T : ℕ) (R : RR) : ℕ → ℕ → ℝ := gp T R.k R.q0 R.l0
def P1 (T : ℕ) (R : RR) : ℕ → ℕ → ℝ := gp T (fun x l => R.k x (128 + l)) R.q1 R.l1
def D0 (T : ℕ) (R : RR) : ℕ → ℕ → ℝ := ds (P0 T R) R.v R.g0 R.d0
def D1 (T : ℕ) (R : RR) : ℕ → ℕ → ℝ := ds (P1 T R) R.v R.g1 R.d1
/-- A key's gain in the key gradient. -/
def cdk (T : ℕ) (R : RR) (x l : ℕ) : ℝ :=
  if l < 128 then ∑ r ∈ Finset.range 512, D0 T R x r * R.q0 r l else ∑ r ∈ Finset.range 512, D1 T R x r * R.q1 r (l - 128)
/-- A key's gain in the value gradient. -/
def cdv (T : ℕ) (R : RR) (x l : ℕ) : ℝ :=
  if l < 64 then ∑ r ∈ Finset.range 512, P0 T R x r * R.g r l else ∑ r ∈ Finset.range 512, P1 T R x r * R.g r l

/-- The sweep up to key `B`. -/
def upTo (T : ℕ) (R : RR) (S : SR) (B : ℕ) : SR where
  dk x l := S.dk x l + if x < B then cdk T R x l else 0
  dv x l := S.dv x l + if x < B then cdv T R x l else 0
  q0 r l := S.q0 r l + ∑ x ∈ Finset.range B, D0 T R x r * R.k x l
  q1 r l := S.q1 r l + ∑ x ∈ Finset.range B, D1 T R x r * R.k x (128 + l)

theorem upTo_zero (T : ℕ) (R : RR) (S : SR) : upTo T R S 0 = S := by
  obtain ⟨a, b, c, d⟩ := S
  simp [upTo]

theorem upTo_at (T : ℕ) (R : RR) (S : SR) {B B' : ℕ} (h : B = B') : (upTo T R S B).lift = (upTo T R S B').lift := by rw [h]

/-- A window's gain in the key gradient's accumulator, both heads. -/
theorem gain_two (A C W0 W1 : ℕ → ℕ → ℝ) (B n : ℕ)
    (h0 : ∀ x < n, ∀ l < 128, W0 x l = (A (B + x) (0 + l) + if B + x < B then C (B + x) (0 + l) else 0) + C (B + x) l)
    (h1 : ∀ x < n, ∀ l < 128, W1 x l = (A (B + x) (128 + l) + if B + x < B then C (B + x) (128 + l) else 0) + C (B + x) (128 + l))
    (x l : ℕ) (hl : l < 256) :
    (if (B ≤ x ∧ x < B + n) ∧ (128 ≤ l ∧ l < 128 + 128) then W1 (x - B) (l - 128)
      else if (B ≤ x ∧ x < B + n) ∧ (0 ≤ l ∧ l < 0 + 128) then W0 (x - B) (l - 0) else A x l + if x < B then C x l else 0)
      = A x l + if x < B + n then C x l else 0 := by
  by_cases hx : B ≤ x ∧ x < B + n
  · obtain ⟨y, rfl⟩ : ∃ y, x = B + y := ⟨x - B, by omega⟩
    rw [if_pos hx.2]
    by_cases hl' : 128 ≤ l
    · obtain ⟨z, rfl⟩ : ∃ z, l = 128 + z := ⟨l - 128, by omega⟩
      rw [if_pos ⟨hx, by omega⟩, show B + y - B = y by omega, show 128 + z - 128 = z by omega, h1 y (by omega) z (by omega),
        if_neg (by omega), add_zero]
    · rw [if_neg (by omega), if_pos (by omega), show B + y - B = y by omega, show l - 0 = l by omega, h0 y (by omega) l (by omega),
        if_neg (by omega), add_zero, zero_add]
  · rw [if_neg (by omega), if_neg (by omega)]
    by_cases h : x < B
    · rw [if_pos h, if_pos (by omega)]
    · rw [if_neg h, if_neg (by omega)]

/-- A window's gain in the value gradient's accumulator. -/
theorem gain_one (A C W : ℕ → ℕ → ℝ) (B n : ℕ)
    (h : ∀ x < n, ∀ l < 128, W x l = (A (B + x) (0 + l) + if B + x < B then C (B + x) (0 + l) else 0) + C (B + x) l)
    (x l : ℕ) (hl : l < 128) :
    (if (B ≤ x ∧ x < B + n) ∧ (0 ≤ l ∧ l < 0 + 128) then W (x - B) (l - 0) else A x l + if x < B then C x l else 0)
      = A x l + if x < B + n then C x l else 0 := by
  by_cases hx : B ≤ x ∧ x < B + n
  · obtain ⟨y, rfl⟩ : ∃ y, x = B + y := ⟨x - B, by omega⟩
    rw [if_pos hx.2, if_pos (by omega), show B + y - B = y by omega, show l - 0 = l by omega, h y (by omega) l (by omega),
        if_neg (by omega), add_zero, zero_add]
  · rw [if_neg (by omega)]
    by_cases h : x < B
    · rw [if_pos h, if_pos (by omega)]
    · rw [if_neg h, if_neg (by omega)]

/-- A block of keys' probabilities are the whole array's at its offset, where the block's mask is the whole array's. -/
theorem pr_at (m : ℕ → ℕ → Bool) (T B : ℕ) (K Q : ℕ → ℕ → ℝ) (L : ℕ → ℝ) (x r : ℕ) (h : m x r = true ↔ B + x ≤ T + r) :
    pr m (fun x l => K (B + x) l) Q L x r = gp T K Q L (B + x) r := by
  unfold pr gp
  by_cases h' : B + x ≤ T + r
  · rw [if_pos (h.2 h'), if_pos h']
  · rw [if_neg (fun e => h' (h.1 e)), if_neg h']

/-- The pieces of one step, put together. -/
theorem step_eq (m : ℕ → ℕ → Bool) (T B n : ℕ) (R : RR) (S : SR) (hm : ∀ x < n, ∀ r < 512, (m x r = true ↔ B + x ≤ T + r))
    (W0 W1 WV WQ0 WQ1 : ℕ → ℕ → ℝ)
    (eq0 : W0 = fun x l => (upTo T R S B).dk (B + x) (0 + l)
      + ∑ r ∈ Finset.range 512, ds (pr m (fun x l => R.k (B + x) (0 + l)) R.q0 R.l0) (fun x l => R.v (B + x) (0 + l)) R.g0 R.d0 x r * R.q0 r l)
    (eq1 : W1 = fun x l => (upTo T R S B).dk (B + x) (128 + l)
      + ∑ r ∈ Finset.range 512, ds (pr m (fun x l => R.k (B + x) (128 + l)) R.q1 R.l1) (fun x l => R.v (B + x) (0 + l)) R.g1 R.d1 x r * R.q1 r l)
    (eqV : WV = fun x l => (upTo T R S B).dv (B + x) (0 + l)
      + if l < 64 then ∑ r ∈ Finset.range 512, pr m (fun x l => R.k (B + x) (0 + l)) R.q0 R.l0 x r * R.g r l
        else ∑ r ∈ Finset.range 512, pr m (fun x l => R.k (B + x) (128 + l)) R.q1 R.l1 x r * R.g r l)
    (eqQ0 : WQ0 = fun r l => (upTo T R S B).q0 r l
      + ∑ x ∈ Finset.range n, ds (pr m (fun x l => R.k (B + x) (0 + l)) R.q0 R.l0) (fun x l => R.v (B + x) (0 + l)) R.g0 R.d0 x r * R.k (B + x) (0 + l))
    (eqQ1 : WQ1 = fun r l => (upTo T R S B).q1 r l
      + ∑ x ∈ Finset.range n, ds (pr m (fun x l => R.k (B + x) (128 + l)) R.q1 R.l1) (fun x l => R.v (B + x) (0 + l)) R.g1 R.d1 x r * R.k (B + x) (128 + l)) :
    (⟨M2 (fun x l => if (B ≤ x ∧ x < B + n) ∧ (128 ≤ l ∧ l < 128 + 128) then W1 (x - B) (l - 128)
        else if (B ≤ x ∧ x < B + n) ∧ (0 ≤ l ∧ l < 0 + 128) then W0 (x - B) (l - 0) else (upTo T R S B).dk x l),
      M2 (fun x l => if (B ≤ x ∧ x < B + n) ∧ (0 ≤ l ∧ l < 0 + 128) then WV (x - B) (l - 0) else (upTo T R S B).dv x l),
      M2 WQ0, M2 WQ1⟩ : St Ideal) = (upTo T R S (B + n)).lift := by
  have p0 : ∀ x < n, ∀ r < 512, pr m (fun x l => R.k (B + x) (0 + l)) R.q0 R.l0 x r = P0 T R (B + x) r := fun x hx r hr => by
    simp only [zero_add]; exact pr_at m T B R.k R.q0 R.l0 x r (hm x hx r hr)
  have p1 : ∀ x < n, ∀ r < 512, pr m (fun x l => R.k (B + x) (128 + l)) R.q1 R.l1 x r = P1 T R (B + x) r := fun x hx r hr =>
    pr_at m T B (fun x l => R.k x (128 + l)) R.q1 R.l1 x r (hm x hx r hr)
  have d0 : ∀ x < n, ∀ r < 512, ds (pr m (fun x l => R.k (B + x) (0 + l)) R.q0 R.l0) (fun x l => R.v (B + x) (0 + l)) R.g0 R.d0 x r = D0 T R (B + x) r :=
    fun x hx r hr => by
      unfold D0 ds; rw [p0 x hx r hr]; simp only [zero_add]
  have d1 : ∀ x < n, ∀ r < 512, ds (pr m (fun x l => R.k (B + x) (128 + l)) R.q1 R.l1) (fun x l => R.v (B + x) (0 + l)) R.g1 R.d1 x r = D1 T R (B + x) r :=
    fun x hx r hr => by
      unfold D1 ds; rw [p1 x hx r hr]; simp only [zero_add]
  have s0 : ∀ x < n, ∀ F : ℕ → ℝ, (∑ r ∈ Finset.range 512, ds (pr m (fun x l => R.k (B + x) (0 + l)) R.q0 R.l0) (fun x l => R.v (B + x) (0 + l)) R.g0 R.d0 x r * F r)
      = ∑ r ∈ Finset.range 512, D0 T R (B + x) r * F r := fun x hx F =>
    Finset.sum_congr rfl fun r hr => by rw [d0 x hx r (Finset.mem_range.1 hr)]
  have s1 : ∀ x < n, ∀ F : ℕ → ℝ, (∑ r ∈ Finset.range 512, ds (pr m (fun x l => R.k (B + x) (128 + l)) R.q1 R.l1) (fun x l => R.v (B + x) (0 + l)) R.g1 R.d1 x r * F r)
      = ∑ r ∈ Finset.range 512, D1 T R (B + x) r * F r := fun x hx F =>
    Finset.sum_congr rfl fun r hr => by rw [d1 x hx r (Finset.mem_range.1 hr)]
  unfold SR.lift
  congr 1
  · refine M2_congr fun x hx l hl => gain_two S.dk (cdk T R) W0 W1 B n (fun x hx l hl => ?_) (fun x hx l hl => ?_) x l hl
    · rw [eq0]
      simp only [upTo, s0 x hx, cdk, if_pos hl]
    · rw [eq1]
      simp only [upTo, s1 x hx, cdk, if_neg (show ¬ 128 + l < 128 by omega), show 128 + l - 128 = l by omega]
  · refine M2_congr fun x hx l hl => gain_one S.dv (cdv T R) WV B n (fun x hx l hl => ?_) x l hl
    rw [eqV]
    simp only [upTo, cdv]
    congr 1
    by_cases h : l < 64
    · rw [if_pos h, if_pos h]
      exact Finset.sum_congr rfl fun r hr => by rw [p0 x hx r (Finset.mem_range.1 hr)]
    · rw [if_neg h, if_neg h]
      exact Finset.sum_congr rfl fun r hr => by rw [p1 x hx r (Finset.mem_range.1 hr)]
  · refine M2_congr fun r hr l hl => ?_
    rw [eqQ0]
    simp only [upTo, Finset.sum_range_add, ← add_assoc]
    congr 1
    exact Finset.sum_congr rfl fun x hx => by rw [d0 x (Finset.mem_range.1 hx) r hr, zero_add]
  · refine M2_congr fun r hr l hl => ?_
    rw [eqQ1]
    simp only [upTo, Finset.sum_range_add, ← add_assoc]
    congr 1
    exact Finset.sum_congr rfl fun x hx => by rw [d1 x (Finset.mem_range.1 hx) r hr]

theorem trip_lift (i : grid0.Coords) (k : Fin (k0_t1_loop i).trips) (R : RR) (S : SR) :
    trip i R.lift k (upTo (512 * (i 1).val) R S (2048 * k.val)).lift = (upTo (512 * (i 1).val) R S (2048 * k.val + 2048)).lift := by
  have wv := fun A : ℕ → ℕ → ℝ => window_lift (m := 8192) (n := 128) (p := 2048) (q := 128) A _ _ _ (k0_off1_eq i k) (k0_off1_inb i k)
  have wa := fun A : ℕ → ℕ → ℝ => window_lift (m := 8192) (n := 256) (p := 2048) (q := 128) A _ _ _ (k0_off2_eq i k) (k0_off2_inb i k)
  have wb := fun A : ℕ → ℕ → ℝ => window_lift (m := 8192) (n := 256) (p := 2048) (q := 128) A _ _ _ (k0_off3_eq i k) (k0_off3_inb i k)
  have pv := fun A W : ℕ → ℕ → ℝ => put_lift (m := 8192) (n := 128) (p := 2048) (q := 128) A W _ _ _ (k0_off1_eq i k)
  have pa := fun A W : ℕ → ℕ → ℝ => put_lift (m := 8192) (n := 256) (p := 2048) (q := 128) A W _ _ _ (k0_off2_eq i k)
  have pb := fun A W : ℕ → ℕ → ℝ => put_lift (m := 8192) (n := 256) (p := 2048) (q := 128) A W _ _ _ (k0_off3_eq i k)
  refine Eq.trans ?_ (step_eq every (512 * (i 1).val) (2048 * k.val) 2048 R S (fun x hx r hr => by have := k.isLt; have e := t1_trips i; simp only [every, true_iff]; omega) _ _ _ _ _ rfl rfl rfl rfl rfl)
  simp only [trip, RR.lift, SR.lift]
  rw [wv, wv, wa, wa, wb, wb]
  rw [pay14_lift, pay15_lift, pay16_lift, pay19_lift, pay100_lift, pay101_lift, pay12_lift, pay18_lift, pay102_lift]
  rw [pa, pb, pv]

theorem last2048_lift (i : grid0.Coords) (h2 : k0_cond2 i = 1#1) (h3 : k0_cond3 i = 1#1) (h4 : k0_cond4 i = 1#1) (R : RR) (S : SR) (hr : (i 1).val % 4 = 3) :
    last2048 i h2 h3 h4 R.lift (upTo (512 * (i 1).val) R S (2048 * ((i 1).val / 4))).lift = (upTo (512 * (i 1).val) R S (2048 * ((i 1).val / 4) + 2048)).lift := by
  have wv := fun A : ℕ → ℕ → ℝ => window_lift (m := 8192) (n := 128) (p := 2048) (q := 128) A _ _ _ (k0_off7_eq i) (k0_off7_inb i h2 h3 h4)
  have wa := fun A : ℕ → ℕ → ℝ => window_lift (m := 8192) (n := 256) (p := 2048) (q := 128) A _ _ _ (k0_off8_eq i) (k0_off8_inb i h2 h3 h4)
  have wb := fun A : ℕ → ℕ → ℝ => window_lift (m := 8192) (n := 256) (p := 2048) (q := 128) A _ _ _ (k0_off9_eq i) (k0_off9_inb i h2 h3 h4)
  have pv := fun A W : ℕ → ℕ → ℝ => put_lift (m := 8192) (n := 128) (p := 2048) (q := 128) A W _ _ _ (k0_off7_eq i)
  have pa := fun A W : ℕ → ℕ → ℝ => put_lift (m := 8192) (n := 256) (p := 2048) (q := 128) A W _ _ _ (k0_off8_eq i)
  have pb := fun A W : ℕ → ℕ → ℝ => put_lift (m := 8192) (n := 256) (p := 2048) (q := 128) A W _ _ _ (k0_off9_eq i)
  refine Eq.trans ?_ (step_eq (upper 1536) (512 * (i 1).val) (2048 * ((i 1).val / 4)) 2048 R S (fun x hx r hr' => by simp only [upper, decide_eq_true_eq]; omega) _ _ _ _ _ rfl rfl rfl rfl rfl)
  simp only [last2048, RR.lift, SR.lift]
  rw [wv, wv, wa, wa, wb, wb]
  rw [pay32_lift, pay31_lift, pay35_lift, pay36_lift, pay37_lift, pay42_lift, pay43_lift, pay34_lift, pay40_lift, pay107_lift]
  rw [pa, pb, pv]

theorem last1536_lift (i : grid0.Coords) (h2 : k0_cond2 i = 1#1) (h3 : k0_cond3 i = 1#1) (h4 : ¬(k0_cond4 i = 1#1)) (R : RR) (S : SR) (hr : (i 1).val % 4 = 2) :
    last1536 i h2 h3 h4 R.lift (upTo (512 * (i 1).val) R S (2048 * ((i 1).val / 4))).lift = (upTo (512 * (i 1).val) R S (2048 * ((i 1).val / 4) + 1536)).lift := by
  have wv := fun A : ℕ → ℕ → ℝ => window_lift (m := 8192) (n := 128) (p := 1536) (q := 128) A _ _ _ (k0_off10_eq i) (k0_off10_inb i h2 h3 h4)
  have wa := fun A : ℕ → ℕ → ℝ => window_lift (m := 8192) (n := 256) (p := 1536) (q := 128) A _ _ _ (k0_off11_eq i) (k0_off11_inb i h2 h3 h4)
  have wb := fun A : ℕ → ℕ → ℝ => window_lift (m := 8192) (n := 256) (p := 1536) (q := 128) A _ _ _ (k0_off12_eq i) (k0_off12_inb i h2 h3 h4)
  have pv := fun A W : ℕ → ℕ → ℝ => put_lift (m := 8192) (n := 128) (p := 1536) (q := 128) A W _ _ _ (k0_off10_eq i)
  have pa := fun A W : ℕ → ℕ → ℝ => put_lift (m := 8192) (n := 256) (p := 1536) (q := 128) A W _ _ _ (k0_off11_eq i)
  have pb := fun A W : ℕ → ℕ → ℝ => put_lift (m := 8192) (n := 256) (p := 1536) (q := 128) A W _ _ _ (k0_off12_eq i)
  refine Eq.trans ?_ (step_eq (upper 1024) (512 * (i 1).val) (2048 * ((i 1).val / 4)) 1536 R S (fun x hx r hr' => by simp only [upper, decide_eq_true_eq]; omega) _ _ _ _ _ rfl rfl rfl rfl rfl)
  simp only [last1536, RR.lift, SR.lift]
  rw [wv, wv, wa, wa, wb, wb]
  rw [pay45_lift, pay44_lift, pay48_lift, pay49_lift, pay50_lift, pay55_lift, pay56_lift, pay47_lift, pay53_lift, pay108_lift]
  rw [pa, pb, pv]

theorem last1024_lift (i : grid0.Coords) (h2 : k0_cond2 i = 1#1) (h3 : ¬(k0_cond3 i = 1#1)) (R : RR) (S : SR) (hr : (i 1).val % 4 = 1) :
    last1024 i h2 h3 R.lift (upTo (512 * (i 1).val) R S (2048 * ((i 1).val / 4))).lift = (upTo (512 * (i 1).val) R S (2048 * ((i 1).val / 4) + 1024)).lift := by
  have wv := fun A : ℕ → ℕ → ℝ => window_lift (m := 8192) (n := 128) (p := 1024) (q := 128) A _ _ _ (k0_off13_eq i) (k0_off13_inb i h2 h3)
  have wa := fun A : ℕ → ℕ → ℝ => window_lift (m := 8192) (n := 256) (p := 1024) (q := 128) A _ _ _ (k0_off14_eq i) (k0_off14_inb i h2 h3)
  have wb := fun A : ℕ → ℕ → ℝ => window_lift (m := 8192) (n := 256) (p := 1024) (q := 128) A _ _ _ (k0_off15_eq i) (k0_off15_inb i h2 h3)
  have pv := fun A W : ℕ → ℕ → ℝ => put_lift (m := 8192) (n := 128) (p := 1024) (q := 128) A W _ _ _ (k0_off13_eq i)
  have pa := fun A W : ℕ → ℕ → ℝ => put_lift (m := 8192) (n := 256) (p := 1024) (q := 128) A W _ _ _ (k0_off14_eq i)
  have pb := fun A W : ℕ → ℕ → ℝ => put_lift (m := 8192) (n := 256) (p := 1024) (q := 128) A W _ _ _ (k0_off15_eq i)
  refine Eq.trans ?_ (step_eq (upper 512) (512 * (i 1).val) (2048 * ((i 1).val / 4)) 1024 R S (fun x hx r hr' => by simp only [upper, decide_eq_true_eq]; omega) _ _ _ _ _ rfl rfl rfl rfl rfl)
  simp only [last1024, RR.lift, SR.lift]
  rw [wv, wv, wa, wa, wb, wb]
  rw [pay58_lift, pay57_lift, pay61_lift, pay62_lift, pay63_lift, pay68_lift, pay69_lift, pay60_lift, pay66_lift, pay109_lift]
  rw [pa, pb, pv]

theorem last512_lift (i : grid0.Coords) (h2 : ¬(k0_cond2 i = 1#1)) (R : RR) (S : SR) (hr : (i 1).val % 4 = 0) :
    last512 i h2 R.lift (upTo (512 * (i 1).val) R S (2048 * ((i 1).val / 4))).lift = (upTo (512 * (i 1).val) R S (2048 * ((i 1).val / 4) + 512)).lift := by
  have wv := fun A : ℕ → ℕ → ℝ => window_lift (m := 8192) (n := 128) (p := 512) (q := 128) A _ _ _ (k0_off16_eq i) (k0_off16_inb i h2)
  have wa := fun A : ℕ → ℕ → ℝ => window_lift (m := 8192) (n := 256) (p := 512) (q := 128) A _ _ _ (k0_off17_eq i) (k0_off17_inb i h2)
  have wb := fun A : ℕ → ℕ → ℝ => window_lift (m := 8192) (n := 256) (p := 512) (q := 128) A _ _ _ (k0_off18_eq i) (k0_off18_inb i h2)
  have pv := fun A W : ℕ → ℕ → ℝ => put_lift (m := 8192) (n := 128) (p := 512) (q := 128) A W _ _ _ (k0_off16_eq i)
  have pa := fun A W : ℕ → ℕ → ℝ => put_lift (m := 8192) (n := 256) (p := 512) (q := 128) A W _ _ _ (k0_off17_eq i)
  have pb := fun A W : ℕ → ℕ → ℝ => put_lift (m := 8192) (n := 256) (p := 512) (q := 128) A W _ _ _ (k0_off18_eq i)
  refine Eq.trans ?_ (step_eq (upper 0) (512 * (i 1).val) (2048 * ((i 1).val / 4)) 512 R S (fun x hx r hr' => by simp only [upper, decide_eq_true_eq]; omega) _ _ _ _ _ rfl rfl rfl rfl rfl)
  simp only [last512, RR.lift, SR.lift]
  rw [wv, wv, wa, wa, wb, wb]
  rw [pay71_lift, pay70_lift, pay74_lift, pay75_lift, pay76_lift, pay81_lift, pay82_lift, pay73_lift, pay79_lift, pay110_lift]
  rw [pa, pb, pv]

/-- The loop over whole blocks of 2048 keys. -/
theorem stAt_lift (i : grid0.Coords) (R : RR) (S : SR) (n : ℕ) (hn : n ≤ (k0_t1_loop i).trips) :
    stAt i R.lift S.lift n = (upTo (512 * (i 1).val) R S (2048 * n)).lift := by
  induction n with
  | zero => rw [Nat.mul_zero, upTo_zero]; rfl
  | succ n ih =>
    have e := stAt_succ i R.lift S.lift ⟨n, hn⟩
    rw [show n + 1 = (⟨n, hn⟩ : Fin (k0_t1_loop i).trips).val + 1 from rfl, e, ih (by omega)]
    exact trip_lift i ⟨n, hn⟩ R S

/-- The whole sweep of one query block. -/
theorem sweep_lift (i : grid0.Coords) (R : RR) (S : SR) :
    sweep i R.lift S.lift = (upTo (512 * (i 1).val) R S (512 * ((i 1).val + 1))).lift := by
  unfold sweep
  rw [stAt_lift i R S _ le_rfl, t1_trips i]
  unfold last
  by_cases h2 : k0_cond2 i = 1#1
  · rw [dif_pos h2]
    have e2 := (cond2_iff i).1 h2
    by_cases h3 : k0_cond3 i = 1#1
    · rw [dif_pos h3]
      have e3 := (cond3_iff i h2).1 h3
      by_cases h4 : k0_cond4 i = 1#1
      · have e4 := (cond4_iff i h2 h3).1 h4
        rw [dif_pos h4, last2048_lift i h2 h3 h4 R S e4]
        exact upTo_at _ R S (by omega)
      · have e4 : (i 1).val % 4 ≠ 3 := fun e => h4 ((cond4_iff i h2 h3).2 e)
        have e5 : (i 1).val % 4 = 2 := by omega
        rw [dif_neg h4, last1536_lift i h2 h3 h4 R S e5]
        exact upTo_at _ R S (by omega)
    · have e3 : (i 1).val % 4 = 1 := by
        by_contra e
        exact h3 ((cond3_iff i h2).2 e)
      rw [dif_neg h3, last1024_lift i h2 h3 R S e3]
      exact upTo_at _ R S (by omega)
  · have e2 : (i 1).val % 4 = 0 := by
      by_contra e
      exact h2 ((cond2_iff i).2 e)
    rw [dif_neg h2, last512_lift i h2 R S e2]
    exact upTo_at _ R S (by omega)

end Cert.KernelIdeal.Hand
-- ==== Proof.Point.lean ====
/-
  One grid point on real arrays: the values a query block's sweep reads from the operands' blocks, and what is written out.
-/
module

public import proofs.«01_k».proof.Proof.Sweep

@[expose] public section

set_option maxRecDepth 16384

noncomputable section

namespace Cert.KernelIdeal.Hand

open Cert.KernelIdeal Cert.KernelIdeal.Gen
open Idealize.ShloMosaic
open VecWindow
open scoped BigOperators

/-- The blocks one point reads, as real numbers. -/
structure IR where
  q : ℕ → ℕ → ℝ
  k : ℕ → ℕ → ℝ
  v : ℕ → ℕ → ℝ
  g : ℕ → ℕ → ℝ
  o : ℕ → ℕ → ℝ
  l : ℕ → ℕ → ℝ
  cs : ℕ → ℕ → ℝ
  pv : ℕ → ℕ → ℝ

def IR.lift (I : IR) : Ins Ideal :=
  ⟨M2 I.q, M2 I.k, M2 I.v, M2 I.g, M2 I.o, fun j => ((I.l (j 2).val (j 3).val : ℝ) : EReal), M2 I.cs, M2 I.pv⟩

/-- What a sweep reads, from the blocks. -/
def IR.row (I : IR) : RR where
  q0 r l := I.q r l
  q1 r l := I.q r (128 + l)
  g := I.g
  g0 r l := if l < 64 then I.g r l else 0
  g1 r l := if l < 64 then 0 else I.g r l
  d0 r := ∑ l ∈ Finset.range 64, I.g r l * I.o r l
  d1 r := ∑ l ∈ Finset.range 64, I.g r (64 + l) * I.o r (64 + l)
  l0 := I.l 0
  l1 := I.l 1
  k := I.k
  v := I.v

theorem scale_word : (Named.named (F := Ideal) (φ := .f32) κ "scale" 0x3DD105EC#32 : EReal) = (((Real.sqrt 96)⁻¹ : ℝ) : EReal) := rfl
theorem ln2_word : (Named.named (F := Ideal) (φ := .f32) κ "ln2" 0x3F317218#32 : EReal) = ((Real.log 2 : ℝ) : EReal) := rfl

theorem pay83_lift : (k0_pay83 : FVec Ideal S8192x256 .f32) = M2 (fun _ _ => 0) := by
  unfold k0_pay83
  funext j
  idx_vars j
  pointwise []
  rfl
theorem pay84_lift : (k0_pay84 : FVec Ideal S8192x128 .f32) = M2 (fun _ _ => 0) := by
  unfold k0_pay84
  funext j
  idx_vars j
  pointwise []
  rfl
theorem pay97_lift : (k0_pay97 : FVec Ideal S512x128 .f32) = M2 (fun _ _ => 0) := by
  unfold k0_pay97
  funext j
  idx_vars j
  pointwise []
  rfl
theorem pay98_lift : (k0_pay98 : FVec Ideal S512x128 .f32) = M2 (fun _ _ => 0) := by
  unfold k0_pay98
  funext j
  idx_vars j
  pointwise []
  rfl
theorem pay86_lift (A : ℕ → ℕ → ℝ) : k0_pay86 (F := Ideal) (M2 A) = M2 A := by
  unfold k0_pay86
  funext j
  idx_vars j
  pointwise []
theorem pay88_lift (A : ℕ → ℕ → ℝ) : k0_pay88 (F := Ideal) (M2 A) = M2 (fun r l => if l < 64 then A r l else 0) := by
  unfold k0_pay88
  funext j
  idx_vars j
  rw [pay86_lift]
  pointwise [k0_pay85, k0_pay87]
  refine (sel_slt j1.val 64 (by omega) (by omega) _ _).trans ?_
  rw [M2_ix, M2_ix]
  exact coe_ite _ _ 0
theorem pay89_lift (A : ℕ → ℕ → ℝ) : k0_pay89 (F := Ideal) (M2 A) = M2 (fun r l => if l < 64 then 0 else A r l) := by
  unfold k0_pay89
  funext j
  idx_vars j
  rw [pay86_lift]
  pointwise [k0_pay85, k0_pay87]
  refine (sel_slt j1.val 64 (by omega) (by omega) _ _).trans ?_
  rw [M2_ix, M2_ix]
  exact coe_ite _ 0 _
theorem pay91_lift (A B : ℕ → ℕ → ℝ) : k0_pay91 (F := Ideal) (M2 A) (M2 B) = R1 (fun r => ∑ l ∈ Finset.range 64, A r l * B r l) := by
  unfold k0_pay91
  funext j
  idx_vars j
  pointwise [k0_pay90, k0_pay86]
  simp only [M2_ix, R1_ix, coe_dot, coe_sum, zero_add, Finset.sum_range]
theorem pay92_lift (A B : ℕ → ℕ → ℝ) : k0_pay92 (F := Ideal) (M2 A) (M2 B) = R1 (fun r => ∑ l ∈ Finset.range 64, A r (64 + l) * B r (64 + l)) := by
  unfold k0_pay92
  funext j
  idx_vars j
  pointwise [k0_pay90, k0_pay86]
  simp only [M2_ix, R1_ix, coe_dot, coe_sum, zero_add, Finset.sum_range]
theorem pay93_lift (A : ℕ → ℕ → ℝ) (inb) : k0_pay93 (F := Ideal) (window (s := S1x1x2x512) (fun j => ((A (j 2).val (j 3).val : ℝ) : EReal)) ![0, 0, 0, 0] S1x1x1x512.size inb) = R1 (A 0) := by
  unfold k0_pay93
  funext j
  idx_vars j
  pointwise [window]
  show ((A (0 + 1 * 0) (0 + 1 * j1.val) : ℝ) : EReal) = ((A 0 j1.val : ℝ) : EReal)
  rw [show 0 + 1 * j1.val = j1.val by omega]
theorem pay94_lift (A : ℕ → ℕ → ℝ) (inb) : k0_pay94 (F := Ideal) (window (s := S1x1x2x512) (fun j => ((A (j 2).val (j 3).val : ℝ) : EReal)) ![0, 0, 1, 0] S1x1x1x512.size inb) = R1 (A 1) := by
  unfold k0_pay94
  funext j
  idx_vars j
  pointwise [window]
  show ((A (1 + 1 * 0) (0 + 1 * j1.val) : ℝ) : EReal) = ((A 1 j1.val : ℝ) : EReal)
  rw [show 0 + 1 * j1.val = j1.val by omega]
theorem pay95_lift (A : ℕ → ℕ → ℝ) : k0_pay95 (F := Ideal) (M2 A) = M2 A := by
  unfold k0_pay95
  funext j
  idx_vars j
  pointwise []
theorem pay96_lift (A : ℕ → ℕ → ℝ) : k0_pay96 (F := Ideal) (M2 A) = M2 A := by
  unfold k0_pay96
  funext j
  idx_vars j
  pointwise []
theorem pay7_lift (A : ℕ → ℕ → ℝ) : k0_pay7 (F := Ideal) (M2 A) = M2 (fun x l => A x l * Real.log 2) := by
  unfold k0_pay7
  funext j
  idx_vars j
  pointwise [ln2_word]
  simp only [M2_ix, ← EReal.coe_mul]
theorem pay8_lift (A : ℕ → ℕ → ℝ) : k0_pay8 (F := Ideal) (M2 A) = M2 A := by
  unfold k0_pay8
  funext j
  idx_vars j
  pointwise []

/-- The rotation's transpose on 128 lanes: `c` the cosines, `s` the sines, `a` and `b` the signs' rows. -/
def unrot (A c s : ℕ → ℕ → ℝ) (a b : ℕ → ℝ) (r l : ℕ) : ℝ :=
  A r l * (Real.sqrt 96)⁻¹ * c r l
    + A r ((l + 128 - 16) % 128) * (Real.sqrt 96)⁻¹ * (s r ((l + 128 - 16) % 128) * a ((l + 128 - 16) % 128))
    + A r ((l + 128 - 112) % 128) * (Real.sqrt 96)⁻¹ * (s r ((l + 128 - 112) % 128) * b ((l + 128 - 112) % 128))

theorem pay5_lift (A c s a b : ℕ → ℕ → ℝ) :
    k0_pay5 (F := Ideal) (M2 A) (M2 c) (M2 s) (M2 a) (M2 b) = M2 (unrot A c s (a 0) (b 0)) := by
  unfold k0_pay5
  funext j
  idx_vars j
  pointwise [k0_pay1, k0_pay2, k0_pay3, k0_pay4, scale_word]
  simp only [M2_ix, ← EReal.coe_mul, ← EReal.coe_add]
  rfl
theorem pay6_lift (A c s a b : ℕ → ℕ → ℝ) :
    k0_pay6 (F := Ideal) (M2 A) (M2 c) (M2 s) (M2 a) (M2 b) = M2 (unrot A c s (a 0) (b 0)) := by
  unfold k0_pay6
  funext j
  idx_vars j
  pointwise [k0_pay1, k0_pay2, k0_pay3, k0_pay4, scale_word]
  simp only [M2_ix, ← EReal.coe_mul, ← EReal.coe_add]
  rfl

theorem rowOf_lift (I : IR) : rowOf I.lift = I.row.lift := by
  unfold rowOf IR.lift RR.lift IR.row
  dsimp only
  rw [window_full, window_full, pay86_lift, pay88_lift, pay89_lift, pay91_lift, pay92_lift, pay93_lift, pay94_lift]
  have w0 := fun inb => window_lift (m := 512) (n := 256) (p := 512) (q := 128) I.q ![0, 0] 0 0 rfl inb
  have w1 := fun inb => window_lift (m := 512) (n := 256) (p := 512) (q := 128) I.q ![0, 128] 0 128 rfl inb
  rw [w0, w1, pay95_lift, pay96_lift]
  simp only [Nat.zero_add]

/-- The accumulators at zero. -/
def SR.zero : SR := ⟨fun _ _ => 0, fun _ _ => 0, fun _ _ => 0, fun _ _ => 0⟩

theorem start_lift (i : grid0.Coords) (dk dv : ℕ → ℕ → ℝ) :
    start (F := Ideal) i (M2 dk) (M2 dv) = SR.lift (if (i 1).val = 0 then SR.zero else ⟨dk, dv, fun _ _ => 0, fun _ _ => 0⟩) := by
  unfold start
  rw [pay83_lift, pay84_lift, pay97_lift, pay98_lift]
  split <;> rfl

theorem point_lift (i : grid0.Coords) (I : IR) (dk dv : ℕ → ℕ → ℝ) :
    point (F := Ideal) i I.lift (M2 dk) (M2 dv)
      = (upTo (512 * (i 1).val) I.row (if (i 1).val = 0 then SR.zero else ⟨dk, dv, fun _ _ => 0, fun _ _ => 0⟩) (512 * ((i 1).val + 1))).lift := by
  unfold point
  rw [rowOf_lift, start_lift, sweep_lift]

/-- The query gradient's block. -/
def dqR (I : IR) (S : SR) (r l : ℕ) : ℝ :=
  if l < 128 then unrot S.q0 I.cs (fun r l => I.cs r (128 + l)) (I.pv 5) (I.pv 6) r l
  else unrot S.q1 I.cs (fun r l => I.cs r (128 + l)) (I.pv 5) (I.pv 6) r (l - 128)

theorem dqOut_lift (I : IR) (S : SR) : dqOut (F := Ideal) I.lift S.lift = M2 (dqR I S) := by
  unfold dqOut dqOver IR.lift SR.lift
  dsimp only
  have w0 := fun inb => window_lift (m := 512) (n := 256) (p := 512) (q := 128) I.cs ![0, 0] 0 0 rfl inb
  have w1 := fun inb => window_lift (m := 512) (n := 256) (p := 512) (q := 128) I.cs ![0, 128] 0 128 rfl inb
  have w2 := fun inb => window_lift (m := 16) (n := 1024) (p := 1) (q := 128) I.pv ![5, 0] 5 0 rfl inb
  have w3 := fun inb => window_lift (m := 16) (n := 1024) (p := 1) (q := 128) I.pv ![6, 0] 6 0 rfl inb
  have p0 := fun A W => put_lift (m := 512) (n := 256) (p := 512) (q := 128) A W ![0, 0] 0 0 rfl
  have p1 := fun A W => put_lift (m := 512) (n := 256) (p := 512) (q := 128) A W ![0, 128] 0 128 rfl
  rw [w0, w1, w2, w3, pay5_lift, pay6_lift, p0, p1]
  refine M2_congr fun r hr l hl => ?_
  simp only [Nat.zero_add, Nat.add_zero, Nat.sub_zero]
  unfold dqR
  by_cases h : l < 128
  · rw [if_neg (by omega), if_pos (by omega), if_pos h]
  · rw [if_pos (by omega), if_neg h]

end Cert.KernelIdeal.Hand
-- ==== Proof.Grid.lean ====
/-
  The grid on real arrays: each point's blocks, read from the operand arrays; what the points leave in the accumulators.
-/
module

public import proofs.«01_k».proof.Proof.Point

@[expose] public section

set_option maxRecDepth 16384

noncomputable section

namespace Cert.KernelIdeal.Hand

open Cert.KernelIdeal Cert.KernelIdeal.Gen
open Idealize.ShloMosaic Idealize.ShloMosaic.TcCoe
open Idealize.ShloMosaic.Pipeline (Dat)
open scoped BigOperators

/-- The operand arrays of the call, as real numbers. -/
structure AR where
  q : ℕ → ℕ → ℝ
  k : ℕ → ℕ → ℝ
  v : ℕ → ℕ → ℝ
  g : ℕ → ℕ → ℝ
  o : ℕ → ℕ → ℝ
  l : ℕ → ℕ → ℕ → ℕ → ℝ
  cs : ℕ → ℕ → ℝ
  pv : ℕ → ℕ → ℝ

/-- The blocks of pair `p` and query block `i`. -/
def AR.at (A : AR) (p i : ℕ) : IR where
  q r l := A.q (512 * i + r) (256 * p + l)
  k x l := A.k x (256 * p + l)
  v x l := A.v x (128 * p + l)
  g r l := A.g (512 * i + r) (128 * p + l)
  o r l := A.o (512 * i + r) (128 * p + l)
  l a r := A.l p i a r
  cs r l := A.cs (512 * i + r) l
  pv := A.pv

variable (m : (ℓ : Loc nD τ sig) → Buf (Elt Ideal) ℓ) (c : Dev nD) (A : AR)

/-- The call's operands hold the real numbers `A`. -/
structure Holds : Prop where
  q : V m c main_v98 = (M2 A.q : S8192x1024.Idx → EReal)
  k : V m c main_v101 = (M2 A.k : S8192x1024.Idx → EReal)
  v : V m c main_v103 = (M2 A.v : S8192x512.Idx → EReal)
  g : V m c main_v105 = (M2 A.g : S8192x512.Idx → EReal)
  o : V m c main_v61 = (M2 A.o : S8192x512.Idx → EReal)
  l : V m c main_v67 = ((fun j => ((A.l (j 0).val (j 1).val (j 2).val (j 3).val : ℝ) : EReal)) : S4x16x2x512.Idx → EReal)
  cs : V m c main_v72 = (M2 A.cs : S8192x256.Idx → EReal)
  pv : V m c main_v93 = (M2 A.pv : S16x1024.Idx → EReal)

theorem idx_0 : ∀ t : Fin cfg0.N, win0_0.index t 0 = t.val % 16 ∧ win0_0.index t 1 = t.val / 16 := by decide +kernel
theorem idx_1 : ∀ t : Fin cfg0.N, win0_1.index t 0 = 0 ∧ win0_1.index t 1 = t.val / 16 := by decide +kernel
theorem idx_2 : ∀ t : Fin cfg0.N, win0_2.index t 0 = 0 ∧ win0_2.index t 1 = t.val / 16 := by decide +kernel
theorem idx_3 : ∀ t : Fin cfg0.N, win0_3.index t 0 = t.val % 16 ∧ win0_3.index t 1 = t.val / 16 := by decide +kernel
theorem idx_4 : ∀ t : Fin cfg0.N, win0_4.index t 0 = t.val % 16 ∧ win0_4.index t 1 = t.val / 16 := by decide +kernel
theorem idx_5 : ∀ t : Fin cfg0.N, win0_5.index t 0 = t.val / 16 ∧ win0_5.index t 1 = t.val % 16 ∧ win0_5.index t 2 = 0 ∧ win0_5.index t 3 = 0 := by decide +kernel
theorem idx_6 : ∀ t : Fin cfg0.N, win0_6.index t 0 = t.val % 16 ∧ win0_6.index t 1 = 0 := by decide +kernel
theorem idx_7 : ∀ t : Fin cfg0.N, win0_7.index t 0 = 0 ∧ win0_7.index t 1 = 0 := by decide +kernel
theorem idx_8 : ∀ t : Fin cfg0.N, win0_8.index t 0 = t.val % 16 ∧ win0_8.index t 1 = t.val / 16 := by decide +kernel
theorem idx_9 : ∀ t : Fin cfg0.N, win0_9.index t 0 = 0 ∧ win0_9.index t 1 = t.val / 16 := by decide +kernel
theorem idx_10 : ∀ t : Fin cfg0.N, win0_10.index t 0 = 0 ∧ win0_10.index t 1 = t.val / 16 := by decide +kernel

variable {m c A}

theorem blk_0 (H : Holds m c A) (t : Fin cfg0.N) :
    (iblk m c 0 t : S512x256.Idx → EReal) = M2 (fun x l => A.q (512 * (t.val % 16) + x) (256 * (t.val / 16) + l)) := by
  have hi := idx_0 t
  funext j
  unfold iblk
  rw [View.read_apply]
  show V m c main_v98 _ = _
  rw [H.q]
  show ((A.q (win0_0.index t 0 * 512 + 1 * (j 0).val) (win0_0.index t 1 * 256 + 1 * (j 1).val) : ℝ) : EReal) = ((A.q _ _ : ℝ) : EReal)
  rw [hi.1, hi.2]
  exact congrArg _ (congrArg₂ A.q (by omega) (by omega))

theorem blk_1 (H : Holds m c A) (t : Fin cfg0.N) :
    (iblk m c 1 t : S8192x256.Idx → EReal) = M2 (fun x l => A.k (x) (256 * (t.val / 16) + l)) := by
  have hi := idx_1 t
  funext j
  unfold iblk
  rw [View.read_apply]
  show V m c main_v101 _ = _
  rw [H.k]
  show ((A.k (win0_1.index t 0 * 8192 + 1 * (j 0).val) (win0_1.index t 1 * 256 + 1 * (j 1).val) : ℝ) : EReal) = ((A.k _ _ : ℝ) : EReal)
  rw [hi.1, hi.2]
  exact congrArg _ (congrArg₂ A.k (by omega) (by omega))

theorem blk_2 (H : Holds m c A) (t : Fin cfg0.N) :
    (iblk m c 2 t : S8192x128.Idx → EReal) = M2 (fun x l => A.v (x) (128 * (t.val / 16) + l)) := by
  have hi := idx_2 t
  funext j
  unfold iblk
  rw [View.read_apply]
  show V m c main_v103 _ = _
  rw [H.v]
  show ((A.v (win0_2.index t 0 * 8192 + 1 * (j 0).val) (win0_2.index t 1 * 128 + 1 * (j 1).val) : ℝ) : EReal) = ((A.v _ _ : ℝ) : EReal)
  rw [hi.1, hi.2]
  exact congrArg _ (congrArg₂ A.v (by omega) (by omega))

theorem blk_3 (H : Holds m c A) (t : Fin cfg0.N) :
    (iblk m c 3 t : S512x128.Idx → EReal) = M2 (fun x l => A.g (512 * (t.val % 16) + x) (128 * (t.val / 16) + l)) := by
  have hi := idx_3 t
  funext j
  unfold iblk
  rw [View.read_apply]
  show V m c main_v105 _ = _
  rw [H.g]
  show ((A.g (win0_3.index t 0 * 512 + 1 * (j 0).val) (win0_3.index t 1 * 128 + 1 * (j 1).val) : ℝ) : EReal) = ((A.g _ _ : ℝ) : EReal)
  rw [hi.1, hi.2]
  exact congrArg _ (congrArg₂ A.g (by omega) (by omega))

theorem blk_4 (H : Holds m c A) (t : Fin cfg0.N) :
    (iblk m c 4 t : S512x128.Idx → EReal) = M2 (fun x l => A.o (512 * (t.val % 16) + x) (128 * (t.val / 16) + l)) := by
  have hi := idx_4 t
  funext j
  unfold iblk
  rw [View.read_apply]
  show V m c main_v61 _ = _
  rw [H.o]
  show ((A.o (win0_4.index t 0 * 512 + 1 * (j 0).val) (win0_4.index t 1 * 128 + 1 * (j 1).val) : ℝ) : EReal) = ((A.o _ _ : ℝ) : EReal)
  rw [hi.1, hi.2]
  exact congrArg _ (congrArg₂ A.o (by omega) (by omega))

theorem blk_6 (H : Holds m c A) (t : Fin cfg0.N) :
    (iblk m c 6 t : S512x256.Idx → EReal) = M2 (fun x l => A.cs (512 * (t.val % 16) + x) (l)) := by
  have hi := idx_6 t
  funext j
  unfold iblk
  rw [View.read_apply]
  show V m c main_v72 _ = _
  rw [H.cs]
  show ((A.cs (win0_6.index t 0 * 512 + 1 * (j 0).val) (win0_6.index t 1 * 256 + 1 * (j 1).val) : ℝ) : EReal) = ((A.cs _ _ : ℝ) : EReal)
  rw [hi.1, hi.2]
  exact congrArg _ (congrArg₂ A.cs (by omega) (by omega))

theorem blk_7 (H : Holds m c A) (t : Fin cfg0.N) : (iblk m c 7 t : S16x1024.Idx → EReal) = M2 A.pv := by
  have hi := idx_7 t
  funext j
  unfold iblk
  rw [View.read_apply]
  have e : ∀ i : S16x1024.Idx, (V m c main_v93 : S16x1024.Idx → EReal) i = ((A.pv (i 0).val (i 1).val : ℝ) : EReal) := fun i => congrFun H.pv i
  refine (e _).trans ?_
  have e0 : win0_7.index t 0 * 16 + 1 * (j 0).val = (j 0).val := by rw [hi.1]; omega
  have e1 : win0_7.index t 1 * 1024 + 1 * (j 1).val = (j 1).val := by rw [hi.2]; omega
  exact congrArg (fun x : ℝ => (x : EReal)) (congrArg₂ A.pv e0 e1)

theorem blk_read_5 (t : Fin cfg0.N) :
    (iblk m c 5 t : S1x1x2x512.Idx → EReal) = (((cfg0.win 5).blk t).view.read (Elt Ideal) (V m c main_v67) : S1x1x2x512.Idx → EReal) := rfl
theorem read_5 (t : Fin cfg0.N) (W : S4x16x2x512.Idx → EReal) (j : S1x1x2x512.Idx) :
    (((cfg0.win 5).blk t).view.read (Elt Ideal) W : S1x1x2x512.Idx → EReal) j = W (((cfg0.win 5).blk t).view.emb j) := rfl
theorem emb_5 (t : Fin cfg0.N) (j : S1x1x2x512.Idx) (i : S4x16x2x512.Idx) (h : i = ((cfg0.win 5).blk t).view.emb j) :
    (i 0).val = win0_5.index t 0 * 1 + 1 * (j 0).val ∧ (i 1).val = win0_5.index t 1 * 1 + 1 * (j 1).val
      ∧ (i 2).val = win0_5.index t 2 * 2 + 1 * (j 2).val ∧ (i 3).val = win0_5.index t 3 * 512 + 1 * (j 3).val := by
  subst h
  exact ⟨rfl, rfl, rfl, rfl⟩

theorem blk_5 (H : Holds m c A) (t : Fin cfg0.N) :
    (iblk m c 5 t : S1x1x2x512.Idx → EReal) = fun j => ((A.l (t.val / 16) (t.val % 16) (j 2).val (j 3).val : ℝ) : EReal) := by
  have hi := idx_5 t
  funext j
  rw [blk_read_5, H.l, read_5]
  have he := emb_5 t j _ rfl
  have h0 : (j 0).val < 1 := (j 0).isLt
  have h1 : (j 1).val < 1 := (j 1).isLt
  rw [hi.1, hi.2.1, hi.2.2.1, hi.2.2.2] at he
  generalize ((cfg0.win 5).blk t).view.emb j = i at he ⊢
  rw [show (i 0).val = t.val / 16 by omega, show (i 1).val = t.val % 16 by omega, show (i 2).val = (j 2).val by omega,
    show (i 3).val = (j 3).val by omega]

theorem insAt_lift (H : Holds m c A) (t : Fin cfg0.N) : insAt m c t = (A.at (t.val / 16) (t.val % 16)).lift := by
  unfold insAt
  rw [show (iblk m c 0 t : S512x256.Idx → EReal) = _ from blk_0 H t, show (iblk m c 1 t : S8192x256.Idx → EReal) = _ from blk_1 H t,
    show (iblk m c 2 t : S8192x128.Idx → EReal) = _ from blk_2 H t, show (iblk m c 3 t : S512x128.Idx → EReal) = _ from blk_3 H t,
    show (iblk m c 4 t : S512x128.Idx → EReal) = _ from blk_4 H t, show (iblk m c 5 t : S1x1x2x512.Idx → EReal) = _ from blk_5 H t,
    show (iblk m c 6 t : S512x256.Idx → EReal) = _ from blk_6 H t, show (iblk m c 7 t : S16x1024.Idx → EReal) = _ from blk_7 H t]
  rfl

/-- A point's own sums over the keys. -/
def qSum0 (A : AR) (p i r l : ℕ) : ℝ :=
  ∑ x ∈ Finset.range (512 * (i + 1)), D0 (512 * i) (A.at p i).row x r * A.k x (256 * p + l)
def qSum1 (A : AR) (p i r l : ℕ) : ℝ :=
  ∑ x ∈ Finset.range (512 * (i + 1)), D1 (512 * i) (A.at p i).row x r * A.k x (256 * p + (128 + l))
/-- The accumulators after the first `n` query blocks of a pair. -/
def kSum (A : AR) (p n x l : ℕ) : ℝ := ∑ i ∈ Finset.range n, cdk (512 * i) (A.at p i).row x l
def vSum (A : AR) (p n x l : ℕ) : ℝ := ∑ i ∈ Finset.range n, cdv (512 * i) (A.at p i).row x l

theorem gp_zero (T : ℕ) (K Q : ℕ → ℕ → ℝ) (L : ℕ → ℝ) (x r : ℕ) (h : ¬ x ≤ T + r) : gp T K Q L x r = 0 := if_neg h

/-- A key past the block gains nothing. -/
theorem cdk_zero (T : ℕ) (R : RR) (x l : ℕ) (h : T + 512 ≤ x) : cdk T R x l = 0 := by
  have hz : ∀ r < 512, D0 T R x r = 0 ∧ D1 T R x r = 0 := fun r hr => by
    unfold D0 D1 ds P0 P1
    rw [gp_zero _ _ _ _ _ _ (by omega), gp_zero _ _ _ _ _ _ (by omega), zero_mul, zero_mul]
    exact ⟨rfl, rfl⟩
  unfold cdk
  split <;> refine Finset.sum_eq_zero fun r hr => ?_
  · rw [(hz r (Finset.mem_range.1 hr)).1, zero_mul]
  · rw [(hz r (Finset.mem_range.1 hr)).2, zero_mul]
theorem cdv_zero (T : ℕ) (R : RR) (x l : ℕ) (h : T + 512 ≤ x) : cdv T R x l = 0 := by
  unfold cdv P0 P1
  split <;> refine Finset.sum_eq_zero fun r hr => ?_ <;>
    rw [gp_zero _ _ _ _ _ _ (by have := Finset.mem_range.1 hr; omega), zero_mul]

/-- What the first points leave: the sums over the pair's query blocks so far. -/
theorem accAt_lift (H : Holds m c A) (p : ℕ) (hp : p < 4) : ∀ j < 16,
    accAt m c (16 * p + j + 1)
      = SR.lift ⟨kSum A p (j + 1), vSum A p (j + 1), qSum0 A p j, qSum1 A p j⟩ := by
  have step : ∀ j (hj : j < 16) (X Y : ℕ → ℕ → ℝ),
      (upTo (512 * j) (A.at p j).row ⟨X, Y, fun _ _ => 0, fun _ _ => 0⟩ (512 * (j + 1))).lift
        = SR.lift ⟨fun x l => X x l + cdk (512 * j) (A.at p j).row x l, fun x l => Y x l + cdv (512 * j) (A.at p j).row x l,
            qSum0 A p j, qSum1 A p j⟩ := fun j hj X Y => by
    congr 1
    unfold upTo
    congr 1
    · funext x l
      show X x l + _ = _
      split
      · rfl
      · rw [cdk_zero _ _ _ _ (by omega)]
    · funext x l
      show Y x l + _ = _
      split
      · rfl
      · rw [cdv_zero _ _ _ _ (by omega)]
    · funext r l; exact zero_add _
    · funext r l; exact zero_add _
  intro j
  induction j with
  | zero =>
    intro hj
    have ht : 16 * p + 0 < cfg0.N := by show _ < 64; omega
    have e := accAt_succ m c ⟨16 * p + 0, ht⟩
    rw [show 16 * p + 0 + 1 = (⟨16 * p + 0, ht⟩ : Fin cfg0.N).val + 1 from rfl, e]
    have c1 := coords_one ⟨16 * p + 0, ht⟩
    have c0 : (grid0.coords ⟨16 * p + 0, ht⟩ 1).val = 0 := by rw [c1]; show (16 * p + 0) % 16 = 0; omega
    rw [point_first _ c0 _ _ (M2 (fun _ _ => 0)) _ (M2 (fun _ _ => 0)), insAt_lift H, point_lift, c0, if_pos rfl]
    rw [show (⟨16 * p + 0, ht⟩ : Fin cfg0.N).val / 16 = p by show (16 * p + 0) / 16 = p; omega,
      show (⟨16 * p + 0, ht⟩ : Fin cfg0.N).val % 16 = 0 by show (16 * p + 0) % 16 = 0; omega]
    refine (step 0 hj _ _).trans ?_
    congr 2 <;> funext x l <;> simp [kSum, vSum]
  | succ j ih =>
    intro hj
    have ht : 16 * p + (j + 1) < cfg0.N := by show _ < 64; omega
    have e := accAt_succ m c ⟨16 * p + (j + 1), ht⟩
    rw [show 16 * p + (j + 1) + 1 = (⟨16 * p + (j + 1), ht⟩ : Fin cfg0.N).val + 1 from rfl, e]
    have c1 := coords_one ⟨16 * p + (j + 1), ht⟩
    have c0 : (grid0.coords ⟨16 * p + (j + 1), ht⟩ 1).val = j + 1 := by rw [c1]; show (16 * p + (j + 1)) % 16 = j + 1; omega
    rw [show (⟨16 * p + (j + 1), ht⟩ : Fin cfg0.N).val = 16 * p + j + 1 from rfl, ih (by omega), insAt_lift H]
    refine (point_lift _ _ _ _).trans ?_
    rw [c0, if_neg (by omega)]
    rw [show (⟨16 * p + (j + 1), ht⟩ : Fin cfg0.N).val / 16 = p by show (16 * p + (j + 1)) / 16 = p; omega,
      show (⟨16 * p + (j + 1), ht⟩ : Fin cfg0.N).val % 16 = j + 1 by show (16 * p + (j + 1)) % 16 = j + 1; omega]
    refine (step (j + 1) hj _ _).trans ?_
    congr 2 <;> funext x l
    · exact (Finset.sum_range_succ _ _).symm
    · exact (Finset.sum_range_succ _ _).symm

/-- The same, at a grid point. -/
theorem accAt_lift' (H : Holds m c A) (t : Fin cfg0.N) :
    accAt m c (t.val + 1) = SR.lift ⟨kSum A (t.val / 16) (t.val % 16 + 1), vSum A (t.val / 16) (t.val % 16 + 1),
      qSum0 A (t.val / 16) (t.val % 16), qSum1 A (t.val / 16) (t.val % 16)⟩ := by
  have ht : t.val < 64 := t.isLt
  have := accAt_lift H (t.val / 16) (by omega) (t.val % 16) (by omega)
  rwa [show 16 * (t.val / 16) + t.val % 16 = t.val by omega] at this

end Cert.KernelIdeal.Hand
-- ==== Proof.Out.lean ====
/-
  The three arrays that the call leaves, on real operands.
-/
module

public import proofs.«01_k».proof.Proof.Grid
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe
open Idealize.ShloMosaic.Pipeline (Dat)
open scoped BigOperators

variable {m : (ℓ : Loc nD τ sig) → Buf (Elt Ideal) ℓ} {c : Dev nD} {A : AR}

/-- The query gradient's array. -/
def outQ (A : AR) (s l : ℕ) : ℝ :=
  dqR (A.at (l / 256) (s / 512)) ⟨fun _ _ => 0, fun _ _ => 0, qSum0 A (l / 256) (s / 512), qSum1 A (l / 256) (s / 512)⟩ (s % 512) (l % 256)
/-- The key gradient's array. -/
def outK (A : AR) (x l : ℕ) : ℝ := kSum A (l / 256) 16 x (l % 256) * Real.log 2
/-- The value gradient's array. -/
def outV (A : AR) (x l : ℕ) : ℝ := vSum A (l / 128) 16 x (l % 128)

theorem emb_8 (t : Fin cfg0.N) (j : S512x256.Idx) (i : S8192x1024.Idx) (h : i = ((cfg0.win 8).blk t).view.emb j) :
    (i 0).val = win0_8.index t 0 * 512 + 1 * (j 0).val ∧ (i 1).val = win0_8.index t 1 * 256 + 1 * (j 1).val := by
  subst h
  exact ⟨rfl, rfl⟩

theorem emb_9 (t : Fin cfg0.N) (j : S8192x256.Idx) (i : S8192x1024.Idx) (h : i = ((cfg0.win 9).blk t).view.emb j) :
    (i 0).val = win0_9.index t 0 * 8192 + 1 * (j 0).val ∧ (i 1).val = win0_9.index t 1 * 256 + 1 * (j 1).val := by
  subst h
  exact ⟨rfl, rfl⟩

theorem emb_10 (t : Fin cfg0.N) (j : S8192x128.Idx) (i : S8192x512.Idx) (h : i = ((cfg0.win 10).blk t).view.emb j) :
    (i 0).val = win0_10.index t 0 * 8192 + 1 * (j 0).val ∧ (i 1).val = win0_10.index t 1 * 128 + 1 * (j 1).val := by
  subst h
  exact ⟨rfl, rfl⟩

theorem after_8 (H : Holds m c A) (t : Fin cfg0.N) : ((dats m 0 c).after 8 t : S512x256.Idx → EReal)
    = M2 (dqR (A.at (t.val / 16) (t.val % 16)) ⟨kSum A (t.val / 16) (t.val % 16 + 1), vSum A (t.val / 16) (t.val % 16 + 1),
        qSum0 A (t.val / 16) (t.val % 16), qSum1 A (t.val / 16) (t.val % 16)⟩) := by
  have e : ((dats m 0 c).after 8 t : S512x256.Idx → EReal) = dqOut (insAt m c t) (accAt m c (t.val + 1)) := rfl
  rw [e, insAt_lift H, accAt_lift' H, dqOut_lift]
theorem after_9 (H : Holds m c A) (t : Fin cfg0.N) : ((dats m 0 c).after 9 t : S8192x256.Idx → EReal)
    = M2 (fun x l => kSum A (t.val / 16) (t.val % 16 + 1) x l * Real.log 2) := by
  have e : ((dats m 0 c).after 9 t : S8192x256.Idx → EReal) = dkOut (accAt m c (t.val + 1)) := rfl
  rw [e, accAt_lift' H]
  exact pay7_lift _
theorem after_10 (H : Holds m c A) (t : Fin cfg0.N) : ((dats m 0 c).after 10 t : S8192x128.Idx → EReal)
    = M2 (fun x l => vSum A (t.val / 16) (t.val % 16 + 1) x l) := by
  have e : ((dats m 0 c).after 10 t : S8192x128.Idx → EReal) = dvOut (accAt m c (t.val + 1)) := rfl
  rw [e, accAt_lift' H]
  exact pay8_lift _

theorem M2_at {a b : ℕ} (X : ℕ → ℕ → ℝ) (i : (⟨2, ![a, b]⟩ : Shape).Idx) : M2 X i = ((X (i 0).val (i 1).val : ℝ) : EReal) := rfl

theorem final_8 (H : Holds m c A) : (dats m 0 c).arrAt 8 cfg0.N = (M2 (outQ A) : S8192x1024.Idx → EReal) := by
  refine (dats m 0 c).arrAt_eq_of_covers 8 _ (by decide +kernel) fun t hf y => ?_
  blk_simp
  refine (congrFun (after_8 H t) y).trans ?_
  have he := emb_8 t y _ rfl
  have hi := idx_8 t
  have h0 : ((y : S512x256.Idx) 0).val < 512 := ((y : S512x256.Idx) 0).isLt
  have h1 : ((y : S512x256.Idx) 1).val < 256 := ((y : S512x256.Idx) 1).isLt
  rw [hi.1, hi.2] at he
  refine (M2_at _ (y : S512x256.Idx)).trans (Eq.trans ?_ (M2_at (outQ A) (((cfg0.win 8).blk t).view.emb y : S8192x1024.Idx)).symm)
  have ht : t.val < 64 := t.isLt
  rw [he.1, he.2]
  generalize ((y : S512x256.Idx) 0).val = a at *
  generalize ((y : S512x256.Idx) 1).val = b at *
  unfold outQ
  rw [show (t.val / 16 * 256 + 1 * b) / 256 = t.val / 16 by omega, show (t.val / 16 * 256 + 1 * b) % 256 = b by omega,
    show (t.val % 16 * 512 + 1 * a) / 512 = t.val % 16 by omega, show (t.val % 16 * 512 + 1 * a) % 512 = a by omega]
  rfl

theorem final_9 (H : Holds m c A) : (dats m 0 c).arrAt 9 cfg0.N = (M2 (outK A) : S8192x1024.Idx → EReal) := by
  refine (dats m 0 c).arrAt_eq_of_covers 9 _ (by decide +kernel) fun t hf y => ?_
  blk_simp
  refine (congrFun (after_9 H t) y).trans ?_
  have he := emb_9 t y _ rfl
  have hi := idx_9 t
  have h0 : ((y : S8192x256.Idx) 0).val < 8192 := ((y : S8192x256.Idx) 0).isLt
  have h1 : ((y : S8192x256.Idx) 1).val < 256 := ((y : S8192x256.Idx) 1).isLt
  rw [hi.1, hi.2] at he
  refine (M2_at _ (y : S8192x256.Idx)).trans (Eq.trans ?_ (M2_at (outK A) (((cfg0.win 9).blk t).view.emb y : S8192x1024.Idx)).symm)
  have h15 : t.val % 16 = 15 := (flush0_9 t).1 hf
  rw [he.1, he.2, h15]
  generalize ((y : S8192x256.Idx) 0).val = a at *
  generalize ((y : S8192x256.Idx) 1).val = b at *
  unfold outK
  rw [show (t.val / 16 * 256 + 1 * b) / 256 = t.val / 16 by omega, show (t.val / 16 * 256 + 1 * b) % 256 = b by omega,
    show 0 * 8192 + 1 * a = a by omega]

theorem final_10 (H : Holds m c A) : (dats m 0 c).arrAt 10 cfg0.N = (M2 (outV A) : S8192x512.Idx → EReal) := by
  refine (dats m 0 c).arrAt_eq_of_covers 10 _ (by decide +kernel) fun t hf y => ?_
  blk_simp
  refine (congrFun (after_10 H t) y).trans ?_
  have he := emb_10 t y _ rfl
  have hi := idx_10 t
  have h0 : ((y : S8192x128.Idx) 0).val < 8192 := ((y : S8192x128.Idx) 0).isLt
  have h1 : ((y : S8192x128.Idx) 1).val < 128 := ((y : S8192x128.Idx) 1).isLt
  rw [hi.1, hi.2] at he
  refine (M2_at _ (y : S8192x128.Idx)).trans (Eq.trans ?_ (M2_at (outV A) (((cfg0.win 10).blk t).view.emb y : S8192x512.Idx)).symm)
  have h15 : t.val % 16 = 15 := (flush0_10 t).1 hf
  rw [he.1, he.2, h15]
  generalize ((y : S8192x128.Idx) 0).val = a at *
  generalize ((y : S8192x128.Idx) 1).val = b at *
  unfold outV
  rw [show (t.val / 16 * 128 + 1 * b) / 128 = t.val / 16 by omega, show (t.val / 16 * 128 + 1 * b) % 128 = b by omega,
    show 0 * 8192 + 1 * a = a by omega]

end Cert.KernelIdeal.Hand
-- ==== Proof.Model.lean ====
/-
  The attention and its gradients over real numbers: the rotated queries, the masked softmax and the quantities that both
  programs form from it; and arrays of rank three whose elements are all real.
-/
module

public import proofs.«01_k».proof.Proof.Lift

@[expose] public section

set_option maxRecDepth 16384

noncomputable section

namespace Cert.Attn

open Idealize.ShloMosaic
open scoped BigOperators

/-- The inputs as real numbers: queries, keys, values and the output's gradient at (position, head, lane); the cosines and
    the sines of the rotation at (position, pair). -/
structure In where
  q : ℕ → ℕ → ℕ → ℝ
  k : ℕ → ℕ → ℕ → ℝ
  v : ℕ → ℕ → ℕ → ℝ
  g : ℕ → ℕ → ℕ → ℝ
  th : ℕ → ℕ → ℝ

/-- The array of rank three of the real numbers `A`. -/
def M3 {a b c : ℕ} (A : ℕ → ℕ → ℕ → ℝ) : (⟨3, ![a, b, c]⟩ : Shape).Idx → EReal :=
  fun j => ((A (j 0).val (j 1).val (j 2).val : ℝ) : EReal)

@[simp] theorem M3_ix {a b c : ℕ} (A : ℕ → ℕ → ℕ → ℝ) (x : Fin a) (y : Fin b) (z : Fin c) :
    M3 A (ix3 x y z) = ((A x.val y.val z.val : ℝ) : EReal) := rfl

/-! ## The numbers that both programs write down -/

theorem w_two : Ideal.ofBits .f32 0x40000000#32 = ((2 : ℝ) : EReal) := by
  simp [Ideal.ofBits, Ideal.ieee, -EReal.coe_mul]; norm_num
theorem w_one : Ideal.ofBits .f32 0x3F800000#32 = ((1 : ℝ) : EReal) := by
  simp [Ideal.ofBits, Ideal.ieee, -EReal.coe_mul]; norm_num
theorem w_neg_one : Ideal.ofBits .f32 0xBF800000#32 = ((-1 : ℝ) : EReal) := by
  simp [Ideal.ofBits, Ideal.ieee, -EReal.coe_mul]; norm_num
theorem w_zero : Ideal.ofBits .f32 0x00000000#32 = ((0 : ℝ) : EReal) := by
  simp [Ideal.ofBits, Ideal.ieee, -EReal.coe_mul]
theorem w_ninety_six : Ideal.ofBits .f32 0x42C00000#32 = ((96 : ℝ) : EReal) := by
  simp [Ideal.ofBits, Ideal.ieee, -EReal.coe_mul]; norm_num
theorem w_sixteen : Ideal.ofBits .f32 0x41800000#32 = ((16 : ℝ) : EReal) := by
  simp [Ideal.ofBits, Ideal.ieee, -EReal.coe_mul]; norm_num
theorem w_base : Ideal.ofBits .f32 0x461C4000#32 = ((10000 : ℝ) : EReal) := by
  simp [Ideal.ofBits, Ideal.ieee, -EReal.coe_mul]; norm_num
theorem w_bot : Ideal.ofBits .f32 0xFF800000#32 = (⊥ : EReal) := by
  simp [Ideal.ofBits, Ideal.ieee, -EReal.coe_mul]

theorem div_real (a b : ℝ) (h : b ≠ 0) : Ideal.div (a : EReal) (b : EReal) = ((a / b : ℝ) : EReal) := by
  unfold Ideal.div
  rw [if_neg (by exact_mod_cast h), ← EReal.coe_inv, ← EReal.coe_mul, div_eq_mul_inv]

theorem sqrt_real (a : ℝ) (h : 0 ≤ a) : Ideal.sqrt (a : EReal) = ((Real.sqrt a : ℝ) : EReal) := by
  show (if a < 0 then (⊥ : EReal) else _) = _
  rw [if_neg (not_lt.2 h)]

theorem log_real (a : ℝ) (h : 0 < a) : Ideal.log (a : EReal) = ((Real.log a : ℝ) : EReal) := by
  show (if a ≤ 0 then (⊥ : EReal) else _) = _
  rw [if_neg (not_le.2 h)]

theorem pow_real (a b : ℝ) : Ideal.pow (a : EReal) (b : EReal) = ((a ^ b : ℝ) : EReal) := rfl
theorem exp_real (a : ℝ) : Ideal.exp (a : EReal) = ((Real.exp a : ℝ) : EReal) := rfl
theorem exp_bot : Ideal.exp ⊥ = ((0 : ℝ) : EReal) := rfl

/-- The rotation's angle: position `p`, pair `i`. -/
def angle (p : ℤ) (i : ℕ) : ℝ := (p : ℝ) * (1 / (10000 : ℝ) ^ ((i : ℝ) / 16))

/-! ## The forward pass -/

/-- A rotated row of queries. -/
def rot (I : In) (s h d : ℕ) : ℝ :=
  if d < 64 then I.q s h d
  else if d < 80 then I.q s h d * Real.cos (I.th s (d - 64)) - I.q s h (d + 16) * Real.sin (I.th s (d - 64))
  else I.q s h (d - 16) * Real.sin (I.th s (d - 80)) + I.q s h d * Real.cos (I.th s (d - 80))

/-- The score of key `b` for query `a`. -/
def sc (I : In) (h a b : ℕ) : ℝ := (∑ d ∈ Finset.range 96, rot I a h d * I.k b h d) * (1 / Real.sqrt 96)

/-- The masked scores' largest. -/
def mx (I : In) (h a : ℕ) : ℝ := (Finset.range (a + 1)).sup' ⟨0, by simp⟩ (sc I h a)

def ex (I : In) (h a b : ℕ) : ℝ := if b ≤ a then Real.exp (sc I h a b - mx I h a) else 0
def ls (I : In) (h a : ℕ) : ℝ := ∑ b ∈ Finset.range 8192, ex I h a b
/-- The softmax. -/
def pb (I : In) (h a b : ℕ) : ℝ := ex I h a b / ls I h a
/-- The output's gradient against a key's values. -/
def dp (I : In) (h a b : ℕ) : ℝ := ∑ d ∈ Finset.range 64, I.g a h d * I.v b h d
def out (I : In) (h a d : ℕ) : ℝ := ∑ b ∈ Finset.range 8192, I.v b h d * pb I h a b
/-- The scores' gradient. -/
def dsc (I : In) (h a b : ℕ) : ℝ := pb I h a b * (dp I h a b - ∑ x ∈ Finset.range 8192, pb I h a x * dp I h a x)

theorem ls_pos (I : In) (h a : ℕ) (ha : a < 8192) : 0 < ls I h a := by
  unfold ls
  refine Finset.sum_pos' (fun b _ => ?_) ⟨0, by simp, ?_⟩
  · unfold ex; split
    · exact (Real.exp_pos _).le
    · exact le_rfl
  · unfold ex; rw [if_pos (Nat.zero_le _)]; exact Real.exp_pos _

/-- The masked scores as extended reals: minus infinity past the query. -/
def msc (I : In) (h a b : ℕ) : EReal := if b ≤ a then ((sc I h a b : ℝ) : EReal) else ⊥

/-- Their largest is a real number. -/
theorem sup_msc (I : In) (h a : ℕ) (ha : a < 8192) :
    (Finset.univ.sup fun b : Fin 8192 => msc I h a b.val) = ((mx I h a : ℝ) : EReal) := by
  refine le_antisymm (Finset.sup_le fun b _ => ?_) ?_
  · unfold msc; split
    · next hb => exact EReal.coe_le_coe_iff.2 (Finset.le_sup' (sc I h a) (by simp; omega))
    · exact bot_le
  · obtain ⟨b, hb, e⟩ := Finset.exists_mem_eq_sup' (s := Finset.range (a + 1)) ⟨0, by simp⟩ (sc I h a)
    have hb' : b < a + 1 := Finset.mem_range.1 hb
    have := Finset.le_sup (f := fun b : Fin 8192 => msc I h a b.val) (Finset.mem_univ ⟨b, by omega⟩)
    refine le_trans ?_ this
    show ((mx I h a : ℝ) : EReal) ≤ msc I h a b
    unfold mx msc
    rw [e, if_pos (by omega)]

theorem exp_msc (I : In) (h a b : ℕ) : Ideal.exp (msc I h a b - ((mx I h a : ℝ) : EReal)) = ((ex I h a b : ℝ) : EReal) := by
  unfold msc ex
  split
  · rw [← EReal.coe_sub]; rfl
  · rw [EReal.bot_sub]; rfl

end Cert.Attn
-- ==== Proof.Host.lean ====
/-
  What the host operations of the kernel's program compute before the launch, over real numbers: the rotated queries, the
  masked softmax, and the kernel's eight operands.
-/
module

public import proofs.«01_k».proof.Proof.Out
public import proofs.«01_k».proof.Proof.Model
public import Idealize.ShloMosaic.Lib.StableHlo.ReadAt

@[expose] public section

set_option maxRecDepth 16384

noncomputable section

namespace Cert.Attn

open Idealize.ShloMosaic
open scoped BigOperators

theorem M2_ix {a b : ℕ} (A : ℕ → ℕ → ℝ) (x : Fin a) (y : Fin b) :
    Cert.KernelIdeal.Hand.M2 A (ix2 x y) = ((A x.val y.val : ℝ) : EReal) := rfl

/-- The rotation's angle as both programs compute it. -/
theorem angle_word (w : BitVec 32) (i : ℕ) (hi : i < 16) :
    FloatOps.sitofp (F := Ideal) FTy.f32 w * Ideal.div 1 (Ideal.pow (Ideal.ofBits FTy.f32 1176256512#32)
      (Ideal.div (FloatOps.sitofp (F := Ideal) FTy.f32 (BitVec.ofNat 32 i)) (Ideal.ofBits FTy.f32 1098907648#32)))
    = ((angle w.toInt i : ℝ) : EReal) := by
  have h1 : (FloatOps.sitofp (F := Ideal) FTy.f32 (BitVec.ofNat 32 i) : EReal) = (((i : ℕ) : ℝ) : EReal) := by
    show ((((BitVec.ofNat 32 i).toInt : ℤ) : ℝ) : EReal) = _
    rw [Cert.KernelIdeal.Hand.toInt_ofNat _ (by omega)]
    simp
  have h2 : (FloatOps.sitofp (F := Ideal) FTy.f32 w : EReal) = ((w.toInt : ℝ) : EReal) := rfl
  have hp : (0 : ℝ) < (10000 : ℝ) ^ ((i : ℝ) / 16) := Real.rpow_pos_of_pos (by norm_num) _
  rw [h1, h2, w_base, w_sixteen, div_real _ _ (by norm_num), pow_real, ← EReal.coe_one, div_real _ _ hp.ne', ← EReal.coe_mul]
  rfl

end Cert.Attn

namespace Cert.KernelIdeal.Hand

open Cert.KernelIdeal Cert.KernelIdeal.Gen Cert.Attn
open Idealize.ShloMosaic Idealize.ShloMosaic.TcCoe
open scoped BigOperators
variable {m : (ℓ : Loc nD τ sig) → Buf (Elt Ideal) ℓ} {c : Dev nD} {I : In}

/-- The call's arguments are the real inputs `I`. -/
structure Args (m : (ℓ : Loc nD τ sig) → Buf (Elt Ideal) ℓ) (c : Dev nD) (I : In) : Prop where
  q : (m (c, Proc.tc.devRef main_arg0) : S8192x8x96.Idx → EReal) = M3 I.q
  k : (m (c, Proc.tc.devRef main_arg1) : S8192x8x96.Idx → EReal) = M3 I.k
  v : (m (c, Proc.tc.devRef main_arg2) : S8192x8x64.Idx → EReal) = M3 I.v
  g : (m (c, Proc.tc.devRef main_arg3) : S8192x8x64.Idx → EReal) = M3 I.g
  th : ∀ (s : Fin 8192) (i : ℕ), I.th s.val i = angle ((m (c, Proc.tc.devRef main_arg4) : S8192.Idx → BitVec 32) (ix1 s)).toInt i

set_option maxHeartbeats 2000000 in
theorem v36 (H : Args m c I) : (V m c main_v36 : S8192x8x96.Idx → EReal) = M3 (rot I) := by
  funext j; idx_vars j
  rename' j0 => s, j1 => h, j2 => d
  have hc (x : ℝ) : Ideal.cos (x : EReal) = ((Real.cos x : ℝ) : EReal) := rfl
  have hs (x : ℝ) : Ideal.sin (x : EReal) = ((Real.sin x : ℝ) : EReal) := rfl
  unfold V
  after_reads_at
  after_reads_at
  have ec (i : ℕ) (hi : i < 16) := (congrArg Ideal.cos (angle_word ((m (c, Proc.tc.devRef main_arg4) : S8192.Idx → BitVec 32) (ix1 s)) i hi)).trans
    (congrArg (fun x : ℝ => ((Real.cos x : ℝ) : EReal)) (H.th s i).symm)
  have es (i : ℕ) (hi : i < 16) := (congrArg Ideal.sin (angle_word ((m (c, Proc.tc.devRef main_arg4) : S8192.Idx → BitVec 32) (ix1 s)) i hi)).trans
    (congrArg (fun x : ℝ => ((Real.sin x : ℝ) : EReal)) (H.th s i).symm)
  split
  · next h1 =>
    refine (congrFun H.q (ix3 s h d)).trans ?_
    rw [M3_ix, M3_ix]; unfold rot; rw [if_pos h1]
  · next h1 =>
    split
    · next h2 =>
      refine (congrArg₂ (fun x y : EReal => x - y)
        (congrArg₂ (fun x y : EReal => x * y) (congrFun H.q (ix3 s h ⟨64 + (d.val - 64), by omega⟩)) (ec _ h2))
        (congrArg₂ (fun x y : EReal => x * y) (congrFun H.q (ix3 s h ⟨64 + (16 + (d.val - 64)), by omega⟩)) (es _ h2))).trans ?_
      simp only [M3_ix]
      rw [← EReal.coe_mul, ← EReal.coe_mul, ← EReal.coe_sub]
      unfold rot
      rw [if_neg h1, if_pos (by omega), show 64 + (d.val - 64) = d.val by omega, show 64 + (16 + (d.val - 64)) = d.val + 16 by omega]
    · next h2 =>
      refine (congrArg₂ (fun x y : EReal => x + y)
        (congrArg₂ (fun x y : EReal => x * y) (congrFun H.q (ix3 s h ⟨64 + (d.val - 64 - 16), by omega⟩)) (es _ (by omega)))
        (congrArg₂ (fun x y : EReal => x * y) (congrFun H.q (ix3 s h ⟨64 + (16 + (d.val - 64 - 16)), by omega⟩)) (ec _ (by omega)))).trans ?_
      simp only [M3_ix]
      rw [← EReal.coe_mul, ← EReal.coe_mul, ← EReal.coe_add]
      unfold rot
      rw [if_neg h1, if_neg (by omega), show 64 + (d.val - 64 - 16) = d.val - 16 by omega, show 64 + (16 + (d.val - 64 - 16)) = d.val by omega,
        show d.val - 64 - 16 = d.val - 80 by omega]

theorem sle_word (a b : ℕ) (ha : a < 8192) (hb : b < 8192) {α : Type} (x y : α) :
    Scalar.select (IntOp.cmpi .sle (BitVec.ofNat 32 a) (BitVec.ofNat 32 b)) x y = if a ≤ b then x else y := by
  have := sel_sle a b 0 (by omega) (by omega) (by omega) x y
  simpa [IntOp.addi] using this

theorem sitofp_zero : (FloatOps.sitofp (F := Ideal) FTy.f32 0#32 : EReal) = ((0 : ℝ) : EReal) := by
  show ((((0#32 : BitVec 32).toInt : ℤ) : ℝ) : EReal) = _
  simp

theorem isqrt_word : Ideal.div 1 (Ideal.sqrt (Ideal.ofBits FTy.f32 1119879168#32)) = ((1 / Real.sqrt 96 : ℝ) : EReal) := by
  rw [w_ninety_six, sqrt_real _ (by norm_num), ← EReal.coe_one, div_real _ _ (by positivity)]

theorem coe_dot_range {n : ℕ} (f g : ℕ → ℝ) : (∑ x : Fin n, ((f x.val : ℝ) : EReal) * ((g x.val : ℝ) : EReal)) = ((∑ x ∈ Finset.range n, f x * g x : ℝ) : EReal) := by
  rw [coe_dot (fun x : Fin n => f x.val) (fun x => g x.val), Finset.sum_range]

/-- The masked scores. -/
theorem v49 (H : Args m c I) : (V m c main_v49 : S8x8192x8192.Idx → EReal) = fun j => msc I (j 0).val (j 1).val (j 2).val := by
  have h36 := v36 H
  funext j; idx_vars j
  rename' j0 => h, j1 => a, j2 => b
  show _ = msc I h.val a.val b.val
  revert h36
  unfold V
  after_reads_simp
  simp -implicitDefEqProofs only [StableHlo.TRef.toBuf, StableHlo.TRef.ofBuf, cast_cast, cast_eq]
  clean_types
  intro h36
  rw [h36]
  pointwise
  rw [H.k]
  simp only [M3_ix]
  rw [sle_word _ _ b.isLt a.isLt, isqrt_word, coe_dot_range (fun x => rot I a.val h.val x) (fun x => I.k b.val h.val x), ← EReal.coe_mul]
  unfold msc
  split
  · rfl
  · exact w_bot

theorem fold_sup (f : Fin 8192 → EReal) :
    Finset.univ.fold max (Ideal.ofBits FTy.f32 4286578688#32) f = Finset.univ.sup f := by
  rw [w_bot]; rfl

/-- A row's largest masked score. -/
theorem v50 (H : Args m c I) : (V m c main_v50 : S8x8192.Idx → EReal) = M2 (mx I) := by
  have h49 := v49 H
  funext j; idx_vars j
  rename' j0 => h, j1 => a
  revert h49
  unfold V
  after_reads_simp
  simp -implicitDefEqProofs only [StableHlo.TRef.toBuf, StableHlo.TRef.ofBuf, cast_cast, cast_eq]
  clean_types
  intro h49
  rw [h49]
  pointwise
  rw [fold_sup]
  exact sup_msc I _ _ a.isLt

theorem v54 (H : Args m c I) : (V m c main_v54 : S8x8192x8192.Idx → EReal) = M3 (ex I) := by
  have h49 := v49 H
  have h50 := v50 H
  funext j; idx_vars j
  rename' j0 => h, j1 => a, j2 => b
  revert h50
  revert h49
  unfold V
  after_reads_simp
  simp -implicitDefEqProofs only [StableHlo.TRef.toBuf, StableHlo.TRef.ofBuf, cast_cast, cast_eq]
  clean_types
  intro h49
  simp only [h49]
  intro h50
  simp only [h50]
  pointwise
  exact exp_msc I h.val a.val b.val

/-- A row's sum of exponentials. -/
theorem v55 (H : Args m c I) : (V m c main_v55 : S8x8192.Idx → EReal) = M2 (ls I) := by
  have h54 := v54 H
  funext j; idx_vars j
  rename' j0 => h, j1 => a
  revert h54
  unfold V
  after_reads_simp
  simp -implicitDefEqProofs only [StableHlo.TRef.toBuf, StableHlo.TRef.ofBuf, cast_cast, cast_eq]
  clean_types
  intro h54
  simp only [h54]
  pointwise
  simp only [M3_ix]
  rw [coe_sum]
  rw [M2_ix]
  unfold ls
  rw [Finset.sum_range]

/-- The softmax. -/
theorem v58 (H : Args m c I) : (V m c main_v58 : S8x8192x8192.Idx → EReal) = M3 (pb I) := by
  have h54 := v54 H
  have h55 := v55 H
  funext j; idx_vars j
  rename' j0 => h, j1 => a, j2 => b
  revert h55
  revert h54
  unfold V
  after_reads_simp
  simp -implicitDefEqProofs only [StableHlo.TRef.toBuf, StableHlo.TRef.ofBuf, cast_cast, cast_eq]
  clean_types
  intro h54
  simp only [h54]
  intro h55
  simp only [h55]
  pointwise
  simp only [M3_ix, M2_ix]
  rw [div_real _ _ (ls_pos I _ _ a.isLt).ne']
  rfl

/-- The kernel's operands. -/
def arOf (I : In) : AR where
  q s l := if l % 128 < 96 then rot I s (l / 128) (l % 128) * (1 / Real.log 2 / Real.sqrt 96) else 0
  k s l := if l % 128 < 96 then I.k s (l / 128) (l % 128) else 0
  v s l := I.v s (l / 64) (l % 64)
  g s l := I.g s (l / 64) (l % 64)
  o s l := out I (l / 64) s (l % 64)
  l p i a r := (mx I (p * 2 + a) (i * 512 + r) + Real.log (ls I (p * 2 + a) (i * 512 + r))) * (1 / Real.log 2)
  cs s l :=
    if l < 64 then 1 else if l < 80 then Real.cos (I.th s (l - 64)) else if l < 96 then Real.cos (I.th s (l - 80)) else if l < 128 then 1
    else if l < 192 then 0 else if l < 208 then Real.sin (I.th s (l - 192)) else if l < 224 then Real.sin (I.th s (l - 208)) else 0
  pv r l := if r = 5 ∧ 64 ≤ l ∧ l < 80 then -1 else if r = 6 ∧ 80 ≤ l ∧ l < 96 then 1 else 0

theorem o61 (H : Args m c I) : (V m c main_v61 : S8192x512.Idx → EReal) = M2 (arOf I).o := by
  have h58 := v58 H
  funext j; idx_vars j
  rename' j0 => s, j1 => l
  revert h58
  unfold V
  after_reads_simp
  simp -implicitDefEqProofs only [StableHlo.TRef.toBuf, StableHlo.TRef.ofBuf, cast_cast, cast_eq]
  clean_types
  intro h58
  simp only [h58]
  pointwise
  rw [H.v]
  simp only [M3_ix, M2_ix]
  rw [coe_dot_range (fun x => I.v x (l.val / 64) (l.val % 64)) (fun x => pb I (l.val / 64) s.val x)]
  rfl

theorem log2_word : Ideal.div 1 (Ideal.log (Ideal.ofBits FTy.f32 1073741824#32)) = ((1 / Real.log 2 : ℝ) : EReal) := by
  rw [w_two, log_real _ (by norm_num), ← EReal.coe_one, div_real _ _ (Real.log_pos (by norm_num)).ne']

theorem l67 (H : Args m c I) : (V m c main_v67 : S4x16x2x512.Idx → EReal) =
    fun j => (((arOf I).l (j 0).val (j 1).val (j 2).val (j 3).val : ℝ) : EReal) := by
  have h50 := v50 H
  have h55 := v55 H
  funext j; idx_vars j
  rename' j0 => p, j1 => i, j2 => a, j3 => r
  show _ = (((arOf I).l p.val i.val a.val r.val : ℝ) : EReal)
  revert h55
  revert h50
  unfold V
  after_reads_simp
  simp -implicitDefEqProofs only [StableHlo.TRef.toBuf, StableHlo.TRef.ofBuf, cast_cast, cast_eq]
  clean_types
  intro h50
  simp only [h50]
  intro h55
  simp only [h55]
  pointwise
  simp only [M2_ix]
  rw [log2_word, log_real _ (ls_pos I _ _ (by omega)), ← EReal.coe_add, ← EReal.coe_mul]
  rfl

theorem cs72 (H : Args m c I) : (V m c main_v72 : S8192x256.Idx → EReal) = M2 (arOf I).cs := by
  have hc (x : ℝ) : Ideal.cos (x : EReal) = ((Real.cos x : ℝ) : EReal) := rfl
  have hs (x : ℝ) : Ideal.sin (x : EReal) = ((Real.sin x : ℝ) : EReal) := rfl
  funext j; idx_vars j
  rename' j0 => s, j1 => l
  unfold V
  after_reads_at
  after_reads_at
  rw [M2_at]
  show _ = (((if l.val < 64 then 1 else if l.val < 80 then Real.cos (I.th s.val (l.val - 64)) else if l.val < 96 then
    Real.cos (I.th s.val (l.val - 80)) else if l.val < 128 then 1 else if l.val < 192 then 0 else if l.val < 208 then
    Real.sin (I.th s.val (l.val - 192)) else if l.val < 224 then Real.sin (I.th s.val (l.val - 208)) else 0 : ℝ)) : EReal)
  split
  · rfl
  split
  · next h1 => rw [if_pos (by omega), angle_word _ _ h1, ← H.th, hc]
  rw [if_neg (by omega)]
  split
  · next h1 => rw [if_pos (by omega), angle_word _ _ h1, ← H.th, hc, show l.val - 64 - 16 = l.val - 80 by omega]
  rw [if_neg (by omega)]
  split
  · next h1 => rw [if_pos (by omega)]; rfl
  rw [if_neg (by omega)]
  split
  · next h1 => rw [if_pos (by omega)]; rfl
  rw [if_neg (by omega)]
  split
  · next h1 => rw [if_pos (by omega), angle_word _ _ h1, ← H.th, hs, show l.val - 64 - 16 - 16 - 32 - 64 = l.val - 192 by omega]
  rw [if_neg (by omega)]
  split
  · next h1 => rw [if_pos (by omega), angle_word _ _ h1, ← H.th, hs, show l.val - 64 - 16 - 16 - 32 - 64 - 16 = l.val - 208 by omega]
  rw [if_neg (by omega)]
  rfl

theorem and3_word (r l a b e : ℕ) (hr : r < 65536) (hl : l < 65536) (ha : a < 65536) (hb : b < 65536) (he : e < 65536) {α : Type} (x y : α) :
    Scalar.select (IntOp.andi (IntOp.andi (IntOp.cmpi .eq (BitVec.ofNat 32 r) (BitVec.ofNat 32 a))
      (IntOp.cmpi .sge (BitVec.ofNat 32 l) (BitVec.ofNat 32 b))) (IntOp.cmpi .slt (BitVec.ofNat 32 l) (BitVec.ofNat 32 e))) x y
    = if r = a ∧ b ≤ l ∧ l < e then x else y := by
  show Scalar.select (BitVec.ofBool (BitVec.ofNat 32 r == BitVec.ofNat 32 a) &&&
    BitVec.ofBool (decide ((BitVec.ofNat 32 b).toInt ≤ (BitVec.ofNat 32 l).toInt)) &&&
    BitVec.ofBool (decide ((BitVec.ofNat 32 l).toInt < (BitVec.ofNat 32 e).toInt))) x y = _
  rw [toInt_ofNat _ (by omega), toInt_ofNat _ (by omega), toInt_ofNat _ (by omega)]
  have e1 : (BitVec.ofNat 32 r == BitVec.ofNat 32 a) = decide (r = a) := by
    rw [Bool.eq_iff_iff]
    simp only [beq_iff_eq, decide_eq_true_eq]
    constructor
    · intro h
      have := congrArg BitVec.toNat h
      simp only [BitVec.toNat_ofNat] at this
      omega
    · rintro rfl; rfl
  rw [e1]
  by_cases h1 : r = a <;> by_cases h2 : b ≤ l <;> by_cases h3 : l < e <;>
    simp [h1, h2, h3, Scalar.select]

theorem pv93 (H : Args m c I) : (V m c main_v93 : S16x1024.Idx → EReal) = M2 (arOf I).pv := by
  funext j; idx_vars j
  rename' j0 => r, j1 => l
  unfold V
  after_reads_at
  simp only [id]
  pointwise
  rw [and3_word _ _ 5 64 80 (by omega) (by omega) (by omega) (by omega) (by omega),
    and3_word _ _ 6 80 96 (by omega) (by omega) (by omega) (by omega) (by omega), M2_at]
  show _ = (((if r.val = 5 ∧ 64 ≤ l.val ∧ l.val < 80 then -1 else if r.val = 6 ∧ 80 ≤ l.val ∧ l.val < 96 then 1 else 0) : ℝ) : EReal)
  split
  · exact w_neg_one
  · split <;> rfl

set_option maxHeartbeats 2000000 in
theorem q98 (H : Args m c I) : (V m c main_v98 : S8192x1024.Idx → EReal) = M2 (arOf I).q := by
  have h36 := v36 H
  funext j; idx_vars j
  rename' j0 => s, j1 => l
  revert h36
  unfold V
  after_reads_simp
  simp -implicitDefEqProofs only [StableHlo.TRef.toBuf, StableHlo.TRef.ofBuf, cast_cast, cast_eq]
  clean_types
  intro h36
  simp only [h36]
  pointwise
  rw [log2_word, w_ninety_six, sqrt_real _ (by norm_num), div_real _ _ (by positivity), M2_at]
  simp only [M3_ix]
  show _ = (((if l.val % 128 < 96 then rot I s.val (l.val / 128) (l.val % 128) * (1 / Real.log 2 / Real.sqrt 96) else 0) : ℝ) : EReal)
  split
  · next h1 => rw [if_pos h1.2, ← EReal.coe_mul]
  · next h1 => rw [if_neg (by omega), sitofp_zero, ← EReal.coe_mul, zero_mul]

theorem k101 (H : Args m c I) : (V m c main_v101 : S8192x1024.Idx → EReal) = M2 (arOf I).k := by
  funext j; idx_vars j
  rename' j0 => s, j1 => l
  unfold V
  after_reads_at
  rw [H.k, M2_at]
  simp only [M3_ix]
  show _ = (((if l.val % 128 < 96 then I.k s.val (l.val / 128) (l.val % 128) else 0) : ℝ) : EReal)
  split
  · next h1 => rw [if_pos h1.2]
  · next h1 => rw [if_neg (by omega), sitofp_zero]

theorem v103 (H : Args m c I) : (V m c main_v103 : S8192x512.Idx → EReal) = M2 (arOf I).v := by
  funext j; idx_vars j
  rename' j0 => s, j1 => l
  unfold V
  after_reads_at
  rw [H.v]
  rfl

theorem g105 (H : Args m c I) : (V m c main_v105 : S8192x512.Idx → EReal) = M2 (arOf I).g := by
  funext j; idx_vars j
  rename' j0 => s, j1 => l
  unfold V
  after_reads_at
  rw [H.g]
  rfl

/-- The launch's operands over real numbers. -/
theorem holds (H : Args m c I) : Holds m c (arOf I) where
  q := q98 H
  k := k101 H
  v := v103 H
  g := g105 H
  o := o61 H
  l := l67 H
  cs := cs72 H
  pv := pv93 H

end Cert.KernelIdeal.Hand
-- ==== Proof.Ref.lean ====
/-
  What the reference computes, over real numbers: its rotated queries, its softmax, the scores' gradient and the three results.
-/
module

public import proofs.«01_k».proof.Proof.Host
public import proofs.«01_k».proof.Proof.Gen.ReferenceIdeal.Run

@[expose] public section

set_option maxRecDepth 16384

noncomputable section

namespace Cert.ReferenceIdeal.Hand

open Cert.ReferenceIdeal Cert.ReferenceIdeal.Value Cert.Attn
open Cert.KernelIdeal.Hand (M2 coe_sum coe_dot coe_ite coe_dot_range sle_word isqrt_word sitofp_zero fold_sup)
open Idealize.ShloMosaic Idealize.ShloMosaic.TcCoe
open scoped BigOperators
variable {W : Valuation τ sig (Elt Ideal)} {I : In}

/-- The reference's arguments are the real inputs `I`. -/
structure Args (W : Valuation τ sig (Elt Ideal)) (I : In) : Prop where
  q : (W (Proc.devRef .tc main_arg0) : S8192x8x96.Idx → EReal) = M3 I.q
  k : (W (Proc.devRef .tc main_arg1) : S8192x8x96.Idx → EReal) = M3 I.k
  v : (W (Proc.devRef .tc main_arg2) : S8192x8x64.Idx → EReal) = M3 I.v
  g : (W (Proc.devRef .tc main_arg3) : S8192x8x64.Idx → EReal) = M3 I.g
  th : ∀ (s : Fin 8192) (i : ℕ), I.th s.val i = angle ((W (Proc.devRef .tc main_arg4) : S8192.Idx → BitVec 32) (ix1 s)).toInt i

theorem r12 (H : Args W I) : (res_main_v12 W : S8192x16.Idx → EReal) = M2 I.th := by
  funext j; idx_vars j
  rename' j0 => s, j1 => i
  unfold res_main_v12
  clean_types
  pointwise
  rw [angle_word _ _ i.isLt, ← H.th]
  rfl

theorem r14 (H : Args W I) : (res_main_v14 W : S8192x1x16.Idx → EReal) = M3 (fun s _ i => Real.cos (I.th s i)) := by
  funext j; idx_vars j
  rename' j0 => s, j1 => z, j2 => i
  unfold res_main_v14
  rw [r12 H]
  clean_types
  pointwise
  rfl

theorem r16 (H : Args W I) : (res_main_v16 W : S8192x1x16.Idx → EReal) = M3 (fun s _ i => Real.sin (I.th s i)) := by
  funext j; idx_vars j
  rename' j0 => s, j1 => z, j2 => i
  unfold res_main_v16
  rw [r12 H]
  clean_types
  pointwise
  rfl

theorem r19 (H : Args W I) : (res_main_v19 W : S8192x8x16.Idx → EReal) = M3 (fun s h i => I.q s h (64 + i)) := by
  funext j; idx_vars j
  rename' j0 => s, j1 => h, j2 => i
  unfold res_main_v19 res_main_v18
  rw [H.q]
  clean_types
  pointwise
  rfl

theorem r20 (H : Args W I) : (res_main_v20 W : S8192x8x16.Idx → EReal) = M3 (fun s h i => I.q s h (64 + (16 + i))) := by
  funext j; idx_vars j
  rename' j0 => s, j1 => h, j2 => i
  unfold res_main_v20 res_main_v18
  rw [H.q]
  clean_types
  pointwise
  rfl

theorem r32 (H : Args W I) : (res_main_v32 W : S8192x8x96.Idx → EReal) = M3 (rot I) := by
  funext j; idx_vars j
  rename' j0 => s, j1 => h, j2 => d
  unfold res_main_v32
  rw [r19 H, r20 H, r14 H, r16 H, H.q]
  clean_types
  pointwise
  simp only [M3_ix]
  split
  · next h1 => unfold rot; rw [if_pos h1]
  · next h1 =>
    split
    · next h2 =>
      rw [← EReal.coe_mul, ← EReal.coe_mul, ← EReal.coe_sub]
      unfold rot
      rw [if_neg h1, if_pos (by omega), show 64 + (d.val - 64) = d.val by omega, show 64 + (16 + (d.val - 64)) = d.val + 16 by omega]
    · next h2 =>
      rw [← EReal.coe_mul, ← EReal.coe_mul, ← EReal.coe_add]
      unfold rot
      rw [if_neg h1, if_neg (by omega), show 64 + (d.val - 64 - 16) = d.val - 16 by omega, show 64 + (16 + (d.val - 64 - 16)) = d.val by omega,
        show d.val - 64 - 16 = d.val - 80 by omega]

theorem r45 (H : Args W I) : (res_main_v45_0 W : S8x8192x8192.Idx → EReal) = fun j => msc I (j 0).val (j 1).val (j 2).val := by
  funext j; idx_vars j
  rename' j0 => h, j1 => a, j2 => b
  show _ = msc I h.val a.val b.val
  unfold res_main_v45_0 res_main_v45_1 res_main_v38 res_main_v35
  rw [r32 H, H.k]
  clean_types
  pointwise
  simp only [M3_ix]
  rw [sle_word _ _ b.isLt a.isLt, isqrt_word, coe_dot_range (fun x => rot I a.val h.val x) (fun x => I.k b.val h.val x), ← EReal.coe_mul]
  unfold msc
  split
  · rfl
  · exact w_bot

theorem r46 (H : Args W I) : (res_main_v46 W : S8x8192.Idx → EReal) = M2 (mx I) := by
  funext j; idx_vars j
  rename' j0 => h, j1 => a
  unfold res_main_v46
  rw [r45 H]
  clean_types
  pointwise
  rw [fold_sup]
  exact sup_msc I _ _ a.isLt

theorem r66 (H : Args W I) : (res_main_v66 W : S8x8192x8192.Idx → EReal) = M3 (ex I) := by
  funext j; idx_vars j
  rename' j0 => h, j1 => a, j2 => b
  unfold res_main_v66
  rw [r45 H, r46 H]
  clean_types
  pointwise
  rw [w_bot, max_bot_left]
  exact exp_msc I h.val a.val b.val

theorem r68 (H : Args W I) : (res_main_v68 W : S8x8192x1.Idx → EReal) = M3 (fun h a _ => ls I h a) := by
  funext j; idx_vars j
  rename' j0 => h, j1 => a, j2 => z
  unfold res_main_v68
  rw [r66 H]
  clean_types
  pointwise
  simp only [M3_ix]
  rw [coe_sum]
  unfold ls
  rw [Finset.sum_range]

theorem r70 (H : Args W I) : (res_main_v70 W : S8x8192x8192.Idx → EReal) = M3 (pb I) := by
  funext j; idx_vars j
  rename' j0 => h, j1 => a, j2 => b
  unfold res_main_v70
  rw [r66 H, r68 H]
  clean_types
  pointwise
  simp only [M3_ix]
  rw [div_real _ _ (ls_pos I _ _ a.isLt).ne']
  rfl

theorem r77 (H : Args W I) : (res_main_v77 W : S8x8192x8192.Idx → EReal) = M3 (dp I) := by
  funext j; idx_vars j
  rename' j0 => h, j1 => a, j2 => b
  unfold res_main_v77 res_main_v76
  rw [H.g, H.v]
  clean_types
  pointwise
  simp only [M3_ix]
  rw [coe_dot_range (fun x => I.g a.val h.val x) (fun x => I.v b.val h.val x)]
  rfl

theorem r94 (H : Args W I) : (res_main_v94 W : S8x8192x8192.Idx → EReal) = M3 (fun h a b => dsc I h a b * (1 / Real.sqrt 96)) := by
  funext j; idx_vars j
  rename' j0 => h, j1 => a, j2 => b
  unfold res_main_v94 res_main_v45_1 res_main_v38 res_main_v35
  rw [r77 H, r68 H, r66 H]
  clean_types
  pointwise
  simp only [M3_ix]
  rw [Finset.univ_unique, Finset.sum_singleton, sle_word _ _ b.isLt a.isLt, isqrt_word, div_real _ _ (ls_pos I _ _ a.isLt).ne', ← EReal.coe_mul,
    ← EReal.coe_one, div_real _ _ (mul_pos (ls_pos I _ _ a.isLt) (ls_pos I _ _ a.isLt)).ne']
  simp only [← EReal.coe_mul]
  rw [coe_sum, ← EReal.coe_neg, ← EReal.coe_add, ← EReal.coe_mul, ← EReal.coe_mul, ← EReal.coe_zero, coe_ite]
  refine congrArg _ ?_
  rw [← Finset.sum_range (fun x => dp I h.val a.val x * (1 / (ls I h.val a.val * ls I h.val a.val)) * ex I h.val a.val x)]
  have hl := (ls_pos I h.val a.val a.isLt).ne'
  unfold dsc pb
  split
  · next hb =>
    have e : ∑ x ∈ Finset.range 8192, ex I h.val a.val x / ls I h.val a.val * dp I h.val a.val x
        = (∑ x ∈ Finset.range 8192, dp I h.val a.val x * (1 / (ls I h.val a.val * ls I h.val a.val)) * ex I h.val a.val x) * ls I h.val a.val := by
      rw [Finset.sum_mul]
      refine Finset.sum_congr rfl fun x _ => ?_
      field_simp
    rw [e]
    field_simp
    ring
  · next hb =>
    have e : ex I h.val a.val b.val = 0 := by unfold ex; rw [if_neg hb]
    rw [e]; simp

theorem r98 (H : Args W I) : (res_main_v98 W : S8192x8x96.Idx → EReal) =
    M3 (fun s h d => ∑ b ∈ Finset.range 8192, dsc I h s b * (1 / Real.sqrt 96) * I.k b h d) := by
  funext j; idx_vars j
  rename' j0 => s, j1 => h, j2 => d
  unfold res_main_v98
  rw [r94 H, H.k]
  clean_types
  pointwise
  simp only [M3_ix]
  rw [coe_dot_range (fun x => dsc I h.val s.val x * (1 / Real.sqrt 96)) (fun x => I.k x h.val d.val)]

/-- The reference's gradient of the rotated queries. -/
def dqr (I : In) (s h d : ℕ) : ℝ := ∑ b ∈ Finset.range 8192, dsc I h s b * (1 / Real.sqrt 96) * I.k b h d

/-- The reference's gradient of the queries: the rotation undone. -/
def refQ (I : In) (s l : ℕ) : ℝ :=
  if l % 128 < 64 then dqr I s (l / 128) (l % 128)
  else if l % 128 < 80 then dqr I s (l / 128) (l % 128 + 16) * Real.sin (I.th s (l % 128 - 64)) + dqr I s (l / 128) (l % 128) * Real.cos (I.th s (l % 128 - 64))
  else if l % 128 < 96 then dqr I s (l / 128) (l % 128) * Real.cos (I.th s (l % 128 - 80)) - dqr I s (l / 128) (l % 128 - 16) * Real.sin (I.th s (l % 128 - 80))
  else 0

/-- The reference's gradient of the keys. -/
def refK (I : In) (x l : ℕ) : ℝ :=
  if l % 128 < 96 then ∑ s ∈ Finset.range 8192, dsc I (l / 128) s x * (1 / Real.sqrt 96) * rot I s (l / 128) (l % 128) else 0

/-- The reference's gradient of the values. -/
def refV (I : In) (x l : ℕ) : ℝ := ∑ s ∈ Finset.range 8192, I.g s (l / 64) (l % 64) * pb I (l / 64) s x

theorem r101 (H : Args W I) : (res_main_v101 W : S8192x8x16.Idx → EReal) = M3 (fun s h i => dqr I s h (64 + i)) := by
  funext j; idx_vars j
  rename' j0 => s, j1 => h, j2 => i
  unfold res_main_v101 res_main_v100
  rw [r98 H]
  clean_types
  pointwise
  rfl

theorem r102 (H : Args W I) : (res_main_v102 W : S8192x8x16.Idx → EReal) = M3 (fun s h i => dqr I s h (64 + (16 + i))) := by
  funext j; idx_vars j
  rename' j0 => s, j1 => h, j2 => i
  unfold res_main_v102 res_main_v100
  rw [r98 H]
  clean_types
  pointwise
  rfl

theorem resV (H : Args W I) : (val3 W (Proc.devRef .tc main_v127) : S8192x512.Idx → EReal) = M2 (refV I) := by
  funext j; idx_vars j
  rename' j0 => x, j1 => l
  rw [val3_main_v127]
  unfold res_main_v76
  rw [r70 H, H.g]
  clean_types
  pointwise
  simp only [M3_ix]
  rw [coe_dot_range (fun s => I.g s (l.val / 64) (l.val % 64)) (fun s => pb I (l.val / 64) s x.val)]
  rfl

theorem resK (H : Args W I) : (val3 W (Proc.devRef .tc main_v125) : S8192x1024.Idx → EReal) = M2 (refK I) := by
  funext j; idx_vars j
  rename' j0 => x, j1 => l
  rw [val3_main_v125, r94 H, r32 H]
  clean_types
  pointwise
  simp only [M3_ix]
  rw [M2_ix, sitofp_zero]
  unfold refK
  split
  · next h1 =>
    rw [if_pos h1.2, coe_dot_range (fun s => dsc I (l.val / 128) s x.val * (1 / Real.sqrt 96)) (fun s => rot I s (l.val / 128) (l.val % 128))]
  · next h1 => rw [if_neg (by omega)]

theorem resQ (H : Args W I) : (val3 W (Proc.devRef .tc main_v124) : S8192x1024.Idx → EReal) = M2 (refQ I) := by
  funext j; idx_vars j
  rename' j0 => s, j1 => l
  rw [val3_main_v124, r98 H, r101 H, r102 H, r14 H, r16 H]
  clean_types
  pointwise
  simp only [M3_ix]
  rw [M2_ix, sitofp_zero]
  unfold refQ
  have h8 : l.val / 128 < 8 := by omega
  by_cases c1 : l.val % 128 < 64
  · rw [if_pos c1, dif_pos ⟨h8, by omega⟩, dif_neg (by omega), dif_pos ⟨h8, c1⟩, zero_add]
    rfl
  rw [if_neg c1]
  by_cases c2 : l.val % 128 < 80
  · rw [if_pos c2, dif_pos ⟨h8, by omega⟩, dif_pos ⟨h8, by omega, by omega⟩, dif_neg (by omega), dif_pos ⟨h8, by omega⟩, dif_neg (by omega),
      zero_add, add_zero, ← EReal.coe_mul, ← EReal.coe_mul, ← EReal.coe_add, show 64 + (16 + (l.val % 128 - 64)) = l.val % 128 + 16 by omega,
      show 64 + (l.val % 128 - 64) = l.val % 128 by omega]
  rw [if_neg c2]
  by_cases c3 : l.val % 128 < 96
  · rw [if_pos c3, dif_pos ⟨h8, by omega⟩, dif_pos ⟨h8, by omega, by omega⟩, dif_pos ⟨h8, by omega, by omega⟩, dif_neg (by omega), dif_neg (by omega),
      add_zero, add_zero, ← EReal.coe_neg, ← EReal.coe_mul, ← EReal.coe_mul, ← EReal.coe_add,
      show 64 + (16 + (l.val % 128 - 64 - 16)) = l.val % 128 by omega,
      show 64 + (l.val % 128 - 64 - 16) = l.val % 128 - 16 by omega, show l.val % 128 - 64 - 16 = l.val % 128 - 80 by omega]
    refine congrArg _ ?_
    ring
  rw [if_neg c3, dif_neg (by omega)]

end Cert.ReferenceIdeal.Hand
-- ==== Proof.Real.lean ====
/-
  The kernel's three arrays are the reference's, over real numbers: the powers of two are the softmax, the row sums the
  softmax's own, the blocks together every query, and the rotation undone.
-/
module

public import proofs.«01_k».proof.Proof.Ref

@[expose] public section

set_option maxRecDepth 16384

noncomputable section

namespace Cert.KernelIdeal.Hand

open Cert.KernelIdeal Cert.KernelIdeal.Gen Cert.Attn Cert.ReferenceIdeal.Hand
open Idealize.ShloMosaic
open scoped BigOperators
variable (I : In)

theorem two_pow (a : ℝ) : (2 : ℝ) ^ (a * (1 / Real.log 2)) = Real.exp a := by
  have h2 : Real.log 2 ≠ 0 := (Real.log_pos (by norm_num)).ne'
  rw [Real.rpow_def_of_pos (by norm_num)]
  congr 1
  field_simp

/-- A sum over the lanes of a sum that ends sooner. -/
theorem sum_cut (n m : ℕ) (h : m ≤ n) (f g : ℕ → ℝ) (h1 : ∀ l < m, f l = g l) (h0 : ∀ l < n, m ≤ l → f l = 0) :
    ∑ l ∈ Finset.range n, f l = ∑ l ∈ Finset.range m, g l := by
  obtain ⟨k, rfl⟩ := Nat.exists_eq_add_of_le h
  rw [Finset.sum_range_add, Finset.sum_congr rfl (fun l hl => h1 l (Finset.mem_range.1 hl)),
    Finset.sum_eq_zero (s := Finset.range k) (fun l hl => h0 _ (by have := Finset.mem_range.1 hl; omega) (by omega)), add_zero]

/-- A sum over blocks. -/
theorem sum_blocks (n m : ℕ) (f : ℕ → ℝ) : ∑ i ∈ Finset.range n, ∑ r ∈ Finset.range m, f (m * i + r) = ∑ s ∈ Finset.range (m * n), f s := by
  induction n with
  | zero => simp
  | succ n ih => rw [Finset.sum_range_succ, ih, Nat.mul_succ, Finset.sum_range_add]

theorem k_at (x h l L : ℕ) (e : L = 128 * h + l) (hl : l < 128) : (arOf I).k x L = if l < 96 then I.k x h l else 0 := by
  show (if L % 128 < 96 then I.k x (L / 128) (L % 128) else 0) = _
  rw [show L % 128 = l by omega, show L / 128 = h by omega]

theorem q_at (s h l L : ℕ) (e : L = 128 * h + l) (hl : l < 128) :
    (arOf I).q s L = if l < 96 then rot I s h l * (1 / Real.log 2 / Real.sqrt 96) else 0 := by
  show (if L % 128 < 96 then rot I s (L / 128) (L % 128) * (1 / Real.log 2 / Real.sqrt 96) else 0) = _
  rw [show L % 128 = l by omega, show L / 128 = h by omega]

theorem v_at (x h d L : ℕ) (e : L = 64 * h + d) (hd : d < 64) : (arOf I).v x L = I.v x h d := by
  show I.v x (L / 64) (L % 64) = _
  rw [show L % 64 = d by omega, show L / 64 = h by omega]

theorem g_at (x h d L : ℕ) (e : L = 64 * h + d) (hd : d < 64) : (arOf I).g x L = I.g x h d := by
  show I.g x (L / 64) (L % 64) = _
  rw [show L % 64 = d by omega, show L / 64 = h by omega]

theorem o_at (x h d L : ℕ) (e : L = 64 * h + d) (hd : d < 64) : (arOf I).o x L = out I h x d := by
  show out I (L / 64) x (L % 64) = _
  rw [show L % 64 = d by omega, show L / 64 = h by omega]

/-- The probabilities are the softmax. -/
theorem gp_eq (h T r x : ℕ) (hs : T + r < 8192) (K Q : ℕ → ℕ → ℝ) (L : ℕ → ℝ)
    (hK : ∀ l < 128, K x l = if l < 96 then I.k x h l else 0)
    (hQ : ∀ l < 128, Q r l = if l < 96 then rot I (T + r) h l * (1 / Real.log 2 / Real.sqrt 96) else 0)
    (hL : L r = (mx I h (T + r) + Real.log (ls I h (T + r))) * (1 / Real.log 2)) :
    gp T K Q L x r = pb I h (T + r) x := by
  unfold gp pb ex
  have hl := ls_pos I h (T + r) hs
  split
  · have e : ∑ l ∈ Finset.range 128, K x l * Q r l = sc I h (T + r) x * (1 / Real.log 2) := by
      rw [sum_cut 128 96 (by omega) _ (fun l => rot I (T + r) h l * I.k x h l * (1 / Real.sqrt 96) * (1 / Real.log 2))]
      · unfold sc
        rw [Finset.sum_mul, Finset.sum_mul]
      · intro l h1
        rw [hK l (by omega), hQ l (by omega), if_pos h1, if_pos h1]
        ring
      · intro l h1 h2
        rw [hK l h1, if_neg (by omega), zero_mul]
    rw [e, hL, ← sub_mul, two_pow, ← sub_sub, Real.exp_sub _ (Real.log _), Real.exp_log hl]
  · rw [zero_div]

/-- A head's own sum: the output against its gradient. -/
theorem own_eq (h s : ℕ) : ∑ l ∈ Finset.range 64, I.g s h l * out I h s l = ∑ b ∈ Finset.range 8192, pb I h s b * dp I h s b := by
  unfold out dp
  simp only [Finset.mul_sum]
  rw [Finset.sum_comm]
  refine Finset.sum_congr rfl fun b _ => Finset.sum_congr rfl fun d _ => ?_
  ring

section at_block
variable (p i r x : ℕ) (hs : 512 * i + r < 8192)
include hs

theorem P0_eq : P0 (512 * i) ((arOf I).at p i).row x r = pb I (p * 2) (512 * i + r) x := by
  refine gp_eq I (p * 2) (512 * i) r x hs _ _ _ (fun l hl => k_at I x _ l _ ?_ hl) (fun l hl => q_at I _ _ l _ ?_ hl) ?_
  · omega
  · omega
  · show (mx I (p * 2 + 0) (i * 512 + r) + Real.log (ls I (p * 2 + 0) (i * 512 + r))) * _ = _
    rw [Nat.mul_comm i 512, Nat.add_zero]

theorem P1_eq : P1 (512 * i) ((arOf I).at p i).row x r = pb I (p * 2 + 1) (512 * i + r) x := by
  refine gp_eq I (p * 2 + 1) (512 * i) r x hs _ _ _ (fun l hl => k_at I x _ l _ ?_ hl) (fun l hl => q_at I _ _ l _ ?_ hl) ?_
  · omega
  · omega
  · show (mx I (p * 2 + 1) (i * 512 + r) + Real.log (ls I (p * 2 + 1) (i * 512 + r))) * _ = _
    rw [Nat.mul_comm i 512]

theorem D0_eq : D0 (512 * i) ((arOf I).at p i).row x r = dsc I (p * 2) (512 * i + r) x := by
  unfold D0 ds dsc
  rw [P0_eq I p i r x hs]
  congr 2
  · rw [sum_cut 128 64 (by omega) _ (fun l => I.g (512 * i + r) (p * 2) l * I.v x (p * 2) l)]
    · rfl
    · intro l hl
      show (arOf I).v x (128 * p + l) * (if l < 64 then (arOf I).g (512 * i + r) (128 * p + l) else 0) = _
      rw [if_pos hl, v_at I x (p * 2) l _ (by omega) hl, g_at I _ (p * 2) l _ (by omega) hl, mul_comm]
    · intro l h1 h2
      show (arOf I).v x (128 * p + l) * (if l < 64 then (arOf I).g (512 * i + r) (128 * p + l) else 0) = _
      rw [if_neg (by omega), mul_zero]
  · refine Eq.trans ?_ (own_eq I _ _)
    show (∑ l ∈ Finset.range 64, (arOf I).g (512 * i + r) (128 * p + l) * (arOf I).o (512 * i + r) (128 * p + l)) = _
    refine Finset.sum_congr rfl fun l hl => ?_
    have hl := Finset.mem_range.1 hl
    show (arOf I).g (512 * i + r) (128 * p + l) * (arOf I).o (512 * i + r) (128 * p + l) = _
    rw [g_at I _ (p * 2) l _ (by omega) hl, o_at I _ (p * 2) l _ (by omega) hl]

theorem D1_eq : D1 (512 * i) ((arOf I).at p i).row x r = dsc I (p * 2 + 1) (512 * i + r) x := by
  unfold D1 ds dsc
  rw [P1_eq I p i r x hs]
  congr 2
  · rw [show 128 = 64 + 64 from rfl, Finset.sum_range_add, Finset.sum_eq_zero, zero_add]
    · unfold dp
      refine Finset.sum_congr rfl fun l hl => ?_
      have hl := Finset.mem_range.1 hl
      show (arOf I).v x (128 * p + (64 + l)) * (if 64 + l < 64 then 0 else (arOf I).g (512 * i + r) (128 * p + (64 + l))) = _
      rw [if_neg (by omega), v_at I x (p * 2 + 1) l _ (by omega) hl, g_at I _ (p * 2 + 1) l _ (by omega) hl, mul_comm]
    · intro l hl
      have hl := Finset.mem_range.1 hl
      show (arOf I).v x (128 * p + l) * (if l < 64 then 0 else (arOf I).g (512 * i + r) (128 * p + l)) = _
      rw [if_pos hl, mul_zero]
  · refine Eq.trans ?_ (own_eq I _ _)
    show (∑ l ∈ Finset.range 64, (arOf I).g (512 * i + r) (128 * p + (64 + l)) * (arOf I).o (512 * i + r) (128 * p + (64 + l))) = _
    refine Finset.sum_congr rfl fun l hl => ?_
    have hl := Finset.mem_range.1 hl
    show (arOf I).g (512 * i + r) (128 * p + (64 + l)) * (arOf I).o (512 * i + r) (128 * p + (64 + l)) = _
    rw [g_at I _ (p * 2 + 1) l _ (by omega) hl, o_at I _ (p * 2 + 1) l _ (by omega) hl]

end at_block

/-- The value gradient. -/
theorem outV_eq (x l : ℕ) (hl : l < 512) : outV (arOf I) x l = refV I x l := by
  unfold outV vSum refV
  have e (h d : ℕ) (f : ℕ → ℕ → ℝ)
      (hf : ∀ i < 16, ∀ r < 512, f i r = I.g (512 * i + r) h d * pb I h (512 * i + r) x) :
      ∑ i ∈ Finset.range 16, ∑ r ∈ Finset.range 512, f i r = ∑ s ∈ Finset.range 8192, I.g s h d * pb I h s x := by
    rw [show 8192 = 512 * 16 from rfl, ← sum_blocks 16 512 (fun s => I.g s h d * pb I h s x)]
    exact Finset.sum_congr rfl fun i hi => Finset.sum_congr rfl fun r hr => hf i (Finset.mem_range.1 hi) r (Finset.mem_range.1 hr)
  unfold cdv
  by_cases c : l % 128 < 64
  · simp only [if_pos c]
    rw [e (l / 64) (l % 64)]
    intro i hi r hr
    rw [P0_eq I _ i r x (by omega), mul_comm, show l / 128 * 2 = l / 64 by omega]
    congr 1
    exact g_at I _ _ _ _ (by omega) (by omega)
  · simp only [if_neg c]
    rw [e (l / 64) (l % 64)]
    intro i hi r hr
    rw [P1_eq I _ i r x (by omega), mul_comm, show l / 128 * 2 + 1 = l / 64 by omega]
    congr 1
    exact g_at I _ _ _ _ (by omega) (by omega)

/-- The key gradient. -/
theorem outK_eq (x l : ℕ) (hl : l < 1024) : outK (arOf I) x l = refK I x l := by
  have h2 : Real.log 2 ≠ 0 := (Real.log_pos (by norm_num)).ne'
  have h9 : Real.sqrt 96 ≠ 0 := by positivity
  unfold outK kSum refK
  have e (h d : ℕ) (hd : d < 128) (f : ℕ → ℕ → ℝ)
      (hf : ∀ i < 16, ∀ r < 512, f i r = dsc I h (512 * i + r) x * (if d < 96 then rot I (512 * i + r) h d * (1 / Real.log 2 / Real.sqrt 96) else 0)) :
      (∑ i ∈ Finset.range 16, ∑ r ∈ Finset.range 512, f i r) * Real.log 2
        = if d < 96 then ∑ s ∈ Finset.range 8192, dsc I h s x * (1 / Real.sqrt 96) * rot I s h d else 0 := by
    rw [show 8192 = 512 * 16 from rfl, ← sum_blocks 16 512 (fun s => dsc I h s x * (1 / Real.sqrt 96) * rot I s h d), Finset.sum_mul]
    split
    · next hd =>
      refine Finset.sum_congr rfl fun i hi => ?_
      rw [Finset.sum_mul]
      refine Finset.sum_congr rfl fun r hr => ?_
      rw [hf i (Finset.mem_range.1 hi) r (Finset.mem_range.1 hr), if_pos hd]
      field_simp
    · next hd =>
      refine Finset.sum_eq_zero fun i hi => ?_
      rw [Finset.sum_eq_zero, zero_mul]
      intro r hr
      rw [hf i (Finset.mem_range.1 hi) r (Finset.mem_range.1 hr), if_neg hd, mul_zero]
  unfold cdk
  by_cases c : l % 256 < 128
  · simp only [if_pos c]
    rw [e (l / 128) (l % 128) (by omega)]
    intro i hi r hr
    rw [D0_eq I _ i r x (by omega), show l / 256 * 2 = l / 128 by omega]
    congr 1
    exact q_at I _ _ _ _ (by omega) (by omega)
  · simp only [if_neg c]
    rw [e (l / 128) (l % 128) (by omega)]
    intro i hi r hr
    rw [D1_eq I _ i r x (by omega), show l / 256 * 2 + 1 = l / 128 by omega]
    congr 1
    exact q_at I _ _ _ _ (by omega) (by omega)

/-- The scores' gradient vanishes past the query. -/
theorem dsc_past (h s x : ℕ) (hx : s < x) : dsc I h s x = 0 := by
  unfold dsc pb ex
  rw [if_neg (by omega), zero_div, zero_mul]

/-- A row of the gradient of the rotated queries, before its scale. -/
theorem qsum_eq (h s n : ℕ) (hn : s < n) (hm : n ≤ 8192) (l : ℕ) (f : ℕ → ℝ)
    (hf : ∀ x, f x = dsc I h s x * (if l < 96 then I.k x h l else 0)) :
    (∑ x ∈ Finset.range n, f x) * (Real.sqrt 96)⁻¹ = if l < 96 then dqr I s h l else 0 := by
  split
  · next hl =>
    unfold dqr
    rw [sum_cut 8192 n hm _ (fun x => dsc I h s x * (1 / Real.sqrt 96) * I.k x h l) (fun _ _ => rfl), Finset.sum_mul]
    · refine Finset.sum_congr rfl fun x _ => ?_
      rw [hf, if_pos hl]
      ring
    · intro x _ hx
      rw [dsc_past I h s x (by omega), zero_mul, zero_mul]
  · next hl =>
    rw [Finset.sum_eq_zero, zero_mul]
    intro x _
    rw [hf, if_neg hl, mul_zero]

/-- The rotation undone, lane by lane. -/
theorem unrot_eq (h s r l : ℕ) (hl : l < 128) (A c t : ℕ → ℕ → ℝ)
    (hA : ∀ l < 128, A r l * (Real.sqrt 96)⁻¹ = if l < 96 then dqr I s h l else 0)
    (hc : ∀ l, c r l = (arOf I).cs s l) (ht : ∀ l, t r l = (arOf I).cs s (128 + l)) :
    unrot A c t ((arOf I).pv 5) ((arOf I).pv 6) r l
      = if l < 64 then dqr I s h l
        else if l < 80 then dqr I s h (l + 16) * Real.sin (I.th s (l - 64)) + dqr I s h l * Real.cos (I.th s (l - 64))
        else if l < 96 then dqr I s h l * Real.cos (I.th s (l - 80)) - dqr I s h (l - 16) * Real.sin (I.th s (l - 80))
        else 0 := by
  unfold unrot
  rw [hA l hl, hA _ (Nat.mod_lt _ (by omega)), hA _ (Nat.mod_lt _ (by omega)), hc, ht, ht]
  have p5 (z : ℕ) : (arOf I).pv 5 z = if 64 ≤ z ∧ z < 80 then -1 else 0 := by
    show (if 5 = 5 ∧ 64 ≤ z ∧ z < 80 then (-1 : ℝ) else if 5 = 6 ∧ 80 ≤ z ∧ z < 96 then 1 else 0) = _
    simp
  have p6 (z : ℕ) : (arOf I).pv 6 z = if 80 ≤ z ∧ z < 96 then 1 else 0 := by
    show (if 6 = 5 ∧ 64 ≤ z ∧ z < 80 then (-1 : ℝ) else if 6 = 6 ∧ 80 ≤ z ∧ z < 96 then 1 else 0) = _
    simp
  have hcs (z : ℕ) : (arOf I).cs s z =
      if z < 64 then 1 else if z < 80 then Real.cos (I.th s (z - 64)) else if z < 96 then Real.cos (I.th s (z - 80)) else if z < 128 then 1
      else if z < 192 then 0 else if z < 208 then Real.sin (I.th s (z - 192)) else if z < 224 then Real.sin (I.th s (z - 208)) else 0 := rfl
  rw [p5, p6]
  by_cases c1 : l < 64
  · rw [if_pos c1, if_neg (by omega : ¬ (64 ≤ (l + 128 - 16) % 128 ∧ (l + 128 - 16) % 128 < 80)),
      if_neg (by omega : ¬ (80 ≤ (l + 128 - 112) % 128 ∧ (l + 128 - 112) % 128 < 96)), hcs l, if_pos c1, if_pos (by omega : l < 96)]
    ring
  rw [if_neg c1]
  by_cases c2 : l < 80
  · rw [if_pos c2, if_neg (by omega : ¬ (64 ≤ (l + 128 - 16) % 128 ∧ (l + 128 - 16) % 128 < 80)),
      if_pos (by omega : (80 ≤ (l + 128 - 112) % 128 ∧ (l + 128 - 112) % 128 < 96)), show (l + 128 - 112) % 128 = l + 16 by omega, mul_zero, mul_zero, add_zero,
      hcs l, if_neg c1, if_pos c2, if_pos (by omega : l < 96), if_pos (by omega : l + 16 < 96), hcs (128 + (l + 16))]
    rw [if_neg (by omega), if_neg (by omega), if_neg (by omega), if_neg (by omega), if_neg (by omega), if_neg (by omega), if_pos (by omega),
      show 128 + (l + 16) - 208 = l - 64 by omega]
    ring
  rw [if_neg c2]
  by_cases c3 : l < 96
  · rw [if_pos c3, if_pos (by omega : (64 ≤ (l + 128 - 16) % 128 ∧ (l + 128 - 16) % 128 < 80)),
      if_neg (by omega : ¬ (80 ≤ (l + 128 - 112) % 128 ∧ (l + 128 - 112) % 128 < 96)), show (l + 128 - 16) % 128 = l - 16 by omega,
      hcs l, if_neg c1, if_neg c2, if_pos c3, if_pos (by omega : l - 16 < 96), hcs (128 + (l - 16))]
    rw [if_neg (by omega), if_neg (by omega), if_neg (by omega), if_neg (by omega), if_neg (by omega), if_pos (by omega),
      show 128 + (l - 16) - 192 = l - 80 by omega]
    simp only [if_pos c3]
    ring
  rw [if_neg c3, if_neg c3, if_neg (by omega : ¬ (64 ≤ (l + 128 - 16) % 128 ∧ (l + 128 - 16) % 128 < 80)),
    if_neg (by omega : ¬ (80 ≤ (l + 128 - 112) % 128 ∧ (l + 128 - 112) % 128 < 96))]
  ring

/-- The query gradient. -/
theorem outQ_eq (s l : ℕ) (hs : s < 8192) (hl : l < 1024) : outQ (arOf I) s l = refQ I s l := by
  unfold outQ dqR
  have es : 512 * (s / 512) + s % 512 = s := by omega
  by_cases c : l % 256 < 128
  · rw [if_pos c]
    refine (unrot_eq I (l / 128) s (s % 512) (l % 256) c _ _ _ (fun z hz => ?_) (fun z => ?_) (fun z => ?_)).trans ?_
    · refine qsum_eq I (l / 128) s _ (by omega) (by omega) z _ (fun x => ?_)
      rw [D0_eq I _ _ _ x (by omega), es, k_at I x (l / 128) z _ (by omega) hz, show l / 256 * 2 = l / 128 by omega]
    · exact congrArg (fun y => (arOf I).cs y z) es
    · exact congrArg (fun y => (arOf I).cs y (128 + z)) es
    · rw [show l % 256 = l % 128 by omega]
      rfl
  · rw [if_neg c]
    refine (unrot_eq I (l / 128) s (s % 512) (l % 256 - 128) (by omega) _ _ _ (fun z hz => ?_) (fun z => ?_) (fun z => ?_)).trans ?_
    · refine qsum_eq I (l / 128) s _ (by omega) (by omega) z _ (fun x => ?_)
      rw [D1_eq I _ _ _ x (by omega), es, k_at I x (l / 128) z _ (by omega) hz, show l / 256 * 2 + 1 = l / 128 by omega]
    · exact congrArg (fun y => (arOf I).cs y z) es
    · exact congrArg (fun y => (arOf I).cs y (128 + z)) es
    · rw [show l % 256 - 128 = l % 128 by omega]
      rfl

end Cert.KernelIdeal.Hand
-- ==== Proof.Finite.lean ====
/-
  The precondition, read: every element of the four float arguments is a real number, so the two programs' arguments are
  one family of real inputs.
-/
module

public import proofs.«01_k».proof.Defs
public import proofs.«01_k».proof.Proof.Real
public import Idealize.ShloMosaic.Lib.ReduceAll

@[expose] public section

set_option maxRecDepth 16384

noncomputable section

namespace Cert.Pre_finite

open Idealize.ShloMosaic

/-- The predicate's side conditions. -/
instance facts : Cert.Pre_finite.Facts where
  bcast_S_S8192x8x96 := by decide
  reducesTo_S8192x8x96_S_d0_1_2 := by decide
  h_S_ := by decide
  bcast_S_S8192x8x64 := by decide
  reducesTo_S8192x8x64_S_d0_1_2 := by decide

instance : Subsingleton S_.Idx := ⟨fun a b => funext fun i => absurd i.isLt (by simp)⟩

theorem real_of_word (x : EReal) (h : FloatOps.cmpf (F := Ideal) (φ := .f32) .olt (FloatOps.absf (F := Ideal) (φ := .f32) x) (Ideal.ofBits .f32 0x7F800000#32) = 1#1) :
    ((x.toReal : ℝ) : EReal) = x := by
  have e : Ideal.ofBits .f32 0x7F800000#32 = (⊤ : EReal) := by simp [Ideal.ofBits, Ideal.ieee]
  rw [e] at h
  have h' : max x (-x) < ⊤ := by
    have : BitVec.ofBool (decide (max x (-x) < ⊤)) = 1#1 := h
    by_contra hn
    rw [decide_eq_false hn] at this
    exact absurd this (by decide)
  refine EReal.coe_toReal ?_ ?_
  · rintro rfl; simp at h'
  · rintro rfl; simp at h'

theorem real_args (q k : FVec Ideal S8192x8x96 .f32) (v g : FVec Ideal S8192x8x64 .f32) (p : IVec S8192 32)
    (h : fn (F := Ideal) q k v g p = fun _ => 1#1) :
    (∀ j, (((q j).toReal : ℝ) : EReal) = q j) ∧ (∀ j, (((k j).toReal : ℝ) : EReal) = k j)
    ∧ (∀ j, (((v j).toReal : ℝ) : EReal) = v j) ∧ (∀ j, (((g j).toReal : ℝ) : EReal) = g j) := by
  have h0 := congrFun h (Shape.Idx.first (by decide))
  dsimp only [fn, fn_part1] at h0
  obtain ⟨h1, hg⟩ := IntOp.andi_eq_one.1 h0
  obtain ⟨h2, hv⟩ := IntOp.andi_eq_one.1 h1
  obtain ⟨hq, hk⟩ := IntOp.andi_eq_one.1 h2
  exact ⟨fun j => real_of_word _ (Host.reduce_andi_all _ _ _ _ _ hq j), fun j => real_of_word _ (Host.reduce_andi_all _ _ _ _ _ hk j),
    fun j => real_of_word _ (Host.reduce_andi_all _ _ _ _ _ hv j), fun j => real_of_word _ (Host.reduce_andi_all _ _ _ _ _ hg j)⟩

end Cert.Pre_finite

namespace Cert.Attn

open Idealize.ShloMosaic

/-- An array of rank three of real numbers, as a function of three naturals. -/
def arr3 {a b c : ℕ} (x : (⟨3, ![a, b, c]⟩ : Shape).Idx → EReal) (i j l : ℕ) : ℝ :=
  if h : i < a ∧ j < b ∧ l < c then (x (ix3 ⟨i, h.1⟩ ⟨j, h.2.1⟩ ⟨l, h.2.2⟩)).toReal else 0

theorem arr3_eq {a b c : ℕ} (x : (⟨3, ![a, b, c]⟩ : Shape).Idx → EReal) (hx : ∀ j, (((x j).toReal : ℝ) : EReal) = x j) :
    x = M3 (arr3 x) := by
  funext j
  have e : (ix3 (⟨(j 0).val, (j 0).isLt⟩ : Fin a) (⟨(j 1).val, (j 1).isLt⟩ : Fin b) (⟨(j 2).val, (j 2).isLt⟩ : Fin c)) = j := by
    funext i
    match i with
    | ⟨0, _⟩ => rfl
    | ⟨1, _⟩ => rfl
    | ⟨2, _⟩ => rfl
  show x j = ((arr3 x (j 0).val (j 1).val (j 2).val : ℝ) : EReal)
  unfold arr3
  rw [dif_pos ⟨(j 0).isLt, (j 1).isLt, (j 2).isLt⟩, e]
  exact (hx j).symm

/-- The real inputs of five arguments. -/
def inOf (q k : (⟨3, ![8192, 8, 96]⟩ : Shape).Idx → EReal) (v g : (⟨3, ![8192, 8, 64]⟩ : Shape).Idx → EReal)
    (p : (⟨1, ![8192]⟩ : Shape).Idx → BitVec 32) : In where
  q := arr3 q
  k := arr3 k
  v := arr3 v
  g := arr3 g
  th s i := if h : s < 8192 then angle (p (ix1 ⟨s, h⟩)).toInt i else 0

end Cert.Attn
-- ==== Proof.Value.lean ====
/-
  The value claim: the ideal kernel and the reference, run from memories that agree on finite arguments, leave the same
  three arrays.
-/
module

public import proofs.«01_k».proof.Proof.Finite
public import proofs.«01_k».proof.Proof.Frames

@[expose] public section

set_option maxRecDepth 16384

noncomputable section

namespace Cert.Proof

open Idealize.ShloMosaic Idealize.ShloMosaic.TcCoe Idealize.SL.Sem
open Cert.Attn
open Cert.KernelIdeal.Hand (M2)
open Idealize.ShloMosaic.StableHlo (launchContents)

section Kernel

open Cert.KernelIdeal Cert.KernelIdeal.Gen Cert.KernelIdeal.Hand

variable (m : (ℓ : Loc nD τ sig) → Buf (Elt Ideal) ℓ)

/-- The real inputs that the arguments on core `c` hold. -/
def inputs (c : Dev nD) : In :=
  inOf (m (c, Proc.tc.devRef main_arg0)) (m (c, Proc.tc.devRef main_arg1)) (m (c, Proc.tc.devRef main_arg2))
    (m (c, Proc.tc.devRef main_arg3)) (m (c, Proc.tc.devRef main_arg4))

theorem kernel_args (h : Cert.Pre_KernelIdeal_finite m) (c : Dev nD) : Cert.KernelIdeal.Hand.Args m c (inputs m c) := by
  obtain ⟨hq, hk, hv, hg⟩ := Cert.Pre_finite.real_args _ _ _ _ _ (h c)
  exact ⟨arr3_eq _ hq, arr3_eq _ hk, arr3_eq _ hv, arr3_eq _ hg, fun s i => dif_pos s.isLt⟩

/-- The kernel's run: its three results are the reference's arrays of the real inputs. -/
theorem kernel_results {I : Dev nD → In} (H : ∀ c, Cert.KernelIdeal.Hand.Args m c (I c)) (ρ : Dev nD → PrngReg) :
    θ_run (defs (F := Ideal)) (onTc (τ := τ) (main (F := Ideal))) ⟨m, fun _ => 0, ρ⟩ (fun r => ∀ c : Dev nD,
      (r.2.mem ((c.tc : Thread nD τ).loc main_v106_0) : S8192x1024.Idx → EReal) = M2 (Cert.ReferenceIdeal.Hand.refQ (I c))
      ∧ (r.2.mem ((c.tc : Thread nD τ).loc main_v106_1) : S8192x1024.Idx → EReal) = M2 (Cert.ReferenceIdeal.Hand.refK (I c))
      ∧ (r.2.mem ((c.tc : Thread nD τ).loc main_v106_2) : S8192x512.Idx → EReal) = M2 (Cert.ReferenceIdeal.Hand.refV (I c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run _ _ _).mono (fun r h c => ⟨
      (h.1.out_eq c 8).trans ((final_8 (holds (H c))).trans (M2_congr fun s hs l hl => outQ_eq (I c) s l hs hl)),
      (h.1.out_eq c 9).trans ((final_9 (holds (H c))).trans (M2_congr fun x _ l hl => outK_eq (I c) x l hl)),
      (h.1.out_eq c 10).trans ((final_10 (holds (H c))).trans (M2_congr fun x _ l hl => outV_eq (I c) x l hl)),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩)
    (run_main m ρ)

end Kernel

section Reference

open Cert.ReferenceIdeal Cert.ReferenceIdeal.Value

variable (m : (ℓ : Loc nD τ sig) → Buf (Elt Ideal) ℓ)

/-- The reference's run, its results as arrays of the real inputs. -/
theorem reference_results {I : Dev nD → In} (H : ∀ c, Cert.ReferenceIdeal.Hand.Args (launchContents m c) (I c))
    (ρ : Dev nD → PrngReg) :
    θ_run (defs (F := Ideal)) (onTc (τ := τ) (main (F := Ideal))) ⟨m, fun _ => 0, ρ⟩ (fun r => ∀ c : Dev nD,
      (r.2.mem ((c.tc : Thread nD τ).loc main_v124) : S8192x1024.Idx → EReal) = M2 (Cert.ReferenceIdeal.Hand.refQ (I c))
      ∧ (r.2.mem ((c.tc : Thread nD τ).loc main_v125) : S8192x1024.Idx → EReal) = M2 (Cert.ReferenceIdeal.Hand.refK (I c))
      ∧ (r.2.mem ((c.tc : Thread nD τ).loc main_v127) : S8192x512.Idx → EReal) = M2 (Cert.ReferenceIdeal.Hand.refV (I c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run _ _ _).mono (fun r h c => ⟨
      (h c).1.trans ((val3_main_v124 _).symm.trans (Cert.ReferenceIdeal.Hand.resQ (H c))),
      (h c).2.1.trans ((val3_main_v125 _).symm.trans (Cert.ReferenceIdeal.Hand.resK (H c))),
      (h c).2.2.1.trans ((val3_main_v127 _).symm.trans (Cert.ReferenceIdeal.Hand.resV (H c))),
      (h c).2.2.2⟩)
    (run (F := Ideal) m ρ)

end Reference

/-- The kernel's three gradients are the reference's. -/
theorem same_results : Cert.algebraic_KernelIdeal_ReferenceIdeal_pre_finite := fun m g m' g' hpre hagree => by
  have H := kernel_args m hpre
  have H' : ∀ c, Cert.ReferenceIdeal.Hand.Args (launchContents m' c) (inputs m c) := fun c => by
    obtain ⟨e0, e1, e2, e3, e4⟩ := hagree c
    exact ⟨e0.trans (H c).q, e1.trans (H c).k, e2.trans (H c).v, e3.trans (H c).g,
      fun s i => ((H c).th s i).trans (congrArg (fun w : BitVec 32 => angle w.toInt i) (congrFun e4 (ix1 s)).symm)⟩
  exact ⟨_, _, _, kernel_results m H g, reference_results m' H' g'⟩

end Cert.Proof
-- ==== Proof.Body2.lean ====
/-
  The body of the projections' backward kernel at one grid point, as functions on arrays, and its run.
-/
module

public import proofs.«01_k».proof.Proof.Gen.Kernel2Ideal.Skeleton
public import proofs.«01_k».proof.Proof.Gen.Kernel2Ideal.Launch
public import Idealize.ShloMosaic.Lib.VecWindow
public import Idealize.ShloMosaic.Lib.Tactic

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open VecWindow

variable {F : FTy → Type} [FloatOps F]

abbrev 𝒱₀ : Variants := Variants.none

local notation "𝕄" => MT nD τ sig Unit (Elt F) ℕ (UR sig nD τ) ℕ

/-- Core `c` holds the whole buffer under `M`, which reads `X`. -/
def ow (c : Dev nD) {sp : Space} {S : Shape} {e : EltTy} (M : Memref sig .tc sp S e) (X : S.Idx → Elt F e) : sProp 𝕄 :=
  iprop(∃ f : Buf (Elt F) (M.view.loc (c : Thread nD τ)), ⌜M.view.read (Elt F) f = X⌝ ∗ (M.view.loc (c : Thread nD τ) ↦{fullShare} f))

/-- The arrays a grid point reads. -/
structure Ins (F : FTy → Type) [FloatOps F] where
  x : S512x1024.Idx → Elt F .f32
  dh : S512x1024.Idx → Elt F .f32
  cq : S512x256.Idx → Elt F .f32
  ckv : S512x128.Idx → Elt F .f32
  cs : S512x256.Idx → Elt F .f32
  dq : S512x1024.Idx → Elt F .bf16
  dk : S512x1024.Idx → Elt F .bf16
  dv : S512x512.Idx → Elt F .bf16
  dg : S512x2048.Idx → Elt F .bf16
  win : S1024x2560.Idx → Elt F .bf16
  wuq : S256x1024.Idx → Elt F .bf16
  wkv : S128x1536.Idx → Elt F .bf16
  pv : S16x1024.Idx → Elt F .f32
  gv : S16x1024.Idx → Elt F .f32

/-- The weight gradients and the gains' gradients summed so far. -/
structure Acc (F : FTy → Type) [FloatOps F] where
  win : S1024x2560.Idx → Elt F .f32
  uq : S256x1024.Idx → Elt F .f32
  kv : S128x1536.Idx → Elt F .f32
  vec : S16x1024.Idx → Elt F .f32

namespace Ins
variable (I : Ins F)
/-- The values a point carries from one stretch of its lines to the next, named as the printed program names them. -/
def v16 : FVec F S1x256 .f32 := k0_pay11 (window I.pv ![0, 0] S1x256.size inb_S16x1024_S1x256_0_0)
def v18 : FVec F S1x128 .f32 := k0_pay12 (window I.pv ![1, 0] S1x128.size inb_S16x1024_S1x128_1_0)
def v14 : FVec F S512x1024 .f32 := k0_pay10 I.dg (window I.win ![0, 512] S1024x2048.size inb_S1024x2560_S1024x2048_0_512)
def v62 : FVec F S512x256 .f32 := k0_pay21 I.v16 (k0_pay13 I.dq) (k0_pay14 I.cq) (k0_pay15 I.cq) (k0_pay16 I.cq) I.wuq
def v67 : FVec F S512x1536 .bf16 := k0_pay23 I.dk I.dv
def v107 : FVec F S512x128 .f32 := k0_pay30 I.v18 I.v67 I.ckv I.wkv
def v155 : FVec F S512x512 .bf16 :=
  k0_pay32 I.v62 (k0_pay22 I.dk) I.v107 (k0_pay31 I.ckv)
    (window I.cs ![0, 0] S512x128.size inb_S512x256_S512x128_0_0) (window I.cs ![0, 128] S512x128.size inb_S512x256_S512x128_0_128)
    (window I.pv ![5, 0] S1x128.size inb_S16x1024_S1x128_5_0) (window I.pv ![6, 0] S1x128.size inb_S16x1024_S1x128_6_0)
end Ins

/-- The sums a point starts from: the first point's are zero. -/
def start (i : grid0.Coords) (I : Ins F) (A : Acc F) : Acc F :=
  if (i 0).val = 0 then ⟨k0_pay3, k0_pay4, k0_pay5, k0_pay6 I.gv⟩ else A

def winGates (I : Ins F) (G : S1024x2560.Idx → Elt F .f32) : S1024x2560.Idx → Elt F .f32 :=
  put G ![0, 512] S1024x2048.size (k0_pay9 I.x I.dg (window G ![0, 512] S1024x2048.size inb_S1024x2560_S1024x2048_0_512))
def winRest (I : Ins F) (G : S1024x2560.Idx → Elt F .f32) : S1024x2560.Idx → Elt F .f32 :=
  put G ![0, 0] S1024x512.size (k0_pay1 (k0_pay7 I.x) I.v155 (window G ![0, 0] S1024x512.size inb_S1024x2560_S1024x512_0_0))
def uqNext (I : Ins F) (G : S256x1024.Idx → Elt F .f32) : S256x1024.Idx → Elt F .f32 :=
  k0_pay19 I.v16 (k0_pay13 I.dq) (k0_pay14 I.cq) (k0_pay16 I.cq) G
def kvNext (I : Ins F) (G : S128x1536.Idx → Elt F .f32) : S128x1536.Idx → Elt F .f32 :=
  k0_pay28 I.v18 I.v67 I.ckv G
def vecQ (I : Ins F) (G : S16x1024.Idx → Elt F .f32) : S16x1024.Idx → Elt F .f32 :=
  put G ![0, 0] S1x256.size (k0_pay20 (k0_pay13 I.dq) (k0_pay14 I.cq) (k0_pay16 I.cq) I.wuq (window G ![0, 0] S1x256.size inb_S16x1024_S1x256_0_0))
def vecKv (I : Ins F) (G : S16x1024.Idx → Elt F .f32) : S16x1024.Idx → Elt F .f32 :=
  put G ![1, 0] S1x128.size (k0_pay29 I.v67 I.ckv I.wkv (window G ![1, 0] S1x128.size inb_S16x1024_S1x128_1_0))

/-- What a point leaves in the sums. -/
def step (I : Ins F) (A : Acc F) : Acc F :=
  ⟨winRest I (winGates I A.win), uqNext I A.uq, kvNext I A.kv, vecKv I (vecQ I A.vec)⟩

def point (i : grid0.Coords) (I : Ins F) (A : Acc F) : Acc F := step I (start i I A)

/-- The input gradient's rows a point writes. -/
def gxOut (I : Ins F) : S512x1024.Idx → Elt F .f32 :=
  k0_pay2 I.v14 I.v155 I.dh (window I.win ![0, 0] S1024x512.size inb_S1024x2560_S1024x512_0_0)

/-- The comparison `i 0 == 0` as the kernel computes it. -/
theorem first_iff : ∀ i : grid0.Coords,
    Scalar.cmpi .ne (Scalar.extui (Scalar.cmpi .eq (BitVec.ofNat 32 (i 0).val) 0#32) : BitVec 32) 0#32 = 1#1 ↔ (i 0).val = 0 := by
  decide +kernel

/-- A window read of a buffer wholly written first reads the payload. -/
theorem readCov_window {Val : EltTy → Type} [∀ e, Nonempty (Val e)] {κ : Kind} {sp : Space} {s : Shape} {e : EltTy} (v : View sig κ sp s e)
    {off off' size : Fin s.rank → ℕ} (inb : ∀ a, off a + s.size a ≤ s.size a) (inb' : ∀ a, off' a + size a ≤ s.size a) (w : s.Idx → Val e) (L : List (View.Piece Val s e)) :
    v.readCov (⟨Rect.unit off s.size inb, w⟩ :: L) (Rect.unit off' size inb').toLoadRect = window w off' size inb' :=
  (View.readAt_unit v _ inb' rfl inb').trans (by rw [View.read_writes_full])

set_option maxHeartbeats 1000000 in
/-- The first lines, run: the sums zeroed at the first point, the gates' columns of the projection's gradient, the norms' inputs loaded. -/
theorem part1_run (c : Dev nD) (i : grid0.Coords)
  {arg1 : Memref sig .tc .vmem S512x1024 .f32} {harg1 : arg1.IsWhole}
  {arg2 : Memref sig .tc .vmem S512x1024 .f32} {harg2 : arg2.IsWhole}
  {arg3 : Memref sig .tc .vmem S512x256 .f32} {harg3 : arg3.IsWhole}
  {arg4 : Memref sig .tc .vmem S512x128 .f32} {harg4 : arg4.IsWhole}
  {arg5 : Memref sig .tc .vmem S512x256 .f32} {harg5 : arg5.IsWhole}
  {arg6 : Memref sig .tc .vmem S512x1024 .bf16} {harg6 : arg6.IsWhole}
  {arg7 : Memref sig .tc .vmem S512x1024 .bf16} {harg7 : arg7.IsWhole}
  {arg8 : Memref sig .tc .vmem S512x512 .bf16} {harg8 : arg8.IsWhole}
  {arg9 : Memref sig .tc .vmem S512x2048 .bf16} {harg9 : arg9.IsWhole}
  {arg10 : Memref sig .tc .vmem S1024x2560 .bf16} {harg10 : arg10.IsWhole}
  {arg11 : Memref sig .tc .vmem S256x1024 .bf16} {harg11 : arg11.IsWhole}
  {arg12 : Memref sig .tc .vmem S128x1536 .bf16} {harg12 : arg12.IsWhole}
  {arg13 : Memref sig .tc .vmem S16x1024 .f32} {harg13 : arg13.IsWhole}
  {arg14 : Memref sig .tc .vmem S16x1024 .f32} {harg14 : arg14.IsWhole}
  {arg15 : Memref sig .tc .vmem S512x1024 .f32} {harg15 : arg15.IsWhole}
  {arg16 : Memref sig .tc .vmem S1024x2560 .f32} {harg16 : arg16.IsWhole}
  {arg17 : Memref sig .tc .vmem S256x1024 .f32} {harg17 : arg17.IsWhole}
  {arg18 : Memref sig .tc .vmem S128x1536 .f32} {harg18 : arg18.IsWhole}
  {arg19 : Memref sig .tc .vmem S16x1024 .f32} {harg19 : arg19.IsWhole} (I : Ins F) (A : Acc F) :
    iprop(ow c arg1 I.x ∗ ow c arg9 I.dg ∗ ow c arg10 I.win ∗ ow c arg13 I.pv ∗ ow c arg6 I.dq ∗ ow c arg3 I.cq ∗ ow c arg14 I.gv ∗ ow c arg16 A.win ∗ ow c arg17 A.uq ∗ ow c arg18 A.kv ∗ ow c arg19 A.vec)
      ⊢ wp frame (wpE (defs₀ (F := F)) 𝒱₀ (c : Thread nD τ) none) Set.univ
        (k0_part1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 )
        (fun r => iprop(⌜r = ⟨k0_pay7 I.x, I.v14, I.v16, I.v18, k0_pay13 I.dq, k0_pay14 I.cq, k0_pay15 I.cq, k0_pay16 I.cq⟩⌝ ∗ ow c arg1 I.x ∗ ow c arg9 I.dg ∗ ow c arg10 I.win ∗ ow c arg13 I.pv ∗ ow c arg6 I.dq ∗ ow c arg3 I.cq ∗ ow c arg14 I.gv ∗ ow c arg16 (winGates I (start i I A).win) ∗ ow c arg17 (start i I A).uq ∗ ow c arg18 (start i I A).kv ∗ ow c arg19 (start i I A).vec)) := by
  obtain ⟨Aw, Au, Ak, Av⟩ := A
  dsimp only
  rw [k0_part1_eq_skeleton]
  unfold k0_part1_skel ow
  iintro ⟨⟨%f1, %h1', H1⟩, ⟨%f9, %h9', H9⟩, ⟨%f10, %h10', H10⟩, ⟨%f13, %h13', H13⟩, ⟨%f6, %h6', H6⟩, ⟨%f3, %h3', H3⟩, ⟨%f14, %h14', H14⟩, ⟨%f16, %h16', H16⟩, ⟨%f17, %h17', H17⟩, ⟨%f18, %h18', H18⟩, ⟨%f19, %h19', H19⟩⟩
  obtain ⟨x, dh, cq, ckv, cs, dq, dk, dv, dg, win, wuq, wkv, pv, gv⟩ := I
  dsimp only at h1' h9' h10' h13' h6' h3' h14'
  subst h1' h9' h10' h13' h6' h3' h14'
  subst h16' h17' h18' h19'
  by_cases h : (i 0).val = 0
  · have hc := (first_iff i).mpr h
    unfold start
    rw [if_pos h]
    sl_exec (disch := sl_exact hc)
    sl_step
    isplitr
    · ipureintro; unfold Ins.v14 Ins.v16 Ins.v18; rw [View.readAt_full, View.readAt_full, View.readAt_full, View.readAt_full]; rfl
    isplitl [H1]; · iexists _; isplitr; swap; (· iexact H1); ipureintro; rfl
    isplitl [H9]; · iexists _; isplitr; swap; (· iexact H9); ipureintro; rfl
    isplitl [H10]; · iexists _; isplitr; swap; (· iexact H10); ipureintro; rfl
    isplitl [H13]; · iexists _; isplitr; swap; (· iexact H13); ipureintro; rfl
    isplitl [H6]; · iexists _; isplitr; swap; (· iexact H6); ipureintro; rfl
    isplitl [H3]; · iexists _; isplitr; swap; (· iexact H3); ipureintro; rfl
    isplitl [H14]; · iexists _; isplitr; swap; (· iexact H14); ipureintro; rfl
    isplitl [H16]; · iexists _; isplitr; swap; (· iexact H16); ipureintro; rw [View.read_writes_cons_put _ _ _ _ _ rfl]; unfold part1_run.sl.v7 part1_run.sl.H16_1; rw [View.read_writes_full]; unfold winGates; rw [View.readAt_full, View.readAt_full, readCov_window]
    isplitl [H17]; · iexists _; isplitr; swap; (· iexact H17); ipureintro; exact View.read_writes_full _ _ _ _ _
    isplitl [H18]; · iexists _; isplitr; swap; (· iexact H18); ipureintro; exact View.read_writes_full _ _ _ _ _
    iexists _; isplitr; swap; (· iexact H19); ipureintro; rw [View.read_writes_full, View.readAt_full]
  · have hc := mt (first_iff i).mp h
    unfold start
    rw [if_neg h]
    sl_exec (disch := sl_exact hc)
    sl_step
    isplitr
    · ipureintro; unfold Ins.v14 Ins.v16 Ins.v18; rw [View.readAt_full, View.readAt_full, View.readAt_full, View.readAt_full]; rfl
    isplitl [H1]; · iexists _; isplitr; swap; (· iexact H1); ipureintro; rfl
    isplitl [H9]; · iexists _; isplitr; swap; (· iexact H9); ipureintro; rfl
    isplitl [H10]; · iexists _; isplitr; swap; (· iexact H10); ipureintro; rfl
    isplitl [H13]; · iexists _; isplitr; swap; (· iexact H13); ipureintro; rfl
    isplitl [H6]; · iexists _; isplitr; swap; (· iexact H6); ipureintro; rfl
    isplitl [H3]; · iexists _; isplitr; swap; (· iexact H3); ipureintro; rfl
    isplitl [H14]; · iexists _; isplitr; swap; (· iexact H14); ipureintro; rfl
    isplitl [H16]; · iexists _; isplitr; swap; (· iexact H16); ipureintro; rw [View.read_writes_cons_put _ _ _ _ _ rfl]; unfold winGates; rw [View.readAt_full, View.readAt_full]; rfl
    isplitl [H17]; · iexists _; isplitr; swap; (· iexact H17); ipureintro; rfl
    isplitl [H18]; · iexists _; isplitr; swap; (· iexact H18); ipureintro; rfl
    iexists _; isplitr; swap; (· iexact H19); ipureintro; rfl

set_option maxHeartbeats 1000000 in
/-- The query branch, run: its weight's gradient, its gain's gradient. -/
theorem part2_run (c : Dev nD) (i : grid0.Coords)
  {arg1 : Memref sig .tc .vmem S512x1024 .f32} {harg1 : arg1.IsWhole}
  {arg2 : Memref sig .tc .vmem S512x1024 .f32} {harg2 : arg2.IsWhole}
  {arg3 : Memref sig .tc .vmem S512x256 .f32} {harg3 : arg3.IsWhole}
  {arg4 : Memref sig .tc .vmem S512x128 .f32} {harg4 : arg4.IsWhole}
  {arg5 : Memref sig .tc .vmem S512x256 .f32} {harg5 : arg5.IsWhole}
  {arg6 : Memref sig .tc .vmem S512x1024 .bf16} {harg6 : arg6.IsWhole}
  {arg7 : Memref sig .tc .vmem S512x1024 .bf16} {harg7 : arg7.IsWhole}
  {arg8 : Memref sig .tc .vmem S512x512 .bf16} {harg8 : arg8.IsWhole}
  {arg9 : Memref sig .tc .vmem S512x2048 .bf16} {harg9 : arg9.IsWhole}
  {arg10 : Memref sig .tc .vmem S1024x2560 .bf16} {harg10 : arg10.IsWhole}
  {arg11 : Memref sig .tc .vmem S256x1024 .bf16} {harg11 : arg11.IsWhole}
  {arg12 : Memref sig .tc .vmem S128x1536 .bf16} {harg12 : arg12.IsWhole}
  {arg13 : Memref sig .tc .vmem S16x1024 .f32} {harg13 : arg13.IsWhole}
  {arg14 : Memref sig .tc .vmem S16x1024 .f32} {harg14 : arg14.IsWhole}
  {arg15 : Memref sig .tc .vmem S512x1024 .f32} {harg15 : arg15.IsWhole}
  {arg16 : Memref sig .tc .vmem S1024x2560 .f32} {harg16 : arg16.IsWhole}
  {arg17 : Memref sig .tc .vmem S256x1024 .f32} {harg17 : arg17.IsWhole}
  {arg18 : Memref sig .tc .vmem S128x1536 .f32} {harg18 : arg18.IsWhole}
  {arg19 : Memref sig .tc .vmem S16x1024 .f32} {harg19 : arg19.IsWhole} (I : Ins F) (U : S256x1024.Idx → Elt F .f32) (W : S16x1024.Idx → Elt F .f32) :
    iprop(ow c arg11 I.wuq ∗ ow c arg7 I.dk ∗ ow c arg8 I.dv ∗ ow c arg4 I.ckv ∗ ow c arg17 U ∗ ow c arg19 W)
      ⊢ wp frame (wpE (defs₀ (F := F)) 𝒱₀ (c : Thread nD τ) none) Set.univ
        (k0_part2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 I.v16 (k0_pay13 I.dq) (k0_pay14 I.cq) (k0_pay15 I.cq) (k0_pay16 I.cq))
        (fun r => iprop(⌜r = ⟨I.v62, k0_pay22 I.dk, I.v67, I.ckv⟩⌝ ∗ ow c arg11 I.wuq ∗ ow c arg7 I.dk ∗ ow c arg8 I.dv ∗ ow c arg4 I.ckv ∗ ow c arg17 (uqNext I U) ∗ ow c arg19 (vecQ I W))) := by
  rw [k0_part2_eq_skeleton]
  unfold k0_part2_skel ow
  iintro ⟨⟨%f11, %h11', H11⟩, ⟨%f7, %h7', H7⟩, ⟨%f8, %h8', H8⟩, ⟨%f4, %h4', H4⟩, ⟨%f17, %h17', H17⟩, ⟨%f19, %h19', H19⟩⟩
  obtain ⟨x, dh, cq, ckv, cs, dq, dk, dv, dg, win, wuq, wkv, pv, gv⟩ := I
  dsimp only at h11' h7' h8' h4'
  subst h11' h7' h8' h4'
  subst h17' h19'
  sl_exec
  sl_step
  isplitr
  · ipureintro; unfold Ins.v62 Ins.v67; rw [View.readAt_full, View.readAt_full, View.readAt_full, View.readAt_full]
  isplitl [H11]; · iexists _; isplitr; swap; (· iexact H11); ipureintro; rfl
  isplitl [H7]; · iexists _; isplitr; swap; (· iexact H7); ipureintro; rfl
  isplitl [H8]; · iexists _; isplitr; swap; (· iexact H8); ipureintro; rfl
  isplitl [H4]; · iexists _; isplitr; swap; (· iexact H4); ipureintro; rfl
  isplitl [H17]; · iexists _; isplitr; swap; (· iexact H17); ipureintro; rw [View.read_writes_full, View.readAt_full]; rfl
  iexists _; isplitr; swap; (· iexact H19); ipureintro; rw [View.read_writes_cons_put _ _ _ _ _ rfl, View.readAt_full]; rfl

set_option maxHeartbeats 1000000 in
/-- The key and value branch, run: its weight's gradient, its gain's gradient. -/
theorem part3_run (c : Dev nD) (i : grid0.Coords)
  {arg1 : Memref sig .tc .vmem S512x1024 .f32} {harg1 : arg1.IsWhole}
  {arg2 : Memref sig .tc .vmem S512x1024 .f32} {harg2 : arg2.IsWhole}
  {arg3 : Memref sig .tc .vmem S512x256 .f32} {harg3 : arg3.IsWhole}
  {arg4 : Memref sig .tc .vmem S512x128 .f32} {harg4 : arg4.IsWhole}
  {arg5 : Memref sig .tc .vmem S512x256 .f32} {harg5 : arg5.IsWhole}
  {arg6 : Memref sig .tc .vmem S512x1024 .bf16} {harg6 : arg6.IsWhole}
  {arg7 : Memref sig .tc .vmem S512x1024 .bf16} {harg7 : arg7.IsWhole}
  {arg8 : Memref sig .tc .vmem S512x512 .bf16} {harg8 : arg8.IsWhole}
  {arg9 : Memref sig .tc .vmem S512x2048 .bf16} {harg9 : arg9.IsWhole}
  {arg10 : Memref sig .tc .vmem S1024x2560 .bf16} {harg10 : arg10.IsWhole}
  {arg11 : Memref sig .tc .vmem S256x1024 .bf16} {harg11 : arg11.IsWhole}
  {arg12 : Memref sig .tc .vmem S128x1536 .bf16} {harg12 : arg12.IsWhole}
  {arg13 : Memref sig .tc .vmem S16x1024 .f32} {harg13 : arg13.IsWhole}
  {arg14 : Memref sig .tc .vmem S16x1024 .f32} {harg14 : arg14.IsWhole}
  {arg15 : Memref sig .tc .vmem S512x1024 .f32} {harg15 : arg15.IsWhole}
  {arg16 : Memref sig .tc .vmem S1024x2560 .f32} {harg16 : arg16.IsWhole}
  {arg17 : Memref sig .tc .vmem S256x1024 .f32} {harg17 : arg17.IsWhole}
  {arg18 : Memref sig .tc .vmem S128x1536 .f32} {harg18 : arg18.IsWhole}
  {arg19 : Memref sig .tc .vmem S16x1024 .f32} {harg19 : arg19.IsWhole} (I : Ins F) (U : S128x1536.Idx → Elt F .f32) (W : S16x1024.Idx → Elt F .f32) :
    iprop(ow c arg12 I.wkv ∗ ow c arg18 U ∗ ow c arg19 W)
      ⊢ wp frame (wpE (defs₀ (F := F)) 𝒱₀ (c : Thread nD τ) none) Set.univ
        (k0_part3 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 I.v18 I.v67 I.ckv)
        (fun r => iprop(⌜r = ⟨I.v107, k0_pay31 I.ckv⟩⌝ ∗ ow c arg12 I.wkv ∗ ow c arg18 (kvNext I U) ∗ ow c arg19 (vecKv I W))) := by
  rw [k0_part3_eq_skeleton]
  unfold k0_part3_skel ow
  iintro ⟨⟨%f12, %h12', H12⟩, ⟨%f18, %h18', H18⟩, ⟨%f19, %h19', H19⟩⟩
  obtain ⟨x, dh, cq, ckv, cs, dq, dk, dv, dg, win, wuq, wkv, pv, gv⟩ := I
  dsimp only at h12'
  subst h12'
  subst h18' h19'
  sl_exec
  sl_step
  isplitr
  · ipureintro; unfold Ins.v107; rw [View.readAt_full]
  isplitl [H12]; · iexists _; isplitr; swap; (· iexact H12); ipureintro; rfl
  isplitl [H18]; · iexists _; isplitr; swap; (· iexact H18); ipureintro; rw [View.read_writes_full, View.readAt_full]; rfl
  iexists _; isplitr; swap; (· iexact H19); ipureintro; rw [View.read_writes_cons_put _ _ _ _ _ rfl, View.readAt_full]; rfl

set_option maxHeartbeats 1000000 in
/-- The key branch's rotation back, run. -/
theorem part4_run (c : Dev nD) (i : grid0.Coords)
  {arg1 : Memref sig .tc .vmem S512x1024 .f32} {harg1 : arg1.IsWhole}
  {arg2 : Memref sig .tc .vmem S512x1024 .f32} {harg2 : arg2.IsWhole}
  {arg3 : Memref sig .tc .vmem S512x256 .f32} {harg3 : arg3.IsWhole}
  {arg4 : Memref sig .tc .vmem S512x128 .f32} {harg4 : arg4.IsWhole}
  {arg5 : Memref sig .tc .vmem S512x256 .f32} {harg5 : arg5.IsWhole}
  {arg6 : Memref sig .tc .vmem S512x1024 .bf16} {harg6 : arg6.IsWhole}
  {arg7 : Memref sig .tc .vmem S512x1024 .bf16} {harg7 : arg7.IsWhole}
  {arg8 : Memref sig .tc .vmem S512x512 .bf16} {harg8 : arg8.IsWhole}
  {arg9 : Memref sig .tc .vmem S512x2048 .bf16} {harg9 : arg9.IsWhole}
  {arg10 : Memref sig .tc .vmem S1024x2560 .bf16} {harg10 : arg10.IsWhole}
  {arg11 : Memref sig .tc .vmem S256x1024 .bf16} {harg11 : arg11.IsWhole}
  {arg12 : Memref sig .tc .vmem S128x1536 .bf16} {harg12 : arg12.IsWhole}
  {arg13 : Memref sig .tc .vmem S16x1024 .f32} {harg13 : arg13.IsWhole}
  {arg14 : Memref sig .tc .vmem S16x1024 .f32} {harg14 : arg14.IsWhole}
  {arg15 : Memref sig .tc .vmem S512x1024 .f32} {harg15 : arg15.IsWhole}
  {arg16 : Memref sig .tc .vmem S1024x2560 .f32} {harg16 : arg16.IsWhole}
  {arg17 : Memref sig .tc .vmem S256x1024 .f32} {harg17 : arg17.IsWhole}
  {arg18 : Memref sig .tc .vmem S128x1536 .f32} {harg18 : arg18.IsWhole}
  {arg19 : Memref sig .tc .vmem S16x1024 .f32} {harg19 : arg19.IsWhole} (I : Ins F) (G : S1024x2560.Idx → Elt F .f32) :
    iprop(ow c arg5 I.cs ∗ ow c arg13 I.pv ∗ ow c arg16 G)
      ⊢ wp frame (wpE (defs₀ (F := F)) 𝒱₀ (c : Thread nD τ) none) Set.univ
        (k0_part4 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 I.v62 (k0_pay22 I.dk) I.v107 (k0_pay31 I.ckv))
        (fun r => iprop(⌜r = ⟨I.v155, window G ![0, 0] S1024x512.size inb_S1024x2560_S1024x512_0_0⟩⌝ ∗ ow c arg5 I.cs ∗ ow c arg13 I.pv ∗ ow c arg16 G)) := by
  rw [k0_part4_eq_skeleton]
  unfold k0_part4_skel ow
  iintro ⟨⟨%f5, %h5', H5⟩, ⟨%f13, %h13', H13⟩, ⟨%f16, %h16', H16⟩⟩
  obtain ⟨x, dh, cq, ckv, cs, dq, dk, dv, dg, win, wuq, wkv, pv, gv⟩ := I
  dsimp only at h5' h13'
  subst h5' h13'
  subst h16'
  sl_exec
  sl_step
  isplitr
  · ipureintro; rfl
  isplitl [H5]; · iexists _; isplitr; swap; (· iexact H5); ipureintro; rfl
  isplitl [H13]; · iexists _; isplitr; swap; (· iexact H13); ipureintro; rfl
  iexists _; isplitr; swap; (· iexact H16); ipureintro; rfl

set_option maxHeartbeats 1000000 in
/-- The kernel's body at a grid point, run. -/
theorem body_run (c : Dev nD) (i : grid0.Coords)
  {arg1 : Memref sig .tc .vmem S512x1024 .f32} {harg1 : arg1.IsWhole}
  {arg2 : Memref sig .tc .vmem S512x1024 .f32} {harg2 : arg2.IsWhole}
  {arg3 : Memref sig .tc .vmem S512x256 .f32} {harg3 : arg3.IsWhole}
  {arg4 : Memref sig .tc .vmem S512x128 .f32} {harg4 : arg4.IsWhole}
  {arg5 : Memref sig .tc .vmem S512x256 .f32} {harg5 : arg5.IsWhole}
  {arg6 : Memref sig .tc .vmem S512x1024 .bf16} {harg6 : arg6.IsWhole}
  {arg7 : Memref sig .tc .vmem S512x1024 .bf16} {harg7 : arg7.IsWhole}
  {arg8 : Memref sig .tc .vmem S512x512 .bf16} {harg8 : arg8.IsWhole}
  {arg9 : Memref sig .tc .vmem S512x2048 .bf16} {harg9 : arg9.IsWhole}
  {arg10 : Memref sig .tc .vmem S1024x2560 .bf16} {harg10 : arg10.IsWhole}
  {arg11 : Memref sig .tc .vmem S256x1024 .bf16} {harg11 : arg11.IsWhole}
  {arg12 : Memref sig .tc .vmem S128x1536 .bf16} {harg12 : arg12.IsWhole}
  {arg13 : Memref sig .tc .vmem S16x1024 .f32} {harg13 : arg13.IsWhole}
  {arg14 : Memref sig .tc .vmem S16x1024 .f32} {harg14 : arg14.IsWhole}
  {arg15 : Memref sig .tc .vmem S512x1024 .f32} {harg15 : arg15.IsWhole}
  {arg16 : Memref sig .tc .vmem S1024x2560 .f32} {harg16 : arg16.IsWhole}
  {arg17 : Memref sig .tc .vmem S256x1024 .f32} {harg17 : arg17.IsWhole}
  {arg18 : Memref sig .tc .vmem S128x1536 .f32} {harg18 : arg18.IsWhole}
  {arg19 : Memref sig .tc .vmem S16x1024 .f32} {harg19 : arg19.IsWhole} (I : Ins F) (Y : S512x1024.Idx → Elt F .f32) (A : Acc F) :
    iprop(ow c arg1 I.x ∗ ow c arg2 I.dh ∗ ow c arg3 I.cq ∗ ow c arg4 I.ckv ∗ ow c arg5 I.cs ∗ ow c arg6 I.dq ∗ ow c arg7 I.dk ∗ ow c arg8 I.dv ∗ ow c arg9 I.dg ∗ ow c arg10 I.win ∗ ow c arg11 I.wuq ∗ ow c arg12 I.wkv ∗ ow c arg13 I.pv ∗ ow c arg14 I.gv ∗ ow c arg15 Y ∗ ow c arg16 A.win ∗ ow c arg17 A.uq ∗ ow c arg18 A.kv ∗ ow c arg19 A.vec)
      ⊢ wp frame (wpE (defs₀ (F := F)) 𝒱₀ (c : Thread nD τ) none) Set.univ
        (cc0_bwd_pre i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 )
        (fun r => iprop(ow c arg1 I.x ∗ ow c arg2 I.dh ∗ ow c arg3 I.cq ∗ ow c arg4 I.ckv ∗ ow c arg5 I.cs ∗ ow c arg6 I.dq ∗ ow c arg7 I.dk ∗ ow c arg8 I.dv ∗ ow c arg9 I.dg ∗ ow c arg10 I.win ∗ ow c arg11 I.wuq ∗ ow c arg12 I.wkv ∗ ow c arg13 I.pv ∗ ow c arg14 I.gv ∗ ow c arg15 (gxOut I) ∗ ow c arg16 (point i I A).win ∗ ow c arg17 (point i I A).uq ∗ ow c arg18 (point i I A).kv ∗ ow c arg19 (point i I A).vec)) := by
  rw [cc0_bwd_pre_eq_skeleton]
  unfold cc0_bwd_pre_skel
  iintro ⟨H1, H2, H3, H4, H5, H6, H7, H8, H9, H10, H11, H12, H13, H14, H15, H16, H17, H18, H19⟩
  rw [wp_bind]
  iapply wp_wand_r
  isplitl [H1 H9 H10 H13 H6 H3 H14 H16 H17 H18 H19]
  · iapply (part1_run c i I A)
    isplitl [H1]; · iexact H1
    isplitl [H9]; · iexact H9
    isplitl [H10]; · iexact H10
    isplitl [H13]; · iexact H13
    isplitl [H6]; · iexact H6
    isplitl [H3]; · iexact H3
    isplitl [H14]; · iexact H14
    isplitl [H16]; · iexact H16
    isplitl [H17]; · iexact H17
    isplitl [H18]; · iexact H18
    iexact H19
  iintro %r ⟨%hr, H1, H9, H10, H13, H6, H3, H14, H16, H17, H18, H19⟩
  subst hr
  dsimp only
  rw [wp_bind]
  iapply wp_wand_r
  isplitl [H11 H7 H8 H4 H17 H19]
  · iapply (part2_run c i I (start i I A).uq (start i I A).vec)
    isplitl [H11]; · iexact H11
    isplitl [H7]; · iexact H7
    isplitl [H8]; · iexact H8
    isplitl [H4]; · iexact H4
    isplitl [H17]; · iexact H17
    iexact H19
  iintro %r ⟨%hr, H11, H7, H8, H4, H17, H19⟩
  subst hr
  dsimp only
  rw [wp_bind]
  iapply wp_wand_r
  isplitl [H12 H18 H19]
  · iapply (part3_run c i I (start i I A).kv (vecQ I (start i I A).vec))
    isplitl [H12]; · iexact H12
    isplitl [H18]; · iexact H18
    iexact H19
  iintro %r ⟨%hr, H12, H18, H19⟩
  subst hr
  dsimp only
  rw [wp_bind]
  iapply wp_wand_r
  isplitl [H5 H13 H16]
  · iapply (part4_run c i I (winGates I (start i I A).win))
    isplitl [H5]; · iexact H5
    isplitl [H13]; · iexact H13
    iexact H16
  iintro %r ⟨%hr, H5, H13, H16⟩
  subst hr
  dsimp only
  unfold point step
  generalize start i I A = A'
  obtain ⟨Aw, Au, Ak, Av⟩ := A'
  dsimp only
  generalize winGates I Aw = G
  unfold ow winRest gxOut
  icases H2 with ⟨%f2, %h2, H2⟩
  icases H10 with ⟨%f10, %h10, H10⟩
  icases H15 with ⟨%f15, %h15, H15⟩
  icases H16 with ⟨%f16, %h16, H16⟩
  subst h15 h16
  rw [← h2, ← h10]
  sl_exec
  sl_step
  isplitl [H1]; · iexact H1
  isplitl [H2]; · iexists _; isplitr; swap; (· iexact H2); ipureintro; rfl
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; isplitr; swap; (· iexact H10); ipureintro; rfl
  isplitl [H11]; · iexact H11
  isplitl [H12]; · iexact H12
  isplitl [H13]; · iexact H13
  isplitl [H14]; · iexact H14
  isplitl [H15]; · iexists _; isplitr; swap; (· iexact H15); ipureintro; rw [View.read_writes_full, View.readAt_full]; rfl
  isplitl [H16]; · iexists _; isplitr; swap; (· iexact H16); ipureintro; rw [View.read_writes_cons_put _ _ _ _ _ rfl]; rfl
  isplitl [H17]; · iexact H17
  isplitl [H18]; · iexact H18
  iexact H19

end Cert.Kernel2Ideal.Hand
-- ==== Proof.Run2.lean ====
/-
  The proof data of the projections' backward kernel, the body obligation and the launch: every run of the program
  ends, with each output array at what the grid points leave in it.
-/
module

public import proofs.«01_k».proof.Proof.Body2
public import proofs.«01_k».proof.Proof.Gen.Kernel2Ideal.Frame

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)
open VecWindow

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A whole memref owned at contents. -/
theorem owns_eq_ow {sp} {s : Shape} {e : EltTy} (c : Dev nD) (M : Memref sig .tc sp s e) (h : M.IsWhole) (X : s.Idx → Elt F e) :
    (owns (c : Thread nD τ) M fullShare X : sProp 𝕄) = ow c M X := by
  unfold owns ow; rw [h.set_eq_univ]

/-- The arrays point `t` reads: each input window's block. -/
def insAt (c : Dev nD) (t : Fin cfg0.N) : Ins F :=
  ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t⟩

/-- What the first `n` points leave in the sums. -/
def accAt (c : Dev nD) : ℕ → Acc F
  | 0 => ⟨k0_pay3, k0_pay4, k0_pay5, k0_pay6 (insAt m c t0_0).gv⟩
  | n + 1 => if h : n < cfg0.N then point (grid0.coords ⟨n, h⟩) (insAt m c ⟨n, h⟩) (accAt c n) else accAt c n

theorem accAt_succ (c : Dev nD) (t : Fin cfg0.N) :
    accAt m c (t.val + 1) = point (grid0.coords t) (insAt m c t) (accAt m c t.val) := by
  rw [accAt, dif_pos t.isLt]

attribute [irreducible] accAt

theorem coords_zero : ∀ t : Fin cfg0.N, (grid0.coords t 0).val = t.val := by decide +kernel

/-- The first point reads nothing of the sums. -/
theorem point_first (i : grid0.Coords) (h : (i 0).val = 0) (I : Ins F) (A A' : Acc F) : point i I A = point i I A' := by
  unfold point start; rw [if_pos h, if_pos h]

/-- The proof data on core `c`. -/
def dats (_ : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => iblk m c 3 t
    | 4 => iblk m c 4 t
    | 5 => iblk m c 5 t
    | 6 => iblk m c 6 t
    | 7 => iblk m c 7 t
    | 8 => iblk m c 8 t
    | 9 => iblk m c 9 t
    | 10 => iblk m c 10 t
    | 11 => iblk m c 11 t
    | 12 => iblk m c 12 t
    | 13 => iblk m c 13 t
    | 14 => gxOut (insAt m c t)
    | 15 => (accAt m c (t.val + 1)).win
    | 16 => (accAt m c (t.val + 1)).uq
    | 17 => (accAt m c (t.val + 1)).kv
    | 18 => (accAt m c (t.val + 1)).vec
    | ⟨n + 19, h⟩ => absurd (show n + 19 < 19 from h) (by omega)
  Φ _ := iprop(∃ r, prngReg c r)
  q _ := fullShare
  owed _ := 0

theorem defs₀_row (t : Fin cfg0.N) : defs₀ (F := F) .tc cfg0.body (cfg0.bodyArgs t (cfg0.slots t)) = Gen.bodyAt0 t := by
  unfold defs₀; rw [Defs.onTc_tc]

theorem before_0 (c : Dev nD) (t : Fin cfg0.N) (d) : (dats m 0 c).before 0 t d = iblk m c 0 t :=
  before0_0_of m (dats m 0 c) rfl (fun _ => rfl) t d

theorem before_1 (c : Dev nD) (t : Fin cfg0.N) (d) : (dats m 0 c).before 1 t d = iblk m c 1 t :=
  before0_1_of m (dats m 0 c) rfl (fun _ => rfl) t d

theorem before_2 (c : Dev nD) (t : Fin cfg0.N) (d) : (dats m 0 c).before 2 t d = iblk m c 2 t :=
  before0_2_of m (dats m 0 c) rfl (fun _ => rfl) t d

theorem before_3 (c : Dev nD) (t : Fin cfg0.N) (d) : (dats m 0 c).before 3 t d = iblk m c 3 t :=
  before0_3_of m (dats m 0 c) rfl (fun _ => rfl) t d

theorem before_4 (c : Dev nD) (t : Fin cfg0.N) (d) : (dats m 0 c).before 4 t d = iblk m c 4 t :=
  before0_4_of m (dats m 0 c) rfl (fun _ => rfl) t d

theorem before_5 (c : Dev nD) (t : Fin cfg0.N) (d) : (dats m 0 c).before 5 t d = iblk m c 5 t :=
  before0_5_of m (dats m 0 c) rfl (fun _ => rfl) t d

theorem before_6 (c : Dev nD) (t : Fin cfg0.N) (d) : (dats m 0 c).before 6 t d = iblk m c 6 t :=
  before0_6_of m (dats m 0 c) rfl (fun _ => rfl) t d

theorem before_7 (c : Dev nD) (t : Fin cfg0.N) (d) : (dats m 0 c).before 7 t d = iblk m c 7 t :=
  before0_7_of m (dats m 0 c) rfl (fun _ => rfl) t d

theorem before_8 (c : Dev nD) (t : Fin cfg0.N) (d) : (dats m 0 c).before 8 t d = iblk m c 8 t :=
  before0_8_of m (dats m 0 c) rfl (fun _ => rfl) t d

theorem before_9 (c : Dev nD) (t : Fin cfg0.N) (d) : (dats m 0 c).before 9 t d = iblk m c 9 t :=
  before0_9_of m (dats m 0 c) rfl (fun _ => rfl) t d

theorem before_10 (c : Dev nD) (t : Fin cfg0.N) (d) : (dats m 0 c).before 10 t d = iblk m c 10 t :=
  before0_10_of m (dats m 0 c) rfl (fun _ => rfl) t d

theorem before_11 (c : Dev nD) (t : Fin cfg0.N) (d) : (dats m 0 c).before 11 t d = iblk m c 11 t :=
  before0_11_of m (dats m 0 c) rfl (fun _ => rfl) t d
set_option maxHeartbeats 1000000 in
theorem before_12 (c : Dev nD) (t : Fin cfg0.N) (d) : (dats m 0 c).before 12 t d = iblk m c 12 t :=
  before0_12_of m (dats m 0 c) rfl (fun _ => rfl) t d

theorem before_13 (c : Dev nD) (t : Fin cfg0.N) (d) : (dats m 0 c).before 13 t d = iblk m c 13 t :=
  before0_13_of m (dats m 0 c) rfl (fun _ => rfl) t d
/-- Past the first point the buffer holds the sum so far. -/
theorem before_15 (c : Dev nD) (t : Fin cfg0.N) (ht : t.val ≠ 0) (d) : (dats m 0 c).before 15 t d = (accAt m c t.val).win := by
  have hf : (cfg0.win 15).flush ⟨t.val - 1, Nat.lt_of_le_of_lt (Nat.sub_le _ _) t.isLt⟩ = false := by
    rw [← Bool.not_eq_true, flush0_15]
    have : t.val < 16 := t.isLt
    show ¬ ((t.val - 1) % 16 = 15)
    omega
  rw [Pipeline.Dat.before_out_kept (dats m 0 c) 15 rfl t ht hf (fun _ => rfl) (fun _ _ => rfl)]
  dsimp only [dats]
  rw [show t.val - 1 + 1 = t.val by omega]
/-- Past the first point the buffer holds the sum so far. -/
theorem before_16 (c : Dev nD) (t : Fin cfg0.N) (ht : t.val ≠ 0) (d) : (dats m 0 c).before 16 t d = (accAt m c t.val).uq := by
  have hf : (cfg0.win 16).flush ⟨t.val - 1, Nat.lt_of_le_of_lt (Nat.sub_le _ _) t.isLt⟩ = false := by
    rw [← Bool.not_eq_true, flush0_16]
    have : t.val < 16 := t.isLt
    show ¬ ((t.val - 1) % 16 = 15)
    omega
  rw [Pipeline.Dat.before_out_kept (dats m 0 c) 16 rfl t ht hf (fun _ => rfl) (fun _ _ => rfl)]
  dsimp only [dats]
  rw [show t.val - 1 + 1 = t.val by omega]
/-- Past the first point the buffer holds the sum so far. -/
theorem before_17 (c : Dev nD) (t : Fin cfg0.N) (ht : t.val ≠ 0) (d) : (dats m 0 c).before 17 t d = (accAt m c t.val).kv := by
  have hf : (cfg0.win 17).flush ⟨t.val - 1, Nat.lt_of_le_of_lt (Nat.sub_le _ _) t.isLt⟩ = false := by
    rw [← Bool.not_eq_true, flush0_17]
    have : t.val < 16 := t.isLt
    show ¬ ((t.val - 1) % 16 = 15)
    omega
  rw [Pipeline.Dat.before_out_kept (dats m 0 c) 17 rfl t ht hf (fun _ => rfl) (fun _ _ => rfl)]
  dsimp only [dats]
  rw [show t.val - 1 + 1 = t.val by omega]
/-- Past the first point the buffer holds the sum so far. -/
theorem before_18 (c : Dev nD) (t : Fin cfg0.N) (ht : t.val ≠ 0) (d) : (dats m 0 c).before 18 t d = (accAt m c t.val).vec := by
  have hf : (cfg0.win 18).flush ⟨t.val - 1, Nat.lt_of_le_of_lt (Nat.sub_le _ _) t.isLt⟩ = false := by
    rw [← Bool.not_eq_true, flush0_18]
    have : t.val < 16 := t.isLt
    show ¬ ((t.val - 1) % 16 = 15)
    omega
  rw [Pipeline.Dat.before_out_kept (dats m 0 c) 18 rfl t ht hf (fun _ => rfl) (fun _ _ => rfl)]
  dsimp only [dats]
  rw [show t.val - 1 + 1 = t.val by omega]
theorem enter_0 (c : Dev nD) (t : Fin cfg0.N) (d) :
    (owns (c : Thread nD τ) ((cfg0.win 0).stage (cfg0.slots t 0)) fullShare ((dats m 0 c).before 0 t d) : sProp 𝕄) = ow c ((cfg0.win 0).stage (cfg0.slots t 0)) (iblk m c 0 t) := by
  rw [owns_eq_ow c _ (show ((cfg0.win 0).stage (cfg0.slots t 0)).IsWhole from hstage0_0 ((cfg0.slots t 0).cast nbuf0_0))]; rw [before_0]
theorem enter_1 (c : Dev nD) (t : Fin cfg0.N) (d) :
    (owns (c : Thread nD τ) ((cfg0.win 1).stage (cfg0.slots t 1)) fullShare ((dats m 0 c).before 1 t d) : sProp 𝕄) = ow c ((cfg0.win 1).stage (cfg0.slots t 1)) (iblk m c 1 t) := by
  rw [owns_eq_ow c _ (show ((cfg0.win 1).stage (cfg0.slots t 1)).IsWhole from hstage0_1 ((cfg0.slots t 1).cast nbuf0_1))]; rw [before_1]
theorem enter_2 (c : Dev nD) (t : Fin cfg0.N) (d) :
    (owns (c : Thread nD τ) ((cfg0.win 2).stage (cfg0.slots t 2)) fullShare ((dats m 0 c).before 2 t d) : sProp 𝕄) = ow c ((cfg0.win 2).stage (cfg0.slots t 2)) (iblk m c 2 t) := by
  rw [owns_eq_ow c _ (show ((cfg0.win 2).stage (cfg0.slots t 2)).IsWhole from hstage0_2 ((cfg0.slots t 2).cast nbuf0_2))]; rw [before_2]
theorem enter_3 (c : Dev nD) (t : Fin cfg0.N) (d) :
    (owns (c : Thread nD τ) ((cfg0.win 3).stage (cfg0.slots t 3)) fullShare ((dats m 0 c).before 3 t d) : sProp 𝕄) = ow c ((cfg0.win 3).stage (cfg0.slots t 3)) (iblk m c 3 t) := by
  rw [owns_eq_ow c _ (show ((cfg0.win 3).stage (cfg0.slots t 3)).IsWhole from hstage0_3 ((cfg0.slots t 3).cast nbuf0_3))]; rw [before_3]
theorem enter_4 (c : Dev nD) (t : Fin cfg0.N) (d) :
    (owns (c : Thread nD τ) ((cfg0.win 4).stage (cfg0.slots t 4)) fullShare ((dats m 0 c).before 4 t d) : sProp 𝕄) = ow c ((cfg0.win 4).stage (cfg0.slots t 4)) (iblk m c 4 t) := by
  rw [owns_eq_ow c _ (show ((cfg0.win 4).stage (cfg0.slots t 4)).IsWhole from hstage0_4 ((cfg0.slots t 4).cast nbuf0_4))]; rw [before_4]
theorem enter_5 (c : Dev nD) (t : Fin cfg0.N) (d) :
    (owns (c : Thread nD τ) ((cfg0.win 5).stage (cfg0.slots t 5)) fullShare ((dats m 0 c).before 5 t d) : sProp 𝕄) = ow c ((cfg0.win 5).stage (cfg0.slots t 5)) (iblk m c 5 t) := by
  rw [owns_eq_ow c _ (show ((cfg0.win 5).stage (cfg0.slots t 5)).IsWhole from hstage0_5 ((cfg0.slots t 5).cast nbuf0_5))]; rw [before_5]
theorem enter_6 (c : Dev nD) (t : Fin cfg0.N) (d) :
    (owns (c : Thread nD τ) ((cfg0.win 6).stage (cfg0.slots t 6)) fullShare ((dats m 0 c).before 6 t d) : sProp 𝕄) = ow c ((cfg0.win 6).stage (cfg0.slots t 6)) (iblk m c 6 t) := by
  rw [owns_eq_ow c _ (show ((cfg0.win 6).stage (cfg0.slots t 6)).IsWhole from hstage0_6 ((cfg0.slots t 6).cast nbuf0_6))]; rw [before_6]
theorem enter_7 (c : Dev nD) (t : Fin cfg0.N) (d) :
    (owns (c : Thread nD τ) ((cfg0.win 7).stage (cfg0.slots t 7)) fullShare ((dats m 0 c).before 7 t d) : sProp 𝕄) = ow c ((cfg0.win 7).stage (cfg0.slots t 7)) (iblk m c 7 t) := by
  rw [owns_eq_ow c _ (show ((cfg0.win 7).stage (cfg0.slots t 7)).IsWhole from hstage0_7 ((cfg0.slots t 7).cast nbuf0_7))]; rw [before_7]
theorem enter_8 (c : Dev nD) (t : Fin cfg0.N) (d) :
    (owns (c : Thread nD τ) ((cfg0.win 8).stage (cfg0.slots t 8)) fullShare ((dats m 0 c).before 8 t d) : sProp 𝕄) = ow c ((cfg0.win 8).stage (cfg0.slots t 8)) (iblk m c 8 t) := by
  rw [owns_eq_ow c _ (show ((cfg0.win 8).stage (cfg0.slots t 8)).IsWhole from hstage0_8 ((cfg0.slots t 8).cast nbuf0_8))]; rw [before_8]
theorem enter_9 (c : Dev nD) (t : Fin cfg0.N) (d) :
    (owns (c : Thread nD τ) ((cfg0.win 9).stage (cfg0.slots t 9)) fullShare ((dats m 0 c).before 9 t d) : sProp 𝕄) = ow c ((cfg0.win 9).stage (cfg0.slots t 9)) (iblk m c 9 t) := by
  rw [owns_eq_ow c _ (show ((cfg0.win 9).stage (cfg0.slots t 9)).IsWhole from hstage0_9 ((cfg0.slots t 9).cast nbuf0_9))]; rw [before_9]
theorem enter_10 (c : Dev nD) (t : Fin cfg0.N) (d) :
    (owns (c : Thread nD τ) ((cfg0.win 10).stage (cfg0.slots t 10)) fullShare ((dats m 0 c).before 10 t d) : sProp 𝕄) = ow c ((cfg0.win 10).stage (cfg0.slots t 10)) (iblk m c 10 t) := by
  rw [owns_eq_ow c _ (show ((cfg0.win 10).stage (cfg0.slots t 10)).IsWhole from hstage0_10 ((cfg0.slots t 10).cast nbuf0_10))]; rw [before_10]
theorem enter_11 (c : Dev nD) (t : Fin cfg0.N) (d) :
    (owns (c : Thread nD τ) ((cfg0.win 11).stage (cfg0.slots t 11)) fullShare ((dats m 0 c).before 11 t d) : sProp 𝕄) = ow c ((cfg0.win 11).stage (cfg0.slots t 11)) (iblk m c 11 t) := by
  rw [owns_eq_ow c _ (show ((cfg0.win 11).stage (cfg0.slots t 11)).IsWhole from hstage0_11 ((cfg0.slots t 11).cast nbuf0_11))]; rw [before_11]
theorem enter_12 (c : Dev nD) (t : Fin cfg0.N) (d) :
    (owns (c : Thread nD τ) ((cfg0.win 12).stage (cfg0.slots t 12)) fullShare ((dats m 0 c).before 12 t d) : sProp 𝕄) = ow c ((cfg0.win 12).stage (cfg0.slots t 12)) (iblk m c 12 t) := by
  rw [owns_eq_ow c _ (show ((cfg0.win 12).stage (cfg0.slots t 12)).IsWhole from hstage0_12 ((cfg0.slots t 12).cast nbuf0_12))]; rw [before_12]
theorem enter_13 (c : Dev nD) (t : Fin cfg0.N) (d) :
    (owns (c : Thread nD τ) ((cfg0.win 13).stage (cfg0.slots t 13)) fullShare ((dats m 0 c).before 13 t d) : sProp 𝕄) = ow c ((cfg0.win 13).stage (cfg0.slots t 13)) (iblk m c 13 t) := by
  rw [owns_eq_ow c _ (show ((cfg0.win 13).stage (cfg0.slots t 13)).IsWhole from hstage0_13 ((cfg0.slots t 13).cast nbuf0_13))]; rw [before_13]
theorem enter_14 (c : Dev nD) (t : Fin cfg0.N) (d) :
    (owns (c : Thread nD τ) ((cfg0.win 14).stage (cfg0.slots t 14)) fullShare ((dats m 0 c).before 14 t d) : sProp 𝕄) = ow c ((cfg0.win 14).stage (cfg0.slots t 14)) ((dats m 0 c).before 14 t d) := by
  rw [owns_eq_ow c _ (show ((cfg0.win 14).stage (cfg0.slots t 14)).IsWhole from hstage0_14 ((cfg0.slots t 14).cast nbuf0_14))]
theorem enter_15 (c : Dev nD) (t : Fin cfg0.N) (d) :
    (owns (c : Thread nD τ) ((cfg0.win 15).stage (cfg0.slots t 15)) fullShare ((dats m 0 c).before 15 t d) : sProp 𝕄) = ow c ((cfg0.win 15).stage (cfg0.slots t 15)) ((dats m 0 c).before 15 t d) := by
  rw [owns_eq_ow c _ (show ((cfg0.win 15).stage (cfg0.slots t 15)).IsWhole from hstage0_15 ((cfg0.slots t 15).cast nbuf0_15))]
theorem enter_16 (c : Dev nD) (t : Fin cfg0.N) (d) :
    (owns (c : Thread nD τ) ((cfg0.win 16).stage (cfg0.slots t 16)) fullShare ((dats m 0 c).before 16 t d) : sProp 𝕄) = ow c ((cfg0.win 16).stage (cfg0.slots t 16)) ((dats m 0 c).before 16 t d) := by
  rw [owns_eq_ow c _ (show ((cfg0.win 16).stage (cfg0.slots t 16)).IsWhole from hstage0_16 ((cfg0.slots t 16).cast nbuf0_16))]
theorem enter_17 (c : Dev nD) (t : Fin cfg0.N) (d) :
    (owns (c : Thread nD τ) ((cfg0.win 17).stage (cfg0.slots t 17)) fullShare ((dats m 0 c).before 17 t d) : sProp 𝕄) = ow c ((cfg0.win 17).stage (cfg0.slots t 17)) ((dats m 0 c).before 17 t d) := by
  rw [owns_eq_ow c _ (show ((cfg0.win 17).stage (cfg0.slots t 17)).IsWhole from hstage0_17 ((cfg0.slots t 17).cast nbuf0_17))]
theorem enter_18 (c : Dev nD) (t : Fin cfg0.N) (d) :
    (owns (c : Thread nD τ) ((cfg0.win 18).stage (cfg0.slots t 18)) fullShare ((dats m 0 c).before 18 t d) : sProp 𝕄) = ow c ((cfg0.win 18).stage (cfg0.slots t 18)) ((dats m 0 c).before 18 t d) := by
  rw [owns_eq_ow c _ (show ((cfg0.win 18).stage (cfg0.slots t 18)).IsWhole from hstage0_18 ((cfg0.slots t 18).cast nbuf0_18))]
theorem leave_0 (c : Dev nD) (t : Fin cfg0.N) : ((dats m 0 c).leavesExact 0 t : sProp 𝕄) = ow c ((cfg0.win 0).stage (cfg0.slots t 0)) (iblk m c 0 t) := by
  rw [← owns_eq_ow c _ (show ((cfg0.win 0).stage (cfg0.slots t 0)).IsWhole from hstage0_0 ((cfg0.slots t 0).cast nbuf0_0))]; rfl
theorem leave_1 (c : Dev nD) (t : Fin cfg0.N) : ((dats m 0 c).leavesExact 1 t : sProp 𝕄) = ow c ((cfg0.win 1).stage (cfg0.slots t 1)) (iblk m c 1 t) := by
  rw [← owns_eq_ow c _ (show ((cfg0.win 1).stage (cfg0.slots t 1)).IsWhole from hstage0_1 ((cfg0.slots t 1).cast nbuf0_1))]; rfl
theorem leave_2 (c : Dev nD) (t : Fin cfg0.N) : ((dats m 0 c).leavesExact 2 t : sProp 𝕄) = ow c ((cfg0.win 2).stage (cfg0.slots t 2)) (iblk m c 2 t) := by
  rw [← owns_eq_ow c _ (show ((cfg0.win 2).stage (cfg0.slots t 2)).IsWhole from hstage0_2 ((cfg0.slots t 2).cast nbuf0_2))]; rfl
theorem leave_3 (c : Dev nD) (t : Fin cfg0.N) : ((dats m 0 c).leavesExact 3 t : sProp 𝕄) = ow c ((cfg0.win 3).stage (cfg0.slots t 3)) (iblk m c 3 t) := by
  rw [← owns_eq_ow c _ (show ((cfg0.win 3).stage (cfg0.slots t 3)).IsWhole from hstage0_3 ((cfg0.slots t 3).cast nbuf0_3))]; rfl
theorem leave_4 (c : Dev nD) (t : Fin cfg0.N) : ((dats m 0 c).leavesExact 4 t : sProp 𝕄) = ow c ((cfg0.win 4).stage (cfg0.slots t 4)) (iblk m c 4 t) := by
  rw [← owns_eq_ow c _ (show ((cfg0.win 4).stage (cfg0.slots t 4)).IsWhole from hstage0_4 ((cfg0.slots t 4).cast nbuf0_4))]; rfl
theorem leave_5 (c : Dev nD) (t : Fin cfg0.N) : ((dats m 0 c).leavesExact 5 t : sProp 𝕄) = ow c ((cfg0.win 5).stage (cfg0.slots t 5)) (iblk m c 5 t) := by
  rw [← owns_eq_ow c _ (show ((cfg0.win 5).stage (cfg0.slots t 5)).IsWhole from hstage0_5 ((cfg0.slots t 5).cast nbuf0_5))]; rfl
theorem leave_6 (c : Dev nD) (t : Fin cfg0.N) : ((dats m 0 c).leavesExact 6 t : sProp 𝕄) = ow c ((cfg0.win 6).stage (cfg0.slots t 6)) (iblk m c 6 t) := by
  rw [← owns_eq_ow c _ (show ((cfg0.win 6).stage (cfg0.slots t 6)).IsWhole from hstage0_6 ((cfg0.slots t 6).cast nbuf0_6))]; rfl
theorem leave_7 (c : Dev nD) (t : Fin cfg0.N) : ((dats m 0 c).leavesExact 7 t : sProp 𝕄) = ow c ((cfg0.win 7).stage (cfg0.slots t 7)) (iblk m c 7 t) := by
  rw [← owns_eq_ow c _ (show ((cfg0.win 7).stage (cfg0.slots t 7)).IsWhole from hstage0_7 ((cfg0.slots t 7).cast nbuf0_7))]; rfl
theorem leave_8 (c : Dev nD) (t : Fin cfg0.N) : ((dats m 0 c).leavesExact 8 t : sProp 𝕄) = ow c ((cfg0.win 8).stage (cfg0.slots t 8)) (iblk m c 8 t) := by
  rw [← owns_eq_ow c _ (show ((cfg0.win 8).stage (cfg0.slots t 8)).IsWhole from hstage0_8 ((cfg0.slots t 8).cast nbuf0_8))]; rfl
theorem leave_9 (c : Dev nD) (t : Fin cfg0.N) : ((dats m 0 c).leavesExact 9 t : sProp 𝕄) = ow c ((cfg0.win 9).stage (cfg0.slots t 9)) (iblk m c 9 t) := by
  rw [← owns_eq_ow c _ (show ((cfg0.win 9).stage (cfg0.slots t 9)).IsWhole from hstage0_9 ((cfg0.slots t 9).cast nbuf0_9))]; rfl
theorem leave_10 (c : Dev nD) (t : Fin cfg0.N) : ((dats m 0 c).leavesExact 10 t : sProp 𝕄) = ow c ((cfg0.win 10).stage (cfg0.slots t 10)) (iblk m c 10 t) := by
  rw [← owns_eq_ow c _ (show ((cfg0.win 10).stage (cfg0.slots t 10)).IsWhole from hstage0_10 ((cfg0.slots t 10).cast nbuf0_10))]; rfl
theorem leave_11 (c : Dev nD) (t : Fin cfg0.N) : ((dats m 0 c).leavesExact 11 t : sProp 𝕄) = ow c ((cfg0.win 11).stage (cfg0.slots t 11)) (iblk m c 11 t) := by
  rw [← owns_eq_ow c _ (show ((cfg0.win 11).stage (cfg0.slots t 11)).IsWhole from hstage0_11 ((cfg0.slots t 11).cast nbuf0_11))]; rfl
theorem leave_12 (c : Dev nD) (t : Fin cfg0.N) : ((dats m 0 c).leavesExact 12 t : sProp 𝕄) = ow c ((cfg0.win 12).stage (cfg0.slots t 12)) (iblk m c 12 t) := by
  rw [← owns_eq_ow c _ (show ((cfg0.win 12).stage (cfg0.slots t 12)).IsWhole from hstage0_12 ((cfg0.slots t 12).cast nbuf0_12))]; rfl
theorem leave_13 (c : Dev nD) (t : Fin cfg0.N) : ((dats m 0 c).leavesExact 13 t : sProp 𝕄) = ow c ((cfg0.win 13).stage (cfg0.slots t 13)) (iblk m c 13 t) := by
  rw [← owns_eq_ow c _ (show ((cfg0.win 13).stage (cfg0.slots t 13)).IsWhole from hstage0_13 ((cfg0.slots t 13).cast nbuf0_13))]; rfl
theorem leave_14 (c : Dev nD) (t : Fin cfg0.N) : ((dats m 0 c).leavesExact 14 t : sProp 𝕄) = ow c ((cfg0.win 14).stage (cfg0.slots t 14)) (gxOut (insAt m c t)) := by
  rw [← owns_eq_ow c _ (show ((cfg0.win 14).stage (cfg0.slots t 14)).IsWhole from hstage0_14 ((cfg0.slots t 14).cast nbuf0_14))]; rfl
theorem leave_15 (c : Dev nD) (t : Fin cfg0.N) : ((dats m 0 c).leavesExact 15 t : sProp 𝕄) = ow c ((cfg0.win 15).stage (cfg0.slots t 15)) (accAt m c (t.val + 1)).win := by
  rw [← owns_eq_ow c _ (show ((cfg0.win 15).stage (cfg0.slots t 15)).IsWhole from hstage0_15 ((cfg0.slots t 15).cast nbuf0_15))]; rfl
theorem leave_16 (c : Dev nD) (t : Fin cfg0.N) : ((dats m 0 c).leavesExact 16 t : sProp 𝕄) = ow c ((cfg0.win 16).stage (cfg0.slots t 16)) (accAt m c (t.val + 1)).uq := by
  rw [← owns_eq_ow c _ (show ((cfg0.win 16).stage (cfg0.slots t 16)).IsWhole from hstage0_16 ((cfg0.slots t 16).cast nbuf0_16))]; rfl
theorem leave_17 (c : Dev nD) (t : Fin cfg0.N) : ((dats m 0 c).leavesExact 17 t : sProp 𝕄) = ow c ((cfg0.win 17).stage (cfg0.slots t 17)) (accAt m c (t.val + 1)).kv := by
  rw [← owns_eq_ow c _ (show ((cfg0.win 17).stage (cfg0.slots t 17)).IsWhole from hstage0_17 ((cfg0.slots t 17).cast nbuf0_17))]; rfl
theorem leave_18 (c : Dev nD) (t : Fin cfg0.N) : ((dats m 0 c).leavesExact 18 t : sProp 𝕄) = ow c ((cfg0.win 18).stage (cfg0.slots t 18)) (accAt m c (t.val + 1)).vec := by
  rw [← owns_eq_ow c _ (show ((cfg0.win 18).stage (cfg0.slots t 18)).IsWhole from hstage0_18 ((cfg0.slots t 18).cast nbuf0_18))]; rfl

set_option maxHeartbeats 2000000 in
/-- The body's run at a point, on the staging buffers. -/
theorem point_run (c : Dev nD) (t : Fin cfg0.N) :
    iprop((dats m 0 c).Φ t.castSucc ∗ (dats m 0 c).owesAt () t.castSucc ∗ (∃ d, owns (c : Thread nD τ) ((cfg0.win 0).stage (cfg0.slots t 0)) fullShare ((dats m 0 c).before 0 t d)) ∗ (∃ d, owns (c : Thread nD τ) ((cfg0.win 1).stage (cfg0.slots t 1)) fullShare ((dats m 0 c).before 1 t d)) ∗ (∃ d, owns (c : Thread nD τ) ((cfg0.win 2).stage (cfg0.slots t 2)) fullShare ((dats m 0 c).before 2 t d)) ∗ (∃ d, owns (c : Thread nD τ) ((cfg0.win 3).stage (cfg0.slots t 3)) fullShare ((dats m 0 c).before 3 t d)) ∗ (∃ d, owns (c : Thread nD τ) ((cfg0.win 4).stage (cfg0.slots t 4)) fullShare ((dats m 0 c).before 4 t d)) ∗ (∃ d, owns (c : Thread nD τ) ((cfg0.win 5).stage (cfg0.slots t 5)) fullShare ((dats m 0 c).before 5 t d)) ∗ (∃ d, owns (c : Thread nD τ) ((cfg0.win 6).stage (cfg0.slots t 6)) fullShare ((dats m 0 c).before 6 t d)) ∗ (∃ d, owns (c : Thread nD τ) ((cfg0.win 7).stage (cfg0.slots t 7)) fullShare ((dats m 0 c).before 7 t d)) ∗ (∃ d, owns (c : Thread nD τ) ((cfg0.win 8).stage (cfg0.slots t 8)) fullShare ((dats m 0 c).before 8 t d)) ∗ (∃ d, owns (c : Thread nD τ) ((cfg0.win 9).stage (cfg0.slots t 9)) fullShare ((dats m 0 c).before 9 t d)) ∗ (∃ d, owns (c : Thread nD τ) ((cfg0.win 10).stage (cfg0.slots t 10)) fullShare ((dats m 0 c).before 10 t d)) ∗ (∃ d, owns (c : Thread nD τ) ((cfg0.win 11).stage (cfg0.slots t 11)) fullShare ((dats m 0 c).before 11 t d)) ∗ (∃ d, owns (c : Thread nD τ) ((cfg0.win 12).stage (cfg0.slots t 12)) fullShare ((dats m 0 c).before 12 t d)) ∗ (∃ d, owns (c : Thread nD τ) ((cfg0.win 13).stage (cfg0.slots t 13)) fullShare ((dats m 0 c).before 13 t d)) ∗ (∃ d, owns (c : Thread nD τ) ((cfg0.win 14).stage (cfg0.slots t 14)) fullShare ((dats m 0 c).before 14 t d)) ∗ (∃ d, owns (c : Thread nD τ) ((cfg0.win 15).stage (cfg0.slots t 15)) fullShare ((dats m 0 c).before 15 t d)) ∗ (∃ d, owns (c : Thread nD τ) ((cfg0.win 16).stage (cfg0.slots t 16)) fullShare ((dats m 0 c).before 16 t d)) ∗ (∃ d, owns (c : Thread nD τ) ((cfg0.win 17).stage (cfg0.slots t 17)) fullShare ((dats m 0 c).before 17 t d)) ∗ (∃ d, owns (c : Thread nD τ) ((cfg0.win 18).stage (cfg0.slots t 18)) fullShare ((dats m 0 c).before 18 t d)))
      ⊢ wp frame (wpE (defs₀ (F := F)) 𝒱₀ (c : Thread nD τ) none) Set.univ (Gen.bodyAt0 t) (fun _ => iprop((dats m 0 c).Φ t.succ ∗ (dats m 0 c).owesAt () t.succ ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t ∗ (dats m 0 c).leavesExact 9 t ∗ (dats m 0 c).leavesExact 10 t ∗ (dats m 0 c).leavesExact 11 t ∗ (dats m 0 c).leavesExact 12 t ∗ (dats m 0 c).leavesExact 13 t ∗ (dats m 0 c).leavesExact 14 t ∗ (dats m 0 c).leavesExact 15 t ∗ (dats m 0 c).leavesExact 16 t ∗ (dats m 0 c).leavesExact 17 t ∗ (dats m 0 c).leavesExact 18 t)) := by
  rw [show (dats m 0 c).Φ t.succ = (dats m 0 c).Φ t.castSucc from rfl, show (dats m 0 c).owesAt () t.succ = (dats m 0 c).owesAt () t.castSucc from rfl]
  iintro ⟨Hg, Howes, ⟨%d0, H1⟩, ⟨%d1, H2⟩, ⟨%d2, H3⟩, ⟨%d3, H4⟩, ⟨%d4, H5⟩, ⟨%d5, H6⟩, ⟨%d6, H7⟩, ⟨%d7, H8⟩, ⟨%d8, H9⟩, ⟨%d9, H10⟩, ⟨%d10, H11⟩, ⟨%d11, H12⟩, ⟨%d12, H13⟩, ⟨%d13, H14⟩, ⟨%d14, H15⟩, ⟨%d15, H16⟩, ⟨%d16, H17⟩, ⟨%d17, H18⟩, ⟨%d18, H19⟩⟩
  have hS : point (grid0.coords t) (insAt m c t) ⟨(dats m 0 c).before 15 t d15, (dats m 0 c).before 16 t d16, (dats m 0 c).before 17 t d17, (dats m 0 c).before 18 t d18⟩
      = accAt m c (t.val + 1) := by
    rw [accAt_succ]
    by_cases h0 : t.val = 0
    · exact point_first _ (by rw [coords_zero, h0]) _ _ _
    · rw [before_15 m c t h0, before_16 m c t h0, before_17 m c t h0, before_18 m c t h0]
  have hrun := body_run (F := F) c (grid0.coords t)
    (harg1 := show ((cfg0.win 0).stage (cfg0.slots t 0)).IsWhole from hstage0_0 ((cfg0.slots t 0).cast nbuf0_0))
    (harg2 := show ((cfg0.win 1).stage (cfg0.slots t 1)).IsWhole from hstage0_1 ((cfg0.slots t 1).cast nbuf0_1))
    (harg3 := show ((cfg0.win 2).stage (cfg0.slots t 2)).IsWhole from hstage0_2 ((cfg0.slots t 2).cast nbuf0_2))
    (harg4 := show ((cfg0.win 3).stage (cfg0.slots t 3)).IsWhole from hstage0_3 ((cfg0.slots t 3).cast nbuf0_3))
    (harg5 := show ((cfg0.win 4).stage (cfg0.slots t 4)).IsWhole from hstage0_4 ((cfg0.slots t 4).cast nbuf0_4))
    (harg6 := show ((cfg0.win 5).stage (cfg0.slots t 5)).IsWhole from hstage0_5 ((cfg0.slots t 5).cast nbuf0_5))
    (harg7 := show ((cfg0.win 6).stage (cfg0.slots t 6)).IsWhole from hstage0_6 ((cfg0.slots t 6).cast nbuf0_6))
    (harg8 := show ((cfg0.win 7).stage (cfg0.slots t 7)).IsWhole from hstage0_7 ((cfg0.slots t 7).cast nbuf0_7))
    (harg9 := show ((cfg0.win 8).stage (cfg0.slots t 8)).IsWhole from hstage0_8 ((cfg0.slots t 8).cast nbuf0_8))
    (harg10 := show ((cfg0.win 9).stage (cfg0.slots t 9)).IsWhole from hstage0_9 ((cfg0.slots t 9).cast nbuf0_9))
    (harg11 := show ((cfg0.win 10).stage (cfg0.slots t 10)).IsWhole from hstage0_10 ((cfg0.slots t 10).cast nbuf0_10))
    (harg12 := show ((cfg0.win 11).stage (cfg0.slots t 11)).IsWhole from hstage0_11 ((cfg0.slots t 11).cast nbuf0_11))
    (harg13 := show ((cfg0.win 12).stage (cfg0.slots t 12)).IsWhole from hstage0_12 ((cfg0.slots t 12).cast nbuf0_12))
    (harg14 := show ((cfg0.win 13).stage (cfg0.slots t 13)).IsWhole from hstage0_13 ((cfg0.slots t 13).cast nbuf0_13))
    (harg15 := show ((cfg0.win 14).stage (cfg0.slots t 14)).IsWhole from hstage0_14 ((cfg0.slots t 14).cast nbuf0_14))
    (harg16 := show ((cfg0.win 15).stage (cfg0.slots t 15)).IsWhole from hstage0_15 ((cfg0.slots t 15).cast nbuf0_15))
    (harg17 := show ((cfg0.win 16).stage (cfg0.slots t 16)).IsWhole from hstage0_16 ((cfg0.slots t 16).cast nbuf0_16))
    (harg18 := show ((cfg0.win 17).stage (cfg0.slots t 17)).IsWhole from hstage0_17 ((cfg0.slots t 17).cast nbuf0_17))
    (harg19 := show ((cfg0.win 18).stage (cfg0.slots t 18)).IsWhole from hstage0_18 ((cfg0.slots t 18).cast nbuf0_18))
    (insAt m c t) ((dats m 0 c).before 14 t d14) ⟨(dats m 0 c).before 15 t d15, (dats m 0 c).before 16 t d16, (dats m 0 c).before 17 t d17, (dats m 0 c).before 18 t d18⟩
  rw [hS] at hrun
  iapply wp_wand_r
  isplitl [H1 H2 H3 H4 H5 H6 H7 H8 H9 H10 H11 H12 H13 H14 H15 H16 H17 H18 H19]
  · iapply hrun
    isplitl [H1]; · iapply (Entails.of_eq (enter_0 m c t d0)); iexact H1
    isplitl [H2]; · iapply (Entails.of_eq (enter_1 m c t d1)); iexact H2
    isplitl [H3]; · iapply (Entails.of_eq (enter_2 m c t d2)); iexact H3
    isplitl [H4]; · iapply (Entails.of_eq (enter_3 m c t d3)); iexact H4
    isplitl [H5]; · iapply (Entails.of_eq (enter_4 m c t d4)); iexact H5
    isplitl [H6]; · iapply (Entails.of_eq (enter_5 m c t d5)); iexact H6
    isplitl [H7]; · iapply (Entails.of_eq (enter_6 m c t d6)); iexact H7
    isplitl [H8]; · iapply (Entails.of_eq (enter_7 m c t d7)); iexact H8
    isplitl [H9]; · iapply (Entails.of_eq (enter_8 m c t d8)); iexact H9
    isplitl [H10]; · iapply (Entails.of_eq (enter_9 m c t d9)); iexact H10
    isplitl [H11]; · iapply (Entails.of_eq (enter_10 m c t d10)); iexact H11
    isplitl [H12]; · iapply (Entails.of_eq (enter_11 m c t d11)); iexact H12
    isplitl [H13]; · iapply (Entails.of_eq (enter_12 m c t d12)); iexact H13
    isplitl [H14]; · iapply (Entails.of_eq (enter_13 m c t d13)); iexact H14
    isplitl [H15]; · iapply (Entails.of_eq (enter_14 m c t d14)); iexact H15
    isplitl [H16]; · iapply (Entails.of_eq (enter_15 m c t d15)); iexact H16
    isplitl [H17]; · iapply (Entails.of_eq (enter_16 m c t d16)); iexact H17
    isplitl [H18]; · iapply (Entails.of_eq (enter_17 m c t d17)); iexact H18
    iapply (Entails.of_eq (enter_18 m c t d18)); iexact H19
  iintro %r ⟨H1, H2, H3, H4, H5, H6, H7, H8, H9, H10, H11, H12, H13, H14, H15, H16, H17, H18, H19⟩
  isplitl [Hg]; · iexact Hg
  isplitl [Howes]; · iexact Howes
  isplitl [H1]; · iapply (Entails.of_eq (leave_0 m c t).symm); iexact H1
  isplitl [H2]; · iapply (Entails.of_eq (leave_1 m c t).symm); iexact H2
  isplitl [H3]; · iapply (Entails.of_eq (leave_2 m c t).symm); iexact H3
  isplitl [H4]; · iapply (Entails.of_eq (leave_3 m c t).symm); iexact H4
  isplitl [H5]; · iapply (Entails.of_eq (leave_4 m c t).symm); iexact H5
  isplitl [H6]; · iapply (Entails.of_eq (leave_5 m c t).symm); iexact H6
  isplitl [H7]; · iapply (Entails.of_eq (leave_6 m c t).symm); iexact H7
  isplitl [H8]; · iapply (Entails.of_eq (leave_7 m c t).symm); iexact H8
  isplitl [H9]; · iapply (Entails.of_eq (leave_8 m c t).symm); iexact H9
  isplitl [H10]; · iapply (Entails.of_eq (leave_9 m c t).symm); iexact H10
  isplitl [H11]; · iapply (Entails.of_eq (leave_10 m c t).symm); iexact H11
  isplitl [H12]; · iapply (Entails.of_eq (leave_11 m c t).symm); iexact H12
  isplitl [H13]; · iapply (Entails.of_eq (leave_12 m c t).symm); iexact H13
  isplitl [H14]; · iapply (Entails.of_eq (leave_13 m c t).symm); iexact H14
  isplitl [H15]; · iapply (Entails.of_eq (leave_14 m c t).symm); iexact H15
  isplitl [H16]; · iapply (Entails.of_eq (leave_15 m c t).symm); iexact H16
  isplitl [H17]; · iapply (Entails.of_eq (leave_16 m c t).symm); iexact H17
  isplitl [H18]; · iapply (Entails.of_eq (leave_17 m c t).symm); iexact H18
  iapply (Entails.of_eq (leave_18 m c t).symm); iexact H19

theorem body_obligation (c : Dev nD) : BodyObligation (dats m 0 c) (defs₀ (F := F)) 𝒱₀ () Set.univ := fun t => by
  rw [Gen.bigSep_W0, Gen.bigSep_W0, defs₀_row]
  exact point_run m c t

theorem hin (c : Dev nD) : (Pipeline.ΦA cfg0.spec c : sProp 𝕄) ⊢ (dats m 0 c).Φ 0 := by
  rw [show ((dats m 0 c).Φ 0 : sProp 𝕄) = iprop(∃ r, prngReg c r) from rfl]
  unfold Pipeline.ΦA
  iintro ⟨-, Hg⟩
  iexact Hg

theorem hout (c : Dev nD) : (dats m 0 c).Φ (Fin.last cfg0.N) ⊢ (Pipeline.ΦA cfg0.spec c : sProp 𝕄) := by
  rw [show ((dats m 0 c).Φ (Fin.last cfg0.N) : sProp 𝕄) = iprop(∃ r, prngReg c r) from rfl]
  unfold Pipeline.ΦA
  rw [show (Pipeline.scopedRest (Ix := Unit) (Name := ℕ) (U := UR sig nD τ) (Lvl := ℕ) (Val := Elt F) cfg0.spec c : sProp 𝕄) = _ from scopedRest0_eq c]
  exact Laws.emp_sep.2

/-- THE RUN: every weakly fair execution ends, nothing faulting, each output array at what the write-backs make of it,
    every other buffer at what the host lines after the region leave, every semaphore counter at zero. -/
theorem run_main : θ_run (defs (F := F)) (onTc (τ := τ) (main (F := F))) ⟨m, fun _ => 0, ρ⟩
    (fun r => Pipeline.FramePost cfgs (dats m) 0 (Pipeline.afterTail₀ cfgs (dats m) 0 (V0 m) [hostOps1]) r ∧ r.2.sem = fun _ => 0) :=
  Pipeline.θ_run_frame_around_track cfgs (dats m) 0 Gen.launch0 (defs₀ (F := F)) 𝒱₀ m ρ main (fun c => (body_obligation m c).loose) (fun _ _ => by unfold Dat.share; split <;> rfl)
    (fun _ _ => rfl) (V0 m) [hostOps1] sfx_sub sfx_fresh sfx_keeps (Gen.hmain m 𝒱₀) (fun _ _ => rfl) (hin m) (hout m) _ (fun _ h => h)

end Cert.Kernel2Ideal.Hand
-- ==== Proof.Frames2.lean ====
/-
  The frame claims of the projections' gradient kernel: its run at any float values, read at its arguments and its
  semaphores. The printed kernel is the ideal one's text, so one run serves both.
-/
module

public import proofs.«01_k».proof.Defs
public import proofs.«01_k».proof.Proof.Run2
public import proofs.«01_k».proof.Proof.Gen.Kernel2
public import proofs.«01_k».proof.Proof.Gen.Reference2Ideal.Run

@[expose] public section

set_option maxRecDepth 100000

noncomputable section

namespace Cert.Proof

open Idealize.ShloMosaic Idealize.ShloMosaic.TcCoe Idealize.SL.Sem

section AnyValues

open Cert.Kernel2Ideal Cert.Kernel2Ideal.Gen Cert.Kernel2Ideal.Hand

variable {F : FTy → Type} [FloatOps F]
variable (m : (ℓ : Loc nD τ sig) → Buf (Elt F) ℓ) (ρ : Dev nD → PrngReg)

/-- The ideal kernel's text, run: the arguments end unchanged and every semaphore counter at zero. -/
theorem frame_any2 : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) ∧ r.2.sem = fun _ => 0) :=
  (θ_run _ _ _).mono (fun r h => ⟨fun c => ⟨
      ((h.1 c).1 0).trans (((dats m 0 c).arrAt_in 0 rfl _).trans (V_main_arg0 m c)),
      ((h.1 c).2 main_arg1 (Pipeline.mem_restRefs_of main_arg1 (by decide) (by decide))).trans (W_main_arg1 m (dats m) c),
      ((h.1 c).2 main_arg2 (Pipeline.mem_restRefs_of main_arg2 (by decide) (by decide))).trans (W_main_arg2 m (dats m) c),
      ((h.1 c).2 main_arg3 (Pipeline.mem_restRefs_of main_arg3 (by decide) (by decide))).trans (W_main_arg3 m (dats m) c),
      ((h.1 c).2 main_arg4 (Pipeline.mem_restRefs_of main_arg4 (by decide) (by decide))).trans (W_main_arg4 m (dats m) c),
      ((h.1 c).2 main_arg5 (Pipeline.mem_restRefs_of main_arg5 (by decide) (by decide))).trans (W_main_arg5 m (dats m) c),
      ((h.1 c).1 1).trans (((dats m 0 c).arrAt_in 1 rfl _).trans (V_main_arg6 m c)),
      ((h.1 c).2 main_arg7 (Pipeline.mem_restRefs_of main_arg7 (by decide) (by decide))).trans (W_main_arg7 m (dats m) c),
      ((h.1 c).2 main_arg8 (Pipeline.mem_restRefs_of main_arg8 (by decide) (by decide))).trans (W_main_arg8 m (dats m) c),
      ((h.1 c).2 main_arg9 (Pipeline.mem_restRefs_of main_arg9 (by decide) (by decide))).trans (W_main_arg9 m (dats m) c),
      ((h.1 c).2 main_arg10 (Pipeline.mem_restRefs_of main_arg10 (by decide) (by decide))).trans (W_main_arg10 m (dats m) c),
      ((h.1 c).2 main_arg11 (Pipeline.mem_restRefs_of main_arg11 (by decide) (by decide))).trans (W_main_arg11 m (dats m) c)⟩, h.2⟩) (run_main m ρ)

end AnyValues

theorem frame_ideal2 : Cert.quiescent_Kernel2Ideal := fun m ρ _ => frame_any2 m ρ

set_option maxHeartbeats 2000000 in
theorem main_same2 : Cert.Kernel2Ideal.main (F := Bits) = Cert.Kernel2.main (F := Bits) := rfl

theorem body_same2 : Cert.Kernel2Ideal.cc0_bwd_pre (F := Bits) = Cert.Kernel2.cc0_bwd_pre (F := Bits) := rfl

set_option maxHeartbeats 4000000 in
theorem defs₀_same2 : Cert.Kernel2Ideal.defs₀ (F := Bits) = Cert.Kernel2.defs₀ (F := Bits) := by
  unfold Cert.Kernel2Ideal.defs₀ Cert.Kernel2.defs₀
  refine congrArg Defs.onTc (funext fun l => ?_)
  obtain ⟨_ | n, h⟩ := l
  · rfl
  · exact absurd h (by omega)

theorem defs_same2 : Cert.Kernel2Ideal.defs (F := Bits) = Cert.Kernel2.defs (F := Bits) :=
  congrArg (Pipeline.defs (Cert.Kernel2.pcfgs (F := Bits))) defs₀_same2

set_option maxHeartbeats 2000000 in
theorem frame_kernel2 : Cert.quiescent_Kernel2 := fun m ρ _ => by
  rw [← main_same2, ← defs_same2]
  exact frame_any2 (F := Bits) m ρ

/-- The reference's run, read at its arguments and its semaphores. -/
theorem frame_reference2 : Cert.quiescent_Reference2Ideal := fun m ρ _ =>
  (θ_run Cert.Reference2Ideal.defs _ _).mono
    (fun r h => ⟨fun c => (h c).2.2.2.2.2.2, Idealize.ShloMosaic.sem_eq_zero_of_no_sems (by decide) r.2⟩)
    (Cert.Reference2Ideal.Value.run (F := Ideal) m ρ)

end Cert.Proof

end
-- ==== Proof.Model2.lean ====
/-
  The projections and their gradients over the extended reals: the root-mean-square norm, its gradient, and the quantities that
  both programs form from them.
-/
module

public import proofs.«01_k».proof.Proof.Model

@[expose] public section

set_option maxRecDepth 16384

noncomputable section

namespace Cert.Proj

open Idealize.ShloMosaic
open scoped BigOperators

/-! ## The numbers that both programs write down -/

def eps : ℝ := 10995116 / 2 ^ 40
def alpha : ℝ := 9975792 / 2 ^ 23

theorem w_eps : Ideal.ofBits .f32 0x3727C5AC#32 = ((eps : ℝ) : EReal) := by
  unfold eps; simp [Ideal.ofBits, Ideal.ieee, -EReal.coe_mul]; norm_num
theorem w_alpha : Ideal.ofBits .f32 0x3F9837F0#32 = ((alpha : ℝ) : EReal) := by
  unfold alpha; simp [Ideal.ofBits, Ideal.ieee, -EReal.coe_mul]; norm_num
theorem w_q : Ideal.ofBits .f32 0x43800000#32 = (((256 : ℕ) : ℝ) : EReal) := by
  simp [Ideal.ofBits, Ideal.ieee, -EReal.coe_mul]; norm_num
theorem w_kv : Ideal.ofBits .f32 0x43000000#32 = (((128 : ℕ) : ℝ) : EReal) := by
  simp [Ideal.ofBits, Ideal.ieee, -EReal.coe_mul]; norm_num
theorem w_half : Ideal.ofBits .f32 0xBF000000#32 = ((-(1 / 2) : ℝ) : EReal) := by
  simp [Ideal.ofBits, Ideal.ieee, -EReal.coe_mul]; norm_num

/-! ## Arrays of extended reals as functions of natural numbers -/

/-- The vector, the matrix and the array of rank three of the elements `A`. -/
def M1 {n : ℕ} (A : ℕ → EReal) : (⟨1, ![n]⟩ : Shape).Idx → EReal := fun j => A (j 0).val
def M2 {m n : ℕ} (A : ℕ → ℕ → EReal) : (⟨2, ![m, n]⟩ : Shape).Idx → EReal := fun j => A (j 0).val (j 1).val
def M3 {a b c : ℕ} (A : ℕ → ℕ → ℕ → EReal) : (⟨3, ![a, b, c]⟩ : Shape).Idx → EReal := fun j => A (j 0).val (j 1).val (j 2).val

@[simp] theorem M1_ix {n : ℕ} (A : ℕ → EReal) (x : Fin n) : M1 A (ix1 x) = A x.val := rfl
@[simp] theorem M2_ix {m n : ℕ} (A : ℕ → ℕ → EReal) (x : Fin m) (y : Fin n) : M2 A (ix2 x y) = A x.val y.val := rfl
@[simp] theorem M3_ix {a b c : ℕ} (A : ℕ → ℕ → ℕ → EReal) (x : Fin a) (y : Fin b) (z : Fin c) : M3 A (ix3 x y z) = A x.val y.val z.val := rfl

theorem M1_congr {n : ℕ} {A B : ℕ → EReal} (h : ∀ x < n, A x = B x) : (M1 A : (⟨1, ![n]⟩ : Shape).Idx → EReal) = M1 B :=
  funext fun j => h _ (j 0).isLt
theorem M2_congr {m n : ℕ} {A B : ℕ → ℕ → EReal} (h : ∀ x < m, ∀ l < n, A x l = B x l) : (M2 A : (⟨2, ![m, n]⟩ : Shape).Idx → EReal) = M2 B :=
  funext fun j => h _ (j 0).isLt _ (j 1).isLt

open VecWindow in
/-- A window of a matrix. -/
theorem window_lift {m n p q : ℕ} (A : ℕ → ℕ → EReal) (off : Fin 2 → ℕ) (o0 o1 : ℕ) (h : off = ![o0, o1])
    (inb : ∀ a, off a + (⟨2, ![p, q]⟩ : Shape).size a ≤ (⟨2, ![m, n]⟩ : Shape).size a) :
    window (s := ⟨2, ![m, n]⟩) (M2 A) off (⟨2, ![p, q]⟩ : Shape).size inb = (M2 (fun x l => A (o0 + x) (o1 + l)) : (⟨2, ![p, q]⟩ : Shape).Idx → EReal) := by
  subst h
  funext y
  show A (o0 + 1 * (y 0).val) (o1 + 1 * (y 1).val) = A (o0 + (y 0).val) (o1 + (y 1).val)
  rw [one_mul, one_mul]

open VecWindow in
/-- A matrix put over a window of another. -/
theorem put_lift {m n p q : ℕ} (A W : ℕ → ℕ → EReal) (off : Fin 2 → ℕ) (o0 o1 : ℕ) (h : off = ![o0, o1]) :
    put (s := ⟨2, ![m, n]⟩) (M2 A) off (⟨2, ![p, q]⟩ : Shape).size (M2 W : (⟨2, ![p, q]⟩ : Shape).Idx → EReal)
      = M2 (fun x l => if (o0 ≤ x ∧ x < o0 + p) ∧ (o1 ≤ l ∧ l < o1 + q) then W (x - o0) (l - o1) else A x l) := by
  subst h
  funext y
  unfold put
  by_cases hy : (o0 ≤ (y 0).val ∧ (y 0).val < o0 + p) ∧ (o1 ≤ (y 1).val ∧ (y 1).val < o1 + q)
  · rw [dif_pos (by intro a; match a with | ⟨0, _⟩ => exact hy.1 | ⟨1, _⟩ => exact hy.2)]
    show _ = if _ then _ else _
    rw [if_pos hy]; rfl
  · rw [dif_neg (fun h => hy ⟨h 0, h 1⟩)]
    show _ = if _ then _ else _
    rw [if_neg hy]; rfl

/-- A sum of products, over the numbers below `n`. -/
theorem dot_range {n : ℕ} (f g : ℕ → EReal) : (∑ x : Fin n, f x.val * g x.val) = ∑ x ∈ Finset.range n, f x * g x :=
  (Finset.sum_range (fun x => f x * g x)).symm

/-- A sum whose terms vanish from `m` on. -/
theorem sum_cut (n m : ℕ) (h : m ≤ n) (f g : ℕ → EReal) (h1 : ∀ l < m, f l = g l) (h0 : ∀ l < n, m ≤ l → f l = 0) :
    ∑ l ∈ Finset.range n, f l = ∑ l ∈ Finset.range m, g l := by
  obtain ⟨k, rfl⟩ := Nat.exists_eq_add_of_le h
  rw [Finset.sum_range_add, Finset.sum_congr rfl (fun l hl => h1 l (Finset.mem_range.1 hl)),
    Finset.sum_eq_zero (s := Finset.range k) (fun l hl => h0 _ (by have := Finset.mem_range.1 hl; omega) (by omega)), add_zero]

/-- A sum over blocks. -/
theorem sum_blocks (n m : ℕ) (f : ℕ → EReal) : ∑ i ∈ Finset.range n, ∑ r ∈ Finset.range m, f (m * i + r) = ∑ s ∈ Finset.range (m * n), f s := by
  induction n with
  | zero => simp
  | succ n ih => rw [Finset.sum_range_succ, ih, Nat.mul_succ, Finset.sum_range_add]

/-! ## The norm -/

/-- The mean square of `n` numbers, with the small number added that both programs add. -/
def ms (n : ℕ) (c : ℕ → EReal) : EReal := Ideal.div (∑ d ∈ Finset.range n, c d * c d) (((n : ℕ) : ℝ) : EReal) + ((eps : ℝ) : EReal)
def rs (n : ℕ) (c : ℕ → EReal) : EReal := Ideal.rsqrt (ms n c)
/-- The normed numbers. -/
def xh (n : ℕ) (c : ℕ → EReal) (j : ℕ) : EReal := c j * rs n c
/-- The norm's gradient: `g` the gains, `y` the gradient of the result. -/
def nb (n : ℕ) (c g y : ℕ → EReal) (j : ℕ) : EReal :=
  rs n c * (y j * g j - xh n c j * Ideal.div (∑ d ∈ Finset.range n, y d * g d * xh n c d) (((n : ℕ) : ℝ) : EReal))

theorem eps_pos : 0 < eps := by unfold eps; positivity

theorem div_pos' (x : EReal) (n : ℕ) (hn : 0 < n) : Ideal.div x (((n : ℕ) : ℝ) : EReal) = x * (((n : ℝ)⁻¹ : ℝ) : EReal) := by
  have h : (((n : ℕ) : ℝ) : EReal) ≠ 0 := by
    rw [Ne, EReal.coe_eq_zero]
    exact_mod_cast hn.ne'
  unfold Ideal.div
  rw [if_neg h, EReal.coe_inv]

theorem sq_nonneg' (x : EReal) : 0 ≤ x * x := by
  rcases le_total 0 x with h | h
  · exact mul_nonneg h h
  · have h' : 0 ≤ -x := EReal.neg_nonneg.2 h
    have := mul_nonneg h' h'
    rwa [neg_mul, mul_neg, neg_neg] at this

/-- A real factor that is not negative goes into a sum. -/
theorem mul_sum_real (r : ℝ) (hr : 0 ≤ r) (n : ℕ) (f : ℕ → EReal) :
    ((r : ℝ) : EReal) * ∑ d ∈ Finset.range n, f d = ∑ d ∈ Finset.range n, ((r : ℝ) : EReal) * f d := by
  induction n with
  | zero => simp
  | succ n ih =>
    rw [Finset.sum_range_succ, Finset.sum_range_succ, ← ih]
    exact EReal.left_distrib_of_nonneg_of_ne_top (EReal.coe_nonneg.2 hr) (EReal.coe_ne_top r) _ _

/-- The mean square is infinite, or it is a positive number and the numbers are real. -/
theorem ms_cases (n : ℕ) (hn : 0 < n) (c : ℕ → EReal) :
    ms n c = ⊤ ∨ (∃ a : ℝ, 0 < a ∧ ms n c = (a : EReal)) ∧ ∃ γ : ℕ → ℝ, ∀ d < n, c d = ((γ d : ℝ) : EReal) := by
  have hinv : 0 < ((n : ℝ)⁻¹) := inv_pos.2 (by exact_mod_cast hn)
  have hS : 0 ≤ ∑ d ∈ Finset.range n, c d * c d := Finset.sum_nonneg fun d _ => sq_nonneg' _
  by_cases ht : ∑ d ∈ Finset.range n, c d * c d = ⊤
  · left
    unfold ms
    rw [div_pos' _ _ hn, ht, EReal.top_mul_coe_of_pos hinv]
    exact EReal.top_add_coe _
  · right
    refine ⟨?_, fun d => (c d).toReal, fun d hd => ?_⟩
    · obtain ⟨s, hs⟩ : ∃ s : ℝ, ∑ d ∈ Finset.range n, c d * c d = (s : EReal) :=
        ⟨_, (EReal.coe_toReal ht (ne_bot_of_le_ne_bot (by simp) hS)).symm⟩
      have hs0 : 0 ≤ s := EReal.coe_nonneg.1 (hs ▸ hS)
      refine ⟨s * (n : ℝ)⁻¹ + eps, by have := eps_pos; positivity, ?_⟩
      unfold ms
      rw [div_pos' _ _ hn, hs, ← EReal.coe_mul, ← EReal.coe_add]
    · have h1 : c d * c d ≤ ∑ d ∈ Finset.range n, c d * c d :=
        Finset.single_le_sum (f := fun d => c d * c d) (fun d _ => sq_nonneg' _) (Finset.mem_range.2 hd)
      have h2 : c d * c d ≠ ⊤ := fun h => ht (top_le_iff.1 (h ▸ h1))
      refine (EReal.coe_toReal (fun h => h2 ?_) (fun h => h2 ?_)).symm
      · rw [h]; rfl
      · rw [h]; rfl

/-- The norm's gradient as the derivative rules print it. The two forms agree on infinite numbers too: where the mean square
    is infinite, the root's inverse is zero, and both are zero. -/
theorem nb_eq (n : ℕ) (hn : 0 < n) (c g y : ℕ → EReal) (j : ℕ) (hj : j < n) :
    y j * g j * rs n c + c j * Ideal.div ((∑ d ∈ Finset.range n, c d * (y d * g d)) * (((-(1 / 2) : ℝ) : EReal) * Ideal.div (rs n c) (ms n c))) (((n : ℕ) : ℝ) : EReal)
        + Ideal.div ((∑ d ∈ Finset.range n, c d * (y d * g d)) * (((-(1 / 2) : ℝ) : EReal) * Ideal.div (rs n c) (ms n c))) (((n : ℕ) : ℝ) : EReal) * c j
      = nb n c g y j := by
  rcases ms_cases n hn c with h | ⟨⟨a, ha, h⟩, γ, hγ⟩
  · have hr : rs n c = 0 := by unfold rs; rw [h]; rfl
    have hd : Ideal.div (rs n c) (ms n c) = 0 := by
      unfold Ideal.div
      rw [hr, h, if_neg (by simp), zero_mul]
    unfold nb
    rw [hd, hr, div_pos' _ _ hn]
    simp
  · set ρ : ℝ := (Real.sqrt a)⁻¹ with hρ
    have hρ0 : 0 < ρ := inv_pos.2 (Real.sqrt_pos.2 ha)
    have hρ2 : ρ * ρ = a⁻¹ := by rw [hρ, ← mul_inv, Real.mul_self_sqrt ha.le]
    have hr : rs n c = ((ρ : ℝ) : EReal) := by
      unfold rs
      rw [h]
      show (if a < 0 then (⊥ : EReal) else if a = 0 then ⊤ else _) = _
      rw [if_neg (not_lt.2 ha.le), if_neg ha.ne']
    have hd : Ideal.div (rs n c) (ms n c) = ((ρ * a⁻¹ : ℝ) : EReal) := by
      unfold Ideal.div
      rw [hr, h, if_neg (by rw [EReal.coe_eq_zero]; exact ha.ne'), ← EReal.coe_inv, ← EReal.coe_mul]
    have hM : ∑ d ∈ Finset.range n, y d * g d * xh n c d = ((ρ : ℝ) : EReal) * ∑ d ∈ Finset.range n, c d * (y d * g d) := by
      rw [mul_sum_real ρ hρ0.le]
      refine Finset.sum_congr rfl fun d _ => ?_
      unfold xh
      rw [hr, ← mul_assoc, mul_comm (((ρ : ℝ) : EReal)), mul_comm (y d * g d)]
    unfold nb
    rw [hM, hd, div_pos' _ _ hn, div_pos' _ _ hn]
    generalize (∑ d ∈ Finset.range n, c d * (y d * g d)) = S
    generalize y j * g j = w
    unfold xh
    rw [hr, hγ j hj, sub_eq_add_neg, EReal.left_distrib_of_nonneg_of_ne_top (EReal.coe_nonneg.2 hρ0.le) (EReal.coe_ne_top ρ), add_assoc,
      mul_comm w]
    refine congrArg _ ?_
    generalize (n : ℝ)⁻¹ = ν
    have e1 : ((γ j : ℝ) : EReal) * (S * (((-(1 / 2) : ℝ) : EReal) * ((ρ * a⁻¹ : ℝ) : EReal)) * ((ν : ℝ) : EReal)) = ((γ j * (-(1 / 2) * (ρ * a⁻¹)) * ν : ℝ) : EReal) * S := by
      simp only [EReal.coe_mul]
      ac_rfl
    have e2 : ((ρ : ℝ) : EReal) * -(((γ j : ℝ) : EReal) * ((ρ : ℝ) : EReal) * (((ρ : ℝ) : EReal) * S * ((ν : ℝ) : EReal))) = ((-(γ j * (ρ * a⁻¹) * ν) : ℝ) : EReal) * S := by
      rw [← hρ2, EReal.coe_neg, mul_neg, neg_mul]
      simp only [EReal.coe_mul]
      refine congrArg _ ?_
      ac_rfl
    rw [mul_comm _ ((γ j : ℝ) : EReal), e1, e2]
    have two : ∀ x : EReal, x + x = ((2 : ℝ) : EReal) * x := fun x => by
      have : ((2 : ℝ) : EReal) = 1 + 1 := by rw [← EReal.coe_one, ← EReal.coe_add]; norm_num
      rw [this, EReal.right_distrib_of_nonneg zero_le_one zero_le_one, one_mul]
    rw [two, ← mul_assoc, ← EReal.coe_mul]
    congr 2
    ring

/-! ## The inputs and what the layer's first part forms from them -/

/-- The inputs: the layer's input, the weights, the gains, the gradients of the five results and the
    rotation's angles. -/
structure In where
  x : ℕ → ℕ → EReal
  win : ℕ → ℕ → EReal
  qg : ℕ → EReal
  uq : ℕ → ℕ → EReal
  kg : ℕ → EReal
  ukv : ℕ → ℕ → EReal
  h : ℕ → ℕ → EReal
  gt : ℕ → ℕ → EReal
  q : ℕ → ℕ → ℕ → EReal
  k : ℕ → ℕ → ℕ → EReal
  v : ℕ → ℕ → ℕ → EReal
  th : ℕ → ℕ → ℝ

variable (I : In)

/-- The first projection. -/
def pr (s e : ℕ) : EReal := ∑ d ∈ Finset.range 1024, I.x s d * I.win d e
/-- The two latents. -/
def cq (s r : ℕ) : EReal := pr I s r
def ckv (s r : ℕ) : EReal := pr I s (256 + r)
/-- The gradients of the normed latents. -/
def qf (s e : ℕ) : EReal := I.q s (e / 96) (e % 96)
def dqn (s r : ℕ) : EReal := ∑ e ∈ Finset.range 768, qf I s e * I.uq r e
def kvf (s e : ℕ) : EReal := if e % 128 < 64 then I.k s (e / 128) (e % 128) else I.v s (e / 128) (e % 128 - 64)
def dkn (s r : ℕ) : EReal := ∑ e ∈ Finset.range 1024, kvf I s e * I.ukv r e
/-- The gradients of the latents. -/
def dcq (s : ℕ) : ℕ → EReal := nb 256 (cq I s) I.qg (dqn I s)
def dckv (s : ℕ) : ℕ → EReal := nb 128 (ckv I s) I.kg (dkn I s)
/-- The gradient of the rotated key part, summed over the heads, and with the rotation taken back. -/
def ks (s d : ℕ) : EReal := ∑ h ∈ Finset.range 8, I.k s h (64 + d)
def dkr (s i : ℕ) : EReal :=
  if i < 16 then ks I s (i + 16) * ((Real.sin (I.th s i) : ℝ) : EReal) + ks I s i * ((Real.cos (I.th s i) : ℝ) : EReal)
  else ks I s i * ((Real.cos (I.th s (i - 16)) : ℝ) : EReal) - ks I s (i - 16) * ((Real.sin (I.th s (i - 16)) : ℝ) : EReal)
/-- The gradient of the first projection. -/
def dpr (s e : ℕ) : EReal :=
  if e < 256 then dcq I s e else if e < 384 then dckv I s (e - 256) else if e < 416 then dkr I s (e - 384) else I.gt s (e - 416)

/-! ## The six results -/

def gx (s d : ℕ) : EReal := ((alpha : ℝ) : EReal) * I.h s d + ∑ e ∈ Finset.range 2464, dpr I s e * I.win d e
def gin (d e : ℕ) : EReal := ∑ s ∈ Finset.range 8192, I.x s d * dpr I s e
def gqg (r : ℕ) : EReal := ∑ s ∈ Finset.range 8192, dqn I s r * xh 256 (cq I s) r
def guq (r e : ℕ) : EReal := ∑ s ∈ Finset.range 8192, xh 256 (cq I s) r * I.qg r * qf I s e
def gkg (r : ℕ) : EReal := ∑ s ∈ Finset.range 8192, dkn I s r * xh 128 (ckv I s) r
def gukv (r e : ℕ) : EReal := ∑ s ∈ Finset.range 8192, xh 128 (ckv I s) r * I.kg r * kvf I s e

/-! ## What the kernel forms, row by row -/

/-- The arrays that the kernel reads, as extended real numbers. -/
structure KR where
  x : ℕ → ℕ → EReal
  dh : ℕ → ℕ → EReal
  cq : ℕ → ℕ → EReal
  ckv : ℕ → ℕ → EReal
  cs : ℕ → ℕ → EReal
  dq : ℕ → ℕ → EReal
  dk : ℕ → ℕ → EReal
  dv : ℕ → ℕ → EReal
  dg : ℕ → ℕ → EReal
  win : ℕ → ℕ → EReal
  wuq : ℕ → ℕ → EReal
  wkv : ℕ → ℕ → EReal
  pv : ℕ → ℕ → EReal

namespace KR
variable (K : KR)

def dqn (r j : ℕ) : EReal := ∑ e ∈ Finset.range 1024, K.dq r e * K.wuq j e
def dcq (r : ℕ) : ℕ → EReal := nb 256 (K.cq r) (K.pv 0) (K.dqn r)
def dkv (r e : ℕ) : EReal := if e < 1024 then K.dk r e else K.dv r (e - 1024)
def dkn (r j : ℕ) : EReal := ∑ e ∈ Finset.range 1536, K.dkv r e * K.wkv j e
def dckv (r : ℕ) : ℕ → EReal := nb 128 (K.ckv r) (K.pv 1) (K.dkn r)
def ks (r l : ℕ) : EReal :=
  K.dk r l + K.dk r (128 + l) + K.dk r (256 + l) + K.dk r (384 + l) + K.dk r (512 + l) + K.dk r (640 + l) + K.dk r (768 + l) + K.dk r (896 + l)
/-- The rotation taken back, on 128 lanes. -/
def dkr (r l : ℕ) : EReal :=
  K.ks r l * K.cs r l
    + K.ks r ((l + 128 - 16) % 128) * (K.cs r (128 + (l + 128 - 16) % 128) * K.pv 5 ((l + 128 - 16) % 128))
    + K.ks r ((l + 128 - 112) % 128) * (K.cs r (128 + (l + 128 - 112) % 128) * K.pv 6 ((l + 128 - 112) % 128))
def dlat (r e : ℕ) : EReal := if e < 256 then K.dcq r e else if e < 384 then K.dckv r (e - 256) else K.dkr r (e - 384)
def dpr (r e : ℕ) : EReal := if e < 512 then K.dlat r e else K.dg r (e - 512)
def gx (r d : ℕ) : EReal :=
  ((alpha : ℝ) : EReal) * K.dh r d + (∑ e ∈ Finset.range 2048, K.dg r e * K.win d (512 + e)) + ∑ e ∈ Finset.range 512, K.dlat r e * K.win d e

/-- One row's part of each of the four sums. -/
def pwin (r d e : ℕ) : EReal := K.x r d * K.dpr r e
def puq (r j e : ℕ) : EReal := xh 256 (K.cq r) j * K.pv 0 j * K.dq r e
def pkv (r j e : ℕ) : EReal := xh 128 (K.ckv r) j * K.pv 1 j * K.dkv r e
def pvec (r a j : ℕ) : EReal :=
  if a = 0 ∧ j < 256 then K.dqn r j * xh 256 (K.cq r) j else if a = 1 ∧ j < 128 then K.dkn r j * xh 128 (K.ckv r) j else 0

/-- The rows of block `t`. -/
def blk (t : ℕ) : KR where
  x r := K.x (512 * t + r)
  dh r := K.dh (512 * t + r)
  cq r := K.cq (512 * t + r)
  ckv r := K.ckv (512 * t + r)
  cs r := K.cs (512 * t + r)
  dq r := K.dq (512 * t + r)
  dk r := K.dk (512 * t + r)
  dv r := K.dv (512 * t + r)
  dg r := K.dg (512 * t + r)
  win := K.win
  wuq := K.wuq
  wkv := K.wkv
  pv := K.pv

theorem blk_pwin (t r d e : ℕ) : (K.blk t).pwin r d e = K.pwin (512 * t + r) d e := rfl
theorem blk_puq (t r d e : ℕ) : (K.blk t).puq r d e = K.puq (512 * t + r) d e := rfl
theorem blk_pkv (t r d e : ℕ) : (K.blk t).pkv r d e = K.pkv (512 * t + r) d e := rfl
theorem blk_pvec (t r d e : ℕ) : (K.blk t).pvec r d e = K.pvec (512 * t + r) d e := rfl
theorem blk_gx (t r d : ℕ) : (K.blk t).gx r d = K.gx (512 * t + r) d := rfl

end KR

/-- What the lines before the call make of the inputs. -/
def krOf (I : In) : KR where
  x := I.x
  dh := I.h
  cq := cq I
  ckv := ckv I
  cs s l :=
    if l < 64 then 1 else if l < 80 then ((Real.cos (I.th s (l - 64)) : ℝ) : EReal) else if l < 96 then ((Real.cos (I.th s (l - 80)) : ℝ) : EReal) else if l < 128 then 1
    else if l < 192 then 0 else if l < 208 then ((Real.sin (I.th s (l - 192)) : ℝ) : EReal) else if l < 224 then ((Real.sin (I.th s (l - 208)) : ℝ) : EReal) else 0
  dq s l := if l % 128 < 96 then I.q s (l / 128) (l % 128) else 0
  dk s l := if l % 128 < 96 then I.k s (l / 128) (l % 128) else 0
  dv s l := I.v s (l / 64) (l % 64)
  dg := I.gt
  win d e :=
    if e < 384 then I.win d e else if e < 448 then 0 else if e < 480 then I.win d (384 + (e - 448)) else if e < 512 then 0
    else I.win d (416 + (e - 512))
  wuq j e := if e % 128 < 96 then I.uq j (96 * (e / 128) + e % 128) else 0
  wkv j e :=
    if e < 1024 then if e % 128 < 64 then I.ukv j (128 * (e / 128) + e % 128) else 0
    else I.ukv j (128 * ((e - 1024) / 64) + (64 + (e - 1024) % 64))
  pv a l :=
    if a = 1 then if l < 128 then I.kg l else 0
    else if a = 0 then if l < 256 then I.qg l else 0
    else if a = 5 ∧ 64 ≤ l ∧ l < 80 then ((-1 : ℝ) : EReal) else if a = 6 ∧ 80 ≤ l ∧ l < 96 then 1 else 0

end Cert.Proj

end
-- ==== Proof.Inputs2.lean ====
/-
  The twelve arguments of the projections' gradient, as functions of natural numbers.
-/
module

public import proofs.«01_k».proof.Proof.Model2

@[expose] public section

set_option maxRecDepth 16384

noncomputable section

namespace Cert.Proj

open Idealize.ShloMosaic
open Cert.Attn (angle)

/-- An array of rank one, as a function of one natural. -/
def arr1 {a : ℕ} (x : (⟨1, ![a]⟩ : Shape).Idx → EReal) (i : ℕ) : EReal := if h : i < a then x (ix1 ⟨i, h⟩) else 0
/-- An array of rank two, as a function of two naturals. -/
def arr2 {a b : ℕ} (x : (⟨2, ![a, b]⟩ : Shape).Idx → EReal) (i j : ℕ) : EReal :=
  if h : i < a ∧ j < b then x (ix2 ⟨i, h.1⟩ ⟨j, h.2⟩) else 0

/-- An array of rank three, as a function of three naturals. -/
def arr3 {a b c : ℕ} (x : (⟨3, ![a, b, c]⟩ : Shape).Idx → EReal) (i j k : ℕ) : EReal :=
  if h : i < a ∧ j < b ∧ k < c then x (ix3 ⟨i, h.1⟩ ⟨j, h.2.1⟩ ⟨k, h.2.2⟩) else 0

theorem arr1_eq {a : ℕ} (x : (⟨1, ![a]⟩ : Shape).Idx → EReal) : x = M1 (arr1 x) := by
  funext j
  have e : (ix1 (⟨(j 0).val, (j 0).isLt⟩ : Fin a)) = j := by
    funext i
    match i with
    | ⟨0, _⟩ => rfl
  show x j = arr1 x (j 0).val
  unfold arr1
  rw [dif_pos (show (j 0).val < a from (j 0).isLt), e]

theorem arr2_eq {a b : ℕ} (x : (⟨2, ![a, b]⟩ : Shape).Idx → EReal) : x = M2 (arr2 x) := by
  funext j
  have e : (ix2 (⟨(j 0).val, (j 0).isLt⟩ : Fin a) (⟨(j 1).val, (j 1).isLt⟩ : Fin b)) = j := by
    funext i
    match i with
    | ⟨0, _⟩ => rfl
    | ⟨1, _⟩ => rfl
  show x j = arr2 x (j 0).val (j 1).val
  unfold arr2
  rw [dif_pos ⟨(j 0).isLt, (j 1).isLt⟩, e]

theorem arr3_eq {a b c : ℕ} (x : (⟨3, ![a, b, c]⟩ : Shape).Idx → EReal) : x = M3 (arr3 x) := by
  funext j
  have e : (ix3 (⟨(j 0).val, (j 0).isLt⟩ : Fin a) (⟨(j 1).val, (j 1).isLt⟩ : Fin b) (⟨(j 2).val, (j 2).isLt⟩ : Fin c)) = j := by
    funext i
    match i with
    | ⟨0, _⟩ => rfl
    | ⟨1, _⟩ => rfl
    | ⟨2, _⟩ => rfl
  show x j = arr3 x (j 0).val (j 1).val (j 2).val
  unfold arr3
  rw [dif_pos ⟨(j 0).isLt, (j 1).isLt, (j 2).isLt⟩, e]

/-- The inputs of twelve arguments. -/
def inOf (x : (⟨2, ![8192, 1024]⟩ : Shape).Idx → EReal) (win : (⟨2, ![1024, 2464]⟩ : Shape).Idx → EReal) (qg : (⟨1, ![256]⟩ : Shape).Idx → EReal) (uq : (⟨2, ![256, 768]⟩ : Shape).Idx → EReal) (kg : (⟨1, ![128]⟩ : Shape).Idx → EReal) (ukv : (⟨2, ![128, 1024]⟩ : Shape).Idx → EReal) (h : (⟨2, ![8192, 1024]⟩ : Shape).Idx → EReal) (gt : (⟨2, ![8192, 2048]⟩ : Shape).Idx → EReal) (q : (⟨3, ![8192, 8, 96]⟩ : Shape).Idx → EReal) (k : (⟨3, ![8192, 8, 96]⟩ : Shape).Idx → EReal) (v : (⟨3, ![8192, 8, 64]⟩ : Shape).Idx → EReal)
    (p : (⟨1, ![8192]⟩ : Shape).Idx → BitVec 32) : In where
  x := arr2 x
  win := arr2 win
  qg := arr1 qg
  uq := arr2 uq
  kg := arr1 kg
  ukv := arr2 ukv
  h := arr2 h
  gt := arr2 gt
  q := arr3 q
  k := arr3 k
  v := arr3 v
  th s i := if h : s < 8192 then angle (p (ix1 ⟨s, h⟩)).toInt i else 0

end Cert.Proj

end
-- ==== Proof.Point2.lean ====
/-
  One grid point of the projections' gradient kernel on arrays of extended reals: each value it forms, and what it adds to the sums.
-/
module

public import proofs.«01_k».proof.Proof.Body2
public import proofs.«01_k».proof.Proof.Model2

@[expose] public section

set_option maxRecDepth 16384

noncomputable section

namespace Cert.Kernel2Ideal.Hand

open Cert.Kernel2Ideal Cert.Kernel2Ideal.Gen Cert.Proj
open Idealize.ShloMosaic
open VecWindow
open scoped BigOperators

theorem pay3_lift : (k0_pay3 : FVec Ideal S1024x2560 .f32) = M2 (fun _ _ => 0) := by
  unfold k0_pay3; funext j; idx_vars j; pointwise []; rfl
theorem pay4_lift : (k0_pay4 : FVec Ideal S256x1024 .f32) = M2 (fun _ _ => 0) := by
  unfold k0_pay4; funext j; idx_vars j; pointwise []; rfl
theorem pay5_lift : (k0_pay5 : FVec Ideal S128x1536 .f32) = M2 (fun _ _ => 0) := by
  unfold k0_pay5; funext j; idx_vars j; pointwise []; rfl
theorem pay6_lift (A : ℕ → ℕ → EReal) : k0_pay6 (F := Ideal) (M2 A) = M2 A := by
  unfold k0_pay6; funext j; idx_vars j; pointwise []
theorem pay7_lift (A : ℕ → ℕ → EReal) : k0_pay7 (F := Ideal) (M2 A) = M2 A := by
  unfold k0_pay7; funext j; idx_vars j; pointwise []
theorem pay8_lift (A : ℕ → ℕ → EReal) : k0_pay8 (F := Ideal) (M2 A) = M2 A := by
  unfold k0_pay8; funext j; idx_vars j; pointwise []
theorem pay11_lift (A : ℕ → ℕ → EReal) : k0_pay11 (F := Ideal) (M2 A) = M2 A := by
  unfold k0_pay11; funext j; idx_vars j; pointwise []
theorem pay12_lift (A : ℕ → ℕ → EReal) : k0_pay12 (F := Ideal) (M2 A) = M2 A := by
  unfold k0_pay12; funext j; idx_vars j; pointwise []
theorem pay13_lift (A : ℕ → ℕ → EReal) : k0_pay13 (F := Ideal) (M2 A) = M2 A := by
  unfold k0_pay13; funext j; idx_vars j; pointwise []
theorem pay14_lift (A : ℕ → ℕ → EReal) : k0_pay14 (F := Ideal) (M2 A) = M2 A := by
  unfold k0_pay14; funext j; idx_vars j; pointwise []
theorem pay22_lift (A : ℕ → ℕ → EReal) : k0_pay22 (F := Ideal) (M2 A) = M2 A := by
  unfold k0_pay22; funext j; idx_vars j; pointwise []
theorem pay24_lift (A : ℕ → ℕ → EReal) : k0_pay24 (F := Ideal) (M2 A) = M2 A := by
  unfold k0_pay24; funext j; idx_vars j; pointwise []

theorem pay9_lift (X G W : ℕ → ℕ → EReal) :
    k0_pay9 (F := Ideal) (M2 X) (M2 G) (M2 W) = M2 (fun d e => W d e + ∑ r ∈ Finset.range 512, X r d * G r e) := by
  unfold k0_pay9
  rw [pay7_lift, pay8_lift]
  funext j; idx_vars j
  pointwise []
  simp only [M2_ix, zero_add, Finset.sum_range]
theorem pay1_lift (X D W : ℕ → ℕ → EReal) :
    k0_pay1 (F := Ideal) (M2 X) (M2 D) (M2 W) = M2 (fun d e => W d e + ∑ r ∈ Finset.range 512, X r d * D r e) := by
  unfold k0_pay1
  funext j; idx_vars j
  pointwise []
  simp only [M2_ix, zero_add, Finset.sum_range]
theorem pay10_lift (G W : ℕ → ℕ → EReal) :
    k0_pay10 (F := Ideal) (M2 G) (M2 W) = M2 (fun r d => ∑ e ∈ Finset.range 2048, G r e * W d e) := by
  unfold k0_pay10
  rw [pay8_lift]
  funext j; idx_vars j
  pointwise []
  simp only [M2_ix, zero_add, Finset.sum_range]
theorem pay2_lift (A D H W : ℕ → ℕ → EReal) :
    k0_pay2 (F := Ideal) (M2 A) (M2 D) (M2 H) (M2 W)
      = M2 (fun r d => ((alpha : ℝ) : EReal) * H r d + A r d + ∑ e ∈ Finset.range 512, D r e * W d e) := by
  unfold k0_pay2
  funext j; idx_vars j
  pointwise []
  rw [w_alpha]
  simp only [M2_ix, zero_add, Finset.sum_range]

theorem pay15_lift (C : ℕ → ℕ → EReal) : k0_pay15 (F := Ideal) (M2 C) = M2 (fun r _ => rs 256 (C r)) := by
  unfold k0_pay15
  rw [pay14_lift]
  funext j; idx_vars j
  pointwise []
  rw [w_q, w_eps]
  simp only [M2_ix, zero_add]
  unfold rs ms
  rw [Finset.sum_range]
theorem pay25_lift (C : ℕ → ℕ → EReal) : k0_pay25 (F := Ideal) (M2 C) = M2 (fun r _ => rs 128 (C r)) := by
  unfold k0_pay25
  rw [pay24_lift]
  funext j; idx_vars j
  pointwise []
  rw [w_kv, w_eps]
  simp only [M2_ix, zero_add]
  unfold rs ms
  rw [Finset.sum_range]
theorem pay16_lift (C : ℕ → ℕ → EReal) : k0_pay16 (F := Ideal) (M2 C) = M2 (fun r _ => rs 256 (C r)) := by
  unfold k0_pay16
  rw [pay15_lift]
  funext j; idx_vars j; pointwise []; rfl
theorem pay31_lift (C : ℕ → ℕ → EReal) : k0_pay31 (F := Ideal) (M2 C) = M2 (fun r _ => rs 128 (C r)) := by
  unfold k0_pay31
  rw [pay25_lift]
  funext j; idx_vars j; pointwise []; rfl
theorem pay17_lift (C : ℕ → ℕ → EReal) :
    k0_pay17 (F := Ideal) (M2 C) (M2 (fun r _ => rs 256 (C r))) = M2 (fun r j => xh 256 (C r) j) := by
  unfold k0_pay17
  funext j; idx_vars j; pointwise []
  rfl
theorem pay26_lift (C : ℕ → ℕ → EReal) : k0_pay26 (F := Ideal) (M2 C) = M2 (fun r j => xh 128 (C r) j) := by
  unfold k0_pay26
  rw [pay25_lift, pay24_lift]
  funext j; idx_vars j; pointwise []
  rfl
theorem pay18_lift (Q W : ℕ → ℕ → EReal) :
    k0_pay18 (F := Ideal) (M2 Q) (M2 W) = M2 (fun r j => ∑ e ∈ Finset.range 1024, Q r e * W j e) := by
  unfold k0_pay18
  funext j; idx_vars j; pointwise []
  simp only [M2_ix, zero_add, Finset.sum_range]
theorem pay27_lift (Q W : ℕ → ℕ → EReal) :
    k0_pay27 (F := Ideal) (M2 Q) (M2 W) = M2 (fun r j => ∑ e ∈ Finset.range 1536, Q r e * W j e) := by
  unfold k0_pay27
  funext j; idx_vars j; pointwise []
  simp only [M2_ix, zero_add, Finset.sum_range]
theorem pay23_lift (K V : ℕ → ℕ → EReal) :
    k0_pay23 (F := Ideal) (M2 K) (M2 V) = M2 (fun r e => if e < 1024 then K r e else V r (e - 1024)) := by
  unfold k0_pay23
  rw [pay22_lift]
  funext j; idx_vars j; pointwise []
  simp only [M2_ix]
  split <;> rfl
theorem pay19_lift (g Q C G : ℕ → ℕ → EReal) :
    k0_pay19 (F := Ideal) (M2 g) (M2 Q) (M2 C) (M2 (fun r _ => rs 256 (C r))) (M2 G)
      = M2 (fun j e => G j e + ∑ r ∈ Finset.range 512, xh 256 (C r) j * g 0 j * Q r e) := by
  unfold k0_pay19
  rw [pay17_lift]
  funext j; idx_vars j; pointwise []
  simp only [M2_ix, zero_add, Finset.sum_range]
  rfl
theorem pay28_lift (g Q C G : ℕ → ℕ → EReal) :
    k0_pay28 (F := Ideal) (M2 g) (M2 Q) (M2 C) (M2 G)
      = M2 (fun j e => G j e + ∑ r ∈ Finset.range 512, xh 128 (C r) j * g 0 j * Q r e) := by
  unfold k0_pay28
  rw [pay26_lift]
  funext j; idx_vars j; pointwise []
  simp only [M2_ix, zero_add, Finset.sum_range]
  rfl
theorem pay20_lift (Q C W G : ℕ → ℕ → EReal) :
    k0_pay20 (F := Ideal) (M2 Q) (M2 C) (M2 (fun r _ => rs 256 (C r))) (M2 W) (M2 G)
      = M2 (fun a j => G a j + ∑ r ∈ Finset.range 512, (∑ e ∈ Finset.range 1024, Q r e * W j e) * xh 256 (C r) j) := by
  unfold k0_pay20
  rw [pay17_lift, pay18_lift]
  funext j; idx_vars j; pointwise []
  simp only [M2_ix, zero_add, Finset.sum_range (n := 512)]
theorem pay29_lift (Q C W G : ℕ → ℕ → EReal) :
    k0_pay29 (F := Ideal) (M2 Q) (M2 C) (M2 W) (M2 G)
      = M2 (fun a j => G a j + ∑ r ∈ Finset.range 512, (∑ e ∈ Finset.range 1536, Q r e * W j e) * xh 128 (C r) j) := by
  unfold k0_pay29
  rw [pay26_lift, pay27_lift]
  funext j; idx_vars j; pointwise []
  simp only [M2_ix, zero_add, Finset.sum_range (n := 512)]
theorem pay21_lift (g Q C W : ℕ → ℕ → EReal) :
    k0_pay21 (F := Ideal) (M2 g) (M2 Q) (M2 C) (M2 (fun r _ => rs 256 (C r))) (M2 (fun r _ => rs 256 (C r))) (M2 W)
      = M2 (fun r => nb 256 (C r) (g 0) (fun j => ∑ e ∈ Finset.range 1024, Q r e * W j e)) := by
  unfold k0_pay21
  rw [pay17_lift, pay18_lift]
  funext j; idx_vars j; pointwise []
  rw [w_q]
  simp only [M2_ix, zero_add]
  unfold nb
  rw [Finset.sum_range (n := 256)]
  rfl
theorem pay30_lift (g Q C W : ℕ → ℕ → EReal) :
    k0_pay30 (F := Ideal) (M2 g) (M2 Q) (M2 C) (M2 W)
      = M2 (fun r j => (∑ e ∈ Finset.range 1536, Q r e * W j e) * g 0 j
          - xh 128 (C r) j * Ideal.div (∑ d ∈ Finset.range 128, (∑ e ∈ Finset.range 1536, Q r e * W d e) * g 0 d * xh 128 (C r) d) (((128 : ℕ) : ℝ) : EReal)) := by
  unfold k0_pay30
  rw [pay26_lift, pay27_lift]
  funext j; idx_vars j; pointwise []
  rw [w_kv]
  simp only [M2_ix, zero_add]
  rw [Finset.sum_range (n := 128)]
  rfl

/-- The key gradients' heads summed. -/
def headSum (D : ℕ → ℕ → EReal) (r l : ℕ) : EReal :=
  D r l + D r (128 + l) + D r (256 + l) + D r (384 + l) + D r (512 + l) + D r (640 + l) + D r (768 + l) + D r (896 + l)
/-- The rotation taken back, on 128 lanes. -/
def unrot (A c s : ℕ → ℕ → EReal) (a b : ℕ → EReal) (r l : ℕ) : EReal :=
  A r l * c r l
    + A r ((l + 128 - 16) % 128) * (s r ((l + 128 - 16) % 128) * a ((l + 128 - 16) % 128))
    + A r ((l + 128 - 112) % 128) * (s r ((l + 128 - 112) % 128) * b ((l + 128 - 112) % 128))

theorem pay32_lift (A D N R c s a b : ℕ → ℕ → EReal) :
    k0_pay32 (F := Ideal) (M2 A) (M2 D) (M2 N) (M2 R) (M2 c) (M2 s) (M2 a) (M2 b)
      = M2 (fun r e => if e < 256 then A r e else if e < 384 then R r (e - 256) * N r (e - 256)
          else unrot (headSum D) c s (a 0) (b 0) r (e - 384)) := by
  unfold k0_pay32
  funext j; idx_vars j; pointwise []
  simp only [M2_ix]
  split
  · next h => simp only [if_pos h]
  · next h =>
    split
    · next h2 => rw [if_pos (by omega)]
    · next h2 =>
      rw [if_neg (by omega), show j1.val - 384 = j1.val - 256 - 128 by omega]
      rfl

/-! ## A point on the kernel's rows -/

/-- The arrays a point reads, from the rows. -/
def lift (K : KR) : Ins Ideal :=
  ⟨M2 K.x, M2 K.dh, M2 K.cq, M2 K.ckv, M2 K.cs, M2 K.dq, M2 K.dk, M2 K.dv, M2 K.dg, M2 K.win, M2 K.wuq, M2 K.wkv, M2 K.pv,
    M2 (fun _ _ => 0)⟩

variable (K : KR)

theorem v16_lift : (lift K).v16 = M2 K.pv := by
  unfold Ins.v16 lift; dsimp only
  rw [window_lift _ _ 0 0 rfl, pay11_lift]
  simp only [Nat.zero_add]
theorem v18_lift : (lift K).v18 = M2 (fun a => K.pv (1 + a)) := by
  unfold Ins.v18 lift; dsimp only
  rw [window_lift _ _ 1 0 rfl, pay12_lift]
  simp only [Nat.zero_add]
theorem v14_lift : (lift K).v14 = M2 (fun r d => ∑ e ∈ Finset.range 2048, K.dg r e * K.win d (512 + e)) := by
  unfold Ins.v14 lift; dsimp only
  rw [window_lift _ _ 0 512 rfl, pay10_lift]
  simp only [Nat.zero_add]
theorem v62_lift : (lift K).v62 = M2 K.dcq := by
  unfold Ins.v62
  rw [v16_lift]
  unfold lift; dsimp only
  rw [pay13_lift, pay14_lift, pay15_lift, pay16_lift, pay21_lift]
  rfl
theorem v67_lift : (lift K).v67 = M2 K.dkv := by
  unfold Ins.v67 lift; dsimp only
  rw [pay23_lift]
  rfl
theorem v107_lift : (lift K).v107 = M2 (fun r j => K.dkn r j * K.pv 1 j
    - xh 128 (K.ckv r) j * Ideal.div (∑ d ∈ Finset.range 128, K.dkn r d * K.pv 1 d * xh 128 (K.ckv r) d) (((128 : ℕ) : ℝ) : EReal)) := by
  unfold Ins.v107
  rw [v18_lift, v67_lift]
  unfold lift; dsimp only
  rw [pay30_lift]
  rfl
theorem v155_lift : (lift K).v155 = M2 K.dlat := by
  unfold Ins.v155
  rw [v62_lift, v107_lift]
  unfold lift; dsimp only
  rw [pay22_lift, pay31_lift, window_lift _ _ 0 0 rfl, window_lift _ _ 0 128 rfl, window_lift _ _ 5 0 rfl, window_lift _ _ 6 0 rfl, pay32_lift]
  simp only [Nat.zero_add]
  rfl
theorem gxOut_lift : gxOut (lift K) = M2 K.gx := by
  unfold gxOut
  rw [v14_lift, v155_lift]
  unfold lift; dsimp only
  rw [window_lift _ _ 0 0 rfl, pay2_lift]
  simp only [Nat.zero_add]
  rfl

theorem win_step (G : ℕ → ℕ → EReal) :
    winRest (lift K) (winGates (lift K) (M2 G)) = M2 (fun d e => G d e + ∑ r ∈ Finset.range 512, K.pwin r d e) := by
  have e1 : winGates (lift K) (M2 G)
      = M2 (fun d e => if 512 ≤ e then G d e + ∑ r ∈ Finset.range 512, K.x r d * K.dg r (e - 512) else G d e) := by
    unfold winGates lift; dsimp only
    rw [window_lift _ _ 0 512 rfl, pay9_lift, put_lift _ _ _ 0 512 rfl]
    refine M2_congr fun d hd e he => ?_
    by_cases h : 512 ≤ e
    · rw [if_pos ⟨⟨by omega, by omega⟩, by omega, by omega⟩, if_pos h, Nat.sub_zero, Nat.zero_add, show 512 + (e - 512) = e by omega]
    · rw [if_neg (by omega), if_neg h]
  rw [e1]
  unfold winRest
  rw [v155_lift]
  unfold lift; dsimp only
  rw [window_lift _ _ 0 0 rfl, pay7_lift, pay1_lift, put_lift _ _ _ 0 0 rfl]
  refine M2_congr fun d hd e he => ?_
  unfold KR.pwin KR.dpr
  by_cases h : 512 ≤ e
  · rw [if_neg (by omega), if_pos h]
    simp only [if_neg (show ¬ e < 512 by omega)]
  · rw [if_pos ⟨⟨by omega, by omega⟩, by omega, by omega⟩]
    simp only [Nat.sub_zero, Nat.zero_add, if_neg h, if_pos (show e < 512 by omega)]
theorem uq_step (G : ℕ → ℕ → EReal) : uqNext (lift K) (M2 G) = M2 (fun j e => G j e + ∑ r ∈ Finset.range 512, K.puq r j e) := by
  unfold uqNext
  rw [v16_lift]
  unfold lift; dsimp only
  rw [pay13_lift, pay14_lift, pay16_lift, pay19_lift]
  rfl
theorem kv_step (G : ℕ → ℕ → EReal) : kvNext (lift K) (M2 G) = M2 (fun j e => G j e + ∑ r ∈ Finset.range 512, K.pkv r j e) := by
  unfold kvNext
  rw [v18_lift, v67_lift]
  unfold lift; dsimp only
  rw [pay28_lift]
  rfl
theorem vec_step (G : ℕ → ℕ → EReal) : vecKv (lift K) (vecQ (lift K) (M2 G)) = M2 (fun a j => G a j + ∑ r ∈ Finset.range 512, K.pvec r a j) := by
  have e1 : vecQ (lift K) (M2 G)
      = M2 (fun a j => if a = 0 ∧ j < 256 then G a j + ∑ r ∈ Finset.range 512, K.dqn r j * xh 256 (K.cq r) j else G a j) := by
    unfold vecQ lift; dsimp only
    rw [window_lift _ _ 0 0 rfl, pay13_lift, pay14_lift, pay16_lift, pay20_lift, put_lift _ _ _ 0 0 rfl]
    refine M2_congr fun a ha j hj => ?_
    by_cases h : a = 0 ∧ j < 256
    · rw [if_pos ⟨⟨by omega, by omega⟩, by omega, by omega⟩, if_pos h, Nat.sub_zero, Nat.sub_zero, Nat.zero_add, Nat.zero_add]
      rfl
    · rw [if_neg (by omega), if_neg h]
  rw [e1]
  unfold vecKv
  rw [v67_lift]
  unfold lift; dsimp only
  rw [window_lift _ _ 1 0 rfl, pay29_lift, put_lift _ _ _ 1 0 rfl]
  refine M2_congr fun a ha j hj => ?_
  unfold KR.pvec
  by_cases h : a = 0 ∧ j < 256
  · rw [if_neg (by omega), if_pos h]
    simp only [if_pos h]
  · by_cases h1 : a = 1 ∧ j < 128
    · rw [if_pos ⟨⟨by omega, by omega⟩, by omega, by omega⟩]
      simp only [if_neg h, if_pos h1, Nat.sub_zero, Nat.zero_add, show 1 + (a - 1) = a by omega]
      rfl
    · rw [if_neg (by omega), if_neg h]
      simp only [if_neg h, if_neg h1, Finset.sum_const_zero, add_zero]

/-- Four sums. -/
def lift4 (w u k v : ℕ → ℕ → EReal) : Acc Ideal := ⟨M2 w, M2 u, M2 k, M2 v⟩

theorem step_lift (w u k v : ℕ → ℕ → EReal) : step (lift K) (lift4 w u k v)
    = lift4 (fun d e => w d e + ∑ r ∈ Finset.range 512, K.pwin r d e) (fun j e => u j e + ∑ r ∈ Finset.range 512, K.puq r j e)
        (fun j e => k j e + ∑ r ∈ Finset.range 512, K.pkv r j e) (fun a j => v a j + ∑ r ∈ Finset.range 512, K.pvec r a j) := by
  show (⟨winRest (lift K) (winGates (lift K) (M2 w)), uqNext (lift K) (M2 u), kvNext (lift K) (M2 k), vecKv (lift K) (vecQ (lift K) (M2 v))⟩ : Acc Ideal) = _
  rw [win_step, uq_step, kv_step, vec_step]
  rfl

end Cert.Kernel2Ideal.Hand

end
-- ==== Proof.Grid2.lean ====
/-
  The projections' gradient kernel's run over its grid on arrays of extended reals: the blocks each point reads, the sums over the
  points, and the five arrays it leaves.
-/
module

public import proofs.«01_k».proof.Proof.Point2
public import proofs.«01_k».proof.Proof.Run2
public import Idealize.ShloMosaic.Lib.Pipeline.ValueKit

@[expose] public section

set_option maxRecDepth 16384

noncomputable section

namespace Cert.Kernel2Ideal.Hand

open Cert.Kernel2Ideal Cert.Kernel2Ideal.Gen Cert.Proj
open Idealize.ShloMosaic Idealize.ShloMosaic.TcCoe
open Idealize.ShloMosaic.Pipeline (Dat)
open scoped BigOperators

variable (m : (ℓ : Loc nD τ sig) → Buf (Elt Ideal) ℓ) (c : Dev nD) (K : KR)

/-- The call's operands hold the arrays `K`. -/
structure Holds : Prop where
  x : V m c main_arg0 = (M2 K.x : S8192x1024.Idx → EReal)
  dh : V m c main_arg6 = (M2 K.dh : S8192x1024.Idx → EReal)
  cq : V m c main_v1 = (M2 K.cq : S8192x256.Idx → EReal)
  ckv : V m c main_v3 = (M2 K.ckv : S8192x128.Idx → EReal)
  cs : V m c main_v23 = (M2 K.cs : S8192x256.Idx → EReal)
  dq : V m c main_v72 = (M2 K.dq : S8192x1024.Idx → EReal)
  dk : V m c main_v75 = (M2 K.dk : S8192x1024.Idx → EReal)
  dv : V m c main_v77 = (M2 K.dv : S8192x512.Idx → EReal)
  dg : V m c main_v78 = (M2 K.dg : S8192x2048.Idx → EReal)
  win : V m c main_v79 = (M2 K.win : S1024x2560.Idx → EReal)
  wuq : V m c main_v81 = (M2 K.wuq : S256x1024.Idx → EReal)
  wkv : V m c main_v82 = (M2 K.wkv : S128x1536.Idx → EReal)
  pv : V m c main_v69 = (M2 K.pv : S16x1024.Idx → EReal)
  gv : V m c main_v83 = (M2 (fun _ _ => 0) : S16x1024.Idx → EReal)

theorem idx_0 : ∀ t : Fin cfg0.N, win0_0.index t 0 = t.val ∧ win0_0.index t 1 = 0 := by decide +kernel
theorem idx_1 : ∀ t : Fin cfg0.N, win0_1.index t 0 = t.val ∧ win0_1.index t 1 = 0 := by decide +kernel
theorem idx_2 : ∀ t : Fin cfg0.N, win0_2.index t 0 = t.val ∧ win0_2.index t 1 = 0 := by decide +kernel
theorem idx_3 : ∀ t : Fin cfg0.N, win0_3.index t 0 = t.val ∧ win0_3.index t 1 = 0 := by decide +kernel
theorem idx_4 : ∀ t : Fin cfg0.N, win0_4.index t 0 = t.val ∧ win0_4.index t 1 = 0 := by decide +kernel
theorem idx_5 : ∀ t : Fin cfg0.N, win0_5.index t 0 = t.val ∧ win0_5.index t 1 = 0 := by decide +kernel
theorem idx_6 : ∀ t : Fin cfg0.N, win0_6.index t 0 = t.val ∧ win0_6.index t 1 = 0 := by decide +kernel
theorem idx_7 : ∀ t : Fin cfg0.N, win0_7.index t 0 = t.val ∧ win0_7.index t 1 = 0 := by decide +kernel
theorem idx_8 : ∀ t : Fin cfg0.N, win0_8.index t 0 = t.val ∧ win0_8.index t 1 = 0 := by decide +kernel
theorem idx_9 : ∀ t : Fin cfg0.N, win0_9.index t 0 = 0 ∧ win0_9.index t 1 = 0 := by decide +kernel
theorem idx_10 : ∀ t : Fin cfg0.N, win0_10.index t 0 = 0 ∧ win0_10.index t 1 = 0 := by decide +kernel
theorem idx_11 : ∀ t : Fin cfg0.N, win0_11.index t 0 = 0 ∧ win0_11.index t 1 = 0 := by decide +kernel
theorem idx_12 : ∀ t : Fin cfg0.N, win0_12.index t 0 = 0 ∧ win0_12.index t 1 = 0 := by decide +kernel
theorem idx_13 : ∀ t : Fin cfg0.N, win0_13.index t 0 = 0 ∧ win0_13.index t 1 = 0 := by decide +kernel
theorem idx_14 : ∀ t : Fin cfg0.N, win0_14.index t 0 = t.val ∧ win0_14.index t 1 = 0 := by decide +kernel
theorem idx_15 : ∀ t : Fin cfg0.N, win0_15.index t 0 = 0 ∧ win0_15.index t 1 = 0 := by decide +kernel
theorem idx_16 : ∀ t : Fin cfg0.N, win0_16.index t 0 = 0 ∧ win0_16.index t 1 = 0 := by decide +kernel
theorem idx_17 : ∀ t : Fin cfg0.N, win0_17.index t 0 = 0 ∧ win0_17.index t 1 = 0 := by decide +kernel
theorem idx_18 : ∀ t : Fin cfg0.N, win0_18.index t 0 = 0 ∧ win0_18.index t 1 = 0 := by decide +kernel

variable {m c K}

theorem blk_0 (H : Holds m c K) (t : Fin cfg0.N) : (iblk m c 0 t : S512x1024.Idx → EReal) = M2 (K.blk t.val).x := by
  have hi := idx_0 t
  funext j
  unfold iblk
  rw [View.read_apply]
  show V m c main_arg0 _ = _
  rw [H.x]
  show K.x (win0_0.index t 0 * 512 + 1 * (j 0).val) (win0_0.index t 1 * 1024 + 1 * (j 1).val) = K.x _ _
  rw [hi.1, hi.2]
  exact (congrArg₂ K.x (by omega) (by omega))
theorem blk_1 (H : Holds m c K) (t : Fin cfg0.N) : (iblk m c 1 t : S512x1024.Idx → EReal) = M2 (K.blk t.val).dh := by
  have hi := idx_1 t
  funext j
  unfold iblk
  rw [View.read_apply]
  show V m c main_arg6 _ = _
  rw [H.dh]
  show K.dh (win0_1.index t 0 * 512 + 1 * (j 0).val) (win0_1.index t 1 * 1024 + 1 * (j 1).val) = K.dh _ _
  rw [hi.1, hi.2]
  exact (congrArg₂ K.dh (by omega) (by omega))
theorem blk_2 (H : Holds m c K) (t : Fin cfg0.N) : (iblk m c 2 t : S512x256.Idx → EReal) = M2 (K.blk t.val).cq := by
  have hi := idx_2 t
  funext j
  unfold iblk
  rw [View.read_apply]
  show V m c main_v1 _ = _
  rw [H.cq]
  show K.cq (win0_2.index t 0 * 512 + 1 * (j 0).val) (win0_2.index t 1 * 256 + 1 * (j 1).val) = K.cq _ _
  rw [hi.1, hi.2]
  exact (congrArg₂ K.cq (by omega) (by omega))
theorem blk_3 (H : Holds m c K) (t : Fin cfg0.N) : (iblk m c 3 t : S512x128.Idx → EReal) = M2 (K.blk t.val).ckv := by
  have hi := idx_3 t
  funext j
  unfold iblk
  rw [View.read_apply]
  show V m c main_v3 _ = _
  rw [H.ckv]
  show K.ckv (win0_3.index t 0 * 512 + 1 * (j 0).val) (win0_3.index t 1 * 128 + 1 * (j 1).val) = K.ckv _ _
  rw [hi.1, hi.2]
  exact (congrArg₂ K.ckv (by omega) (by omega))
theorem blk_4 (H : Holds m c K) (t : Fin cfg0.N) : (iblk m c 4 t : S512x256.Idx → EReal) = M2 (K.blk t.val).cs := by
  have hi := idx_4 t
  funext j
  unfold iblk
  rw [View.read_apply]
  show V m c main_v23 _ = _
  rw [H.cs]
  show K.cs (win0_4.index t 0 * 512 + 1 * (j 0).val) (win0_4.index t 1 * 256 + 1 * (j 1).val) = K.cs _ _
  rw [hi.1, hi.2]
  exact (congrArg₂ K.cs (by omega) (by omega))
theorem blk_5 (H : Holds m c K) (t : Fin cfg0.N) : (iblk m c 5 t : S512x1024.Idx → EReal) = M2 (K.blk t.val).dq := by
  have hi := idx_5 t
  funext j
  unfold iblk
  rw [View.read_apply]
  show V m c main_v72 _ = _
  rw [H.dq]
  show K.dq (win0_5.index t 0 * 512 + 1 * (j 0).val) (win0_5.index t 1 * 1024 + 1 * (j 1).val) = K.dq _ _
  rw [hi.1, hi.2]
  exact (congrArg₂ K.dq (by omega) (by omega))
theorem blk_6 (H : Holds m c K) (t : Fin cfg0.N) : (iblk m c 6 t : S512x1024.Idx → EReal) = M2 (K.blk t.val).dk := by
  have hi := idx_6 t
  funext j
  unfold iblk
  rw [View.read_apply]
  show V m c main_v75 _ = _
  rw [H.dk]
  show K.dk (win0_6.index t 0 * 512 + 1 * (j 0).val) (win0_6.index t 1 * 1024 + 1 * (j 1).val) = K.dk _ _
  rw [hi.1, hi.2]
  exact (congrArg₂ K.dk (by omega) (by omega))
theorem blk_7 (H : Holds m c K) (t : Fin cfg0.N) : (iblk m c 7 t : S512x512.Idx → EReal) = M2 (K.blk t.val).dv := by
  have hi := idx_7 t
  funext j
  unfold iblk
  rw [View.read_apply]
  show V m c main_v77 _ = _
  rw [H.dv]
  show K.dv (win0_7.index t 0 * 512 + 1 * (j 0).val) (win0_7.index t 1 * 512 + 1 * (j 1).val) = K.dv _ _
  rw [hi.1, hi.2]
  exact (congrArg₂ K.dv (by omega) (by omega))
theorem blk_8 (H : Holds m c K) (t : Fin cfg0.N) : (iblk m c 8 t : S512x2048.Idx → EReal) = M2 (K.blk t.val).dg := by
  have hi := idx_8 t
  funext j
  unfold iblk
  rw [View.read_apply]
  show V m c main_v78 _ = _
  rw [H.dg]
  show K.dg (win0_8.index t 0 * 512 + 1 * (j 0).val) (win0_8.index t 1 * 2048 + 1 * (j 1).val) = K.dg _ _
  rw [hi.1, hi.2]
  exact (congrArg₂ K.dg (by omega) (by omega))
theorem blk_9 (H : Holds m c K) (t : Fin cfg0.N) : (iblk m c 9 t : S1024x2560.Idx → EReal) = M2 K.win := by
  have hi := idx_9 t
  funext j
  unfold iblk
  rw [View.read_apply]
  show V m c main_v79 _ = _
  rw [H.win]
  show K.win (win0_9.index t 0 * 1024 + 1 * (j 0).val) (win0_9.index t 1 * 2560 + 1 * (j 1).val) = K.win _ _
  rw [hi.1, hi.2]
  exact (congrArg₂ K.win (by omega) (by omega))
theorem blk_10 (H : Holds m c K) (t : Fin cfg0.N) : (iblk m c 10 t : S256x1024.Idx → EReal) = M2 K.wuq := by
  have hi := idx_10 t
  funext j
  unfold iblk
  rw [View.read_apply]
  show V m c main_v81 _ = _
  rw [H.wuq]
  show K.wuq (win0_10.index t 0 * 256 + 1 * (j 0).val) (win0_10.index t 1 * 1024 + 1 * (j 1).val) = K.wuq _ _
  rw [hi.1, hi.2]
  exact (congrArg₂ K.wuq (by omega) (by omega))
theorem blk_11 (H : Holds m c K) (t : Fin cfg0.N) : (iblk m c 11 t : S128x1536.Idx → EReal) = M2 K.wkv := by
  have hi := idx_11 t
  funext j
  unfold iblk
  rw [View.read_apply]
  show V m c main_v82 _ = _
  rw [H.wkv]
  show K.wkv (win0_11.index t 0 * 128 + 1 * (j 0).val) (win0_11.index t 1 * 1536 + 1 * (j 1).val) = K.wkv _ _
  rw [hi.1, hi.2]
  exact (congrArg₂ K.wkv (by omega) (by omega))
theorem blk_12 (H : Holds m c K) (t : Fin cfg0.N) : (iblk m c 12 t : S16x1024.Idx → EReal) = M2 K.pv := by
  have hi := idx_12 t
  funext j
  unfold iblk
  rw [View.read_apply]
  have e : ∀ i : S16x1024.Idx, (V m c main_v69 : S16x1024.Idx → EReal) i = K.pv (i 0).val (i 1).val := fun i => congrFun H.pv i
  refine (e _).trans ?_
  have e0 : win0_12.index t 0 * 16 + 1 * (j 0).val = (j 0).val := by rw [hi.1]; omega
  have e1 : win0_12.index t 1 * 1024 + 1 * (j 1).val = (j 1).val := by rw [hi.2]; omega
  exact (congrArg₂ K.pv e0 e1)
theorem blk_13 (H : Holds m c K) (t : Fin cfg0.N) : (iblk m c 13 t : S16x1024.Idx → EReal) = M2 (fun _ _ => 0) := by
  have hi := idx_13 t
  funext j
  unfold iblk
  rw [View.read_apply]
  have e : ∀ i : S16x1024.Idx, (V m c main_v83 : S16x1024.Idx → EReal) i = (fun _ _ => 0 : ℕ → ℕ → EReal) (i 0).val (i 1).val := fun i => congrFun H.gv i
  refine (e _).trans ?_
  have e0 : win0_13.index t 0 * 16 + 1 * (j 0).val = (j 0).val := by rw [hi.1]; omega
  have e1 : win0_13.index t 1 * 1024 + 1 * (j 1).val = (j 1).val := by rw [hi.2]; omega
  exact (congrArg₂ (fun _ _ => (0 : EReal)) e0 e1)

theorem insAt_lift (H : Holds m c K) (t : Fin cfg0.N) : insAt m c t = lift (K.blk t.val) := by
  unfold insAt
  rw [show (iblk m c 0 t : S512x1024.Idx → EReal) = _ from blk_0 H t,
    show (iblk m c 1 t : S512x1024.Idx → EReal) = _ from blk_1 H t,
    show (iblk m c 2 t : S512x256.Idx → EReal) = _ from blk_2 H t,
    show (iblk m c 3 t : S512x128.Idx → EReal) = _ from blk_3 H t,
    show (iblk m c 4 t : S512x256.Idx → EReal) = _ from blk_4 H t,
    show (iblk m c 5 t : S512x1024.Idx → EReal) = _ from blk_5 H t,
    show (iblk m c 6 t : S512x1024.Idx → EReal) = _ from blk_6 H t,
    show (iblk m c 7 t : S512x512.Idx → EReal) = _ from blk_7 H t,
    show (iblk m c 8 t : S512x2048.Idx → EReal) = _ from blk_8 H t,
    show (iblk m c 9 t : S1024x2560.Idx → EReal) = _ from blk_9 H t,
    show (iblk m c 10 t : S256x1024.Idx → EReal) = _ from blk_10 H t,
    show (iblk m c 11 t : S128x1536.Idx → EReal) = _ from blk_11 H t,
    show (iblk m c 12 t : S16x1024.Idx → EReal) = _ from blk_12 H t,
    show (iblk m c 13 t : S16x1024.Idx → EReal) = _ from blk_13 H t]
  rfl

/-- A sum over the rows of the first `n` blocks. -/
def upTo (f : ℕ → EReal) (n : ℕ) : EReal := ∑ t ∈ Finset.range n, ∑ r ∈ Finset.range 512, f (512 * t + r)

theorem upTo_succ (f : ℕ → EReal) (n : ℕ) : upTo f (n + 1) = upTo f n + ∑ r ∈ Finset.range 512, f (512 * n + r) :=
  Finset.sum_range_succ _ _

/-- What the first `n` points leave in the four sums. -/
def sums (K : KR) (n : ℕ) : Acc Ideal :=
  lift4 (fun d e => upTo (fun s => K.pwin s d e) n) (fun d e => upTo (fun s => K.puq s d e) n)
    (fun d e => upTo (fun s => K.pkv s d e) n) (fun d e => upTo (fun s => K.pvec s d e) n)

theorem zeros : (⟨k0_pay3 (F := Ideal), k0_pay4 (F := Ideal), k0_pay5 (F := Ideal), k0_pay6 (F := Ideal) (M2 (fun _ _ => 0))⟩ : Acc Ideal) = sums K 0 := by
  rw [pay3_lift, pay4_lift, pay5_lift, pay6_lift]
  rfl

theorem accAt_lift (H : Holds m c K) : ∀ n, n < cfg0.N → accAt m c (n + 1) = sums K (n + 1) := by
  have stp : ∀ n, step (lift (K.blk n)) (sums K n) = sums K (n + 1) := fun n => by
    unfold sums
    rw [step_lift]
    unfold lift4
    simp only [upTo_succ, KR.blk_pwin, KR.blk_puq, KR.blk_pkv, KR.blk_pvec]
  intro n
  induction n with
  | zero =>
    intro h
    refine (accAt_succ m c ⟨0, h⟩).trans ?_
    rw [insAt_lift H]
    unfold point start
    rw [if_pos (coords_zero _)]
    have e : (⟨k0_pay3 (F := Ideal), k0_pay4 (F := Ideal), k0_pay5 (F := Ideal), k0_pay6 (F := Ideal) (lift (K.blk 0)).gv⟩ : Acc Ideal) = sums K 0 := zeros
    exact (congrArg (step (lift (K.blk 0))) e).trans (stp 0)
  | succ n ih =>
    intro h
    refine (accAt_succ m c ⟨n + 1, h⟩).trans ?_
    have e : accAt m c (n + 1) = sums K (n + 1) := ih (by omega)
    rw [insAt_lift H]
    unfold point start
    rw [if_neg (by rw [coords_zero]; exact Nat.succ_ne_zero n)]
    exact (congrArg (step (lift (K.blk (n + 1)))) e).trans (stp (n + 1))

theorem M2_at {a b : ℕ} (X : ℕ → ℕ → EReal) (i : (⟨2, ![a, b]⟩ : Shape).Idx) : M2 X i = X (i 0).val (i 1).val := rfl

theorem emb_14 (t : Fin cfg0.N) (j : S512x1024.Idx) (i : S8192x1024.Idx) (h : i = ((cfg0.win 14).blk t).view.emb j) :
    (i 0).val = win0_14.index t 0 * 512 + 1 * (j 0).val ∧ (i 1).val = win0_14.index t 1 * 1024 + 1 * (j 1).val := by
  subst h
  exact ⟨rfl, rfl⟩
theorem after_14 (H : Holds m c K) (t : Fin cfg0.N) : ((dats m 0 c).after 14 t : S512x1024.Idx → EReal) = M2 (K.blk t.val).gx := by
  have e : ((dats m 0 c).after 14 t : S512x1024.Idx → EReal) = gxOut (insAt m c t) := rfl
  rw [e, insAt_lift H, gxOut_lift]
theorem final_14 (H : Holds m c K) : (dats m 0 c).arrAt 14 cfg0.N = (M2 K.gx : S8192x1024.Idx → EReal) := by
  refine (dats m 0 c).arrAt_eq_of_covers 14 _ (by decide +kernel) fun t hf y => ?_
  blk_simp
  refine (congrFun (after_14 H t) y).trans ?_
  have he := emb_14 t y _ rfl
  have hi := idx_14 t
  rw [hi.1, hi.2] at he
  refine (M2_at _ (y : S512x1024.Idx)).trans (Eq.trans ?_ (M2_at K.gx (((cfg0.win 14).blk t).view.emb y : S8192x1024.Idx)).symm)
  rw [he.1, he.2, KR.blk_gx]
  rw [show t.val * 512 + 1 * ((y : S512x1024.Idx) 0).val = 512 * t.val + ((y : S512x1024.Idx) 0).val by omega,
    show 0 * 1024 + 1 * ((y : S512x1024.Idx) 1).val = ((y : S512x1024.Idx) 1).val by omega]

theorem emb_15 (t : Fin cfg0.N) (j : S1024x2560.Idx) (i : S1024x2560.Idx) (h : i = ((cfg0.win 15).blk t).view.emb j) :
    (i 0).val = win0_15.index t 0 * 1024 + 1 * (j 0).val ∧ (i 1).val = win0_15.index t 1 * 2560 + 1 * (j 1).val := by
  subst h
  exact ⟨rfl, rfl⟩
theorem after_15 (H : Holds m c K) (t : Fin cfg0.N) : ((dats m 0 c).after 15 t : S1024x2560.Idx → EReal) = (sums K (t.val + 1)).win := by
  have e : ((dats m 0 c).after 15 t : S1024x2560.Idx → EReal) = (accAt m c (t.val + 1)).win := rfl
  rw [e, accAt_lift H t.val t.isLt]
theorem final_15 (H : Holds m c K) : (dats m 0 c).arrAt 15 cfg0.N = (M2 (fun d e => upTo (fun s => K.pwin s d e) 16) : S1024x2560.Idx → EReal) := by
  refine (dats m 0 c).arrAt_eq_of_covers 15 _ (by decide +kernel) fun t hf y => ?_
  blk_simp
  refine (congrFun (after_15 H t) y).trans ?_
  have he := emb_15 t y _ rfl
  have hi := idx_15 t
  rw [hi.1, hi.2] at he
  have h15 : t.val = 15 := by have h1 := (flush0_15 t).1 hf; have h2 : t.val < 16 := t.isLt; omega
  rw [h15]
  refine (M2_at (fun d e => upTo (fun s => K.pwin s d e) 16) (y : S1024x2560.Idx)).trans (Eq.trans ?_ (M2_at (fun d e => upTo (fun s => K.pwin s d e) 16) (((cfg0.win 15).blk t).view.emb y : S1024x2560.Idx)).symm)
  rw [he.1, he.2]
  rw [show 0 * 1024 + 1 * ((y : S1024x2560.Idx) 0).val = ((y : S1024x2560.Idx) 0).val by omega,
    show 0 * 2560 + 1 * ((y : S1024x2560.Idx) 1).val = ((y : S1024x2560.Idx) 1).val by omega]

theorem emb_16 (t : Fin cfg0.N) (j : S256x1024.Idx) (i : S256x1024.Idx) (h : i = ((cfg0.win 16).blk t).view.emb j) :
    (i 0).val = win0_16.index t 0 * 256 + 1 * (j 0).val ∧ (i 1).val = win0_16.index t 1 * 1024 + 1 * (j 1).val := by
  subst h
  exact ⟨rfl, rfl⟩
theorem after_16 (H : Holds m c K) (t : Fin cfg0.N) : ((dats m 0 c).after 16 t : S256x1024.Idx → EReal) = (sums K (t.val + 1)).uq := by
  have e : ((dats m 0 c).after 16 t : S256x1024.Idx → EReal) = (accAt m c (t.val + 1)).uq := rfl
  rw [e, accAt_lift H t.val t.isLt]
theorem final_16 (H : Holds m c K) : (dats m 0 c).arrAt 16 cfg0.N = (M2 (fun d e => upTo (fun s => K.puq s d e) 16) : S256x1024.Idx → EReal) := by
  refine (dats m 0 c).arrAt_eq_of_covers 16 _ (by decide +kernel) fun t hf y => ?_
  blk_simp
  refine (congrFun (after_16 H t) y).trans ?_
  have he := emb_16 t y _ rfl
  have hi := idx_16 t
  rw [hi.1, hi.2] at he
  have h15 : t.val = 15 := by have h1 := (flush0_16 t).1 hf; have h2 : t.val < 16 := t.isLt; omega
  rw [h15]
  refine (M2_at (fun d e => upTo (fun s => K.puq s d e) 16) (y : S256x1024.Idx)).trans (Eq.trans ?_ (M2_at (fun d e => upTo (fun s => K.puq s d e) 16) (((cfg0.win 16).blk t).view.emb y : S256x1024.Idx)).symm)
  rw [he.1, he.2]
  rw [show 0 * 256 + 1 * ((y : S256x1024.Idx) 0).val = ((y : S256x1024.Idx) 0).val by omega,
    show 0 * 1024 + 1 * ((y : S256x1024.Idx) 1).val = ((y : S256x1024.Idx) 1).val by omega]

theorem emb_17 (t : Fin cfg0.N) (j : S128x1536.Idx) (i : S128x1536.Idx) (h : i = ((cfg0.win 17).blk t).view.emb j) :
    (i 0).val = win0_17.index t 0 * 128 + 1 * (j 0).val ∧ (i 1).val = win0_17.index t 1 * 1536 + 1 * (j 1).val := by
  subst h
  exact ⟨rfl, rfl⟩
theorem after_17 (H : Holds m c K) (t : Fin cfg0.N) : ((dats m 0 c).after 17 t : S128x1536.Idx → EReal) = (sums K (t.val + 1)).kv := by
  have e : ((dats m 0 c).after 17 t : S128x1536.Idx → EReal) = (accAt m c (t.val + 1)).kv := rfl
  rw [e, accAt_lift H t.val t.isLt]
theorem final_17 (H : Holds m c K) : (dats m 0 c).arrAt 17 cfg0.N = (M2 (fun d e => upTo (fun s => K.pkv s d e) 16) : S128x1536.Idx → EReal) := by
  refine (dats m 0 c).arrAt_eq_of_covers 17 _ (by decide +kernel) fun t hf y => ?_
  blk_simp
  refine (congrFun (after_17 H t) y).trans ?_
  have he := emb_17 t y _ rfl
  have hi := idx_17 t
  rw [hi.1, hi.2] at he
  have h15 : t.val = 15 := by have h1 := (flush0_17 t).1 hf; have h2 : t.val < 16 := t.isLt; omega
  rw [h15]
  refine (M2_at (fun d e => upTo (fun s => K.pkv s d e) 16) (y : S128x1536.Idx)).trans (Eq.trans ?_ (M2_at (fun d e => upTo (fun s => K.pkv s d e) 16) (((cfg0.win 17).blk t).view.emb y : S128x1536.Idx)).symm)
  rw [he.1, he.2]
  rw [show 0 * 128 + 1 * ((y : S128x1536.Idx) 0).val = ((y : S128x1536.Idx) 0).val by omega,
    show 0 * 1536 + 1 * ((y : S128x1536.Idx) 1).val = ((y : S128x1536.Idx) 1).val by omega]

theorem emb_18 (t : Fin cfg0.N) (j : S16x1024.Idx) (i : S16x1024.Idx) (h : i = ((cfg0.win 18).blk t).view.emb j) :
    (i 0).val = win0_18.index t 0 * 16 + 1 * (j 0).val ∧ (i 1).val = win0_18.index t 1 * 1024 + 1 * (j 1).val := by
  subst h
  exact ⟨rfl, rfl⟩
theorem after_18 (H : Holds m c K) (t : Fin cfg0.N) : ((dats m 0 c).after 18 t : S16x1024.Idx → EReal) = (sums K (t.val + 1)).vec := by
  have e : ((dats m 0 c).after 18 t : S16x1024.Idx → EReal) = (accAt m c (t.val + 1)).vec := rfl
  rw [e, accAt_lift H t.val t.isLt]
theorem final_18 (H : Holds m c K) : (dats m 0 c).arrAt 18 cfg0.N = (M2 (fun d e => upTo (fun s => K.pvec s d e) 16) : S16x1024.Idx → EReal) := by
  refine (dats m 0 c).arrAt_eq_of_covers 18 _ (by decide +kernel) fun t hf y => ?_
  blk_simp
  refine (congrFun (after_18 H t) y).trans ?_
  have he := emb_18 t y _ rfl
  have hi := idx_18 t
  rw [hi.1, hi.2] at he
  have h15 : t.val = 15 := by have h1 := (flush0_18 t).1 hf; have h2 : t.val < 16 := t.isLt; omega
  rw [h15]
  refine (M2_at (fun d e => upTo (fun s => K.pvec s d e) 16) (y : S16x1024.Idx)).trans (Eq.trans ?_ (M2_at (fun d e => upTo (fun s => K.pvec s d e) 16) (((cfg0.win 18).blk t).view.emb y : S16x1024.Idx)).symm)
  rw [he.1, he.2]
  rw [show 0 * 16 + 1 * ((y : S16x1024.Idx) 0).val = ((y : S16x1024.Idx) 0).val by omega,
    show 0 * 1024 + 1 * ((y : S16x1024.Idx) 1).val = ((y : S16x1024.Idx) 1).val by omega]

end Cert.Kernel2Ideal.Hand

end
-- ==== Proof.Host2.lean ====
/-
  The lines before the projections' gradient call, over the extended reals: the latents, the rotation's tables and the padded
  layouts of the weights and of the gradients.
-/
module

public import proofs.«01_k».proof.Proof.Host
public import proofs.«01_k».proof.Proof.Grid2

@[expose] public section

set_option maxRecDepth 16384

noncomputable section

namespace Cert.Kernel2Ideal.Hand

open Cert.Kernel2Ideal Cert.Kernel2Ideal.Gen Cert.Proj
open Cert.Attn (angle angle_word w_one w_neg_one w_zero)
open Cert.KernelIdeal.Hand (sitofp_zero and3_word toInt_ofNat)
open Idealize.ShloMosaic Idealize.ShloMosaic.TcCoe
open scoped BigOperators
variable {m : (ℓ : Loc nD τ sig) → Buf (Elt Ideal) ℓ} {c : Dev nD} {I : In}

/-- The call's arguments are the inputs `I`. -/
structure Args (m : (ℓ : Loc nD τ sig) → Buf (Elt Ideal) ℓ) (c : Dev nD) (I : In) : Prop where
  x : (m (c, Proc.tc.devRef main_arg0) : S8192x1024.Idx → EReal) = M2 I.x
  win : (m (c, Proc.tc.devRef main_arg1) : S1024x2464.Idx → EReal) = M2 I.win
  qg : (m (c, Proc.tc.devRef main_arg2) : S256.Idx → EReal) = M1 I.qg
  uq : (m (c, Proc.tc.devRef main_arg3) : S256x768.Idx → EReal) = M2 I.uq
  kg : (m (c, Proc.tc.devRef main_arg4) : S128.Idx → EReal) = M1 I.kg
  ukv : (m (c, Proc.tc.devRef main_arg5) : S128x1024.Idx → EReal) = M2 I.ukv
  h : (m (c, Proc.tc.devRef main_arg6) : S8192x1024.Idx → EReal) = M2 I.h
  gt : (m (c, Proc.tc.devRef main_arg7) : S8192x2048.Idx → EReal) = M2 I.gt
  q : (m (c, Proc.tc.devRef main_arg8) : S8192x8x96.Idx → EReal) = M3 I.q
  k : (m (c, Proc.tc.devRef main_arg9) : S8192x8x96.Idx → EReal) = M3 I.k
  v : (m (c, Proc.tc.devRef main_arg10) : S8192x8x64.Idx → EReal) = M3 I.v
  th : ∀ (s : Fin 8192) (i : ℕ), I.th s.val i = angle ((m (c, Proc.tc.devRef main_arg11) : S8192.Idx → BitVec 32) (ix1 s)).toInt i

theorem cq1 (H : Args m c I) : (V m c main_v1 : S8192x256.Idx → EReal) = M2 (krOf I).cq := by
  funext j; idx_vars j
  rename' j0 => s, j1 => r
  unfold V
  after_reads_at
  rw [H.x, H.win]
  simp only [M2_ix]
  rw [dot_range (fun d => I.x s.val d) (fun d => I.win d r.val)]
  rfl
theorem ckv3 (H : Args m c I) : (V m c main_v3 : S8192x128.Idx → EReal) = M2 (krOf I).ckv := by
  funext j; idx_vars j
  rename' j0 => s, j1 => r
  unfold V
  after_reads_at
  rw [H.x, H.win]
  simp only [M2_ix]
  rw [dot_range (fun d => I.x s.val d) (fun d => I.win d (256 + r.val))]
  rfl

theorem cs23 (H : Args m c I) : (V m c main_v23 : S8192x256.Idx → EReal) = M2 (krOf I).cs := by
  have hc (x : ℝ) : Ideal.cos (x : EReal) = ((Real.cos x : ℝ) : EReal) := rfl
  have hs (x : ℝ) : Ideal.sin (x : EReal) = ((Real.sin x : ℝ) : EReal) := rfl
  funext j; idx_vars j
  rename' j0 => s, j1 => l
  unfold V
  after_reads_at
  after_reads_at
  rw [M2_at]
  show _ = (if l.val < 64 then 1 else if l.val < 80 then ((Real.cos (I.th s.val (l.val - 64)) : ℝ) : EReal) else if l.val < 96 then
    ((Real.cos (I.th s.val (l.val - 80)) : ℝ) : EReal) else if l.val < 128 then 1 else if l.val < 192 then 0 else if l.val < 208 then
    ((Real.sin (I.th s.val (l.val - 192)) : ℝ) : EReal) else if l.val < 224 then ((Real.sin (I.th s.val (l.val - 208)) : ℝ) : EReal) else 0 : EReal)
  split
  · rfl
  split
  · next h1 => rw [if_pos (by omega), angle_word _ _ h1, ← H.th, hc]
  rw [if_neg (by omega)]
  split
  · next h1 => rw [if_pos (by omega), angle_word _ _ h1, ← H.th, hc, show l.val - 64 - 16 = l.val - 80 by omega]
  rw [if_neg (by omega)]
  split
  · next h1 => rw [if_pos (by omega)]
  rw [if_neg (by omega)]
  split
  · next h1 => rw [if_pos (by omega)]
  rw [if_neg (by omega)]
  split
  · next h1 => rw [if_pos (by omega), angle_word _ _ h1, ← H.th, hs, show l.val - 64 - 16 - 16 - 32 - 64 = l.val - 192 by omega]
  rw [if_neg (by omega)]
  split
  · next h1 => rw [if_pos (by omega), angle_word _ _ h1, ← H.th, hs, show l.val - 64 - 16 - 16 - 32 - 64 - 16 = l.val - 208 by omega]
  rw [if_neg (by omega)]

theorem dq72 (H : Args m c I) : (V m c main_v72 : S8192x1024.Idx → EReal) = M2 (krOf I).dq := by
  funext j; idx_vars j
  rename' j0 => s, j1 => l
  unfold V
  after_reads_at
  rw [H.q, M2_at]
  simp only [M3_ix]
  show _ = (if l.val % 128 < 96 then I.q s.val (l.val / 128) (l.val % 128) else 0 : EReal)
  split
  · next h1 => rw [if_pos h1.2]
  · next h1 => rw [if_neg (by omega), sitofp_zero, EReal.coe_zero]
theorem dk75 (H : Args m c I) : (V m c main_v75 : S8192x1024.Idx → EReal) = M2 (krOf I).dk := by
  funext j; idx_vars j
  rename' j0 => s, j1 => l
  unfold V
  after_reads_at
  rw [H.k, M2_at]
  simp only [M3_ix]
  show _ = (if l.val % 128 < 96 then I.k s.val (l.val / 128) (l.val % 128) else 0 : EReal)
  split
  · next h1 => rw [if_pos h1.2]
  · next h1 => rw [if_neg (by omega), sitofp_zero, EReal.coe_zero]
theorem dv77 (H : Args m c I) : (V m c main_v77 : S8192x512.Idx → EReal) = M2 (krOf I).dv := by
  funext j; idx_vars j
  rename' j0 => s, j1 => l
  unfold V
  after_reads_at
  rw [H.v]
  rfl
theorem dg78 (H : Args m c I) : (V m c main_v78 : S8192x2048.Idx → EReal) = M2 (krOf I).dg := by
  funext j; idx_vars j
  rename' j0 => s, j1 => l
  unfold V
  after_reads_at
  rw [H.gt]
  rfl

end Cert.Kernel2Ideal.Hand

end
-- ==== Proof.Host3.lean ====
/-
  The weights and the packed vectors before the projections' gradient call, over the extended reals.
-/
module

public import proofs.«01_k».proof.Proof.Host2

@[expose] public section

set_option maxRecDepth 16384

noncomputable section

namespace Cert.Kernel2Ideal.Hand

open Cert.Kernel2Ideal Cert.Kernel2Ideal.Gen Cert.Proj
open Cert.Attn (angle angle_word w_one w_neg_one w_zero)
open Cert.KernelIdeal.Hand (sitofp_zero and3_word toInt_ofNat)
open Idealize.ShloMosaic Idealize.ShloMosaic.TcCoe
open scoped BigOperators
variable {m : (ℓ : Loc nD τ sig) → Buf (Elt Ideal) ℓ} {c : Dev nD} {I : In}

theorem win79 (H : Args m c I) : (V m c main_v79 : S1024x2560.Idx → EReal) = M2 (krOf I).win := by
  funext j; idx_vars j
  rename' j0 => d, j1 => e
  unfold V
  after_reads_at
  after_reads_at
  rw [M2_at]
  show _ = (if e.val < 384 then I.win d.val e.val else if e.val < 448 then 0 else if e.val < 480 then I.win d.val (384 + (e.val - 448))
    else if e.val < 512 then 0 else I.win d.val (416 + (e.val - 512)) : EReal)
  rw [H.win]
  simp only [M2_ix]
  split
  · rfl
  split
  · rw [if_pos (by omega)]
  rw [if_neg (by omega)]
  split
  · next h1 => rw [if_pos (by omega), show e.val - 384 - 64 = e.val - 448 by omega]
  rw [if_neg (by omega)]
  split
  · rw [if_pos (by omega)]
  · next h1 => rw [if_neg (by omega), show e.val - 384 - 64 - 32 - 32 = e.val - 512 by omega]

/-- A choice by one equality of small numbers, as words. -/
theorem eq_word (r a : ℕ) (hr : r < 65536) (ha : a < 65536) {α : Type} (x y : α) :
    Scalar.select (IntOp.cmpi .eq (BitVec.ofNat 32 r) (BitVec.ofNat 32 a)) x y = if r = a then x else y := by
  show Scalar.select (BitVec.ofBool (BitVec.ofNat 32 r == BitVec.ofNat 32 a)) x y = _
  have e1 : (BitVec.ofNat 32 r == BitVec.ofNat 32 a) = decide (r = a) := by
    rw [Bool.eq_iff_iff]
    simp only [beq_iff_eq, decide_eq_true_eq]
    constructor
    · intro h
      have := congrArg BitVec.toNat h
      simp only [BitVec.toNat_ofNat] at this
      omega
    · intro h; rw [h]
  rw [e1]
  by_cases h1 : r = a <;> simp [h1, Scalar.select]

theorem pv69 (H : Args m c I) : (V m c main_v69 : S16x1024.Idx → EReal) = M2 (krOf I).pv := by
  funext j; idx_vars j
  rename' j0 => a, j1 => l
  unfold V
  after_reads_at
  simp only [id]
  pointwise
  rw [and3_word _ _ 5 64 80 (by omega) (by omega) (by omega) (by omega) (by omega),
    and3_word _ _ 6 80 96 (by omega) (by omega) (by omega) (by omega) (by omega), eq_word _ 1 (by omega) (by omega),
    eq_word _ 0 (by omega) (by omega), M2_at, H.kg, H.qg]
  simp only [M1_ix]
  show _ = (if a.val = 1 then if l.val < 128 then I.kg l.val else 0 else if a.val = 0 then if l.val < 256 then I.qg l.val else 0
    else if a.val = 5 ∧ 64 ≤ l.val ∧ l.val < 80 then ((-1 : ℝ) : EReal) else if a.val = 6 ∧ 80 ≤ l.val ∧ l.val < 96 then 1 else 0 : EReal)
  split
  · split
    · rfl
    · exact sitofp_zero
  split
  · split
    · rfl
    · exact sitofp_zero
  split
  · exact w_neg_one
  · split <;> rfl

theorem gv83 : (V m c main_v83 : S16x1024.Idx → EReal) = M2 (fun _ _ => 0) := by
  funext j; idx_vars j
  unfold V
  after_reads_at
  rfl

end Cert.Kernel2Ideal.Hand

end
-- ==== Proof.Host4.lean ====
/-
  The low-rank weights before the projections' gradient call, over the extended reals.
-/
module

public import proofs.«01_k».proof.Proof.Host3

@[expose] public section

set_option maxRecDepth 16384

noncomputable section

namespace Cert.Kernel2Ideal.Hand

open Cert.Kernel2Ideal Cert.Kernel2Ideal.Gen Cert.Proj
open Cert.Attn (angle angle_word w_one w_neg_one w_zero)
open Cert.KernelIdeal.Hand (sitofp_zero and3_word toInt_ofNat)
open Idealize.ShloMosaic Idealize.ShloMosaic.TcCoe
open scoped BigOperators
variable {m : (ℓ : Loc nD τ sig) → Buf (Elt Ideal) ℓ} {c : Dev nD} {I : In}

theorem w31 (H : Args m c I) : (V m c main_v31 : S256x8x128.Idx → EReal) = M3 (fun j h d => if d < 96 then I.uq j (h * 96 + d) else 0) := by
  funext j; idx_vars j
  rename' j0 => r, j1 => h, j2 => d
  unfold V
  after_reads_at
  rw [H.uq]
  simp only [M2_ix, M3_ix]
  split
  · rfl
  · exact sitofp_zero

theorem wuq81 (H : Args m c I) : (V m c main_v81 : S256x1024.Idx → EReal) = M2 (krOf I).wuq := by
  have h31 := w31 H
  funext j; idx_vars j
  rename' j0 => r, j1 => e
  revert h31
  unfold V
  after_reads_simp
  simp -implicitDefEqProofs only [StableHlo.TRef.toBuf, StableHlo.TRef.ofBuf, cast_cast, cast_eq]
  clean_types
  intro h31
  simp only [h31]
  pointwise
  rw [M3_ix, M2_ix]
  show _ = (if e.val % 128 < 96 then I.uq r.val (96 * (e.val / 128) + e.val % 128) else 0 : EReal)
  simp only [show e.val / 128 * 96 = 96 * (e.val / 128) by omega]

theorem w32 (H : Args m c I) : (V m c main_v32 : S128x8x128.Idx → EReal) = M3 (fun j h d => I.ukv j (h * 128 + d)) := by
  funext j; idx_vars j
  rename' j0 => r, j1 => h, j2 => d
  unfold V
  after_reads_at
  rw [H.ukv]
  rfl

theorem w34 (H : Args m c I) : (V m c main_v34 : S128x8x128.Idx → EReal) = M3 (fun j h d => if d < 64 then I.ukv j (h * 128 + d) else 0) := by
  have h32 := w32 H
  funext j; idx_vars j
  rename' j0 => r, j1 => h, j2 => d
  revert h32
  unfold V
  after_reads_simp
  simp -implicitDefEqProofs only [StableHlo.TRef.toBuf, StableHlo.TRef.ofBuf, cast_cast, cast_eq]
  clean_types
  intro h32
  simp only [h32]
  pointwise
  simp only [M3_ix]
  split
  · rfl
  · exact sitofp_zero

theorem w36 (H : Args m c I) : (V m c main_v36 : S128x8x64.Idx → EReal) = M3 (fun j h d => I.ukv j (h * 128 + (64 + d))) := by
  funext j; idx_vars j
  rename' j0 => r, j1 => h, j2 => d
  unfold V
  after_reads_at
  rw [H.ukv]
  rfl

theorem wkv82 (H : Args m c I) : (V m c main_v82 : S128x1536.Idx → EReal) = M2 (krOf I).wkv := by
  have h34 := w34 H
  have h36 := w36 H
  funext j; idx_vars j
  rename' j0 => r, j1 => e
  unfold V
  after_reads_at
  rw [M2_ix]
  show _ = (if e.val < 1024 then if e.val % 128 < 64 then I.ukv r.val (128 * (e.val / 128) + e.val % 128) else 0
    else I.ukv r.val (128 * ((e.val - 1024) / 64) + (64 + (e.val - 1024) % 64)) : EReal)
  split
  · revert h34
    unfold V
    after_reads_simp
    try simp -implicitDefEqProofs only [StableHlo.TRef.toBuf, StableHlo.TRef.ofBuf, cast_cast, cast_eq]
    clean_types
    intro h34
    simp only [h34]
    pointwise
    simp only [M3_ix]
    simp only [show e.val / 128 * 128 = 128 * (e.val / 128) by omega]
  · revert h36
    unfold V
    after_reads_simp
    try simp -implicitDefEqProofs only [StableHlo.TRef.toBuf, StableHlo.TRef.ofBuf, cast_cast, cast_eq]
    clean_types
    intro h36
    simp only [h36]
    pointwise
    simp only [M3_ix]
    simp only [show (e.val - 1024) / 64 * 128 = 128 * ((e.val - 1024) / 64) by omega]

theorem holds (H : Args m c I) : Holds m c (krOf I) where
  x := by
    rw [V_main_arg0]; exact H.x
  dh := by
    rw [V_main_arg6]; exact H.h
  cq := cq1 H
  ckv := ckv3 H
  cs := cs23 H
  dq := dq72 H
  dk := dk75 H
  dv := dv77 H
  dg := dg78 H
  win := win79 H
  wuq := wuq81 H
  wkv := wkv82 H
  pv := pv69 H
  gv := gv83

end Cert.Kernel2Ideal.Hand

end
-- ==== Proof.Tail2.lean ====
/-
  The lines after the projections' gradient call: the results cut out of the call's padded arrays.
-/
module

public import proofs.«01_k».proof.Proof.Host2

@[expose] public section

set_option maxRecDepth 16384

noncomputable section

namespace Cert.Kernel2Ideal.Hand

open Cert.Kernel2Ideal Cert.Kernel2Ideal.Gen Cert.Proj
open Idealize.ShloMosaic Idealize.ShloMosaic.TcCoe
variable {m : (ℓ : Loc nD τ sig) → Buf (Elt Ideal) ℓ} {c : Dev nD} {K : KR}

/-- What a buffer holds after the lines that follow the call. -/
abbrev W (m : (ℓ : Loc nD τ sig) → Buf (Elt Ideal) ℓ) (c : Dev nD) (b : Ref sig .tc) : Buf (Elt Ideal) ((c.tc : Thread nD τ).loc b) :=
  Pipeline.afterTail₀ cfgs (dats m) 0 (V0 m) [hostOps1] c b

/-- The sum the kernel makes over all rows, for the weight gradient of `w_in`, on its padded columns. -/
def oin (K : KR) (d e : ℕ) : EReal := upTo (fun s => K.pwin s d e) 16
def oq (K : KR) (r e : ℕ) : EReal := upTo (fun s => K.puq s r e) 16
def okv (K : KR) (r e : ℕ) : EReal := upTo (fun s => K.pkv s r e) 16
def ovec (K : KR) (a l : ℕ) : EReal := upTo (fun s => K.pvec s a l) 16

theorem hinj0 : Function.Injective (Pipeline.arrRef spec0) :=
  fun w w' => (by decide : ∀ w w', Pipeline.arrRef spec0 w = Pipeline.arrRef spec0 w' → w = w') w w'

theorem arr15 (H : Holds m c K) : (Pipeline.withArrays (cfgs 0).spec c (V0 m c) (fun w => (dats m 0 c).arrAt w (cfgs 0).N)
    (Proc.tc.devRef main_v84_1) : S1024x2560.Idx → EReal) = M2 (oin K) :=
  (Pipeline.withArrays_arr spec0 hinj0 c (V0 m c) (fun w => (dats m 0 c).arrAt w (cfgs 0).N) 15).trans (final_15 H)
theorem arr16 (H : Holds m c K) : (Pipeline.withArrays (cfgs 0).spec c (V0 m c) (fun w => (dats m 0 c).arrAt w (cfgs 0).N)
    (Proc.tc.devRef main_v84_2) : S256x1024.Idx → EReal) = M2 (oq K) :=
  (Pipeline.withArrays_arr spec0 hinj0 c (V0 m c) (fun w => (dats m 0 c).arrAt w (cfgs 0).N) 16).trans (final_16 H)
theorem arr17 (H : Holds m c K) : (Pipeline.withArrays (cfgs 0).spec c (V0 m c) (fun w => (dats m 0 c).arrAt w (cfgs 0).N)
    (Proc.tc.devRef main_v84_3) : S128x1536.Idx → EReal) = M2 (okv K) :=
  (Pipeline.withArrays_arr spec0 hinj0 c (V0 m c) (fun w => (dats m 0 c).arrAt w (cfgs 0).N) 17).trans (final_17 H)
theorem arr18 (H : Holds m c K) : (Pipeline.withArrays (cfgs 0).spec c (V0 m c) (fun w => (dats m 0 c).arrAt w (cfgs 0).N)
    (Proc.tc.devRef main_v84_4) : S16x1024.Idx → EReal) = M2 (ovec K) :=
  (Pipeline.withArrays_arr spec0 hinj0 c (V0 m c) (fun w => (dats m 0 c).arrAt w (cfgs 0).N) 18).trans (final_18 H)

theorem tail88 (H : Holds m c K) : (W m c main_v88 : S1024x2464.Idx → EReal)
    = M2 (fun d e => if e < 384 then oin K d e else if e < 416 then oin K d (448 + (e - 384)) else oin K d (512 + (e - 416))) := by
  funext j; idx_vars j
  rename' j0 => d, j1 => e
  unfold W Pipeline.afterTail₀
  after_reads_at
  after_reads_at
  rw [arr15 H]
  simp only [M2_ix]
  split
  · rfl
  split
  · next h1 h2 => rw [if_pos (by omega)]
  · next h1 h2 => rw [if_neg (by omega), show e.val - 384 - 32 = e.val - 416 by omega]

theorem tail89 (H : Holds m c K) : (W m c main_v89 : S256x8x128.Idx → EReal) = M3 (fun r h d => oq K r (h * 128 + d)) := by
  funext j; idx_vars j
  rename' j0 => r, j1 => h, j2 => d
  unfold W Pipeline.afterTail₀
  after_reads_at
  rw [arr16 H]
  rfl

theorem tail90 (H : Holds m c K) : (W m c main_v90 : S256x8x96.Idx → EReal) = M3 (fun r h d => oq K r (h * 128 + d)) := by
  have hp := tail89 H
  funext j; idx_vars j
  rename' j0 => r, j1 => h, j2 => d
  revert hp
  unfold W Pipeline.afterTail₀
  after_reads_simp
  try simp -implicitDefEqProofs only [StableHlo.TRef.toBuf, StableHlo.TRef.ofBuf, cast_cast, cast_eq]
  clean_types
  intro hp
  simp only [hp]
  pointwise
  rfl

theorem tail91 (H : Holds m c K) : (W m c main_v91 : S256x768.Idx → EReal) = M2 (fun r e => oq K r (128 * (e / 96) + e % 96)) := by
  have hp := tail90 H
  funext j; idx_vars j
  rename' j0 => r, j1 => e
  revert hp
  unfold W Pipeline.afterTail₀
  after_reads_simp
  try simp -implicitDefEqProofs only [StableHlo.TRef.toBuf, StableHlo.TRef.ofBuf, cast_cast, cast_eq]
  clean_types
  intro hp
  simp only [hp]
  pointwise
  rw [M3_ix, M2_ix]
  simp only [show e.val / 96 * 128 = 128 * (e.val / 96) by omega]

theorem tail99 (H : Holds m c K) : (W m c main_v99 : S256.Idx → EReal) = M1 (fun l => ovec K 0 l) := by
  funext j; idx_vars j
  unfold W Pipeline.afterTail₀
  after_reads_at
  rw [arr18 H]
  rfl

theorem tail101 (H : Holds m c K) : (W m c main_v101 : S128.Idx → EReal) = M1 (fun l => ovec K 1 l) := by
  funext j; idx_vars j
  unfold W Pipeline.afterTail₀
  after_reads_at
  rw [arr18 H]
  rfl

end Cert.Kernel2Ideal.Hand

end
-- ==== Proof.Tail3.lean ====
/-
  The lines after the projections' gradient call, continued: the gradient of the key and value weights.
-/
module

public import proofs.«01_k».proof.Proof.Tail2

@[expose] public section

set_option maxRecDepth 16384

noncomputable section

namespace Cert.Kernel2Ideal.Hand

open Cert.Kernel2Ideal Cert.Kernel2Ideal.Gen Cert.Proj
open Idealize.ShloMosaic Idealize.ShloMosaic.TcCoe
variable {m : (ℓ : Loc nD τ sig) → Buf (Elt Ideal) ℓ} {c : Dev nD} {K : KR}

theorem tail93 (H : Holds m c K) : (W m c main_v93 : S128x8x128.Idx → EReal) = M3 (fun r h d => okv K r (h * 128 + d)) := by
  funext j; idx_vars j
  rename' j0 => r, j1 => h, j2 => d
  unfold W Pipeline.afterTail₀
  after_reads_at
  rw [arr17 H]
  rfl

theorem tail94 (H : Holds m c K) : (W m c main_v94 : S128x8x64.Idx → EReal) = M3 (fun r h d => okv K r (h * 128 + d)) := by
  have hp := tail93 H
  funext j; idx_vars j
  rename' j0 => r, j1 => h, j2 => d
  revert hp
  unfold W Pipeline.afterTail₀
  after_reads_simp
  try simp -implicitDefEqProofs only [StableHlo.TRef.toBuf, StableHlo.TRef.ofBuf, cast_cast, cast_eq]
  clean_types
  intro hp
  simp only [hp]
  pointwise
  rfl

theorem tail96 (H : Holds m c K) : (W m c main_v96 : S128x8x64.Idx → EReal) = M3 (fun r h d => okv K r (1024 + (h * 64 + d))) := by
  funext j; idx_vars j
  rename' j0 => r, j1 => h, j2 => d
  unfold W Pipeline.afterTail₀
  after_reads_at
  rw [arr17 H]
  rfl

theorem tail97 (H : Holds m c K) : (W m c main_v97 : S128x8x128.Idx → EReal)
    = M3 (fun r h d => if d < 64 then okv K r (h * 128 + d) else okv K r (1024 + (h * 64 + (d - 64)))) := by
  have h94 := tail94 H
  have h96 := tail96 H
  revert h94 h96
  unfold W Pipeline.afterTail₀
  after_reads_simp
  intro h94 h96
  refine Eq.trans (b := concatenate S128x8x128 2 [⟨S128x8x64, (M3 (fun r h d => okv K r (h * 128 + d)) : S128x8x64.Idx → EReal)⟩, ⟨S128x8x64, (M3 (fun r h d => okv K r (1024 + (h * 64 + d))) : S128x8x64.Idx → EReal)⟩] concatenates_S128x8x64_S128x8x64_S128x8x128_d2) ?_ ?_
  · rw [← h94, ← h96]
    rfl
  · funext j; idx_vars j
    pointwise
    simp only [M3_ix]
    split <;> rfl

theorem tail102 (H : Holds m c K) : (W m c main_v102 : S128x1024.Idx → EReal) = M2 (fun r e => if e % 128 < 64 then okv K r (128 * (e / 128) + e % 128) else okv K r (1024 + (64 * (e / 128) + (e % 128 - 64)))) := by
  have hp := tail97 H
  funext j; idx_vars j
  rename' j0 => r, j1 => e
  revert hp
  unfold W Pipeline.afterTail₀
  after_reads_simp
  try simp -implicitDefEqProofs only [StableHlo.TRef.toBuf, StableHlo.TRef.ofBuf, cast_cast, cast_eq]
  clean_types
  intro hp
  simp only [hp]
  pointwise
  rw [M3_ix, M2_ix]
  simp only [show e.val / 128 * 128 = 128 * (e.val / 128) by omega, show e.val / 128 * 64 = 64 * (e.val / 128) by omega]

end Cert.Kernel2Ideal.Hand

end
-- ==== Proof.Real2.lean ====
/-
  The projections' gradient call on its padded layouts computes the gradients: the padded lanes contribute nothing.
-/
module

public import proofs.«01_k».proof.Proof.Model2
public import proofs.«01_k».proof.Proof.Real

@[expose] public section

noncomputable section

namespace Cert.Proj

open scoped BigOperators

variable (I : In)

theorem dq_at (s h d : ℕ) (hd : d < 128) : (krOf I).dq s (128 * h + d) = if d < 96 then I.q s h d else 0 := by
  show (if (128 * h + d) % 128 < 96 then I.q s ((128 * h + d) / 128) ((128 * h + d) % 128) else 0) = _
  rw [show (128 * h + d) % 128 = d by omega, show (128 * h + d) / 128 = h by omega]
theorem dk_at (s h d : ℕ) (hd : d < 128) : (krOf I).dk s (128 * h + d) = if d < 96 then I.k s h d else 0 := by
  show (if (128 * h + d) % 128 < 96 then I.k s ((128 * h + d) / 128) ((128 * h + d) % 128) else 0) = _
  rw [show (128 * h + d) % 128 = d by omega, show (128 * h + d) / 128 = h by omega]
theorem wuq_at (r h d : ℕ) (hd : d < 128) : (krOf I).wuq r (128 * h + d) = if d < 96 then I.uq r (96 * h + d) else 0 := by
  show (if (128 * h + d) % 128 < 96 then I.uq r (96 * ((128 * h + d) / 128) + (128 * h + d) % 128) else 0) = _
  rw [show (128 * h + d) % 128 = d by omega, show (128 * h + d) / 128 = h by omega]

theorem dqn_eq (s r : ℕ) : (krOf I).dqn s r = dqn I s r := by
  unfold KR.dqn dqn
  rw [show 1024 = 128 * 8 by rfl, show 768 = 96 * 8 by rfl, ← sum_blocks 8 128, ← sum_blocks 8 96]
  refine Finset.sum_congr rfl fun h _ => sum_cut 128 96 (by omega) _ _ (fun d hd => ?_) (fun d h1 h2 => ?_)
  · rw [dq_at I s h d (by omega), wuq_at I r h d (by omega), if_pos hd, if_pos hd]
    unfold qf
    rw [show (96 * h + d) / 96 = h by omega, show (96 * h + d) % 96 = d by omega]
  · rw [dq_at I s h d h1, if_neg (by omega), zero_mul]

theorem wkv_lo (r h d : ℕ) (hh : h < 8) (hd : d < 128) : (krOf I).wkv r (128 * h + d) = if d < 64 then I.ukv r (128 * h + d) else 0 := by
  show (if 128 * h + d < 1024 then if (128 * h + d) % 128 < 64 then I.ukv r (128 * ((128 * h + d) / 128) + (128 * h + d) % 128) else 0 else _) = _
  rw [if_pos (by omega), show (128 * h + d) % 128 = d by omega, show (128 * h + d) / 128 = h by omega]
theorem wkv_hi (r h d : ℕ) (hd : d < 64) : (krOf I).wkv r (1024 + (64 * h + d)) = I.ukv r (128 * h + (64 + d)) := by
  show (if 1024 + (64 * h + d) < 1024 then _ else I.ukv r (128 * ((1024 + (64 * h + d) - 1024) / 64) + (64 + (1024 + (64 * h + d) - 1024) % 64))) = _
  rw [if_neg (by omega), show (1024 + (64 * h + d) - 1024) / 64 = h by omega, show (1024 + (64 * h + d) - 1024) % 64 = d by omega]
theorem dkv_lo (s h d : ℕ) (hh : h < 8) (hd : d < 128) : (krOf I).dkv s (128 * h + d) = if d < 96 then I.k s h d else 0 := by
  unfold KR.dkv
  rw [if_pos (by omega), dk_at I s h d hd]
theorem dkv_hi (s h d : ℕ) (hd : d < 64) : (krOf I).dkv s (1024 + (64 * h + d)) = I.v s h d := by
  unfold KR.dkv
  rw [if_neg (by omega), show 1024 + (64 * h + d) - 1024 = 64 * h + d by omega]
  show I.v s ((64 * h + d) / 64) ((64 * h + d) % 64) = _
  rw [show (64 * h + d) / 64 = h by omega, show (64 * h + d) % 64 = d by omega]
theorem kvf_lo (s h d : ℕ) (hd : d < 64) : kvf I s (128 * h + d) = I.k s h d := by
  unfold kvf
  rw [show (128 * h + d) % 128 = d by omega, show (128 * h + d) / 128 = h by omega, if_pos hd]
theorem kvf_hi (s h d : ℕ) (hd : d < 64) : kvf I s (128 * h + (64 + d)) = I.v s h d := by
  unfold kvf
  rw [show (128 * h + (64 + d)) % 128 = 64 + d by omega, show (128 * h + (64 + d)) / 128 = h by omega, if_neg (by omega), show 64 + d - 64 = d by omega]

theorem dkn_eq (s r : ℕ) : (krOf I).dkn s r = dkn I s r := by
  unfold KR.dkn dkn
  rw [show 1536 = 1024 + 512 by rfl, Finset.sum_range_add, show 1024 = 128 * 8 by rfl, show 512 = 64 * 8 by rfl, ← sum_blocks 8 128, ← sum_blocks 8 128,
    ← sum_blocks 8 64 (fun e => (krOf I).dkv s (128 * 8 + e) * (krOf I).wkv r (128 * 8 + e)), ← Finset.sum_add_distrib]
  refine Finset.sum_congr rfl fun h hh => ?_
  have hh := Finset.mem_range.1 hh
  rw [sum_cut 128 64 (by omega) (fun d => (krOf I).dkv s (128 * h + d) * (krOf I).wkv r (128 * h + d))
    (fun d => kvf I s (128 * h + d) * I.ukv r (128 * h + d)) (fun d hd => ?_) (fun d h1 h2 => ?_),
    show Finset.range 128 = Finset.range (64 + 64) by rfl, Finset.sum_range_add]
  · refine congrArg _ (Finset.sum_congr rfl fun d hd => ?_)
    have hd := Finset.mem_range.1 hd
    rw [show 128 * 8 = 1024 by rfl, dkv_hi I s h d hd, wkv_hi I r h d hd, kvf_hi I s h d hd]
  · rw [dkv_lo I s h d hh (by omega), wkv_lo I r h d hh (by omega), if_pos (by omega), if_pos hd, kvf_lo I s h d hd]
  · rw [wkv_lo I r h d hh h1, if_neg (by omega), mul_zero]

theorem pv_eq (a l : ℕ) : (krOf I).pv a l = if a = 1 then if l < 128 then I.kg l else 0
    else if a = 0 then if l < 256 then I.qg l else 0
    else if a = 5 ∧ 64 ≤ l ∧ l < 80 then ((-1 : ℝ) : EReal) else if a = 6 ∧ 80 ≤ l ∧ l < 96 then 1 else 0 := rfl
theorem pv0 (l : ℕ) (h : l < 256) : (krOf I).pv 0 l = I.qg l := by
  rw [pv_eq, if_neg (by omega), if_pos rfl, if_pos h]
theorem pv1 (l : ℕ) (h : l < 128) : (krOf I).pv 1 l = I.kg l := by
  rw [pv_eq, if_pos rfl, if_pos h]
theorem pv5 (z : ℕ) : (krOf I).pv 5 z = if 64 ≤ z ∧ z < 80 then ((-1 : ℝ) : EReal) else 0 := by
  rw [pv_eq]
  simp
theorem pv6 (z : ℕ) : (krOf I).pv 6 z = if 80 ≤ z ∧ z < 96 then 1 else 0 := by
  rw [pv_eq]
  simp

/-- `nb` reads its gains and its gradient on the lanes below its width only. -/
theorem nb_congr (n : ℕ) (c g g' y y' : ℕ → EReal) (hg : ∀ j < n, g j = g' j) (hy : ∀ j < n, y j = y' j) (j : ℕ) (hj : j < n) :
    nb n c g y j = nb n c g' y' j := by
  have e : ∀ d ∈ Finset.range n, y d * g d * xh n c d = y' d * g' d * xh n c d := fun d hd => by
    rw [hg d (Finset.mem_range.1 hd), hy d (Finset.mem_range.1 hd)]
  unfold nb
  rw [Finset.sum_congr rfl e, hg j hj, hy j hj]

theorem dcq_eq (s j : ℕ) (hj : j < 256) : (krOf I).dcq s j = dcq I s j :=
  nb_congr 256 (cq I s) _ _ _ _ (fun l hl => pv0 I l hl) (fun l _ => dqn_eq I s l) j hj
theorem dckv_eq (s j : ℕ) (hj : j < 128) : (krOf I).dckv s j = dckv I s j :=
  nb_congr 128 (ckv I s) _ _ _ _ (fun l hl => pv1 I l hl) (fun l _ => dkn_eq I s l) j hj

theorem ks_eq (s l : ℕ) (h1 : 64 ≤ l) (h2 : l < 96) : (krOf I).ks s l = ks I s (l - 64) := by
  unfold KR.ks ks
  simp only [Finset.sum_range_succ, Finset.sum_range_zero, zero_add, show 64 + (l - 64) = l by omega]
  have e (h : ℕ) : (krOf I).dk s (128 * h + l) = I.k s h l := by rw [dk_at I s h l (by omega), if_pos h2]
  rw [show (krOf I).dk s l = I.k s 0 l by rw [← e 0, show 128 * 0 + l = l by omega]]
  rw [← e 1, ← e 2, ← e 3, ← e 4, ← e 5, ← e 6, ← e 7]

/-- The rotation taken back, on the lanes that hold the rotated key part. -/
theorem dkr_eq (s i : ℕ) (hi : i < 32) : (krOf I).dkr s (64 + i) = dkr I s i := by
  have hcs (z : ℕ) : (krOf I).cs s z =
      if z < 64 then 1 else if z < 80 then ((Real.cos (I.th s (z - 64)) : ℝ) : EReal) else if z < 96 then ((Real.cos (I.th s (z - 80)) : ℝ) : EReal) else if z < 128 then 1
      else if z < 192 then 0 else if z < 208 then ((Real.sin (I.th s (z - 192)) : ℝ) : EReal) else if z < 224 then ((Real.sin (I.th s (z - 208)) : ℝ) : EReal) else 0 := rfl
  unfold KR.dkr dkr
  rw [pv5, pv6, ks_eq I s (64 + i) (by omega) (by omega), show 64 + i - 64 = i by omega]
  by_cases c2 : i < 16
  · rw [if_pos c2, if_neg (by omega : ¬ (64 ≤ (64 + i + 128 - 16) % 128 ∧ (64 + i + 128 - 16) % 128 < 80)),
      if_pos (by omega : (80 ≤ (64 + i + 128 - 112) % 128 ∧ (64 + i + 128 - 112) % 128 < 96)), show (64 + i + 128 - 112) % 128 = 80 + i by omega, mul_zero, mul_zero, add_zero,
      hcs (64 + i), if_neg (by omega), if_pos (by omega), hcs (128 + (80 + i)), ks_eq I s (80 + i) (by omega) (by omega)]
    rw [if_neg (by omega), if_neg (by omega), if_neg (by omega), if_neg (by omega), if_neg (by omega), if_neg (by omega), if_pos (by omega),
      show 128 + (80 + i) - 208 = i by omega, show 64 + i - 64 = i by omega, show 80 + i - 64 = i + 16 by omega]
    rw [mul_one, add_comm]
  · rw [if_neg c2, if_pos (by omega : (64 ≤ (64 + i + 128 - 16) % 128 ∧ (64 + i + 128 - 16) % 128 < 80)),
      if_neg (by omega : ¬ (80 ≤ (64 + i + 128 - 112) % 128 ∧ (64 + i + 128 - 112) % 128 < 96)), show (64 + i + 128 - 16) % 128 = 48 + i by omega,
      hcs (64 + i), if_neg (by omega), if_neg (by omega), if_pos (by omega), hcs (128 + (48 + i)), ks_eq I s (48 + i) (by omega) (by omega)]
    rw [if_neg (by omega), if_neg (by omega), if_neg (by omega), if_neg (by omega), if_neg (by omega), if_pos (by omega),
      show 128 + (48 + i) - 192 = i - 16 by omega, show 64 + i - 80 = i - 16 by omega, show 48 + i - 64 = i - 16 by omega]
    rw [mul_zero, mul_zero, add_zero, EReal.coe_neg, EReal.coe_one, mul_neg, mul_one, mul_neg, ← sub_eq_add_neg]

theorem win_lo (d e : ℕ) (h : e < 384) : (krOf I).win d e = I.win d e := by
  show (if e < 384 then I.win d e else _) = _
  rw [if_pos h]
theorem win_kr (d i : ℕ) (hi : i < 128) : (krOf I).win d (384 + i) = if i < 64 then 0 else if i < 96 then I.win d (384 + (i - 64)) else 0 := by
  show (if 384 + i < 384 then _ else if 384 + i < 448 then 0 else if 384 + i < 480 then I.win d (384 + (384 + i - 448)) else if 384 + i < 512 then 0 else _) = _
  rw [if_neg (by omega)]
  by_cases c1 : i < 64
  · rw [if_pos (by omega), if_pos c1]
  rw [if_neg (by omega), if_neg c1]
  by_cases c2 : i < 96
  · rw [if_pos (by omega), if_pos c2, show 384 + i - 448 = i - 64 by omega]
  rw [if_neg (by omega), if_neg c2, if_pos (by omega)]
theorem win_hi (d e : ℕ) : (krOf I).win d (512 + e) = I.win d (416 + e) := by
  show (if 512 + e < 384 then _ else if 512 + e < 448 then 0 else if 512 + e < 480 then _ else if 512 + e < 512 then 0 else I.win d (416 + (512 + e - 512))) = _
  rw [if_neg (by omega), if_neg (by omega), if_neg (by omega), if_neg (by omega), show 512 + e - 512 = e by omega]

theorem dlat_lo (s e : ℕ) (h : e < 384) : (krOf I).dlat s e = dpr I s e := by
  unfold KR.dlat dpr
  by_cases c : e < 256
  · rw [if_pos c, if_pos c, dcq_eq I s e c]
  · rw [if_neg c, if_neg c, if_pos h, if_pos h, dckv_eq I s _ (by omega)]
theorem dlat_kr (s i : ℕ) (h : i < 32) : (krOf I).dlat s (384 + (64 + i)) = dpr I s (384 + i) := by
  unfold KR.dlat dpr
  rw [if_neg (by omega), if_neg (by omega), if_neg (by omega), if_neg (by omega), if_pos (by omega), show 384 + (64 + i) - 384 = 64 + i by omega,
    dkr_eq I s i h, show 384 + i - 384 = i by omega]
theorem dpr_hi (s e : ℕ) : dpr I s (416 + e) = I.gt s e := by
  unfold dpr
  rw [if_neg (by omega), if_neg (by omega), if_neg (by omega), show 416 + e - 416 = e by omega]

/-- The gradient of the call's input. -/
theorem gx_eq (s d : ℕ) : (krOf I).gx s d = gx I s d := by
  unfold KR.gx gx
  rw [add_assoc]
  refine congrArg₂ (· + ·) rfl ?_
  rw [show 2464 = 416 + 2048 by rfl, Finset.sum_range_add, show 416 = 384 + 32 by rfl, Finset.sum_range_add, show 512 = 384 + 128 by rfl, Finset.sum_range_add _ 384 128]
  rw [add_comm]
  refine congrArg₂ (· + ·) (congrArg₂ (· + ·) ?_ ?_) ?_
  · refine Finset.sum_congr rfl fun e he => ?_
    have he := Finset.mem_range.1 he
    rw [dlat_lo I s e he, win_lo I d e he]
  · rw [show Finset.range 128 = Finset.range (64 + 64) by rfl, Finset.sum_range_add, Finset.sum_eq_zero (s := Finset.range 64)
      (fun i hi => by rw [win_kr I d i (by have := Finset.mem_range.1 hi; omega), if_pos (Finset.mem_range.1 hi), mul_zero]), zero_add]
    refine sum_cut 64 32 (by omega) _ _ (fun i hi => ?_) (fun i h1 h2 => ?_)
    · rw [dlat_kr I s i hi, win_kr I d _ (by omega), if_neg (by omega), if_pos (by omega), show 64 + i - 64 = i by omega]
    · rw [win_kr I d _ (by omega), if_neg (by omega), if_neg (by omega), mul_zero]
  · refine Finset.sum_congr rfl fun e _ => ?_
    rw [show 384 + 128 = 512 by rfl, show 384 + 32 = 416 by rfl, win_hi, dpr_hi]
    rfl

/-- A sum over sixteen blocks of 512 rows is the sum over all rows. -/
theorem all_rows (f : ℕ → EReal) : ∑ t ∈ Finset.range 16, ∑ r ∈ Finset.range 512, f (512 * t + r) = ∑ s ∈ Finset.range 8192, f s :=
  sum_blocks 16 512 f

theorem pwin_lo (s d e : ℕ) (h : e < 384) : (krOf I).pwin s d e = I.x s d * dpr I s e := by
  unfold KR.pwin KR.dpr
  rw [if_pos (by omega), dlat_lo I s e h]
  rfl
theorem pwin_kr (s d i : ℕ) (h : i < 32) : (krOf I).pwin s d (448 + i) = I.x s d * dpr I s (384 + i) := by
  unfold KR.pwin KR.dpr
  rw [if_pos (by omega), show 448 + i = 384 + (64 + i) by omega, dlat_kr I s i h]
  rfl
theorem pwin_hi (s d i : ℕ) : (krOf I).pwin s d (512 + i) = I.x s d * dpr I s (416 + i) := by
  unfold KR.pwin KR.dpr
  rw [if_neg (by omega), show 512 + i - 512 = i by omega, dpr_hi]
  rfl

theorem puq_at (s r e : ℕ) (hr : r < 256) : (krOf I).puq s r (128 * (e / 96) + e % 96) = xh 256 (cq I s) r * I.qg r * qf I s e := by
  unfold KR.puq qf
  rw [pv0 I r hr, dq_at I s _ _ (by omega), if_pos (by omega)]
  rfl

theorem pkv_lo (s r e : ℕ) (hr : r < 128) (he : e < 1024) (h : e % 128 < 64) :
    (krOf I).pkv s r (128 * (e / 128) + e % 128) = xh 128 (ckv I s) r * I.kg r * kvf I s e := by
  unfold KR.pkv kvf
  rw [pv1 I r hr, dkv_lo I s _ _ (by omega) (by omega), if_pos (by omega), if_pos h]
  rfl
theorem pkv_hi (s r e : ℕ) (hr : r < 128) (h : ¬ e % 128 < 64) :
    (krOf I).pkv s r (1024 + (64 * (e / 128) + (e % 128 - 64))) = xh 128 (ckv I s) r * I.kg r * kvf I s e := by
  unfold KR.pkv kvf
  rw [pv1 I r hr, dkv_hi I s _ _ (by omega), if_neg h]
  rfl

theorem pvec0 (s j : ℕ) (h : j < 256) : (krOf I).pvec s 0 j = dqn I s j * xh 256 (cq I s) j := by
  unfold KR.pvec
  rw [if_pos ⟨rfl, h⟩, dqn_eq]
  rfl
theorem pvec1 (s j : ℕ) (h : j < 128) : (krOf I).pvec s 1 j = dkn I s j * xh 128 (ckv I s) j := by
  unfold KR.pvec
  rw [if_neg (by omega), if_pos ⟨rfl, h⟩, dkn_eq]
  rfl

end Cert.Proj

end
-- ==== Proof.Steps2.lean ====
/-
  The second reference's named steps: each is a term over the arguments and over earlier steps.
-/
module

public import proofs.«01_k».proof.Proof.Host
public import proofs.«01_k».proof.Proof.Gen.Reference2Ideal.Run

@[expose] public section

set_option maxRecDepth 16384

noncomputable section

namespace Cert.Reference2Ideal.Hand

open Cert.Reference2Ideal Cert.Reference2Ideal.Value
open Facts₀ Facts
open Idealize.ShloMosaic Idealize.ShloMosaic.TcCoe

variable (m : (ℓ : Loc nD τ sig) → Buf (Elt Ideal) ℓ) (c : Dev nD)

def k1 : FVec Ideal S8192x256 .f32 :=
  extractStridedSlice S8192x256 ![0, 0] (Host.dotGeneral (φ₁ := .f32) (φ₂ := .f32) dot_S8192x1024_S1024x2464_S8192x2464_1_0_0_1_n_n none (m ((c.tc : Thread nD τ).loc main_arg0) : FVec Ideal S8192x1024 .f32) (m ((c.tc : Thread nD τ).loc main_arg1) : FVec Ideal S1024x2464 .f32) : FVec Ideal S8192x2464 .f32) slices_S8192x2464_S8192x256_0_0

def k2 : FVec Ideal S8192x128 .f32 :=
  extractStridedSlice S8192x128 ![0, 256] (Host.dotGeneral (φ₁ := .f32) (φ₂ := .f32) dot_S8192x1024_S1024x2464_S8192x2464_1_0_0_1_n_n none (m ((c.tc : Thread nD τ).loc main_arg0) : FVec Ideal S8192x1024 .f32) (m ((c.tc : Thread nD τ).loc main_arg1) : FVec Ideal S1024x2464 .f32) : FVec Ideal S8192x2464 .f32) slices_S8192x2464_S8192x128_0_256

def k17 : FVec Ideal S8192x16 .f32 :=
  mulf (broadcastInDim S8192x16 ![0, 1] bcast_S8192x1_S8192x16_0_1 (broadcastInDim S8192x1 ![0] bcast_S8192_S8192x1_0 (sitofp .f32 (m ((c.tc : Thread nD τ).loc main_arg11) : (⟨S8192, .i32⟩ : BufTy).Contents (Elt Ideal)) : FVec Ideal S8192 .f32) : FVec Ideal S8192x1 .f32) : FVec Ideal S8192x16 .f32) (broadcastInDim S8192x16 ![0, 1] bcast_S1x16_S8192x16_0_1 (broadcastInDim S1x16 ![1] bcast_S16_S1x16_1 (Host.divf (broadcastInDim S16 ![] bcast_S_S16 (constant S_ .f32 0x3F800000#32 : FVec Ideal S_ .f32) : FVec Ideal S16 .f32) (Host.powf (broadcastInDim S16 ![] bcast_S_S16 (constant S_ .f32 0x461C4000#32 : FVec Ideal S_ .f32) : FVec Ideal S16 .f32) (Host.divf (sitofp .f32 (iotaInDim S16 32 0) : FVec Ideal S16 .f32) (broadcastInDim S16 ![] bcast_S_S16 (constant S_ .f32 0x41800000#32 : FVec Ideal S_ .f32) : FVec Ideal S16 .f32) : FVec Ideal S16 .f32) : FVec Ideal S16 .f32) : FVec Ideal S16 .f32) : FVec Ideal S1x16 .f32) : FVec Ideal S8192x16 .f32)

def k19 : FVec Ideal S8192x1x16 .f32 :=
  broadcastInDim S8192x1x16 ![0, 2] bcast_S8192x16_S8192x1x16_0_2 (Host.cos (k17 m c) : FVec Ideal S8192x16 .f32)

def k21 : FVec Ideal S8192x1x16 .f32 :=
  broadcastInDim S8192x1x16 ![0, 2] bcast_S8192x16_S8192x1x16_0_2 (Host.sin (k17 m c) : FVec Ideal S8192x16 .f32)

def k28 : FVec Ideal S8192x1 .f32 :=
  addf (Host.divf (broadcastInDim S8192x1 ![0] bcast_S8192_S8192x1_0 (Host.reduceAdd (mulf (k1 m c) (k1 m c) : FVec Ideal S8192x256 .f32) (constant S_ .f32 0x00000000#32 : FVec Ideal S_ .f32) reducesTo_S8192x256_S8192_d1 h_S_ : FVec Ideal S8192 .f32) : FVec Ideal S8192x1 .f32) (broadcastInDim S8192x1 ![] bcast_S_S8192x1 (constant S_ .f32 0x43800000#32 : FVec Ideal S_ .f32) : FVec Ideal S8192x1 .f32) : FVec Ideal S8192x1 .f32) (broadcastInDim S8192x1 ![] bcast_S_S8192x1 (constant S_ .f32 0x3727C5AC#32 : FVec Ideal S_ .f32) : FVec Ideal S8192x1 .f32)

def k29 : FVec Ideal S8192x1 .f32 :=
  Host.rsqrt (k28 m c)

def k32 : FVec Ideal S8192x1 .f32 :=
  mulf (broadcastInDim S8192x1 ![] bcast_S_S8192x1 (constant S_ .f32 0xBF000000#32 : FVec Ideal S_ .f32) : FVec Ideal S8192x1 .f32) (Host.divf (k29 m c) (k28 m c) : FVec Ideal S8192x1 .f32)

def k34 : FVec Ideal S8192x256 .f32 :=
  mulf (k1 m c) (broadcastInDim S8192x256 ![0, 1] bcast_S8192x1_S8192x256_0_1 (k29 m c) : FVec Ideal S8192x256 .f32)

def k37 : FVec Ideal S8192x256 .f32 :=
  mulf (k34 m c) (broadcastInDim S8192x256 ![0, 1] bcast_S1x256_S8192x256_0_1 (broadcastInDim S1x256 ![1] bcast_S256_S1x256_1 (m ((c.tc : Thread nD τ).loc main_arg2) : FVec Ideal S256 .f32) : FVec Ideal S1x256 .f32) : FVec Ideal S8192x256 .f32)

def k46 : FVec Ideal S8192x1 .f32 :=
  addf (Host.divf (broadcastInDim S8192x1 ![0] bcast_S8192_S8192x1_0 (Host.reduceAdd (mulf (k2 m c) (k2 m c) : FVec Ideal S8192x128 .f32) (constant S_ .f32 0x00000000#32 : FVec Ideal S_ .f32) reducesTo_S8192x128_S8192_d1 h_S_ : FVec Ideal S8192 .f32) : FVec Ideal S8192x1 .f32) (broadcastInDim S8192x1 ![] bcast_S_S8192x1 (constant S_ .f32 0x43000000#32 : FVec Ideal S_ .f32) : FVec Ideal S8192x1 .f32) : FVec Ideal S8192x1 .f32) (broadcastInDim S8192x1 ![] bcast_S_S8192x1 (constant S_ .f32 0x3727C5AC#32 : FVec Ideal S_ .f32) : FVec Ideal S8192x1 .f32)

def k47 : FVec Ideal S8192x1 .f32 :=
  Host.rsqrt (k46 m c)

def k50 : FVec Ideal S8192x1 .f32 :=
  mulf (broadcastInDim S8192x1 ![] bcast_S_S8192x1 (constant S_ .f32 0xBF000000#32 : FVec Ideal S_ .f32) : FVec Ideal S8192x1 .f32) (Host.divf (k47 m c) (k46 m c) : FVec Ideal S8192x1 .f32)

def k52 : FVec Ideal S8192x128 .f32 :=
  mulf (k2 m c) (broadcastInDim S8192x128 ![0, 1] bcast_S8192x1_S8192x128_0_1 (k47 m c) : FVec Ideal S8192x128 .f32)

def k55 : FVec Ideal S8192x128 .f32 :=
  mulf (k52 m c) (broadcastInDim S8192x128 ![0, 1] bcast_S1x128_S8192x128_0_1 (broadcastInDim S1x128 ![1] bcast_S128_S1x128_1 (m ((c.tc : Thread nD τ).loc main_arg4) : FVec Ideal S128 .f32) : FVec Ideal S1x128 .f32) : FVec Ideal S8192x128 .f32)

def k82 : FVec Ideal S8192x1x32 .f32 :=
  broadcastInDim S8192x1x32 ![0, 2] bcast_S8192x32_S8192x1x32_0_2 (Host.reduceAdd (extractStridedSlice S8192x8x32 ![0, 0, 64] (m ((c.tc : Thread nD τ).loc main_arg9) : FVec Ideal S8192x8x96 .f32) slices_S8192x8x96_S8192x8x32_0_0_64 : FVec Ideal S8192x8x32 .f32) (constant S_ .f32 0x00000000#32 : FVec Ideal S_ .f32) reducesTo_S8192x8x32_S8192x32_d1 h_S_ : FVec Ideal S8192x32 .f32)

def k95 : FVec Ideal S8192x32 .f32 :=
  Host.reduceAdd (addf (pad S8192x1x32 ![0, 0, 16] ![0, 0, 0] ![0, 0, 0] (addf (mulf (extractStridedSlice S8192x1x16 ![0, 0, 16] (k82 m c) slices_S8192x1x32_S8192x1x16_0_0_16 : FVec Ideal S8192x1x16 .f32) (k19 m c) : FVec Ideal S8192x1x16 .f32) (mulf (Host.negf (extractStridedSlice S8192x1x16 ![0, 0, 0] (k82 m c) slices_S8192x1x32_S8192x1x16_0_0_0 : FVec Ideal S8192x1x16 .f32) : FVec Ideal S8192x1x16 .f32) (k21 m c) : FVec Ideal S8192x1x16 .f32) : FVec Ideal S8192x1x16 .f32) (constant S_ .f32 0x00000000#32 : FVec Ideal S_ .f32) pads_S8192x1x16_S8192x1x32_000_000_1600 h_S_ : FVec Ideal S8192x1x32 .f32) (pad S8192x1x32 ![0, 0, 0] ![0, 0, 16] ![0, 0, 0] (addf (mulf (extractStridedSlice S8192x1x16 ![0, 0, 16] (k82 m c) slices_S8192x1x32_S8192x1x16_0_0_16 : FVec Ideal S8192x1x16 .f32) (k21 m c) : FVec Ideal S8192x1x16 .f32) (mulf (extractStridedSlice S8192x1x16 ![0, 0, 0] (k82 m c) slices_S8192x1x32_S8192x1x16_0_0_0 : FVec Ideal S8192x1x16 .f32) (k19 m c) : FVec Ideal S8192x1x16 .f32) : FVec Ideal S8192x1x16 .f32) (constant S_ .f32 0x00000000#32 : FVec Ideal S_ .f32) pads_S8192x1x16_S8192x1x32_000_000_0160 h_S_ : FVec Ideal S8192x1x32 .f32) : FVec Ideal S8192x1x32 .f32) (constant S_ .f32 0x00000000#32 : FVec Ideal S_ .f32) reducesTo_S8192x1x32_S8192x32_d1 h_S_

def k96 : FVec Ideal S8192x1024 .f32 :=
  shapeCast S8192x1024 (addf (pad S8192x8x128 ![0, 0, 64] ![0, 0, 0] ![0, 0, 0] (m ((c.tc : Thread nD τ).loc main_arg10) : FVec Ideal S8192x8x64 .f32) (constant S_ .f32 0x00000000#32 : FVec Ideal S_ .f32) pads_S8192x8x64_S8192x8x128_000_000_6400 h_S_ : FVec Ideal S8192x8x128 .f32) (pad S8192x8x128 ![0, 0, 0] ![0, 0, 64] ![0, 0, 0] (extractStridedSlice S8192x8x64 ![0, 0, 0] (m ((c.tc : Thread nD τ).loc main_arg9) : FVec Ideal S8192x8x96 .f32) slices_S8192x8x96_S8192x8x64_0_0_0 : FVec Ideal S8192x8x64 .f32) (constant S_ .f32 0x00000000#32 : FVec Ideal S_ .f32) pads_S8192x8x64_S8192x8x128_000_000_0640 h_S_ : FVec Ideal S8192x8x128 .f32) : FVec Ideal S8192x8x128 .f32) shapeCasts_S8192x8x128_S8192x1024

def k98 : FVec Ideal S128x1024 .f32 :=
  transpose S128x1024 [1, 0] (Host.dotGeneral (φ₁ := .f32) (φ₂ := .f32) dot_S8192x1024_S8192x128_S1024x128_0_0_1_1_n_n none (k96 m c) (k55 m c) : FVec Ideal S1024x128 .f32) transposes_S1024x128_S128x1024_1_0

def k99 : FVec Ideal S8192x128 .f32 :=
  Host.dotGeneral (φ₁ := .f32) (φ₂ := .f32) dot_S8192x1024_S128x1024_S8192x128_1_1_0_0_n_n none (k96 m c) (m ((c.tc : Thread nD τ).loc main_arg5) : FVec Ideal S128x1024 .f32)

def k104 : FVec Ideal S8192x128 .f32 :=
  mulf (k99 m c) (broadcastInDim S8192x128 ![0, 1] bcast_S1x128_S8192x128_0_1 (broadcastInDim S1x128 ![1] bcast_S128_S1x128_1 (m ((c.tc : Thread nD τ).loc main_arg4) : FVec Ideal S128 .f32) : FVec Ideal S1x128 .f32) : FVec Ideal S8192x128 .f32)

def k105 : FVec Ideal S128 .f32 :=
  Host.reduceAdd (shapeCast S1x128 (Host.reduceAdd (mulf (k52 m c) (k99 m c) : FVec Ideal S8192x128 .f32) (constant S_ .f32 0x00000000#32 : FVec Ideal S_ .f32) reducesTo_S8192x128_S128_d0 h_S_ : FVec Ideal S128 .f32) shapeCasts_S128_S1x128 : FVec Ideal S1x128 .f32) (constant S_ .f32 0x00000000#32 : FVec Ideal S_ .f32) reducesTo_S1x128_S128_d0 h_S_

def k114 : FVec Ideal S8192 .f32 :=
  Host.reduceAdd (Host.divf (mulf (shapeCast S8192x1 (Host.reduceAdd (mulf (k2 m c) (k104 m c) : FVec Ideal S8192x128 .f32) (constant S_ .f32 0x00000000#32 : FVec Ideal S_ .f32) reducesTo_S8192x128_S8192_d1 h_S_ : FVec Ideal S8192 .f32) shapeCasts_S8192_S8192x1 : FVec Ideal S8192x1 .f32) (k50 m c) : FVec Ideal S8192x1 .f32) (broadcastInDim S8192x1 ![] bcast_S_S8192x1 (constant S_ .f32 0x43000000#32 : FVec Ideal S_ .f32) : FVec Ideal S8192x1 .f32) : FVec Ideal S8192x1 .f32) (constant S_ .f32 0x00000000#32 : FVec Ideal S_ .f32) reducesTo_S8192x1_S8192_d1 h_S_

def k119 : FVec Ideal S8192x128 .f32 :=
  addf (addf (mulf (k104 m c) (broadcastInDim S8192x128 ![0, 1] bcast_S8192x1_S8192x128_0_1 (k47 m c) : FVec Ideal S8192x128 .f32) : FVec Ideal S8192x128 .f32) (mulf (k2 m c) (broadcastInDim S8192x128 ![0] bcast_S8192_S8192x128_0 (k114 m c) : FVec Ideal S8192x128 .f32) : FVec Ideal S8192x128 .f32) : FVec Ideal S8192x128 .f32) (mulf (broadcastInDim S8192x128 ![0] bcast_S8192_S8192x128_0 (k114 m c) : FVec Ideal S8192x128 .f32) (k2 m c) : FVec Ideal S8192x128 .f32)

def k120 : FVec Ideal S8192x768 .f32 :=
  shapeCast S8192x768 (m ((c.tc : Thread nD τ).loc main_arg8) : FVec Ideal S8192x8x96 .f32) shapeCasts_S8192x8x96_S8192x768

def k122 : FVec Ideal S256x768 .f32 :=
  transpose S256x768 [1, 0] (Host.dotGeneral (φ₁ := .f32) (φ₂ := .f32) dot_S8192x768_S8192x256_S768x256_0_0_1_1_n_n none (k120 m c) (k37 m c) : FVec Ideal S768x256 .f32) transposes_S768x256_S256x768_1_0

def k123 : FVec Ideal S8192x256 .f32 :=
  Host.dotGeneral (φ₁ := .f32) (φ₂ := .f32) dot_S8192x768_S256x768_S8192x256_1_1_0_0_n_n none (k120 m c) (m ((c.tc : Thread nD τ).loc main_arg3) : FVec Ideal S256x768 .f32)

def k128 : FVec Ideal S8192x256 .f32 :=
  mulf (k123 m c) (broadcastInDim S8192x256 ![0, 1] bcast_S1x256_S8192x256_0_1 (broadcastInDim S1x256 ![1] bcast_S256_S1x256_1 (m ((c.tc : Thread nD τ).loc main_arg2) : FVec Ideal S256 .f32) : FVec Ideal S1x256 .f32) : FVec Ideal S8192x256 .f32)

def k129 : FVec Ideal S256 .f32 :=
  Host.reduceAdd (shapeCast S1x256 (Host.reduceAdd (mulf (k34 m c) (k123 m c) : FVec Ideal S8192x256 .f32) (constant S_ .f32 0x00000000#32 : FVec Ideal S_ .f32) reducesTo_S8192x256_S256_d0 h_S_ : FVec Ideal S256 .f32) shapeCasts_S256_S1x256 : FVec Ideal S1x256 .f32) (constant S_ .f32 0x00000000#32 : FVec Ideal S_ .f32) reducesTo_S1x256_S256_d0 h_S_

def k138 : FVec Ideal S8192 .f32 :=
  Host.reduceAdd (Host.divf (mulf (shapeCast S8192x1 (Host.reduceAdd (mulf (k1 m c) (k128 m c) : FVec Ideal S8192x256 .f32) (constant S_ .f32 0x00000000#32 : FVec Ideal S_ .f32) reducesTo_S8192x256_S8192_d1 h_S_ : FVec Ideal S8192 .f32) shapeCasts_S8192_S8192x1 : FVec Ideal S8192x1 .f32) (k32 m c) : FVec Ideal S8192x1 .f32) (broadcastInDim S8192x1 ![] bcast_S_S8192x1 (constant S_ .f32 0x43800000#32 : FVec Ideal S_ .f32) : FVec Ideal S8192x1 .f32) : FVec Ideal S8192x1 .f32) (constant S_ .f32 0x00000000#32 : FVec Ideal S_ .f32) reducesTo_S8192x1_S8192_d1 h_S_

def k143 : FVec Ideal S8192x256 .f32 :=
  addf (addf (mulf (k128 m c) (broadcastInDim S8192x256 ![0, 1] bcast_S8192x1_S8192x256_0_1 (k29 m c) : FVec Ideal S8192x256 .f32) : FVec Ideal S8192x256 .f32) (mulf (k1 m c) (broadcastInDim S8192x256 ![0] bcast_S8192_S8192x256_0 (k138 m c) : FVec Ideal S8192x256 .f32) : FVec Ideal S8192x256 .f32) : FVec Ideal S8192x256 .f32) (mulf (broadcastInDim S8192x256 ![0] bcast_S8192_S8192x256_0 (k138 m c) : FVec Ideal S8192x256 .f32) (k1 m c) : FVec Ideal S8192x256 .f32)

def k144 : FVec Ideal S8192x2464 .f32 :=
  concatenate S8192x2464 1 [⟨S8192x256, (k143 m c)⟩, ⟨S8192x128, (k119 m c)⟩, ⟨S8192x32, (k95 m c)⟩, ⟨S8192x2048, (m ((c.tc : Thread nD τ).loc main_arg7) : FVec Ideal S8192x2048 .f32)⟩] concatenates_S8192x256_S8192x128_S8192x32_S8192x2048_S8192x2464_d1

def k146 : FVec Ideal S1024x2464 .f32 :=
  transpose S1024x2464 [1, 0] (Host.dotGeneral (φ₁ := .f32) (φ₂ := .f32) dot_S8192x2464_S8192x1024_S2464x1024_0_0_1_1_n_n none (k144 m c) (m ((c.tc : Thread nD τ).loc main_arg0) : FVec Ideal S8192x1024 .f32) : FVec Ideal S2464x1024 .f32) transposes_S2464x1024_S1024x2464_1_0

def k148 : FVec Ideal S8192x1024 .f32 :=
  addf (mulf (broadcastInDim S8192x1024 ![] bcast_S_S8192x1024 (constant S_ .f32 0x3F9837F0#32 : FVec Ideal S_ .f32) : FVec Ideal S8192x1024 .f32) (m ((c.tc : Thread nD τ).loc main_arg6) : FVec Ideal S8192x1024 .f32) : FVec Ideal S8192x1024 .f32) (Host.dotGeneral (φ₁ := .f32) (φ₂ := .f32) dot_S8192x2464_S1024x2464_S8192x1024_1_1_0_0_n_n none (k144 m c) (m ((c.tc : Thread nD τ).loc main_arg1) : FVec Ideal S1024x2464 .f32) : FVec Ideal S8192x1024 .f32)

theorem v148_eq : (res_main_v148 m c : S8192x1024.Idx → EReal) = k148 m c := rfl
theorem v146_eq : (res_main_v146 m c : S1024x2464.Idx → EReal) = k146 m c := rfl

end Cert.Reference2Ideal.Hand

end
-- ==== Proof.Ref2.lean ====
/-
  What the second reference computes, over the extended reals: its norms, the latents' gradients and the six results.
-/
module

public import proofs.«01_k».proof.Proof.Steps2
public import proofs.«01_k».proof.Proof.Model2

@[expose] public section

set_option maxRecDepth 16384

noncomputable section

namespace Cert.Reference2Ideal.Hand

open Cert.Reference2Ideal Cert.Reference2Ideal.Value Cert.Proj
open Cert.Attn (angle angle_word w_one w_neg_one w_zero)
open Cert.KernelIdeal.Hand (sitofp_zero)
open Idealize.ShloMosaic Idealize.ShloMosaic.TcCoe
open scoped BigOperators
variable {m : (ℓ : Loc nD τ sig) → Buf (Elt Ideal) ℓ} {c : Dev nD} {I : In}

/-- The reference's arguments are the inputs `I`. -/
structure Args (m : (ℓ : Loc nD τ sig) → Buf (Elt Ideal) ℓ) (c : Dev nD) (I : In) : Prop where
  x : (m ((c.tc : Thread nD τ).loc main_arg0) : FVec Ideal S8192x1024 .f32) = M2 I.x
  win : (m ((c.tc : Thread nD τ).loc main_arg1) : FVec Ideal S1024x2464 .f32) = M2 I.win
  qg : (m ((c.tc : Thread nD τ).loc main_arg2) : FVec Ideal S256 .f32) = M1 I.qg
  uq : (m ((c.tc : Thread nD τ).loc main_arg3) : FVec Ideal S256x768 .f32) = M2 I.uq
  kg : (m ((c.tc : Thread nD τ).loc main_arg4) : FVec Ideal S128 .f32) = M1 I.kg
  ukv : (m ((c.tc : Thread nD τ).loc main_arg5) : FVec Ideal S128x1024 .f32) = M2 I.ukv
  h : (m ((c.tc : Thread nD τ).loc main_arg6) : FVec Ideal S8192x1024 .f32) = M2 I.h
  gt : (m ((c.tc : Thread nD τ).loc main_arg7) : FVec Ideal S8192x2048 .f32) = M2 I.gt
  q : (m ((c.tc : Thread nD τ).loc main_arg8) : FVec Ideal S8192x8x96 .f32) = M3 I.q
  k : (m ((c.tc : Thread nD τ).loc main_arg9) : FVec Ideal S8192x8x96 .f32) = M3 I.k
  v : (m ((c.tc : Thread nD τ).loc main_arg10) : FVec Ideal S8192x8x64 .f32) = M3 I.v
  th : ∀ (s : Fin 8192) (i : ℕ), I.th s.val i = angle ((m ((c.tc : Thread nD τ).loc main_arg11) : S8192.Idx → BitVec 32) (ix1 s)).toInt i

theorem r1 (H : Args m c I) : k1 m c = M2 (cq I) := by
  funext j; idx_vars j
  rename' j0 => s, j1 => r
  unfold k1
  rw [H.x, H.win]
  clean_types
  pointwise
  simp only [M2_ix]
  rw [dot_range (fun d => I.x s.val d) (fun d => I.win d r.val)]
  rfl
theorem r2 (H : Args m c I) : k2 m c = M2 (ckv I) := by
  funext j; idx_vars j
  rename' j0 => s, j1 => r
  unfold k2
  rw [H.x, H.win]
  clean_types
  pointwise
  simp only [M2_ix]
  rw [dot_range (fun d => I.x s.val d) (fun d => I.win d (256 + r.val))]
  rfl
theorem r17 (H : Args m c I) : k17 m c = M2 (fun s i => ((I.th s i : ℝ) : EReal)) := by
  funext j; idx_vars j
  rename' j0 => s, j1 => i
  unfold k17
  clean_types
  pointwise
  rw [angle_word _ _ i.isLt, ← H.th]
  rfl
theorem r19 (H : Args m c I) : k19 m c = M3 (fun s _ i => ((Real.cos (I.th s i) : ℝ) : EReal)) := by
  funext j; idx_vars j
  unfold k19
  rw [r17 H]
  clean_types
  pointwise
  rfl
theorem r21 (H : Args m c I) : k21 m c = M3 (fun s _ i => ((Real.sin (I.th s i) : ℝ) : EReal)) := by
  funext j; idx_vars j
  unfold k21
  rw [r17 H]
  clean_types
  pointwise
  rfl

/-! ## The norms -/

theorem r28 (H : Args m c I) : k28 m c = M2 (fun s _ => ms 256 (cq I s)) := by
  funext j; idx_vars j
  rename' j0 => s, j1 => z
  unfold k28
  rw [r1 H]
  clean_types
  pointwise
  simp only [M2_ix]
  rw [dot_range (cq I s.val) (cq I s.val), w_q, w_eps]
  rfl
theorem r46 (H : Args m c I) : k46 m c = M2 (fun s _ => ms 128 (ckv I s)) := by
  funext j; idx_vars j
  rename' j0 => s, j1 => z
  unfold k46
  rw [r2 H]
  clean_types
  pointwise
  simp only [M2_ix]
  rw [dot_range (ckv I s.val) (ckv I s.val), w_kv, w_eps]
  rfl
theorem r29 (H : Args m c I) : k29 m c = M2 (fun s _ => rs 256 (cq I s)) := by
  funext j; idx_vars j
  rename' j0 => s, j1 => z
  unfold k29
  rw [r28 H]
  pointwise
  simp only [M2_ix]
  rfl
theorem r47 (H : Args m c I) : k47 m c = M2 (fun s _ => rs 128 (ckv I s)) := by
  funext j; idx_vars j
  rename' j0 => s, j1 => z
  unfold k47
  rw [r46 H]
  pointwise
  simp only [M2_ix]
  rfl
theorem r32 (H : Args m c I) : k32 m c = M2 (fun s _ => ((-(1 / 2) : ℝ) : EReal) * Ideal.div (rs 256 (cq I s)) (ms 256 (cq I s))) := by
  funext j; idx_vars j
  rename' j0 => s, j1 => z
  unfold k32
  rw [r28 H, r29 H]
  clean_types
  pointwise
  simp only [M2_ix]
  rw [w_half]
theorem r50 (H : Args m c I) : k50 m c = M2 (fun s _ => ((-(1 / 2) : ℝ) : EReal) * Ideal.div (rs 128 (ckv I s)) (ms 128 (ckv I s))) := by
  funext j; idx_vars j
  rename' j0 => s, j1 => z
  unfold k50
  rw [r46 H, r47 H]
  clean_types
  pointwise
  simp only [M2_ix]
  rw [w_half]
theorem r34 (H : Args m c I) : k34 m c = M2 (fun s => xh 256 (cq I s)) := by
  funext j; idx_vars j
  unfold k34
  rw [r1 H, r29 H]
  clean_types
  pointwise
  simp only [M2_ix]
  rfl
theorem r52 (H : Args m c I) : k52 m c = M2 (fun s => xh 128 (ckv I s)) := by
  funext j; idx_vars j
  unfold k52
  rw [r2 H, r47 H]
  clean_types
  pointwise
  simp only [M2_ix]
  rfl
theorem r37 (H : Args m c I) : k37 m c = M2 (fun s r => xh 256 (cq I s) r * I.qg r) := by
  funext j; idx_vars j
  unfold k37
  rw [r34 H, H.qg]
  clean_types
  pointwise
  simp only [M2_ix, M1_ix]
theorem r55 (H : Args m c I) : k55 m c = M2 (fun s r => xh 128 (ckv I s) r * I.kg r) := by
  funext j; idx_vars j
  unfold k55
  rw [r52 H, H.kg]
  clean_types
  pointwise
  simp only [M2_ix, M1_ix]

/-! ## The gradients of the normed latents -/

theorem r120 (H : Args m c I) : k120 m c = M2 (qf I) := by
  funext j; idx_vars j
  unfold k120
  rw [H.q]
  clean_types
  pointwise
  rfl
theorem r123 (H : Args m c I) : k123 m c = M2 (dqn I) := by
  funext j; idx_vars j
  rename' j0 => s, j1 => r
  unfold k123
  rw [r120 H, H.uq]
  clean_types
  pointwise
  simp only [M2_ix]
  rw [dot_range (fun e => qf I s.val e) (fun e => I.uq r.val e)]
  rfl
theorem r96 (H : Args m c I) : k96 m c = M2 (kvf I) := by
  funext j; idx_vars j
  rename' j0 => s, j1 => e
  unfold k96
  rw [H.k, H.v]
  clean_types
  pointwise
  simp only [M3_ix, M2_ix]
  unfold kvf
  by_cases he : e.val % 128 < 64
  · rw [dif_neg (by omega), dif_pos (by omega), if_pos he]
    exact zero_add _
  · rw [dif_pos (by omega), dif_neg (by omega), if_neg he]
    exact add_zero _
theorem r99 (H : Args m c I) : k99 m c = M2 (dkn I) := by
  funext j; idx_vars j
  rename' j0 => s, j1 => r
  unfold k99
  rw [r96 H, H.ukv]
  clean_types
  pointwise
  simp only [M2_ix]
  rw [dot_range (fun e => kvf I s.val e) (fun e => I.ukv r.val e)]
  rfl
theorem r128 (H : Args m c I) : k128 m c = M2 (fun s r => dqn I s r * I.qg r) := by
  funext j; idx_vars j
  unfold k128
  rw [r123 H, H.qg]
  clean_types
  pointwise
  simp only [M2_ix, M1_ix]
theorem r104 (H : Args m c I) : k104 m c = M2 (fun s r => dkn I s r * I.kg r) := by
  funext j; idx_vars j
  unfold k104
  rw [r99 H, H.kg]
  clean_types
  pointwise
  simp only [M2_ix, M1_ix]
theorem r138 (H : Args m c I) : k138 m c = M1 (fun s => Ideal.div ((∑ d ∈ Finset.range 256, cq I s d * (dqn I s d * I.qg d)) *
    (((-(1 / 2) : ℝ) : EReal) * Ideal.div (rs 256 (cq I s)) (ms 256 (cq I s)))) (((256 : ℕ) : ℝ) : EReal)) := by
  funext j; idx_vars j
  rename' j0 => s
  unfold k138
  rw [r1 H, r128 H, r32 H]
  clean_types
  pointwise
  simp only [M2_ix, M1_ix, Fin.sum_univ_one]
  rw [dot_range (cq I s.val) (fun d => dqn I s.val d * I.qg d), w_q]
theorem r114 (H : Args m c I) : k114 m c = M1 (fun s => Ideal.div ((∑ d ∈ Finset.range 128, ckv I s d * (dkn I s d * I.kg d)) *
    (((-(1 / 2) : ℝ) : EReal) * Ideal.div (rs 128 (ckv I s)) (ms 128 (ckv I s)))) (((128 : ℕ) : ℝ) : EReal)) := by
  funext j; idx_vars j
  rename' j0 => s
  unfold k114
  rw [r2 H, r104 H, r50 H]
  clean_types
  pointwise
  simp only [M2_ix, M1_ix, Fin.sum_univ_one]
  rw [dot_range (ckv I s.val) (fun d => dkn I s.val d * I.kg d), w_kv]
theorem r143 (H : Args m c I) : k143 m c = M2 (dcq I) := by
  funext j; idx_vars j
  rename' j0 => s, j1 => r
  unfold k143
  rw [r1 H, r128 H, r29 H, r138 H]
  clean_types
  pointwise
  simp only [M2_ix, M1_ix]
  exact nb_eq 256 (by norm_num) (cq I s.val) I.qg (dqn I s.val) r.val r.isLt
theorem r119 (H : Args m c I) : k119 m c = M2 (dckv I) := by
  funext j; idx_vars j
  rename' j0 => s, j1 => r
  unfold k119
  rw [r2 H, r104 H, r47 H, r114 H]
  clean_types
  pointwise
  simp only [M2_ix, M1_ix]
  exact nb_eq 128 (by norm_num) (ckv I s.val) I.kg (dkn I s.val) r.val r.isLt
theorem r82 (H : Args m c I) : k82 m c = M3 (fun s _ d => ks I s d) := by
  funext j; idx_vars j
  rename' j0 => s, j1 => z, j2 => d
  unfold k82
  rw [H.k]
  clean_types
  pointwise
  simp only [M3_ix]
  rw [show (∑ x : Fin 8, I.k s.val x.val (64 + d.val)) = _ from (Finset.sum_range (fun h => I.k s.val h (64 + d.val))).symm]
  rfl
theorem r95 (H : Args m c I) : k95 m c = M2 (dkr I) := by
  funext j; idx_vars j
  rename' j0 => s, j1 => d
  unfold k95
  rw [r82 H, r19 H, r21 H]
  clean_types
  pointwise
  simp only [M3_ix, M2_ix, Fin.sum_univ_one]
  unfold dkr
  by_cases hd : d.val < 16
  · rw [dif_neg (by omega), dif_pos (by omega), if_pos hd, Nat.add_comm 16]
    exact zero_add _
  · rw [dif_pos (by omega), dif_neg (by omega), if_neg hd,
      show 16 + (d.val - 16) = d.val by omega, neg_mul, ← sub_eq_add_neg]
    exact add_zero _
theorem r144 (H : Args m c I) : k144 m c = M2 (dpr I) := by
  funext j; idx_vars j
  rename' j0 => s, j1 => e
  unfold k144
  rw [r143 H, r119 H, r95 H, H.gt]
  clean_types
  pointwise
  simp only [M2_ix]
  unfold dpr
  split
  · rfl
  split
  · rw [if_pos (by omega)]
  rw [if_neg (by omega)]
  split
  · rw [if_pos (by omega), Nat.sub_sub]
  · rw [if_neg (by omega), Nat.sub_sub, Nat.sub_sub]

/-! ## The six results -/

theorem r148 (H : Args m c I) : k148 m c = M2 (gx I) := by
  funext j; idx_vars j
  rename' j0 => s, j1 => d
  unfold k148
  rw [r144 H, H.h, H.win]
  clean_types
  pointwise
  simp only [M2_ix]
  rw [dot_range (fun e => dpr I s.val e) (fun e => I.win d.val e), w_alpha]
  rfl
theorem r146 (H : Args m c I) : k146 m c = M2 (gin I) := by
  funext j; idx_vars j
  rename' j0 => d, j1 => e
  unfold k146
  rw [r144 H, H.x]
  clean_types
  pointwise
  simp only [M2_ix]
  rw [dot_range (fun s => dpr I s e.val) (fun s => I.x s d.val)]
  exact (Finset.sum_congr rfl fun _ _ => mul_comm _ _)
theorem r122 (H : Args m c I) : k122 m c = M2 (guq I) := by
  funext j; idx_vars j
  rename' j0 => r, j1 => e
  unfold k122
  rw [r120 H, r37 H]
  clean_types
  pointwise
  simp only [M2_ix]
  rw [dot_range (fun s => qf I s e.val) (fun s => xh 256 (cq I s) r.val * I.qg r.val)]
  exact (Finset.sum_congr rfl fun _ _ => mul_comm _ _)
theorem r98 (H : Args m c I) : k98 m c = M2 (gukv I) := by
  funext j; idx_vars j
  rename' j0 => r, j1 => e
  unfold k98
  rw [r96 H, r55 H]
  clean_types
  pointwise
  simp only [M2_ix]
  rw [dot_range (fun s => kvf I s e.val) (fun s => xh 128 (ckv I s) r.val * I.kg r.val)]
  exact (Finset.sum_congr rfl fun _ _ => mul_comm _ _)
theorem r129 (H : Args m c I) : k129 m c = M1 (gqg I) := by
  funext j; idx_vars j
  rename' j0 => r
  unfold k129
  rw [r34 H, r123 H]
  clean_types
  pointwise
  simp only [M2_ix, Fin.sum_univ_one]
  rw [dot_range (fun s => xh 256 (cq I s) r.val) (fun s => dqn I s r.val)]
  exact (Finset.sum_congr rfl fun _ _ => mul_comm _ _)
theorem r105 (H : Args m c I) : k105 m c = M1 (gkg I) := by
  funext j; idx_vars j
  rename' j0 => r
  unfold k105
  rw [r52 H, r99 H]
  clean_types
  pointwise
  simp only [M2_ix, Fin.sum_univ_one]
  rw [dot_range (fun s => xh 128 (ckv I s) r.val) (fun s => dkn I s r.val)]
  exact (Finset.sum_congr rfl fun _ _ => mul_comm _ _)

end Cert.Reference2Ideal.Hand

end
-- ==== Proof.Value2.lean ====
/-
  The second value claim: the ideal projections' gradient kernel and its reference, run from memories that agree on their
  arguments, leave the same six arrays.
-/
module

public import proofs.«01_k».proof.Proof.Inputs2
public import proofs.«01_k».proof.Proof.Frames2
public import proofs.«01_k».proof.Proof.Host4
public import proofs.«01_k».proof.Proof.Tail3
public import proofs.«01_k».proof.Proof.Real2
public import proofs.«01_k».proof.Proof.Ref2

@[expose] public section

set_option maxRecDepth 100000

noncomputable section

namespace Cert.Proof

open Idealize.ShloMosaic Idealize.ShloMosaic.TcCoe Idealize.SL.Sem
open Cert.Proj
open Cert.Attn (angle)
open scoped BigOperators

section Kernel2

open Cert.Kernel2Ideal Cert.Kernel2Ideal.Gen Cert.Kernel2Ideal.Hand

/-! ## The kernel's sums over its rows are the gradients -/

theorem all_eq {f g : ℕ → EReal} (h : ∀ s, f s = g s) : upTo f 16 = ∑ s ∈ Finset.range 8192, g s :=
  (all_rows f).trans (Finset.sum_congr rfl fun s _ => h s)

theorem in_eq (I : In) (d e : ℕ) (he : e < 2464) :
    (if e < 384 then oin (krOf I) d e else if e < 416 then oin (krOf I) d (448 + (e - 384)) else oin (krOf I) d (512 + (e - 416))) = gin I d e := by
  unfold oin gin
  by_cases h1 : e < 384
  · rw [if_pos h1]
    exact all_eq fun s => pwin_lo I s d e h1
  by_cases h2 : e < 416
  · rw [if_neg h1, if_pos h2]
    refine all_eq fun s => (pwin_kr I s d _ (by omega)).trans ?_
    rw [show 384 + (e - 384) = e by omega]
  · rw [if_neg h1, if_neg h2]
    refine all_eq fun s => (pwin_hi I s d _).trans ?_
    rw [show 416 + (e - 416) = e by omega]

theorem q_eq (I : In) (r e : ℕ) (hr : r < 256) : oq (krOf I) r (128 * (e / 96) + e % 96) = guq I r e :=
  all_eq fun s => puq_at I s r e hr

theorem kv_eq (I : In) (r e : ℕ) (hr : r < 128) (he : e < 1024) :
    (if e % 128 < 64 then okv (krOf I) r (128 * (e / 128) + e % 128) else okv (krOf I) r (1024 + (64 * (e / 128) + (e % 128 - 64)))) = gukv I r e := by
  unfold okv gukv
  by_cases h : e % 128 < 64
  · rw [if_pos h]
    exact all_eq fun s => pkv_lo I s r e hr he h
  · rw [if_neg h]
    exact all_eq fun s => pkv_hi I s r e hr h

theorem qg_eq (I : In) (r : ℕ) (hr : r < 256) : ovec (krOf I) 0 r = gqg I r := all_eq fun s => pvec0 I s r hr
theorem kg_eq (I : In) (r : ℕ) (hr : r < 128) : ovec (krOf I) 1 r = gkg I r := all_eq fun s => pvec1 I s r hr

variable (m : (ℓ : Loc nD τ sig) → Buf (Elt Ideal) ℓ)

/-- The inputs that the arguments on core `c` hold. -/
def inputs2 (c : Dev nD) : In :=
  inOf (m (c, Proc.tc.devRef main_arg0))
    (m (c, Proc.tc.devRef main_arg1))
    (m (c, Proc.tc.devRef main_arg2))
    (m (c, Proc.tc.devRef main_arg3))
    (m (c, Proc.tc.devRef main_arg4))
    (m (c, Proc.tc.devRef main_arg5))
    (m (c, Proc.tc.devRef main_arg6))
    (m (c, Proc.tc.devRef main_arg7))
    (m (c, Proc.tc.devRef main_arg8))
    (m (c, Proc.tc.devRef main_arg9))
    (m (c, Proc.tc.devRef main_arg10))
    (m (c, Proc.tc.devRef main_arg11))

theorem kernel_args2 (c : Dev nD) : Cert.Kernel2Ideal.Hand.Args m c (inputs2 m c) :=
  ⟨arr2_eq _, arr2_eq _, arr1_eq _, arr2_eq _, arr1_eq _, arr2_eq _, arr2_eq _, arr2_eq _, arr3_eq _, arr3_eq _, arr3_eq _,
    fun s i => dif_pos s.isLt⟩

/-- The kernel's run: its six results are the reference's arrays of the inputs. -/
theorem kernel_results2 {I : Dev nD → In} (H : ∀ c, Cert.Kernel2Ideal.Hand.Args m c (I c)) (ρ : Dev nD → PrngReg) :
    θ_run (defs (F := Ideal)) (onTc (τ := τ) (main (F := Ideal))) ⟨m, fun _ => 0, ρ⟩ (fun r => ∀ c : Dev nD,
      (r.2.mem ((c.tc : Thread nD τ).loc main_v84_0) : S8192x1024.Idx → EReal) = M2 (gx (I c))
      ∧ (r.2.mem ((c.tc : Thread nD τ).loc main_v88) : S1024x2464.Idx → EReal) = M2 (gin (I c))
      ∧ (r.2.mem ((c.tc : Thread nD τ).loc main_v99) : S256.Idx → EReal) = M1 (gqg (I c))
      ∧ (r.2.mem ((c.tc : Thread nD τ).loc main_v91) : S256x768.Idx → EReal) = M2 (guq (I c))
      ∧ (r.2.mem ((c.tc : Thread nD τ).loc main_v101) : S128.Idx → EReal) = M1 (gkg (I c))
      ∧ (r.2.mem ((c.tc : Thread nD τ).loc main_v102) : S128x1024.Idx → EReal) = M2 (gukv (I c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run _ _ _).mono (fun r h c => ⟨
      (h.1.out_eq c 14).trans ((final_14 (holds (H c))).trans (M2_congr fun s _ d _ => gx_eq (I c) s d)),
      ((h.1 c).2 main_v88 (Pipeline.mem_restRefs_of main_v88 (by decide) (by decide))).trans ((tail88 (holds (H c))).trans (M2_congr fun d _ e he => in_eq (I c) d e he)),
      ((h.1 c).2 main_v99 (Pipeline.mem_restRefs_of main_v99 (by decide) (by decide))).trans ((tail99 (holds (H c))).trans (M1_congr fun r hr => qg_eq (I c) r hr)),
      ((h.1 c).2 main_v91 (Pipeline.mem_restRefs_of main_v91 (by decide) (by decide))).trans ((tail91 (holds (H c))).trans (M2_congr fun r hr e _ => q_eq (I c) r e hr)),
      ((h.1 c).2 main_v101 (Pipeline.mem_restRefs_of main_v101 (by decide) (by decide))).trans ((tail101 (holds (H c))).trans (M1_congr fun r hr => kg_eq (I c) r hr)),
      ((h.1 c).2 main_v102 (Pipeline.mem_restRefs_of main_v102 (by decide) (by decide))).trans ((tail102 (holds (H c))).trans (M2_congr fun r hr e he => kv_eq (I c) r e hr he)),
      ((h.1 c).1 0).trans (((dats m 0 c).arrAt_in 0 rfl _).trans (V_main_arg0 m c)),
      ((h.1 c).2 main_arg1 (Pipeline.mem_restRefs_of main_arg1 (by decide) (by decide))).trans (W_main_arg1 m (dats m) c),
      ((h.1 c).2 main_arg2 (Pipeline.mem_restRefs_of main_arg2 (by decide) (by decide))).trans (W_main_arg2 m (dats m) c),
      ((h.1 c).2 main_arg3 (Pipeline.mem_restRefs_of main_arg3 (by decide) (by decide))).trans (W_main_arg3 m (dats m) c),
      ((h.1 c).2 main_arg4 (Pipeline.mem_restRefs_of main_arg4 (by decide) (by decide))).trans (W_main_arg4 m (dats m) c),
      ((h.1 c).2 main_arg5 (Pipeline.mem_restRefs_of main_arg5 (by decide) (by decide))).trans (W_main_arg5 m (dats m) c),
      ((h.1 c).1 1).trans (((dats m 0 c).arrAt_in 1 rfl _).trans (V_main_arg6 m c)),
      ((h.1 c).2 main_arg7 (Pipeline.mem_restRefs_of main_arg7 (by decide) (by decide))).trans (W_main_arg7 m (dats m) c),
      ((h.1 c).2 main_arg8 (Pipeline.mem_restRefs_of main_arg8 (by decide) (by decide))).trans (W_main_arg8 m (dats m) c),
      ((h.1 c).2 main_arg9 (Pipeline.mem_restRefs_of main_arg9 (by decide) (by decide))).trans (W_main_arg9 m (dats m) c),
      ((h.1 c).2 main_arg10 (Pipeline.mem_restRefs_of main_arg10 (by decide) (by decide))).trans (W_main_arg10 m (dats m) c),
      ((h.1 c).2 main_arg11 (Pipeline.mem_restRefs_of main_arg11 (by decide) (by decide))).trans (W_main_arg11 m (dats m) c)⟩)
    (run_main m ρ)

end Kernel2

section Reference2

open Cert.Reference2Ideal Cert.Reference2Ideal.Value

variable (m : (ℓ : Loc nD τ sig) → Buf (Elt Ideal) ℓ)

open Cert.Reference2Ideal.Hand in
/-- The reference's run, its results as arrays of the inputs. -/
theorem reference_results2 {I : Dev nD → In} (H : ∀ c, Cert.Reference2Ideal.Hand.Args m c (I c)) (ρ : Dev nD → PrngReg) :
    θ_run (defs (F := Ideal)) (onTc (τ := τ) (main (F := Ideal))) ⟨m, fun _ => 0, ρ⟩ (fun r => ∀ c : Dev nD,
      (r.2.mem ((c.tc : Thread nD τ).loc main_v148) : S8192x1024.Idx → EReal) = M2 (gx (I c))
      ∧ (r.2.mem ((c.tc : Thread nD τ).loc main_v146) : S1024x2464.Idx → EReal) = M2 (gin (I c))
      ∧ (r.2.mem ((c.tc : Thread nD τ).loc main_v129) : S256.Idx → EReal) = M1 (gqg (I c))
      ∧ (r.2.mem ((c.tc : Thread nD τ).loc main_v122) : S256x768.Idx → EReal) = M2 (guq (I c))
      ∧ (r.2.mem ((c.tc : Thread nD τ).loc main_v105) : S128.Idx → EReal) = M1 (gkg (I c))
      ∧ (r.2.mem ((c.tc : Thread nD τ).loc main_v98) : S128x1024.Idx → EReal) = M2 (gukv (I c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run _ _ _).mono (fun r h c => by
      obtain ⟨e0, e1, e2, e3, e4, e5, ea⟩ := h c
      exact ⟨(e0.trans (v148_eq m c)).trans (r148 (H c)), (e1.trans (v146_eq m c)).trans (r146 (H c)),
        (e2.trans (show _ = k129 m c from rfl)).trans (r129 (H c)), (e3.trans (show _ = k122 m c from rfl)).trans (r122 (H c)),
        (e4.trans (show _ = k105 m c from rfl)).trans (r105 (H c)), (e5.trans (show _ = k98 m c from rfl)).trans (r98 (H c)), ea⟩)
    (run (F := Ideal) m ρ)

end Reference2

/-- The kernel's six gradients are the reference's. -/
theorem same_results2 : Cert.algebraic_Kernel2Ideal_Reference2Ideal := fun m g m' g' _ hagree => by
  have H := kernel_args2 m
  have H' : ∀ c, Cert.Reference2Ideal.Hand.Args m' c (inputs2 m c) := fun c => by
    obtain ⟨e0, e1, e2, e3, e4, e5, e6, e7, e8, e9, e10, e11⟩ := hagree c
    exact ⟨e0.trans (H c).x, e1.trans (H c).win, e2.trans (H c).qg, e3.trans (H c).uq, e4.trans (H c).kg, e5.trans (H c).ukv, e6.trans (H c).h, e7.trans (H c).gt, e8.trans (H c).q, e9.trans (H c).k, e10.trans (H c).v,
      fun s i => ((H c).th s i).trans (congrArg (fun w : BitVec 32 => angle w.toInt i) (congrFun e11 (ix1 s)).symm)⟩
  exact ⟨_, _, _, _, _, _, kernel_results2 m H g, reference_results2 m' H' g'⟩

end Cert.Proof

end
-- ==== Proof.Frames3.lean ====
/-
  The frame claims of the forward projections' kernel: its run at any float values, read at its arguments and its
  semaphores.
-/
module

public import proofs.«01_k».proof.Defs
public import proofs.«01_k».proof.Proof.Gen.Kernel3Ideal.Frame
public import proofs.«01_k».proof.Proof.Gen.Kernel3
public import proofs.«01_k».proof.Proof.Gen.Kernel3.Frame
public import proofs.«01_k».proof.Proof.Gen.Reference3Ideal.Run

@[expose] public section

set_option maxRecDepth 100000

noncomputable section

namespace Cert.Proof

open Idealize.ShloMosaic Idealize.ShloMosaic.TcCoe Idealize.SL.Sem

theorem frame_ideal3 : Cert.quiescent_Kernel3Ideal := fun m ρ _ => Cert.Kernel3Ideal.Gen.frame m ρ

theorem frame_kernel3 : Cert.quiescent_Kernel3 := fun m ρ _ => Cert.Kernel3.Gen.frame m ρ

/-- The reference's run, read at its arguments and its semaphores. -/
theorem frame_reference3 : Cert.quiescent_Reference3Ideal := fun m ρ _ =>
  (θ_run Cert.Reference3Ideal.defs _ _).mono
    (fun r h => ⟨fun c => (h c).2.2.2.2.2.2.2.2, Idealize.ShloMosaic.sem_eq_zero_of_no_sems (by decide) r.2⟩)
    (Cert.Reference3Ideal.Value.run (F := Ideal) m ρ)

end Cert.Proof

end
-- ==== Proof.Model3.lean ====
/-
  The forward call before attention over the extended reals: what the kernel computes on its padded layouts, what the projections and
  the rotation are on the layouts of the reference, and that the two agree.
-/
module

public import proofs.«01_k».proof.Proof.Real2
public import proofs.«01_k».proof.Proof.Host

@[expose] public section

set_option maxRecDepth 16384

noncomputable section

namespace Cert.Proj

open Idealize.ShloMosaic
open Cert.Attn (angle angle_word)
open scoped BigOperators

/-- The factor that the queries carry. -/
def scl : EReal := Ideal.ofBits .f32 0x3E16C740#32
/-- The rotation's frequency `i`, as both programs form it. -/
def freq (i : ℕ) : EReal :=
  Ideal.div 1 (Ideal.pow (Ideal.ofBits .f32 1176256512#32) (Ideal.div (FloatOps.sitofp (F := Ideal) .f32 (BitVec.ofNat 32 i)) (Ideal.ofBits .f32 1098907648#32)))

/-! ## The kernel's rows -/

structure KX where
  x : ℕ → ℕ → EReal
  P : ℕ → BitVec 32
  win : ℕ → ℕ → EReal
  wuq : ℕ → ℕ → EReal
  wkv : ℕ → ℕ → EReal
  pv : ℕ → ℕ → EReal

/-- The rotation of 128 lanes. -/
def rot (t c a b : ℕ → EReal) (l : ℕ) : EReal :=
  t l * c l + t ((l + 128 - 112) % 128) * a l + t ((l + 128 - 16) % 128) * b l

namespace KX
variable (K : KX)

def lat (r e : ℕ) : EReal := ∑ d ∈ Finset.range 1024, K.x r d * K.win d e
def cq (r j : ℕ) : EReal := K.lat r j
def ckv (r j : ℕ) : EReal := K.lat r (256 + j)
def kr (r j : ℕ) : EReal := K.lat r (384 + j)
def gate (r e : ℕ) : EReal := ∑ d ∈ Finset.range 1024, K.x r d * K.win d (512 + e)
def an (r l : ℕ) : EReal := FloatOps.sitofp (F := Ideal) .f32 (K.P r) * K.pv 4 l
def co (r l : ℕ) : EReal := Ideal.cos (K.an r l)
def si (r l : ℕ) : EReal := Ideal.sin (K.an r l)
def sa (r l : ℕ) : EReal := K.si r l * K.pv 5 l
def sb (r l : ℕ) : EReal := K.si r l * K.pv 6 l
def qa (r e : ℕ) : EReal := ∑ j ∈ Finset.range 256, xh 256 (K.cq r) j * K.pv 0 j * K.wuq j e
def kva (r e : ℕ) : EReal := ∑ j ∈ Finset.range 128, xh 128 (K.ckv r) j * K.pv 1 j * K.wkv j e
def krr (r l : ℕ) : EReal := rot (K.kr r) (K.co r) (K.sa r) (K.sb r) l
def qh (r h l : ℕ) : EReal := rot (fun z => K.qa r (128 * h + z)) (K.co r) (K.sa r) (K.sb r) l * scl
def q (r e : ℕ) : EReal := K.qh r (e / 128) (e % 128)
def k (r e : ℕ) : EReal := K.kva r e + K.krr r (e % 128)
def v (r e : ℕ) : EReal := K.kva r (1024 + e)
def vt (b e s : ℕ) : EReal := K.v (512 * b + s) e
def cs (r l : ℕ) : EReal := if l < 128 then K.co r l else K.si r (l - 128)

/-- The rows of block `t`. -/
def blk (t : ℕ) : KX where
  x r := K.x (1024 * t + r)
  P r := K.P (1024 * t + r)
  win := K.win
  wuq := K.wuq
  wkv := K.wkv
  pv := K.pv

end KX

/-- What the lines before the call make of the inputs and the positions. -/
def kxOf (I : In) (P : ℕ → BitVec 32) : KX where
  x := I.x
  P := P
  win := (krOf I).win
  wuq := (krOf I).wuq
  wkv := (krOf I).wkv
  pv a l := if a = 4 then if l < 64 then 0 else if l < 80 then freq (l - 64) else if l < 96 then freq (l - 80) else 0 else (krOf I).pv a l

/-! ## The same on the layouts of the reference -/

section Spec
variable (I : In)

def krw (s i : ℕ) : EReal := ∑ d ∈ Finset.range 1024, I.x s d * I.win d (384 + i)
def gates (s e : ℕ) : EReal := ∑ d ∈ Finset.range 1024, I.x s d * I.win d (416 + e)
def qu (s e : ℕ) : EReal := ∑ j ∈ Finset.range 256, xh 256 (cq I s) j * I.qg j * I.uq j e
def kvu (s e : ℕ) : EReal := ∑ j ∈ Finset.range 128, xh 128 (ckv I s) j * I.kg j * I.ukv j e
def cosE (s i : ℕ) : EReal := ((Real.cos (I.th s i) : ℝ) : EReal)
def sinE (s i : ℕ) : EReal := ((Real.sin (I.th s i) : ℝ) : EReal)
/-- The rotation of 32 numbers. -/
def rot32 (s : ℕ) (t : ℕ → EReal) (i : ℕ) : EReal :=
  if i < 16 then t i * cosE I s i - t (16 + i) * sinE I s i else t (i - 16) * sinE I s (i - 16) + t (16 + (i - 16)) * cosE I s (i - 16)
def fq (s h d : ℕ) : EReal := (if d < 64 then qu I s (h * 96 + d) else rot32 I s (fun i => qu I s (h * 96 + (64 + i))) (d - 64)) * scl
def fk (s h d : ℕ) : EReal := if d < 64 then kvu I s (h * 128 + d) else rot32 I s (krw I s) (d - 64)
def fqp (s e : ℕ) : EReal := if e % 128 < 96 then fq I s (e / 128) (e % 128) else 0
def fkp (s e : ℕ) : EReal := if e % 128 < 96 then fk I s (e / 128) (e % 128) else 0
def fv (s e : ℕ) : EReal := kvu I s ((e / 64) * 128 + (64 + e % 64))
def fvt (b e s : ℕ) : EReal := fv I (b * 512 + s) e

end Spec

/-! ## They agree -/

section Eq
variable (I : In) (P : ℕ → BitVec 32)

theorem xh_congr (n : ℕ) (c c' : ℕ → EReal) (h : ∀ j < n, c j = c' j) (j : ℕ) (hj : j < n) : xh n c j = xh n c' j := by
  have e : ∑ d ∈ Finset.range n, c d * c d = ∑ d ∈ Finset.range n, c' d * c' d :=
    Finset.sum_congr rfl fun d hd => by rw [h d (Finset.mem_range.1 hd)]
  unfold xh rs ms
  rw [e, h j hj]

theorem kx_win (d e : ℕ) (h : e < 384) : (krOf I).win d e = I.win d e := if_pos h

theorem kx_cq (s j : ℕ) (h : j < 256) : (kxOf I P).cq s j = cq I s j := by
  show ∑ d ∈ Finset.range 1024, I.x s d * (krOf I).win d j = ∑ d ∈ Finset.range 1024, I.x s d * I.win d j
  exact Finset.sum_congr rfl fun d _ => congrArg (I.x s d * ·) (kx_win I d j (by omega))
theorem kx_ckv (s j : ℕ) (h : j < 128) : (kxOf I P).ckv s j = ckv I s j := by
  show ∑ d ∈ Finset.range 1024, I.x s d * (krOf I).win d (256 + j) = ∑ d ∈ Finset.range 1024, I.x s d * I.win d (256 + j)
  exact Finset.sum_congr rfl fun d _ => congrArg (I.x s d * ·) (kx_win I d (256 + j) (by omega))
theorem kx_gate (s e : ℕ) : (kxOf I P).gate s e = gates I s e :=
  Finset.sum_congr rfl fun d _ => congrArg (I.x s d * ·) (by
    show (if 512 + e < 384 then _ else if 512 + e < 448 then _ else if 512 + e < 480 then _ else if 512 + e < 512 then _ else I.win d (416 + (512 + e - 512))) = _
    rw [if_neg (by omega), if_neg (by omega), if_neg (by omega), if_neg (by omega), show 512 + e - 512 = e by omega])
theorem kx_kr (s l : ℕ) (hl : l < 128) : (kxOf I P).kr s l = if 64 ≤ l ∧ l < 96 then krw I s (l - 64) else 0 := by
  have hw (d : ℕ) : (krOf I).win d (384 + l) = if 64 ≤ l ∧ l < 96 then I.win d (384 + (l - 64)) else 0 := by
    show (if 384 + l < 384 then _ else if 384 + l < 448 then 0 else if 384 + l < 480 then I.win d (384 + (384 + l - 448)) else if 384 + l < 512 then 0 else _) = _
    rw [if_neg (by omega)]
    by_cases h1 : 384 + l < 448
    · rw [if_pos h1, if_neg (by omega)]
    by_cases h2 : 384 + l < 480
    · rw [if_neg h1, if_pos h2, if_pos (by omega), show 384 + l - 448 = l - 64 by omega]
    · rw [if_neg h1, if_neg h2, if_pos (by omega), if_neg (by omega)]
  show ∑ d ∈ Finset.range 1024, I.x s d * (krOf I).win d (384 + l) = _
  simp only [hw]
  split
  · rfl
  · simp only [mul_zero, Finset.sum_const_zero]

theorem kx_pv (a l : ℕ) (h : a ≠ 4) : (kxOf I P).pv a l = (krOf I).pv a l := by
  show (if a = 4 then _ else (krOf I).pv a l) = _
  rw [if_neg h]
theorem kx_pv0 (l : ℕ) (h : l < 256) : (kxOf I P).pv 0 l = I.qg l := (kx_pv I P _ _ (by omega)).trans (pv0 I l h)
theorem kx_pv1 (l : ℕ) (h : l < 128) : (kxOf I P).pv 1 l = I.kg l := (kx_pv I P _ _ (by omega)).trans (pv1 I l h)
theorem kx_pv5 (z : ℕ) : (kxOf I P).pv 5 z = if 64 ≤ z ∧ z < 80 then ((-1 : ℝ) : EReal) else 0 := (kx_pv I P _ _ (by omega)).trans (pv5 I z)
theorem kx_pv6 (z : ℕ) : (kxOf I P).pv 6 z = if 80 ≤ z ∧ z < 96 then 1 else 0 := (kx_pv I P _ _ (by omega)).trans (pv6 I z)

theorem kx_qa (s h d : ℕ) (hd : d < 128) : (kxOf I P).qa s (128 * h + d) = if d < 96 then qu I s (h * 96 + d) else 0 := by
  have e (j : ℕ) (hj : j ∈ Finset.range 256) : xh 256 ((kxOf I P).cq s) j * (kxOf I P).pv 0 j * (kxOf I P).wuq j (128 * h + d)
      = xh 256 (cq I s) j * I.qg j * (if d < 96 then I.uq j (h * 96 + d) else 0) := by
    have hj := Finset.mem_range.1 hj
    rw [xh_congr 256 _ _ (fun j hj => kx_cq I P s j hj) j hj, kx_pv0 I P j hj]
    refine congrArg _ ((wuq_at I j h d hd).trans ?_)
    rw [show 96 * h = h * 96 by omega]
  unfold KX.qa
  rw [Finset.sum_congr rfl e]
  split
  · rfl
  · simp only [mul_zero, Finset.sum_const_zero]
theorem kx_kva (s h d : ℕ) (hh : h < 8) (hd : d < 128) : (kxOf I P).kva s (128 * h + d) = if d < 64 then kvu I s (h * 128 + d) else 0 := by
  have e (j : ℕ) (hj : j ∈ Finset.range 128) : xh 128 ((kxOf I P).ckv s) j * (kxOf I P).pv 1 j * (kxOf I P).wkv j (128 * h + d)
      = xh 128 (ckv I s) j * I.kg j * (if d < 64 then I.ukv j (h * 128 + d) else 0) := by
    have hj := Finset.mem_range.1 hj
    rw [xh_congr 128 _ _ (fun j hj => kx_ckv I P s j hj) j hj, kx_pv1 I P j hj]
    refine congrArg _ ((wkv_lo I j h d hh hd).trans ?_)
    rw [show 128 * h = h * 128 by omega]
  unfold KX.kva
  rw [Finset.sum_congr rfl e]
  split
  · rfl
  · simp only [mul_zero, Finset.sum_const_zero]
theorem kx_v (s e : ℕ) : (kxOf I P).v s e = fv I s e := by
  unfold KX.v KX.kva fv kvu
  refine Finset.sum_congr rfl fun j hj => ?_
  have hj := Finset.mem_range.1 hj
  rw [xh_congr 128 _ _ (fun j hj => kx_ckv I P s j hj) j hj, kx_pv1 I P j hj]
  refine congrArg _ ?_
  have := wkv_hi I j (e / 64) (e % 64) (by omega)
  rw [show 64 * (e / 64) + e % 64 = e by omega, show 128 * (e / 64) = (e / 64) * 128 by omega] at this
  exact this

variable (hP : ∀ s i, I.th s i = angle (P s).toInt i)

theorem kx_pv4 (l : ℕ) : (kxOf I P).pv 4 l = if l < 64 then 0 else if l < 80 then freq (l - 64) else if l < 96 then freq (l - 80) else 0 := by
  show (if (4 : ℕ) = 4 then (if l < 64 then 0 else if l < 80 then freq (l - 64) else if l < 96 then freq (l - 80) else 0 : EReal) else (krOf I).pv 4 l) = _
  rw [if_pos rfl]
theorem sit (w : BitVec 32) (i : ℕ) (hi : i < 16) : FloatOps.sitofp (F := Ideal) .f32 w * freq i = ((angle w.toInt i : ℝ) : EReal) := angle_word w i hi

include hP in
theorem kx_an (s l : ℕ) : (kxOf I P).an s l =
    (((if l < 64 then 0 else if l < 80 then I.th s (l - 64) else if l < 96 then I.th s (l - 80) else 0 : ℝ)) : EReal) := by
  unfold KX.an
  rw [kx_pv4]
  split
  · exact mul_zero _
  split
  · rw [hP]; exact sit _ _ (by omega)
  split
  · rw [hP]; exact sit _ _ (by omega)
  · exact mul_zero _

theorem cos_coe (x : ℝ) : Ideal.cos ((x : ℝ) : EReal) = ((Real.cos x : ℝ) : EReal) := rfl
theorem sin_coe (x : ℝ) : Ideal.sin ((x : ℝ) : EReal) = ((Real.sin x : ℝ) : EReal) := rfl

include hP in
theorem kx_co (s l : ℕ) : (kxOf I P).co s l = if l < 64 then 1 else if l < 80 then cosE I s (l - 64) else if l < 96 then cosE I s (l - 80) else 1 := by
  unfold KX.co cosE
  rw [kx_an I P hP, cos_coe]
  split
  · rw [Real.cos_zero]; rfl
  split
  · rfl
  split
  · rfl
  · rw [Real.cos_zero]; rfl
include hP in
theorem kx_si (s l : ℕ) : (kxOf I P).si s l = if l < 64 then 0 else if l < 80 then sinE I s (l - 64) else if l < 96 then sinE I s (l - 80) else 0 := by
  unfold KX.si sinE
  rw [kx_an I P hP, sin_coe]
  split
  · rw [Real.sin_zero]; rfl
  split
  · rfl
  split
  · rfl
  · rw [Real.sin_zero]; rfl

include hP in
theorem kx_cs (s l : ℕ) (hl : l < 256) : (kxOf I P).cs s l = (krOf I).cs s l := by
  show _ = if l < 64 then 1 else if l < 80 then cosE I s (l - 64) else if l < 96 then cosE I s (l - 80) else if l < 128 then 1
    else if l < 192 then 0 else if l < 208 then sinE I s (l - 192) else if l < 224 then sinE I s (l - 208) else 0
  unfold KX.cs
  by_cases h : l < 128
  · rw [if_pos h, kx_co I P hP]
    simp only [if_pos h]
  · rw [if_neg h, kx_si I P hP, if_neg (by omega : ¬ l < 64), if_neg (by omega : ¬ l < 80), if_neg (by omega : ¬ l < 96), if_neg h]
    by_cases h1 : l < 192
    · rw [if_pos h1, if_pos (by omega)]
    by_cases h2 : l < 208
    · rw [if_neg h1, if_pos h2, if_neg (by omega), if_pos (by omega), show l - 128 - 64 = l - 192 by omega]
    by_cases h3 : l < 224
    · rw [if_neg h1, if_neg h2, if_pos h3, if_neg (by omega), if_neg (by omega), if_pos (by omega), show l - 128 - 80 = l - 208 by omega]
    · rw [if_neg h1, if_neg h2, if_neg h3, if_neg (by omega), if_neg (by omega), if_neg (by omega)]

include hP in
/-- The rotation of 128 lanes is the rotation of the 32 numbers in lanes 64 to 95 and leaves the other lanes. -/
theorem kx_rot (s l : ℕ) (hl : l < 128) (t : ℕ → EReal) :
    rot t ((kxOf I P).co s) ((kxOf I P).sa s) ((kxOf I P).sb s) l = if 64 ≤ l ∧ l < 96 then rot32 I s (fun i => t (64 + i)) (l - 64) else t l := by
  unfold rot KX.sa KX.sb
  rw [kx_co I P hP, kx_si I P hP, kx_pv5, kx_pv6]
  by_cases h1 : l < 64
  · rw [if_neg (by omega : ¬ (64 ≤ l ∧ l < 80)), if_neg (by omega : ¬ (80 ≤ l ∧ l < 96)), if_neg (by omega : ¬ (64 ≤ l ∧ l < 96)), if_pos h1]
    simp only [mul_zero, add_zero, mul_one]
  by_cases h2 : l < 80
  · rw [if_pos (by omega : (64 ≤ l ∧ l < 80)), if_neg (by omega : ¬ (80 ≤ l ∧ l < 96)), if_pos (by omega : (64 ≤ l ∧ l < 96)), if_neg h1, if_pos h2,
      if_neg h1, if_pos h2]
    unfold rot32
    beta_reduce
    rw [if_pos (by omega), show (l + 128 - 112) % 128 = 64 + (16 + (l - 64)) by omega, show 64 + (l - 64) = l by omega, mul_zero, mul_zero, add_zero,
      EReal.coe_neg, EReal.coe_one, mul_neg, mul_one, mul_neg, sub_eq_add_neg]
  by_cases h3 : l < 96
  · rw [if_neg (by omega : ¬ (64 ≤ l ∧ l < 80)), if_pos (by omega : (80 ≤ l ∧ l < 96)), if_pos (by omega : (64 ≤ l ∧ l < 96)), if_neg h1, if_neg h2,
      if_pos h3, if_neg h1, if_neg h2, if_pos h3]
    unfold rot32
    beta_reduce
    rw [if_neg (by omega), show (l + 128 - 16) % 128 = 64 + (l - 64 - 16) by omega, show 64 + (16 + (l - 64 - 16)) = l by omega,
      show l - 64 - 16 = l - 80 by omega, mul_zero, mul_zero, add_zero, mul_one, add_comm]
  · rw [if_neg (by omega : ¬ (64 ≤ l ∧ l < 80)), if_neg (by omega : ¬ (80 ≤ l ∧ l < 96)), if_neg (by omega : ¬ (64 ≤ l ∧ l < 96)), if_neg h1, if_neg h2, if_neg h3]
    simp only [mul_zero, add_zero, mul_one]

theorem rot32_congr (s i : ℕ) (hi : i < 32) (t u : ℕ → EReal) (h : ∀ z < 32, t z = u z) : rot32 I s t i = rot32 I s u i := by
  unfold rot32
  split
  · rw [h i (by omega), h (16 + i) (by omega)]
  · rw [h (i - 16) (by omega), h (16 + (i - 16)) (by omega)]

include hP in
theorem kx_q (s e : ℕ) : (kxOf I P).q s e = fqp I s e := by
  unfold KX.q KX.qh fqp fq
  rw [kx_rot I P hP s _ (by omega)]
  by_cases h1 : e % 128 < 64
  · rw [if_neg (by omega), if_pos (by omega), if_pos h1, kx_qa I P s _ _ (by omega), if_pos (by omega)]
  by_cases h2 : e % 128 < 96
  · rw [if_pos (by omega), if_pos h2, if_neg h1]
    refine congrArg (· * scl) (rot32_congr I s _ (by omega) _ _ fun z hz => ?_)
    rw [kx_qa I P s _ _ (by omega), if_pos (by omega)]
  · rw [if_neg (by omega), if_neg h2, kx_qa I P s _ _ (by omega), if_neg h2, zero_mul]

include hP in
theorem kx_k (s e : ℕ) (he : e < 1024) : (kxOf I P).k s e = fkp I s e := by
  unfold KX.k KX.krr fkp fk
  have hk := kx_kva I P s (e / 128) (e % 128) (by omega) (by omega)
  rw [show 128 * (e / 128) + e % 128 = e by omega] at hk
  rw [hk, kx_rot I P hP s _ (by omega)]
  by_cases h1 : e % 128 < 64
  · rw [if_pos h1, if_neg (by omega), if_pos (by omega), if_pos h1, kx_kr I P s _ (by omega), if_neg (by omega), add_zero]
  by_cases h2 : e % 128 < 96
  · rw [if_neg h1, if_pos (by omega), if_pos h2, if_neg h1, zero_add]
    refine rot32_congr I s _ (by omega) _ _ fun z hz => ?_
    rw [kx_kr I P s _ (by omega), if_pos (by omega), show 64 + z - 64 = z by omega]
  · rw [if_neg h1, if_neg (by omega), if_neg h2, kx_kr I P s _ (by omega), if_neg (by omega), add_zero]

end Eq

end Cert.Proj

end
-- ==== Proof.Point3.lean ====
/-
  One grid point of the forward kernel before attention on arrays of extended reals: each value it forms, and the eight blocks it writes.
-/
module

public import proofs.«01_k».proof.Proof.Gen.Kernel3Ideal.Frame
public import proofs.«01_k».proof.Proof.Model3
public import Idealize.ShloMosaic.Lib.Pipeline.ValueKit

@[expose] public section

set_option maxRecDepth 16384

noncomputable section

namespace Cert.Kernel3Ideal.Hand

open Cert.Kernel3Ideal Cert.Kernel3Ideal.Gen Cert.Proj
open Idealize.ShloMosaic
open scoped BigOperators

/-! ## Loads and stores of blocks -/

/-! A block loaded from a matrix. -/

theorem ld_f32 {m n p q : ℕ} (A : ℕ → ℕ → EReal) (o0 o1 : ℕ)
    (inb : ∀ a, (![o0, o1] : Fin 2 → ℕ) a + (⟨2, ![p, q]⟩ : Shape).size a ≤ (⟨2, ![m, n]⟩ : Shape).size a) :
    View.ld (Val := Elt Ideal) (e' := .f32) (M2 A : (⟨2, ![m, n]⟩ : Shape).Idx → EReal) (Rect.unit (s := ⟨2, ![m, n]⟩) ![o0, o1] (⟨2, ![p, q]⟩ : Shape).size inb)
      = (M2 (fun x l => A (o0 + x) (o1 + l)) : (⟨2, ![p, q]⟩ : Shape).Idx → EReal) := by
  funext y
  show A (o0 + 1 * (y 0).val) (o1 + 1 * (y 1).val) = A (o0 + (y 0).val) (o1 + (y 1).val)
  rw [one_mul, one_mul]
theorem ld_bf16 {m n p q : ℕ} (A : ℕ → ℕ → EReal) (o0 o1 : ℕ)
    (inb : ∀ a, (![o0, o1] : Fin 2 → ℕ) a + (⟨2, ![p, q]⟩ : Shape).size a ≤ (⟨2, ![m, n]⟩ : Shape).size a) :
    View.ld (Val := Elt Ideal) (e' := .bf16) (M2 A : (⟨2, ![m, n]⟩ : Shape).Idx → EReal) (Rect.unit (s := ⟨2, ![m, n]⟩) ![o0, o1] (⟨2, ![p, q]⟩ : Shape).size inb)
      = (M2 (fun x l => A (o0 + x) (o1 + l)) : (⟨2, ![p, q]⟩ : Shape).Idx → EReal) := by
  funext y
  show A (o0 + 1 * (y 0).val) (o1 + 1 * (y 1).val) = A (o0 + (y 0).val) (o1 + (y 1).val)
  rw [one_mul, one_mul]

/-- Stores that cover a buffer and each leave the elements of `W` leave `W`. -/
theorem canon_lift {S : Shape} {e : EltTy} (L : List (View.Piece (Elt Ideal) S e)) (W : S.Idx → Elt Ideal e)
    (hc : ∀ y, ∃ p ∈ L, y ∈ p.1.set) (h : ∀ p ∈ L, ∀ x, p.2 x = W (p.1.idx x)) : View.canon L = W := by
  funext y
  refine View.canon_eq_of_allAt L y (W y) (hc y) fun p hp x hx => ?_
  exact (h p hp x).trans (congrArg W hx)

/-! ## The values -/

theorem pay7_lift (A : ℕ → ℕ → EReal) : k0_pay7 (F := Ideal) (M2 A) = M2 A := by
  unfold k0_pay7; funext j; idx_vars j; pointwise []
theorem pay8_lift (X W : ℕ → ℕ → EReal) : k0_pay8 (F := Ideal) (M2 X) (M2 W) = M2 (fun r e => ∑ d ∈ Finset.range 1024, X r d * W d e) := by
  unfold k0_pay8
  rw [pay7_lift]
  funext j; idx_vars j; pointwise []
  simp only [M2_ix, zero_add, Finset.sum_range]
theorem pay9_lift (X W : ℕ → ℕ → EReal) : k0_pay9 (F := Ideal) (M2 X) (M2 W) = M2 (fun r e => ∑ d ∈ Finset.range 1024, X r d * W d e) := by
  unfold k0_pay9
  rw [pay8_lift]
  funext j; idx_vars j; pointwise []
  simp only [M2_ix, Nat.zero_add]
theorem pay10_lift (X W : ℕ → ℕ → EReal) : k0_pay10 (F := Ideal) (M2 X) (M2 W) = M2 (fun r e => ∑ d ∈ Finset.range 1024, X r d * W d (256 + e)) := by
  unfold k0_pay10
  rw [pay8_lift]
  funext j; idx_vars j; pointwise []
  rfl
theorem pay11_lift (X W : ℕ → ℕ → EReal) : k0_pay11 (F := Ideal) (M2 X) (M2 W) = M2 (fun r e => ∑ d ∈ Finset.range 1024, X r d * W d (384 + e)) := by
  unfold k0_pay11
  rw [pay8_lift]
  funext j; idx_vars j; pointwise []
  rfl
theorem pay6_lift (X W : ℕ → ℕ → EReal) : k0_pay6 (F := Ideal) (M2 X) (M2 W) = M2 (fun r e => ∑ d ∈ Finset.range 1024, X r d * W d e) := by
  unfold k0_pay6
  funext j; idx_vars j; pointwise []
  simp only [M2_ix, zero_add, Finset.sum_range]

/-- A column of positions. -/
def col {n : ℕ} (P : ℕ → BitVec 32) : (⟨2, ![n, 1]⟩ : Shape).Idx → BitVec 32 := fun j => P (j 0).val

theorem pay12_lift (P : ℕ → BitVec 32) (A : ℕ → ℕ → EReal) :
    k0_pay12 (F := Ideal) (col P) (M2 A) = M2 (fun r l => FloatOps.sitofp (F := Ideal) .f32 (P r) * A 0 l) := by
  unfold k0_pay12; funext j; idx_vars j; pointwise []
  rfl
theorem pay13_lift (P : ℕ → BitVec 32) (A : ℕ → ℕ → EReal) :
    k0_pay13 (F := Ideal) (col P) (M2 A) = M2 (fun r l => Ideal.cos (FloatOps.sitofp (F := Ideal) .f32 (P r) * A 0 l)) := by
  unfold k0_pay13; rw [pay12_lift]; funext j; idx_vars j; pointwise []
  rfl
theorem pay14_lift (P : ℕ → BitVec 32) (A : ℕ → ℕ → EReal) :
    k0_pay14 (F := Ideal) (col P) (M2 A) = M2 (fun r l => Ideal.sin (FloatOps.sitofp (F := Ideal) .f32 (P r) * A 0 l)) := by
  unfold k0_pay14; rw [pay12_lift]; funext j; idx_vars j; pointwise []
  rfl
theorem pay15_lift (P : ℕ → BitVec 32) (A S : ℕ → ℕ → EReal) :
    k0_pay15 (F := Ideal) (col P) (M2 A) (M2 S) = M2 (fun r l => Ideal.sin (FloatOps.sitofp (F := Ideal) .f32 (P r) * A 0 l) * S 0 l) := by
  unfold k0_pay15; rw [pay14_lift]; funext j; idx_vars j; pointwise []
  rfl
theorem pay16_lift (P : ℕ → BitVec 32) (A S : ℕ → ℕ → EReal) :
    k0_pay16 (F := Ideal) (col P) (M2 A) (M2 S) = M2 (fun r l => Ideal.sin (FloatOps.sitofp (F := Ideal) .f32 (P r) * A 0 l) * S 0 l) := by
  unfold k0_pay16; rw [pay14_lift]; funext j; idx_vars j; pointwise []
  rfl
theorem pay17_lift (X W : ℕ → ℕ → EReal) :
    k0_pay17 (F := Ideal) (M2 X) (M2 W) = M2 (fun r _ => ∑ j ∈ Finset.range 256, (∑ d ∈ Finset.range 1024, X r d * W d j) * ∑ d ∈ Finset.range 1024, X r d * W d j) := by
  unfold k0_pay17; rw [pay9_lift]; funext j; idx_vars j; pointwise []
  simp only [M2_ix, zero_add, Finset.sum_range]
theorem pay18_lift (C G W : ℕ → ℕ → EReal) :
    k0_pay18 (F := Ideal) (M2 C) (M2 (fun r _ => ∑ j ∈ Finset.range 256, C r j * C r j)) (M2 G) (M2 W)
      = M2 (fun r e => ∑ j ∈ Finset.range 256, xh 256 (C r) j * G 0 j * W j e) := by
  unfold k0_pay18
  funext j; idx_vars j; pointwise []
  rw [w_q, w_eps]
  simp only [M2_ix, zero_add]
  rw [Finset.sum_range (fun j => xh 256 (C _) j * G 0 j * W j _)]
  rfl
theorem pay19_lift (C G W : ℕ → ℕ → EReal) :
    k0_pay19 (F := Ideal) (M2 C) (M2 G) (M2 W) = M2 (fun r e => ∑ j ∈ Finset.range 128, xh 128 (C r) j * G 0 j * W j e) := by
  unfold k0_pay19
  funext j; idx_vars j; pointwise []
  rw [w_kv, w_eps]
  simp only [M2_ix, zero_add]
  unfold xh rs ms
  rw [Finset.sum_range (fun j => C _ j * Ideal.rsqrt _ * G 0 j * W j _), Finset.sum_range (fun j => C _ j * C _ j)]
  rfl
theorem pay20_lift (T C A B : ℕ → ℕ → EReal) :
    k0_pay20 (F := Ideal) (M2 T) (M2 C) (M2 A) (M2 B) = M2 (fun r l => rot (T r) (C r) (A r) (B r) l) := by
  unfold k0_pay20; funext j; idx_vars j; pointwise []
  rfl
theorem pay3_lift (W : ℕ → ℕ → EReal) : k0_pay3 (F := Ideal) (M2 W) = M2 (fun r e => W r (1024 + e)) := by
  unfold k0_pay3; funext j; idx_vars j; pointwise []
  rfl
theorem pay4_lift (W : ℕ → ℕ → EReal) : k0_pay4 (F := Ideal) (M2 W) = M3 (fun _ e s => W s (1024 + e)) := by
  unfold k0_pay4; rw [pay3_lift]; funext j; idx_vars j; pointwise []
  simp only [M2_ix, M3_ix, Nat.zero_add]
theorem pay5_lift (W : ℕ → ℕ → EReal) : k0_pay5 (F := Ideal) (M2 W) = M3 (fun _ e s => W (512 + s) (1024 + e)) := by
  unfold k0_pay5; rw [pay3_lift]; funext j; idx_vars j; pointwise []
  simp only [M2_ix, M3_ix, Nat.zero_add]

/-! ## The heads -/

theorem pay28_lift (A : ℕ → ℕ → EReal) : k0_pay28 (F := Ideal) (M2 A) = M2 A := by
  unfold k0_pay28; funext j; idx_vars j; pointwise []
theorem pay25_lift (C A B Q : ℕ → ℕ → EReal) :
    k0_pay25 (F := Ideal) (M2 C) (M2 A) (M2 B) (M2 Q) = M2 (fun r l => rot (fun z => Q r (128 + z)) (C r) (A r) (B r) l * scl) := by
  unfold k0_pay25
  funext j; idx_vars j; pointwise []
  rfl
theorem pay30_lift (C A B Q : ℕ → ℕ → EReal) :
    k0_pay30 (F := Ideal) (M2 C) (M2 A) (M2 B) (M2 Q) = M2 (fun r l => rot (fun z => Q r (384 + z)) (C r) (A r) (B r) l * scl) := by
  unfold k0_pay30
  funext j; idx_vars j; pointwise []
  rfl
theorem pay32_lift (C A B Q : ℕ → ℕ → EReal) :
    k0_pay32 (F := Ideal) (M2 C) (M2 A) (M2 B) (M2 Q) = M2 (fun r l => rot (fun z => Q r (512 + z)) (C r) (A r) (B r) l * scl) := by
  unfold k0_pay32
  funext j; idx_vars j; pointwise []
  rfl
theorem pay34_lift (C A B Q : ℕ → ℕ → EReal) :
    k0_pay34 (F := Ideal) (M2 C) (M2 A) (M2 B) (M2 Q) = M2 (fun r l => rot (fun z => Q r (640 + z)) (C r) (A r) (B r) l * scl) := by
  unfold k0_pay34
  funext j; idx_vars j; pointwise []
  rfl
theorem pay36_lift (C A B Q : ℕ → ℕ → EReal) :
    k0_pay36 (F := Ideal) (M2 C) (M2 A) (M2 B) (M2 Q) = M2 (fun r l => rot (fun z => Q r (768 + z)) (C r) (A r) (B r) l * scl) := by
  unfold k0_pay36
  funext j; idx_vars j; pointwise []
  rfl
theorem pay27_lift (C A B Q : ℕ → ℕ → EReal) :
    k0_pay27 (F := Ideal) (M2 C) (M2 A) (M2 B) (M2 Q) = M2 (fun r l => rot (fun z => Q r (256 + z)) (C r) (A r) (B r) l * scl) := by
  unfold k0_pay27
  funext j; idx_vars j; pointwise []
  rfl
theorem pay24_lift (W R : ℕ → ℕ → EReal) : k0_pay24 (F := Ideal) (M2 W) (M2 R) = M2 (fun r l => W r (0 + l) + R r l) := by
  unfold k0_pay24; funext j; idx_vars j; pointwise []
  simp only [M2_ix, Nat.zero_add]
theorem pay26_lift (W R : ℕ → ℕ → EReal) : k0_pay26 (F := Ideal) (M2 W) (M2 R) = M2 (fun r l => W r (128 + l) + R r l) := by
  unfold k0_pay26; funext j; idx_vars j; pointwise []
  rfl
theorem pay29_lift (W R : ℕ → ℕ → EReal) : k0_pay29 (F := Ideal) (M2 W) (M2 R) = M2 (fun r l => W r (256 + l) + R r l) := by
  unfold k0_pay29; funext j; idx_vars j; pointwise []
  rfl
theorem pay31_lift (W R : ℕ → ℕ → EReal) : k0_pay31 (F := Ideal) (M2 W) (M2 R) = M2 (fun r l => W r (384 + l) + R r l) := by
  unfold k0_pay31; funext j; idx_vars j; pointwise []
  rfl
theorem pay33_lift (W R : ℕ → ℕ → EReal) : k0_pay33 (F := Ideal) (M2 W) (M2 R) = M2 (fun r l => W r (512 + l) + R r l) := by
  unfold k0_pay33; funext j; idx_vars j; pointwise []
  rfl
theorem pay35_lift (W R : ℕ → ℕ → EReal) : k0_pay35 (F := Ideal) (M2 W) (M2 R) = M2 (fun r l => W r (640 + l) + R r l) := by
  unfold k0_pay35; funext j; idx_vars j; pointwise []
  rfl
theorem pay37_lift (W R : ℕ → ℕ → EReal) : k0_pay37 (F := Ideal) (M2 W) (M2 R) = M2 (fun r l => W r (768 + l) + R r l) := by
  unfold k0_pay37; funext j; idx_vars j; pointwise []
  rfl
theorem pay2_lift (W R : ℕ → ℕ → EReal) : k0_pay2 (F := Ideal) (M2 W) (M2 R) = M2 (fun r l => W r (896 + l) + R r l) := by
  unfold k0_pay2; funext j; idx_vars j; pointwise []
  rfl
theorem head0_lift (C A B Q : ℕ → ℕ → EReal) (c g : ℕ → ℕ → EReal) (w : ℕ → ℕ → EReal) (n : Vec Ideal S1024x1 .f32)
    (h : k0_pay18 (F := Ideal) (M2 c) n (M2 g) (M2 w) = M2 Q) :
    k0_pay23 (F := Ideal) (M2 A) (M2 B) (k0_pay21 (F := Ideal) (M2 c) n (M2 g) (M2 w)) (k0_pay22 (F := Ideal) (M2 c) (M2 C) n (M2 g) (M2 w)) 112#32
      = M2 (fun r l => rot (fun z => Q r (0 + z)) (C r) (A r) (B r) l * scl) := by
  unfold k0_pay23 k0_pay22 k0_pay21
  rw [h]
  funext j; idx_vars j; pointwise []
  simp only [M2_ix]
  rfl
theorem head7_lift (C A B Q : ℕ → ℕ → EReal) :
    k0_pay1 (F := Ideal) (M2 B) (k0_pay39 (F := Ideal) (M2 C) (M2 A) (M2 Q)) (k0_pay40 (F := Ideal) (M2 Q))
      = M2 (fun r l => rot (fun z => Q r (896 + z)) (C r) (A r) (B r) l * scl) := by
  unfold k0_pay1 k0_pay39 k0_pay40 k0_pay38
  funext j; idx_vars j; pointwise []
  rfl

/-! ## The blocks that one point writes -/

theorem store_lift {m n p q : ℕ} (A : ℕ → ℕ → EReal) (o0 o1 : ℕ)
    (inb : ∀ a, (![o0, o1] : Fin 2 → ℕ) a + (⟨2, ![p, q]⟩ : Shape).size a ≤ (⟨2, ![m, n]⟩ : Shape).size a) (B : ℕ → ℕ → EReal)
    (h : ∀ x < p, ∀ l < q, B x l = A (o0 + x) (o1 + l)) (x : (⟨2, ![p, q]⟩ : Shape).Idx) :
    (M2 B : (⟨2, ![p, q]⟩ : Shape).Idx → EReal) x = (M2 A : (⟨2, ![m, n]⟩ : Shape).Idx → EReal) ((Rect.unit (s := ⟨2, ![m, n]⟩) ![o0, o1] (⟨2, ![p, q]⟩ : Shape).size inb).idx x) := by
  show B (x 0).val (x 1).val = A (o0 + 1 * (x 0).val) (o1 + 1 * (x 1).val)
  rw [one_mul, one_mul]
  exact h _ (x 0).isLt _ (x 1).isLt

variable (K : KX)

theorem col_ld (P : ℕ → BitVec 32) : View.ld (Val := Elt Ideal) (e' := .i32) (col P : S1024x1.Idx → BitVec 32) r0_4 = (col P : S1024x1.Idx → BitVec 32) := by
  funext y
  show P (0 + 1 * (y 0).val) = P (y 0).val
  rw [one_mul, zero_add]

theorem p41 : k0_pay41 (F := Ideal) (M2 K.x) (col K.P) (M2 K.win) (M2 K.wuq) (M2 K.wkv) (M2 K.pv) = M2 K.cq := by
  unfold k0_pay41
  rw [ld_f32, ld_bf16, pay9_lift]
  simp only [Nat.zero_add]
  rfl
theorem p42 : k0_pay42 (F := Ideal) (M2 K.x) (col K.P) (M2 K.win) (M2 K.wuq) (M2 K.wkv) (M2 K.pv) = M2 K.co := by
  unfold k0_pay42
  rw [col_ld, ld_f32, pay13_lift]
  simp only [Nat.zero_add]
  rfl
theorem p43 : k0_pay43 (F := Ideal) (M2 K.x) (col K.P) (M2 K.win) (M2 K.wuq) (M2 K.wkv) (M2 K.pv) = M2 K.sa := by
  unfold k0_pay43
  rw [col_ld, ld_f32, ld_f32, pay15_lift]
  simp only [Nat.zero_add]
  rfl
theorem p44 : k0_pay44 (F := Ideal) (M2 K.x) (col K.P) (M2 K.win) (M2 K.wuq) (M2 K.wkv) (M2 K.pv) = M2 K.sb := by
  unfold k0_pay44
  rw [col_ld, ld_f32, ld_f32, pay16_lift]
  simp only [Nat.zero_add]
  rfl
theorem p45 : k0_pay45 (F := Ideal) (M2 K.x) (col K.P) (M2 K.win) (M2 K.wuq) (M2 K.wkv) (M2 K.pv) = M2 (fun r _ => ∑ j ∈ Finset.range 256, K.cq r j * K.cq r j) := by
  unfold k0_pay45
  rw [ld_f32, ld_bf16, pay17_lift]
  simp only [Nat.zero_add]
  rfl
theorem qa_lift : k0_pay18 (F := Ideal) (M2 K.cq) (M2 (fun r _ => ∑ j ∈ Finset.range 256, K.cq r j * K.cq r j)) (M2 (fun x l => K.pv (0 + x) (0 + l)))
    (M2 (fun x l => K.wuq (0 + x) (0 + l))) = M2 K.qa := by
  rw [pay18_lift]
  simp only [Nat.zero_add]
  rfl
theorem p46 : k0_pay46 (F := Ideal) (M2 K.x) (col K.P) (M2 K.win) (M2 K.wuq) (M2 K.wkv) (M2 K.pv) = M2 K.qa := by
  unfold k0_pay46
  rw [p41, p45, ld_f32, ld_bf16, qa_lift]
theorem p47 : k0_pay47 (F := Ideal) (M2 K.x) (col K.P) (M2 K.win) (M2 K.wuq) (M2 K.wkv) (M2 K.pv) = M2 K.kva := by
  unfold k0_pay47
  rw [ld_f32, ld_bf16, ld_f32, ld_bf16, pay10_lift, pay19_lift]
  simp only [Nat.zero_add]
  rfl
theorem p48 : k0_pay48 (F := Ideal) (M2 K.x) (col K.P) (M2 K.win) (M2 K.wuq) (M2 K.wkv) (M2 K.pv) = M2 K.krr := by
  unfold k0_pay48
  rw [p42, p43, p44, ld_f32, ld_bf16, pay11_lift, pay20_lift]
  simp only [Nat.zero_add]
  rfl

theorem out6 : out0_6 (F := Ideal) (M2 K.x) (col K.P) (M2 K.win) (M2 K.wuq) (M2 K.wkv) (M2 K.pv) = M2 K.cq := by
  unfold out0_6
  rw [ld_f32, ld_bf16, pay9_lift]
  simp only [Nat.zero_add]
  refine canon_lift _ _ (cover0_6 _) (List.forall_mem_cons.2 ⟨fun x => ?_, fun p hp => absurd hp List.not_mem_nil⟩)
  exact store_lift (m := 1024) (n := 256) K.cq 0 0 (by decide) _ (fun x _ l _ => by rw [Nat.zero_add, Nat.zero_add]) x

theorem out7 : out0_7 (F := Ideal) (M2 K.x) (col K.P) (M2 K.win) (M2 K.wuq) (M2 K.wkv) (M2 K.pv) = M2 K.ckv := by
  unfold out0_7
  rw [ld_f32, ld_bf16, pay10_lift]
  simp only [Nat.zero_add]
  refine canon_lift _ _ (cover0_7 _) (List.forall_mem_cons.2 ⟨fun x => ?_, fun p hp => absurd hp List.not_mem_nil⟩)
  exact store_lift (m := 1024) (n := 128) K.ckv 0 0 (by decide) _ (fun x _ l _ => by rw [Nat.zero_add, Nat.zero_add]) x

theorem out8 : out0_8 (F := Ideal) (M2 K.x) (col K.P) (M2 K.win) (M2 K.wuq) (M2 K.wkv) (M2 K.pv) = M2 K.gate := by
  unfold out0_8
  rw [ld_f32, ld_bf16, pay7_lift, pay6_lift]
  simp only [Nat.zero_add]
  refine canon_lift _ _ (cover0_8 _) (List.forall_mem_cons.2 ⟨fun x => ?_, fun p hp => absurd hp List.not_mem_nil⟩)
  exact store_lift (m := 1024) (n := 2048) K.gate 0 0 (by decide) _ (fun x _ l _ => by rw [Nat.zero_add, Nat.zero_add]) x

theorem out11 : out0_11 (F := Ideal) (M2 K.x) (col K.P) (M2 K.win) (M2 K.wuq) (M2 K.wkv) (M2 K.pv) = M2 K.v := by
  unfold out0_11
  rw [p47, pay3_lift]
  refine canon_lift _ _ (cover0_11 _) (List.forall_mem_cons.2 ⟨fun x => ?_, fun p hp => absurd hp List.not_mem_nil⟩)
  exact store_lift (m := 1024) (n := 512) K.v 0 0 (by decide) _ (fun x _ l _ => by rw [Nat.zero_add, Nat.zero_add]) x

theorem q_off (h r l : ℕ) (hl : l < 128) : rot (fun z => K.qa r (128 * h + z)) (K.co r) (K.sa r) (K.sb r) l * scl = K.q (0 + r) (128 * h + l) := by
  unfold KX.q KX.qh
  rw [Nat.zero_add, show (128 * h + l) / 128 = h by omega, show (128 * h + l) % 128 = l by omega]
theorem k_off (h r l : ℕ) (hl : l < 128) : K.kva r (128 * h + l) + K.krr r l = K.k (0 + r) (128 * h + l) := by
  unfold KX.k
  rw [Nat.zero_add, show (128 * h + l) % 128 = l by omega]

theorem out9 : out0_9 (F := Ideal) (M2 K.x) (col K.P) (M2 K.win) (M2 K.wuq) (M2 K.wkv) (M2 K.pv) = M2 K.q := by
  unfold out0_9
  rw [p42, p43, p44, p46, p41, p45, ld_f32, ld_bf16, head7_lift, pay36_lift, pay34_lift, pay32_lift, pay30_lift, pay27_lift, pay28_lift, pay25_lift,
    head0_lift _ _ _ _ _ _ _ _ (qa_lift K)]
  refine canon_lift _ _ (cover0_9 _ _ _ _ _ _ _ _)
    (List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, fun p hp => absurd hp List.not_mem_nil⟩⟩⟩⟩⟩⟩⟩⟩)
  · exact store_lift (m := 1024) (n := 1024) K.q 0 896 (by decide) _ (fun x _ l hl => q_off K 7 x l hl) x
  · exact store_lift (m := 1024) (n := 1024) K.q 0 768 (by decide) _ (fun x _ l hl => q_off K 6 x l hl) x
  · exact store_lift (m := 1024) (n := 1024) K.q 0 640 (by decide) _ (fun x _ l hl => q_off K 5 x l hl) x
  · exact store_lift (m := 1024) (n := 1024) K.q 0 512 (by decide) _ (fun x _ l hl => q_off K 4 x l hl) x
  · exact store_lift (m := 1024) (n := 1024) K.q 0 384 (by decide) _ (fun x _ l hl => q_off K 3 x l hl) x
  · exact store_lift (m := 1024) (n := 1024) K.q 0 256 (by decide) _ (fun x _ l hl => q_off K 2 x l hl) x
  · exact store_lift (m := 1024) (n := 1024) K.q 0 128 (by decide) _ (fun x _ l hl => q_off K 1 x l hl) x
  · exact store_lift (m := 1024) (n := 1024) K.q 0 0 (by decide) _ (fun x _ l hl => q_off K 0 x l hl) x

theorem out10 : out0_10 (F := Ideal) (M2 K.x) (col K.P) (M2 K.win) (M2 K.wuq) (M2 K.wkv) (M2 K.pv) = M2 K.k := by
  unfold out0_10
  rw [p47, p48, pay2_lift, pay37_lift, pay35_lift, pay33_lift, pay31_lift, pay29_lift, pay26_lift, pay24_lift]
  refine canon_lift _ _ (cover0_10 _ _ _ _ _ _ _ _)
    (List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, fun p hp => absurd hp List.not_mem_nil⟩⟩⟩⟩⟩⟩⟩⟩)
  · exact store_lift (m := 1024) (n := 1024) K.k 0 896 (by decide) _ (fun x _ l hl => k_off K 7 x l hl) x
  · exact store_lift (m := 1024) (n := 1024) K.k 0 768 (by decide) _ (fun x _ l hl => k_off K 6 x l hl) x
  · exact store_lift (m := 1024) (n := 1024) K.k 0 640 (by decide) _ (fun x _ l hl => k_off K 5 x l hl) x
  · exact store_lift (m := 1024) (n := 1024) K.k 0 512 (by decide) _ (fun x _ l hl => k_off K 4 x l hl) x
  · exact store_lift (m := 1024) (n := 1024) K.k 0 384 (by decide) _ (fun x _ l hl => k_off K 3 x l hl) x
  · exact store_lift (m := 1024) (n := 1024) K.k 0 256 (by decide) _ (fun x _ l hl => k_off K 2 x l hl) x
  · exact store_lift (m := 1024) (n := 1024) K.k 0 128 (by decide) _ (fun x _ l hl => k_off K 1 x l hl) x
  · exact store_lift (m := 1024) (n := 1024) K.k 0 0 (by decide) _ (fun x _ l hl => k_off K 0 x l hl) x

theorem out13 : out0_13 (F := Ideal) (M2 K.x) (col K.P) (M2 K.win) (M2 K.wuq) (M2 K.wkv) (M2 K.pv) = M2 K.cs := by
  unfold out0_13
  rw [col_ld, ld_f32, pay14_lift, pay13_lift]
  simp only [Nat.zero_add, Nat.add_zero]
  refine canon_lift _ _ (cover0_13 _ _)
    (List.forall_mem_cons.2 ⟨fun x => ?_, List.forall_mem_cons.2 ⟨fun x => ?_, fun p hp => absurd hp List.not_mem_nil⟩⟩)
  · exact store_lift (m := 1024) (n := 256) K.cs 0 128 (by decide) _ (fun x _ l hl => by unfold KX.cs; rw [if_neg (by omega), Nat.zero_add, show 128 + l - 128 = l by omega]) x
  · exact store_lift (m := 1024) (n := 256) K.cs 0 0 (by decide) _ (fun x _ l hl => by unfold KX.cs; rw [Nat.zero_add, Nat.zero_add, if_pos hl]) x

theorem out12 : out0_12 (F := Ideal) (M2 K.x) (col K.P) (M2 K.win) (M2 K.wuq) (M2 K.wkv) (M2 K.pv) = M3 K.vt := by
  unfold out0_12
  rw [p47, pay5_lift, pay4_lift]
  refine canon_lift _ _ (cover0_12 _ _)
    (List.forall_mem_cons.2 ⟨fun x => ?_, List.forall_mem_cons.2 ⟨fun x => ?_, fun p hp => absurd hp List.not_mem_nil⟩⟩)
  · have h0 : ((x : S1x512x512.Idx) 0).val = 0 := by have := ((x : S1x512x512.Idx) 0).isLt; exact Nat.lt_one_iff.1 this
    show K.kva (512 + (x 2).val) (1024 + (x 1).val) = K.kva (512 * (1 + 1 * (x 0).val) + (0 + 1 * (x 2).val)) (1024 + (0 + 1 * (x 1).val))
    rw [h0, one_mul, one_mul, one_mul, Nat.zero_add, Nat.zero_add]
  · have h0 : ((x : S1x512x512.Idx) 0).val = 0 := by have := ((x : S1x512x512.Idx) 0).isLt; exact Nat.lt_one_iff.1 this
    show K.kva (x 2).val (1024 + (x 1).val) = K.kva (512 * (0 + 1 * (x 0).val) + (0 + 1 * (x 2).val)) (1024 + (0 + 1 * (x 1).val))
    rw [h0, one_mul, one_mul, one_mul, Nat.zero_add, Nat.zero_add, Nat.zero_add]

end Cert.Kernel3Ideal.Hand

end
-- ==== Proof.Grid3.lean ====
/-
  The forward projections' kernel over its grid on arrays of extended reals: the blocks each point reads and the eight arrays it
  leaves.
-/
module

public import proofs.«01_k».proof.Proof.Point3
public import Idealize.ShloMosaic.Lib.Pipeline.ValueKit

@[expose] public section

set_option maxRecDepth 16384

noncomputable section

namespace Cert.Kernel3Ideal.Hand

open Cert.Kernel3Ideal Cert.Kernel3Ideal.Gen Cert.Proj
open Idealize.ShloMosaic Idealize.ShloMosaic.TcCoe
open Idealize.ShloMosaic.Pipeline (Dat)
open scoped BigOperators

variable (m : (ℓ : Loc nD τ sig) → Buf (Elt Ideal) ℓ) (c : Dev nD) (K : KX)

/-- The call's operands hold the arrays `K`. -/
structure Holds : Prop where
  x : V m c main_arg0 = (M2 K.x : S8192x1024.Idx → EReal)
  pos : V m c main_v60 = (col K.P : S8192x1.Idx → BitVec 32)
  win : V m c main_v61 = (M2 K.win : S1024x2560.Idx → EReal)
  wuq : V m c main_v63 = (M2 K.wuq : S256x1024.Idx → EReal)
  wkv : V m c main_v64 = (M2 K.wkv : S128x1536.Idx → EReal)
  pv : V m c main_v59 = (M2 K.pv : S16x1024.Idx → EReal)

theorem idx_0 : ∀ t : Fin cfg0.N, win0_0.index t 0 = t.val ∧ win0_0.index t 1 = 0 := by decide +kernel
theorem idx_1 : ∀ t : Fin cfg0.N, win0_1.index t 0 = t.val ∧ win0_1.index t 1 = 0 := by decide +kernel
theorem idx_2 : ∀ t : Fin cfg0.N, win0_2.index t 0 = 0 ∧ win0_2.index t 1 = 0 := by decide +kernel
theorem idx_3 : ∀ t : Fin cfg0.N, win0_3.index t 0 = 0 ∧ win0_3.index t 1 = 0 := by decide +kernel
theorem idx_4 : ∀ t : Fin cfg0.N, win0_4.index t 0 = 0 ∧ win0_4.index t 1 = 0 := by decide +kernel
theorem idx_5 : ∀ t : Fin cfg0.N, win0_5.index t 0 = 0 ∧ win0_5.index t 1 = 0 := by decide +kernel
theorem idx_6 : ∀ t : Fin cfg0.N, win0_6.index t 0 = t.val ∧ win0_6.index t 1 = 0 := by decide +kernel
theorem idx_7 : ∀ t : Fin cfg0.N, win0_7.index t 0 = t.val ∧ win0_7.index t 1 = 0 := by decide +kernel
theorem idx_8 : ∀ t : Fin cfg0.N, win0_8.index t 0 = t.val ∧ win0_8.index t 1 = 0 := by decide +kernel
theorem idx_9 : ∀ t : Fin cfg0.N, win0_9.index t 0 = t.val ∧ win0_9.index t 1 = 0 := by decide +kernel
theorem idx_10 : ∀ t : Fin cfg0.N, win0_10.index t 0 = t.val ∧ win0_10.index t 1 = 0 := by decide +kernel
theorem idx_11 : ∀ t : Fin cfg0.N, win0_11.index t 0 = t.val ∧ win0_11.index t 1 = 0 := by decide +kernel
theorem idx_12 : ∀ t : Fin cfg0.N, win0_12.index t 0 = t.val ∧ win0_12.index t 1 = 0 ∧ win0_12.index t 2 = 0 := by decide +kernel
theorem idx_13 : ∀ t : Fin cfg0.N, win0_13.index t 0 = t.val ∧ win0_13.index t 1 = 0 := by decide +kernel

variable {m c K}

theorem M2_at {a b : ℕ} (f : ℕ → ℕ → EReal) (j : (⟨2, ![a, b]⟩ : Shape).Idx) : M2 f j = f (j 0).val (j 1).val := rfl

theorem blk_0 (H : Holds m c K) (t : Fin cfg0.N) : (iblk m c 0 t : S1024x1024.Idx → EReal) = M2 (K.blk t.val).x := by
  have hi := idx_0 t
  funext j
  unfold iblk
  rw [View.read_apply]
  show V m c main_arg0 _ = _
  rw [H.x]
  show K.x (win0_0.index t 0 * 1024 + 1 * (j 0).val) (win0_0.index t 1 * 1024 + 1 * (j 1).val) = K.x _ _
  rw [hi.1, hi.2]
  exact (congrArg₂ K.x (by omega) (by omega))
theorem blk_2 (H : Holds m c K) (t : Fin cfg0.N) : (iblk m c 2 t : S1024x2560.Idx → EReal) = M2 (K.blk t.val).win := by
  have hi := idx_2 t
  funext j
  unfold iblk
  rw [View.read_apply]
  show V m c main_v61 _ = _
  rw [H.win]
  show K.win (win0_2.index t 0 * 1024 + 1 * (j 0).val) (win0_2.index t 1 * 2560 + 1 * (j 1).val) = K.win _ _
  rw [hi.1, hi.2]
  exact (congrArg₂ K.win (by omega) (by omega))
theorem blk_3 (H : Holds m c K) (t : Fin cfg0.N) : (iblk m c 3 t : S256x1024.Idx → EReal) = M2 (K.blk t.val).wuq := by
  have hi := idx_3 t
  funext j
  unfold iblk
  rw [View.read_apply]
  show V m c main_v63 _ = _
  rw [H.wuq]
  show K.wuq (win0_3.index t 0 * 256 + 1 * (j 0).val) (win0_3.index t 1 * 1024 + 1 * (j 1).val) = K.wuq _ _
  rw [hi.1, hi.2]
  exact (congrArg₂ K.wuq (by omega) (by omega))
theorem blk_4 (H : Holds m c K) (t : Fin cfg0.N) : (iblk m c 4 t : S128x1536.Idx → EReal) = M2 (K.blk t.val).wkv := by
  have hi := idx_4 t
  funext j
  unfold iblk
  rw [View.read_apply]
  show V m c main_v64 _ = _
  rw [H.wkv]
  show K.wkv (win0_4.index t 0 * 128 + 1 * (j 0).val) (win0_4.index t 1 * 1536 + 1 * (j 1).val) = K.wkv _ _
  rw [hi.1, hi.2]
  exact (congrArg₂ K.wkv (by omega) (by omega))
theorem blk_5 (H : Holds m c K) (t : Fin cfg0.N) : (iblk m c 5 t : S16x1024.Idx → EReal) = M2 (K.blk t.val).pv := by
  have hi := idx_5 t
  funext j
  unfold iblk
  rw [View.read_apply]
  show V m c main_v59 _ = _
  rw [H.pv]
  show K.pv (win0_5.index t 0 * 16 + 1 * (j 0).val) (win0_5.index t 1 * 1024 + 1 * (j 1).val) = K.pv _ _
  rw [hi.1, hi.2]
  exact (congrArg₂ K.pv (by omega) (by omega))
theorem blk_1 (H : Holds m c K) (t : Fin cfg0.N) : (iblk m c 1 t : S1024x1.Idx → BitVec 32) = col (K.blk t.val).P := by
  have hi := idx_1 t
  funext j
  unfold iblk
  rw [View.read_apply]
  show V m c main_v60 _ = _
  rw [H.pos]
  show K.P (win0_1.index t 0 * 1024 + 1 * (j 0).val) = K.P _
  rw [hi.1]
  exact (congrArg K.P (by omega))

theorem emb_6 (t : Fin cfg0.N) (j : S1024x256.Idx) (i : S8192x256.Idx) (h : i = ((cfg0.win 6).blk t).view.emb j) :
    (i 0).val = win0_6.index t 0 * 1024 + 1 * (j 0).val ∧ (i 1).val = win0_6.index t 1 * 256 + 1 * (j 1).val := by
  subst h
  exact ⟨rfl, rfl⟩
theorem after_6 (H : Holds m c K) (t : Fin cfg0.N) : ((dats m 0 c).after 6 t : S1024x256.Idx → EReal) = M2 (fun r e => K.cq (1024 * t.val + r) e) := by
  refine (after0_6 m c t).trans ?_
  rw [blk_0 H, blk_1 H, blk_2 H, blk_3 H, blk_4 H, blk_5 H]
  exact out6 (K.blk t.val)
theorem final_6 (H : Holds m c K) : (dats m 0 c).arrAt 6 cfg0.N = (M2 K.cq : S8192x256.Idx → EReal) := by
  refine (dats m 0 c).arrAt_eq_of_covers 6 _ (by decide +kernel) fun t hf y => ?_
  blk_simp
  refine (congrFun (after_6 H t) y).trans ?_
  have he := emb_6 t y _ rfl
  have hi := idx_6 t
  rw [hi.1, hi.2] at he
  refine (M2_at _ (y : S1024x256.Idx)).trans (Eq.trans ?_ (M2_at K.cq (((cfg0.win 6).blk t).view.emb y : S8192x256.Idx)).symm)
  rw [he.1, he.2]
  rw [show t.val * 1024 + 1 * ((y : S1024x256.Idx) 0).val = 1024 * t.val + ((y : S1024x256.Idx) 0).val by omega,
    show 0 * 256 + 1 * ((y : S1024x256.Idx) 1).val = ((y : S1024x256.Idx) 1).val by omega]

theorem emb_7 (t : Fin cfg0.N) (j : S1024x128.Idx) (i : S8192x128.Idx) (h : i = ((cfg0.win 7).blk t).view.emb j) :
    (i 0).val = win0_7.index t 0 * 1024 + 1 * (j 0).val ∧ (i 1).val = win0_7.index t 1 * 128 + 1 * (j 1).val := by
  subst h
  exact ⟨rfl, rfl⟩
theorem after_7 (H : Holds m c K) (t : Fin cfg0.N) : ((dats m 0 c).after 7 t : S1024x128.Idx → EReal) = M2 (fun r e => K.ckv (1024 * t.val + r) e) := by
  refine (after0_7 m c t).trans ?_
  rw [blk_0 H, blk_1 H, blk_2 H, blk_3 H, blk_4 H, blk_5 H]
  exact out7 (K.blk t.val)
theorem final_7 (H : Holds m c K) : (dats m 0 c).arrAt 7 cfg0.N = (M2 K.ckv : S8192x128.Idx → EReal) := by
  refine (dats m 0 c).arrAt_eq_of_covers 7 _ (by decide +kernel) fun t hf y => ?_
  blk_simp
  refine (congrFun (after_7 H t) y).trans ?_
  have he := emb_7 t y _ rfl
  have hi := idx_7 t
  rw [hi.1, hi.2] at he
  refine (M2_at _ (y : S1024x128.Idx)).trans (Eq.trans ?_ (M2_at K.ckv (((cfg0.win 7).blk t).view.emb y : S8192x128.Idx)).symm)
  rw [he.1, he.2]
  rw [show t.val * 1024 + 1 * ((y : S1024x128.Idx) 0).val = 1024 * t.val + ((y : S1024x128.Idx) 0).val by omega,
    show 0 * 128 + 1 * ((y : S1024x128.Idx) 1).val = ((y : S1024x128.Idx) 1).val by omega]

theorem emb_8 (t : Fin cfg0.N) (j : S1024x2048.Idx) (i : S8192x2048.Idx) (h : i = ((cfg0.win 8).blk t).view.emb j) :
    (i 0).val = win0_8.index t 0 * 1024 + 1 * (j 0).val ∧ (i 1).val = win0_8.index t 1 * 2048 + 1 * (j 1).val := by
  subst h
  exact ⟨rfl, rfl⟩
theorem after_8 (H : Holds m c K) (t : Fin cfg0.N) : ((dats m 0 c).after 8 t : S1024x2048.Idx → EReal) = M2 (fun r e => K.gate (1024 * t.val + r) e) := by
  refine (after0_8 m c t).trans ?_
  rw [blk_0 H, blk_1 H, blk_2 H, blk_3 H, blk_4 H, blk_5 H]
  exact out8 (K.blk t.val)
theorem final_8 (H : Holds m c K) : (dats m 0 c).arrAt 8 cfg0.N = (M2 K.gate : S8192x2048.Idx → EReal) := by
  refine (dats m 0 c).arrAt_eq_of_covers 8 _ (by decide +kernel) fun t hf y => ?_
  blk_simp
  refine (congrFun (after_8 H t) y).trans ?_
  have he := emb_8 t y _ rfl
  have hi := idx_8 t
  rw [hi.1, hi.2] at he
  refine (M2_at _ (y : S1024x2048.Idx)).trans (Eq.trans ?_ (M2_at K.gate (((cfg0.win 8).blk t).view.emb y : S8192x2048.Idx)).symm)
  rw [he.1, he.2]
  rw [show t.val * 1024 + 1 * ((y : S1024x2048.Idx) 0).val = 1024 * t.val + ((y : S1024x2048.Idx) 0).val by omega,
    show 0 * 2048 + 1 * ((y : S1024x2048.Idx) 1).val = ((y : S1024x2048.Idx) 1).val by omega]

theorem emb_9 (t : Fin cfg0.N) (j : S1024x1024.Idx) (i : S8192x1024.Idx) (h : i = ((cfg0.win 9).blk t).view.emb j) :
    (i 0).val = win0_9.index t 0 * 1024 + 1 * (j 0).val ∧ (i 1).val = win0_9.index t 1 * 1024 + 1 * (j 1).val := by
  subst h
  exact ⟨rfl, rfl⟩
theorem after_9 (H : Holds m c K) (t : Fin cfg0.N) : ((dats m 0 c).after 9 t : S1024x1024.Idx → EReal) = M2 (fun r e => K.q (1024 * t.val + r) e) := by
  refine (after0_9 m c t).trans ?_
  rw [blk_0 H, blk_1 H, blk_2 H, blk_3 H, blk_4 H, blk_5 H]
  exact out9 (K.blk t.val)
theorem final_9 (H : Holds m c K) : (dats m 0 c).arrAt 9 cfg0.N = (M2 K.q : S8192x1024.Idx → EReal) := by
  refine (dats m 0 c).arrAt_eq_of_covers 9 _ (by decide +kernel) fun t hf y => ?_
  blk_simp
  refine (congrFun (after_9 H t) y).trans ?_
  have he := emb_9 t y _ rfl
  have hi := idx_9 t
  rw [hi.1, hi.2] at he
  refine (M2_at _ (y : S1024x1024.Idx)).trans (Eq.trans ?_ (M2_at K.q (((cfg0.win 9).blk t).view.emb y : S8192x1024.Idx)).symm)
  rw [he.1, he.2]
  rw [show t.val * 1024 + 1 * ((y : S1024x1024.Idx) 0).val = 1024 * t.val + ((y : S1024x1024.Idx) 0).val by omega,
    show 0 * 1024 + 1 * ((y : S1024x1024.Idx) 1).val = ((y : S1024x1024.Idx) 1).val by omega]

theorem emb_10 (t : Fin cfg0.N) (j : S1024x1024.Idx) (i : S8192x1024.Idx) (h : i = ((cfg0.win 10).blk t).view.emb j) :
    (i 0).val = win0_10.index t 0 * 1024 + 1 * (j 0).val ∧ (i 1).val = win0_10.index t 1 * 1024 + 1 * (j 1).val := by
  subst h
  exact ⟨rfl, rfl⟩
theorem after_10 (H : Holds m c K) (t : Fin cfg0.N) : ((dats m 0 c).after 10 t : S1024x1024.Idx → EReal) = M2 (fun r e => K.k (1024 * t.val + r) e) := by
  refine (after0_10 m c t).trans ?_
  rw [blk_0 H, blk_1 H, blk_2 H, blk_3 H, blk_4 H, blk_5 H]
  exact out10 (K.blk t.val)
theorem final_10 (H : Holds m c K) : (dats m 0 c).arrAt 10 cfg0.N = (M2 K.k : S8192x1024.Idx → EReal) := by
  refine (dats m 0 c).arrAt_eq_of_covers 10 _ (by decide +kernel) fun t hf y => ?_
  blk_simp
  refine (congrFun (after_10 H t) y).trans ?_
  have he := emb_10 t y _ rfl
  have hi := idx_10 t
  rw [hi.1, hi.2] at he
  refine (M2_at _ (y : S1024x1024.Idx)).trans (Eq.trans ?_ (M2_at K.k (((cfg0.win 10).blk t).view.emb y : S8192x1024.Idx)).symm)
  rw [he.1, he.2]
  rw [show t.val * 1024 + 1 * ((y : S1024x1024.Idx) 0).val = 1024 * t.val + ((y : S1024x1024.Idx) 0).val by omega,
    show 0 * 1024 + 1 * ((y : S1024x1024.Idx) 1).val = ((y : S1024x1024.Idx) 1).val by omega]

theorem emb_11 (t : Fin cfg0.N) (j : S1024x512.Idx) (i : S8192x512.Idx) (h : i = ((cfg0.win 11).blk t).view.emb j) :
    (i 0).val = win0_11.index t 0 * 1024 + 1 * (j 0).val ∧ (i 1).val = win0_11.index t 1 * 512 + 1 * (j 1).val := by
  subst h
  exact ⟨rfl, rfl⟩
theorem after_11 (H : Holds m c K) (t : Fin cfg0.N) : ((dats m 0 c).after 11 t : S1024x512.Idx → EReal) = M2 (fun r e => K.v (1024 * t.val + r) e) := by
  refine (after0_11 m c t).trans ?_
  rw [blk_0 H, blk_1 H, blk_2 H, blk_3 H, blk_4 H, blk_5 H]
  exact out11 (K.blk t.val)
theorem final_11 (H : Holds m c K) : (dats m 0 c).arrAt 11 cfg0.N = (M2 K.v : S8192x512.Idx → EReal) := by
  refine (dats m 0 c).arrAt_eq_of_covers 11 _ (by decide +kernel) fun t hf y => ?_
  blk_simp
  refine (congrFun (after_11 H t) y).trans ?_
  have he := emb_11 t y _ rfl
  have hi := idx_11 t
  rw [hi.1, hi.2] at he
  refine (M2_at _ (y : S1024x512.Idx)).trans (Eq.trans ?_ (M2_at K.v (((cfg0.win 11).blk t).view.emb y : S8192x512.Idx)).symm)
  rw [he.1, he.2]
  rw [show t.val * 1024 + 1 * ((y : S1024x512.Idx) 0).val = 1024 * t.val + ((y : S1024x512.Idx) 0).val by omega,
    show 0 * 512 + 1 * ((y : S1024x512.Idx) 1).val = ((y : S1024x512.Idx) 1).val by omega]

theorem emb_13 (t : Fin cfg0.N) (j : S1024x256.Idx) (i : S8192x256.Idx) (h : i = ((cfg0.win 13).blk t).view.emb j) :
    (i 0).val = win0_13.index t 0 * 1024 + 1 * (j 0).val ∧ (i 1).val = win0_13.index t 1 * 256 + 1 * (j 1).val := by
  subst h
  exact ⟨rfl, rfl⟩
theorem after_13 (H : Holds m c K) (t : Fin cfg0.N) : ((dats m 0 c).after 13 t : S1024x256.Idx → EReal) = M2 (fun r e => K.cs (1024 * t.val + r) e) := by
  refine (after0_13 m c t).trans ?_
  rw [blk_0 H, blk_1 H, blk_2 H, blk_3 H, blk_4 H, blk_5 H]
  exact out13 (K.blk t.val)
theorem final_13 (H : Holds m c K) : (dats m 0 c).arrAt 13 cfg0.N = (M2 K.cs : S8192x256.Idx → EReal) := by
  refine (dats m 0 c).arrAt_eq_of_covers 13 _ (by decide +kernel) fun t hf y => ?_
  blk_simp
  refine (congrFun (after_13 H t) y).trans ?_
  have he := emb_13 t y _ rfl
  have hi := idx_13 t
  rw [hi.1, hi.2] at he
  refine (M2_at _ (y : S1024x256.Idx)).trans (Eq.trans ?_ (M2_at K.cs (((cfg0.win 13).blk t).view.emb y : S8192x256.Idx)).symm)
  rw [he.1, he.2]
  rw [show t.val * 1024 + 1 * ((y : S1024x256.Idx) 0).val = 1024 * t.val + ((y : S1024x256.Idx) 0).val by omega,
    show 0 * 256 + 1 * ((y : S1024x256.Idx) 1).val = ((y : S1024x256.Idx) 1).val by omega]

theorem emb_12 (t : Fin cfg0.N) (j : S2x512x512.Idx) (i : S16x512x512.Idx) (h : i = ((cfg0.win 12).blk t).view.emb j) :
    (i 0).val = win0_12.index t 0 * 2 + 1 * (j 0).val ∧ (i 1).val = win0_12.index t 1 * 512 + 1 * (j 1).val ∧ (i 2).val = win0_12.index t 2 * 512 + 1 * (j 2).val := by
  subst h
  exact ⟨rfl, rfl, rfl⟩
theorem after_12 (H : Holds m c K) (t : Fin cfg0.N) : ((dats m 0 c).after 12 t : S2x512x512.Idx → EReal) = M3 (fun b e s => K.v (1024 * t.val + (512 * b + s)) e) := by
  refine (after0_12 m c t).trans ?_
  rw [blk_0 H, blk_1 H, blk_2 H, blk_3 H, blk_4 H, blk_5 H]
  exact out12 (K.blk t.val)
theorem final_12 (H : Holds m c K) : (dats m 0 c).arrAt 12 cfg0.N = (M3 K.vt : S16x512x512.Idx → EReal) := by
  refine (dats m 0 c).arrAt_eq_of_covers 12 _ (by decide +kernel) fun t hf y => ?_
  blk_simp
  refine (congrFun (after_12 H t) y).trans ?_
  have he := emb_12 t y _ rfl
  have hi := idx_12 t
  rw [hi.1, hi.2.1, hi.2.2] at he
  have e3 {a b c : ℕ} (f : ℕ → ℕ → ℕ → EReal) (j : (⟨3, ![a, b, c]⟩ : Shape).Idx) : M3 f j = f (j 0).val (j 1).val (j 2).val := rfl
  refine (e3 _ (y : S2x512x512.Idx)).trans (Eq.trans ?_ (e3 K.vt (((cfg0.win 12).blk t).view.emb y : S16x512x512.Idx)).symm)
  rw [he.1, he.2.1, he.2.2]
  show K.v _ _ = K.v _ _
  exact congrArg₂ K.v (by omega) (by omega)

end Cert.Kernel3Ideal.Hand

end
-- ==== Proof.Host5.lean ====
/-
  The lines before the forward projections' call, over the extended reals: the positions, the padded weights and the rows of
  parameters.
-/
module

public import proofs.«01_k».proof.Proof.Host3
public import proofs.«01_k».proof.Proof.Grid3

@[expose] public section

set_option maxRecDepth 16384

noncomputable section

namespace Cert.Kernel3Ideal.Hand

open Cert.Kernel3Ideal Cert.Kernel3Ideal.Gen Cert.Proj
open Cert.Attn (angle angle_word w_one w_neg_one w_zero)
open Cert.KernelIdeal.Hand (sitofp_zero and3_word toInt_ofNat)
open Cert.Kernel2Ideal.Hand (eq_word)
open Idealize.ShloMosaic Idealize.ShloMosaic.TcCoe
open scoped BigOperators
variable {m : (ℓ : Loc nD τ sig) → Buf (Elt Ideal) ℓ} {c : Dev nD} {I : In} {P : ℕ → BitVec 32}

/-- The call's arguments are the inputs `I` and the positions `P`. -/
structure Args (m : (ℓ : Loc nD τ sig) → Buf (Elt Ideal) ℓ) (c : Dev nD) (I : In) (P : ℕ → BitVec 32) : Prop where
  x : (m (c, Proc.tc.devRef main_arg0) : S8192x1024.Idx → EReal) = M2 I.x
  win : (m (c, Proc.tc.devRef main_arg1) : S1024x2464.Idx → EReal) = M2 I.win
  qg : (m (c, Proc.tc.devRef main_arg2) : S256.Idx → EReal) = M1 I.qg
  uq : (m (c, Proc.tc.devRef main_arg3) : S256x768.Idx → EReal) = M2 I.uq
  kg : (m (c, Proc.tc.devRef main_arg4) : S128.Idx → EReal) = M1 I.kg
  ukv : (m (c, Proc.tc.devRef main_arg5) : S128x1024.Idx → EReal) = M2 I.ukv
  p : (m (c, Proc.tc.devRef main_arg6) : S8192.Idx → BitVec 32) = fun j => P (j 0).val

theorem pos60 (H : Args m c I P) : (V m c main_v60 : S8192x1.Idx → BitVec 32) = col P := by
  funext j; idx_vars j
  rename' j0 => s, j1 => z
  unfold V
  after_reads_at
  rw [H.p]
  show P _ = P _
  exact congrArg P (by first | rfl | simp)

theorem win61 (H : Args m c I P) : (V m c main_v61 : S1024x2560.Idx → EReal) = M2 (krOf I).win := by
  funext j; idx_vars j
  rename' j0 => d, j1 => e
  unfold V
  after_reads_at
  after_reads_at
  rw [M2_at]
  show _ = (if e.val < 384 then I.win d.val e.val else if e.val < 448 then 0 else if e.val < 480 then I.win d.val (384 + (e.val - 448))
    else if e.val < 512 then 0 else I.win d.val (416 + (e.val - 512)) : EReal)
  rw [H.win]
  simp only [M2_ix]
  split
  · rfl
  split
  · rw [if_pos (by omega)]
  rw [if_neg (by omega)]
  split
  · next h1 => rw [if_pos (by omega), show e.val - 384 - 64 = e.val - 448 by omega]
  rw [if_neg (by omega)]
  split
  · rw [if_pos (by omega)]
  · next h1 => rw [if_neg (by omega), show e.val - 384 - 64 - 32 - 32 = e.val - 512 by omega]

theorem inv45 : (V m c main_v45 : S1024.Idx → EReal) = M1 (fun l => if l < 64 then 0 else if l < 80 then freq (l - 64) else if l < 96 then freq (l - 80) else 0) := by
  funext j; idx_vars j
  rename' j0 => l
  unfold V
  after_reads_at
  after_reads_at
  rw [M1_ix]
  unfold freq
  split
  · rfl
  split
  · next h1 => rw [if_pos (by omega)]
  rw [if_neg (by omega)]
  split
  · next h1 => rw [if_pos (by omega), show l.val - 64 - 16 = l.val - 80 by omega]
  rw [if_neg (by omega)]

set_option maxHeartbeats 1600000 in
theorem pv59 (H : Args m c I P) : (V m c main_v59 : S16x1024.Idx → EReal) = M2 (kxOf I P).pv := by
  have h45 := inv45 (m := m) (c := c)
  funext j; idx_vars j
  rename' j0 => a, j1 => l
  revert h45
  unfold V
  after_reads_simp
  simp -implicitDefEqProofs only [StableHlo.TRef.toBuf, StableHlo.TRef.ofBuf, cast_cast, cast_eq]
  clean_types
  intro h45
  simp only [h45]
  simp only [id]
  pointwise
  rw [and3_word _ _ 5 64 80 (by omega) (by omega) (by omega) (by omega) (by omega),
    and3_word _ _ 6 80 96 (by omega) (by omega) (by omega) (by omega) (by omega), eq_word _ 1 (by omega) (by omega),
    eq_word _ 0 (by omega) (by omega), eq_word _ 4 (by omega) (by omega), M2_at, H.kg, H.qg]
  simp only [M1_ix]
  show _ = (if a.val = 4 then if l.val < 64 then 0 else if l.val < 80 then freq (l.val - 64) else if l.val < 96 then freq (l.val - 80) else 0
    else if a.val = 1 then if l.val < 128 then I.kg l.val else 0 else if a.val = 0 then if l.val < 256 then I.qg l.val else 0
    else if a.val = 5 ∧ 64 ≤ l.val ∧ l.val < 80 then ((-1 : ℝ) : EReal) else if a.val = 6 ∧ 80 ≤ l.val ∧ l.val < 96 then 1 else 0 : EReal)
  split
  · rw [if_neg (show ¬ a.val = 4 by omega)]
    split
    · rfl
    · exact sitofp_zero
  split
  · rw [if_neg (show ¬ a.val = 4 by omega)]
    split
    · rfl
    · exact sitofp_zero
  split
  · rfl
  split
  · exact w_neg_one
  · split <;> rfl

theorem w7 (H : Args m c I P) : (V m c main_v7 : S256x8x128.Idx → EReal) = M3 (fun j h d => if d < 96 then I.uq j (h * 96 + d) else 0) := by
  funext j; idx_vars j
  rename' j0 => r, j1 => h, j2 => d
  unfold V
  after_reads_at
  rw [H.uq]
  simp only [M2_ix, M3_ix]
  split
  · rfl
  · exact sitofp_zero

theorem wuq63 (H : Args m c I P) : (V m c main_v63 : S256x1024.Idx → EReal) = M2 (krOf I).wuq := by
  have h7 := w7 H
  funext j; idx_vars j
  rename' j0 => r, j1 => e
  revert h7
  unfold V
  after_reads_simp
  simp -implicitDefEqProofs only [StableHlo.TRef.toBuf, StableHlo.TRef.ofBuf, cast_cast, cast_eq]
  clean_types
  intro h7
  simp only [h7]
  pointwise
  rw [M3_ix, M2_ix]
  show _ = (if e.val % 128 < 96 then I.uq r.val (96 * (e.val / 128) + e.val % 128) else 0 : EReal)
  simp only [show e.val / 128 * 96 = 96 * (e.val / 128) by omega]

theorem w8 (H : Args m c I P) : (V m c main_v8 : S128x8x128.Idx → EReal) = M3 (fun j h d => I.ukv j (h * 128 + d)) := by
  funext j; idx_vars j
  rename' j0 => r, j1 => h, j2 => d
  unfold V
  after_reads_at
  rw [H.ukv]
  rfl

theorem w10 (H : Args m c I P) : (V m c main_v10 : S128x8x128.Idx → EReal) = M3 (fun j h d => if d < 64 then I.ukv j (h * 128 + d) else 0) := by
  have h8 := w8 H
  funext j; idx_vars j
  rename' j0 => r, j1 => h, j2 => d
  revert h8
  unfold V
  after_reads_simp
  simp -implicitDefEqProofs only [StableHlo.TRef.toBuf, StableHlo.TRef.ofBuf, cast_cast, cast_eq]
  clean_types
  intro h8
  simp only [h8]
  pointwise
  simp only [M3_ix]
  split
  · rfl
  · exact sitofp_zero

theorem w12 (H : Args m c I P) : (V m c main_v12 : S128x8x64.Idx → EReal) = M3 (fun j h d => I.ukv j (h * 128 + (64 + d))) := by
  funext j; idx_vars j
  rename' j0 => r, j1 => h, j2 => d
  unfold V
  after_reads_at
  rw [H.ukv]
  rfl

theorem wkv64 (H : Args m c I P) : (V m c main_v64 : S128x1536.Idx → EReal) = M2 (krOf I).wkv := by
  have h10 := w10 H
  have h12 := w12 H
  funext j; idx_vars j
  rename' j0 => r, j1 => e
  unfold V
  after_reads_at
  rw [M2_ix]
  show _ = (if e.val < 1024 then if e.val % 128 < 64 then I.ukv r.val (128 * (e.val / 128) + e.val % 128) else 0
    else I.ukv r.val (128 * ((e.val - 1024) / 64) + (64 + (e.val - 1024) % 64)) : EReal)
  split
  · revert h10
    unfold V
    after_reads_simp
    try simp -implicitDefEqProofs only [StableHlo.TRef.toBuf, StableHlo.TRef.ofBuf, cast_cast, cast_eq]
    clean_types
    intro h10
    simp only [h10]
    pointwise
    simp only [M3_ix]
    simp only [show e.val / 128 * 128 = 128 * (e.val / 128) by omega]
  · revert h12
    unfold V
    after_reads_simp
    try simp -implicitDefEqProofs only [StableHlo.TRef.toBuf, StableHlo.TRef.ofBuf, cast_cast, cast_eq]
    clean_types
    intro h12
    simp only [h12]
    pointwise
    simp only [M3_ix]
    simp only [show (e.val - 1024) / 64 * 128 = 128 * ((e.val - 1024) / 64) by omega]

theorem holds (H : Args m c I P) : Holds m c (kxOf I P) where
  x := by
    rw [V_main_arg0]; exact H.x
  pos := pos60 H
  win := win61 H
  wuq := wuq63 H
  wkv := wkv64 H
  pv := pv59 H

end Cert.Kernel3Ideal.Hand

end
-- ==== Proof.Steps3.lean ====
/-
  The third reference's named steps: each is a term over the arguments and over earlier steps.
-/
module

public import proofs.«01_k».proof.Proof.Host
public import proofs.«01_k».proof.Proof.Gen.Reference3Ideal.Run

@[expose] public section

set_option maxRecDepth 16384

noncomputable section

namespace Cert.Reference3Ideal.Hand

open Cert.Reference3Ideal Cert.Reference3Ideal.Value
open Facts₀ Facts
open Idealize.ShloMosaic Idealize.ShloMosaic.TcCoe

variable (m : (ℓ : Loc nD τ sig) → Buf (Elt Ideal) ℓ) (c : Dev nD)

def k1 : FVec Ideal S8192x256 .f32 :=
  extractStridedSlice S8192x256 ![0, 0] (Host.dotGeneral (φ₁ := .f32) (φ₂ := .f32) dot_S8192x1024_S1024x2464_S8192x2464_1_0_0_1_n_n none (m ((c.tc : Thread nD τ).loc main_arg0) : FVec Ideal S8192x1024 .f32) (m ((c.tc : Thread nD τ).loc main_arg1) : FVec Ideal S1024x2464 .f32) : FVec Ideal S8192x2464 .f32) slices_S8192x2464_S8192x256_0_0

def k2 : FVec Ideal S8192x128 .f32 :=
  extractStridedSlice S8192x128 ![0, 256] (Host.dotGeneral (φ₁ := .f32) (φ₂ := .f32) dot_S8192x1024_S1024x2464_S8192x2464_1_0_0_1_n_n none (m ((c.tc : Thread nD τ).loc main_arg0) : FVec Ideal S8192x1024 .f32) (m ((c.tc : Thread nD τ).loc main_arg1) : FVec Ideal S1024x2464 .f32) : FVec Ideal S8192x2464 .f32) slices_S8192x2464_S8192x128_0_256

def k17 : FVec Ideal S8192x16 .f32 :=
  mulf (broadcastInDim S8192x16 ![0, 1] bcast_S8192x1_S8192x16_0_1 (broadcastInDim S8192x1 ![0] bcast_S8192_S8192x1_0 (sitofp .f32 (m ((c.tc : Thread nD τ).loc main_arg6) : (⟨S8192, .i32⟩ : BufTy).Contents (Elt Ideal)) : FVec Ideal S8192 .f32) : FVec Ideal S8192x1 .f32) : FVec Ideal S8192x16 .f32) (broadcastInDim S8192x16 ![0, 1] bcast_S1x16_S8192x16_0_1 (broadcastInDim S1x16 ![1] bcast_S16_S1x16_1 (Host.divf (broadcastInDim S16 ![] bcast_S_S16 (constant S_ .f32 0x3F800000#32 : FVec Ideal S_ .f32) : FVec Ideal S16 .f32) (Host.powf (broadcastInDim S16 ![] bcast_S_S16 (constant S_ .f32 0x461C4000#32 : FVec Ideal S_ .f32) : FVec Ideal S16 .f32) (Host.divf (sitofp .f32 (iotaInDim S16 32 0) : FVec Ideal S16 .f32) (broadcastInDim S16 ![] bcast_S_S16 (constant S_ .f32 0x41800000#32 : FVec Ideal S_ .f32) : FVec Ideal S16 .f32) : FVec Ideal S16 .f32) : FVec Ideal S16 .f32) : FVec Ideal S16 .f32) : FVec Ideal S1x16 .f32) : FVec Ideal S8192x16 .f32)

def k19 : FVec Ideal S8192x1x16 .f32 :=
  broadcastInDim S8192x1x16 ![0, 2] bcast_S8192x16_S8192x1x16_0_2 (Host.cos (k17 m c) : FVec Ideal S8192x16 .f32)

def k21 : FVec Ideal S8192x1x16 .f32 :=
  broadcastInDim S8192x1x16 ![0, 2] bcast_S8192x16_S8192x1x16_0_2 (Host.sin (k17 m c) : FVec Ideal S8192x16 .f32)

def k28 : FVec Ideal S8192x1 .f32 :=
  addf (Host.divf (broadcastInDim S8192x1 ![0] bcast_S8192_S8192x1_0 (Host.reduceAdd (mulf (k1 m c) (k1 m c) : FVec Ideal S8192x256 .f32) (constant S_ .f32 0x00000000#32 : FVec Ideal S_ .f32) reducesTo_S8192x256_S8192_d1 h_S_ : FVec Ideal S8192 .f32) : FVec Ideal S8192x1 .f32) (broadcastInDim S8192x1 ![] bcast_S_S8192x1 (constant S_ .f32 0x43800000#32 : FVec Ideal S_ .f32) : FVec Ideal S8192x1 .f32) : FVec Ideal S8192x1 .f32) (broadcastInDim S8192x1 ![] bcast_S_S8192x1 (constant S_ .f32 0x3727C5AC#32 : FVec Ideal S_ .f32) : FVec Ideal S8192x1 .f32)

def k29 : FVec Ideal S8192x1 .f32 :=
  Host.rsqrt (k28 m c)

def k34 : FVec Ideal S8192x256 .f32 :=
  mulf (k1 m c) (broadcastInDim S8192x256 ![0, 1] bcast_S8192x1_S8192x256_0_1 (k29 m c) : FVec Ideal S8192x256 .f32)

def k37 : FVec Ideal S8192x256 .f32 :=
  mulf (k34 m c) (broadcastInDim S8192x256 ![0, 1] bcast_S1x256_S8192x256_0_1 (broadcastInDim S1x256 ![1] bcast_S256_S1x256_1 (m ((c.tc : Thread nD τ).loc main_arg2) : FVec Ideal S256 .f32) : FVec Ideal S1x256 .f32) : FVec Ideal S8192x256 .f32)

def k46 : FVec Ideal S8192x1 .f32 :=
  addf (Host.divf (broadcastInDim S8192x1 ![0] bcast_S8192_S8192x1_0 (Host.reduceAdd (mulf (k2 m c) (k2 m c) : FVec Ideal S8192x128 .f32) (constant S_ .f32 0x00000000#32 : FVec Ideal S_ .f32) reducesTo_S8192x128_S8192_d1 h_S_ : FVec Ideal S8192 .f32) : FVec Ideal S8192x1 .f32) (broadcastInDim S8192x1 ![] bcast_S_S8192x1 (constant S_ .f32 0x43000000#32 : FVec Ideal S_ .f32) : FVec Ideal S8192x1 .f32) : FVec Ideal S8192x1 .f32) (broadcastInDim S8192x1 ![] bcast_S_S8192x1 (constant S_ .f32 0x3727C5AC#32 : FVec Ideal S_ .f32) : FVec Ideal S8192x1 .f32)

def k47 : FVec Ideal S8192x1 .f32 :=
  Host.rsqrt (k46 m c)

def k52 : FVec Ideal S8192x128 .f32 :=
  mulf (k2 m c) (broadcastInDim S8192x128 ![0, 1] bcast_S8192x1_S8192x128_0_1 (k47 m c) : FVec Ideal S8192x128 .f32)

def k55 : FVec Ideal S8192x128 .f32 :=
  mulf (k52 m c) (broadcastInDim S8192x128 ![0, 1] bcast_S1x128_S8192x128_0_1 (broadcastInDim S1x128 ![1] bcast_S128_S1x128_1 (m ((c.tc : Thread nD τ).loc main_arg4) : FVec Ideal S128 .f32) : FVec Ideal S1x128 .f32) : FVec Ideal S8192x128 .f32)

def kr3 : FVec Ideal S8192x32 .f32 :=
  extractStridedSlice S8192x32 ![0, 384] (Host.dotGeneral (φ₁ := .f32) (φ₂ := .f32) dot_S8192x1024_S1024x2464_S8192x2464_1_0_0_1_n_n none (m ((c.tc : Thread nD τ).loc main_arg0) : FVec Ideal S8192x1024 .f32) (m ((c.tc : Thread nD τ).loc main_arg1) : FVec Ideal S1024x2464 .f32) : FVec Ideal S8192x2464 .f32) slices_S8192x2464_S8192x32_0_384

def kg4 : FVec Ideal S8192x2048 .f32 :=
  extractStridedSlice S8192x2048 ![0, 416] (Host.dotGeneral (φ₁ := .f32) (φ₂ := .f32) dot_S8192x1024_S1024x2464_S8192x2464_1_0_0_1_n_n none (m ((c.tc : Thread nD τ).loc main_arg0) : FVec Ideal S8192x1024 .f32) (m ((c.tc : Thread nD τ).loc main_arg1) : FVec Ideal S1024x2464 .f32) : FVec Ideal S8192x2464 .f32) slices_S8192x2464_S8192x2048_0_416

def kq36 : FVec Ideal S8192x8x96 .f32 :=
  shapeCast S8192x8x96 (Host.dotGeneral (φ₁ := .f32) (φ₂ := .f32) dot_S8192x256_S256x768_S8192x768_1_0_0_1_n_n none (k37 m c) (m ((c.tc : Thread nD τ).loc main_arg3) : FVec Ideal S256x768 .f32) : FVec Ideal S8192x768 .f32) shapeCasts_S8192x768_S8192x8x96

def kq38 : FVec Ideal S8192x8x32 .f32 :=
  extractStridedSlice S8192x8x32 ![0, 0, 64] (kq36 m c) slices_S8192x8x96_S8192x8x32_0_0_64

def kq45 : FVec Ideal S8192x8x16 .f32 :=
  subf (mulf ((extractStridedSlice S8192x8x16 ![0, 0, 0] (kq38 m c) slices_S8192x8x32_S8192x8x16_0_0_0 : FVec Ideal S8192x8x16 .f32)) ((broadcastInDim S8192x8x16 ![0, 1, 2] bcast_S8192x1x16_S8192x8x16_0_1_2 (k19 m c) : FVec Ideal S8192x8x16 .f32)) : FVec Ideal S8192x8x16 .f32) (mulf ((extractStridedSlice S8192x8x16 ![0, 0, 16] (kq38 m c) slices_S8192x8x32_S8192x8x16_0_0_16 : FVec Ideal S8192x8x16 .f32)) ((broadcastInDim S8192x8x16 ![0, 1, 2] bcast_S8192x1x16_S8192x8x16_0_1_2 (k21 m c) : FVec Ideal S8192x8x16 .f32)) : FVec Ideal S8192x8x16 .f32)

def kq50 : FVec Ideal S8192x8x16 .f32 :=
  addf (mulf ((extractStridedSlice S8192x8x16 ![0, 0, 0] (kq38 m c) slices_S8192x8x32_S8192x8x16_0_0_0 : FVec Ideal S8192x8x16 .f32)) ((broadcastInDim S8192x8x16 ![0, 1, 2] bcast_S8192x1x16_S8192x8x16_0_1_2 (k21 m c) : FVec Ideal S8192x8x16 .f32)) : FVec Ideal S8192x8x16 .f32) (mulf ((extractStridedSlice S8192x8x16 ![0, 0, 16] (kq38 m c) slices_S8192x8x32_S8192x8x16_0_0_16 : FVec Ideal S8192x8x16 .f32)) ((broadcastInDim S8192x8x16 ![0, 1, 2] bcast_S8192x1x16_S8192x8x16_0_1_2 (k19 m c) : FVec Ideal S8192x8x16 .f32)) : FVec Ideal S8192x8x16 .f32)

def kq51 : FVec Ideal S8192x8x32 .f32 :=
  concatenate S8192x8x32 2 [⟨S8192x8x16, (kq45 m c)⟩, ⟨S8192x8x16, (kq50 m c)⟩] concatenates_S8192x8x16_S8192x8x16_S8192x8x32_d2

def kq54 : FVec Ideal S8192x8x96 .f32 :=
  mulf (concatenate S8192x8x96 2 [⟨S8192x8x64, (extractStridedSlice S8192x8x64 ![0, 0, 0] (kq36 m c) slices_S8192x8x96_S8192x8x64_0_0_0 : FVec Ideal S8192x8x64 .f32)⟩, ⟨S8192x8x32, (kq51 m c)⟩] concatenates_S8192x8x64_S8192x8x32_S8192x8x96_d2 : FVec Ideal S8192x8x96 .f32) (broadcastInDim S8192x8x96 ![] bcast_S_S8192x8x96 (constant S_ .f32 0x3E16C740#32 : FVec Ideal S_ .f32) : FVec Ideal S8192x8x96 .f32)

def kk69 : FVec Ideal S8192x8x128 .f32 :=
  shapeCast S8192x8x128 (Host.dotGeneral (φ₁ := .f32) (φ₂ := .f32) dot_S8192x128_S128x1024_S8192x1024_1_0_0_1_n_n none (k55 m c) (m ((c.tc : Thread nD τ).loc main_arg5) : FVec Ideal S128x1024 .f32) : FVec Ideal S8192x1024 .f32) shapeCasts_S8192x1024_S8192x8x128

def kk70 : FVec Ideal S8192x1x32 .f32 :=
  broadcastInDim S8192x1x32 ![0, 2] bcast_S8192x32_S8192x1x32_0_2 (kr3 m c)

def kk75 : FVec Ideal S8192x1x16 .f32 :=
  subf (mulf ((extractStridedSlice S8192x1x16 ![0, 0, 0] (kk70 m c) slices_S8192x1x32_S8192x1x16_0_0_0 : FVec Ideal S8192x1x16 .f32)) (k19 m c) : FVec Ideal S8192x1x16 .f32) (mulf ((extractStridedSlice S8192x1x16 ![0, 0, 16] (kk70 m c) slices_S8192x1x32_S8192x1x16_0_0_16 : FVec Ideal S8192x1x16 .f32)) (k21 m c) : FVec Ideal S8192x1x16 .f32)

def kk78 : FVec Ideal S8192x1x16 .f32 :=
  addf (mulf ((extractStridedSlice S8192x1x16 ![0, 0, 0] (kk70 m c) slices_S8192x1x32_S8192x1x16_0_0_0 : FVec Ideal S8192x1x16 .f32)) (k21 m c) : FVec Ideal S8192x1x16 .f32) (mulf ((extractStridedSlice S8192x1x16 ![0, 0, 16] (kk70 m c) slices_S8192x1x32_S8192x1x16_0_0_16 : FVec Ideal S8192x1x16 .f32)) (k19 m c) : FVec Ideal S8192x1x16 .f32)

def kk79 : FVec Ideal S8192x1x32 .f32 :=
  concatenate S8192x1x32 2 [⟨S8192x1x16, (kk75 m c)⟩, ⟨S8192x1x16, (kk78 m c)⟩] concatenates_S8192x1x16_S8192x1x16_S8192x1x32_d2

def kk82 : FVec Ideal S8192x8x96 .f32 :=
  concatenate S8192x8x96 2 [⟨S8192x8x64, (extractStridedSlice S8192x8x64 ![0, 0, 0] (kk69 m c) slices_S8192x8x128_S8192x8x64_0_0_0 : FVec Ideal S8192x8x64 .f32)⟩, ⟨S8192x8x32, (broadcastInDim S8192x8x32 ![0, 1, 2] bcast_S8192x1x32_S8192x8x32_0_1_2 (kk79 m c) : FVec Ideal S8192x8x32 .f32)⟩] concatenates_S8192x8x64_S8192x8x32_S8192x8x96_d2

def kv84 : FVec Ideal S8192x512 .f32 :=
  shapeCast S8192x512 (extractStridedSlice S8192x8x64 ![0, 0, 64] (kk69 m c) slices_S8192x8x128_S8192x8x64_0_0_64 : FVec Ideal S8192x8x64 .f32) shapeCasts_S8192x8x64_S8192x512

def kv94 : FVec Ideal S16x512x512 .f32 :=
  shapeCast S16x512x512 (kv84 m c) shapeCasts_S8192x512_S16x512x512

def kc93 : FVec Ideal S8192x256 .f32 :=
  concatenate S8192x256 1 [⟨S8192x64, (broadcastInDim S8192x64 ![] bcast_S_S8192x64 (constant S_ .f32 0x3F800000#32 : FVec Ideal S_ .f32) : FVec Ideal S8192x64 .f32)⟩, ⟨S8192x16, (shapeCast S8192x16 (k19 m c) shapeCasts_S8192x1x16_S8192x16 : FVec Ideal S8192x16 .f32)⟩, ⟨S8192x16, (shapeCast S8192x16 (k19 m c) shapeCasts_S8192x1x16_S8192x16 : FVec Ideal S8192x16 .f32)⟩, ⟨S8192x32, (extractStridedSlice S8192x32 ![0, 0] (broadcastInDim S8192x64 ![] bcast_S_S8192x64 (constant S_ .f32 0x3F800000#32 : FVec Ideal S_ .f32) : FVec Ideal S8192x64 .f32) slices_S8192x64_S8192x32_0_0 : FVec Ideal S8192x32 .f32)⟩, ⟨S8192x64, (broadcastInDim S8192x64 ![] bcast_S_S8192x64 (constant S_ .f32 0x00000000#32 : FVec Ideal S_ .f32) : FVec Ideal S8192x64 .f32)⟩, ⟨S8192x16, (shapeCast S8192x16 (k21 m c) shapeCasts_S8192x1x16_S8192x16 : FVec Ideal S8192x16 .f32)⟩, ⟨S8192x16, (shapeCast S8192x16 (k21 m c) shapeCasts_S8192x1x16_S8192x16 : FVec Ideal S8192x16 .f32)⟩, ⟨S8192x32, (extractStridedSlice S8192x32 ![0, 0] (broadcastInDim S8192x64 ![] bcast_S_S8192x64 (constant S_ .f32 0x00000000#32 : FVec Ideal S_ .f32) : FVec Ideal S8192x64 .f32) slices_S8192x64_S8192x32_0_0 : FVec Ideal S8192x32 .f32)⟩] concatenates_S8192x64_S8192x16_S8192x16_S8192x32_S8192x64_S8192x16_S8192x16_S8192x32_S8192x256_d1

def kq99 : FVec Ideal S8192x1024 .bf16 :=
  truncf .bf16 (shapeCast S8192x1024 (pad S8192x8x128 ![0, 0, 0] ![0, 0, 32] ![0, 0, 0] (kq54 m c) (sitofp .f32 (constantI S_ 32 0#32) : FVec Ideal S_ .f32) pads_S8192x8x96_S8192x8x128_000_000_0320 h_S_ : FVec Ideal S8192x8x128 .f32) shapeCasts_S8192x8x128_S8192x1024 : FVec Ideal S8192x1024 .f32) bitsLt_bf16_f32

def kk102 : FVec Ideal S8192x1024 .bf16 :=
  truncf .bf16 (shapeCast S8192x1024 (pad S8192x8x128 ![0, 0, 0] ![0, 0, 32] ![0, 0, 0] (kk82 m c) (sitofp .f32 (constantI S_ 32 0#32) : FVec Ideal S_ .f32) pads_S8192x8x96_S8192x8x128_000_000_0320 h_S_ : FVec Ideal S8192x8x128 .f32) shapeCasts_S8192x8x128_S8192x1024 : FVec Ideal S8192x1024 .f32) bitsLt_bf16_f32

def kg96 : FVec Ideal S8192x2048 .bf16 :=
  truncf .bf16 (kg4 m c) bitsLt_bf16_f32

def kv103 : FVec Ideal S8192x512 .bf16 :=
  truncf .bf16 (kv84 m c) bitsLt_bf16_f32

def kv104 : FVec Ideal S16x512x512 .bf16 :=
  truncf .bf16 (transpose S16x512x512 [0, 2, 1] (kv94 m c) transposes_S16x512x512_S16x512x512_0_2_1 : FVec Ideal S16x512x512 .f32) bitsLt_bf16_f32

theorem v99_eq : (res_main_v99 m c : S8192x1024.Idx → EReal) = kq99 m c := rfl
theorem v102_eq : (res_main_v102 m c : S8192x1024.Idx → EReal) = kk102 m c := rfl

end Cert.Reference3Ideal.Hand

end
-- ==== Proof.Ref3.lean ====
/-
  What the third reference computes, over the extended reals: its norms, the rotated heads and the eight results.
-/
module

public import proofs.«01_k».proof.Proof.Steps3
public import proofs.«01_k».proof.Proof.Model3

@[expose] public section

set_option maxRecDepth 16384

noncomputable section

namespace Cert.Reference3Ideal.Hand

open Cert.Reference3Ideal Cert.Reference3Ideal.Value Cert.Proj
open Cert.Attn (angle angle_word w_one w_neg_one w_zero)
open Cert.KernelIdeal.Hand (sitofp_zero)
open Idealize.ShloMosaic Idealize.ShloMosaic.TcCoe
open scoped BigOperators
variable {m : (ℓ : Loc nD τ sig) → Buf (Elt Ideal) ℓ} {c : Dev nD} {I : In}

/-- The reference's arguments are the inputs `I`. -/
structure Args (m : (ℓ : Loc nD τ sig) → Buf (Elt Ideal) ℓ) (c : Dev nD) (I : In) : Prop where
  x : (m ((c.tc : Thread nD τ).loc main_arg0) : FVec Ideal S8192x1024 .f32) = M2 I.x
  win : (m ((c.tc : Thread nD τ).loc main_arg1) : FVec Ideal S1024x2464 .f32) = M2 I.win
  qg : (m ((c.tc : Thread nD τ).loc main_arg2) : FVec Ideal S256 .f32) = M1 I.qg
  uq : (m ((c.tc : Thread nD τ).loc main_arg3) : FVec Ideal S256x768 .f32) = M2 I.uq
  kg : (m ((c.tc : Thread nD τ).loc main_arg4) : FVec Ideal S128 .f32) = M1 I.kg
  ukv : (m ((c.tc : Thread nD τ).loc main_arg5) : FVec Ideal S128x1024 .f32) = M2 I.ukv
  th : ∀ (s : Fin 8192) (i : ℕ), I.th s.val i = angle ((m ((c.tc : Thread nD τ).loc main_arg6) : S8192.Idx → BitVec 32) (ix1 s)).toInt i

theorem r1 (H : Args m c I) : k1 m c = M2 (cq I) := by
  funext j; idx_vars j
  rename' j0 => s, j1 => r
  unfold k1
  rw [H.x, H.win]
  clean_types
  pointwise
  simp only [M2_ix]
  rw [dot_range (fun d => I.x s.val d) (fun d => I.win d r.val)]
  rfl
theorem r2 (H : Args m c I) : k2 m c = M2 (ckv I) := by
  funext j; idx_vars j
  rename' j0 => s, j1 => r
  unfold k2
  rw [H.x, H.win]
  clean_types
  pointwise
  simp only [M2_ix]
  rw [dot_range (fun d => I.x s.val d) (fun d => I.win d (256 + r.val))]
  rfl
theorem r17 (H : Args m c I) : k17 m c = M2 (fun s i => ((I.th s i : ℝ) : EReal)) := by
  funext j; idx_vars j
  rename' j0 => s, j1 => i
  unfold k17
  clean_types
  pointwise
  rw [angle_word _ _ i.isLt, ← H.th]
  rfl
theorem r19 (H : Args m c I) : k19 m c = M3 (fun s _ i => ((Real.cos (I.th s i) : ℝ) : EReal)) := by
  funext j; idx_vars j
  unfold k19
  rw [r17 H]
  clean_types
  pointwise
  rfl
theorem r21 (H : Args m c I) : k21 m c = M3 (fun s _ i => ((Real.sin (I.th s i) : ℝ) : EReal)) := by
  funext j; idx_vars j
  unfold k21
  rw [r17 H]
  clean_types
  pointwise
  rfl

theorem r28 (H : Args m c I) : k28 m c = M2 (fun s _ => ms 256 (cq I s)) := by
  funext j; idx_vars j
  rename' j0 => s, j1 => z
  unfold k28
  rw [r1 H]
  clean_types
  pointwise
  simp only [M2_ix]
  rw [dot_range (cq I s.val) (cq I s.val), w_q, w_eps]
  rfl
theorem r46 (H : Args m c I) : k46 m c = M2 (fun s _ => ms 128 (ckv I s)) := by
  funext j; idx_vars j
  rename' j0 => s, j1 => z
  unfold k46
  rw [r2 H]
  clean_types
  pointwise
  simp only [M2_ix]
  rw [dot_range (ckv I s.val) (ckv I s.val), w_kv, w_eps]
  rfl
theorem r29 (H : Args m c I) : k29 m c = M2 (fun s _ => rs 256 (cq I s)) := by
  funext j; idx_vars j
  rename' j0 => s, j1 => z
  unfold k29
  rw [r28 H]
  pointwise
  simp only [M2_ix]
  rfl
theorem r47 (H : Args m c I) : k47 m c = M2 (fun s _ => rs 128 (ckv I s)) := by
  funext j; idx_vars j
  rename' j0 => s, j1 => z
  unfold k47
  rw [r46 H]
  pointwise
  simp only [M2_ix]
  rfl
theorem r34 (H : Args m c I) : k34 m c = M2 (fun s => xh 256 (cq I s)) := by
  funext j; idx_vars j
  unfold k34
  rw [r1 H, r29 H]
  clean_types
  pointwise
  simp only [M2_ix]
  rfl
theorem r52 (H : Args m c I) : k52 m c = M2 (fun s => xh 128 (ckv I s)) := by
  funext j; idx_vars j
  unfold k52
  rw [r2 H, r47 H]
  clean_types
  pointwise
  simp only [M2_ix]
  rfl
theorem r37 (H : Args m c I) : k37 m c = M2 (fun s r => xh 256 (cq I s) r * I.qg r) := by
  funext j; idx_vars j
  unfold k37
  rw [r34 H, H.qg]
  clean_types
  pointwise
  simp only [M2_ix, M1_ix]
theorem r55 (H : Args m c I) : k55 m c = M2 (fun s r => xh 128 (ckv I s) r * I.kg r) := by
  funext j; idx_vars j
  unfold k55
  rw [r52 H, H.kg]
  clean_types
  pointwise
  simp only [M2_ix, M1_ix]

/-! ## The projections -/

theorem r3 (H : Args m c I) : kr3 m c = M2 (krw I) := by
  funext j; idx_vars j
  rename' j0 => s, j1 => r
  unfold kr3
  rw [H.x, H.win]
  clean_types
  pointwise
  simp only [M2_ix]
  rw [dot_range (fun d => I.x s.val d) (fun d => I.win d (384 + r.val))]
  rfl
theorem r4 (H : Args m c I) : kg4 m c = M2 (gates I) := by
  funext j; idx_vars j
  rename' j0 => s, j1 => r
  unfold kg4
  rw [H.x, H.win]
  clean_types
  pointwise
  simp only [M2_ix]
  rw [dot_range (fun d => I.x s.val d) (fun d => I.win d (416 + r.val))]
  rfl
theorem r36 (H : Args m c I) : kq36 m c = M3 (fun s h d => qu I s (h * 96 + d)) := by
  funext j; idx_vars j
  rename' j0 => s, j1 => h, j2 => d
  unfold kq36
  rw [r37 H, H.uq]
  clean_types
  pointwise
  simp only [M2_ix, M3_ix]
  rw [dot_range (fun r => xh 256 (cq I s.val) r * I.qg r) (fun r => I.uq r (h.val * 96 + d.val))]
  rfl
theorem r69 (H : Args m c I) : kk69 m c = M3 (fun s h d => kvu I s (h * 128 + d)) := by
  funext j; idx_vars j
  rename' j0 => s, j1 => h, j2 => d
  unfold kk69
  rw [r55 H, H.ukv]
  clean_types
  pointwise
  simp only [M2_ix, M3_ix]
  rw [dot_range (fun r => xh 128 (ckv I s.val) r * I.kg r) (fun r => I.ukv r (h.val * 128 + d.val))]
  rfl

/-! ## The rotated heads -/

theorem r38 (H : Args m c I) : kq38 m c = M3 (fun s h d => qu I s (h * 96 + (64 + d))) := by
  funext j; idx_vars j
  unfold kq38
  rw [r36 H]
  clean_types
  pointwise
  simp only [M3_ix]
theorem r45 (H : Args m c I) : kq45 m c = M3 (fun s h d => qu I s (h * 96 + (64 + d)) * cosE I s d - qu I s (h * 96 + (64 + (16 + d))) * sinE I s d) := by
  funext j; idx_vars j
  unfold kq45
  rw [r38 H, r19 H, r21 H]
  clean_types
  pointwise
  simp only [M3_ix]
  rfl
theorem r50 (H : Args m c I) : kq50 m c = M3 (fun s h d => qu I s (h * 96 + (64 + d)) * sinE I s d + qu I s (h * 96 + (64 + (16 + d))) * cosE I s d) := by
  funext j; idx_vars j
  unfold kq50
  rw [r38 H, r19 H, r21 H]
  clean_types
  pointwise
  simp only [M3_ix]
  rfl
theorem r51 (H : Args m c I) : kq51 m c = M3 (fun s h d => rot32 I s (fun i => qu I s (h * 96 + (64 + i))) d) := by
  funext j; idx_vars j
  rename' j0 => s, j1 => h, j2 => d
  unfold kq51
  rw [r45 H, r50 H]
  clean_types
  pointwise
  simp only [M3_ix]
  unfold rot32
  split
  · rfl
  · rfl
theorem r54 (H : Args m c I) : kq54 m c = M3 (fun s h d => fq I s h d) := by
  funext j; idx_vars j
  rename' j0 => s, j1 => h, j2 => d
  unfold kq54
  rw [r36 H, r51 H]
  clean_types
  pointwise
  simp only [M3_ix]
  unfold fq
  split
  · rfl
  · rfl
theorem r99 (H : Args m c I) : kq99 m c = M2 (fqp I) := by
  funext j; idx_vars j
  rename' j0 => s, j1 => e
  unfold kq99
  rw [r54 H]
  clean_types
  pointwise
  simp only [M3_ix, M2_ix]
  unfold fqp
  split
  · next h1 => rw [if_pos h1.2]
  · next h1 => rw [if_neg (by omega), sitofp_zero, EReal.coe_zero]
theorem r70 (H : Args m c I) : kk70 m c = M3 (fun s _ d => krw I s d) := by
  funext j; idx_vars j
  unfold kk70
  rw [r3 H]
  clean_types
  pointwise
  simp only [M3_ix, M2_ix]
theorem r75 (H : Args m c I) : kk75 m c = M3 (fun s _ d => krw I s d * cosE I s d - krw I s (16 + d) * sinE I s d) := by
  funext j; idx_vars j
  unfold kk75
  rw [r70 H, r19 H, r21 H]
  clean_types
  pointwise
  simp only [M3_ix]
  rfl
theorem r78 (H : Args m c I) : kk78 m c = M3 (fun s _ d => krw I s d * sinE I s d + krw I s (16 + d) * cosE I s d) := by
  funext j; idx_vars j
  unfold kk78
  rw [r70 H, r19 H, r21 H]
  clean_types
  pointwise
  simp only [M3_ix]
  rfl
theorem r79 (H : Args m c I) : kk79 m c = M3 (fun s _ d => rot32 I s (krw I s) d) := by
  funext j; idx_vars j
  rename' j0 => s, j1 => h, j2 => d
  unfold kk79
  rw [r75 H, r78 H]
  clean_types
  pointwise
  simp only [M3_ix]
  unfold rot32
  split
  · rfl
  · rfl
theorem r82 (H : Args m c I) : kk82 m c = M3 (fun s h d => fk I s h d) := by
  funext j; idx_vars j
  rename' j0 => s, j1 => h, j2 => d
  unfold kk82
  rw [r69 H, r79 H]
  clean_types
  pointwise
  simp only [M3_ix]
  unfold fk
  split
  · rfl
  · rfl
theorem r102 (H : Args m c I) : kk102 m c = M2 (fkp I) := by
  funext j; idx_vars j
  rename' j0 => s, j1 => e
  unfold kk102
  rw [r82 H]
  clean_types
  pointwise
  simp only [M3_ix, M2_ix]
  unfold fkp
  split
  · next h1 => rw [if_pos h1.2]
  · next h1 => rw [if_neg (by omega), sitofp_zero, EReal.coe_zero]
theorem r84 (H : Args m c I) : kv84 m c = M2 (fv I) := by
  funext j; idx_vars j
  rename' j0 => s, j1 => e
  unfold kv84
  rw [r69 H]
  clean_types
  pointwise
  simp only [M3_ix, M2_ix]
  rfl
theorem r94 (H : Args m c I) : kv94 m c = M3 (fun b s e => fv I (b * 512 + s) e) := by
  funext j; idx_vars j
  unfold kv94
  rw [r84 H]
  clean_types
  pointwise
  simp only [M3_ix, M2_ix]
theorem r104 (H : Args m c I) : kv104 m c = M3 (fvt I) := by
  funext j; idx_vars j
  unfold kv104
  rw [r94 H]
  clean_types
  pointwise
  simp only [M3_ix]
  rfl
theorem r103 (H : Args m c I) : kv103 m c = M2 (fv I) := by
  unfold kv103
  rw [r84 H]
  rfl
theorem r96 (H : Args m c I) : kg96 m c = M2 (gates I) := by
  unfold kg96
  rw [r4 H]
  rfl
theorem r93 (H : Args m c I) : kc93 m c = M2 (krOf I).cs := by
  funext j; idx_vars j
  rename' j0 => s, j1 => l
  unfold kc93
  rw [r19 H, r21 H]
  clean_types
  pointwise
  simp only [M3_ix, M2_ix]
  show _ = (if l.val < 64 then 1 else if l.val < 80 then ((Real.cos (I.th s.val (l.val - 64)) : ℝ) : EReal) else if l.val < 96 then
    ((Real.cos (I.th s.val (l.val - 80)) : ℝ) : EReal) else if l.val < 128 then 1 else if l.val < 192 then 0 else if l.val < 208 then
    ((Real.sin (I.th s.val (l.val - 192)) : ℝ) : EReal) else if l.val < 224 then ((Real.sin (I.th s.val (l.val - 208)) : ℝ) : EReal) else 0 : EReal)
  split
  · first | rfl | exact w_one
  split
  · next h1 => rw [if_pos (by omega)]
  rw [if_neg (by omega)]
  split
  · next h1 => rw [if_pos (by omega), show l.val - 64 - 16 = l.val - 80 by omega]
  rw [if_neg (by omega)]
  split
  · next h1 => rw [if_pos (by omega)]
  rw [if_neg (by omega)]
  split
  · next h1 => rw [if_pos (by omega)]
  rw [if_neg (by omega)]
  split
  · next h1 => rw [if_pos (by omega), show l.val - 64 - 16 - 16 - 32 - 64 = l.val - 192 by omega]
  rw [if_neg (by omega)]
  split
  · next h1 => rw [if_pos (by omega), show l.val - 64 - 16 - 16 - 32 - 64 - 16 = l.val - 208 by omega]
  rw [if_neg (by omega)]

end Cert.Reference3Ideal.Hand

end
-- ==== Proof.Value3.lean ====
/-
  The third value claim: the ideal forward projections' kernel and its reference, run from memories that agree on their
  arguments, leave the same eight arrays.
-/
module

public import proofs.«01_k».proof.Proof.Inputs2
public import proofs.«01_k».proof.Proof.Frames3
public import proofs.«01_k».proof.Proof.Host5
public import proofs.«01_k».proof.Proof.Ref3

@[expose] public section

set_option maxRecDepth 100000

noncomputable section

namespace Cert.Proof

open Idealize.ShloMosaic Idealize.ShloMosaic.TcCoe Idealize.SL.Sem
open Cert.Proj
open Cert.Attn (angle)
open scoped BigOperators

/-- The positions that an array holds. -/
def posOf (p : (⟨1, ![8192]⟩ : Shape).Idx → BitVec 32) (s : ℕ) : BitVec 32 := if h : s < 8192 then p (ix1 ⟨s, h⟩) else 0

theorem posOf_eq (p : (⟨1, ![8192]⟩ : Shape).Idx → BitVec 32) : p = fun j => posOf p (j 0).val := by
  funext j
  have e : (ix1 (⟨(j 0).val, (j 0).isLt⟩ : Fin 8192)) = j := by
    funext i
    match i with
    | ⟨0, _⟩ => rfl
  unfold posOf
  rw [dif_pos (show (j 0).val < 8192 from (j 0).isLt), e]

/-- The inputs of the forward projections' seven arguments; the fields it does not read are zero. -/
def inOf3 (x : (⟨2, ![8192, 1024]⟩ : Shape).Idx → EReal) (win : (⟨2, ![1024, 2464]⟩ : Shape).Idx → EReal) (qg : (⟨1, ![256]⟩ : Shape).Idx → EReal)
    (uq : (⟨2, ![256, 768]⟩ : Shape).Idx → EReal) (kg : (⟨1, ![128]⟩ : Shape).Idx → EReal) (ukv : (⟨2, ![128, 1024]⟩ : Shape).Idx → EReal)
    (p : (⟨1, ![8192]⟩ : Shape).Idx → BitVec 32) : In where
  x := arr2 x
  win := arr2 win
  qg := arr1 qg
  uq := arr2 uq
  kg := arr1 kg
  ukv := arr2 ukv
  h _ _ := 0
  gt _ _ := 0
  q _ _ _ := 0
  k _ _ _ := 0
  v _ _ _ := 0
  th s i := angle (posOf p s).toInt i

section Kernel3

open Cert.Kernel3Ideal Cert.Kernel3Ideal.Gen Cert.Kernel3Ideal.Hand

variable (m : (ℓ : Loc nD τ sig) → Buf (Elt Ideal) ℓ)

/-- The positions that core `c` holds. -/
def pos3 (c : Dev nD) : ℕ → BitVec 32 := posOf (m (c, Proc.tc.devRef main_arg6))

/-- The inputs that the arguments on core `c` hold. -/
def inputs3 (c : Dev nD) : In :=
  inOf3 (m (c, Proc.tc.devRef main_arg0))
    (m (c, Proc.tc.devRef main_arg1))
    (m (c, Proc.tc.devRef main_arg2))
    (m (c, Proc.tc.devRef main_arg3))
    (m (c, Proc.tc.devRef main_arg4))
    (m (c, Proc.tc.devRef main_arg5))
    (m (c, Proc.tc.devRef main_arg6))

theorem inputs3_th (c : Dev nD) (s i : ℕ) : (inputs3 m c).th s i = angle (pos3 m c s).toInt i := rfl

theorem kernel_args3 (c : Dev nD) : Cert.Kernel3Ideal.Hand.Args m c (inputs3 m c) (pos3 m c) :=
  ⟨arr2_eq _, arr2_eq _, arr1_eq _, arr2_eq _, arr1_eq _, arr2_eq _, posOf_eq _⟩

theorem vt_eq (I : In) (P : ℕ → BitVec 32) : (M3 (kxOf I P).vt : S16x512x512.Idx → EReal) = M3 (fvt I) := by
  funext j
  show (kxOf I P).v (512 * (j 0).val + (j 2).val) (j 1).val = fv I ((j 0).val * 512 + (j 2).val) (j 1).val
  rw [kx_v, Nat.mul_comm 512]

set_option maxHeartbeats 3200000 in
/-- The kernel's run: its eight results are the reference's arrays of the inputs. -/
theorem kernel_results3 {I : Dev nD → In} {P : Dev nD → ℕ → BitVec 32} (H : ∀ c, Cert.Kernel3Ideal.Hand.Args m c (I c) (P c))
    (hP : ∀ c s i, (I c).th s i = angle (P c s).toInt i) (ρ : Dev nD → PrngReg) :
    θ_run (defs (F := Ideal)) (onTc (τ := τ) (main (F := Ideal))) ⟨m, fun _ => 0, ρ⟩ (fun r => ∀ c : Dev nD,
      (r.2.mem ((c.tc : Thread nD τ).loc main_v65_0) : S8192x256.Idx → EReal) = M2 (cq (I c))
      ∧ (r.2.mem ((c.tc : Thread nD τ).loc main_v65_1) : S8192x128.Idx → EReal) = M2 (ckv (I c))
      ∧ (r.2.mem ((c.tc : Thread nD τ).loc main_v65_2) : S8192x2048.Idx → EReal) = M2 (gates (I c))
      ∧ (r.2.mem ((c.tc : Thread nD τ).loc main_v65_3) : S8192x1024.Idx → EReal) = M2 (fqp (I c))
      ∧ (r.2.mem ((c.tc : Thread nD τ).loc main_v65_4) : S8192x1024.Idx → EReal) = M2 (fkp (I c))
      ∧ (r.2.mem ((c.tc : Thread nD τ).loc main_v65_5) : S8192x512.Idx → EReal) = M2 (fv (I c))
      ∧ (r.2.mem ((c.tc : Thread nD τ).loc main_v65_6) : S16x512x512.Idx → EReal) = M3 (fvt (I c))
      ∧ (r.2.mem ((c.tc : Thread nD τ).loc main_v65_7) : S8192x256.Idx → EReal) = M2 (krOf (I c)).cs
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run _ _ _).mono (fun r h c => ⟨
      (h.out_eq c 6).trans ((final_6 (holds (H c))).trans (M2_congr fun s _ d hd => kx_cq (I c) (P c) s d hd)),
      (h.out_eq c 7).trans ((final_7 (holds (H c))).trans (M2_congr fun s _ d hd => kx_ckv (I c) (P c) s d hd)),
      (h.out_eq c 8).trans ((final_8 (holds (H c))).trans (M2_congr fun s _ d _ => kx_gate (I c) (P c) s d)),
      (h.out_eq c 9).trans ((final_9 (holds (H c))).trans (M2_congr fun s _ d _ => kx_q (I c) (P c) (hP c) s d)),
      (h.out_eq c 10).trans ((final_10 (holds (H c))).trans (M2_congr fun s _ d hd => kx_k (I c) (P c) (hP c) s d hd)),
      (h.out_eq c 11).trans ((final_11 (holds (H c))).trans (M2_congr fun s _ d _ => kx_v (I c) (P c) s d)),
      (h.out_eq c 12).trans ((final_12 (holds (H c))).trans (vt_eq (I c) (P c))),
      (h.out_eq c 13).trans ((final_13 (holds (H c))).trans (M2_congr fun s _ d hd => kx_cs (I c) (P c) (hP c) s d hd)),
      ((h c).1 0).trans (((dats m 0 c).arrAt_in 0 rfl _).trans (V_main_arg0 m c)),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩)
    (run_main m ρ)

end Kernel3

section Reference3

open Cert.Reference3Ideal Cert.Reference3Ideal.Value

variable (m : (ℓ : Loc nD τ sig) → Buf (Elt Ideal) ℓ)

open Cert.Reference3Ideal.Hand in
/-- The reference's run, its results as arrays of the inputs. -/
theorem reference_results3 {I : Dev nD → In} (H : ∀ c, Cert.Reference3Ideal.Hand.Args m c (I c)) (ρ : Dev nD → PrngReg) :
    θ_run (defs (F := Ideal)) (onTc (τ := τ) (main (F := Ideal))) ⟨m, fun _ => 0, ρ⟩ (fun r => ∀ c : Dev nD,
      (r.2.mem ((c.tc : Thread nD τ).loc main_v1) : S8192x256.Idx → EReal) = M2 (cq (I c))
      ∧ (r.2.mem ((c.tc : Thread nD τ).loc main_v2) : S8192x128.Idx → EReal) = M2 (ckv (I c))
      ∧ (r.2.mem ((c.tc : Thread nD τ).loc main_v96) : S8192x2048.Idx → EReal) = M2 (gates (I c))
      ∧ (r.2.mem ((c.tc : Thread nD τ).loc main_v99) : S8192x1024.Idx → EReal) = M2 (fqp (I c))
      ∧ (r.2.mem ((c.tc : Thread nD τ).loc main_v102) : S8192x1024.Idx → EReal) = M2 (fkp (I c))
      ∧ (r.2.mem ((c.tc : Thread nD τ).loc main_v103) : S8192x512.Idx → EReal) = M2 (fv (I c))
      ∧ (r.2.mem ((c.tc : Thread nD τ).loc main_v104) : S16x512x512.Idx → EReal) = M3 (fvt (I c))
      ∧ (r.2.mem ((c.tc : Thread nD τ).loc main_v93) : S8192x256.Idx → EReal) = M2 (krOf (I c)).cs
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run _ _ _).mono (fun r h c => by
      obtain ⟨e0, e1, e2, e3, e4, e5, e6, e7, ea⟩ := h c
      exact ⟨(e0.trans (show _ = k1 m c from rfl)).trans (r1 (H c)), (e1.trans (show _ = k2 m c from rfl)).trans (r2 (H c)),
        (e2.trans (show _ = kg96 m c from rfl)).trans (r96 (H c)), (e3.trans (v99_eq m c)).trans (r99 (H c)),
        (e4.trans (v102_eq m c)).trans (r102 (H c)), (e5.trans (show _ = kv103 m c from rfl)).trans (r103 (H c)),
        (e6.trans (show _ = kv104 m c from rfl)).trans (r104 (H c)), (e7.trans (show _ = kc93 m c from rfl)).trans (r93 (H c)), ea⟩)
    (run (F := Ideal) m ρ)

end Reference3

/-- The kernel's eight results are the reference's. -/
theorem same_results3 : Cert.algebraic_Kernel3Ideal_Reference3Ideal := fun m g m' g' _ hagree => by
  have H := kernel_args3 m
  have H' : ∀ c, Cert.Reference3Ideal.Hand.Args m' c (inputs3 m c) := fun c => by
    obtain ⟨e0, e1, e2, e3, e4, e5, e6⟩ := hagree c
    exact ⟨e0.trans (H c).x, e1.trans (H c).win, e2.trans (H c).qg, e3.trans (H c).uq, e4.trans (H c).kg, e5.trans (H c).ukv,
      fun s i => (inputs3_th m c s.val i).trans (congrArg (fun w : BitVec 32 => angle w.toInt i)
        ((congrFun (e6.trans (H c).p) (ix1 s)).symm))⟩
  exact ⟨_, _, _, _, _, _, _, _, kernel_results3 m H (inputs3_th m) g, reference_results3 m' H' g'⟩

end Cert.Proof

end
-- ==== Proof.lean ====
/-
  The certificate, for three calls: the frames of the programs, the first ideal kernel as the printed one with its constants
  named, and each ideal kernel's results as its reference's.
-/
module

public import proofs.«01_k».proof.Proof.Gen.Kernel3
public import proofs.«01_k».proof.Proof.Gen.Kernel3Ideal.Frame
public import proofs.«01_k».proof.Proof.Gen.Kernel3Ideal.Skeleton
public import proofs.«01_k».proof.Proof.Gen.Reference3Ideal.Run
public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Frames
public import proofs.«01_k».proof.Proof.Value
public import proofs.«01_k».proof.Proof.Gen.Kernel2
public import proofs.«01_k».proof.Proof.Gen.Kernel2Ideal.Frame
public import proofs.«01_k».proof.Proof.Gen.Kernel2Ideal.Skeleton
public import proofs.«01_k».proof.Proof.Gen.Reference2Ideal
public import proofs.«01_k».proof.Proof.Gen.Reference2Ideal.Run
public import proofs.«01_k».proof.Proof.Frames2
public import proofs.«01_k».proof.Proof.Value2
public import proofs.«01_k».proof.Proof.Gen.Kernel3.Frame
public import proofs.«01_k».proof.Proof.Frames3
public import proofs.«01_k».proof.Proof.Value3

@[expose] public section

noncomputable section

namespace Cert.Proof

open Idealize.ShloMosaic Idealize.SL.Sem

/-- The reference's run, read at its arguments and its semaphores. -/
theorem frame_reference : Cert.quiescent_ReferenceIdeal := fun m ρ _ =>
  (θ_run Cert.ReferenceIdeal.defs _ _).mono
    (fun r h => ⟨fun c => (h c).2.2.2, Idealize.ShloMosaic.sem_eq_zero_of_no_sems (by decide) r.2⟩)
    (Cert.ReferenceIdeal.Value.run (F := Ideal) m ρ)

/-- The two names stand for the reals that they name. -/
theorem named : Cert.preserves_Kernel_KernelIdeal :=
  ⟨IdealRules.named_const.statement _ _ _ _ _ rfl, IdealRules.named_const.statement _ _ _ _ _ rfl⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, Cert.Pre_finite.facts,
  frame_kernel, frame_ideal, fun m ρ _ => frame_ideal m ρ trivial, frame_reference, fun m ρ _ => frame_reference m ρ trivial,
  frame_kernel2, frame_ideal2, frame_reference2, frame_kernel3, frame_ideal3, frame_reference3,
  named, same_results, trivial, same_results2, trivial, same_results3⟩

end Cert.Proof

end
